-- ==== Defs.lean ====
def Pre_KernelIdeal (m : (ℓ : Loc Cert.KernelIdeal.nD Cert.KernelIdeal.τ Cert.KernelIdeal.sig) → Buf (Elt Ideal) ℓ) : Prop :=
  True

def Pre_KernelIdeal_usable_KernelIdeal [hPre_usable_KernelIdeal : Cert.Pre_usable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_ReferenceIdeal [hPre_usable_ReferenceIdeal : Cert.Pre_usable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable_KernelIdeal [hKernelIdeal : Cert.KernelIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable_ReferenceIdeal [hReferenceIdeal : Cert.ReferenceIdeal.Facts] [hPre_usable_ReferenceIdeal : Cert.Pre_usable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal_pre_usable_KernelIdeal [hKernelIdeal : Cert.KernelIdeal.Facts] [hReferenceIdeal : Cert.ReferenceIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts) (hPre_usable_KernelIdeal : Cert.Pre_usable_KernelIdeal.Facts) (hPre_usable_ReferenceIdeal : Cert.Pre_usable_ReferenceIdeal.Facts),
    quiescent_KernelIdeal (hKernelIdeal := hKernelIdeal)
    ∧ quiescent_KernelIdeal_pre_usable_KernelIdeal (hKernelIdeal := hKernelIdeal) (hPre_usable_KernelIdeal := hPre_usable_KernelIdeal)
    ∧ quiescent_ReferenceIdeal (hReferenceIdeal := hReferenceIdeal)
    ∧ quiescent_ReferenceIdeal_pre_usable_ReferenceIdeal (hReferenceIdeal := hReferenceIdeal) (hPre_usable_ReferenceIdeal := hPre_usable_ReferenceIdeal)
    ∧ algebraic_KernelIdeal_ReferenceIdeal_pre_usable_KernelIdeal (hKernelIdeal := hKernelIdeal) (hReferenceIdeal := hReferenceIdeal) (hPre_usable_KernelIdeal := hPre_usable_KernelIdeal)
-- ==== Pre_usable_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S32x1 : Shape := ⟨2, ![32, 1]⟩
abbrev S_ : Shape := ⟨0, ![]⟩

class Facts : Prop where
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : IVec S32 32) (main_v12 : IVec S_ 1) (main_v13 : IVec S32x256 1) (main_v15 : IVec S32x256 1) (main_v17 : IVec S32x256 1) : IVec S_ 1 :=
  let main_v18 : IVec S32x256 1 := andi main_v15 main_v17
  let main_v19 : IVec S32x256 1 := ori main_v13 main_v18
  let main_c_4 : IVec S_ 1 := constantI S_ 1 1#1
  let main_v20 : IVec S_ 1 := (fun x v => Host.reduce IntOp.andi x v reducesTo_S32x256_S_d0_1 h_S_) main_v19 main_c_4
  let main_v21 : IVec S_ 1 := andi main_v12 main_v20
  let main_c_5 : IVec S_ 32 := constantI S_ 32 1#32
  let main_v22 : IVec S32 32 := broadcastInDim S32 ![] bcast_S_S32 main_c_5
  let main_v23 : IVec S32 1 := cmpi .sge main_arg4 main_v22
  let main_c_6 : IVec S_ 1 := constantI S_ 1 1#1
  let main_v24 : IVec S_ 1 := (fun x v => Host.reduce IntOp.andi x v reducesTo_S32_S_d0 h_S_) main_v23 main_c_6
  let main_v25 : IVec S_ 1 := andi main_v21 main_v24
  main_v25

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 :=
  let main_v0 : IVec S32x256 32 := iotaInDim S32x256 32 1
  let main_v1 : IVec S32x1 32 := broadcastInDim S32x1 ![0] bcast_S32_S32x1_0 main_arg4
  let main_v2 : IVec S32x256 32 := broadcastInDim S32x256 ![0, 1] bcast_S32x1_S32x256_0_1 main_v1
  let main_v3 : IVec S32x256 1 := cmpi .slt main_v0 main_v2
  let main_v4 : FVec F S32x1x16x128 .f32 := Host.absf main_arg0
  let main_cst : FVec F S_ .f32 := constant S_ .f32 0x7F800000#32
  let main_v5 : FVec F S32x1x16x128 .f32 := broadcastInDim S32x1x16x128 ![] bcast_S_S32x1x16x128 main_cst
  let main_v6 : IVec S32x1x16x128 1 := cmpf .olt main_v4 main_v5
  let main_c : IVec S_ 1 := constantI S_ 1 1#1
  let main_v7 : IVec S_ 1 := (fun x v => Host.reduce IntOp.andi x v reducesTo_S32x1x16x128_S_d0_1_2_3 h_S_) main_v6 main_c
  let main_v8 : FVec F S256x32x16x128 .f32 := Host.absf main_arg1
  let main_cst_0 : FVec F S_ .f32 := constant S_ .f32 0x7F800000#32
  let main_v9 : FVec F S256x32x16x128 .f32 := broadcastInDim S256x32x16x128 ![] bcast_S_S256x32x16x128 main_cst_0
  let main_v10 : IVec S256x32x16x128 1 := cmpf .olt main_v8 main_v9
  let main_c_1 : IVec S_ 1 := constantI S_ 1 1#1
  let main_v11 : IVec S_ 1 := (fun x v => Host.reduce IntOp.andi x v reducesTo_S256x32x16x128_S_d0_1_2_3 h_S_) main_v10 main_c_1
  let main_v12 : IVec S_ 1 := andi main_v7 main_v11
  let main_v13 : IVec S32x256 1 := noti main_v3
  let main_c_2 : IVec S_ 32 := constantI S_ 32 0#32
  let main_v14 : IVec S32x256 32 := broadcastInDim S32x256 ![] bcast_S_S32x256 main_c_2
  let main_v15 : IVec S32x256 1 := cmpi .sge main_arg3 main_v14
  let main_c_3 : IVec S_ 32 := constantI S_ 32 512#32
  let main_v16 : IVec S32x256 32 := broadcastInDim S32x256 ![] bcast_S_S32x256 main_c_3
  let main_v17 : IVec S32x256 1 := cmpi .slt main_arg3 main_v16
  fn_part1 (F := F) main_arg4 main_v12 main_v13 main_v15 main_v17
-- ==== Pre_usable_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S32x1 : Shape := ⟨2, ![32, 1]⟩
abbrev S_ : Shape := ⟨0, ![]⟩

class Facts : Prop where
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S512x32x16x128 : S_.BroadcastsInDim S512x32x16x128 (![] : Fin 0 → Fin S512x32x16x128.rank)
  reducesTo_S512x32x16x128_S_d0_1_2_3 : S512x32x16x128.ReducesTo [0, 1, 2, 3] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : IVec S32 32) (main_v12 : IVec S_ 1) (main_v13 : IVec S32x256 1) (main_v15 : IVec S32x256 1) (main_v17 : IVec S32x256 1) : IVec S_ 1 :=
  let main_v18 : IVec S32x256 1 := andi main_v15 main_v17
  let main_v19 : IVec S32x256 1 := ori main_v13 main_v18
  let main_c_4 : IVec S_ 1 := constantI S_ 1 1#1
  let main_v20 : IVec S_ 1 := (fun x v => Host.reduce IntOp.andi x v reducesTo_S32x256_S_d0_1 h_S_) main_v19 main_c_4
  let main_v21 : IVec S_ 1 := andi main_v12 main_v20
  let main_c_5 : IVec S_ 32 := constantI S_ 32 1#32
  let main_v22 : IVec S32 32 := broadcastInDim S32 ![] bcast_S_S32 main_c_5
  let main_v23 : IVec S32 1 := cmpi .sge main_arg4 main_v22
  let main_c_6 : IVec S_ 1 := constantI S_ 1 1#1
  let main_v24 : IVec S_ 1 := (fun x v => Host.reduce IntOp.andi x v reducesTo_S32_S_d0 h_S_) main_v23 main_c_6
  let main_v25 : IVec S_ 1 := andi main_v21 main_v24
  main_v25

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32 32) : IVec S_ 1 :=
  let main_v0 : IVec S32x256 32 := iotaInDim S32x256 32 1
  let main_v1 : IVec S32x1 32 := broadcastInDim S32x1 ![0] bcast_S32_S32x1_0 main_arg4
  let main_v2 : IVec S32x256 32 := broadcastInDim S32x256 ![0, 1] bcast_S32x1_S32x256_0_1 main_v1
  let main_v3 : IVec S32x256 1 := cmpi .slt main_v0 main_v2
  let main_v4 : FVec F S32x1x16x128 .f32 := Host.absf main_arg0
  let main_cst : FVec F S_ .f32 := constant S_ .f32 0x7F800000#32
  let main_v5 : FVec F S32x1x16x128 .f32 := broadcastInDim S32x1x16x128 ![] bcast_S_S32x1x16x128 main_cst
  let main_v6 : IVec S32x1x16x128 1 := cmpf .olt main_v4 main_v5
  let main_c : IVec S_ 1 := constantI S_ 1 1#1
  let main_v7 : IVec S_ 1 := (fun x v => Host.reduce IntOp.andi x v reducesTo_S32x1x16x128_S_d0_1_2_3 h_S_) main_v6 main_c
  let main_v8 : FVec F S512x32x16x128 .f32 := Host.absf main_arg1
  let main_cst_0 : FVec F S_ .f32 := constant S_ .f32 0x7F800000#32
  let main_v9 : FVec F S512x32x16x128 .f32 := broadcastInDim S512x32x16x128 ![] bcast_S_S512x32x16x128 main_cst_0
  let main_v10 : IVec S512x32x16x128 1 := cmpf .olt main_v8 main_v9
  let main_c_1 : IVec S_ 1 := constantI S_ 1 1#1
  let main_v11 : IVec S_ 1 := (fun x v => Host.reduce IntOp.andi x v reducesTo_S512x32x16x128_S_d0_1_2_3 h_S_) main_v10 main_c_1
  let main_v12 : IVec S_ 1 := andi main_v7 main_v11
  let main_v13 : IVec S32x256 1 := noti main_v3
  let main_c_2 : IVec S_ 32 := constantI S_ 32 0#32
  let main_v14 : IVec S32x256 32 := broadcastInDim S32x256 ![] bcast_S_S32x256 main_c_2
  let main_v15 : IVec S32x256 1 := cmpi .sge main_arg3 main_v14
  let main_c_3 : IVec S_ 32 := constantI S_ 32 512#32
  let main_v16 : IVec S32x256 32 := broadcastInDim S32x256 ![] bcast_S_S32x256 main_c_3
  let main_v17 : IVec S32x256 1 := cmpi .slt main_arg3 main_v16
  fn_part1 (F := F) main_arg4 main_v12 main_v13 main_v15 main_v17
-- ==== KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S32x1 : Shape := ⟨2, ![32, 1]⟩
abbrev S1x1x256 : Shape := ⟨3, ![1, 1, 256]⟩
abbrev S32x256x1 : Shape := ⟨3, ![32, 256, 1]⟩
abbrev S32x256x256 : Shape := ⟨3, ![32, 256, 256]⟩
abbrev S32x32 : Shape := ⟨2, ![32, 32]⟩
abbrev S1024 : Shape := ⟨1, ![1024]⟩
abbrev S1x1024 : Shape := ⟨2, ![1, 1024]⟩
abbrev S2x1024 : Shape := ⟨2, ![2, 1024]⟩
abbrev S1024x1024 : Shape := ⟨2, ![1024, 1024]⟩
abbrev S1024x1 : Shape := ⟨2, ![1024, 1]⟩
abbrev S1 : Shape := ⟨1, ![1]⟩
abbrev S32x16x128 : Shape := ⟨3, ![32, 16, 128]⟩
abbrev S32x16 : Shape := ⟨2, ![32, 16]⟩
abbrev S4x32x16x128 : Shape := ⟨4, ![4, 32, 16, 128]⟩
abbrev S4x32x16 : Shape := ⟨3, ![4, 32, 16]⟩
abbrev S4x8x32x16x128 : Shape := ⟨5, ![4, 8, 32, 16, 128]⟩
abbrev S4x8x2 : Shape := ⟨3, ![4, 8, 2]⟩
abbrev S4x2 : Shape := ⟨2, ![4, 2]⟩
abbrev S1x1 : Shape := ⟨2, ![1, 1]⟩
abbrev S1x1x1 : Shape := ⟨3, ![1, 1, 1]⟩
abbrev S1x1x32x16x128 : Shape := ⟨5, ![1, 1, 32, 16, 128]⟩
abbrev S1x32x16x128 : Shape := ⟨4, ![1, 32, 16, 128]⟩
abbrev S1x16x128 : Shape := ⟨3, ![1, 16, 128]⟩
abbrev S1x8x32x16x128 : Shape := ⟨5, ![1, 8, 32, 16, 128]⟩
abbrev S8x32x16x128 : Shape := ⟨4, ![8, 32, 16, 128]⟩
abbrev S256x16x128 : Shape := ⟨3, ![256, 16, 128]⟩
abbrev S256x16 : Shape := ⟨2, ![256, 16]⟩
abbrev S1x16 : Shape := ⟨2, ![1, 16]⟩
abbrev S16 : Shape := ⟨1, ![16]⟩
abbrev S256x16x1 : Shape := ⟨3, ![256, 16, 1]⟩
abbrev S16x128 : Shape := ⟨2, ![16, 128]⟩
abbrev S1x32x16 : Shape := ⟨3, ![1, 32, 16]⟩
abbrev S32x16x1 : Shape := ⟨3, ![32, 16, 1]⟩

abbrev nBuf : Space → Nat
  | .hbm => 124
  | .vmem => 8
  | .smem => 4
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x256, .i32⟩
  | .hbm, ⟨14, _⟩ => ⟨S32x1, .i32⟩
  | .hbm, ⟨15, _⟩ => ⟨S32x256, .i32⟩
  | .hbm, ⟨16, _⟩ => ⟨S32x256, .i1⟩
  | .hbm, ⟨17, _⟩ => ⟨S32x256, .i32⟩
  | .hbm, ⟨18, _⟩ => ⟨S32x256, .i1⟩
  | .hbm, ⟨19, _⟩ => ⟨S32x256, .i1⟩
  | .hbm, ⟨20, _⟩ => ⟨S_, .i32⟩
  | .hbm, ⟨21, _⟩ => ⟨S_, .i32⟩
  | .hbm, ⟨22, _⟩ => ⟨S32x256, .i32⟩
  | .hbm, ⟨23, _⟩ => ⟨S32x256, .i1⟩
  | .hbm, ⟨24, _⟩ => ⟨S32x256, .i1⟩
  | .hbm, ⟨25, _⟩ => ⟨S32x256, .f32⟩
  | .hbm, ⟨26, _⟩ => ⟨S_, .f32⟩
  | .hbm, ⟨27, _⟩ => ⟨S_, .f32⟩
  | .hbm, ⟨28, _⟩ => ⟨S32x256, .f32⟩
  | .hbm, ⟨29, _⟩ => ⟨S_, .f32⟩
  | .hbm, ⟨30, _⟩ => ⟨S32x256, .f32⟩
  | .hbm, ⟨31, _⟩ => ⟨S32x256, .f32⟩
  | .hbm, ⟨32, _⟩ => ⟨S1x1x256, .f32⟩
  | .hbm, ⟨33, _⟩ => ⟨S32x256x1, .f32⟩
  | .hbm, ⟨34, _⟩ => ⟨S32x256x256, .f32⟩
  | .hbm, ⟨35, _⟩ => ⟨S32x256x256, .f32⟩
  | .hbm, ⟨36, _⟩ => ⟨S32x256x256, .i1⟩
  | .hbm, ⟨37, _⟩ => ⟨S32x256x1, .i1⟩
  | .hbm, ⟨38, _⟩ => ⟨S32x256x256, .i1⟩
  | .hbm, ⟨39, _⟩ => ⟨S32x256x256, .i1⟩
  | .hbm, ⟨40, _⟩ => ⟨S_, .f32⟩
  | .hbm, ⟨41, _⟩ => ⟨S_, .f32⟩
  | .hbm, ⟨42, _⟩ => ⟨S32x256x256, .f32⟩
  | .hbm, ⟨43, _⟩ => ⟨S32x256x256, .f32⟩
  | .hbm, ⟨44, _⟩ => ⟨S32x256x256, .f32⟩
  | .hbm, ⟨45, _⟩ => ⟨S32x256, .i32⟩
  | .hbm, ⟨46, _⟩ => ⟨S32x256, .i32⟩
  | .hbm, ⟨47, _⟩ => ⟨S32x256, .f32⟩
  | .hbm, ⟨48, _⟩ => ⟨S32x256, .f32⟩
  | .hbm, ⟨49, _⟩ => ⟨S32x256, .f32⟩
  | .hbm, ⟨50, _⟩ => ⟨S32x256, .i32⟩
  | .hbm, ⟨51, _⟩ => ⟨S32x256, .i32⟩
  | .hbm, ⟨52, _⟩ => ⟨S_, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S_, .i32⟩
  | .hbm, ⟨58, _⟩ => ⟨S32, .i32⟩
  | .hbm, ⟨59, _⟩ => ⟨S32, .i32⟩
  | .hbm, ⟨60, _⟩ => ⟨S_, .i32⟩
  | .hbm, ⟨61, _⟩ => ⟨S_, .i32⟩
  | .hbm, ⟨62, _⟩ => ⟨S32, .i32⟩
  | .hbm, ⟨63, _⟩ => ⟨S32, .i32⟩
  | .hbm, ⟨64, _⟩ => ⟨S32, .i32⟩
  | .hbm, ⟨65, _⟩ => ⟨S_, .i32⟩
  | .hbm, ⟨66, _⟩ => ⟨S32, .i32⟩
  | .hbm, ⟨67, _⟩ => ⟨S32, .i1⟩
  | .hbm, ⟨68, _⟩ => ⟨S32, .i32⟩
  | .hbm, ⟨69, _⟩ => ⟨S32, .i32⟩
  | .hbm, ⟨70, _⟩ => ⟨S_, .i32⟩
  | .hbm, ⟨71, _⟩ => ⟨S32, .i32⟩
  | .hbm, ⟨72, _⟩ => ⟨S32, .i1⟩
  | .hbm, ⟨73, _⟩ => ⟨S32, .i1⟩
  | .hbm, ⟨74, _⟩ => ⟨S_, .i32⟩
  | .hbm, ⟨75, _⟩ => ⟨S32, .i32⟩
  | .hbm, ⟨76, _⟩ => ⟨S32, .i32⟩
  | .hbm, ⟨77, _⟩ => ⟨S32, .i32⟩
  | .hbm, ⟨78, _⟩ => ⟨S32x32, .i32⟩
  | .hbm, ⟨79, _⟩ => ⟨S32x32, .i32⟩
  | .hbm, ⟨80, _⟩ => ⟨S32x1, .i32⟩
  | .hbm, ⟨81, _⟩ => ⟨S32x32, .i32⟩
  | .hbm, ⟨82, _⟩ => ⟨S32x32, .i1⟩
  | .hbm, ⟨83, _⟩ => ⟨S1024, .i1⟩
  | .hbm, ⟨84, _⟩ => ⟨S1024, .i32⟩
  | .hbm, ⟨85, _⟩ => ⟨S1024, .f32⟩
  | .hbm, ⟨86, _⟩ => ⟨S1024, .i32⟩
  | .hbm, ⟨87, _⟩ => ⟨S1024, .f32⟩
  | .hbm, ⟨88, _⟩ => ⟨S1x1024, .f32⟩
  | .hbm, ⟨89, _⟩ => ⟨S1x1024, .f32⟩
  | .hbm, ⟨90, _⟩ => ⟨S2x1024, .f32⟩
  | .hbm, ⟨91, _⟩ => ⟨S1024, .f32⟩
  | .hbm, ⟨92, _⟩ => ⟨S_, .f32⟩
  | .hbm, ⟨93, _⟩ => ⟨S_, .f32⟩
  | .hbm, ⟨94, _⟩ => ⟨S1024, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1024x1024, .f32⟩
  | .hbm, ⟨99, _⟩ => ⟨S1024x1, .f32⟩
  | .hbm, ⟨100, _⟩ => ⟨S1024x1024, .f32⟩
  | .hbm, ⟨101, _⟩ => ⟨S1024x1024, .i1⟩
  | .hbm, ⟨102, _⟩ => ⟨S1024x1, .i1⟩
  | .hbm, ⟨103, _⟩ => ⟨S1024x1024, .i1⟩
  | .hbm, ⟨104, _⟩ => ⟨S1024x1024, .i1⟩
  | .hbm, ⟨105, _⟩ => ⟨S_, .f32⟩
  | .hbm, ⟨106, _⟩ => ⟨S_, .f32⟩
  | .hbm, ⟨107, _⟩ => ⟨S1024x1024, .f32⟩
  | .hbm, ⟨108, _⟩ => ⟨S1024x1024, .f32⟩
  | .hbm, ⟨109, _⟩ => ⟨S1024x1024, .f32⟩
  | .hbm, ⟨110, _⟩ => ⟨S1x1024, .f32⟩
  | .hbm, ⟨111, _⟩ => ⟨S2x1024, .f32⟩
  | .hbm, ⟨112, _⟩ => ⟨S2x1024, .f32⟩
  | .hbm, ⟨113, _⟩ => ⟨S2x1024, .f32⟩
  | .hbm, ⟨114, _⟩ => ⟨S2x1024, .i32⟩
  | .hbm, ⟨115, _⟩ => ⟨S_, .i32⟩
  | .hbm, ⟨116, _⟩ => ⟨S_, .i32⟩
  | .hbm, ⟨117, _⟩ => ⟨S1, .i32⟩
  | .hbm, ⟨118, _⟩ => ⟨S32x16x128, .f32⟩
  | .hbm, ⟨119, _⟩ => ⟨S_, .f32⟩
  | .hbm, ⟨120, _⟩ => ⟨S32x16x128, .f32⟩
  | .hbm, ⟨121, _⟩ => ⟨S32x16x128, .f32⟩
  | .hbm, ⟨122, _⟩ => ⟨S32x16x128, .f32⟩
  | .hbm, ⟨123, _⟩ => ⟨S32x1x16x128, .f32⟩
  | .local _ .vmem, ⟨0, _⟩ => ⟨S32x16x128, .f32⟩
  | .local _ .vmem, ⟨1, _⟩ => ⟨S32x16x128, .f32⟩
  | .local _ .vmem, ⟨2, _⟩ => ⟨S32x16x128, .f32⟩
  | .local _ .vmem, ⟨3, _⟩ => ⟨S32x16, .f32⟩
  | .local _ .vmem, ⟨4, _⟩ => ⟨S4x32x16x128, .f32⟩
  | .local _ .vmem, ⟨5, _⟩ => ⟨S4x32x16, .f32⟩
  | .local _ .vmem, ⟨6, _⟩ => ⟨S4x8x32x16x128, .f32⟩
  | .local _ .vmem, ⟨7, _⟩ => ⟨S4x8x32x16x128, .f32⟩
  | .local _ .smem, ⟨0, _⟩ => ⟨S32x256, .i32⟩
  | .local _ .smem, ⟨1, _⟩ => ⟨S32, .i32⟩
  | .local _ .smem, ⟨2, _⟩ => ⟨S2x1024, .i32⟩
  | .local _ .smem, ⟨3, _⟩ => ⟨S1, .i32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 2 → Bool
  | ⟨0, _⟩ => false
  | ⟨1, _⟩ => true
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 2 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_call0_cst : Ref sig .tc := ⟨.hbm, 26, rfl⟩
abbrev main_call0_call0_v0 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_call3_call0_cst : Ref sig .tc := ⟨.hbm, 92, rfl⟩
abbrev main_call3_call0_v0 : Ref sig .tc := ⟨.hbm, 93, rfl⟩
abbrev main_v57 : Ref sig .tc := ⟨.hbm, 94, rfl⟩
abbrev main_cst_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_10 : Ref sig .tc := ⟨.hbm, 105, rfl⟩
abbrev main_cst_11 : Ref sig .tc := ⟨.hbm, 106, rfl⟩
abbrev main_call4_v0 : Ref sig .tc := ⟨.hbm, 107, rfl⟩
abbrev main_call4_v1 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_c_12 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_13 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev cc0_stg4_0 : Ref sig .tc := ⟨.vmem, 0, rfl⟩
abbrev cc0_stg5_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v17 : BitVec 32 := Scalar.muli v2 c8_i32_8
  let v18 : BitVec 32 := Scalar.addi c0_i32 v17
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_3 v5
  let c4_i32_9 : BitVec 32 := 4#32
  let v19 : BitVec 32 := Scalar.muli v12 c4_i32_9
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v21 : BitVec 32 := Scalar.muli v8 c1_i32_10
  let v22 : BitVec 32 := Scalar.addi v20 v21
  v22.toNat
def k0_dev2 (d0 : Dev nD) : Nat :=
  let c0_i32_13 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_12 : BitVec 32 := 8#32
  let v23 : BitVec 32 := Scalar.muli v13 c8_i32_12
  let v24 : BitVec 32 := Scalar.addi c0_i32_13 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v25 : BitVec 32 := Scalar.muli v5 c4_i32_14
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v27 : BitVec 32 := Scalar.muli v8 c1_i32_15
  let v28 : BitVec 32 := Scalar.addi v26 v27
  v28.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v29 : BitVec 32 := Scalar.muli v2 c8_i32_17
  let v30 : BitVec 32 := Scalar.addi c0_i32_18 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v31 : BitVec 32 := Scalar.muli v5 c4_i32_19
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.xori v8 c1_i32_5
  let c1_i32_20 : BitVec 32 := 1#32
  let v33 : BitVec 32 := Scalar.muli v14 c1_i32_20
  let v34 : BitVec 32 := Scalar.addi v32 v33
  v34.toNat
def k0_dev4 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_25 : BitVec 32 := 1#32
  let v39 : BitVec 32 := Scalar.muli v15 c1_i32_25
  let v40 : BitVec 32 := Scalar.addi v38 v39
  v40.toNat
def k0_off1 (d0 : Dev nD) : Fin 2 → Nat :=
  let c0_381 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c0_i32_378 : BitVec 32 := 0#32
  let v356 : BitVec 32 := Scalar.addi v11 c0_i32_378
  let v358 : Index := Scalar.indexCast v356
  ![0, v358.toNat]
def k0_off2 (d0 : Dev nD) : Fin 2 → Nat :=
  let c1_382 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c0_i32_378 : BitVec 32 := 0#32
  let v356 : BitVec 32 := Scalar.addi v11 c0_i32_378
  let v360 : Index := Scalar.indexCast v356
  ![1, v360.toNat]
def k0_off3 (v359 : BitVec 32) (v361 : BitVec 32) : Fin 2 → Nat :=
  let v364 : Index := Scalar.indexCast v359
  let c8_i32_383 : BitVec 32 := 8#32
  let v362 : BitVec 32 := Scalar.muli v361 c8_i32_383
  let c0_i32_384 : BitVec 32 := 0#32
  let v363 : BitVec 32 := Scalar.addi v362 c0_i32_384
  let v365 : Index := Scalar.indexCast v363
  ![v364.toNat, v365.toNat]
def k0_cond1 (d0 : Dev nD) (v9 : BitVec 32) : BitVec 1 :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let c0_i32_43 : BitVec 32 := 0#32
  let v70 : BitVec 1 := Scalar.cmpi .sgt v69 c0_i32_43
  let v71 : BitVec 32 := Scalar.extui v70
  let c0_i32_44 : BitVec 32 := 0#32
  let v72 : BitVec 1 := Scalar.cmpi .ne v71 c0_i32_44
  v72

def k0_off4 : Fin 3 → Nat :=
  let c0_i32_379 : BitVec 32 := 0#32
  let c4_i32_380 : BitVec 32 := 4#32
  let v357 : BitVec 32 := Scalar.remsi c0_i32_379 c4_i32_380
  let c0_i32_386 : BitVec 32 := 0#32
  let c0_i32_387 : BitVec 32 := 0#32
  ![v357.toNat, 0, 0]
def k0_off5 : Fin 5 → Nat :=
  let c0_i32_379 : BitVec 32 := 0#32
  let c4_i32_380 : BitVec 32 := 4#32
  let v357 : BitVec 32 := Scalar.remsi c0_i32_379 c4_i32_380
  let c0_i32_385 : BitVec 32 := 0#32
  let c0_i32_388 : BitVec 32 := 0#32
  let c0_i32_389 : BitVec 32 := 0#32
  let c0_i32_390 : BitVec 32 := 0#32
  ![v357.toNat, 0, 0, 0, 0]
def k0_off6 (v366 : BitVec 32) : Fin 4 → Nat :=
  let c0_i32_391 : BitVec 32 := 0#32
  let c0_i32_392 : BitVec 32 := 0#32
  let c0_i32_393 : BitVec 32 := 0#32
  ![v366.toNat, 0, 0, 0]

def k0_chk2 (d0 : Dev nD) (v9 : BitVec 32) (v366 : BitVec 32) : Prop :=
  (∀ (k0_h1 : k0_cond1 d0 v9 = 1#1), ∀ a, (k0_off6 v366) a + S1x32x16x128.size a ≤ S256x32x16x128.size a)
theorem k0_off6_inb : ∀ (d0 : Dev nD) (v9 : BitVec 32) (v366 : BitVec 32) (k0_hw2 : k0_chk2 d0 v9 v366), ∀ (k0_h1 : k0_cond1 d0 v9 = 1#1), ∀ a, (k0_off6 v366) a + S1x32x16x128.size a ≤ S256x32x16x128.size a := fun d0 v9 v366 k0_hw2 k0_h1 => k0_hw2 k0_h1

def k0_off7 : Fin 3 → Nat :=
  let c0_i32_379 : BitVec 32 := 0#32
  let c4_i32_380 : BitVec 32 := 4#32
  let v357 : BitVec 32 := Scalar.remsi c0_i32_379 c4_i32_380
  let c0_i32_395 : BitVec 32 := 0#32
  let c1_i32_396 : BitVec 32 := 1#32
  ![v357.toNat, 0, 1]
def k0_off8 : Fin 5 → Nat :=
  let c0_i32_379 : BitVec 32 := 0#32
  let c4_i32_380 : BitVec 32 := 4#32
  let v357 : BitVec 32 := Scalar.remsi c0_i32_379 c4_i32_380
  let c0_i32_394 : BitVec 32 := 0#32
  let c0_i32_397 : BitVec 32 := 0#32
  let c0_i32_398 : BitVec 32 := 0#32
  let c0_i32_399 : BitVec 32 := 0#32
  ![v357.toNat, 0, 0, 0, 0]
def k0_off9 (v359 : BitVec 32) (v361 : BitVec 32) : Fin 2 → Nat :=
  let v381 : Index := Scalar.indexCast v359
  let c8_i32_403 : BitVec 32 := 8#32
  let v379 : BitVec 32 := Scalar.muli v361 c8_i32_403
  let c1_i32_404 : BitVec 32 := 1#32
  let v380 : BitVec 32 := Scalar.addi v379 c1_i32_404
  let v382 : Index := Scalar.indexCast v380
  ![v381.toNat, v382.toNat]
def k0_off10 : Fin 3 → Nat :=
  let c0_i32_379 : BitVec 32 := 0#32
  let c4_i32_380 : BitVec 32 := 4#32
  let v357 : BitVec 32 := Scalar.remsi c0_i32_379 c4_i32_380
  let c1_i32_406 : BitVec 32 := 1#32
  let c0_i32_407 : BitVec 32 := 0#32
  ![v357.toNat, 1, 0]
def k0_off11 : Fin 5 → Nat :=
  let c0_i32_379 : BitVec 32 := 0#32
  let c4_i32_380 : BitVec 32 := 4#32
  let v357 : BitVec 32 := Scalar.remsi c0_i32_379 c4_i32_380
  let c1_i32_405 : BitVec 32 := 1#32
  let c0_i32_408 : BitVec 32 := 0#32
  let c0_i32_409 : BitVec 32 := 0#32
  let c0_i32_410 : BitVec 32 := 0#32
  ![v357.toNat, 1, 0, 0, 0]
def k0_off12 (v383 : BitVec 32) : Fin 4 → Nat :=
  let c0_i32_411 : BitVec 32 := 0#32
  let c0_i32_412 : BitVec 32 := 0#32
  let c0_i32_413 : BitVec 32 := 0#32
  ![v383.toNat, 0, 0, 0]

def k0_chk3 (d0 : Dev nD) (v9 : BitVec 32) (v383 : BitVec 32) : Prop :=
  (∀ (k0_h1 : k0_cond1 d0 v9 = 1#1), ∀ a, (k0_off12 v383) a + S1x32x16x128.size a ≤ S256x32x16x128.size a)
theorem k0_off12_inb : ∀ (d0 : Dev nD) (v9 : BitVec 32) (v383 : BitVec 32) (k0_hw3 : k0_chk3 d0 v9 v383), ∀ (k0_h1 : k0_cond1 d0 v9 = 1#1), ∀ a, (k0_off12 v383) a + S1x32x16x128.size a ≤ S256x32x16x128.size a := fun d0 v9 v383 k0_hw3 k0_h1 => k0_hw3 k0_h1

def k0_off13 : Fin 3 → Nat :=
  let c0_i32_379 : BitVec 32 := 0#32
  let c4_i32_380 : BitVec 32 := 4#32
  let v357 : BitVec 32 := Scalar.remsi c0_i32_379 c4_i32_380
  let c1_i32_415 : BitVec 32 := 1#32
  let c1_i32_416 : BitVec 32 := 1#32
  ![v357.toNat, 1, 1]
def k0_off14 : Fin 5 → Nat :=
  let c0_i32_379 : BitVec 32 := 0#32
  let c4_i32_380 : BitVec 32 := 4#32
  let v357 : BitVec 32 := Scalar.remsi c0_i32_379 c4_i32_380
  let c1_i32_414 : BitVec 32 := 1#32
  let c0_i32_417 : BitVec 32 := 0#32
  let c0_i32_418 : BitVec 32 := 0#32
  let c0_i32_419 : BitVec 32 := 0#32
  ![v357.toNat, 1, 0, 0, 0]
def k0_off15 (v359 : BitVec 32) (v361 : BitVec 32) : Fin 2 → Nat :=
  let v398 : Index := Scalar.indexCast v359
  let c8_i32_423 : BitVec 32 := 8#32
  let v396 : BitVec 32 := Scalar.muli v361 c8_i32_423
  let c2_i32_424 : BitVec 32 := 2#32
  let v397 : BitVec 32 := Scalar.addi v396 c2_i32_424
  let v399 : Index := Scalar.indexCast v397
  ![v398.toNat, v399.toNat]
def k0_off16 : Fin 3 → Nat :=
  let c0_i32_379 : BitVec 32 := 0#32
  let c4_i32_380 : BitVec 32 := 4#32
  let v357 : BitVec 32 := Scalar.remsi c0_i32_379 c4_i32_380
  let c2_i32_426 : BitVec 32 := 2#32
  let c0_i32_427 : BitVec 32 := 0#32
  ![v357.toNat, 2, 0]
def k0_off17 : Fin 5 → Nat :=
  let c0_i32_379 : BitVec 32 := 0#32
  let c4_i32_380 : BitVec 32 := 4#32
  let v357 : BitVec 32 := Scalar.remsi c0_i32_379 c4_i32_380
  let c2_i32_425 : BitVec 32 := 2#32
  let c0_i32_428 : BitVec 32 := 0#32
  let c0_i32_429 : BitVec 32 := 0#32
  let c0_i32_430 : BitVec 32 := 0#32
  ![v357.toNat, 2, 0, 0, 0]
def k0_off18 (v400 : BitVec 32) : Fin 4 → Nat :=
  let c0_i32_431 : BitVec 32 := 0#32
  let c0_i32_432 : BitVec 32 := 0#32
  let c0_i32_433 : BitVec 32 := 0#32
  ![v400.toNat, 0, 0, 0]

def k0_chk4 (d0 : Dev nD) (v9 : BitVec 32) (v400 : BitVec 32) : Prop :=
  (∀ (k0_h1 : k0_cond1 d0 v9 = 1#1), ∀ a, (k0_off18 v400) a + S1x32x16x128.size a ≤ S256x32x16x128.size a)
theorem k0_off18_inb : ∀ (d0 : Dev nD) (v9 : BitVec 32) (v400 : BitVec 32) (k0_hw4 : k0_chk4 d0 v9 v400), ∀ (k0_h1 : k0_cond1 d0 v9 = 1#1), ∀ a, (k0_off18 v400) a + S1x32x16x128.size a ≤ S256x32x16x128.size a := fun d0 v9 v400 k0_hw4 k0_h1 => k0_hw4 k0_h1

def k0_off19 : Fin 3 → Nat :=
  let c0_i32_379 : BitVec 32 := 0#32
  let c4_i32_380 : BitVec 32 := 4#32
  let v357 : BitVec 32 := Scalar.remsi c0_i32_379 c4_i32_380
  let c2_i32_435 : BitVec 32 := 2#32
  let c1_i32_436 : BitVec 32 := 1#32
  ![v357.toNat, 2, 1]
def k0_off20 : Fin 5 → Nat :=
  let c0_i32_379 : BitVec 32 := 0#32
  let c4_i32_380 : BitVec 32 := 4#32
  let v357 : BitVec 32 := Scalar.remsi c0_i32_379 c4_i32_380
  let c2_i32_434 : BitVec 32 := 2#32
  let c0_i32_437 : BitVec 32 := 0#32
  let c0_i32_438 : BitVec 32 := 0#32
  let c0_i32_439 : BitVec 32 := 0#32
  ![v357.toNat, 2, 0, 0, 0]
def k0_off21 (v359 : BitVec 32) (v361 : BitVec 32) : Fin 2 → Nat :=
  let v415 : Index := Scalar.indexCast v359
  let c8_i32_443 : BitVec 32 := 8#32
  let v413 : BitVec 32 := Scalar.muli v361 c8_i32_443
  let c3_i32_444 : BitVec 32 := 3#32
  let v414 : BitVec 32 := Scalar.addi v413 c3_i32_444
  let v416 : Index := Scalar.indexCast v414
  ![v415.toNat, v416.toNat]
def k0_off22 : Fin 3 → Nat :=
  let c0_i32_379 : BitVec 32 := 0#32
  let c4_i32_380 : BitVec 32 := 4#32
  let v357 : BitVec 32 := Scalar.remsi c0_i32_379 c4_i32_380
  let c3_i32_446 : BitVec 32 := 3#32
  let c0_i32_447 : BitVec 32 := 0#32
  ![v357.toNat, 3, 0]
def k0_off23 : Fin 5 → Nat :=
  let c0_i32_379 : BitVec 32 := 0#32
  let c4_i32_380 : BitVec 32 := 4#32
  let v357 : BitVec 32 := Scalar.remsi c0_i32_379 c4_i32_380
  let c3_i32_445 : BitVec 32 := 3#32
  let c0_i32_448 : BitVec 32 := 0#32
  let c0_i32_449 : BitVec 32 := 0#32
  let c0_i32_450 : BitVec 32 := 0#32
  ![v357.toNat, 3, 0, 0, 0]
def k0_off24 (v417 : BitVec 32) : Fin 4 → Nat :=
  let c0_i32_451 : BitVec 32 := 0#32
  let c0_i32_452 : BitVec 32 := 0#32
  let c0_i32_453 : BitVec 32 := 0#32
  ![v417.toNat, 0, 0, 0]

def k0_chk5 (d0 : Dev nD) (v9 : BitVec 32) (v417 : BitVec 32) : Prop :=
  (∀ (k0_h1 : k0_cond1 d0 v9 = 1#1), ∀ a, (k0_off24 v417) a + S1x32x16x128.size a ≤ S256x32x16x128.size a)
theorem k0_off24_inb : ∀ (d0 : Dev nD) (v9 : BitVec 32) (v417 : BitVec 32) (k0_hw5 : k0_chk5 d0 v9 v417), ∀ (k0_h1 : k0_cond1 d0 v9 = 1#1), ∀ a, (k0_off24 v417) a + S1x32x16x128.size a ≤ S256x32x16x128.size a := fun d0 v9 v417 k0_hw5 k0_h1 => k0_hw5 k0_h1

def k0_off25 : Fin 3 → Nat :=
  let c0_i32_379 : BitVec 32 := 0#32
  let c4_i32_380 : BitVec 32 := 4#32
  let v357 : BitVec 32 := Scalar.remsi c0_i32_379 c4_i32_380
  let c3_i32_455 : BitVec 32 := 3#32
  let c1_i32_456 : BitVec 32 := 1#32
  ![v357.toNat, 3, 1]
def k0_off26 : Fin 5 → Nat :=
  let c0_i32_379 : BitVec 32 := 0#32
  let c4_i32_380 : BitVec 32 := 4#32
  let v357 : BitVec 32 := Scalar.remsi c0_i32_379 c4_i32_380
  let c3_i32_454 : BitVec 32 := 3#32
  let c0_i32_457 : BitVec 32 := 0#32
  let c0_i32_458 : BitVec 32 := 0#32
  let c0_i32_459 : BitVec 32 := 0#32
  ![v357.toNat, 3, 0, 0, 0]
def k0_off27 (v359 : BitVec 32) (v361 : BitVec 32) : Fin 2 → Nat :=
  let v432 : Index := Scalar.indexCast v359
  let c8_i32_463 : BitVec 32 := 8#32
  let v430 : BitVec 32 := Scalar.muli v361 c8_i32_463
  let c4_i32_464 : BitVec 32 := 4#32
  let v431 : BitVec 32 := Scalar.addi v430 c4_i32_464
  let v433 : Index := Scalar.indexCast v431
  ![v432.toNat, v433.toNat]
def k0_off28 : Fin 3 → Nat :=
  let c0_i32_379 : BitVec 32 := 0#32
  let c4_i32_380 : BitVec 32 := 4#32
  let v357 : BitVec 32 := Scalar.remsi c0_i32_379 c4_i32_380
  let c4_i32_466 : BitVec 32 := 4#32
  let c0_i32_467 : BitVec 32 := 0#32
  ![v357.toNat, 4, 0]
def k0_off29 : Fin 5 → Nat :=
  let c0_i32_379 : BitVec 32 := 0#32
  let c4_i32_380 : BitVec 32 := 4#32
  let v357 : BitVec 32 := Scalar.remsi c0_i32_379 c4_i32_380
  let c4_i32_465 : BitVec 32 := 4#32
  let c0_i32_468 : BitVec 32 := 0#32
  let c0_i32_469 : BitVec 32 := 0#32
  let c0_i32_470 : BitVec 32 := 0#32
  ![v357.toNat, 4, 0, 0, 0]
def k0_off30 (v434 : BitVec 32) : Fin 4 → Nat :=
  let c0_i32_471 : BitVec 32 := 0#32
  let c0_i32_472 : BitVec 32 := 0#32
  let c0_i32_473 : BitVec 32 := 0#32
  ![v434.toNat, 0, 0, 0]

def k0_chk6 (d0 : Dev nD) (v9 : BitVec 32) (v434 : BitVec 32) : Prop :=
  (∀ (k0_h1 : k0_cond1 d0 v9 = 1#1), ∀ a, (k0_off30 v434) a + S1x32x16x128.size a ≤ S256x32x16x128.size a)
theorem k0_off30_inb : ∀ (d0 : Dev nD) (v9 : BitVec 32) (v434 : BitVec 32) (k0_hw6 : k0_chk6 d0 v9 v434), ∀ (k0_h1 : k0_cond1 d0 v9 = 1#1), ∀ a, (k0_off30 v434) a + S1x32x16x128.size a ≤ S256x32x16x128.size a := fun d0 v9 v434 k0_hw6 k0_h1 => k0_hw6 k0_h1

def k0_off31 : Fin 3 → Nat :=
  let c0_i32_379 : BitVec 32 := 0#32
  let c4_i32_380 : BitVec 32 := 4#32
  let v357 : BitVec 32 := Scalar.remsi c0_i32_379 c4_i32_380
  let c4_i32_475 : BitVec 32 := 4#32
  let c1_i32_476 : BitVec 32 := 1#32
  ![v357.toNat, 4, 1]
def k0_off32 : Fin 5 → Nat :=
  let c0_i32_379 : BitVec 32 := 0#32
  let c4_i32_380 : BitVec 32 := 4#32
  let v357 : BitVec 32 := Scalar.remsi c0_i32_379 c4_i32_380
  let c4_i32_474 : BitVec 32 := 4#32
  let c0_i32_477 : BitVec 32 := 0#32
  let c0_i32_478 : BitVec 32 := 0#32
  let c0_i32_479 : BitVec 32 := 0#32
  ![v357.toNat, 4, 0, 0, 0]
def k0_off33 (v359 : BitVec 32) (v361 : BitVec 32) : Fin 2 → Nat :=
  let v449 : Index := Scalar.indexCast v359
  let c8_i32_483 : BitVec 32 := 8#32
  let v447 : BitVec 32 := Scalar.muli v361 c8_i32_483
  let c5_i32 : BitVec 32 := 5#32
  let v448 : BitVec 32 := Scalar.addi v447 c5_i32
  let v450 : Index := Scalar.indexCast v448
  ![v449.toNat, v450.toNat]
def k0_off34 : Fin 3 → Nat :=
  let c0_i32_379 : BitVec 32 := 0#32
  let c4_i32_380 : BitVec 32 := 4#32
  let v357 : BitVec 32 := Scalar.remsi c0_i32_379 c4_i32_380
  let c5_i32_485 : BitVec 32 := 5#32
  let c0_i32_486 : BitVec 32 := 0#32
  ![v357.toNat, 5, 0]
def k0_off35 : Fin 5 → Nat :=
  let c0_i32_379 : BitVec 32 := 0#32
  let c4_i32_380 : BitVec 32 := 4#32
  let v357 : BitVec 32 := Scalar.remsi c0_i32_379 c4_i32_380
  let c5_i32_484 : BitVec 32 := 5#32
  let c0_i32_487 : BitVec 32 := 0#32
  let c0_i32_488 : BitVec 32 := 0#32
  let c0_i32_489 : BitVec 32 := 0#32
  ![v357.toNat, 5, 0, 0, 0]
def k0_off36 (v451 : BitVec 32) : Fin 4 → Nat :=
  let c0_i32_490 : BitVec 32 := 0#32
  let c0_i32_491 : BitVec 32 := 0#32
  let c0_i32_492 : BitVec 32 := 0#32
  ![v451.toNat, 0, 0, 0]

def k0_chk7 (d0 : Dev nD) (v9 : BitVec 32) (v451 : BitVec 32) : Prop :=
  (∀ (k0_h1 : k0_cond1 d0 v9 = 1#1), ∀ a, (k0_off36 v451) a + S1x32x16x128.size a ≤ S256x32x16x128.size a)
theorem k0_off36_inb : ∀ (d0 : Dev nD) (v9 : BitVec 32) (v451 : BitVec 32) (k0_hw7 : k0_chk7 d0 v9 v451), ∀ (k0_h1 : k0_cond1 d0 v9 = 1#1), ∀ a, (k0_off36 v451) a + S1x32x16x128.size a ≤ S256x32x16x128.size a := fun d0 v9 v451 k0_hw7 k0_h1 => k0_hw7 k0_h1

def k0_off37 : Fin 3 → Nat :=
  let c0_i32_379 : BitVec 32 := 0#32
  let c4_i32_380 : BitVec 32 := 4#32
  let v357 : BitVec 32 := Scalar.remsi c0_i32_379 c4_i32_380
  let c5_i32_494 : BitVec 32 := 5#32
  let c1_i32_495 : BitVec 32 := 1#32
  ![v357.toNat, 5, 1]
def k0_off38 : Fin 5 → Nat :=
  let c0_i32_379 : BitVec 32 := 0#32
  let c4_i32_380 : BitVec 32 := 4#32
  let v357 : BitVec 32 := Scalar.remsi c0_i32_379 c4_i32_380
  let c5_i32_493 : BitVec 32 := 5#32
  let c0_i32_496 : BitVec 32 := 0#32
  let c0_i32_497 : BitVec 32 := 0#32
  let c0_i32_498 : BitVec 32 := 0#32
  ![v357.toNat, 5, 0, 0, 0]
def k0_off39 (v359 : BitVec 32) (v361 : BitVec 32) : Fin 2 → Nat :=
  let v466 : Index := Scalar.indexCast v359
  let c8_i32_502 : BitVec 32 := 8#32
  let v464 : BitVec 32 := Scalar.muli v361 c8_i32_502
  let c6_i32 : BitVec 32 := 6#32
  let v465 : BitVec 32 := Scalar.addi v464 c6_i32
  let v467 : Index := Scalar.indexCast v465
  ![v466.toNat, v467.toNat]
def k0_off40 : Fin 3 → Nat :=
  let c0_i32_379 : BitVec 32 := 0#32
  let c4_i32_380 : BitVec 32 := 4#32
  let v357 : BitVec 32 := Scalar.remsi c0_i32_379 c4_i32_380
  let c6_i32_504 : BitVec 32 := 6#32
  let c0_i32_505 : BitVec 32 := 0#32
  ![v357.toNat, 6, 0]
def k0_off41 : Fin 5 → Nat :=
  let c0_i32_379 : BitVec 32 := 0#32
  let c4_i32_380 : BitVec 32 := 4#32
  let v357 : BitVec 32 := Scalar.remsi c0_i32_379 c4_i32_380
  let c6_i32_503 : BitVec 32 := 6#32
  let c0_i32_506 : BitVec 32 := 0#32
  let c0_i32_507 : BitVec 32 := 0#32
  let c0_i32_508 : BitVec 32 := 0#32
  ![v357.toNat, 6, 0, 0, 0]
def k0_off42 (v468 : BitVec 32) : Fin 4 → Nat :=
  let c0_i32_509 : BitVec 32 := 0#32
  let c0_i32_510 : BitVec 32 := 0#32
  let c0_i32_511 : BitVec 32 := 0#32
  ![v468.toNat, 0, 0, 0]

def k0_chk8 (d0 : Dev nD) (v9 : BitVec 32) (v468 : BitVec 32) : Prop :=
  (∀ (k0_h1 : k0_cond1 d0 v9 = 1#1), ∀ a, (k0_off42 v468) a + S1x32x16x128.size a ≤ S256x32x16x128.size a)
theorem k0_off42_inb : ∀ (d0 : Dev nD) (v9 : BitVec 32) (v468 : BitVec 32) (k0_hw8 : k0_chk8 d0 v9 v468), ∀ (k0_h1 : k0_cond1 d0 v9 = 1#1), ∀ a, (k0_off42 v468) a + S1x32x16x128.size a ≤ S256x32x16x128.size a := fun d0 v9 v468 k0_hw8 k0_h1 => k0_hw8 k0_h1

def k0_off43 : Fin 3 → Nat :=
  let c0_i32_379 : BitVec 32 := 0#32
  let c4_i32_380 : BitVec 32 := 4#32
  let v357 : BitVec 32 := Scalar.remsi c0_i32_379 c4_i32_380
  let c6_i32_513 : BitVec 32 := 6#32
  let c1_i32_514 : BitVec 32 := 1#32
  ![v357.toNat, 6, 1]
def k0_off44 : Fin 5 → Nat :=
  let c0_i32_379 : BitVec 32 := 0#32
  let c4_i32_380 : BitVec 32 := 4#32
  let v357 : BitVec 32 := Scalar.remsi c0_i32_379 c4_i32_380
  let c6_i32_512 : BitVec 32 := 6#32
  let c0_i32_515 : BitVec 32 := 0#32
  let c0_i32_516 : BitVec 32 := 0#32
  let c0_i32_517 : BitVec 32 := 0#32
  ![v357.toNat, 6, 0, 0, 0]
def k0_off45 (v359 : BitVec 32) (v361 : BitVec 32) : Fin 2 → Nat :=
  let v483 : Index := Scalar.indexCast v359
  let c8_i32_521 : BitVec 32 := 8#32
  let v481 : BitVec 32 := Scalar.muli v361 c8_i32_521
  let c7_i32 : BitVec 32 := 7#32
  let v482 : BitVec 32 := Scalar.addi v481 c7_i32
  let v484 : Index := Scalar.indexCast v482
  ![v483.toNat, v484.toNat]

def k0_chk1 (d0 : Dev nD) (v9 : BitVec 32) (v359 : BitVec 32) (v361 : BitVec 32) : Prop :=
  (∀ (k0_h1 : k0_cond1 d0 v9 = 1#1), ∀ a, (k0_off3 v359 v361) a + S1x1.size a ≤ S32x256.size a) ∧
  (∀ (k0_h1 : k0_cond1 d0 v9 = 1#1), ∀ a, (k0_off9 v359 v361) a + S1x1.size a ≤ S32x256.size a) ∧
  (∀ (k0_h1 : k0_cond1 d0 v9 = 1#1), ∀ a, (k0_off15 v359 v361) a + S1x1.size a ≤ S32x256.size a) ∧
  (∀ (k0_h1 : k0_cond1 d0 v9 = 1#1), ∀ a, (k0_off21 v359 v361) a + S1x1.size a ≤ S32x256.size a) ∧
  (∀ (k0_h1 : k0_cond1 d0 v9 = 1#1), ∀ a, (k0_off27 v359 v361) a + S1x1.size a ≤ S32x256.size a) ∧
  (∀ (k0_h1 : k0_cond1 d0 v9 = 1#1), ∀ a, (k0_off33 v359 v361) a + S1x1.size a ≤ S32x256.size a) ∧
  (∀ (k0_h1 : k0_cond1 d0 v9 = 1#1), ∀ a, (k0_off39 v359 v361) a + S1x1.size a ≤ S32x256.size a) ∧
  (∀ (k0_h1 : k0_cond1 d0 v9 = 1#1), ∀ a, (k0_off45 v359 v361) a + S1x1.size a ≤ S32x256.size a)
theorem k0_off3_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off3 v359 v361) a + S1x1.size a ≤ S32x256.size a := fun d0 v9 v359 v361 k0_hw1 k0_h1 => k0_hw1.1 k0_h1
theorem k0_off9_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off9 v359 v361) a + S1x1.size a ≤ S32x256.size a := fun d0 v9 v359 v361 k0_hw1 k0_h1 => k0_hw1.2.1 k0_h1
theorem k0_off15_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off15 v359 v361) a + S1x1.size a ≤ S32x256.size a := fun d0 v9 v359 v361 k0_hw1 k0_h1 => k0_hw1.2.2.1 k0_h1
theorem k0_off21_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off21 v359 v361) a + S1x1.size a ≤ S32x256.size a := fun d0 v9 v359 v361 k0_hw1 k0_h1 => k0_hw1.2.2.2.1 k0_h1
theorem k0_off27_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off27 v359 v361) a + S1x1.size a ≤ S32x256.size a := fun d0 v9 v359 v361 k0_hw1 k0_h1 => k0_hw1.2.2.2.2.1 k0_h1
theorem k0_off33_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off33 v359 v361) a + S1x1.size a ≤ S32x256.size a := fun d0 v9 v359 v361 k0_hw1 k0_h1 => k0_hw1.2.2.2.2.2.1 k0_h1
theorem k0_off39_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off39 v359 v361) a + S1x1.size a ≤ S32x256.size a := fun d0 v9 v359 v361 k0_hw1 k0_h1 => k0_hw1.2.2.2.2.2.2.1 k0_h1
theorem k0_off45_inb : ∀ (d0 : Dev nD) (v9 : BitVec 32) (v359 : BitVec 32) (v361 : BitVec 32) (k0_hw1 : k0_chk1 d0 v9 v359 v361), ∀ (k0_h1 : k0_cond1 d0 v9 = 1#1), ∀ a, (k0_off45 v359 v361) a + S1x1.size a ≤ S32x256.size a := fun d0 v9 v359 v361 k0_hw1 k0_h1 => k0_hw1.2.2.2.2.2.2.2 k0_h1

def k0_off46 : Fin 3 → Nat :=
  let c0_i32_379 : BitVec 32 := 0#32
  let c4_i32_380 : BitVec 32 := 4#32
  let v357 : BitVec 32 := Scalar.remsi c0_i32_379 c4_i32_380
  let c7_i32_523 : BitVec 32 := 7#32
  let c0_i32_524 : BitVec 32 := 0#32
  ![v357.toNat, 7, 0]
def k0_off47 : Fin 5 → Nat :=
  let c0_i32_379 : BitVec 32 := 0#32
  let c4_i32_380 : BitVec 32 := 4#32
  let v357 : BitVec 32 := Scalar.remsi c0_i32_379 c4_i32_380
  let c7_i32_522 : BitVec 32 := 7#32
  let c0_i32_525 : BitVec 32 := 0#32
  let c0_i32_526 : BitVec 32 := 0#32
  let c0_i32_527 : BitVec 32 := 0#32
  ![v357.toNat, 7, 0, 0, 0]
def k0_off48 (v485 : BitVec 32) : Fin 4 → Nat :=
  let c0_i32_528 : BitVec 32 := 0#32
  let c0_i32_529 : BitVec 32 := 0#32
  let c0_i32_530 : BitVec 32 := 0#32
  ![v485.toNat, 0, 0, 0]

def k0_chk9 (d0 : Dev nD) (v9 : BitVec 32) (v485 : BitVec 32) : Prop :=
  (∀ (k0_h1 : k0_cond1 d0 v9 = 1#1), ∀ a, (k0_off48 v485) a + S1x32x16x128.size a ≤ S256x32x16x128.size a)
theorem k0_off48_inb : ∀ (d0 : Dev nD) (v9 : BitVec 32) (v485 : BitVec 32) (k0_hw9 : k0_chk9 d0 v9 v485), ∀ (k0_h1 : k0_cond1 d0 v9 = 1#1), ∀ a, (k0_off48 v485) a + S1x32x16x128.size a ≤ S256x32x16x128.size a := fun d0 v9 v485 k0_hw9 k0_h1 => k0_hw9 k0_h1

def k0_off49 : Fin 3 → Nat :=
  let c0_i32_379 : BitVec 32 := 0#32
  let c4_i32_380 : BitVec 32 := 4#32
  let v357 : BitVec 32 := Scalar.remsi c0_i32_379 c4_i32_380
  let c7_i32_532 : BitVec 32 := 7#32
  let c1_i32_533 : BitVec 32 := 1#32
  ![v357.toNat, 7, 1]
def k0_off50 : Fin 5 → Nat :=
  let c0_i32_379 : BitVec 32 := 0#32
  let c4_i32_380 : BitVec 32 := 4#32
  let v357 : BitVec 32 := Scalar.remsi c0_i32_379 c4_i32_380
  let c7_i32_531 : BitVec 32 := 7#32
  let c0_i32_534 : BitVec 32 := 0#32
  let c0_i32_535 : BitVec 32 := 0#32
  let c0_i32_536 : BitVec 32 := 0#32
  ![v357.toNat, 7, 0, 0, 0]
def k0_off51 (d0 : Dev nD) : Fin 2 → Nat :=
  let c0_381 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_378 : BitVec 32 := 8#32
  let v356 : BitVec 32 := Scalar.addi v11 c8_i32_378
  let v358 : Index := Scalar.indexCast v356
  ![0, v358.toNat]
def k0_off52 (d0 : Dev nD) : Fin 2 → Nat :=
  let c1_382 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_378 : BitVec 32 := 8#32
  let v356 : BitVec 32 := Scalar.addi v11 c8_i32_378
  let v360 : Index := Scalar.indexCast v356
  ![1, v360.toNat]
def k0_off53 (v359 : BitVec 32) (v361 : BitVec 32) : Fin 2 → Nat :=
  let v364 : Index := Scalar.indexCast v359
  let c8_i32_383 : BitVec 32 := 8#32
  let v362 : BitVec 32 := Scalar.muli v361 c8_i32_383
  let c0_i32_384 : BitVec 32 := 0#32
  let v363 : BitVec 32 := Scalar.addi v362 c0_i32_384
  let v365 : Index := Scalar.indexCast v363
  ![v364.toNat, v365.toNat]
def k0_cond2 (d0 : Dev nD) (v9 : BitVec 32) : BitVec 1 :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let c1_i32_45 : BitVec 32 := 1#32
  let v73 : BitVec 1 := Scalar.cmpi .sgt v69 c1_i32_45
  let v74 : BitVec 32 := Scalar.extui v73
  let c0_i32_46 : BitVec 32 := 0#32
  let v75 : BitVec 1 := Scalar.cmpi .ne v74 c0_i32_46
  v75

def k0_off54 : Fin 3 → Nat :=
  let c1_i32_379 : BitVec 32 := 1#32
  let c4_i32_380 : BitVec 32 := 4#32
  let v357 : BitVec 32 := Scalar.remsi c1_i32_379 c4_i32_380
  let c0_i32_386 : BitVec 32 := 0#32
  let c0_i32_387 : BitVec 32 := 0#32
  ![v357.toNat, 0, 0]
def k0_off55 : Fin 5 → Nat :=
  let c1_i32_379 : BitVec 32 := 1#32
  let c4_i32_380 : BitVec 32 := 4#32
  let v357 : BitVec 32 := Scalar.remsi c1_i32_379 c4_i32_380
  let c0_i32_385 : BitVec 32 := 0#32
  let c0_i32_388 : BitVec 32 := 0#32
  let c0_i32_389 : BitVec 32 := 0#32
  let c0_i32_390 : BitVec 32 := 0#32
  ![v357.toNat, 0, 0, 0, 0]
def k0_off56 (v366 : BitVec 32) : Fin 4 → Nat :=
  let c0_i32_391 : BitVec 32 := 0#32
  let c0_i32_392 : BitVec 32 := 0#32
  let c0_i32_393 : BitVec 32 := 0#32
  ![v366.toNat, 0, 0, 0]

def k0_chk11 (d0 : Dev nD) (v9 : BitVec 32) (v366 : BitVec 32) : Prop :=
  (∀ (k0_h2 : k0_cond2 d0 v9 = 1#1), ∀ a, (k0_off56 v366) a + S1x32x16x128.size a ≤ S256x32x16x128.size a)
theorem k0_off56_inb : ∀ (d0 : Dev nD) (v9 : BitVec 32) (v366 : BitVec 32) (k0_hw11 : k0_chk11 d0 v9 v366), ∀ (k0_h2 : k0_cond2 d0 v9 = 1#1), ∀ a, (k0_off56 v366) a + S1x32x16x128.size a ≤ S256x32x16x128.size a := fun d0 v9 v366 k0_hw11 k0_h2 => k0_hw11 k0_h2

def k0_off57 : Fin 3 → Nat :=
  let c1_i32_379 : BitVec 32 := 1#32
  let c4_i32_380 : BitVec 32 := 4#32
  let v357 : BitVec 32 := Scalar.remsi c1_i32_379 c4_i32_380
  let c0_i32_395 : BitVec 32 := 0#32
  let c1_i32_396 : BitVec 32 := 1#32
  ![v357.toNat, 0, 1]
def k0_off58 : Fin 5 → Nat :=
  let c1_i32_379 : BitVec 32 := 1#32
  let c4_i32_380 : BitVec 32 := 4#32
  let v357 : BitVec 32 := Scalar.remsi c1_i32_379 c4_i32_380
  let c0_i32_394 : BitVec 32 := 0#32
  let c0_i32_397 : BitVec 32 := 0#32
  let c0_i32_398 : BitVec 32 := 0#32
  let c0_i32_399 : BitVec 32 := 0#32
  ![v357.toNat, 0, 0, 0, 0]
def k0_off59 (v359 : BitVec 32) (v361 : BitVec 32) : Fin 2 → Nat :=
  let v381 : Index := Scalar.indexCast v359
  let c8_i32_403 : BitVec 32 := 8#32
  let v379 : BitVec 32 := Scalar.muli v361 c8_i32_403
  let c1_i32_404 : BitVec 32 := 1#32
  let v380 : BitVec 32 := Scalar.addi v379 c1_i32_404
  let v382 : Index := Scalar.indexCast v380
  ![v381.toNat, v382.toNat]
def k0_off60 : Fin 3 → Nat :=
  let c1_i32_379 : BitVec 32 := 1#32
  let c4_i32_380 : BitVec 32 := 4#32
  let v357 : BitVec 32 := Scalar.remsi c1_i32_379 c4_i32_380
  let c1_i32_406 : BitVec 32 := 1#32
  let c0_i32_407 : BitVec 32 := 0#32
  ![v357.toNat, 1, 0]
def k0_off61 : Fin 5 → Nat :=
  let c1_i32_379 : BitVec 32 := 1#32
  let c4_i32_380 : BitVec 32 := 4#32
  let v357 : BitVec 32 := Scalar.remsi c1_i32_379 c4_i32_380
  let c1_i32_405 : BitVec 32 := 1#32
  let c0_i32_408 : BitVec 32 := 0#32
  let c0_i32_409 : BitVec 32 := 0#32
  let c0_i32_410 : BitVec 32 := 0#32
  ![v357.toNat, 1, 0, 0, 0]
def k0_off62 (v383 : BitVec 32) : Fin 4 → Nat :=
  let c0_i32_411 : BitVec 32 := 0#32
  let c0_i32_412 : BitVec 32 := 0#32
  let c0_i32_413 : BitVec 32 := 0#32
  ![v383.toNat, 0, 0, 0]

def k0_chk12 (d0 : Dev nD) (v9 : BitVec 32) (v383 : BitVec 32) : Prop :=
  (∀ (k0_h2 : k0_cond2 d0 v9 = 1#1), ∀ a, (k0_off62 v383) a + S1x32x16x128.size a ≤ S256x32x16x128.size a)
theorem k0_off62_inb : ∀ (d0 : Dev nD) (v9 : BitVec 32) (v383 : BitVec 32) (k0_hw12 : k0_chk12 d0 v9 v383), ∀ (k0_h2 : k0_cond2 d0 v9 = 1#1), ∀ a, (k0_off62 v383) a + S1x32x16x128.size a ≤ S256x32x16x128.size a := fun d0 v9 v383 k0_hw12 k0_h2 => k0_hw12 k0_h2

def k0_off63 : Fin 3 → Nat :=
  let c1_i32_379 : BitVec 32 := 1#32
  let c4_i32_380 : BitVec 32 := 4#32
  let v357 : BitVec 32 := Scalar.remsi c1_i32_379 c4_i32_380
  let c1_i32_415 : BitVec 32 := 1#32
  let c1_i32_416 : BitVec 32 := 1#32
  ![v357.toNat, 1, 1]
def k0_off64 : Fin 5 → Nat :=
  let c1_i32_379 : BitVec 32 := 1#32
  let c4_i32_380 : BitVec 32 := 4#32
  let v357 : BitVec 32 := Scalar.remsi c1_i32_379 c4_i32_380
  let c1_i32_414 : BitVec 32 := 1#32
  let c0_i32_417 : BitVec 32 := 0#32
  let c0_i32_418 : BitVec 32 := 0#32
  let c0_i32_419 : BitVec 32 := 0#32
  ![v357.toNat, 1, 0, 0, 0]
def k0_off65 (v359 : BitVec 32) (v361 : BitVec 32) : Fin 2 → Nat :=
  let v398 : Index := Scalar.indexCast v359
  let c8_i32_423 : BitVec 32 := 8#32
  let v396 : BitVec 32 := Scalar.muli v361 c8_i32_423
  let c2_i32_424 : BitVec 32 := 2#32
  let v397 : BitVec 32 := Scalar.addi v396 c2_i32_424
  let v399 : Index := Scalar.indexCast v397
  ![v398.toNat, v399.toNat]
def k0_off66 : Fin 3 → Nat :=
  let c1_i32_379 : BitVec 32 := 1#32
  let c4_i32_380 : BitVec 32 := 4#32
  let v357 : BitVec 32 := Scalar.remsi c1_i32_379 c4_i32_380
  let c2_i32_426 : BitVec 32 := 2#32
  let c0_i32_427 : BitVec 32 := 0#32
  ![v357.toNat, 2, 0]
def k0_off67 : Fin 5 → Nat :=
  let c1_i32_379 : BitVec 32 := 1#32
  let c4_i32_380 : BitVec 32 := 4#32
  let v357 : BitVec 32 := Scalar.remsi c1_i32_379 c4_i32_380
  let c2_i32_425 : BitVec 32 := 2#32
  let c0_i32_428 : BitVec 32 := 0#32
  let c0_i32_429 : BitVec 32 := 0#32
  let c0_i32_430 : BitVec 32 := 0#32
  ![v357.toNat, 2, 0, 0, 0]
def k0_off68 (v400 : BitVec 32) : Fin 4 → Nat :=
  let c0_i32_431 : BitVec 32 := 0#32
  let c0_i32_432 : BitVec 32 := 0#32
  let c0_i32_433 : BitVec 32 := 0#32
  ![v400.toNat, 0, 0, 0]

def k0_chk13 (d0 : Dev nD) (v9 : BitVec 32) (v400 : BitVec 32) : Prop :=
  (∀ (k0_h2 : k0_cond2 d0 v9 = 1#1), ∀ a, (k0_off68 v400) a + S1x32x16x128.size a ≤ S256x32x16x128.size a)
theorem k0_off68_inb : ∀ (d0 : Dev nD) (v9 : BitVec 32) (v400 : BitVec 32) (k0_hw13 : k0_chk13 d0 v9 v400), ∀ (k0_h2 : k0_cond2 d0 v9 = 1#1), ∀ a, (k0_off68 v400) a + S1x32x16x128.size a ≤ S256x32x16x128.size a := fun d0 v9 v400 k0_hw13 k0_h2 => k0_hw13 k0_h2

def k0_off69 : Fin 3 → Nat :=
  let c1_i32_379 : BitVec 32 := 1#32
  let c4_i32_380 : BitVec 32 := 4#32
  let v357 : BitVec 32 := Scalar.remsi c1_i32_379 c4_i32_380
  let c2_i32_435 : BitVec 32 := 2#32
  let c1_i32_436 : BitVec 32 := 1#32
  ![v357.toNat, 2, 1]
def k0_off70 : Fin 5 → Nat :=
  let c1_i32_379 : BitVec 32 := 1#32
  let c4_i32_380 : BitVec 32 := 4#32
  let v357 : BitVec 32 := Scalar.remsi c1_i32_379 c4_i32_380
  let c2_i32_434 : BitVec 32 := 2#32
  let c0_i32_437 : BitVec 32 := 0#32
  let c0_i32_438 : BitVec 32 := 0#32
  let c0_i32_439 : BitVec 32 := 0#32
  ![v357.toNat, 2, 0, 0, 0]
def k0_off71 (v359 : BitVec 32) (v361 : BitVec 32) : Fin 2 → Nat :=
  let v415 : Index := Scalar.indexCast v359
  let c8_i32_443 : BitVec 32 := 8#32
  let v413 : BitVec 32 := Scalar.muli v361 c8_i32_443
  let c3_i32_444 : BitVec 32 := 3#32
  let v414 : BitVec 32 := Scalar.addi v413 c3_i32_444
  let v416 : Index := Scalar.indexCast v414
  ![v415.toNat, v416.toNat]
def k0_off72 : Fin 3 → Nat :=
  let c1_i32_379 : BitVec 32 := 1#32
  let c4_i32_380 : BitVec 32 := 4#32
  let v357 : BitVec 32 := Scalar.remsi c1_i32_379 c4_i32_380
  let c3_i32_446 : BitVec 32 := 3#32
  let c0_i32_447 : BitVec 32 := 0#32
  ![v357.toNat, 3, 0]
def k0_off73 : Fin 5 → Nat :=
  let c1_i32_379 : BitVec 32 := 1#32
  let c4_i32_380 : BitVec 32 := 4#32
  let v357 : BitVec 32 := Scalar.remsi c1_i32_379 c4_i32_380
  let c3_i32_445 : BitVec 32 := 3#32
  let c0_i32_448 : BitVec 32 := 0#32
  let c0_i32_449 : BitVec 32 := 0#32
  let c0_i32_450 : BitVec 32 := 0#32
  ![v357.toNat, 3, 0, 0, 0]
def k0_off74 (v417 : BitVec 32) : Fin 4 → Nat :=
  let c0_i32_451 : BitVec 32 := 0#32
  let c0_i32_452 : BitVec 32 := 0#32
  let c0_i32_453 : BitVec 32 := 0#32
  ![v417.toNat, 0, 0, 0]

def k0_chk14 (d0 : Dev nD) (v9 : BitVec 32) (v417 : BitVec 32) : Prop :=
  (∀ (k0_h2 : k0_cond2 d0 v9 = 1#1), ∀ a, (k0_off74 v417) a + S1x32x16x128.size a ≤ S256x32x16x128.size a)
theorem k0_off74_inb : ∀ (d0 : Dev nD) (v9 : BitVec 32) (v417 : BitVec 32) (k0_hw14 : k0_chk14 d0 v9 v417), ∀ (k0_h2 : k0_cond2 d0 v9 = 1#1), ∀ a, (k0_off74 v417) a + S1x32x16x128.size a ≤ S256x32x16x128.size a := fun d0 v9 v417 k0_hw14 k0_h2 => k0_hw14 k0_h2

def k0_off75 : Fin 3 → Nat :=
  let c1_i32_379 : BitVec 32 := 1#32
  let c4_i32_380 : BitVec 32 := 4#32
  let v357 : BitVec 32 := Scalar.remsi c1_i32_379 c4_i32_380
  let c3_i32_455 : BitVec 32 := 3#32
  let c1_i32_456 : BitVec 32 := 1#32
  ![v357.toNat, 3, 1]
def k0_off76 : Fin 5 → Nat :=
  let c1_i32_379 : BitVec 32 := 1#32
  let c4_i32_380 : BitVec 32 := 4#32
  let v357 : BitVec 32 := Scalar.remsi c1_i32_379 c4_i32_380
  let c3_i32_454 : BitVec 32 := 3#32
  let c0_i32_457 : BitVec 32 := 0#32
  let c0_i32_458 : BitVec 32 := 0#32
  let c0_i32_459 : BitVec 32 := 0#32
  ![v357.toNat, 3, 0, 0, 0]
def k0_off77 (v359 : BitVec 32) (v361 : BitVec 32) : Fin 2 → Nat :=
  let v432 : Index := Scalar.indexCast v359
  let c8_i32_463 : BitVec 32 := 8#32
  let v430 : BitVec 32 := Scalar.muli v361 c8_i32_463
  let c4_i32_464 : BitVec 32 := 4#32
  let v431 : BitVec 32 := Scalar.addi v430 c4_i32_464
  let v433 : Index := Scalar.indexCast v431
  ![v432.toNat, v433.toNat]
def k0_off78 : Fin 3 → Nat :=
  let c1_i32_379 : BitVec 32 := 1#32
  let c4_i32_380 : BitVec 32 := 4#32
  let v357 : BitVec 32 := Scalar.remsi c1_i32_379 c4_i32_380
  let c4_i32_466 : BitVec 32 := 4#32
  let c0_i32_467 : BitVec 32 := 0#32
  ![v357.toNat, 4, 0]
def k0_off79 : Fin 5 → Nat :=
  let c1_i32_379 : BitVec 32 := 1#32
  let c4_i32_380 : BitVec 32 := 4#32
  let v357 : BitVec 32 := Scalar.remsi c1_i32_379 c4_i32_380
  let c4_i32_465 : BitVec 32 := 4#32
  let c0_i32_468 : BitVec 32 := 0#32
  let c0_i32_469 : BitVec 32 := 0#32
  let c0_i32_470 : BitVec 32 := 0#32
  ![v357.toNat, 4, 0, 0, 0]
def k0_off80 (v434 : BitVec 32) : Fin 4 → Nat :=
  let c0_i32_471 : BitVec 32 := 0#32
  let c0_i32_472 : BitVec 32 := 0#32
  let c0_i32_473 : BitVec 32 := 0#32
  ![v434.toNat, 0, 0, 0]

def k0_chk15 (d0 : Dev nD) (v9 : BitVec 32) (v434 : BitVec 32) : Prop :=
  (∀ (k0_h2 : k0_cond2 d0 v9 = 1#1), ∀ a, (k0_off80 v434) a + S1x32x16x128.size a ≤ S256x32x16x128.size a)
theorem k0_off80_inb : ∀ (d0 : Dev nD) (v9 : BitVec 32) (v434 : BitVec 32) (k0_hw15 : k0_chk15 d0 v9 v434), ∀ (k0_h2 : k0_cond2 d0 v9 = 1#1), ∀ a, (k0_off80 v434) a + S1x32x16x128.size a ≤ S256x32x16x128.size a := fun d0 v9 v434 k0_hw15 k0_h2 => k0_hw15 k0_h2

def k0_off81 : Fin 3 → Nat :=
  let c1_i32_379 : BitVec 32 := 1#32
  let c4_i32_380 : BitVec 32 := 4#32
  let v357 : BitVec 32 := Scalar.remsi c1_i32_379 c4_i32_380
  let c4_i32_475 : BitVec 32 := 4#32
  let c1_i32_476 : BitVec 32 := 1#32
  ![v357.toNat, 4, 1]
def k0_off82 : Fin 5 → Nat :=
  let c1_i32_379 : BitVec 32 := 1#32
  let c4_i32_380 : BitVec 32 := 4#32
  let v357 : BitVec 32 := Scalar.remsi c1_i32_379 c4_i32_380
  let c4_i32_474 : BitVec 32 := 4#32
  let c0_i32_477 : BitVec 32 := 0#32
  let c0_i32_478 : BitVec 32 := 0#32
  let c0_i32_479 : BitVec 32 := 0#32
  ![v357.toNat, 4, 0, 0, 0]
def k0_off83 (v359 : BitVec 32) (v361 : BitVec 32) : Fin 2 → Nat :=
  let v449 : Index := Scalar.indexCast v359
  let c8_i32_483 : BitVec 32 := 8#32
  let v447 : BitVec 32 := Scalar.muli v361 c8_i32_483
  let c5_i32 : BitVec 32 := 5#32
  let v448 : BitVec 32 := Scalar.addi v447 c5_i32
  let v450 : Index := Scalar.indexCast v448
  ![v449.toNat, v450.toNat]
def k0_off84 : Fin 3 → Nat :=
  let c1_i32_379 : BitVec 32 := 1#32
  let c4_i32_380 : BitVec 32 := 4#32
  let v357 : BitVec 32 := Scalar.remsi c1_i32_379 c4_i32_380
  let c5_i32_485 : BitVec 32 := 5#32
  let c0_i32_486 : BitVec 32 := 0#32
  ![v357.toNat, 5, 0]
def k0_off85 : Fin 5 → Nat :=
  let c1_i32_379 : BitVec 32 := 1#32
  let c4_i32_380 : BitVec 32 := 4#32
  let v357 : BitVec 32 := Scalar.remsi c1_i32_379 c4_i32_380
  let c5_i32_484 : BitVec 32 := 5#32
  let c0_i32_487 : BitVec 32 := 0#32
  let c0_i32_488 : BitVec 32 := 0#32
  let c0_i32_489 : BitVec 32 := 0#32
  ![v357.toNat, 5, 0, 0, 0]
def k0_off86 (v451 : BitVec 32) : Fin 4 → Nat :=
  let c0_i32_490 : BitVec 32 := 0#32
  let c0_i32_491 : BitVec 32 := 0#32
  let c0_i32_492 : BitVec 32 := 0#32
  ![v451.toNat, 0, 0, 0]

def k0_chk16 (d0 : Dev nD) (v9 : BitVec 32) (v451 : BitVec 32) : Prop :=
  (∀ (k0_h2 : k0_cond2 d0 v9 = 1#1), ∀ a, (k0_off86 v451) a + S1x32x16x128.size a ≤ S256x32x16x128.size a)
theorem k0_off86_inb : ∀ (d0 : Dev nD) (v9 : BitVec 32) (v451 : BitVec 32) (k0_hw16 : k0_chk16 d0 v9 v451), ∀ (k0_h2 : k0_cond2 d0 v9 = 1#1), ∀ a, (k0_off86 v451) a + S1x32x16x128.size a ≤ S256x32x16x128.size a := fun d0 v9 v451 k0_hw16 k0_h2 => k0_hw16 k0_h2

def k0_off87 : Fin 3 → Nat :=
  let c1_i32_379 : BitVec 32 := 1#32
  let c4_i32_380 : BitVec 32 := 4#32
  let v357 : BitVec 32 := Scalar.remsi c1_i32_379 c4_i32_380
  let c5_i32_494 : BitVec 32 := 5#32
  let c1_i32_495 : BitVec 32 := 1#32
  ![v357.toNat, 5, 1]
def k0_off88 : Fin 5 → Nat :=
  let c1_i32_379 : BitVec 32 := 1#32
  let c4_i32_380 : BitVec 32 := 4#32
  let v357 : BitVec 32 := Scalar.remsi c1_i32_379 c4_i32_380
  let c5_i32_493 : BitVec 32 := 5#32
  let c0_i32_496 : BitVec 32 := 0#32
  let c0_i32_497 : BitVec 32 := 0#32
  let c0_i32_498 : BitVec 32 := 0#32
  ![v357.toNat, 5, 0, 0, 0]
def k0_off89 (v359 : BitVec 32) (v361 : BitVec 32) : Fin 2 → Nat :=
  let v466 : Index := Scalar.indexCast v359
  let c8_i32_502 : BitVec 32 := 8#32
  let v464 : BitVec 32 := Scalar.muli v361 c8_i32_502
  let c6_i32 : BitVec 32 := 6#32
  let v465 : BitVec 32 := Scalar.addi v464 c6_i32
  let v467 : Index := Scalar.indexCast v465
  ![v466.toNat, v467.toNat]
def k0_off90 : Fin 3 → Nat :=
  let c1_i32_379 : BitVec 32 := 1#32
  let c4_i32_380 : BitVec 32 := 4#32
  let v357 : BitVec 32 := Scalar.remsi c1_i32_379 c4_i32_380
  let c6_i32_504 : BitVec 32 := 6#32
  let c0_i32_505 : BitVec 32 := 0#32
  ![v357.toNat, 6, 0]
def k0_off91 : Fin 5 → Nat :=
  let c1_i32_379 : BitVec 32 := 1#32
  let c4_i32_380 : BitVec 32 := 4#32
  let v357 : BitVec 32 := Scalar.remsi c1_i32_379 c4_i32_380
  let c6_i32_503 : BitVec 32 := 6#32
  let c0_i32_506 : BitVec 32 := 0#32
  let c0_i32_507 : BitVec 32 := 0#32
  let c0_i32_508 : BitVec 32 := 0#32
  ![v357.toNat, 6, 0, 0, 0]
def k0_off92 (v468 : BitVec 32) : Fin 4 → Nat :=
  let c0_i32_509 : BitVec 32 := 0#32
  let c0_i32_510 : BitVec 32 := 0#32
  let c0_i32_511 : BitVec 32 := 0#32
  ![v468.toNat, 0, 0, 0]

def k0_chk17 (d0 : Dev nD) (v9 : BitVec 32) (v468 : BitVec 32) : Prop :=
  (∀ (k0_h2 : k0_cond2 d0 v9 = 1#1), ∀ a, (k0_off92 v468) a + S1x32x16x128.size a ≤ S256x32x16x128.size a)
theorem k0_off92_inb : ∀ (d0 : Dev nD) (v9 : BitVec 32) (v468 : BitVec 32) (k0_hw17 : k0_chk17 d0 v9 v468), ∀ (k0_h2 : k0_cond2 d0 v9 = 1#1), ∀ a, (k0_off92 v468) a + S1x32x16x128.size a ≤ S256x32x16x128.size a := fun d0 v9 v468 k0_hw17 k0_h2 => k0_hw17 k0_h2

def k0_off93 : Fin 3 → Nat :=
  let c1_i32_379 : BitVec 32 := 1#32
  let c4_i32_380 : BitVec 32 := 4#32
  let v357 : BitVec 32 := Scalar.remsi c1_i32_379 c4_i32_380
  let c6_i32_513 : BitVec 32 := 6#32
  let c1_i32_514 : BitVec 32 := 1#32
  ![v357.toNat, 6, 1]
def k0_off94 : Fin 5 → Nat :=
  let c1_i32_379 : BitVec 32 := 1#32
  let c4_i32_380 : BitVec 32 := 4#32
  let v357 : BitVec 32 := Scalar.remsi c1_i32_379 c4_i32_380
  let c6_i32_512 : BitVec 32 := 6#32
  let c0_i32_515 : BitVec 32 := 0#32
  let c0_i32_516 : BitVec 32 := 0#32
  let c0_i32_517 : BitVec 32 := 0#32
  ![v357.toNat, 6, 0, 0, 0]
def k0_off95 (v359 : BitVec 32) (v361 : BitVec 32) : Fin 2 → Nat :=
  let v483 : Index := Scalar.indexCast v359
  let c8_i32_521 : BitVec 32 := 8#32
  let v481 : BitVec 32 := Scalar.muli v361 c8_i32_521
  let c7_i32 : BitVec 32 := 7#32
  let v482 : BitVec 32 := Scalar.addi v481 c7_i32
  let v484 : Index := Scalar.indexCast v482
  ![v483.toNat, v484.toNat]

def k0_chk10 (d0 : Dev nD) (v9 : BitVec 32) (v359 : BitVec 32) (v361 : BitVec 32) : Prop :=
  (∀ (k0_h2 : k0_cond2 d0 v9 = 1#1), ∀ a, (k0_off53 v359 v361) a + S1x1.size a ≤ S32x256.size a) ∧
  (∀ (k0_h2 : k0_cond2 d0 v9 = 1#1), ∀ a, (k0_off59 v359 v361) a + S1x1.size a ≤ S32x256.size a) ∧
  (∀ (k0_h2 : k0_cond2 d0 v9 = 1#1), ∀ a, (k0_off65 v359 v361) a + S1x1.size a ≤ S32x256.size a) ∧
  (∀ (k0_h2 : k0_cond2 d0 v9 = 1#1), ∀ a, (k0_off71 v359 v361) a + S1x1.size a ≤ S32x256.size a) ∧
  (∀ (k0_h2 : k0_cond2 d0 v9 = 1#1), ∀ a, (k0_off77 v359 v361) a + S1x1.size a ≤ S32x256.size a) ∧
  (∀ (k0_h2 : k0_cond2 d0 v9 = 1#1), ∀ a, (k0_off83 v359 v361) a + S1x1.size a ≤ S32x256.size a) ∧
  (∀ (k0_h2 : k0_cond2 d0 v9 = 1#1), ∀ a, (k0_off89 v359 v361) a + S1x1.size a ≤ S32x256.size a) ∧
  (∀ (k0_h2 : k0_cond2 d0 v9 = 1#1), ∀ a, (k0_off95 v359 v361) a + S1x1.size a ≤ S32x256.size a)
theorem k0_off53_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off53 v359 v361) a + S1x1.size a ≤ S32x256.size a := fun d0 v9 v359 v361 k0_hw10 k0_h2 => k0_hw10.1 k0_h2
theorem k0_off59_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off59 v359 v361) a + S1x1.size a ≤ S32x256.size a := fun d0 v9 v359 v361 k0_hw10 k0_h2 => k0_hw10.2.1 k0_h2
theorem k0_off65_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off65 v359 v361) a + S1x1.size a ≤ S32x256.size a := fun d0 v9 v359 v361 k0_hw10 k0_h2 => k0_hw10.2.2.1 k0_h2
theorem k0_off71_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off71 v359 v361) a + S1x1.size a ≤ S32x256.size a := fun d0 v9 v359 v361 k0_hw10 k0_h2 => k0_hw10.2.2.2.1 k0_h2
theorem k0_off77_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off77 v359 v361) a + S1x1.size a ≤ S32x256.size a := fun d0 v9 v359 v361 k0_hw10 k0_h2 => k0_hw10.2.2.2.2.1 k0_h2
theorem k0_off83_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off83 v359 v361) a + S1x1.size a ≤ S32x256.size a := fun d0 v9 v359 v361 k0_hw10 k0_h2 => k0_hw10.2.2.2.2.2.1 k0_h2
theorem k0_off89_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off89 v359 v361) a + S1x1.size a ≤ S32x256.size a := fun d0 v9 v359 v361 k0_hw10 k0_h2 => k0_hw10.2.2.2.2.2.2.1 k0_h2
theorem k0_off95_inb : ∀ (d0 : Dev nD) (v9 : BitVec 32) (v359 : BitVec 32) (v361 : BitVec 32) (k0_hw10 : k0_chk10 d0 v9 v359 v361), ∀ (k0_h2 : k0_cond2 d0 v9 = 1#1), ∀ a, (k0_off95 v359 v361) a + S1x1.size a ≤ S32x256.size a := fun d0 v9 v359 v361 k0_hw10 k0_h2 => k0_hw10.2.2.2.2.2.2.2 k0_h2

def k0_off96 : Fin 3 → Nat :=
  let c1_i32_379 : BitVec 32 := 1#32
  let c4_i32_380 : BitVec 32 := 4#32
  let v357 : BitVec 32 := Scalar.remsi c1_i32_379 c4_i32_380
  let c7_i32_523 : BitVec 32 := 7#32
  let c0_i32_524 : BitVec 32 := 0#32
  ![v357.toNat, 7, 0]
def k0_off97 : Fin 5 → Nat :=
  let c1_i32_379 : BitVec 32 := 1#32
  let c4_i32_380 : BitVec 32 := 4#32
  let v357 : BitVec 32 := Scalar.remsi c1_i32_379 c4_i32_380
  let c7_i32_522 : BitVec 32 := 7#32
  let c0_i32_525 : BitVec 32 := 0#32
  let c0_i32_526 : BitVec 32 := 0#32
  let c0_i32_527 : BitVec 32 := 0#32
  ![v357.toNat, 7, 0, 0, 0]
def k0_off98 (v485 : BitVec 32) : Fin 4 → Nat :=
  let c0_i32_528 : BitVec 32 := 0#32
  let c0_i32_529 : BitVec 32 := 0#32
  let c0_i32_530 : BitVec 32 := 0#32
  ![v485.toNat, 0, 0, 0]

def k0_chk18 (d0 : Dev nD) (v9 : BitVec 32) (v485 : BitVec 32) : Prop :=
  (∀ (k0_h2 : k0_cond2 d0 v9 = 1#1), ∀ a, (k0_off98 v485) a + S1x32x16x128.size a ≤ S256x32x16x128.size a)
theorem k0_off98_inb : ∀ (d0 : Dev nD) (v9 : BitVec 32) (v485 : BitVec 32) (k0_hw18 : k0_chk18 d0 v9 v485), ∀ (k0_h2 : k0_cond2 d0 v9 = 1#1), ∀ a, (k0_off98 v485) a + S1x32x16x128.size a ≤ S256x32x16x128.size a := fun d0 v9 v485 k0_hw18 k0_h2 => k0_hw18 k0_h2

def k0_off99 : Fin 3 → Nat :=
  let c1_i32_379 : BitVec 32 := 1#32
  let c4_i32_380 : BitVec 32 := 4#32
  let v357 : BitVec 32 := Scalar.remsi c1_i32_379 c4_i32_380
  let c7_i32_532 : BitVec 32 := 7#32
  let c1_i32_533 : BitVec 32 := 1#32
  ![v357.toNat, 7, 1]
def k0_off100 : Fin 5 → Nat :=
  let c1_i32_379 : BitVec 32 := 1#32
  let c4_i32_380 : BitVec 32 := 4#32
  let v357 : BitVec 32 := Scalar.remsi c1_i32_379 c4_i32_380
  let c7_i32_531 : BitVec 32 := 7#32
  let c0_i32_534 : BitVec 32 := 0#32
  let c0_i32_535 : BitVec 32 := 0#32
  let c0_i32_536 : BitVec 32 := 0#32
  ![v357.toNat, 7, 0, 0, 0]
def k0_off101 (d0 : Dev nD) : Fin 2 → Nat :=
  let c0_380 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c16_i32 : BitVec 32 := 16#32
  let v356 : BitVec 32 := Scalar.addi v11 c16_i32
  let v358 : Index := Scalar.indexCast v356
  ![0, v358.toNat]
def k0_off102 (d0 : Dev nD) : Fin 2 → Nat :=
  let c1_381 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c16_i32 : BitVec 32 := 16#32
  let v356 : BitVec 32 := Scalar.addi v11 c16_i32
  let v360 : Index := Scalar.indexCast v356
  ![1, v360.toNat]
def k0_off103 (v359 : BitVec 32) (v361 : BitVec 32) : Fin 2 → Nat :=
  let v364 : Index := Scalar.indexCast v359
  let c8_i32_382 : BitVec 32 := 8#32
  let v362 : BitVec 32 := Scalar.muli v361 c8_i32_382
  let c0_i32_383 : BitVec 32 := 0#32
  let v363 : BitVec 32 := Scalar.addi v362 c0_i32_383
  let v365 : Index := Scalar.indexCast v363
  ![v364.toNat, v365.toNat]
def k0_cond3 (d0 : Dev nD) (v9 : BitVec 32) : BitVec 1 :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let c2_i32_47 : BitVec 32 := 2#32
  let v76 : BitVec 1 := Scalar.cmpi .sgt v69 c2_i32_47
  let v77 : BitVec 32 := Scalar.extui v76
  let c0_i32_48 : BitVec 32 := 0#32
  let v78 : BitVec 1 := Scalar.cmpi .ne v77 c0_i32_48
  v78

def k0_off104 : Fin 3 → Nat :=
  let c2_i32_378 : BitVec 32 := 2#32
  let c4_i32_379 : BitVec 32 := 4#32
  let v357 : BitVec 32 := Scalar.remsi c2_i32_378 c4_i32_379
  let c0_i32_385 : BitVec 32 := 0#32
  let c0_i32_386 : BitVec 32 := 0#32
  ![v357.toNat, 0, 0]
def k0_off105 : Fin 5 → Nat :=
  let c2_i32_378 : BitVec 32 := 2#32
  let c4_i32_379 : BitVec 32 := 4#32
  let v357 : BitVec 32 := Scalar.remsi c2_i32_378 c4_i32_379
  let c0_i32_384 : BitVec 32 := 0#32
  let c0_i32_387 : BitVec 32 := 0#32
  let c0_i32_388 : BitVec 32 := 0#32
  let c0_i32_389 : BitVec 32 := 0#32
  ![v357.toNat, 0, 0, 0, 0]
def k0_off106 (v366 : BitVec 32) : Fin 4 → Nat :=
  let c0_i32_390 : BitVec 32 := 0#32
  let c0_i32_391 : BitVec 32 := 0#32
  let c0_i32_392 : BitVec 32 := 0#32
  ![v366.toNat, 0, 0, 0]

def k0_chk20 (d0 : Dev nD) (v9 : BitVec 32) (v366 : BitVec 32) : Prop :=
  (∀ (k0_h3 : k0_cond3 d0 v9 = 1#1), ∀ a, (k0_off106 v366) a + S1x32x16x128.size a ≤ S256x32x16x128.size a)
theorem k0_off106_inb : ∀ (d0 : Dev nD) (v9 : BitVec 32) (v366 : BitVec 32) (k0_hw20 : k0_chk20 d0 v9 v366), ∀ (k0_h3 : k0_cond3 d0 v9 = 1#1), ∀ a, (k0_off106 v366) a + S1x32x16x128.size a ≤ S256x32x16x128.size a := fun d0 v9 v366 k0_hw20 k0_h3 => k0_hw20 k0_h3

def k0_off107 : Fin 3 → Nat :=
  let c2_i32_378 : BitVec 32 := 2#32
  let c4_i32_379 : BitVec 32 := 4#32
  let v357 : BitVec 32 := Scalar.remsi c2_i32_378 c4_i32_379
  let c0_i32_394 : BitVec 32 := 0#32
  let c1_i32_395 : BitVec 32 := 1#32
  ![v357.toNat, 0, 1]
def k0_off108 : Fin 5 → Nat :=
  let c2_i32_378 : BitVec 32 := 2#32
  let c4_i32_379 : BitVec 32 := 4#32
  let v357 : BitVec 32 := Scalar.remsi c2_i32_378 c4_i32_379
  let c0_i32_393 : BitVec 32 := 0#32
  let c0_i32_396 : BitVec 32 := 0#32
  let c0_i32_397 : BitVec 32 := 0#32
  let c0_i32_398 : BitVec 32 := 0#32
  ![v357.toNat, 0, 0, 0, 0]
def k0_off109 (v359 : BitVec 32) (v361 : BitVec 32) : Fin 2 → Nat :=
  let v381 : Index := Scalar.indexCast v359
  let c8_i32_402 : BitVec 32 := 8#32
  let v379 : BitVec 32 := Scalar.muli v361 c8_i32_402
  let c1_i32_403 : BitVec 32 := 1#32
  let v380 : BitVec 32 := Scalar.addi v379 c1_i32_403
  let v382 : Index := Scalar.indexCast v380
  ![v381.toNat, v382.toNat]
def k0_off110 : Fin 3 → Nat :=
  let c2_i32_378 : BitVec 32 := 2#32
  let c4_i32_379 : BitVec 32 := 4#32
  let v357 : BitVec 32 := Scalar.remsi c2_i32_378 c4_i32_379
  let c1_i32_405 : BitVec 32 := 1#32
  let c0_i32_406 : BitVec 32 := 0#32
  ![v357.toNat, 1, 0]
def k0_off111 : Fin 5 → Nat :=
  let c2_i32_378 : BitVec 32 := 2#32
  let c4_i32_379 : BitVec 32 := 4#32
  let v357 : BitVec 32 := Scalar.remsi c2_i32_378 c4_i32_379
  let c1_i32_404 : BitVec 32 := 1#32
  let c0_i32_407 : BitVec 32 := 0#32
  let c0_i32_408 : BitVec 32 := 0#32
  let c0_i32_409 : BitVec 32 := 0#32
  ![v357.toNat, 1, 0, 0, 0]
def k0_off112 (v383 : BitVec 32) : Fin 4 → Nat :=
  let c0_i32_410 : BitVec 32 := 0#32
  let c0_i32_411 : BitVec 32 := 0#32
  let c0_i32_412 : BitVec 32 := 0#32
  ![v383.toNat, 0, 0, 0]

def k0_chk21 (d0 : Dev nD) (v9 : BitVec 32) (v383 : BitVec 32) : Prop :=
  (∀ (k0_h3 : k0_cond3 d0 v9 = 1#1), ∀ a, (k0_off112 v383) a + S1x32x16x128.size a ≤ S256x32x16x128.size a)
theorem k0_off112_inb : ∀ (d0 : Dev nD) (v9 : BitVec 32) (v383 : BitVec 32) (k0_hw21 : k0_chk21 d0 v9 v383), ∀ (k0_h3 : k0_cond3 d0 v9 = 1#1), ∀ a, (k0_off112 v383) a + S1x32x16x128.size a ≤ S256x32x16x128.size a := fun d0 v9 v383 k0_hw21 k0_h3 => k0_hw21 k0_h3

def k0_off113 : Fin 3 → Nat :=
  let c2_i32_378 : BitVec 32 := 2#32
  let c4_i32_379 : BitVec 32 := 4#32
  let v357 : BitVec 32 := Scalar.remsi c2_i32_378 c4_i32_379
  let c1_i32_414 : BitVec 32 := 1#32
  let c1_i32_415 : BitVec 32 := 1#32
  ![v357.toNat, 1, 1]
def k0_off114 : Fin 5 → Nat :=
  let c2_i32_378 : BitVec 32 := 2#32
  let c4_i32_379 : BitVec 32 := 4#32
  let v357 : BitVec 32 := Scalar.remsi c2_i32_378 c4_i32_379
  let c1_i32_413 : BitVec 32 := 1#32
  let c0_i32_416 : BitVec 32 := 0#32
  let c0_i32_417 : BitVec 32 := 0#32
  let c0_i32_418 : BitVec 32 := 0#32
  ![v357.toNat, 1, 0, 0, 0]
def k0_off115 (v359 : BitVec 32) (v361 : BitVec 32) : Fin 2 → Nat :=
  let v398 : Index := Scalar.indexCast v359
  let c8_i32_422 : BitVec 32 := 8#32
  let v396 : BitVec 32 := Scalar.muli v361 c8_i32_422
  let c2_i32_423 : BitVec 32 := 2#32
  let v397 : BitVec 32 := Scalar.addi v396 c2_i32_423
  let v399 : Index := Scalar.indexCast v397
  ![v398.toNat, v399.toNat]
def k0_off116 : Fin 3 → Nat :=
  let c2_i32_378 : BitVec 32 := 2#32
  let c4_i32_379 : BitVec 32 := 4#32
  let v357 : BitVec 32 := Scalar.remsi c2_i32_378 c4_i32_379
  let c2_i32_425 : BitVec 32 := 2#32
  let c0_i32_426 : BitVec 32 := 0#32
  ![v357.toNat, 2, 0]
def k0_off117 : Fin 5 → Nat :=
  let c2_i32_378 : BitVec 32 := 2#32
  let c4_i32_379 : BitVec 32 := 4#32
  let v357 : BitVec 32 := Scalar.remsi c2_i32_378 c4_i32_379
  let c2_i32_424 : BitVec 32 := 2#32
  let c0_i32_427 : BitVec 32 := 0#32
  let c0_i32_428 : BitVec 32 := 0#32
  let c0_i32_429 : BitVec 32 := 0#32
  ![v357.toNat, 2, 0, 0, 0]
def k0_off118 (v400 : BitVec 32) : Fin 4 → Nat :=
  let c0_i32_430 : BitVec 32 := 0#32
  let c0_i32_431 : BitVec 32 := 0#32
  let c0_i32_432 : BitVec 32 := 0#32
  ![v400.toNat, 0, 0, 0]

def k0_chk22 (d0 : Dev nD) (v9 : BitVec 32) (v400 : BitVec 32) : Prop :=
  (∀ (k0_h3 : k0_cond3 d0 v9 = 1#1), ∀ a, (k0_off118 v400) a + S1x32x16x128.size a ≤ S256x32x16x128.size a)
theorem k0_off118_inb : ∀ (d0 : Dev nD) (v9 : BitVec 32) (v400 : BitVec 32) (k0_hw22 : k0_chk22 d0 v9 v400), ∀ (k0_h3 : k0_cond3 d0 v9 = 1#1), ∀ a, (k0_off118 v400) a + S1x32x16x128.size a ≤ S256x32x16x128.size a := fun d0 v9 v400 k0_hw22 k0_h3 => k0_hw22 k0_h3

def k0_off119 : Fin 3 → Nat :=
  let c2_i32_378 : BitVec 32 := 2#32
  let c4_i32_379 : BitVec 32 := 4#32
  let v357 : BitVec 32 := Scalar.remsi c2_i32_378 c4_i32_379
  let c2_i32_434 : BitVec 32 := 2#32
  let c1_i32_435 : BitVec 32 := 1#32
  ![v357.toNat, 2, 1]
def k0_off120 : Fin 5 → Nat :=
  let c2_i32_378 : BitVec 32 := 2#32
  let c4_i32_379 : BitVec 32 := 4#32
  let v357 : BitVec 32 := Scalar.remsi c2_i32_378 c4_i32_379
  let c2_i32_433 : BitVec 32 := 2#32
  let c0_i32_436 : BitVec 32 := 0#32
  let c0_i32_437 : BitVec 32 := 0#32
  let c0_i32_438 : BitVec 32 := 0#32
  ![v357.toNat, 2, 0, 0, 0]
def k0_off121 (v359 : BitVec 32) (v361 : BitVec 32) : Fin 2 → Nat :=
  let v415 : Index := Scalar.indexCast v359
  let c8_i32_442 : BitVec 32 := 8#32
  let v413 : BitVec 32 := Scalar.muli v361 c8_i32_442
  let c3_i32_443 : BitVec 32 := 3#32
  let v414 : BitVec 32 := Scalar.addi v413 c3_i32_443
  let v416 : Index := Scalar.indexCast v414
  ![v415.toNat, v416.toNat]
def k0_off122 : Fin 3 → Nat :=
  let c2_i32_378 : BitVec 32 := 2#32
  let c4_i32_379 : BitVec 32 := 4#32
  let v357 : BitVec 32 := Scalar.remsi c2_i32_378 c4_i32_379
  let c3_i32_445 : BitVec 32 := 3#32
  let c0_i32_446 : BitVec 32 := 0#32
  ![v357.toNat, 3, 0]
def k0_off123 : Fin 5 → Nat :=
  let c2_i32_378 : BitVec 32 := 2#32
  let c4_i32_379 : BitVec 32 := 4#32
  let v357 : BitVec 32 := Scalar.remsi c2_i32_378 c4_i32_379
  let c3_i32_444 : BitVec 32 := 3#32
  let c0_i32_447 : BitVec 32 := 0#32
  let c0_i32_448 : BitVec 32 := 0#32
  let c0_i32_449 : BitVec 32 := 0#32
  ![v357.toNat, 3, 0, 0, 0]
def k0_off124 (v417 : BitVec 32) : Fin 4 → Nat :=
  let c0_i32_450 : BitVec 32 := 0#32
  let c0_i32_451 : BitVec 32 := 0#32
  let c0_i32_452 : BitVec 32 := 0#32
  ![v417.toNat, 0, 0, 0]

def k0_chk23 (d0 : Dev nD) (v9 : BitVec 32) (v417 : BitVec 32) : Prop :=
  (∀ (k0_h3 : k0_cond3 d0 v9 = 1#1), ∀ a, (k0_off124 v417) a + S1x32x16x128.size a ≤ S256x32x16x128.size a)
theorem k0_off124_inb : ∀ (d0 : Dev nD) (v9 : BitVec 32) (v417 : BitVec 32) (k0_hw23 : k0_chk23 d0 v9 v417), ∀ (k0_h3 : k0_cond3 d0 v9 = 1#1), ∀ a, (k0_off124 v417) a + S1x32x16x128.size a ≤ S256x32x16x128.size a := fun d0 v9 v417 k0_hw23 k0_h3 => k0_hw23 k0_h3

def k0_off125 : Fin 3 → Nat :=
  let c2_i32_378 : BitVec 32 := 2#32
  let c4_i32_379 : BitVec 32 := 4#32
  let v357 : BitVec 32 := Scalar.remsi c2_i32_378 c4_i32_379
  let c3_i32_454 : BitVec 32 := 3#32
  let c1_i32_455 : BitVec 32 := 1#32
  ![v357.toNat, 3, 1]
def k0_off126 : Fin 5 → Nat :=
  let c2_i32_378 : BitVec 32 := 2#32
  let c4_i32_379 : BitVec 32 := 4#32
  let v357 : BitVec 32 := Scalar.remsi c2_i32_378 c4_i32_379
  let c3_i32_453 : BitVec 32 := 3#32
  let c0_i32_456 : BitVec 32 := 0#32
  let c0_i32_457 : BitVec 32 := 0#32
  let c0_i32_458 : BitVec 32 := 0#32
  ![v357.toNat, 3, 0, 0, 0]
def k0_off127 (v359 : BitVec 32) (v361 : BitVec 32) : Fin 2 → Nat :=
  let v432 : Index := Scalar.indexCast v359
  let c8_i32_462 : BitVec 32 := 8#32
  let v430 : BitVec 32 := Scalar.muli v361 c8_i32_462
  let c4_i32_463 : BitVec 32 := 4#32
  let v431 : BitVec 32 := Scalar.addi v430 c4_i32_463
  let v433 : Index := Scalar.indexCast v431
  ![v432.toNat, v433.toNat]
def k0_off128 : Fin 3 → Nat :=
  let c2_i32_378 : BitVec 32 := 2#32
  let c4_i32_379 : BitVec 32 := 4#32
  let v357 : BitVec 32 := Scalar.remsi c2_i32_378 c4_i32_379
  let c4_i32_465 : BitVec 32 := 4#32
  let c0_i32_466 : BitVec 32 := 0#32
  ![v357.toNat, 4, 0]
def k0_off129 : Fin 5 → Nat :=
  let c2_i32_378 : BitVec 32 := 2#32
  let c4_i32_379 : BitVec 32 := 4#32
  let v357 : BitVec 32 := Scalar.remsi c2_i32_378 c4_i32_379
  let c4_i32_464 : BitVec 32 := 4#32
  let c0_i32_467 : BitVec 32 := 0#32
  let c0_i32_468 : BitVec 32 := 0#32
  let c0_i32_469 : BitVec 32 := 0#32
  ![v357.toNat, 4, 0, 0, 0]
def k0_off130 (v434 : BitVec 32) : Fin 4 → Nat :=
  let c0_i32_470 : BitVec 32 := 0#32
  let c0_i32_471 : BitVec 32 := 0#32
  let c0_i32_472 : BitVec 32 := 0#32
  ![v434.toNat, 0, 0, 0]

def k0_chk24 (d0 : Dev nD) (v9 : BitVec 32) (v434 : BitVec 32) : Prop :=
  (∀ (k0_h3 : k0_cond3 d0 v9 = 1#1), ∀ a, (k0_off130 v434) a + S1x32x16x128.size a ≤ S256x32x16x128.size a)
theorem k0_off130_inb : ∀ (d0 : Dev nD) (v9 : BitVec 32) (v434 : BitVec 32) (k0_hw24 : k0_chk24 d0 v9 v434), ∀ (k0_h3 : k0_cond3 d0 v9 = 1#1), ∀ a, (k0_off130 v434) a + S1x32x16x128.size a ≤ S256x32x16x128.size a := fun d0 v9 v434 k0_hw24 k0_h3 => k0_hw24 k0_h3

def k0_off131 : Fin 3 → Nat :=
  let c2_i32_378 : BitVec 32 := 2#32
  let c4_i32_379 : BitVec 32 := 4#32
  let v357 : BitVec 32 := Scalar.remsi c2_i32_378 c4_i32_379
  let c4_i32_474 : BitVec 32 := 4#32
  let c1_i32_475 : BitVec 32 := 1#32
  ![v357.toNat, 4, 1]
def k0_off132 : Fin 5 → Nat :=
  let c2_i32_378 : BitVec 32 := 2#32
  let c4_i32_379 : BitVec 32 := 4#32
  let v357 : BitVec 32 := Scalar.remsi c2_i32_378 c4_i32_379
  let c4_i32_473 : BitVec 32 := 4#32
  let c0_i32_476 : BitVec 32 := 0#32
  let c0_i32_477 : BitVec 32 := 0#32
  let c0_i32_478 : BitVec 32 := 0#32
  ![v357.toNat, 4, 0, 0, 0]
def k0_off133 (v359 : BitVec 32) (v361 : BitVec 32) : Fin 2 → Nat :=
  let v449 : Index := Scalar.indexCast v359
  let c8_i32_482 : BitVec 32 := 8#32
  let v447 : BitVec 32 := Scalar.muli v361 c8_i32_482
  let c5_i32 : BitVec 32 := 5#32
  let v448 : BitVec 32 := Scalar.addi v447 c5_i32
  let v450 : Index := Scalar.indexCast v448
  ![v449.toNat, v450.toNat]
def k0_off134 : Fin 3 → Nat :=
  let c2_i32_378 : BitVec 32 := 2#32
  let c4_i32_379 : BitVec 32 := 4#32
  let v357 : BitVec 32 := Scalar.remsi c2_i32_378 c4_i32_379
  let c5_i32_484 : BitVec 32 := 5#32
  let c0_i32_485 : BitVec 32 := 0#32
  ![v357.toNat, 5, 0]
def k0_off135 : Fin 5 → Nat :=
  let c2_i32_378 : BitVec 32 := 2#32
  let c4_i32_379 : BitVec 32 := 4#32
  let v357 : BitVec 32 := Scalar.remsi c2_i32_378 c4_i32_379
  let c5_i32_483 : BitVec 32 := 5#32
  let c0_i32_486 : BitVec 32 := 0#32
  let c0_i32_487 : BitVec 32 := 0#32
  let c0_i32_488 : BitVec 32 := 0#32
  ![v357.toNat, 5, 0, 0, 0]
def k0_off136 (v451 : BitVec 32) : Fin 4 → Nat :=
  let c0_i32_489 : BitVec 32 := 0#32
  let c0_i32_490 : BitVec 32 := 0#32
  let c0_i32_491 : BitVec 32 := 0#32
  ![v451.toNat, 0, 0, 0]

def k0_chk25 (d0 : Dev nD) (v9 : BitVec 32) (v451 : BitVec 32) : Prop :=
  (∀ (k0_h3 : k0_cond3 d0 v9 = 1#1), ∀ a, (k0_off136 v451) a + S1x32x16x128.size a ≤ S256x32x16x128.size a)
theorem k0_off136_inb : ∀ (d0 : Dev nD) (v9 : BitVec 32) (v451 : BitVec 32) (k0_hw25 : k0_chk25 d0 v9 v451), ∀ (k0_h3 : k0_cond3 d0 v9 = 1#1), ∀ a, (k0_off136 v451) a + S1x32x16x128.size a ≤ S256x32x16x128.size a := fun d0 v9 v451 k0_hw25 k0_h3 => k0_hw25 k0_h3

def k0_off137 : Fin 3 → Nat :=
  let c2_i32_378 : BitVec 32 := 2#32
  let c4_i32_379 : BitVec 32 := 4#32
  let v357 : BitVec 32 := Scalar.remsi c2_i32_378 c4_i32_379
  let c5_i32_493 : BitVec 32 := 5#32
  let c1_i32_494 : BitVec 32 := 1#32
  ![v357.toNat, 5, 1]
def k0_off138 : Fin 5 → Nat :=
  let c2_i32_378 : BitVec 32 := 2#32
  let c4_i32_379 : BitVec 32 := 4#32
  let v357 : BitVec 32 := Scalar.remsi c2_i32_378 c4_i32_379
  let c5_i32_492 : BitVec 32 := 5#32
  let c0_i32_495 : BitVec 32 := 0#32
  let c0_i32_496 : BitVec 32 := 0#32
  let c0_i32_497 : BitVec 32 := 0#32
  ![v357.toNat, 5, 0, 0, 0]
def k0_off139 (v359 : BitVec 32) (v361 : BitVec 32) : Fin 2 → Nat :=
  let v466 : Index := Scalar.indexCast v359
  let c8_i32_501 : BitVec 32 := 8#32
  let v464 : BitVec 32 := Scalar.muli v361 c8_i32_501
  let c6_i32 : BitVec 32 := 6#32
  let v465 : BitVec 32 := Scalar.addi v464 c6_i32
  let v467 : Index := Scalar.indexCast v465
  ![v466.toNat, v467.toNat]
def k0_off140 : Fin 3 → Nat :=
  let c2_i32_378 : BitVec 32 := 2#32
  let c4_i32_379 : BitVec 32 := 4#32
  let v357 : BitVec 32 := Scalar.remsi c2_i32_378 c4_i32_379
  let c6_i32_503 : BitVec 32 := 6#32
  let c0_i32_504 : BitVec 32 := 0#32
  ![v357.toNat, 6, 0]
def k0_off141 : Fin 5 → Nat :=
  let c2_i32_378 : BitVec 32 := 2#32
  let c4_i32_379 : BitVec 32 := 4#32
  let v357 : BitVec 32 := Scalar.remsi c2_i32_378 c4_i32_379
  let c6_i32_502 : BitVec 32 := 6#32
  let c0_i32_505 : BitVec 32 := 0#32
  let c0_i32_506 : BitVec 32 := 0#32
  let c0_i32_507 : BitVec 32 := 0#32
  ![v357.toNat, 6, 0, 0, 0]
def k0_off142 (v468 : BitVec 32) : Fin 4 → Nat :=
  let c0_i32_508 : BitVec 32 := 0#32
  let c0_i32_509 : BitVec 32 := 0#32
  let c0_i32_510 : BitVec 32 := 0#32
  ![v468.toNat, 0, 0, 0]

def k0_chk26 (d0 : Dev nD) (v9 : BitVec 32) (v468 : BitVec 32) : Prop :=
  (∀ (k0_h3 : k0_cond3 d0 v9 = 1#1), ∀ a, (k0_off142 v468) a + S1x32x16x128.size a ≤ S256x32x16x128.size a)
theorem k0_off142_inb : ∀ (d0 : Dev nD) (v9 : BitVec 32) (v468 : BitVec 32) (k0_hw26 : k0_chk26 d0 v9 v468), ∀ (k0_h3 : k0_cond3 d0 v9 = 1#1), ∀ a, (k0_off142 v468) a + S1x32x16x128.size a ≤ S256x32x16x128.size a := fun d0 v9 v468 k0_hw26 k0_h3 => k0_hw26 k0_h3

def k0_off143 : Fin 3 → Nat :=
  let c2_i32_378 : BitVec 32 := 2#32
  let c4_i32_379 : BitVec 32 := 4#32
  let v357 : BitVec 32 := Scalar.remsi c2_i32_378 c4_i32_379
  let c6_i32_512 : BitVec 32 := 6#32
  let c1_i32_513 : BitVec 32 := 1#32
  ![v357.toNat, 6, 1]
def k0_off144 : Fin 5 → Nat :=
  let c2_i32_378 : BitVec 32 := 2#32
  let c4_i32_379 : BitVec 32 := 4#32
  let v357 : BitVec 32 := Scalar.remsi c2_i32_378 c4_i32_379
  let c6_i32_511 : BitVec 32 := 6#32
  let c0_i32_514 : BitVec 32 := 0#32
  let c0_i32_515 : BitVec 32 := 0#32
  let c0_i32_516 : BitVec 32 := 0#32
  ![v357.toNat, 6, 0, 0, 0]
def k0_off145 (v359 : BitVec 32) (v361 : BitVec 32) : Fin 2 → Nat :=
  let v483 : Index := Scalar.indexCast v359
  let c8_i32_520 : BitVec 32 := 8#32
  let v481 : BitVec 32 := Scalar.muli v361 c8_i32_520
  let c7_i32 : BitVec 32 := 7#32
  let v482 : BitVec 32 := Scalar.addi v481 c7_i32
  let v484 : Index := Scalar.indexCast v482
  ![v483.toNat, v484.toNat]

def k0_chk19 (d0 : Dev nD) (v9 : BitVec 32) (v359 : BitVec 32) (v361 : BitVec 32) : Prop :=
  (∀ (k0_h3 : k0_cond3 d0 v9 = 1#1), ∀ a, (k0_off103 v359 v361) a + S1x1.size a ≤ S32x256.size a) ∧
  (∀ (k0_h3 : k0_cond3 d0 v9 = 1#1), ∀ a, (k0_off109 v359 v361) a + S1x1.size a ≤ S32x256.size a) ∧
  (∀ (k0_h3 : k0_cond3 d0 v9 = 1#1), ∀ a, (k0_off115 v359 v361) a + S1x1.size a ≤ S32x256.size a) ∧
  (∀ (k0_h3 : k0_cond3 d0 v9 = 1#1), ∀ a, (k0_off121 v359 v361) a + S1x1.size a ≤ S32x256.size a) ∧
  (∀ (k0_h3 : k0_cond3 d0 v9 = 1#1), ∀ a, (k0_off127 v359 v361) a + S1x1.size a ≤ S32x256.size a) ∧
  (∀ (k0_h3 : k0_cond3 d0 v9 = 1#1), ∀ a, (k0_off133 v359 v361) a + S1x1.size a ≤ S32x256.size a) ∧
  (∀ (k0_h3 : k0_cond3 d0 v9 = 1#1), ∀ a, (k0_off139 v359 v361) a + S1x1.size a ≤ S32x256.size a) ∧
  (∀ (k0_h3 : k0_cond3 d0 v9 = 1#1), ∀ a, (k0_off145 v359 v361) a + S1x1.size a ≤ S32x256.size a)
theorem k0_off103_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off103 v359 v361) a + S1x1.size a ≤ S32x256.size a := fun d0 v9 v359 v361 k0_hw19 k0_h3 => k0_hw19.1 k0_h3
theorem k0_off109_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off109 v359 v361) a + S1x1.size a ≤ S32x256.size a := fun d0 v9 v359 v361 k0_hw19 k0_h3 => k0_hw19.2.1 k0_h3
theorem k0_off115_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off115 v359 v361) a + S1x1.size a ≤ S32x256.size a := fun d0 v9 v359 v361 k0_hw19 k0_h3 => k0_hw19.2.2.1 k0_h3
theorem k0_off121_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off121 v359 v361) a + S1x1.size a ≤ S32x256.size a := fun d0 v9 v359 v361 k0_hw19 k0_h3 => k0_hw19.2.2.2.1 k0_h3
theorem k0_off127_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off127 v359 v361) a + S1x1.size a ≤ S32x256.size a := fun d0 v9 v359 v361 k0_hw19 k0_h3 => k0_hw19.2.2.2.2.1 k0_h3
theorem k0_off133_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off133 v359 v361) a + S1x1.size a ≤ S32x256.size a := fun d0 v9 v359 v361 k0_hw19 k0_h3 => k0_hw19.2.2.2.2.2.1 k0_h3
theorem k0_off139_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off139 v359 v361) a + S1x1.size a ≤ S32x256.size a := fun d0 v9 v359 v361 k0_hw19 k0_h3 => k0_hw19.2.2.2.2.2.2.1 k0_h3
theorem k0_off145_inb : ∀ (d0 : Dev nD) (v9 : BitVec 32) (v359 : BitVec 32) (v361 : BitVec 32) (k0_hw19 : k0_chk19 d0 v9 v359 v361), ∀ (k0_h3 : k0_cond3 d0 v9 = 1#1), ∀ a, (k0_off145 v359 v361) a + S1x1.size a ≤ S32x256.size a := fun d0 v9 v359 v361 k0_hw19 k0_h3 => k0_hw19.2.2.2.2.2.2.2 k0_h3

def k0_off146 : Fin 3 → Nat :=
  let c2_i32_378 : BitVec 32 := 2#32
  let c4_i32_379 : BitVec 32 := 4#32
  let v357 : BitVec 32 := Scalar.remsi c2_i32_378 c4_i32_379
  let c7_i32_522 : BitVec 32 := 7#32
  let c0_i32_523 : BitVec 32 := 0#32
  ![v357.toNat, 7, 0]
def k0_off147 : Fin 5 → Nat :=
  let c2_i32_378 : BitVec 32 := 2#32
  let c4_i32_379 : BitVec 32 := 4#32
  let v357 : BitVec 32 := Scalar.remsi c2_i32_378 c4_i32_379
  let c7_i32_521 : BitVec 32 := 7#32
  let c0_i32_524 : BitVec 32 := 0#32
  let c0_i32_525 : BitVec 32 := 0#32
  let c0_i32_526 : BitVec 32 := 0#32
  ![v357.toNat, 7, 0, 0, 0]
def k0_off148 (v485 : BitVec 32) : Fin 4 → Nat :=
  let c0_i32_527 : BitVec 32 := 0#32
  let c0_i32_528 : BitVec 32 := 0#32
  let c0_i32_529 : BitVec 32 := 0#32
  ![v485.toNat, 0, 0, 0]

def k0_chk27 (d0 : Dev nD) (v9 : BitVec 32) (v485 : BitVec 32) : Prop :=
  (∀ (k0_h3 : k0_cond3 d0 v9 = 1#1), ∀ a, (k0_off148 v485) a + S1x32x16x128.size a ≤ S256x32x16x128.size a)
theorem k0_off148_inb : ∀ (d0 : Dev nD) (v9 : BitVec 32) (v485 : BitVec 32) (k0_hw27 : k0_chk27 d0 v9 v485), ∀ (k0_h3 : k0_cond3 d0 v9 = 1#1), ∀ a, (k0_off148 v485) a + S1x32x16x128.size a ≤ S256x32x16x128.size a := fun d0 v9 v485 k0_hw27 k0_h3 => k0_hw27 k0_h3

def k0_off149 : Fin 3 → Nat :=
  let c2_i32_378 : BitVec 32 := 2#32
  let c4_i32_379 : BitVec 32 := 4#32
  let v357 : BitVec 32 := Scalar.remsi c2_i32_378 c4_i32_379
  let c7_i32_531 : BitVec 32 := 7#32
  let c1_i32_532 : BitVec 32 := 1#32
  ![v357.toNat, 7, 1]
def k0_off150 : Fin 5 → Nat :=
  let c2_i32_378 : BitVec 32 := 2#32
  let c4_i32_379 : BitVec 32 := 4#32
  let v357 : BitVec 32 := Scalar.remsi c2_i32_378 c4_i32_379
  let c7_i32_530 : BitVec 32 := 7#32
  let c0_i32_533 : BitVec 32 := 0#32
  let c0_i32_534 : BitVec 32 := 0#32
  let c0_i32_535 : BitVec 32 := 0#32
  ![v357.toNat, 7, 0, 0, 0]
@[reducible] def k0_t1_loop (d0 : Dev nD) (v9 : BitVec 32) : Scf.Loop 32 :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_52 : BitVec 32 := 1#32
  ⟨c0_i32_49, v83, c1_i32_52⟩

def k0_off151 (d0 : Dev nD) (v9 : BitVec 32) (k0_t1 : Fin (k0_t1_loop d0 v9).trips) : Fin 2 → Nat :=
  let c0_574 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_572 : BitVec 32 := 8#32
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let v578 : BitVec 32 := Scalar.muli c8_i32_572 v577
  let v579 : BitVec 32 := Scalar.addi v11 v578
  let v581 : Index := Scalar.indexCast v579
  ![0, v581.toNat]
def k0_cond4 (d0 : Dev nD) (v9 : BitVec 32) (k0_t1 : Fin (k0_t1_loop d0 v9).trips) : BitVec 1 :=
  let c0_i32_49 : BitVec 32 := 0#32
  let c1_i32_52 : BitVec 32 := 1#32
  let arg17 : BitVec 32 := Scf.iv c0_i32_49 c1_i32_52 k0_t1
  let c3_i32_379 : BitVec 32 := 3#32
  let v357 : BitVec 32 := Scalar.addi arg17 c3_i32_379
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v358 : BitVec 1 := Scalar.cmpi .slt v357 v69
  let v359 : BitVec 32 := Scalar.extui v358
  let c0_i32_380 : BitVec 32 := 0#32
  let v360 : BitVec 1 := Scalar.cmpi .ne v359 c0_i32_380
  v360

def k0_off152 (d0 : Dev nD) (v9 : BitVec 32) (k0_t1 : Fin (k0_t1_loop d0 v9).trips) : Fin 2 → Nat :=
  let c1_575 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_572 : BitVec 32 := 8#32
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let v578 : BitVec 32 := Scalar.muli c8_i32_572 v577
  let v579 : BitVec 32 := Scalar.addi v11 v578
  let v583 : Index := Scalar.indexCast v579
  ![1, v583.toNat]
def k0_off153 (v582 : BitVec 32) (v584 : BitVec 32) : Fin 2 → Nat :=
  let v587 : Index := Scalar.indexCast v582
  let c8_i32_576 : BitVec 32 := 8#32
  let v585 : BitVec 32 := Scalar.muli v584 c8_i32_576
  let c0_i32_577 : BitVec 32 := 0#32
  let v586 : BitVec 32 := Scalar.addi v585 c0_i32_577
  let v588 : Index := Scalar.indexCast v586
  ![v587.toNat, v588.toNat]

def k0_off154 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c0_i32_579 : BitVec 32 := 0#32
  let c0_i32_580 : BitVec 32 := 0#32
  ![v580.toNat, 0, 0]
def k0_off155 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c0_i32_578 : BitVec 32 := 0#32
  let c0_i32_581 : BitVec 32 := 0#32
  let c0_i32_582 : BitVec 32 := 0#32
  let c0_i32_583 : BitVec 32 := 0#32
  ![v580.toNat, 0, 0, 0, 0]
def k0_off156 (v589 : BitVec 32) : Fin 4 → Nat :=
  let c0_i32_584 : BitVec 32 := 0#32
  let c0_i32_585 : BitVec 32 := 0#32
  let c0_i32_586 : BitVec 32 := 0#32
  ![v589.toNat, 0, 0, 0]

def k0_chk30 (d0 : Dev nD) (v9 : BitVec 32) (k0_t1 : Fin (k0_t1_loop d0 v9).trips) (v589 : BitVec 32) : Prop :=
  (∀ (k0_h4 : k0_cond4 d0 v9 k0_t1 = 1#1), ∀ a, (k0_off156 v589) a + S1x32x16x128.size a ≤ S256x32x16x128.size a)
theorem k0_off156_inb : ∀ (d0 : Dev nD) (v9 : BitVec 32) (k0_t1 : Fin (k0_t1_loop d0 v9).trips) (v589 : BitVec 32) (k0_hw30 : k0_chk30 d0 v9 k0_t1 v589), ∀ (k0_h4 : k0_cond4 d0 v9 k0_t1 = 1#1), ∀ a, (k0_off156 v589) a + S1x32x16x128.size a ≤ S256x32x16x128.size a := fun d0 v9 k0_t1 v589 k0_hw30 k0_h4 => k0_hw30 k0_h4

def k0_off157 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c0_i32_588 : BitVec 32 := 0#32
  let c1_i32_589 : BitVec 32 := 1#32
  ![v580.toNat, 0, 1]
def k0_off158 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c0_i32_587 : BitVec 32 := 0#32
  let c0_i32_590 : BitVec 32 := 0#32
  let c0_i32_591 : BitVec 32 := 0#32
  let c0_i32_592 : BitVec 32 := 0#32
  ![v580.toNat, 0, 0, 0, 0]
def k0_off159 (v582 : BitVec 32) (v584 : BitVec 32) : Fin 2 → Nat :=
  let v604 : Index := Scalar.indexCast v582
  let c8_i32_596 : BitVec 32 := 8#32
  let v602 : BitVec 32 := Scalar.muli v584 c8_i32_596
  let c1_i32_597 : BitVec 32 := 1#32
  let v603 : BitVec 32 := Scalar.addi v602 c1_i32_597
  let v605 : Index := Scalar.indexCast v603
  ![v604.toNat, v605.toNat]
def k0_off160 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c1_i32_599 : BitVec 32 := 1#32
  let c0_i32_600 : BitVec 32 := 0#32
  ![v580.toNat, 1, 0]
def k0_off161 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c1_i32_598 : BitVec 32 := 1#32
  let c0_i32_601 : BitVec 32 := 0#32
  let c0_i32_602 : BitVec 32 := 0#32
  let c0_i32_603 : BitVec 32 := 0#32
  ![v580.toNat, 1, 0, 0, 0]
def k0_off162 (v606 : BitVec 32) : Fin 4 → Nat :=
  let c0_i32_604 : BitVec 32 := 0#32
  let c0_i32_605 : BitVec 32 := 0#32
  let c0_i32_606 : BitVec 32 := 0#32
  ![v606.toNat, 0, 0, 0]

def k0_chk31 (d0 : Dev nD) (v9 : BitVec 32) (k0_t1 : Fin (k0_t1_loop d0 v9).trips) (v606 : BitVec 32) : Prop :=
  (∀ (k0_h4 : k0_cond4 d0 v9 k0_t1 = 1#1), ∀ a, (k0_off162 v606) a + S1x32x16x128.size a ≤ S256x32x16x128.size a)
theorem k0_off162_inb : ∀ (d0 : Dev nD) (v9 : BitVec 32) (k0_t1 : Fin (k0_t1_loop d0 v9).trips) (v606 : BitVec 32) (k0_hw31 : k0_chk31 d0 v9 k0_t1 v606), ∀ (k0_h4 : k0_cond4 d0 v9 k0_t1 = 1#1), ∀ a, (k0_off162 v606) a + S1x32x16x128.size a ≤ S256x32x16x128.size a := fun d0 v9 k0_t1 v606 k0_hw31 k0_h4 => k0_hw31 k0_h4

def k0_off163 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c1_i32_608 : BitVec 32 := 1#32
  let c1_i32_609 : BitVec 32 := 1#32
  ![v580.toNat, 1, 1]
def k0_off164 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c1_i32_607 : BitVec 32 := 1#32
  let c0_i32_610 : BitVec 32 := 0#32
  let c0_i32_611 : BitVec 32 := 0#32
  let c0_i32_612 : BitVec 32 := 0#32
  ![v580.toNat, 1, 0, 0, 0]
def k0_off165 (v582 : BitVec 32) (v584 : BitVec 32) : Fin 2 → Nat :=
  let v621 : Index := Scalar.indexCast v582
  let c8_i32_616 : BitVec 32 := 8#32
  let v619 : BitVec 32 := Scalar.muli v584 c8_i32_616
  let c2_i32_617 : BitVec 32 := 2#32
  let v620 : BitVec 32 := Scalar.addi v619 c2_i32_617
  let v622 : Index := Scalar.indexCast v620
  ![v621.toNat, v622.toNat]
def k0_off166 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c2_i32_619 : BitVec 32 := 2#32
  let c0_i32_620 : BitVec 32 := 0#32
  ![v580.toNat, 2, 0]
def k0_off167 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c2_i32_618 : BitVec 32 := 2#32
  let c0_i32_621 : BitVec 32 := 0#32
  let c0_i32_622 : BitVec 32 := 0#32
  let c0_i32_623 : BitVec 32 := 0#32
  ![v580.toNat, 2, 0, 0, 0]
def k0_off168 (v623 : BitVec 32) : Fin 4 → Nat :=
  let c0_i32_624 : BitVec 32 := 0#32
  let c0_i32_625 : BitVec 32 := 0#32
  let c0_i32_626 : BitVec 32 := 0#32
  ![v623.toNat, 0, 0, 0]

def k0_chk32 (d0 : Dev nD) (v9 : BitVec 32) (k0_t1 : Fin (k0_t1_loop d0 v9).trips) (v623 : BitVec 32) : Prop :=
  (∀ (k0_h4 : k0_cond4 d0 v9 k0_t1 = 1#1), ∀ a, (k0_off168 v623) a + S1x32x16x128.size a ≤ S256x32x16x128.size a)
theorem k0_off168_inb : ∀ (d0 : Dev nD) (v9 : BitVec 32) (k0_t1 : Fin (k0_t1_loop d0 v9).trips) (v623 : BitVec 32) (k0_hw32 : k0_chk32 d0 v9 k0_t1 v623), ∀ (k0_h4 : k0_cond4 d0 v9 k0_t1 = 1#1), ∀ a, (k0_off168 v623) a + S1x32x16x128.size a ≤ S256x32x16x128.size a := fun d0 v9 k0_t1 v623 k0_hw32 k0_h4 => k0_hw32 k0_h4

def k0_off169 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c2_i32_628 : BitVec 32 := 2#32
  let c1_i32_629 : BitVec 32 := 1#32
  ![v580.toNat, 2, 1]
def k0_off170 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c2_i32_627 : BitVec 32 := 2#32
  let c0_i32_630 : BitVec 32 := 0#32
  let c0_i32_631 : BitVec 32 := 0#32
  let c0_i32_632 : BitVec 32 := 0#32
  ![v580.toNat, 2, 0, 0, 0]
def k0_off171 (v582 : BitVec 32) (v584 : BitVec 32) : Fin 2 → Nat :=
  let v638 : Index := Scalar.indexCast v582
  let c8_i32_636 : BitVec 32 := 8#32
  let v636 : BitVec 32 := Scalar.muli v584 c8_i32_636
  let c3_i32_637 : BitVec 32 := 3#32
  let v637 : BitVec 32 := Scalar.addi v636 c3_i32_637
  let v639 : Index := Scalar.indexCast v637
  ![v638.toNat, v639.toNat]
def k0_off172 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c3_i32_639 : BitVec 32 := 3#32
  let c0_i32_640 : BitVec 32 := 0#32
  ![v580.toNat, 3, 0]
def k0_off173 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c3_i32_638 : BitVec 32 := 3#32
  let c0_i32_641 : BitVec 32 := 0#32
  let c0_i32_642 : BitVec 32 := 0#32
  let c0_i32_643 : BitVec 32 := 0#32
  ![v580.toNat, 3, 0, 0, 0]
def k0_off174 (v640 : BitVec 32) : Fin 4 → Nat :=
  let c0_i32_644 : BitVec 32 := 0#32
  let c0_i32_645 : BitVec 32 := 0#32
  let c0_i32_646 : BitVec 32 := 0#32
  ![v640.toNat, 0, 0, 0]

def k0_chk33 (d0 : Dev nD) (v9 : BitVec 32) (k0_t1 : Fin (k0_t1_loop d0 v9).trips) (v640 : BitVec 32) : Prop :=
  (∀ (k0_h4 : k0_cond4 d0 v9 k0_t1 = 1#1), ∀ a, (k0_off174 v640) a + S1x32x16x128.size a ≤ S256x32x16x128.size a)
theorem k0_off174_inb : ∀ (d0 : Dev nD) (v9 : BitVec 32) (k0_t1 : Fin (k0_t1_loop d0 v9).trips) (v640 : BitVec 32) (k0_hw33 : k0_chk33 d0 v9 k0_t1 v640), ∀ (k0_h4 : k0_cond4 d0 v9 k0_t1 = 1#1), ∀ a, (k0_off174 v640) a + S1x32x16x128.size a ≤ S256x32x16x128.size a := fun d0 v9 k0_t1 v640 k0_hw33 k0_h4 => k0_hw33 k0_h4

def k0_off175 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c3_i32_648 : BitVec 32 := 3#32
  let c1_i32_649 : BitVec 32 := 1#32
  ![v580.toNat, 3, 1]
def k0_off176 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c3_i32_647 : BitVec 32 := 3#32
  let c0_i32_650 : BitVec 32 := 0#32
  let c0_i32_651 : BitVec 32 := 0#32
  let c0_i32_652 : BitVec 32 := 0#32
  ![v580.toNat, 3, 0, 0, 0]
def k0_off177 (v582 : BitVec 32) (v584 : BitVec 32) : Fin 2 → Nat :=
  let v655 : Index := Scalar.indexCast v582
  let c8_i32_656 : BitVec 32 := 8#32
  let v653 : BitVec 32 := Scalar.muli v584 c8_i32_656
  let c4_i32_657 : BitVec 32 := 4#32
  let v654 : BitVec 32 := Scalar.addi v653 c4_i32_657
  let v656 : Index := Scalar.indexCast v654
  ![v655.toNat, v656.toNat]
def k0_off178 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c4_i32_659 : BitVec 32 := 4#32
  let c0_i32_660 : BitVec 32 := 0#32
  ![v580.toNat, 4, 0]
def k0_off179 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c4_i32_658 : BitVec 32 := 4#32
  let c0_i32_661 : BitVec 32 := 0#32
  let c0_i32_662 : BitVec 32 := 0#32
  let c0_i32_663 : BitVec 32 := 0#32
  ![v580.toNat, 4, 0, 0, 0]
def k0_off180 (v657 : BitVec 32) : Fin 4 → Nat :=
  let c0_i32_664 : BitVec 32 := 0#32
  let c0_i32_665 : BitVec 32 := 0#32
  let c0_i32_666 : BitVec 32 := 0#32
  ![v657.toNat, 0, 0, 0]

def k0_chk34 (d0 : Dev nD) (v9 : BitVec 32) (k0_t1 : Fin (k0_t1_loop d0 v9).trips) (v657 : BitVec 32) : Prop :=
  (∀ (k0_h4 : k0_cond4 d0 v9 k0_t1 = 1#1), ∀ a, (k0_off180 v657) a + S1x32x16x128.size a ≤ S256x32x16x128.size a)
theorem k0_off180_inb : ∀ (d0 : Dev nD) (v9 : BitVec 32) (k0_t1 : Fin (k0_t1_loop d0 v9).trips) (v657 : BitVec 32) (k0_hw34 : k0_chk34 d0 v9 k0_t1 v657), ∀ (k0_h4 : k0_cond4 d0 v9 k0_t1 = 1#1), ∀ a, (k0_off180 v657) a + S1x32x16x128.size a ≤ S256x32x16x128.size a := fun d0 v9 k0_t1 v657 k0_hw34 k0_h4 => k0_hw34 k0_h4

def k0_off181 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c4_i32_668 : BitVec 32 := 4#32
  let c1_i32_669 : BitVec 32 := 1#32
  ![v580.toNat, 4, 1]
def k0_off182 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c4_i32_667 : BitVec 32 := 4#32
  let c0_i32_670 : BitVec 32 := 0#32
  let c0_i32_671 : BitVec 32 := 0#32
  let c0_i32_672 : BitVec 32 := 0#32
  ![v580.toNat, 4, 0, 0, 0]
def k0_off183 (v582 : BitVec 32) (v584 : BitVec 32) : Fin 2 → Nat :=
  let v672 : Index := Scalar.indexCast v582
  let c8_i32_676 : BitVec 32 := 8#32
  let v670 : BitVec 32 := Scalar.muli v584 c8_i32_676
  let c5_i32_677 : BitVec 32 := 5#32
  let v671 : BitVec 32 := Scalar.addi v670 c5_i32_677
  let v673 : Index := Scalar.indexCast v671
  ![v672.toNat, v673.toNat]
def k0_off184 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c5_i32_679 : BitVec 32 := 5#32
  let c0_i32_680 : BitVec 32 := 0#32
  ![v580.toNat, 5, 0]
def k0_off185 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c5_i32_678 : BitVec 32 := 5#32
  let c0_i32_681 : BitVec 32 := 0#32
  let c0_i32_682 : BitVec 32 := 0#32
  let c0_i32_683 : BitVec 32 := 0#32
  ![v580.toNat, 5, 0, 0, 0]
def k0_off186 (v674 : BitVec 32) : Fin 4 → Nat :=
  let c0_i32_684 : BitVec 32 := 0#32
  let c0_i32_685 : BitVec 32 := 0#32
  let c0_i32_686 : BitVec 32 := 0#32
  ![v674.toNat, 0, 0, 0]

def k0_chk35 (d0 : Dev nD) (v9 : BitVec 32) (k0_t1 : Fin (k0_t1_loop d0 v9).trips) (v674 : BitVec 32) : Prop :=
  (∀ (k0_h4 : k0_cond4 d0 v9 k0_t1 = 1#1), ∀ a, (k0_off186 v674) a + S1x32x16x128.size a ≤ S256x32x16x128.size a)
theorem k0_off186_inb : ∀ (d0 : Dev nD) (v9 : BitVec 32) (k0_t1 : Fin (k0_t1_loop d0 v9).trips) (v674 : BitVec 32) (k0_hw35 : k0_chk35 d0 v9 k0_t1 v674), ∀ (k0_h4 : k0_cond4 d0 v9 k0_t1 = 1#1), ∀ a, (k0_off186 v674) a + S1x32x16x128.size a ≤ S256x32x16x128.size a := fun d0 v9 k0_t1 v674 k0_hw35 k0_h4 => k0_hw35 k0_h4

def k0_off187 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c5_i32_688 : BitVec 32 := 5#32
  let c1_i32_689 : BitVec 32 := 1#32
  ![v580.toNat, 5, 1]
def k0_off188 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c5_i32_687 : BitVec 32 := 5#32
  let c0_i32_690 : BitVec 32 := 0#32
  let c0_i32_691 : BitVec 32 := 0#32
  let c0_i32_692 : BitVec 32 := 0#32
  ![v580.toNat, 5, 0, 0, 0]
def k0_off189 (v582 : BitVec 32) (v584 : BitVec 32) : Fin 2 → Nat :=
  let v689 : Index := Scalar.indexCast v582
  let c8_i32_696 : BitVec 32 := 8#32
  let v687 : BitVec 32 := Scalar.muli v584 c8_i32_696
  let c6_i32_697 : BitVec 32 := 6#32
  let v688 : BitVec 32 := Scalar.addi v687 c6_i32_697
  let v690 : Index := Scalar.indexCast v688
  ![v689.toNat, v690.toNat]
def k0_off190 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c6_i32_699 : BitVec 32 := 6#32
  let c0_i32_700 : BitVec 32 := 0#32
  ![v580.toNat, 6, 0]
def k0_off191 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c6_i32_698 : BitVec 32 := 6#32
  let c0_i32_701 : BitVec 32 := 0#32
  let c0_i32_702 : BitVec 32 := 0#32
  let c0_i32_703 : BitVec 32 := 0#32
  ![v580.toNat, 6, 0, 0, 0]
def k0_off192 (v691 : BitVec 32) : Fin 4 → Nat :=
  let c0_i32_704 : BitVec 32 := 0#32
  let c0_i32_705 : BitVec 32 := 0#32
  let c0_i32_706 : BitVec 32 := 0#32
  ![v691.toNat, 0, 0, 0]

def k0_chk36 (d0 : Dev nD) (v9 : BitVec 32) (k0_t1 : Fin (k0_t1_loop d0 v9).trips) (v691 : BitVec 32) : Prop :=
  (∀ (k0_h4 : k0_cond4 d0 v9 k0_t1 = 1#1), ∀ a, (k0_off192 v691) a + S1x32x16x128.size a ≤ S256x32x16x128.size a)
theorem k0_off192_inb : ∀ (d0 : Dev nD) (v9 : BitVec 32) (k0_t1 : Fin (k0_t1_loop d0 v9).trips) (v691 : BitVec 32) (k0_hw36 : k0_chk36 d0 v9 k0_t1 v691), ∀ (k0_h4 : k0_cond4 d0 v9 k0_t1 = 1#1), ∀ a, (k0_off192 v691) a + S1x32x16x128.size a ≤ S256x32x16x128.size a := fun d0 v9 k0_t1 v691 k0_hw36 k0_h4 => k0_hw36 k0_h4

def k0_off193 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c6_i32_708 : BitVec 32 := 6#32
  let c1_i32_709 : BitVec 32 := 1#32
  ![v580.toNat, 6, 1]
def k0_off194 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c6_i32_707 : BitVec 32 := 6#32
  let c0_i32_710 : BitVec 32 := 0#32
  let c0_i32_711 : BitVec 32 := 0#32
  let c0_i32_712 : BitVec 32 := 0#32
  ![v580.toNat, 6, 0, 0, 0]
def k0_off195 (v582 : BitVec 32) (v584 : BitVec 32) : Fin 2 → Nat :=
  let v706 : Index := Scalar.indexCast v582
  let c8_i32_716 : BitVec 32 := 8#32
  let v704 : BitVec 32 := Scalar.muli v584 c8_i32_716
  let c7_i32_717 : BitVec 32 := 7#32
  let v705 : BitVec 32 := Scalar.addi v704 c7_i32_717
  let v707 : Index := Scalar.indexCast v705
  ![v706.toNat, v707.toNat]

def k0_chk29 (d0 : Dev nD) (v9 : BitVec 32) (k0_t1 : Fin (k0_t1_loop d0 v9).trips) (v582 : BitVec 32) (v584 : BitVec 32) : Prop :=
  (∀ (k0_h4 : k0_cond4 d0 v9 k0_t1 = 1#1), ∀ a, (k0_off153 v582 v584) a + S1x1.size a ≤ S32x256.size a) ∧
  (∀ (k0_h4 : k0_cond4 d0 v9 k0_t1 = 1#1), ∀ a, (k0_off159 v582 v584) a + S1x1.size a ≤ S32x256.size a) ∧
  (∀ (k0_h4 : k0_cond4 d0 v9 k0_t1 = 1#1), ∀ a, (k0_off165 v582 v584) a + S1x1.size a ≤ S32x256.size a) ∧
  (∀ (k0_h4 : k0_cond4 d0 v9 k0_t1 = 1#1), ∀ a, (k0_off171 v582 v584) a + S1x1.size a ≤ S32x256.size a) ∧
  (∀ (k0_h4 : k0_cond4 d0 v9 k0_t1 = 1#1), ∀ a, (k0_off177 v582 v584) a + S1x1.size a ≤ S32x256.size a) ∧
  (∀ (k0_h4 : k0_cond4 d0 v9 k0_t1 = 1#1), ∀ a, (k0_off183 v582 v584) a + S1x1.size a ≤ S32x256.size a) ∧
  (∀ (k0_h4 : k0_cond4 d0 v9 k0_t1 = 1#1), ∀ a, (k0_off189 v582 v584) a + S1x1.size a ≤ S32x256.size a) ∧
  (∀ (k0_h4 : k0_cond4 d0 v9 k0_t1 = 1#1), ∀ a, (k0_off195 v582 v584) a + S1x1.size a ≤ S32x256.size a)
theorem k0_off153_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off153 v582 v584) a + S1x1.size a ≤ S32x256.size a := fun d0 v9 k0_t1 v582 v584 k0_hw29 k0_h4 => k0_hw29.1 k0_h4
theorem k0_off159_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off159 v582 v584) a + S1x1.size a ≤ S32x256.size a := fun d0 v9 k0_t1 v582 v584 k0_hw29 k0_h4 => k0_hw29.2.1 k0_h4
theorem k0_off165_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off165 v582 v584) a + S1x1.size a ≤ S32x256.size a := fun d0 v9 k0_t1 v582 v584 k0_hw29 k0_h4 => k0_hw29.2.2.1 k0_h4
theorem k0_off171_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off171 v582 v584) a + S1x1.size a ≤ S32x256.size a := fun d0 v9 k0_t1 v582 v584 k0_hw29 k0_h4 => k0_hw29.2.2.2.1 k0_h4
theorem k0_off177_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off177 v582 v584) a + S1x1.size a ≤ S32x256.size a := fun d0 v9 k0_t1 v582 v584 k0_hw29 k0_h4 => k0_hw29.2.2.2.2.1 k0_h4
theorem k0_off183_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off183 v582 v584) a + S1x1.size a ≤ S32x256.size a := fun d0 v9 k0_t1 v582 v584 k0_hw29 k0_h4 => k0_hw29.2.2.2.2.2.1 k0_h4
theorem k0_off189_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off189 v582 v584) a + S1x1.size a ≤ S32x256.size a := fun d0 v9 k0_t1 v582 v584 k0_hw29 k0_h4 => k0_hw29.2.2.2.2.2.2.1 k0_h4
theorem k0_off195_inb : ∀ (d0 : Dev nD) (v9 : BitVec 32) (k0_t1 : Fin (k0_t1_loop d0 v9).trips) (v582 : BitVec 32) (v584 : BitVec 32) (k0_hw29 : k0_chk29 d0 v9 k0_t1 v582 v584), ∀ (k0_h4 : k0_cond4 d0 v9 k0_t1 = 1#1), ∀ a, (k0_off195 v582 v584) a + S1x1.size a ≤ S32x256.size a := fun d0 v9 k0_t1 v582 v584 k0_hw29 k0_h4 => k0_hw29.2.2.2.2.2.2.2 k0_h4

def k0_off196 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c7_i32_719 : BitVec 32 := 7#32
  let c0_i32_720 : BitVec 32 := 0#32
  ![v580.toNat, 7, 0]
def k0_off197 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c7_i32_718 : BitVec 32 := 7#32
  let c0_i32_721 : BitVec 32 := 0#32
  let c0_i32_722 : BitVec 32 := 0#32
  let c0_i32_723 : BitVec 32 := 0#32
  ![v580.toNat, 7, 0, 0, 0]
def k0_off198 (v708 : BitVec 32) : Fin 4 → Nat :=
  let c0_i32_724 : BitVec 32 := 0#32
  let c0_i32_725 : BitVec 32 := 0#32
  let c0_i32_726 : BitVec 32 := 0#32
  ![v708.toNat, 0, 0, 0]

def k0_chk37 (d0 : Dev nD) (v9 : BitVec 32) (k0_t1 : Fin (k0_t1_loop d0 v9).trips) (v708 : BitVec 32) : Prop :=
  (∀ (k0_h4 : k0_cond4 d0 v9 k0_t1 = 1#1), ∀ a, (k0_off198 v708) a + S1x32x16x128.size a ≤ S256x32x16x128.size a)
theorem k0_off198_inb : ∀ (d0 : Dev nD) (v9 : BitVec 32) (k0_t1 : Fin (k0_t1_loop d0 v9).trips) (v708 : BitVec 32) (k0_hw37 : k0_chk37 d0 v9 k0_t1 v708), ∀ (k0_h4 : k0_cond4 d0 v9 k0_t1 = 1#1), ∀ a, (k0_off198 v708) a + S1x32x16x128.size a ≤ S256x32x16x128.size a := fun d0 v9 k0_t1 v708 k0_hw37 k0_h4 => k0_hw37 k0_h4

def k0_off199 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c7_i32_728 : BitVec 32 := 7#32
  let c1_i32_729 : BitVec 32 := 1#32
  ![v580.toNat, 7, 1]
def k0_off200 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c3_i32_571 : BitVec 32 := 3#32
  let v577 : BitVec 32 := Scalar.addi arg17 c3_i32_571
  let c4_i32_573 : BitVec 32 := 4#32
  let v580 : BitVec 32 := Scalar.remsi v577 c4_i32_573
  let c7_i32_727 : BitVec 32 := 7#32
  let c0_i32_730 : BitVec 32 := 0#32
  let c0_i32_731 : BitVec 32 := 0#32
  let c0_i32_732 : BitVec 32 := 0#32
  ![v580.toNat, 7, 0, 0, 0]
def k0_off201 (d0 : Dev nD) (v9 : BitVec 32) (k0_t1 : Fin (k0_t1_loop d0 v9).trips) : Fin 2 → Nat :=
  let c0_382 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c1_i32_52 : BitVec 32 := 1#32
  let arg17 : BitVec 32 := Scf.iv c0_i32_49 c1_i32_52 k0_t1
  let v361 : BitVec 32 := Scalar.muli c8_i32_381 arg17
  let v362 : BitVec 32 := Scalar.addi v11 v361
  let v363 : Index := Scalar.indexCast v362
  ![0, v363.toNat]
def k0_off202 (d0 : Dev nD) (v9 : BitVec 32) (k0_t1 : Fin (k0_t1_loop d0 v9).trips) : Fin 2 → Nat :=
  let c1_383 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c1_i32_52 : BitVec 32 := 1#32
  let arg17 : BitVec 32 := Scf.iv c0_i32_49 c1_i32_52 k0_t1
  let v361 : BitVec 32 := Scalar.muli c8_i32_381 arg17
  let v362 : BitVec 32 := Scalar.addi v11 v361
  let v365 : Index := Scalar.indexCast v362
  ![1, v365.toNat]
def k0_off203 (v364 : BitVec 32) (v366 : BitVec 32) : Fin 2 → Nat :=
  let v369 : Index := Scalar.indexCast v364
  let c8_i32_384 : BitVec 32 := 8#32
  let v367 : BitVec 32 := Scalar.muli v366 c8_i32_384
  let c0_i32_385 : BitVec 32 := 0#32
  let v368 : BitVec 32 := Scalar.addi v367 c0_i32_385
  let v370 : Index := Scalar.indexCast v368
  ![v369.toNat, v370.toNat]

def k0_off204 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c0_i32_387 : BitVec 32 := 0#32
  let c0_i32_388 : BitVec 32 := 0#32
  ![v356.toNat, 0, 0]
def k0_off205 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c0_i32_386 : BitVec 32 := 0#32
  let c0_i32_389 : BitVec 32 := 0#32
  let c0_i32_390 : BitVec 32 := 0#32
  let c0_i32_391 : BitVec 32 := 0#32
  ![v356.toNat, 0, 0, 0, 0]
def k0_off206 (v371 : BitVec 32) : Fin 4 → Nat :=
  let c0_i32_392 : BitVec 32 := 0#32
  let c0_i32_393 : BitVec 32 := 0#32
  let c0_i32_394 : BitVec 32 := 0#32
  ![v371.toNat, 0, 0, 0]

def k0_chk39 (v371 : BitVec 32) : Prop :=
  (∀ a, (k0_off206 v371) a + S1x32x16x128.size a ≤ S256x32x16x128.size a)
theorem k0_off206_inb : ∀ (v371 : BitVec 32) (k0_hw39 : k0_chk39 v371), ∀ a, (k0_off206 v371) a + S1x32x16x128.size a ≤ S256x32x16x128.size a := fun v371 k0_hw39 => k0_hw39

def k0_off207 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c0_i32_396 : BitVec 32 := 0#32
  let c1_i32_397 : BitVec 32 := 1#32
  ![v356.toNat, 0, 1]
def k0_off208 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c0_i32_395 : BitVec 32 := 0#32
  let c0_i32_398 : BitVec 32 := 0#32
  let c0_i32_399 : BitVec 32 := 0#32
  let c0_i32_400 : BitVec 32 := 0#32
  ![v356.toNat, 0, 0, 0, 0]
def k0_off209 (v364 : BitVec 32) (v366 : BitVec 32) : Fin 2 → Nat :=
  let v386 : Index := Scalar.indexCast v364
  let c8_i32_404 : BitVec 32 := 8#32
  let v384 : BitVec 32 := Scalar.muli v366 c8_i32_404
  let c1_i32_405 : BitVec 32 := 1#32
  let v385 : BitVec 32 := Scalar.addi v384 c1_i32_405
  let v387 : Index := Scalar.indexCast v385
  ![v386.toNat, v387.toNat]
def k0_off210 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c1_i32_407 : BitVec 32 := 1#32
  let c0_i32_408 : BitVec 32 := 0#32
  ![v356.toNat, 1, 0]
def k0_off211 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c1_i32_406 : BitVec 32 := 1#32
  let c0_i32_409 : BitVec 32 := 0#32
  let c0_i32_410 : BitVec 32 := 0#32
  let c0_i32_411 : BitVec 32 := 0#32
  ![v356.toNat, 1, 0, 0, 0]
def k0_off212 (v388 : BitVec 32) : Fin 4 → Nat :=
  let c0_i32_412 : BitVec 32 := 0#32
  let c0_i32_413 : BitVec 32 := 0#32
  let c0_i32_414 : BitVec 32 := 0#32
  ![v388.toNat, 0, 0, 0]

def k0_chk40 (v388 : BitVec 32) : Prop :=
  (∀ a, (k0_off212 v388) a + S1x32x16x128.size a ≤ S256x32x16x128.size a)
theorem k0_off212_inb : ∀ (v388 : BitVec 32) (k0_hw40 : k0_chk40 v388), ∀ a, (k0_off212 v388) a + S1x32x16x128.size a ≤ S256x32x16x128.size a := fun v388 k0_hw40 => k0_hw40

def k0_off213 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c1_i32_416 : BitVec 32 := 1#32
  let c1_i32_417 : BitVec 32 := 1#32
  ![v356.toNat, 1, 1]
def k0_off214 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c1_i32_415 : BitVec 32 := 1#32
  let c0_i32_418 : BitVec 32 := 0#32
  let c0_i32_419 : BitVec 32 := 0#32
  let c0_i32_420 : BitVec 32 := 0#32
  ![v356.toNat, 1, 0, 0, 0]
def k0_off215 (v364 : BitVec 32) (v366 : BitVec 32) : Fin 2 → Nat :=
  let v403 : Index := Scalar.indexCast v364
  let c8_i32_424 : BitVec 32 := 8#32
  let v401 : BitVec 32 := Scalar.muli v366 c8_i32_424
  let c2_i32_425 : BitVec 32 := 2#32
  let v402 : BitVec 32 := Scalar.addi v401 c2_i32_425
  let v404 : Index := Scalar.indexCast v402
  ![v403.toNat, v404.toNat]
def k0_off216 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c2_i32_427 : BitVec 32 := 2#32
  let c0_i32_428 : BitVec 32 := 0#32
  ![v356.toNat, 2, 0]
def k0_off217 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c2_i32_426 : BitVec 32 := 2#32
  let c0_i32_429 : BitVec 32 := 0#32
  let c0_i32_430 : BitVec 32 := 0#32
  let c0_i32_431 : BitVec 32 := 0#32
  ![v356.toNat, 2, 0, 0, 0]
def k0_off218 (v405 : BitVec 32) : Fin 4 → Nat :=
  let c0_i32_432 : BitVec 32 := 0#32
  let c0_i32_433 : BitVec 32 := 0#32
  let c0_i32_434 : BitVec 32 := 0#32
  ![v405.toNat, 0, 0, 0]

def k0_chk41 (v405 : BitVec 32) : Prop :=
  (∀ a, (k0_off218 v405) a + S1x32x16x128.size a ≤ S256x32x16x128.size a)
theorem k0_off218_inb : ∀ (v405 : BitVec 32) (k0_hw41 : k0_chk41 v405), ∀ a, (k0_off218 v405) a + S1x32x16x128.size a ≤ S256x32x16x128.size a := fun v405 k0_hw41 => k0_hw41

def k0_off219 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c2_i32_436 : BitVec 32 := 2#32
  let c1_i32_437 : BitVec 32 := 1#32
  ![v356.toNat, 2, 1]
def k0_off220 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c2_i32_435 : BitVec 32 := 2#32
  let c0_i32_438 : BitVec 32 := 0#32
  let c0_i32_439 : BitVec 32 := 0#32
  let c0_i32_440 : BitVec 32 := 0#32
  ![v356.toNat, 2, 0, 0, 0]
def k0_off221 (v364 : BitVec 32) (v366 : BitVec 32) : Fin 2 → Nat :=
  let v420 : Index := Scalar.indexCast v364
  let c8_i32_444 : BitVec 32 := 8#32
  let v418 : BitVec 32 := Scalar.muli v366 c8_i32_444
  let c3_i32_445 : BitVec 32 := 3#32
  let v419 : BitVec 32 := Scalar.addi v418 c3_i32_445
  let v421 : Index := Scalar.indexCast v419
  ![v420.toNat, v421.toNat]
def k0_off222 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c3_i32_447 : BitVec 32 := 3#32
  let c0_i32_448 : BitVec 32 := 0#32
  ![v356.toNat, 3, 0]
def k0_off223 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c3_i32_446 : BitVec 32 := 3#32
  let c0_i32_449 : BitVec 32 := 0#32
  let c0_i32_450 : BitVec 32 := 0#32
  let c0_i32_451 : BitVec 32 := 0#32
  ![v356.toNat, 3, 0, 0, 0]
def k0_off224 (v422 : BitVec 32) : Fin 4 → Nat :=
  let c0_i32_452 : BitVec 32 := 0#32
  let c0_i32_453 : BitVec 32 := 0#32
  let c0_i32_454 : BitVec 32 := 0#32
  ![v422.toNat, 0, 0, 0]

def k0_chk42 (v422 : BitVec 32) : Prop :=
  (∀ a, (k0_off224 v422) a + S1x32x16x128.size a ≤ S256x32x16x128.size a)
theorem k0_off224_inb : ∀ (v422 : BitVec 32) (k0_hw42 : k0_chk42 v422), ∀ a, (k0_off224 v422) a + S1x32x16x128.size a ≤ S256x32x16x128.size a := fun v422 k0_hw42 => k0_hw42

def k0_off225 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c3_i32_456 : BitVec 32 := 3#32
  let c1_i32_457 : BitVec 32 := 1#32
  ![v356.toNat, 3, 1]
def k0_off226 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c3_i32_455 : BitVec 32 := 3#32
  let c0_i32_458 : BitVec 32 := 0#32
  let c0_i32_459 : BitVec 32 := 0#32
  let c0_i32_460 : BitVec 32 := 0#32
  ![v356.toNat, 3, 0, 0, 0]
def k0_off227 (v364 : BitVec 32) (v366 : BitVec 32) : Fin 2 → Nat :=
  let v437 : Index := Scalar.indexCast v364
  let c8_i32_464 : BitVec 32 := 8#32
  let v435 : BitVec 32 := Scalar.muli v366 c8_i32_464
  let c4_i32_465 : BitVec 32 := 4#32
  let v436 : BitVec 32 := Scalar.addi v435 c4_i32_465
  let v438 : Index := Scalar.indexCast v436
  ![v437.toNat, v438.toNat]
def k0_off228 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c4_i32_467 : BitVec 32 := 4#32
  let c0_i32_468 : BitVec 32 := 0#32
  ![v356.toNat, 4, 0]
def k0_off229 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c4_i32_466 : BitVec 32 := 4#32
  let c0_i32_469 : BitVec 32 := 0#32
  let c0_i32_470 : BitVec 32 := 0#32
  let c0_i32_471 : BitVec 32 := 0#32
  ![v356.toNat, 4, 0, 0, 0]
def k0_off230 (v439 : BitVec 32) : Fin 4 → Nat :=
  let c0_i32_472 : BitVec 32 := 0#32
  let c0_i32_473 : BitVec 32 := 0#32
  let c0_i32_474 : BitVec 32 := 0#32
  ![v439.toNat, 0, 0, 0]

def k0_chk43 (v439 : BitVec 32) : Prop :=
  (∀ a, (k0_off230 v439) a + S1x32x16x128.size a ≤ S256x32x16x128.size a)
theorem k0_off230_inb : ∀ (v439 : BitVec 32) (k0_hw43 : k0_chk43 v439), ∀ a, (k0_off230 v439) a + S1x32x16x128.size a ≤ S256x32x16x128.size a := fun v439 k0_hw43 => k0_hw43

def k0_off231 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c4_i32_476 : BitVec 32 := 4#32
  let c1_i32_477 : BitVec 32 := 1#32
  ![v356.toNat, 4, 1]
def k0_off232 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c4_i32_475 : BitVec 32 := 4#32
  let c0_i32_478 : BitVec 32 := 0#32
  let c0_i32_479 : BitVec 32 := 0#32
  let c0_i32_480 : BitVec 32 := 0#32
  ![v356.toNat, 4, 0, 0, 0]
def k0_off233 (v364 : BitVec 32) (v366 : BitVec 32) : Fin 2 → Nat :=
  let v454 : Index := Scalar.indexCast v364
  let c8_i32_484 : BitVec 32 := 8#32
  let v452 : BitVec 32 := Scalar.muli v366 c8_i32_484
  let c5_i32 : BitVec 32 := 5#32
  let v453 : BitVec 32 := Scalar.addi v452 c5_i32
  let v455 : Index := Scalar.indexCast v453
  ![v454.toNat, v455.toNat]
def k0_off234 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c5_i32_486 : BitVec 32 := 5#32
  let c0_i32_487 : BitVec 32 := 0#32
  ![v356.toNat, 5, 0]
def k0_off235 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c5_i32_485 : BitVec 32 := 5#32
  let c0_i32_488 : BitVec 32 := 0#32
  let c0_i32_489 : BitVec 32 := 0#32
  let c0_i32_490 : BitVec 32 := 0#32
  ![v356.toNat, 5, 0, 0, 0]
def k0_off236 (v456 : BitVec 32) : Fin 4 → Nat :=
  let c0_i32_491 : BitVec 32 := 0#32
  let c0_i32_492 : BitVec 32 := 0#32
  let c0_i32_493 : BitVec 32 := 0#32
  ![v456.toNat, 0, 0, 0]

def k0_chk44 (v456 : BitVec 32) : Prop :=
  (∀ a, (k0_off236 v456) a + S1x32x16x128.size a ≤ S256x32x16x128.size a)
theorem k0_off236_inb : ∀ (v456 : BitVec 32) (k0_hw44 : k0_chk44 v456), ∀ a, (k0_off236 v456) a + S1x32x16x128.size a ≤ S256x32x16x128.size a := fun v456 k0_hw44 => k0_hw44

def k0_off237 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c5_i32_495 : BitVec 32 := 5#32
  let c1_i32_496 : BitVec 32 := 1#32
  ![v356.toNat, 5, 1]
def k0_off238 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c5_i32_494 : BitVec 32 := 5#32
  let c0_i32_497 : BitVec 32 := 0#32
  let c0_i32_498 : BitVec 32 := 0#32
  let c0_i32_499 : BitVec 32 := 0#32
  ![v356.toNat, 5, 0, 0, 0]
def k0_off239 (v364 : BitVec 32) (v366 : BitVec 32) : Fin 2 → Nat :=
  let v471 : Index := Scalar.indexCast v364
  let c8_i32_503 : BitVec 32 := 8#32
  let v469 : BitVec 32 := Scalar.muli v366 c8_i32_503
  let c6_i32 : BitVec 32 := 6#32
  let v470 : BitVec 32 := Scalar.addi v469 c6_i32
  let v472 : Index := Scalar.indexCast v470
  ![v471.toNat, v472.toNat]
def k0_off240 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c6_i32_505 : BitVec 32 := 6#32
  let c0_i32_506 : BitVec 32 := 0#32
  ![v356.toNat, 6, 0]
def k0_off241 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c6_i32_504 : BitVec 32 := 6#32
  let c0_i32_507 : BitVec 32 := 0#32
  let c0_i32_508 : BitVec 32 := 0#32
  let c0_i32_509 : BitVec 32 := 0#32
  ![v356.toNat, 6, 0, 0, 0]
def k0_off242 (v473 : BitVec 32) : Fin 4 → Nat :=
  let c0_i32_510 : BitVec 32 := 0#32
  let c0_i32_511 : BitVec 32 := 0#32
  let c0_i32_512 : BitVec 32 := 0#32
  ![v473.toNat, 0, 0, 0]

def k0_chk45 (v473 : BitVec 32) : Prop :=
  (∀ a, (k0_off242 v473) a + S1x32x16x128.size a ≤ S256x32x16x128.size a)
theorem k0_off242_inb : ∀ (v473 : BitVec 32) (k0_hw45 : k0_chk45 v473), ∀ a, (k0_off242 v473) a + S1x32x16x128.size a ≤ S256x32x16x128.size a := fun v473 k0_hw45 => k0_hw45

def k0_off243 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c6_i32_514 : BitVec 32 := 6#32
  let c1_i32_515 : BitVec 32 := 1#32
  ![v356.toNat, 6, 1]
def k0_off244 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c6_i32_513 : BitVec 32 := 6#32
  let c0_i32_516 : BitVec 32 := 0#32
  let c0_i32_517 : BitVec 32 := 0#32
  let c0_i32_518 : BitVec 32 := 0#32
  ![v356.toNat, 6, 0, 0, 0]
def k0_off245 (v364 : BitVec 32) (v366 : BitVec 32) : Fin 2 → Nat :=
  let v488 : Index := Scalar.indexCast v364
  let c8_i32_522 : BitVec 32 := 8#32
  let v486 : BitVec 32 := Scalar.muli v366 c8_i32_522
  let c7_i32 : BitVec 32 := 7#32
  let v487 : BitVec 32 := Scalar.addi v486 c7_i32
  let v489 : Index := Scalar.indexCast v487
  ![v488.toNat, v489.toNat]

def k0_chk38 (v364 : BitVec 32) (v366 : BitVec 32) : Prop :=
  (∀ a, (k0_off203 v364 v366) a + S1x1.size a ≤ S32x256.size a) ∧
  (∀ a, (k0_off209 v364 v366) a + S1x1.size a ≤ S32x256.size a) ∧
  (∀ a, (k0_off215 v364 v366) a + S1x1.size a ≤ S32x256.size a) ∧
  (∀ a, (k0_off221 v364 v366) a + S1x1.size a ≤ S32x256.size a) ∧
  (∀ a, (k0_off227 v364 v366) a + S1x1.size a ≤ S32x256.size a) ∧
  (∀ a, (k0_off233 v364 v366) a + S1x1.size a ≤ S32x256.size a) ∧
  (∀ a, (k0_off239 v364 v366) a + S1x1.size a ≤ S32x256.size a) ∧
  (∀ a, (k0_off245 v364 v366) a + S1x1.size a ≤ S32x256.size a)
theorem k0_off203_inb : ∀ (v364 : BitVec 32) (v366 : BitVec 32) (k0_hw38 : k0_chk38 v364 v366), ∀ a, (k0_off203 v364 v366) a + S1x1.size a ≤ S32x256.size a := fun v364 v366 k0_hw38 => k0_hw38.1
theorem k0_off209_inb : ∀ (v364 : BitVec 32) (v366 : BitVec 32) (k0_hw38 : k0_chk38 v364 v366), ∀ a, (k0_off209 v364 v366) a + S1x1.size a ≤ S32x256.size a := fun v364 v366 k0_hw38 => k0_hw38.2.1
theorem k0_off215_inb : ∀ (v364 : BitVec 32) (v366 : BitVec 32) (k0_hw38 : k0_chk38 v364 v366), ∀ a, (k0_off215 v364 v366) a + S1x1.size a ≤ S32x256.size a := fun v364 v366 k0_hw38 => k0_hw38.2.2.1
theorem k0_off221_inb : ∀ (v364 : BitVec 32) (v366 : BitVec 32) (k0_hw38 : k0_chk38 v364 v366), ∀ a, (k0_off221 v364 v366) a + S1x1.size a ≤ S32x256.size a := fun v364 v366 k0_hw38 => k0_hw38.2.2.2.1
theorem k0_off227_inb : ∀ (v364 : BitVec 32) (v366 : BitVec 32) (k0_hw38 : k0_chk38 v364 v366), ∀ a, (k0_off227 v364 v366) a + S1x1.size a ≤ S32x256.size a := fun v364 v366 k0_hw38 => k0_hw38.2.2.2.2.1
theorem k0_off233_inb : ∀ (v364 : BitVec 32) (v366 : BitVec 32) (k0_hw38 : k0_chk38 v364 v366), ∀ a, (k0_off233 v364 v366) a + S1x1.size a ≤ S32x256.size a := fun v364 v366 k0_hw38 => k0_hw38.2.2.2.2.2.1
theorem k0_off239_inb : ∀ (v364 : BitVec 32) (v366 : BitVec 32) (k0_hw38 : k0_chk38 v364 v366), ∀ a, (k0_off239 v364 v366) a + S1x1.size a ≤ S32x256.size a := fun v364 v366 k0_hw38 => k0_hw38.2.2.2.2.2.2.1
theorem k0_off245_inb : ∀ (v364 : BitVec 32) (v366 : BitVec 32) (k0_hw38 : k0_chk38 v364 v366), ∀ a, (k0_off245 v364 v366) a + S1x1.size a ≤ S32x256.size a := fun v364 v366 k0_hw38 => k0_hw38.2.2.2.2.2.2.2

def k0_off246 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c7_i32_524 : BitVec 32 := 7#32
  let c0_i32_525 : BitVec 32 := 0#32
  ![v356.toNat, 7, 0]
def k0_off247 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c7_i32_523 : BitVec 32 := 7#32
  let c0_i32_526 : BitVec 32 := 0#32
  let c0_i32_527 : BitVec 32 := 0#32
  let c0_i32_528 : BitVec 32 := 0#32
  ![v356.toNat, 7, 0, 0, 0]
def k0_off248 (v490 : BitVec 32) : Fin 4 → Nat :=
  let c0_i32_529 : BitVec 32 := 0#32
  let c0_i32_530 : BitVec 32 := 0#32
  let c0_i32_531 : BitVec 32 := 0#32
  ![v490.toNat, 0, 0, 0]

def k0_chk46 (v490 : BitVec 32) : Prop :=
  (∀ a, (k0_off248 v490) a + S1x32x16x128.size a ≤ S256x32x16x128.size a)
theorem k0_off248_inb : ∀ (v490 : BitVec 32) (k0_hw46 : k0_chk46 v490), ∀ a, (k0_off248 v490) a + S1x32x16x128.size a ≤ S256x32x16x128.size a := fun v490 k0_hw46 => k0_hw46

def k0_off249 (d0 : Dev nD) (v9 : BitVec 32) (k0_t1 : Fin (k0_t1_loop d0 v9).trips) : Fin 3 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c7_i32_533 : BitVec 32 := 7#32
  let c1_i32_534 : BitVec 32 := 1#32
  ![v356.toNat, 7, 1]
def k0_off250 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let c7_i32_532 : BitVec 32 := 7#32
  let c0_i32_535 : BitVec 32 := 0#32
  let c0_i32_536 : BitVec 32 := 0#32
  let c0_i32_537 : BitVec 32 := 0#32
  ![v356.toNat, 7, 0, 0, 0]
def k0_off251 (d0 : Dev nD) (v9 : BitVec 32) (k0_t1 : Fin (k0_t1_loop d0 v9).trips) : Fin 2 → Nat :=
  let c0_541 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c1_i32_52 : BitVec 32 := 1#32
  let arg17 : BitVec 32 := Scf.iv c0_i32_49 c1_i32_52 k0_t1
  let v361 : BitVec 32 := Scalar.muli c8_i32_381 arg17
  let v362 : BitVec 32 := Scalar.addi v11 v361
  let v503 : Index := Scalar.indexCast v362
  ![0, v503.toNat]
def k0_off252 (d0 : Dev nD) (v9 : BitVec 32) (k0_t1 : Fin (k0_t1_loop d0 v9).trips) : Fin 2 → Nat :=
  let c1_542 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c1_i32_52 : BitVec 32 := 1#32
  let arg17 : BitVec 32 := Scf.iv c0_i32_49 c1_i32_52 k0_t1
  let v361 : BitVec 32 := Scalar.muli c8_i32_381 arg17
  let v362 : BitVec 32 := Scalar.addi v11 v361
  let v505 : Index := Scalar.indexCast v362
  ![1, v505.toNat]
def k0_off253 (v504 : BitVec 32) : Fin 3 → Nat :=
  let v507 : Index := Scalar.indexCast v504
  let c0_543 : Index := 0#32
  let c0_544 : Index := 0#32
  ![v507.toNat, 0, 0]

def k0_off254 (d0 : Dev nD) (v9 : BitVec 32) (k0_t1 : Fin (k0_t1_loop d0 v9).trips) : Fin 5 → Nat :=
  let c0_i32_49 : BitVec 32 := 0#32
  let c1_i32_52 : BitVec 32 := 1#32
  let arg17 : BitVec 32 := Scf.iv c0_i32_49 c1_i32_52 k0_t1
  let c4_i32_378 : BitVec 32 := 4#32
  let v356 : BitVec 32 := Scalar.remsi arg17 c4_i32_378
  let v510 : Index := Scalar.indexCast v356
  let c0_545 : Index := 0#32
  let c0_546 : Index := 0#32
  let c0_547 : Index := 0#32
  let c0_548 : Index := 0#32
  ![v510.toNat, 0, 0, 0, 0]
def k0_off255 (v504 : BitVec 32) : Fin 1 → Nat :=
  let v549 : Index := Scalar.indexCast v504
  ![v549.toNat]
def k0_off256 (v504 : BitVec 32) : Fin 2 → Nat :=
  let v556 : Index := Scalar.indexCast v504
  let c0_562 : Index := 0#32
  ![v556.toNat, 0]

def k0_chk47 (v504 : BitVec 32) : Prop :=
  (∀ a, (k0_off253 v504) a + S1x16x128.size a ≤ S32x16x128.size a) ∧
  (∀ a, (k0_off255 v504) a + S1.size a ≤ S32.size a) ∧
  (∀ a, (k0_off256 v504) a + S1x16.size a ≤ S32x16.size a)
theorem k0_off253_inb : ∀ (v504 : BitVec 32) (k0_hw47 : k0_chk47 v504), ∀ a, (k0_off253 v504) a + S1x16x128.size a ≤ S32x16x128.size a := fun v504 k0_hw47 => k0_hw47.1
theorem k0_off255_inb : ∀ (v504 : BitVec 32) (k0_hw47 : k0_chk47 v504), ∀ a, (k0_off255 v504) a + S1.size a ≤ S32.size a := fun v504 k0_hw47 => k0_hw47.2.1
theorem k0_off256_inb : ∀ (v504 : BitVec 32) (k0_hw47 : k0_chk47 v504), ∀ a, (k0_off256 v504) a + S1x16.size a ≤ S32x16.size a := fun v504 k0_hw47 => k0_hw47.2.2

@[reducible] def k0_t2_loop (d0 : Dev nD) (v9 : BitVec 32) : Scf.Loop 32 :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let v80 : BitVec 32 := Scalar.addi c0_i32_49 v79
  let c1_i32_53 : BitVec 32 := 1#32
  ⟨v83, v80, c1_i32_53⟩
def k0_off257 (d0 : Dev nD) (v9 : BitVec 32) (k0_t2 : Fin (k0_t2_loop d0 v9).trips) : Fin 2 → Nat :=
  let c0_574 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_572 : BitVec 32 := 8#32
  let c0_i32_49 : BitVec 32 := 0#32
  let c0_i32_42 : BitVec 32 := 0#32
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let v578 : BitVec 32 := Scalar.muli c8_i32_572 v577
  let v579 : BitVec 32 := Scalar.addi v11 v578
  let v581 : Index := Scalar.indexCast v579
  ![0, v581.toNat]
def k0_cond5 (d0 : Dev nD) (v9 : BitVec 32) (k0_t2 : Fin (k0_t2_loop d0 v9).trips) : BitVec 1 :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_379 : BitVec 32 := 3#32
  let v357 : BitVec 32 := Scalar.addi arg17 c3_i32_379
  let v358 : BitVec 1 := Scalar.cmpi .slt v357 v69
  let v359 : BitVec 32 := Scalar.extui v358
  let c0_i32_380 : BitVec 32 := 0#32
  let v360 : BitVec 1 := Scalar.cmpi .ne v359 c0_i32_380
  v360

def k0_off258 (d0 : Dev nD) (v9 : BitVec 32) (k0_t2 : Fin (k0_t2_loop d0 v9).trips) : Fin 2 → Nat :=
  let c1_575 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_572 : BitVec 32 := 8#32
  let c0_i32_49 : BitVec 32 := 0#32
  let c0_i32_42 : BitVec 32 := 0#32
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let v578 : BitVec 32 := Scalar.muli c8_i32_572 v577
  let v579 : BitVec 32 := Scalar.addi v11 v578
  let v583 : Index := Scalar.indexCast v579
  ![1, v583.toNat]
def k0_off259 (v582 : BitVec 32) (v584 : BitVec 32) : Fin 2 → Nat :=
  let v587 : Index := Scalar.indexCast v582
  let c8_i32_576 : BitVec 32 := 8#32
  let v585 : BitVec 32 := Scalar.muli v584 c8_i32_576
  let c0_i32_577 : BitVec 32 := 0#32
  let v586 : BitVec 32 := Scalar.addi v585 c0_i32_577
  let v588 : Index := Scalar.indexCast v586
  ![v587.toNat, v588.toNat]

def k0_off260 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c0_i32_579 : BitVec 32 := 0#32
  let c0_i32_580 : BitVec 32 := 0#32
  ![v580.toNat, 0, 0]
def k0_off261 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c0_i32_578 : BitVec 32 := 0#32
  let c0_i32_581 : BitVec 32 := 0#32
  let c0_i32_582 : BitVec 32 := 0#32
  let c0_i32_583 : BitVec 32 := 0#32
  ![v580.toNat, 0, 0, 0, 0]
def k0_off262 (v589 : BitVec 32) : Fin 4 → Nat :=
  let c0_i32_584 : BitVec 32 := 0#32
  let c0_i32_585 : BitVec 32 := 0#32
  let c0_i32_586 : BitVec 32 := 0#32
  ![v589.toNat, 0, 0, 0]

def k0_chk49 (d0 : Dev nD) (v9 : BitVec 32) (k0_t2 : Fin (k0_t2_loop d0 v9).trips) (v589 : BitVec 32) : Prop :=
  (∀ (k0_h5 : k0_cond5 d0 v9 k0_t2 = 1#1), ∀ a, (k0_off262 v589) a + S1x32x16x128.size a ≤ S256x32x16x128.size a)
theorem k0_off262_inb : ∀ (d0 : Dev nD) (v9 : BitVec 32) (k0_t2 : Fin (k0_t2_loop d0 v9).trips) (v589 : BitVec 32) (k0_hw49 : k0_chk49 d0 v9 k0_t2 v589), ∀ (k0_h5 : k0_cond5 d0 v9 k0_t2 = 1#1), ∀ a, (k0_off262 v589) a + S1x32x16x128.size a ≤ S256x32x16x128.size a := fun d0 v9 k0_t2 v589 k0_hw49 k0_h5 => k0_hw49 k0_h5

def k0_off263 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c0_i32_588 : BitVec 32 := 0#32
  let c1_i32_589 : BitVec 32 := 1#32
  ![v580.toNat, 0, 1]
def k0_off264 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c0_i32_587 : BitVec 32 := 0#32
  let c0_i32_590 : BitVec 32 := 0#32
  let c0_i32_591 : BitVec 32 := 0#32
  let c0_i32_592 : BitVec 32 := 0#32
  ![v580.toNat, 0, 0, 0, 0]
def k0_off265 (v582 : BitVec 32) (v584 : BitVec 32) : Fin 2 → Nat :=
  let v604 : Index := Scalar.indexCast v582
  let c8_i32_596 : BitVec 32 := 8#32
  let v602 : BitVec 32 := Scalar.muli v584 c8_i32_596
  let c1_i32_597 : BitVec 32 := 1#32
  let v603 : BitVec 32 := Scalar.addi v602 c1_i32_597
  let v605 : Index := Scalar.indexCast v603
  ![v604.toNat, v605.toNat]
def k0_off266 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c1_i32_599 : BitVec 32 := 1#32
  let c0_i32_600 : BitVec 32 := 0#32
  ![v580.toNat, 1, 0]
def k0_off267 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c1_i32_598 : BitVec 32 := 1#32
  let c0_i32_601 : BitVec 32 := 0#32
  let c0_i32_602 : BitVec 32 := 0#32
  let c0_i32_603 : BitVec 32 := 0#32
  ![v580.toNat, 1, 0, 0, 0]
def k0_off268 (v606 : BitVec 32) : Fin 4 → Nat :=
  let c0_i32_604 : BitVec 32 := 0#32
  let c0_i32_605 : BitVec 32 := 0#32
  let c0_i32_606 : BitVec 32 := 0#32
  ![v606.toNat, 0, 0, 0]

def k0_chk50 (d0 : Dev nD) (v9 : BitVec 32) (k0_t2 : Fin (k0_t2_loop d0 v9).trips) (v606 : BitVec 32) : Prop :=
  (∀ (k0_h5 : k0_cond5 d0 v9 k0_t2 = 1#1), ∀ a, (k0_off268 v606) a + S1x32x16x128.size a ≤ S256x32x16x128.size a)
theorem k0_off268_inb : ∀ (d0 : Dev nD) (v9 : BitVec 32) (k0_t2 : Fin (k0_t2_loop d0 v9).trips) (v606 : BitVec 32) (k0_hw50 : k0_chk50 d0 v9 k0_t2 v606), ∀ (k0_h5 : k0_cond5 d0 v9 k0_t2 = 1#1), ∀ a, (k0_off268 v606) a + S1x32x16x128.size a ≤ S256x32x16x128.size a := fun d0 v9 k0_t2 v606 k0_hw50 k0_h5 => k0_hw50 k0_h5

def k0_off269 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c1_i32_608 : BitVec 32 := 1#32
  let c1_i32_609 : BitVec 32 := 1#32
  ![v580.toNat, 1, 1]
def k0_off270 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c1_i32_607 : BitVec 32 := 1#32
  let c0_i32_610 : BitVec 32 := 0#32
  let c0_i32_611 : BitVec 32 := 0#32
  let c0_i32_612 : BitVec 32 := 0#32
  ![v580.toNat, 1, 0, 0, 0]
def k0_off271 (v582 : BitVec 32) (v584 : BitVec 32) : Fin 2 → Nat :=
  let v621 : Index := Scalar.indexCast v582
  let c8_i32_616 : BitVec 32 := 8#32
  let v619 : BitVec 32 := Scalar.muli v584 c8_i32_616
  let c2_i32_617 : BitVec 32 := 2#32
  let v620 : BitVec 32 := Scalar.addi v619 c2_i32_617
  let v622 : Index := Scalar.indexCast v620
  ![v621.toNat, v622.toNat]
def k0_off272 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c2_i32_619 : BitVec 32 := 2#32
  let c0_i32_620 : BitVec 32 := 0#32
  ![v580.toNat, 2, 0]
def k0_off273 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c2_i32_618 : BitVec 32 := 2#32
  let c0_i32_621 : BitVec 32 := 0#32
  let c0_i32_622 : BitVec 32 := 0#32
  let c0_i32_623 : BitVec 32 := 0#32
  ![v580.toNat, 2, 0, 0, 0]
def k0_off274 (v623 : BitVec 32) : Fin 4 → Nat :=
  let c0_i32_624 : BitVec 32 := 0#32
  let c0_i32_625 : BitVec 32 := 0#32
  let c0_i32_626 : BitVec 32 := 0#32
  ![v623.toNat, 0, 0, 0]

def k0_chk51 (d0 : Dev nD) (v9 : BitVec 32) (k0_t2 : Fin (k0_t2_loop d0 v9).trips) (v623 : BitVec 32) : Prop :=
  (∀ (k0_h5 : k0_cond5 d0 v9 k0_t2 = 1#1), ∀ a, (k0_off274 v623) a + S1x32x16x128.size a ≤ S256x32x16x128.size a)
theorem k0_off274_inb : ∀ (d0 : Dev nD) (v9 : BitVec 32) (k0_t2 : Fin (k0_t2_loop d0 v9).trips) (v623 : BitVec 32) (k0_hw51 : k0_chk51 d0 v9 k0_t2 v623), ∀ (k0_h5 : k0_cond5 d0 v9 k0_t2 = 1#1), ∀ a, (k0_off274 v623) a + S1x32x16x128.size a ≤ S256x32x16x128.size a := fun d0 v9 k0_t2 v623 k0_hw51 k0_h5 => k0_hw51 k0_h5

def k0_off275 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c2_i32_628 : BitVec 32 := 2#32
  let c1_i32_629 : BitVec 32 := 1#32
  ![v580.toNat, 2, 1]
def k0_off276 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c2_i32_627 : BitVec 32 := 2#32
  let c0_i32_630 : BitVec 32 := 0#32
  let c0_i32_631 : BitVec 32 := 0#32
  let c0_i32_632 : BitVec 32 := 0#32
  ![v580.toNat, 2, 0, 0, 0]
def k0_off277 (v582 : BitVec 32) (v584 : BitVec 32) : Fin 2 → Nat :=
  let v638 : Index := Scalar.indexCast v582
  let c8_i32_636 : BitVec 32 := 8#32
  let v636 : BitVec 32 := Scalar.muli v584 c8_i32_636
  let c3_i32_637 : BitVec 32 := 3#32
  let v637 : BitVec 32 := Scalar.addi v636 c3_i32_637
  let v639 : Index := Scalar.indexCast v637
  ![v638.toNat, v639.toNat]
def k0_off278 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c3_i32_639 : BitVec 32 := 3#32
  let c0_i32_640 : BitVec 32 := 0#32
  ![v580.toNat, 3, 0]
def k0_off279 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c3_i32_638 : BitVec 32 := 3#32
  let c0_i32_641 : BitVec 32 := 0#32
  let c0_i32_642 : BitVec 32 := 0#32
  let c0_i32_643 : BitVec 32 := 0#32
  ![v580.toNat, 3, 0, 0, 0]
def k0_off280 (v640 : BitVec 32) : Fin 4 → Nat :=
  let c0_i32_644 : BitVec 32 := 0#32
  let c0_i32_645 : BitVec 32 := 0#32
  let c0_i32_646 : BitVec 32 := 0#32
  ![v640.toNat, 0, 0, 0]

def k0_chk52 (d0 : Dev nD) (v9 : BitVec 32) (k0_t2 : Fin (k0_t2_loop d0 v9).trips) (v640 : BitVec 32) : Prop :=
  (∀ (k0_h5 : k0_cond5 d0 v9 k0_t2 = 1#1), ∀ a, (k0_off280 v640) a + S1x32x16x128.size a ≤ S256x32x16x128.size a)
theorem k0_off280_inb : ∀ (d0 : Dev nD) (v9 : BitVec 32) (k0_t2 : Fin (k0_t2_loop d0 v9).trips) (v640 : BitVec 32) (k0_hw52 : k0_chk52 d0 v9 k0_t2 v640), ∀ (k0_h5 : k0_cond5 d0 v9 k0_t2 = 1#1), ∀ a, (k0_off280 v640) a + S1x32x16x128.size a ≤ S256x32x16x128.size a := fun d0 v9 k0_t2 v640 k0_hw52 k0_h5 => k0_hw52 k0_h5

def k0_off281 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c3_i32_648 : BitVec 32 := 3#32
  let c1_i32_649 : BitVec 32 := 1#32
  ![v580.toNat, 3, 1]
def k0_off282 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c3_i32_647 : BitVec 32 := 3#32
  let c0_i32_650 : BitVec 32 := 0#32
  let c0_i32_651 : BitVec 32 := 0#32
  let c0_i32_652 : BitVec 32 := 0#32
  ![v580.toNat, 3, 0, 0, 0]
def k0_off283 (v582 : BitVec 32) (v584 : BitVec 32) : Fin 2 → Nat :=
  let v655 : Index := Scalar.indexCast v582
  let c8_i32_656 : BitVec 32 := 8#32
  let v653 : BitVec 32 := Scalar.muli v584 c8_i32_656
  let c4_i32_657 : BitVec 32 := 4#32
  let v654 : BitVec 32 := Scalar.addi v653 c4_i32_657
  let v656 : Index := Scalar.indexCast v654
  ![v655.toNat, v656.toNat]
def k0_off284 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c4_i32_659 : BitVec 32 := 4#32
  let c0_i32_660 : BitVec 32 := 0#32
  ![v580.toNat, 4, 0]
def k0_off285 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c4_i32_658 : BitVec 32 := 4#32
  let c0_i32_661 : BitVec 32 := 0#32
  let c0_i32_662 : BitVec 32 := 0#32
  let c0_i32_663 : BitVec 32 := 0#32
  ![v580.toNat, 4, 0, 0, 0]
def k0_off286 (v657 : BitVec 32) : Fin 4 → Nat :=
  let c0_i32_664 : BitVec 32 := 0#32
  let c0_i32_665 : BitVec 32 := 0#32
  let c0_i32_666 : BitVec 32 := 0#32
  ![v657.toNat, 0, 0, 0]

def k0_chk53 (d0 : Dev nD) (v9 : BitVec 32) (k0_t2 : Fin (k0_t2_loop d0 v9).trips) (v657 : BitVec 32) : Prop :=
  (∀ (k0_h5 : k0_cond5 d0 v9 k0_t2 = 1#1), ∀ a, (k0_off286 v657) a + S1x32x16x128.size a ≤ S256x32x16x128.size a)
theorem k0_off286_inb : ∀ (d0 : Dev nD) (v9 : BitVec 32) (k0_t2 : Fin (k0_t2_loop d0 v9).trips) (v657 : BitVec 32) (k0_hw53 : k0_chk53 d0 v9 k0_t2 v657), ∀ (k0_h5 : k0_cond5 d0 v9 k0_t2 = 1#1), ∀ a, (k0_off286 v657) a + S1x32x16x128.size a ≤ S256x32x16x128.size a := fun d0 v9 k0_t2 v657 k0_hw53 k0_h5 => k0_hw53 k0_h5

def k0_off287 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c4_i32_668 : BitVec 32 := 4#32
  let c1_i32_669 : BitVec 32 := 1#32
  ![v580.toNat, 4, 1]
def k0_off288 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c4_i32_667 : BitVec 32 := 4#32
  let c0_i32_670 : BitVec 32 := 0#32
  let c0_i32_671 : BitVec 32 := 0#32
  let c0_i32_672 : BitVec 32 := 0#32
  ![v580.toNat, 4, 0, 0, 0]
def k0_off289 (v582 : BitVec 32) (v584 : BitVec 32) : Fin 2 → Nat :=
  let v672 : Index := Scalar.indexCast v582
  let c8_i32_676 : BitVec 32 := 8#32
  let v670 : BitVec 32 := Scalar.muli v584 c8_i32_676
  let c5_i32_677 : BitVec 32 := 5#32
  let v671 : BitVec 32 := Scalar.addi v670 c5_i32_677
  let v673 : Index := Scalar.indexCast v671
  ![v672.toNat, v673.toNat]
def k0_off290 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c5_i32_679 : BitVec 32 := 5#32
  let c0_i32_680 : BitVec 32 := 0#32
  ![v580.toNat, 5, 0]
def k0_off291 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c5_i32_678 : BitVec 32 := 5#32
  let c0_i32_681 : BitVec 32 := 0#32
  let c0_i32_682 : BitVec 32 := 0#32
  let c0_i32_683 : BitVec 32 := 0#32
  ![v580.toNat, 5, 0, 0, 0]
def k0_off292 (v674 : BitVec 32) : Fin 4 → Nat :=
  let c0_i32_684 : BitVec 32 := 0#32
  let c0_i32_685 : BitVec 32 := 0#32
  let c0_i32_686 : BitVec 32 := 0#32
  ![v674.toNat, 0, 0, 0]

def k0_chk54 (d0 : Dev nD) (v9 : BitVec 32) (k0_t2 : Fin (k0_t2_loop d0 v9).trips) (v674 : BitVec 32) : Prop :=
  (∀ (k0_h5 : k0_cond5 d0 v9 k0_t2 = 1#1), ∀ a, (k0_off292 v674) a + S1x32x16x128.size a ≤ S256x32x16x128.size a)
theorem k0_off292_inb : ∀ (d0 : Dev nD) (v9 : BitVec 32) (k0_t2 : Fin (k0_t2_loop d0 v9).trips) (v674 : BitVec 32) (k0_hw54 : k0_chk54 d0 v9 k0_t2 v674), ∀ (k0_h5 : k0_cond5 d0 v9 k0_t2 = 1#1), ∀ a, (k0_off292 v674) a + S1x32x16x128.size a ≤ S256x32x16x128.size a := fun d0 v9 k0_t2 v674 k0_hw54 k0_h5 => k0_hw54 k0_h5

def k0_off293 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c5_i32_688 : BitVec 32 := 5#32
  let c1_i32_689 : BitVec 32 := 1#32
  ![v580.toNat, 5, 1]
def k0_off294 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c5_i32_687 : BitVec 32 := 5#32
  let c0_i32_690 : BitVec 32 := 0#32
  let c0_i32_691 : BitVec 32 := 0#32
  let c0_i32_692 : BitVec 32 := 0#32
  ![v580.toNat, 5, 0, 0, 0]
def k0_off295 (v582 : BitVec 32) (v584 : BitVec 32) : Fin 2 → Nat :=
  let v689 : Index := Scalar.indexCast v582
  let c8_i32_696 : BitVec 32 := 8#32
  let v687 : BitVec 32 := Scalar.muli v584 c8_i32_696
  let c6_i32_697 : BitVec 32 := 6#32
  let v688 : BitVec 32 := Scalar.addi v687 c6_i32_697
  let v690 : Index := Scalar.indexCast v688
  ![v689.toNat, v690.toNat]
def k0_off296 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c6_i32_699 : BitVec 32 := 6#32
  let c0_i32_700 : BitVec 32 := 0#32
  ![v580.toNat, 6, 0]
def k0_off297 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c6_i32_698 : BitVec 32 := 6#32
  let c0_i32_701 : BitVec 32 := 0#32
  let c0_i32_702 : BitVec 32 := 0#32
  let c0_i32_703 : BitVec 32 := 0#32
  ![v580.toNat, 6, 0, 0, 0]
def k0_off298 (v691 : BitVec 32) : Fin 4 → Nat :=
  let c0_i32_704 : BitVec 32 := 0#32
  let c0_i32_705 : BitVec 32 := 0#32
  let c0_i32_706 : BitVec 32 := 0#32
  ![v691.toNat, 0, 0, 0]

def k0_chk55 (d0 : Dev nD) (v9 : BitVec 32) (k0_t2 : Fin (k0_t2_loop d0 v9).trips) (v691 : BitVec 32) : Prop :=
  (∀ (k0_h5 : k0_cond5 d0 v9 k0_t2 = 1#1), ∀ a, (k0_off298 v691) a + S1x32x16x128.size a ≤ S256x32x16x128.size a)
theorem k0_off298_inb : ∀ (d0 : Dev nD) (v9 : BitVec 32) (k0_t2 : Fin (k0_t2_loop d0 v9).trips) (v691 : BitVec 32) (k0_hw55 : k0_chk55 d0 v9 k0_t2 v691), ∀ (k0_h5 : k0_cond5 d0 v9 k0_t2 = 1#1), ∀ a, (k0_off298 v691) a + S1x32x16x128.size a ≤ S256x32x16x128.size a := fun d0 v9 k0_t2 v691 k0_hw55 k0_h5 => k0_hw55 k0_h5

def k0_off299 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c6_i32_708 : BitVec 32 := 6#32
  let c1_i32_709 : BitVec 32 := 1#32
  ![v580.toNat, 6, 1]
def k0_off300 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c6_i32_707 : BitVec 32 := 6#32
  let c0_i32_710 : BitVec 32 := 0#32
  let c0_i32_711 : BitVec 32 := 0#32
  let c0_i32_712 : BitVec 32 := 0#32
  ![v580.toNat, 6, 0, 0, 0]
def k0_off301 (v582 : BitVec 32) (v584 : BitVec 32) : Fin 2 → Nat :=
  let v706 : Index := Scalar.indexCast v582
  let c8_i32_716 : BitVec 32 := 8#32
  let v704 : BitVec 32 := Scalar.muli v584 c8_i32_716
  let c7_i32_717 : BitVec 32 := 7#32
  let v705 : BitVec 32 := Scalar.addi v704 c7_i32_717
  let v707 : Index := Scalar.indexCast v705
  ![v706.toNat, v707.toNat]

def k0_chk48 (d0 : Dev nD) (v9 : BitVec 32) (k0_t2 : Fin (k0_t2_loop d0 v9).trips) (v582 : BitVec 32) (v584 : BitVec 32) : Prop :=
  (∀ (k0_h5 : k0_cond5 d0 v9 k0_t2 = 1#1), ∀ a, (k0_off259 v582 v584) a + S1x1.size a ≤ S32x256.size a) ∧
  (∀ (k0_h5 : k0_cond5 d0 v9 k0_t2 = 1#1), ∀ a, (k0_off265 v582 v584) a + S1x1.size a ≤ S32x256.size a) ∧
  (∀ (k0_h5 : k0_cond5 d0 v9 k0_t2 = 1#1), ∀ a, (k0_off271 v582 v584) a + S1x1.size a ≤ S32x256.size a) ∧
  (∀ (k0_h5 : k0_cond5 d0 v9 k0_t2 = 1#1), ∀ a, (k0_off277 v582 v584) a + S1x1.size a ≤ S32x256.size a) ∧
  (∀ (k0_h5 : k0_cond5 d0 v9 k0_t2 = 1#1), ∀ a, (k0_off283 v582 v584) a + S1x1.size a ≤ S32x256.size a) ∧
  (∀ (k0_h5 : k0_cond5 d0 v9 k0_t2 = 1#1), ∀ a, (k0_off289 v582 v584) a + S1x1.size a ≤ S32x256.size a) ∧
  (∀ (k0_h5 : k0_cond5 d0 v9 k0_t2 = 1#1), ∀ a, (k0_off295 v582 v584) a + S1x1.size a ≤ S32x256.size a) ∧
  (∀ (k0_h5 : k0_cond5 d0 v9 k0_t2 = 1#1), ∀ a, (k0_off301 v582 v584) a + S1x1.size a ≤ S32x256.size a)
theorem k0_off259_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off259 v582 v584) a + S1x1.size a ≤ S32x256.size a := fun d0 v9 k0_t2 v582 v584 k0_hw48 k0_h5 => k0_hw48.1 k0_h5
theorem k0_off265_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off265 v582 v584) a + S1x1.size a ≤ S32x256.size a := fun d0 v9 k0_t2 v582 v584 k0_hw48 k0_h5 => k0_hw48.2.1 k0_h5
theorem k0_off271_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off271 v582 v584) a + S1x1.size a ≤ S32x256.size a := fun d0 v9 k0_t2 v582 v584 k0_hw48 k0_h5 => k0_hw48.2.2.1 k0_h5
theorem k0_off277_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off277 v582 v584) a + S1x1.size a ≤ S32x256.size a := fun d0 v9 k0_t2 v582 v584 k0_hw48 k0_h5 => k0_hw48.2.2.2.1 k0_h5
theorem k0_off283_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off283 v582 v584) a + S1x1.size a ≤ S32x256.size a := fun d0 v9 k0_t2 v582 v584 k0_hw48 k0_h5 => k0_hw48.2.2.2.2.1 k0_h5
theorem k0_off289_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off289 v582 v584) a + S1x1.size a ≤ S32x256.size a := fun d0 v9 k0_t2 v582 v584 k0_hw48 k0_h5 => k0_hw48.2.2.2.2.2.1 k0_h5
theorem k0_off295_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off295 v582 v584) a + S1x1.size a ≤ S32x256.size a := fun d0 v9 k0_t2 v582 v584 k0_hw48 k0_h5 => k0_hw48.2.2.2.2.2.2.1 k0_h5
theorem k0_off301_inb : ∀ (d0 : Dev nD) (v9 : BitVec 32) (k0_t2 : Fin (k0_t2_loop d0 v9).trips) (v582 : BitVec 32) (v584 : BitVec 32) (k0_hw48 : k0_chk48 d0 v9 k0_t2 v582 v584), ∀ (k0_h5 : k0_cond5 d0 v9 k0_t2 = 1#1), ∀ a, (k0_off301 v582 v584) a + S1x1.size a ≤ S32x256.size a := fun d0 v9 k0_t2 v582 v584 k0_hw48 k0_h5 => k0_hw48.2.2.2.2.2.2.2 k0_h5

def k0_off302 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c7_i32_719 : BitVec 32 := 7#32
  let c0_i32_720 : BitVec 32 := 0#32
  ![v580.toNat, 7, 0]
def k0_off303 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c7_i32_718 : BitVec 32 := 7#32
  let c0_i32_721 : BitVec 32 := 0#32
  let c0_i32_722 : BitVec 32 := 0#32
  let c0_i32_723 : BitVec 32 := 0#32
  ![v580.toNat, 7, 0, 0, 0]
def k0_off304 (v708 : BitVec 32) : Fin 4 → Nat :=
  let c0_i32_724 : BitVec 32 := 0#32
  let c0_i32_725 : BitVec 32 := 0#32
  let c0_i32_726 : BitVec 32 := 0#32
  ![v708.toNat, 0, 0, 0]

def k0_chk56 (d0 : Dev nD) (v9 : BitVec 32) (k0_t2 : Fin (k0_t2_loop d0 v9).trips) (v708 : BitVec 32) : Prop :=
  (∀ (k0_h5 : k0_cond5 d0 v9 k0_t2 = 1#1), ∀ a, (k0_off304 v708) a + S1x32x16x128.size a ≤ S256x32x16x128.size a)
theorem k0_off304_inb : ∀ (d0 : Dev nD) (v9 : BitVec 32) (k0_t2 : Fin (k0_t2_loop d0 v9).trips) (v708 : BitVec 32) (k0_hw56 : k0_chk56 d0 v9 k0_t2 v708), ∀ (k0_h5 : k0_cond5 d0 v9 k0_t2 = 1#1), ∀ a, (k0_off304 v708) a + S1x32x16x128.size a ≤ S256x32x16x128.size a := fun d0 v9 k0_t2 v708 k0_hw56 k0_h5 => k0_hw56 k0_h5

def k0_off305 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c7_i32_728 : BitVec 32 := 7#32
  let c1_i32_729 : BitVec 32 := 1#32
  ![v580.toNat, 7, 1]
def k0_off306 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c3_i32_571 : BitVec 32 := 3#32
  let v577 : BitVec 32 := Scalar.addi arg17 c3_i32_571
  let c4_i32_573 : BitVec 32 := 4#32
  let v580 : BitVec 32 := Scalar.remsi v577 c4_i32_573
  let c7_i32_727 : BitVec 32 := 7#32
  let c0_i32_730 : BitVec 32 := 0#32
  let c0_i32_731 : BitVec 32 := 0#32
  let c0_i32_732 : BitVec 32 := 0#32
  ![v580.toNat, 7, 0, 0, 0]
def k0_off307 (d0 : Dev nD) (v9 : BitVec 32) (k0_t2 : Fin (k0_t2_loop d0 v9).trips) : Fin 2 → Nat :=
  let c0_382 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c0_i32_42 : BitVec 32 := 0#32
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let v361 : BitVec 32 := Scalar.muli c8_i32_381 arg17
  let v362 : BitVec 32 := Scalar.addi v11 v361
  let v363 : Index := Scalar.indexCast v362
  ![0, v363.toNat]
def k0_off308 (d0 : Dev nD) (v9 : BitVec 32) (k0_t2 : Fin (k0_t2_loop d0 v9).trips) : Fin 2 → Nat :=
  let c1_383 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c0_i32_42 : BitVec 32 := 0#32
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let v361 : BitVec 32 := Scalar.muli c8_i32_381 arg17
  let v362 : BitVec 32 := Scalar.addi v11 v361
  let v365 : Index := Scalar.indexCast v362
  ![1, v365.toNat]
def k0_off309 (v364 : BitVec 32) (v366 : BitVec 32) : Fin 2 → Nat :=
  let v369 : Index := Scalar.indexCast v364
  let c8_i32_384 : BitVec 32 := 8#32
  let v367 : BitVec 32 := Scalar.muli v366 c8_i32_384
  let c0_i32_385 : BitVec 32 := 0#32
  let v368 : BitVec 32 := Scalar.addi v367 c0_i32_385
  let v370 : Index := Scalar.indexCast v368
  ![v369.toNat, v370.toNat]

def k0_off310 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c0_i32_387 : BitVec 32 := 0#32
  let c0_i32_388 : BitVec 32 := 0#32
  ![v356.toNat, 0, 0]
def k0_off311 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c0_i32_386 : BitVec 32 := 0#32
  let c0_i32_389 : BitVec 32 := 0#32
  let c0_i32_390 : BitVec 32 := 0#32
  let c0_i32_391 : BitVec 32 := 0#32
  ![v356.toNat, 0, 0, 0, 0]
def k0_off312 (v371 : BitVec 32) : Fin 4 → Nat :=
  let c0_i32_392 : BitVec 32 := 0#32
  let c0_i32_393 : BitVec 32 := 0#32
  let c0_i32_394 : BitVec 32 := 0#32
  ![v371.toNat, 0, 0, 0]

def k0_chk58 (v371 : BitVec 32) : Prop :=
  (∀ a, (k0_off312 v371) a + S1x32x16x128.size a ≤ S256x32x16x128.size a)
theorem k0_off312_inb : ∀ (v371 : BitVec 32) (k0_hw58 : k0_chk58 v371), ∀ a, (k0_off312 v371) a + S1x32x16x128.size a ≤ S256x32x16x128.size a := fun v371 k0_hw58 => k0_hw58

def k0_off313 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c0_i32_396 : BitVec 32 := 0#32
  let c1_i32_397 : BitVec 32 := 1#32
  ![v356.toNat, 0, 1]
def k0_off314 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c0_i32_395 : BitVec 32 := 0#32
  let c0_i32_398 : BitVec 32 := 0#32
  let c0_i32_399 : BitVec 32 := 0#32
  let c0_i32_400 : BitVec 32 := 0#32
  ![v356.toNat, 0, 0, 0, 0]
def k0_off315 (v364 : BitVec 32) (v366 : BitVec 32) : Fin 2 → Nat :=
  let v386 : Index := Scalar.indexCast v364
  let c8_i32_404 : BitVec 32 := 8#32
  let v384 : BitVec 32 := Scalar.muli v366 c8_i32_404
  let c1_i32_405 : BitVec 32 := 1#32
  let v385 : BitVec 32 := Scalar.addi v384 c1_i32_405
  let v387 : Index := Scalar.indexCast v385
  ![v386.toNat, v387.toNat]
def k0_off316 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c1_i32_407 : BitVec 32 := 1#32
  let c0_i32_408 : BitVec 32 := 0#32
  ![v356.toNat, 1, 0]
def k0_off317 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c1_i32_406 : BitVec 32 := 1#32
  let c0_i32_409 : BitVec 32 := 0#32
  let c0_i32_410 : BitVec 32 := 0#32
  let c0_i32_411 : BitVec 32 := 0#32
  ![v356.toNat, 1, 0, 0, 0]
def k0_off318 (v388 : BitVec 32) : Fin 4 → Nat :=
  let c0_i32_412 : BitVec 32 := 0#32
  let c0_i32_413 : BitVec 32 := 0#32
  let c0_i32_414 : BitVec 32 := 0#32
  ![v388.toNat, 0, 0, 0]

def k0_chk59 (v388 : BitVec 32) : Prop :=
  (∀ a, (k0_off318 v388) a + S1x32x16x128.size a ≤ S256x32x16x128.size a)
theorem k0_off318_inb : ∀ (v388 : BitVec 32) (k0_hw59 : k0_chk59 v388), ∀ a, (k0_off318 v388) a + S1x32x16x128.size a ≤ S256x32x16x128.size a := fun v388 k0_hw59 => k0_hw59

def k0_off319 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c1_i32_416 : BitVec 32 := 1#32
  let c1_i32_417 : BitVec 32 := 1#32
  ![v356.toNat, 1, 1]
def k0_off320 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c1_i32_415 : BitVec 32 := 1#32
  let c0_i32_418 : BitVec 32 := 0#32
  let c0_i32_419 : BitVec 32 := 0#32
  let c0_i32_420 : BitVec 32 := 0#32
  ![v356.toNat, 1, 0, 0, 0]
def k0_off321 (v364 : BitVec 32) (v366 : BitVec 32) : Fin 2 → Nat :=
  let v403 : Index := Scalar.indexCast v364
  let c8_i32_424 : BitVec 32 := 8#32
  let v401 : BitVec 32 := Scalar.muli v366 c8_i32_424
  let c2_i32_425 : BitVec 32 := 2#32
  let v402 : BitVec 32 := Scalar.addi v401 c2_i32_425
  let v404 : Index := Scalar.indexCast v402
  ![v403.toNat, v404.toNat]
def k0_off322 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c2_i32_427 : BitVec 32 := 2#32
  let c0_i32_428 : BitVec 32 := 0#32
  ![v356.toNat, 2, 0]
def k0_off323 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c2_i32_426 : BitVec 32 := 2#32
  let c0_i32_429 : BitVec 32 := 0#32
  let c0_i32_430 : BitVec 32 := 0#32
  let c0_i32_431 : BitVec 32 := 0#32
  ![v356.toNat, 2, 0, 0, 0]
def k0_off324 (v405 : BitVec 32) : Fin 4 → Nat :=
  let c0_i32_432 : BitVec 32 := 0#32
  let c0_i32_433 : BitVec 32 := 0#32
  let c0_i32_434 : BitVec 32 := 0#32
  ![v405.toNat, 0, 0, 0]

def k0_chk60 (v405 : BitVec 32) : Prop :=
  (∀ a, (k0_off324 v405) a + S1x32x16x128.size a ≤ S256x32x16x128.size a)
theorem k0_off324_inb : ∀ (v405 : BitVec 32) (k0_hw60 : k0_chk60 v405), ∀ a, (k0_off324 v405) a + S1x32x16x128.size a ≤ S256x32x16x128.size a := fun v405 k0_hw60 => k0_hw60

def k0_off325 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c2_i32_436 : BitVec 32 := 2#32
  let c1_i32_437 : BitVec 32 := 1#32
  ![v356.toNat, 2, 1]
def k0_off326 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c2_i32_435 : BitVec 32 := 2#32
  let c0_i32_438 : BitVec 32 := 0#32
  let c0_i32_439 : BitVec 32 := 0#32
  let c0_i32_440 : BitVec 32 := 0#32
  ![v356.toNat, 2, 0, 0, 0]
def k0_off327 (v364 : BitVec 32) (v366 : BitVec 32) : Fin 2 → Nat :=
  let v420 : Index := Scalar.indexCast v364
  let c8_i32_444 : BitVec 32 := 8#32
  let v418 : BitVec 32 := Scalar.muli v366 c8_i32_444
  let c3_i32_445 : BitVec 32 := 3#32
  let v419 : BitVec 32 := Scalar.addi v418 c3_i32_445
  let v421 : Index := Scalar.indexCast v419
  ![v420.toNat, v421.toNat]
def k0_off328 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c3_i32_447 : BitVec 32 := 3#32
  let c0_i32_448 : BitVec 32 := 0#32
  ![v356.toNat, 3, 0]
def k0_off329 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c3_i32_446 : BitVec 32 := 3#32
  let c0_i32_449 : BitVec 32 := 0#32
  let c0_i32_450 : BitVec 32 := 0#32
  let c0_i32_451 : BitVec 32 := 0#32
  ![v356.toNat, 3, 0, 0, 0]
def k0_off330 (v422 : BitVec 32) : Fin 4 → Nat :=
  let c0_i32_452 : BitVec 32 := 0#32
  let c0_i32_453 : BitVec 32 := 0#32
  let c0_i32_454 : BitVec 32 := 0#32
  ![v422.toNat, 0, 0, 0]

def k0_chk61 (v422 : BitVec 32) : Prop :=
  (∀ a, (k0_off330 v422) a + S1x32x16x128.size a ≤ S256x32x16x128.size a)
theorem k0_off330_inb : ∀ (v422 : BitVec 32) (k0_hw61 : k0_chk61 v422), ∀ a, (k0_off330 v422) a + S1x32x16x128.size a ≤ S256x32x16x128.size a := fun v422 k0_hw61 => k0_hw61

def k0_off331 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c3_i32_456 : BitVec 32 := 3#32
  let c1_i32_457 : BitVec 32 := 1#32
  ![v356.toNat, 3, 1]
def k0_off332 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c3_i32_455 : BitVec 32 := 3#32
  let c0_i32_458 : BitVec 32 := 0#32
  let c0_i32_459 : BitVec 32 := 0#32
  let c0_i32_460 : BitVec 32 := 0#32
  ![v356.toNat, 3, 0, 0, 0]
def k0_off333 (v364 : BitVec 32) (v366 : BitVec 32) : Fin 2 → Nat :=
  let v437 : Index := Scalar.indexCast v364
  let c8_i32_464 : BitVec 32 := 8#32
  let v435 : BitVec 32 := Scalar.muli v366 c8_i32_464
  let c4_i32_465 : BitVec 32 := 4#32
  let v436 : BitVec 32 := Scalar.addi v435 c4_i32_465
  let v438 : Index := Scalar.indexCast v436
  ![v437.toNat, v438.toNat]
def k0_off334 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c4_i32_467 : BitVec 32 := 4#32
  let c0_i32_468 : BitVec 32 := 0#32
  ![v356.toNat, 4, 0]
def k0_off335 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c4_i32_466 : BitVec 32 := 4#32
  let c0_i32_469 : BitVec 32 := 0#32
  let c0_i32_470 : BitVec 32 := 0#32
  let c0_i32_471 : BitVec 32 := 0#32
  ![v356.toNat, 4, 0, 0, 0]
def k0_off336 (v439 : BitVec 32) : Fin 4 → Nat :=
  let c0_i32_472 : BitVec 32 := 0#32
  let c0_i32_473 : BitVec 32 := 0#32
  let c0_i32_474 : BitVec 32 := 0#32
  ![v439.toNat, 0, 0, 0]

def k0_chk62 (v439 : BitVec 32) : Prop :=
  (∀ a, (k0_off336 v439) a + S1x32x16x128.size a ≤ S256x32x16x128.size a)
theorem k0_off336_inb : ∀ (v439 : BitVec 32) (k0_hw62 : k0_chk62 v439), ∀ a, (k0_off336 v439) a + S1x32x16x128.size a ≤ S256x32x16x128.size a := fun v439 k0_hw62 => k0_hw62

def k0_off337 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c4_i32_476 : BitVec 32 := 4#32
  let c1_i32_477 : BitVec 32 := 1#32
  ![v356.toNat, 4, 1]
def k0_off338 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c4_i32_475 : BitVec 32 := 4#32
  let c0_i32_478 : BitVec 32 := 0#32
  let c0_i32_479 : BitVec 32 := 0#32
  let c0_i32_480 : BitVec 32 := 0#32
  ![v356.toNat, 4, 0, 0, 0]
def k0_off339 (v364 : BitVec 32) (v366 : BitVec 32) : Fin 2 → Nat :=
  let v454 : Index := Scalar.indexCast v364
  let c8_i32_484 : BitVec 32 := 8#32
  let v452 : BitVec 32 := Scalar.muli v366 c8_i32_484
  let c5_i32 : BitVec 32 := 5#32
  let v453 : BitVec 32 := Scalar.addi v452 c5_i32
  let v455 : Index := Scalar.indexCast v453
  ![v454.toNat, v455.toNat]
def k0_off340 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c5_i32_486 : BitVec 32 := 5#32
  let c0_i32_487 : BitVec 32 := 0#32
  ![v356.toNat, 5, 0]
def k0_off341 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c5_i32_485 : BitVec 32 := 5#32
  let c0_i32_488 : BitVec 32 := 0#32
  let c0_i32_489 : BitVec 32 := 0#32
  let c0_i32_490 : BitVec 32 := 0#32
  ![v356.toNat, 5, 0, 0, 0]
def k0_off342 (v456 : BitVec 32) : Fin 4 → Nat :=
  let c0_i32_491 : BitVec 32 := 0#32
  let c0_i32_492 : BitVec 32 := 0#32
  let c0_i32_493 : BitVec 32 := 0#32
  ![v456.toNat, 0, 0, 0]

def k0_chk63 (v456 : BitVec 32) : Prop :=
  (∀ a, (k0_off342 v456) a + S1x32x16x128.size a ≤ S256x32x16x128.size a)
theorem k0_off342_inb : ∀ (v456 : BitVec 32) (k0_hw63 : k0_chk63 v456), ∀ a, (k0_off342 v456) a + S1x32x16x128.size a ≤ S256x32x16x128.size a := fun v456 k0_hw63 => k0_hw63

def k0_off343 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c5_i32_495 : BitVec 32 := 5#32
  let c1_i32_496 : BitVec 32 := 1#32
  ![v356.toNat, 5, 1]
def k0_off344 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c5_i32_494 : BitVec 32 := 5#32
  let c0_i32_497 : BitVec 32 := 0#32
  let c0_i32_498 : BitVec 32 := 0#32
  let c0_i32_499 : BitVec 32 := 0#32
  ![v356.toNat, 5, 0, 0, 0]
def k0_off345 (v364 : BitVec 32) (v366 : BitVec 32) : Fin 2 → Nat :=
  let v471 : Index := Scalar.indexCast v364
  let c8_i32_503 : BitVec 32 := 8#32
  let v469 : BitVec 32 := Scalar.muli v366 c8_i32_503
  let c6_i32 : BitVec 32 := 6#32
  let v470 : BitVec 32 := Scalar.addi v469 c6_i32
  let v472 : Index := Scalar.indexCast v470
  ![v471.toNat, v472.toNat]
def k0_off346 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c6_i32_505 : BitVec 32 := 6#32
  let c0_i32_506 : BitVec 32 := 0#32
  ![v356.toNat, 6, 0]
def k0_off347 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c6_i32_504 : BitVec 32 := 6#32
  let c0_i32_507 : BitVec 32 := 0#32
  let c0_i32_508 : BitVec 32 := 0#32
  let c0_i32_509 : BitVec 32 := 0#32
  ![v356.toNat, 6, 0, 0, 0]
def k0_off348 (v473 : BitVec 32) : Fin 4 → Nat :=
  let c0_i32_510 : BitVec 32 := 0#32
  let c0_i32_511 : BitVec 32 := 0#32
  let c0_i32_512 : BitVec 32 := 0#32
  ![v473.toNat, 0, 0, 0]

def k0_chk64 (v473 : BitVec 32) : Prop :=
  (∀ a, (k0_off348 v473) a + S1x32x16x128.size a ≤ S256x32x16x128.size a)
theorem k0_off348_inb : ∀ (v473 : BitVec 32) (k0_hw64 : k0_chk64 v473), ∀ a, (k0_off348 v473) a + S1x32x16x128.size a ≤ S256x32x16x128.size a := fun v473 k0_hw64 => k0_hw64

def k0_off349 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c6_i32_514 : BitVec 32 := 6#32
  let c1_i32_515 : BitVec 32 := 1#32
  ![v356.toNat, 6, 1]
def k0_off350 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c6_i32_513 : BitVec 32 := 6#32
  let c0_i32_516 : BitVec 32 := 0#32
  let c0_i32_517 : BitVec 32 := 0#32
  let c0_i32_518 : BitVec 32 := 0#32
  ![v356.toNat, 6, 0, 0, 0]
def k0_off351 (v364 : BitVec 32) (v366 : BitVec 32) : Fin 2 → Nat :=
  let v488 : Index := Scalar.indexCast v364
  let c8_i32_522 : BitVec 32 := 8#32
  let v486 : BitVec 32 := Scalar.muli v366 c8_i32_522
  let c7_i32 : BitVec 32 := 7#32
  let v487 : BitVec 32 := Scalar.addi v486 c7_i32
  let v489 : Index := Scalar.indexCast v487
  ![v488.toNat, v489.toNat]

def k0_chk57 (v364 : BitVec 32) (v366 : BitVec 32) : Prop :=
  (∀ a, (k0_off309 v364 v366) a + S1x1.size a ≤ S32x256.size a) ∧
  (∀ a, (k0_off315 v364 v366) a + S1x1.size a ≤ S32x256.size a) ∧
  (∀ a, (k0_off321 v364 v366) a + S1x1.size a ≤ S32x256.size a) ∧
  (∀ a, (k0_off327 v364 v366) a + S1x1.size a ≤ S32x256.size a) ∧
  (∀ a, (k0_off333 v364 v366) a + S1x1.size a ≤ S32x256.size a) ∧
  (∀ a, (k0_off339 v364 v366) a + S1x1.size a ≤ S32x256.size a) ∧
  (∀ a, (k0_off345 v364 v366) a + S1x1.size a ≤ S32x256.size a) ∧
  (∀ a, (k0_off351 v364 v366) a + S1x1.size a ≤ S32x256.size a)
theorem k0_off309_inb : ∀ (v364 : BitVec 32) (v366 : BitVec 32) (k0_hw57 : k0_chk57 v364 v366), ∀ a, (k0_off309 v364 v366) a + S1x1.size a ≤ S32x256.size a := fun v364 v366 k0_hw57 => k0_hw57.1
theorem k0_off315_inb : ∀ (v364 : BitVec 32) (v366 : BitVec 32) (k0_hw57 : k0_chk57 v364 v366), ∀ a, (k0_off315 v364 v366) a + S1x1.size a ≤ S32x256.size a := fun v364 v366 k0_hw57 => k0_hw57.2.1
theorem k0_off321_inb : ∀ (v364 : BitVec 32) (v366 : BitVec 32) (k0_hw57 : k0_chk57 v364 v366), ∀ a, (k0_off321 v364 v366) a + S1x1.size a ≤ S32x256.size a := fun v364 v366 k0_hw57 => k0_hw57.2.2.1
theorem k0_off327_inb : ∀ (v364 : BitVec 32) (v366 : BitVec 32) (k0_hw57 : k0_chk57 v364 v366), ∀ a, (k0_off327 v364 v366) a + S1x1.size a ≤ S32x256.size a := fun v364 v366 k0_hw57 => k0_hw57.2.2.2.1
theorem k0_off333_inb : ∀ (v364 : BitVec 32) (v366 : BitVec 32) (k0_hw57 : k0_chk57 v364 v366), ∀ a, (k0_off333 v364 v366) a + S1x1.size a ≤ S32x256.size a := fun v364 v366 k0_hw57 => k0_hw57.2.2.2.2.1
theorem k0_off339_inb : ∀ (v364 : BitVec 32) (v366 : BitVec 32) (k0_hw57 : k0_chk57 v364 v366), ∀ a, (k0_off339 v364 v366) a + S1x1.size a ≤ S32x256.size a := fun v364 v366 k0_hw57 => k0_hw57.2.2.2.2.2.1
theorem k0_off345_inb : ∀ (v364 : BitVec 32) (v366 : BitVec 32) (k0_hw57 : k0_chk57 v364 v366), ∀ a, (k0_off345 v364 v366) a + S1x1.size a ≤ S32x256.size a := fun v364 v366 k0_hw57 => k0_hw57.2.2.2.2.2.2.1
theorem k0_off351_inb : ∀ (v364 : BitVec 32) (v366 : BitVec 32) (k0_hw57 : k0_chk57 v364 v366), ∀ a, (k0_off351 v364 v366) a + S1x1.size a ≤ S32x256.size a := fun v364 v366 k0_hw57 => k0_hw57.2.2.2.2.2.2.2

def k0_off352 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c7_i32_524 : BitVec 32 := 7#32
  let c0_i32_525 : BitVec 32 := 0#32
  ![v356.toNat, 7, 0]
def k0_off353 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c7_i32_523 : BitVec 32 := 7#32
  let c0_i32_526 : BitVec 32 := 0#32
  let c0_i32_527 : BitVec 32 := 0#32
  let c0_i32_528 : BitVec 32 := 0#32
  ![v356.toNat, 7, 0, 0, 0]
def k0_off354 (v490 : BitVec 32) : Fin 4 → Nat :=
  let c0_i32_529 : BitVec 32 := 0#32
  let c0_i32_530 : BitVec 32 := 0#32
  let c0_i32_531 : BitVec 32 := 0#32
  ![v490.toNat, 0, 0, 0]

def k0_chk65 (v490 : BitVec 32) : Prop :=
  (∀ a, (k0_off354 v490) a + S1x32x16x128.size a ≤ S256x32x16x128.size a)
theorem k0_off354_inb : ∀ (v490 : BitVec 32) (k0_hw65 : k0_chk65 v490), ∀ a, (k0_off354 v490) a + S1x32x16x128.size a ≤ S256x32x16x128.size a := fun v490 k0_hw65 => k0_hw65

def k0_off355 (d0 : Dev nD) (v9 : BitVec 32) (k0_t2 : Fin (k0_t2_loop d0 v9).trips) : Fin 3 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c7_i32_533 : BitVec 32 := 7#32
  let c1_i32_534 : BitVec 32 := 1#32
  ![v356.toNat, 7, 1]
def k0_off356 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let c7_i32_532 : BitVec 32 := 7#32
  let c0_i32_535 : BitVec 32 := 0#32
  let c0_i32_536 : BitVec 32 := 0#32
  let c0_i32_537 : BitVec 32 := 0#32
  ![v356.toNat, 7, 0, 0, 0]
def k0_off357 (d0 : Dev nD) (v9 : BitVec 32) (k0_t2 : Fin (k0_t2_loop d0 v9).trips) : Fin 2 → Nat :=
  let c0_541 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c0_i32_42 : BitVec 32 := 0#32
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let v361 : BitVec 32 := Scalar.muli c8_i32_381 arg17
  let v362 : BitVec 32 := Scalar.addi v11 v361
  let v503 : Index := Scalar.indexCast v362
  ![0, v503.toNat]
def k0_off358 (d0 : Dev nD) (v9 : BitVec 32) (k0_t2 : Fin (k0_t2_loop d0 v9).trips) : Fin 2 → Nat :=
  let c1_542 : Index := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let c8_i32_381 : BitVec 32 := 8#32
  let c0_i32_49 : BitVec 32 := 0#32
  let c0_i32_42 : BitVec 32 := 0#32
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let v361 : BitVec 32 := Scalar.muli c8_i32_381 arg17
  let v362 : BitVec 32 := Scalar.addi v11 v361
  let v505 : Index := Scalar.indexCast v362
  ![1, v505.toNat]
def k0_off359 (v504 : BitVec 32) : Fin 3 → Nat :=
  let v507 : Index := Scalar.indexCast v504
  let c0_543 : Index := 0#32
  let c0_544 : Index := 0#32
  ![v507.toNat, 0, 0]

def k0_off360 (d0 : Dev nD) (v9 : BitVec 32) (k0_t2 : Fin (k0_t2_loop d0 v9).trips) : Fin 5 → Nat :=
  let c0_i32_49 : BitVec 32 := 0#32
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c4_i32_2 : BitVec 32 := 4#32
  let v10 : BitVec 32 := Scalar.muli v2 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v11 : BitVec 32 := Scalar.addi v10 v8
  let v49 : BitVec 32 := Scalar.subi v9 v11
  let c8_i32_33 : BitVec 32 := 8#32
  let v50 : BitVec 32 := Scalar.addi v49 c8_i32_33
  let c1_i32_34 : BitVec 32 := 1#32
  let v51 : BitVec 32 := Scalar.subi v50 c1_i32_34
  let c0_i32_36 : BitVec 32 := 0#32
  let v53 : BitVec 1 := Scalar.cmpi .sgt v51 c0_i32_36
  let v54 : BitVec 32 := Scalar.extui v53
  let c0_i32_37 : BitVec 32 := 0#32
  let v55 : BitVec 1 := Scalar.cmpi .slt v51 c0_i32_37
  let v56 : BitVec 32 := Scalar.extui v55
  let v57 : BitVec 32 := Scalar.subi v54 v56
  let c8_i32_35 : BitVec 32 := 8#32
  let c0_i32_38 : BitVec 32 := 0#32
  let v58 : BitVec 1 := Scalar.cmpi .sgt c8_i32_35 c0_i32_38
  let v59 : BitVec 32 := Scalar.extui v58
  let c0_i32_39 : BitVec 32 := 0#32
  let v60 : BitVec 1 := Scalar.cmpi .slt c8_i32_35 c0_i32_39
  let v61 : BitVec 32 := Scalar.extui v60
  let v62 : BitVec 32 := Scalar.subi v59 v61
  let v63 : BitVec 1 := Scalar.cmpi .ne v57 v62
  let v64 : BitVec 32 := Scalar.remsi v51 c8_i32_35
  let c0_i32_40 : BitVec 32 := 0#32
  let v65 : BitVec 1 := Scalar.cmpi .ne v64 c0_i32_40
  let v66 : BitVec 1 := Scalar.andi v63 v65
  let v52 : BitVec 32 := Scalar.divsi v51 c8_i32_35
  let c1_i32_41 : BitVec 32 := 1#32
  let v67 : BitVec 32 := Scalar.subi v52 c1_i32_41
  let v68 : BitVec 32 := Scalar.select v66 v67 v52
  let v69 : BitVec 32 := Scalar.maxsi c0_i32_42 v68
  let v79 : BitVec 32 := Scalar.subi v69 c0_i32_49
  let c1_i32_51 : BitVec 32 := 1#32
  let v81 : BitVec 32 := Scalar.divsi v79 c1_i32_51
  let v82 : BitVec 32 := Scalar.muli v81 c1_i32_51
  let v83 : BitVec 32 := Scalar.addi c0_i32_49 v82
  let c1_i32_53 : BitVec 32 := 1#32
  let arg17 : BitVec 32 := Scf.iv v83 c1_i32_53 k0_t2
  let c4_i32_378 : BitVec 32 := 4#32
  let v356 : BitVec 32 := Scalar.remsi arg17 c4_i32_378
  let v510 : Index := Scalar.indexCast v356
  let c0_545 : Index := 0#32
  let c0_546 : Index := 0#32
  let c0_547 : Index := 0#32
  let c0_548 : Index := 0#32
  ![v510.toNat, 0, 0, 0, 0]

def k0_chk28_0 (d0 : Dev nD) (v9 : BitVec 32) : Prop :=
  ((k0_t1_loop d0 v9).OK) ∧
  (∀ k0_t1 : Fin (k0_t1_loop d0 v9).trips, ∀ (k0_h4 : k0_cond4 d0 v9 k0_t1 = 1#1), ∀ a, (k0_off151 d0 v9 k0_t1) a + S1x1.size a ≤ S2x1024.size a) ∧
  (∀ k0_t1 : Fin (k0_t1_loop d0 v9).trips, ∀ (k0_h4 : k0_cond4 d0 v9 k0_t1 = 1#1), ∀ a, (k0_off152 d0 v9 k0_t1) a + S1x1.size a ≤ S2x1024.size a) ∧
  (∀ k0_t1 : Fin (k0_t1_loop d0 v9).trips, ∀ (k0_h4 : k0_cond4 d0 v9 k0_t1 = 1#1), ∀ a, (k0_off154 d0 v9 k0_t1) a + S1x1x1.size a ≤ S4x8x2.size a) ∧
  (∀ k0_t1 : Fin (k0_t1_loop d0 v9).trips, ∀ (k0_h4 : k0_cond4 d0 v9 k0_t1 = 1#1), ∀ a, (k0_off155 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off157 d0 v9 k0_t1) a + S1x1x1.size a ≤ S4x8x2.size a) ∧
  (∀ k0_t1 : Fin (k0_t1_loop d0 v9).trips, ∀ (k0_h4 : k0_cond4 d0 v9 k0_t1 = 1#1), ∀ a, (k0_off158 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off160 d0 v9 k0_t1) a + S1x1x1.size a ≤ S4x8x2.size a) ∧
  (∀ k0_t1 : Fin (k0_t1_loop d0 v9).trips, ∀ (k0_h4 : k0_cond4 d0 v9 k0_t1 = 1#1), ∀ a, (k0_off161 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off163 d0 v9 k0_t1) a + S1x1x1.size a ≤ S4x8x2.size a) ∧
  (∀ k0_t1 : Fin (k0_t1_loop d0 v9).trips, ∀ (k0_h4 : k0_cond4 d0 v9 k0_t1 = 1#1), ∀ a, (k0_off164 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off166 d0 v9 k0_t1) a + S1x1x1.size a ≤ S4x8x2.size a) ∧
  (∀ k0_t1 : Fin (k0_t1_loop d0 v9).trips, ∀ (k0_h4 : k0_cond4 d0 v9 k0_t1 = 1#1), ∀ a, (k0_off167 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off169 d0 v9 k0_t1) a + S1x1x1.size a ≤ S4x8x2.size a) ∧
  (∀ k0_t1 : Fin (k0_t1_loop d0 v9).trips, ∀ (k0_h4 : k0_cond4 d0 v9 k0_t1 = 1#1), ∀ a, (k0_off170 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off172 d0 v9 k0_t1) a + S1x1x1.size a ≤ S4x8x2.size a) ∧
  (∀ k0_t1 : Fin (k0_t1_loop d0 v9).trips, ∀ (k0_h4 : k0_cond4 d0 v9 k0_t1 = 1#1), ∀ a, (k0_off173 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off175 d0 v9 k0_t1) a + S1x1x1.size a ≤ S4x8x2.size a) ∧
  (∀ k0_t1 : Fin (k0_t1_loop d0 v9).trips, ∀ (k0_h4 : k0_cond4 d0 v9 k0_t1 = 1#1), ∀ a, (k0_off176 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off178 d0 v9 k0_t1) a + S1x1x1.size a ≤ S4x8x2.size a) ∧
  (∀ k0_t1 : Fin (k0_t1_loop d0 v9).trips, ∀ (k0_h4 : k0_cond4 d0 v9 k0_t1 = 1#1), ∀ a, (k0_off179 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off181 d0 v9 k0_t1) a + S1x1x1.size a ≤ S4x8x2.size a) ∧
  (∀ k0_t1 : Fin (k0_t1_loop d0 v9).trips, ∀ (k0_h4 : k0_cond4 d0 v9 k0_t1 = 1#1), ∀ a, (k0_off182 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off184 d0 v9 k0_t1) a + S1x1x1.size a ≤ S4x8x2.size a) ∧
  (∀ k0_t1 : Fin (k0_t1_loop d0 v9).trips, ∀ (k0_h4 : k0_cond4 d0 v9 k0_t1 = 1#1), ∀ a, (k0_off185 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off187 d0 v9 k0_t1) a + S1x1x1.size a ≤ S4x8x2.size a) ∧
  (∀ k0_t1 : Fin (k0_t1_loop d0 v9).trips, ∀ (k0_h4 : k0_cond4 d0 v9 k0_t1 = 1#1), ∀ a, (k0_off188 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off190 d0 v9 k0_t1) a + S1x1x1.size a ≤ S4x8x2.size a) ∧
  (∀ k0_t1 : Fin (k0_t1_loop d0 v9).trips, ∀ (k0_h4 : k0_cond4 d0 v9 k0_t1 = 1#1), ∀ a, (k0_off191 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off193 d0 v9 k0_t1) a + S1x1x1.size a ≤ S4x8x2.size a) ∧
  (∀ k0_t1 : Fin (k0_t1_loop d0 v9).trips, ∀ (k0_h4 : k0_cond4 d0 v9 k0_t1 = 1#1), ∀ a, (k0_off194 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off196 d0 v9 k0_t1) a + S1x1x1.size a ≤ S4x8x2.size a)
def k0_chk28_1 (d0 : Dev nD) (v9 : BitVec 32) : Prop :=
  (∀ k0_t1 : Fin (k0_t1_loop d0 v9).trips, ∀ (k0_h4 : k0_cond4 d0 v9 k0_t1 = 1#1), ∀ a, (k0_off197 d0 v9 k0_t1) a + S1x1x32x16x128.size a ≤ S4x8x32x16x128.size a) ∧
  (∀ k0_t1 : Fin (k0_t1_loop d0 v9).trips, ∀ (k0_h4 : k0_cond4 d0 v9 k0_t1 = 1#1), ∀ a, (k0_off199 d0 v9 k0_t1) a + S1x1x1.size a ≤ S4x8x2.size a) ∧
  (∀ k0_t1 : Fin (k0_t1_loop d0 v9).trips, ∀ (k0_h4 : k0_cond4 d0 v9 k0_t1 = 1#1), ∀ a, (k0_off200 d0 v9 k0_t1) a + S1x1x32x16x128.size a ≤ S4x8x32x16x128.size a) ∧
  (∀ k0_t1 : Fin (k0_t1_loop d0 v9).trips, ∀ a, (k0_off201 d0 v9 k0_t1) a + S1x1.size a ≤ S2x1024.size a) ∧
  (∀ k0_t1 : Fin (k0_t1_loop d0 v9).trips, ∀ a, (k0_off202 d0 v9 k0_t1) a + S1x1.size a ≤ S2x1024.size a) ∧
  (∀ k0_t1 : Fin (k0_t1_loop d0 v9).trips, ∀ a, (k0_off204 d0 v9 k0_t1) a + S1x1x1.size a ≤ S4x8x2.size a) ∧
  (∀ k0_t1 : Fin (k0_t1_loop d0 v9).trips, ∀ a, (k0_off205 d0 v9 k0_t1) a + S1x1x32x16x128.size a ≤ S4x8x32x16x128.size a) ∧
  (∀ k0_t1 : Fin (k0_t1_loop d0 v9).trips, ∀ a, (k0_off207 d0 v9 k0_t1) a + S1x1x1.size a ≤ S4x8x2.size a) ∧
  (∀ k0_t1 : Fin (k0_t1_loop d0 v9).trips, ∀ a, (k0_off208 d0 v9 k0_t1) a + S1x1x32x16x128.size a ≤ S4x8x32x16x128.size a) ∧
  (∀ k0_t1 : Fin (k0_t1_loop d0 v9).trips, ∀ a, (k0_off210 d0 v9 k0_t1) a + S1x1x1.size a ≤ S4x8x2.size a) ∧
  (∀ k0_t1 : Fin (k0_t1_loop d0 v9).trips, ∀ a, (k0_off211 d0 v9 k0_t1) a + S1x1x32x16x128.size a ≤ S4x8x32x16x128.size a) ∧
  (∀ k0_t1 : Fin (k0_t1_loop d0 v9).trips, ∀ a, (k0_off213 d0 v9 k0_t1) a + S1x1x1.size a ≤ S4x8x2.size a) ∧
  (∀ k0_t1 : Fin (k0_t1_loop d0 v9).trips, ∀ a, (k0_off214 d0 v9 k0_t1) a + S1x1x32x16x128.size a ≤ S4x8x32x16x128.size a) ∧
  (∀ k0_t1 : Fin (k0_t1_loop d0 v9).trips, ∀ a, (k0_off216 d0 v9 k0_t1) a + S1x1x1.size a ≤ S4x8x2.size a) ∧
  (∀ k0_t1 : Fin (k0_t1_loop d0 v9).trips, ∀ a, (k0_off217 d0 v9 k0_t1) a + S1x1x32x16x128.size a ≤ S4x8x32x16x128.size a) ∧
  (∀ k0_t1 : Fin (k0_t1_loop d0 v9).trips, ∀ a, (k0_off219 d0 v9 k0_t1) a + S1x1x1.size a ≤ S4x8x2.size a) ∧
  (∀ k0_t1 : Fin (k0_t1_loop d0 v9).trips, ∀ a, (k0_off220 d0 v9 k0_t1) a + S1x1x32x16x128.size a ≤ S4x8x32x16x128.size a) ∧
  (∀ k0_t1 : Fin (k0_t1_loop d0 v9).trips, ∀ a, (k0_off222 d0 v9 k0_t1) a + S1x1x1.size a ≤ S4x8x2.size a) ∧
  (∀ k0_t1 : Fin (k0_t1_loop d0 v9).trips, ∀ a, (k0_off223 d0 v9 k0_t1) a + S1x1x32x16x128.size a ≤ S4x8x32x16x128.size a) ∧
  (∀ k0_t1 : Fin (k0_t1_loop d0 v9).trips, ∀ a, (k0_off225 d0 v9 k0_t1) a + S1x1x1.size a ≤ S4x8x2.size a) ∧
  (∀ k0_t1 : Fin (k0_t1_loop d0 v9).trips, ∀ a, (k0_off226 d0 v9 k0_t1) a + S1x1x32x16x128.size a ≤ S4x8x32x16x128.size a) ∧
  (∀ k0_t1 : Fin (k0_t1_loop d0 v9).trips, ∀ a, (k0_off228 d0 v9 k0_t1) a + S1x1x1.size a ≤ S4x8x2.size a) ∧
  (∀ k0_t1 : Fin (k0_t1_loop d0 v9).trips, ∀ a, (k0_off229 d0 v9 k0_t1) a + S1x1x32x16x128.size a ≤ S4x8x32x16x128.size a) ∧
  (∀ k0_t1 : Fin (k0_t1_loop d0 v9).trips, ∀ a, (k0_off231 d0 v9 k0_t1) a + S1x1x1.size a ≤ S4x8x2.size a) ∧
  (∀ k0_t1 : Fin (k0_t1_loop d0 v9).trips, ∀ a, (k0_off232 d0 v9 k0_t1) a + S1x1x32x16x128.size a ≤ S4x8x32x16x128.size a) ∧
  (∀ k0_t1 : Fin (k0_t1_loop d0 v9).trips, ∀ a, (k0_off234 d0 v9 k0_t1) a + S1x1x1.size a ≤ S4x8x2.size a) ∧
  (∀ k0_t1 : Fin (k0_t1_loop d0 v9).trips, ∀ a, (k0_off235 d0 v9 k0_t1) a + S1x1x32x16x128.size a ≤ S4x8x32x16x128.size a) ∧
  (∀ k0_t1 : Fin (k0_t1_loop d0 v9).trips, ∀ a, (k0_off237 d0 v9 k0_t1) a + S1x1x1.size a ≤ S4x8x2.size a) ∧
  (∀ k0_t1 : Fin (k0_t1_loop d0 v9).trips, ∀ a, (k0_off238 d0 v9 k0_t1) a + S1x1x32x16x128.size a ≤ S4x8x32x16x128.size a) ∧
  (∀ k0_t1 : Fin (k0_t1_loop d0 v9).trips, ∀ a, (k0_off240 d0 v9 k0_t1) a + S1x1x1.size a ≤ S4x8x2.size a) ∧
  (∀ k0_t1 : Fin (k0_t1_loop d0 v9).trips, ∀ a, (k0_off241 d0 v9 k0_t1) a + S1x1x32x16x128.size a ≤ S4x8x32x16x128.size a) ∧
  (∀ k0_t1 : Fin (k0_t1_loop d0 v9).trips, ∀ a, (k0_off243 d0 v9 k0_t1) a + S1x1x1.size a ≤ S4x8x2.size a)
def k0_chk28_2 (d0 : Dev nD) (v9 : BitVec 32) : Prop :=
  (∀ k0_t1 : Fin (k0_t1_loop d0 v9).trips, ∀ a, (k0_off244 d0 v9 k0_t1) a + S1x1x32x16x128.size a ≤ S4x8x32x16x128.size a) ∧
  (∀ k0_t1 : Fin (k0_t1_loop d0 v9).trips, ∀ a, (k0_off246 d0 v9 k0_t1) a + S1x1x1.size a ≤ S4x8x2.size a) ∧
  (∀ k0_t1 : Fin (k0_t1_loop d0 v9).trips, ∀ a, (k0_off247 d0 v9 k0_t1) a + S1x1x32x16x128.size a ≤ S4x8x32x16x128.size a) ∧
  (∀ k0_t1 : Fin (k0_t1_loop d0 v9).trips, ∀ a, (k0_off249 d0 v9 k0_t1) a + S1x1x1.size a ≤ S4x8x2.size a) ∧
  (∀ k0_t1 : Fin (k0_t1_loop d0 v9).trips, ∀ a, (k0_off250 d0 v9 k0_t1) a + S1x1x32x16x128.size a ≤ S4x8x32x16x128.size a) ∧
  (∀ k0_t1 : Fin (k0_t1_loop d0 v9).trips, ∀ a, (k0_off251 d0 v9 k0_t1) a + S1x1.size a ≤ S2x1024.size a) ∧
  (∀ k0_t1 : Fin (k0_t1_loop d0 v9).trips, ∀ a, (k0_off252 d0 v9 k0_t1) a + S1x1.size a ≤ S2x1024.size a) ∧
  (∀ k0_t1 : Fin (k0_t1_loop d0 v9).trips, ∀ a, (k0_off254 d0 v9 k0_t1) a + S1x8x32x16x128.size a ≤ S4x8x32x16x128.size a) ∧
  ((k0_t2_loop d0 v9).OK) ∧
  (∀ k0_t2 : Fin (k0_t2_loop d0 v9).trips, ∀ (k0_h5 : k0_cond5 d0 v9 k0_t2 = 1#1), ∀ a, (k0_off257 d0 v9 k0_t2) a + S1x1.size a ≤ S2x1024.size a) ∧
  (∀ k0_t2 : Fin (k0_t2_loop d0 v9).trips, ∀ (k0_h5 : k0_cond5 d0 v9 k0_t2 = 1#1), ∀ a, (k0_off258 d0 v9 k0_t2) a + S1x1.size a ≤ S2x1024.size a) ∧
  (∀ k0_t2 : Fin (k0_t2_loop d0 v9).trips, ∀ (k0_h5 : k0_cond5 d0 v9 k0_t2 = 1#1), ∀ a, (k0_off260 d0 v9 k0_t2) a + S1x1x1.size a ≤ S4x8x2.size a) ∧
  (∀ k0_t2 : Fin (k0_t2_loop d0 v9).trips, ∀ (k0_h5 : k0_cond5 d0 v9 k0_t2 = 1#1), ∀ a, (k0_off261 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off263 d0 v9 k0_t2) a + S1x1x1.size a ≤ S4x8x2.size a) ∧
  (∀ k0_t2 : Fin (k0_t2_loop d0 v9).trips, ∀ (k0_h5 : k0_cond5 d0 v9 k0_t2 = 1#1), ∀ a, (k0_off264 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off266 d0 v9 k0_t2) a + S1x1x1.size a ≤ S4x8x2.size a) ∧
  (∀ k0_t2 : Fin (k0_t2_loop d0 v9).trips, ∀ (k0_h5 : k0_cond5 d0 v9 k0_t2 = 1#1), ∀ a, (k0_off267 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off269 d0 v9 k0_t2) a + S1x1x1.size a ≤ S4x8x2.size a) ∧
  (∀ k0_t2 : Fin (k0_t2_loop d0 v9).trips, ∀ (k0_h5 : k0_cond5 d0 v9 k0_t2 = 1#1), ∀ a, (k0_off270 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off272 d0 v9 k0_t2) a + S1x1x1.size a ≤ S4x8x2.size a) ∧
  (∀ k0_t2 : Fin (k0_t2_loop d0 v9).trips, ∀ (k0_h5 : k0_cond5 d0 v9 k0_t2 = 1#1), ∀ a, (k0_off273 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off275 d0 v9 k0_t2) a + S1x1x1.size a ≤ S4x8x2.size a) ∧
  (∀ k0_t2 : Fin (k0_t2_loop d0 v9).trips, ∀ (k0_h5 : k0_cond5 d0 v9 k0_t2 = 1#1), ∀ a, (k0_off276 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off278 d0 v9 k0_t2) a + S1x1x1.size a ≤ S4x8x2.size a) ∧
  (∀ k0_t2 : Fin (k0_t2_loop d0 v9).trips, ∀ (k0_h5 : k0_cond5 d0 v9 k0_t2 = 1#1), ∀ a, (k0_off279 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off281 d0 v9 k0_t2) a + S1x1x1.size a ≤ S4x8x2.size a) ∧
  (∀ k0_t2 : Fin (k0_t2_loop d0 v9).trips, ∀ (k0_h5 : k0_cond5 d0 v9 k0_t2 = 1#1), ∀ a, (k0_off282 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off284 d0 v9 k0_t2) a + S1x1x1.size a ≤ S4x8x2.size a) ∧
  (∀ k0_t2 : Fin (k0_t2_loop d0 v9).trips, ∀ (k0_h5 : k0_cond5 d0 v9 k0_t2 = 1#1), ∀ a, (k0_off285 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off287 d0 v9 k0_t2) a + S1x1x1.size a ≤ S4x8x2.size a) ∧
  (∀ k0_t2 : Fin (k0_t2_loop d0 v9).trips, ∀ (k0_h5 : k0_cond5 d0 v9 k0_t2 = 1#1), ∀ a, (k0_off288 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off290 d0 v9 k0_t2) a + S1x1x1.size a ≤ S4x8x2.size a)
def k0_chk28_3 (d0 : Dev nD) (v9 : BitVec 32) : Prop :=
  (∀ k0_t2 : Fin (k0_t2_loop d0 v9).trips, ∀ (k0_h5 : k0_cond5 d0 v9 k0_t2 = 1#1), ∀ a, (k0_off291 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off293 d0 v9 k0_t2) a + S1x1x1.size a ≤ S4x8x2.size a) ∧
  (∀ k0_t2 : Fin (k0_t2_loop d0 v9).trips, ∀ (k0_h5 : k0_cond5 d0 v9 k0_t2 = 1#1), ∀ a, (k0_off294 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off296 d0 v9 k0_t2) a + S1x1x1.size a ≤ S4x8x2.size a) ∧
  (∀ k0_t2 : Fin (k0_t2_loop d0 v9).trips, ∀ (k0_h5 : k0_cond5 d0 v9 k0_t2 = 1#1), ∀ a, (k0_off297 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off299 d0 v9 k0_t2) a + S1x1x1.size a ≤ S4x8x2.size a) ∧
  (∀ k0_t2 : Fin (k0_t2_loop d0 v9).trips, ∀ (k0_h5 : k0_cond5 d0 v9 k0_t2 = 1#1), ∀ a, (k0_off300 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off302 d0 v9 k0_t2) a + S1x1x1.size a ≤ S4x8x2.size a) ∧
  (∀ k0_t2 : Fin (k0_t2_loop d0 v9).trips, ∀ (k0_h5 : k0_cond5 d0 v9 k0_t2 = 1#1), ∀ a, (k0_off303 d0 v9 k0_t2) a + S1x1x32x16x128.size a ≤ S4x8x32x16x128.size a) ∧
  (∀ k0_t2 : Fin (k0_t2_loop d0 v9).trips, ∀ (k0_h5 : k0_cond5 d0 v9 k0_t2 = 1#1), ∀ a, (k0_off305 d0 v9 k0_t2) a + S1x1x1.size a ≤ S4x8x2.size a) ∧
  (∀ k0_t2 : Fin (k0_t2_loop d0 v9).trips, ∀ (k0_h5 : k0_cond5 d0 v9 k0_t2 = 1#1), ∀ a, (k0_off306 d0 v9 k0_t2) a + S1x1x32x16x128.size a ≤ S4x8x32x16x128.size a) ∧
  (∀ k0_t2 : Fin (k0_t2_loop d0 v9).trips, ∀ a, (k0_off307 d0 v9 k0_t2) a + S1x1.size a ≤ S2x1024.size a) ∧
  (∀ k0_t2 : Fin (k0_t2_loop d0 v9).trips, ∀ a, (k0_off308 d0 v9 k0_t2) a + S1x1.size a ≤ S2x1024.size a) ∧
  (∀ k0_t2 : Fin (k0_t2_loop d0 v9).trips, ∀ a, (k0_off310 d0 v9 k0_t2) a + S1x1x1.size a ≤ S4x8x2.size a) ∧
  (∀ k0_t2 : Fin (k0_t2_loop d0 v9).trips, ∀ a, (k0_off311 d0 v9 k0_t2) a + S1x1x32x16x128.size a ≤ S4x8x32x16x128.size a) ∧
  (∀ k0_t2 : Fin (k0_t2_loop d0 v9).trips, ∀ a, (k0_off313 d0 v9 k0_t2) a + S1x1x1.size a ≤ S4x8x2.size a) ∧
  (∀ k0_t2 : Fin (k0_t2_loop d0 v9).trips, ∀ a, (k0_off314 d0 v9 k0_t2) a + S1x1x32x16x128.size a ≤ S4x8x32x16x128.size a) ∧
  (∀ k0_t2 : Fin (k0_t2_loop d0 v9).trips, ∀ a, (k0_off316 d0 v9 k0_t2) a + S1x1x1.size a ≤ S4x8x2.size a) ∧
  (∀ k0_t2 : Fin (k0_t2_loop d0 v9).trips, ∀ a, (k0_off317 d0 v9 k0_t2) a + S1x1x32x16x128.size a ≤ S4x8x32x16x128.size a) ∧
  (∀ k0_t2 : Fin (k0_t2_loop d0 v9).trips, ∀ a, (k0_off319 d0 v9 k0_t2) a + S1x1x1.size a ≤ S4x8x2.size a) ∧
  (∀ k0_t2 : Fin (k0_t2_loop d0 v9).trips, ∀ a, (k0_off320 d0 v9 k0_t2) a + S1x1x32x16x128.size a ≤ S4x8x32x16x128.size a) ∧
  (∀ k0_t2 : Fin (k0_t2_loop d0 v9).trips, ∀ a, (k0_off322 d0 v9 k0_t2) a + S1x1x1.size a ≤ S4x8x2.size a) ∧
  (∀ k0_t2 : Fin (k0_t2_loop d0 v9).trips, ∀ a, (k0_off323 d0 v9 k0_t2) a + S1x1x32x16x128.size a ≤ S4x8x32x16x128.size a) ∧
  (∀ k0_t2 : Fin (k0_t2_loop d0 v9).trips, ∀ a, (k0_off325 d0 v9 k0_t2) a + S1x1x1.size a ≤ S4x8x2.size a) ∧
  (∀ k0_t2 : Fin (k0_t2_loop d0 v9).trips, ∀ a, (k0_off326 d0 v9 k0_t2) a + S1x1x32x16x128.size a ≤ S4x8x32x16x128.size a) ∧
  (∀ k0_t2 : Fin (k0_t2_loop d0 v9).trips, ∀ a, (k0_off328 d0 v9 k0_t2) a + S1x1x1.size a ≤ S4x8x2.size a) ∧
  (∀ k0_t2 : Fin (k0_t2_loop d0 v9).trips, ∀ a, (k0_off329 d0 v9 k0_t2) a + S1x1x32x16x128.size a ≤ S4x8x32x16x128.size a) ∧
  (∀ k0_t2 : Fin (k0_t2_loop d0 v9).trips, ∀ a, (k0_off331 d0 v9 k0_t2) a + S1x1x1.size a ≤ S4x8x2.size a) ∧
  (∀ k0_t2 : Fin (k0_t2_loop d0 v9).trips, ∀ a, (k0_off332 d0 v9 k0_t2) a + S1x1x32x16x128.size a ≤ S4x8x32x16x128.size a) ∧
  (∀ k0_t2 : Fin (k0_t2_loop d0 v9).trips, ∀ a, (k0_off334 d0 v9 k0_t2) a + S1x1x1.size a ≤ S4x8x2.size a) ∧
  (∀ k0_t2 : Fin (k0_t2_loop d0 v9).trips, ∀ a, (k0_off335 d0 v9 k0_t2) a + S1x1x32x16x128.size a ≤ S4x8x32x16x128.size a) ∧
  (∀ k0_t2 : Fin (k0_t2_loop d0 v9).trips, ∀ a, (k0_off337 d0 v9 k0_t2) a + S1x1x1.size a ≤ S4x8x2.size a)
def k0_chk28_4 (d0 : Dev nD) (v9 : BitVec 32) : Prop :=
  (∀ k0_t2 : Fin (k0_t2_loop d0 v9).trips, ∀ a, (k0_off338 d0 v9 k0_t2) a + S1x1x32x16x128.size a ≤ S4x8x32x16x128.size a) ∧
  (∀ k0_t2 : Fin (k0_t2_loop d0 v9).trips, ∀ a, (k0_off340 d0 v9 k0_t2) a + S1x1x1.size a ≤ S4x8x2.size a) ∧
  (∀ k0_t2 : Fin (k0_t2_loop d0 v9).trips, ∀ a, (k0_off341 d0 v9 k0_t2) a + S1x1x32x16x128.size a ≤ S4x8x32x16x128.size a) ∧
  (∀ k0_t2 : Fin (k0_t2_loop d0 v9).trips, ∀ a, (k0_off343 d0 v9 k0_t2) a + S1x1x1.size a ≤ S4x8x2.size a) ∧
  (∀ k0_t2 : Fin (k0_t2_loop d0 v9).trips, ∀ a, (k0_off344 d0 v9 k0_t2) a + S1x1x32x16x128.size a ≤ S4x8x32x16x128.size a) ∧
  (∀ k0_t2 : Fin (k0_t2_loop d0 v9).trips, ∀ a, (k0_off346 d0 v9 k0_t2) a + S1x1x1.size a ≤ S4x8x2.size a) ∧
  (∀ k0_t2 : Fin (k0_t2_loop d0 v9).trips, ∀ a, (k0_off347 d0 v9 k0_t2) a + S1x1x32x16x128.size a ≤ S4x8x32x16x128.size a) ∧
  (∀ k0_t2 : Fin (k0_t2_loop d0 v9).trips, ∀ a, (k0_off349 d0 v9 k0_t2) a + S1x1x1.size a ≤ S4x8x2.size a) ∧
  (∀ k0_t2 : Fin (k0_t2_loop d0 v9).trips, ∀ a, (k0_off350 d0 v9 k0_t2) a + S1x1x32x16x128.size a ≤ S4x8x32x16x128.size a) ∧
  (∀ k0_t2 : Fin (k0_t2_loop d0 v9).trips, ∀ a, (k0_off352 d0 v9 k0_t2) a + S1x1x1.size a ≤ S4x8x2.size a) ∧
  (∀ k0_t2 : Fin (k0_t2_loop d0 v9).trips, ∀ a, (k0_off353 d0 v9 k0_t2) a + S1x1x32x16x128.size a ≤ S4x8x32x16x128.size a) ∧
  (∀ k0_t2 : Fin (k0_t2_loop d0 v9).trips, ∀ a, (k0_off355 d0 v9 k0_t2) a + S1x1x1.size a ≤ S4x8x2.size a) ∧
  (∀ k0_t2 : Fin (k0_t2_loop d0 v9).trips, ∀ a, (k0_off356 d0 v9 k0_t2) a + S1x1x32x16x128.size a ≤ S4x8x32x16x128.size a) ∧
  (∀ k0_t2 : Fin (k0_t2_loop d0 v9).trips, ∀ a, (k0_off357 d0 v9 k0_t2) a + S1x1.size a ≤ S2x1024.size a) ∧
  (∀ k0_t2 : Fin (k0_t2_loop d0 v9).trips, ∀ a, (k0_off358 d0 v9 k0_t2) a + S1x1.size a ≤ S2x1024.size a) ∧
  (∀ k0_t2 : Fin (k0_t2_loop d0 v9).trips, ∀ a, (k0_off360 d0 v9 k0_t2) a + S1x8x32x16x128.size a ≤ S4x8x32x16x128.size a)
def k0_chk28 (d0 : Dev nD) (v9 : BitVec 32) : Prop :=
  k0_chk28_0 d0 v9 ∧
  k0_chk28_1 d0 v9 ∧
  k0_chk28_2 d0 v9 ∧
  k0_chk28_3 d0 v9 ∧
  k0_chk28_4 d0 v9
theorem k0_t1_ok : ∀ (d0 : Dev nD) (v9 : BitVec 32) (k0_hw28 : k0_chk28 d0 v9), (k0_t1_loop d0 v9).OK := fun d0 v9 k0_hw28 => k0_hw28.1.1
theorem k0_off151_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off151 d0 v9 k0_t1) a + S1x1.size a ≤ S2x1024.size a := fun d0 v9 k0_hw28 k0_t1 k0_h4 => k0_hw28.1.2.1 k0_t1 k0_h4
theorem k0_off152_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off152 d0 v9 k0_t1) a + S1x1.size a ≤ S2x1024.size a := fun d0 v9 k0_hw28 k0_t1 k0_h4 => k0_hw28.1.2.2.1 k0_t1 k0_h4
theorem k0_off154_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off154 d0 v9 k0_t1) a + S1x1x1.size a ≤ S4x8x2.size a := fun d0 v9 k0_hw28 k0_t1 k0_h4 => k0_hw28.1.2.2.2.1 k0_t1 k0_h4
theorem k0_off155_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off155 d0 v9 k0_t1) a + S1x1x32x16x128.size a ≤ S4x8x32x16x128.size a := fun d0 v9 k0_hw28 k0_t1 k0_h4 => k0_hw28.1.2.2.2.2.1 k0_t1 k0_h4
theorem k0_off157_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off157 d0 v9 k0_t1) a + S1x1x1.size a ≤ S4x8x2.size a := fun d0 v9 k0_hw28 k0_t1 k0_h4 => k0_hw28.1.2.2.2.2.2.1 k0_t1 k0_h4
theorem k0_off158_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off158 d0 v9 k0_t1) a + S1x1x32x16x128.size a ≤ S4x8x32x16x128.size a := fun d0 v9 k0_hw28 k0_t1 k0_h4 => k0_hw28.1.2.2.2.2.2.2.1 k0_t1 k0_h4
theorem k0_off160_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off160 d0 v9 k0_t1) a + S1x1x1.size a ≤ S4x8x2.size a := fun d0 v9 k0_hw28 k0_t1 k0_h4 => k0_hw28.1.2.2.2.2.2.2.2.1 k0_t1 k0_h4
theorem k0_off161_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off161 d0 v9 k0_t1) a + S1x1x32x16x128.size a ≤ S4x8x32x16x128.size a := fun d0 v9 k0_hw28 k0_t1 k0_h4 => k0_hw28.1.2.2.2.2.2.2.2.2.1 k0_t1 k0_h4
theorem k0_off163_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off163 d0 v9 k0_t1) a + S1x1x1.size a ≤ S4x8x2.size a := fun d0 v9 k0_hw28 k0_t1 k0_h4 => k0_hw28.1.2.2.2.2.2.2.2.2.2.1 k0_t1 k0_h4
theorem k0_off164_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off164 d0 v9 k0_t1) a + S1x1x32x16x128.size a ≤ S4x8x32x16x128.size a := fun d0 v9 k0_hw28 k0_t1 k0_h4 => k0_hw28.1.2.2.2.2.2.2.2.2.2.2.1 k0_t1 k0_h4
theorem k0_off166_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off166 d0 v9 k0_t1) a + S1x1x1.size a ≤ S4x8x2.size a := fun d0 v9 k0_hw28 k0_t1 k0_h4 => k0_hw28.1.2.2.2.2.2.2.2.2.2.2.2.1 k0_t1 k0_h4
theorem k0_off167_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off167 d0 v9 k0_t1) a + S1x1x32x16x128.size a ≤ S4x8x32x16x128.size a := fun d0 v9 k0_hw28 k0_t1 k0_h4 => k0_hw28.1.2.2.2.2.2.2.2.2.2.2.2.2.1 k0_t1 k0_h4
theorem k0_off169_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off169 d0 v9 k0_t1) a + S1x1x1.size a ≤ S4x8x2.size a := fun d0 v9 k0_hw28 k0_t1 k0_h4 => k0_hw28.1.2.2.2.2.2.2.2.2.2.2.2.2.2.1 k0_t1 k0_h4
theorem k0_off170_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off170 d0 v9 k0_t1) a + S1x1x32x16x128.size a ≤ S4x8x32x16x128.size a := fun d0 v9 k0_hw28 k0_t1 k0_h4 => k0_hw28.1.2.2.2.2.2.2.2.2.2.2.2.2.2.2.1 k0_t1 k0_h4
theorem k0_off172_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off172 d0 v9 k0_t1) a + S1x1x1.size a ≤ S4x8x2.size a := fun d0 v9 k0_hw28 k0_t1 k0_h4 => k0_hw28.1.2.2.2.2.2.2.2.2.2.2.2.2.2.2.2.1 k0_t1 k0_h4
theorem k0_off173_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off173 d0 v9 k0_t1) a + S1x1x32x16x128.size a ≤ S4x8x32x16x128.size a := fun d0 v9 k0_hw28 k0_t1 k0_h4 => k0_hw28.1.2.2.2.2.2.2.2.2.2.2.2.2.2.2.2.2.1 k0_t1 k0_h4
theorem k0_off175_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off175 d0 v9 k0_t1) a + S1x1x1.size a ≤ S4x8x2.size a := fun d0 v9 k0_hw28 k0_t1 k0_h4 => k0_hw28.1.2.2.2.2.2.2.2.2.2.2.2.2.2.2.2.2.2.1 k0_t1 k0_h4
theorem k0_off176_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off176 d0 v9 k0_t1) a + S1x1x32x16x128.size a ≤ S4x8x32x16x128.size a := fun d0 v9 k0_hw28 k0_t1 k0_h4 => k0_hw28.1.2.2.2.2.2.2.2.2.2.2.2.2.2.2.2.2.2.2.1 k0_t1 k0_h4
theorem k0_off178_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off178 d0 v9 k0_t1) a + S1x1x1.size a ≤ S4x8x2.size a := fun d0 v9 k0_hw28 k0_t1 k0_h4 => k0_hw28.1.2.2.2.2.2.2.2.2.2.2.2.2.2.2.2.2.2.2.2.1 k0_t1 k0_h4
theorem k0_off179_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off179 d0 v9 k0_t1) a + S1x1x32x16x128.size a ≤ S4x8x32x16x128.size a := fun d0 v9 k0_hw28 k0_t1 k0_h4 => k0_hw28.1.2.2.2.2.2.2.2.2.2.2.2.2.2.2.2.2.2.2.2.2.1 k0_t1 k0_h4
theorem k0_off181_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off181 d0 v9 k0_t1) a + S1x1x1.size a ≤ S4x8x2.size a := fun d0 v9 k0_hw28 k0_t1 k0_h4 => k0_hw28.1.2.2.2.2.2.2.2.2.2.2.2.2.2.2.2.2.2.2.2.2.2.1 k0_t1 k0_h4
theorem k0_off182_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off182 d0 v9 k0_t1) a + S1x1x32x16x128.size a ≤ S4x8x32x16x128.size a := fun d0 v9 k0_hw28 k0_t1 k0_h4 => k0_hw28.1.2.2.2.2.2.2.2.2.2.2.2.2.2.2.2.2.2.2.2.2.2.2.1 k0_t1 k0_h4
theorem k0_off184_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off184 d0 v9 k0_t1) a + S1x1x1.size a ≤ S4x8x2.size a := fun d0 v9 k0_hw28 k0_t1 k0_h4 => k0_hw28.1.2.2.2.2.2.2.2.2.2.2.2.2.2.2.2.2.2.2.2.2.2.2.2.1 k0_t1 k0_h4
theorem k0_off185_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off185 d0 v9 k0_t1) a + S1x1x32x16x128.size a ≤ S4x8x32x16x128.size a := fun d0 v9 k0_hw28 k0_t1 k0_h4 => k0_hw28.1.2.2.2.2.2.2.2.2.2.2.2.2.2.2.2.2.2.2.2.2.2.2.2.2.1 k0_t1 k0_h4
theorem k0_off187_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off187 d0 v9 k0_t1) a + S1x1x1.size a ≤ S4x8x2.size a := fun d0 v9 k0_hw28 k0_t1 k0_h4 => k0_hw28.1.2.2.2.2.2.2.2.2.2.2.2.2.2.2.2.2.2.2.2.2.2.2.2.2.2.1 k0_t1 k0_h4
theorem k0_off188_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off188 d0 v9 k0_t1) a + S1x1x32x16x128.size a ≤ S4x8x32x16x128.size a := fun d0 v9 k0_hw28 k0_t1 k0_h4 => k0_hw28.1.2.2.2.2.2.2.2.2.2.2.2.2.2.2.2.2.2.2.2.2.2.2.2.2.2.2.1 k0_t1 k0_h4
theorem k0_off190_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off190 d0 v9 k0_t1) a + S1x1x1.size a ≤ S4x8x2.size a := fun d0 v9 k0_hw28 k0_t1 k0_h4 => k0_hw28.1.2.2.2.2.2.2.2.2.2.2.2.2.2.2.2.2.2.2.2.2.2.2.2.2.2.2.2.1 k0_t1 k0_h4
theorem k0_off191_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off191 d0 v9 k0_t1) a + S1x1x32x16x128.size a ≤ S4x8x32x16x128.size a := fun d0 v9 k0_hw28 k0_t1 k0_h4 => k0_hw28.1.2.2.2.2.2.2.2.2.2.2.2.2.2.2.2.2.2.2.2.2.2.2.2.2.2.2.2.2.1 k0_t1 k0_h4
theorem k0_off193_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off193 d0 v9 k0_t1) a + S1x1x1.size a ≤ S4x8x2.size a := fun d0 v9 k0_hw28 k0_t1 k0_h4 => k0_hw28.1.2.2.2.2.2.2.2.2.2.2.2.2.2.2.2.2.2.2.2.2.2.2.2.2.2.2.2.2.2.1 k0_t1 k0_h4
theorem k0_off194_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off194 d0 v9 k0_t1) a + S1x1x32x16x128.size a ≤ S4x8x32x16x128.size a := fun d0 v9 k0_hw28 k0_t1 k0_h4 => k0_hw28.1.2.2.2.2.2.2.2.2.2.2.2.2.2.2.2.2.2.2.2.2.2.2.2.2.2.2.2.2.2.2.1 k0_t1 k0_h4
theorem k0_off196_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off196 d0 v9 k0_t1) a + S1x1x1.size a ≤ S4x8x2.size a := fun d0 v9 k0_hw28 k0_t1 k0_h4 => k0_hw28.1.2.2.2.2.2.2.2.2.2.2.2.2.2.2.2.2.2.2.2.2.2.2.2.2.2.2.2.2.2.2.2 k0_t1 k0_h4
theorem k0_off197_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off197 d0 v9 k0_t1) a + S1x1x32x16x128.size a ≤ S4x8x32x16x128.size a := fun d0 v9 k0_hw28 k0_t1 k0_h4 => k0_hw28.2.1.1 k0_t1 k0_h4
theorem k0_off199_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off199 d0 v9 k0_t1) a + S1x1x1.size a ≤ S4x8x2.size a := fun d0 v9 k0_hw28 k0_t1 k0_h4 => k0_hw28.2.1.2.1 k0_t1 k0_h4
theorem k0_off200_inb : ∀ (d0 : Dev nD) (v9 : BitVec 32) (k0_hw28 : k0_chk28 d0 v9) (k0_t1 : Fin (k0_t1_loop d0 v9).trips), ∀ (k0_h4 : k0_cond4 d0 v9 k0_t1 = 1#1), ∀ a, (k0_off200 d0 v9 k0_t1) a + S1x1x32x16x128.size a ≤ S4x8x32x16x128.size a := fun d0 v9 k0_hw28 k0_t1 k0_h4 => k0_hw28.2.1.2.2.1 k0_t1 k0_h4
theorem k0_off201_inb : ∀ (d0 : Dev nD) (v9 : BitVec 32) (k0_hw28 : k0_chk28 d0 v9) (k0_t1 : Fin (k0_t1_loop d0 v9).trips), ∀ a, (k0_off201 d0 v9 k0_t1) a + S1x1.size a ≤ S2x1024.size a := fun d0 v9 k0_hw28 k0_t1 => k0_hw28.2.1.2.2.2.1 k0_t1
theorem k0_off202_inb : ∀ (d0 : Dev nD) (v9 : BitVec 32) (k0_hw28 : k0_chk28 d0 v9) (k0_t1 : Fin (k0_t1_loop d0 v9).trips), ∀ a, (k0_off202 d0 v9 k0_t1) a + S1x1.size a ≤ S2x1024.size a := fun d0 v9 k0_hw28 k0_t1 => k0_hw28.2.1.2.2.2.2.1 k0_t1
theorem k0_off204_inb : ∀ (d0 : Dev nD) (v9 : BitVec 32) (k0_hw28 : k0_chk28 d0 v9) (k0_t1 : Fin (k0_t1_loop d0 v9).trips), ∀ a, (k0_off204 d0 v9 k0_t1) a + S1x1x1.size a ≤ S4x8x2.size a := fun d0 v9 k0_hw28 k0_t1 => k0_hw28.2.1.2.2.2.2.2.1 k0_t1
theorem k0_off205_inb : ∀ (d0 : Dev nD) (v9 : BitVec 32) (k0_hw28 : k0_chk28 d0 v9) (k0_t1 : Fin (k0_t1_loop d0 v9).trips), ∀ a, (k0_off205 d0 v9 k0_t1) a + S1x1x32x16x128.size a ≤ S4x8x32x16x128.size a := fun d0 v9 k0_hw28 k0_t1 => k0_hw28.2.1.2.2.2.2.2.2.1 k0_t1
theorem k0_off207_inb : ∀ (d0 : Dev nD) (v9 : BitVec 32) (k0_hw28 : k0_chk28 d0 v9) (k0_t1 : Fin (k0_t1_loop d0 v9).trips), ∀ a, (k0_off207 d0 v9 k0_t1) a + S1x1x1.size a ≤ S4x8x2.size a := fun d0 v9 k0_hw28 k0_t1 => k0_hw28.2.1.2.2.2.2.2.2.2.1 k0_t1
theorem k0_off208_inb : ∀ (d0 : Dev nD) (v9 : BitVec 32) (k0_hw28 : k0_chk28 d0 v9) (k0_t1 : Fin (k0_t1_loop d0 v9).trips), ∀ a, (k0_off208 d0 v9 k0_t1) a + S1x1x32x16x128.size a ≤ S4x8x32x16x128.size a := fun d0 v9 k0_hw28 k0_t1 => k0_hw28.2.1.2.2.2.2.2.2.2.2.1 k0_t1
theorem k0_off210_inb : ∀ (d0 : Dev nD) (v9 : BitVec 32) (k0_hw28 : k0_chk28 d0 v9) (k0_t1 : Fin (k0_t1_loop d0 v9).trips), ∀ a, (k0_off210 d0 v9 k0_t1) a + S1x1x1.size a ≤ S4x8x2.size a := fun d0 v9 k0_hw28 k0_t1 => k0_hw28.2.1.2.2.2.2.2.2.2.2.2.1 k0_t1
theorem k0_off211_inb : ∀ (d0 : Dev nD) (v9 : BitVec 32) (k0_hw28 : k0_chk28 d0 v9) (k0_t1 : Fin (k0_t1_loop d0 v9).trips), ∀ a, (k0_off211 d0 v9 k0_t1) a + S1x1x32x16x128.size a ≤ S4x8x32x16x128.size a := fun d0 v9 k0_hw28 k0_t1 => k0_hw28.2.1.2.2.2.2.2.2.2.2.2.2.1 k0_t1
theorem k0_off213_inb : ∀ (d0 : Dev nD) (v9 : BitVec 32) (k0_hw28 : k0_chk28 d0 v9) (k0_t1 : Fin (k0_t1_loop d0 v9).trips), ∀ a, (k0_off213 d0 v9 k0_t1) a + S1x1x1.size a ≤ S4x8x2.size a := fun d0 v9 k0_hw28 k0_t1 => k0_hw28.2.1.2.2.2.2.2.2.2.2.2.2.2.1 k0_t1
theorem k0_off214_inb : ∀ (d0 : Dev nD) (v9 : BitVec 32) (k0_hw28 : k0_chk28 d0 v9) (k0_t1 : Fin (k0_t1_loop d0 v9).trips), ∀ a, (k0_off214 d0 v9 k0_t1) a + S1x1x32x16x128.size a ≤ S4x8x32x16x128.size a := fun d0 v9 k0_hw28 k0_t1 => k0_hw28.2.1.2.2.2.2.2.2.2.2.2.2.2.2.1 k0_t1
theorem k0_off216_inb : ∀ (d0 : Dev nD) (v9 : BitVec 32) (k0_hw28 : k0_chk28 d0 v9) (k0_t1 : Fin (k0_t1_loop d0 v9).trips), ∀ a, (k0_off216 d0 v9 k0_t1) a + S1x1x1.size a ≤ S4x8x2.size a := fun d0 v9 k0_hw28 k0_t1 => k0_hw28.2.1.2.2.2.2.2.2.2.2.2.2.2.2.2.1 k0_t1
theorem k0_off217_inb : ∀ (d0 : Dev nD) (v9 : BitVec 32) (k0_hw28 : k0_chk28 d0 v9) (k0_t1 : Fin (k0_t1_loop d0 v9).trips), ∀ a, (k0_off217 d0 v9 k0_t1) a + S1x1x32x16x128.size a ≤ S4x8x32x16x128.size a := fun d0 v9 k0_hw28 k0_t1 => k0_hw28.2.1.2.2.2.2.2.2.2.2.2.2.2.2.2.2.1 k0_t1
theorem k0_off219_inb : ∀ (d0 : Dev nD) (v9 : BitVec 32) (k0_hw28 : k0_chk28 d0 v9) (k0_t1 : Fin (k0_t1_loop d0 v9).trips), ∀ a, (k0_off219 d0 v9 k0_t1) a + S1x1x1.size a ≤ S4x8x2.size a := fun d0 v9 k0_hw28 k0_t1 => k0_hw28.2.1.2.2.2.2.2.2.2.2.2.2.2.2.2.2.2.1 k0_t1
theorem k0_off220_inb : ∀ (d0 : Dev nD) (v9 : BitVec 32) (k0_hw28 : k0_chk28 d0 v9) (k0_t1 : Fin (k0_t1_loop d0 v9).trips), ∀ a, (k0_off220 d0 v9 k0_t1) a + S1x1x32x16x128.size a ≤ S4x8x32x16x128.size a := fun d0 v9 k0_hw28 k0_t1 => k0_hw28.2.1.2.2.2.2.2.2.2.2.2.2.2.2.2.2.2.2.1 k0_t1
theorem k0_off222_inb : ∀ (d0 : Dev nD) (v9 : BitVec 32) (k0_hw28 : k0_chk28 d0 v9) (k0_t1 : Fin (k0_t1_loop d0 v9).trips), ∀ a, (k0_off222 d0 v9 k0_t1) a + S1x1x1.size a ≤ S4x8x2.size a := fun d0 v9 k0_hw28 k0_t1 => k0_hw28.2.1.2.2.2.2.2.2.2.2.2.2.2.2.2.2.2.2.2.1 k0_t1
theorem k0_off223_inb : ∀ (d0 : Dev nD) (v9 : BitVec 32) (k0_hw28 : k0_chk28 d0 v9) (k0_t1 : Fin (k0_t1_loop d0 v9).trips), ∀ a, (k0_off223 d0 v9 k0_t1) a + S1x1x32x16x128.size a ≤ S4x8x32x16x128.size a := fun d0 v9 k0_hw28 k0_t1 => k0_hw28.2.1.2.2.2.2.2.2.2.2.2.2.2.2.2.2.2.2.2.2.1 k0_t1
theorem k0_off225_inb : ∀ (d0 : Dev nD) (v9 : BitVec 32) (k0_hw28 : k0_chk28 d0 v9) (k0_t1 : Fin (k0_t1_loop d0 v9).trips), ∀ a, (k0_off225 d0 v9 k0_t1) a + S1x1x1.size a ≤ S4x8x2.size a := fun d0 v9 k0_hw28 k0_t1 => k0_hw28.2.1.2.2.2.2.2.2.2.2.2.2.2.2.2.2.2.2.2.2.2.1 k0_t1
theorem k0_off226_inb : ∀ (d0 : Dev nD) (v9 : BitVec 32) (k0_hw28 : k0_chk28 d0 v9) (k0_t1 : Fin (k0_t1_loop d0 v9).trips), ∀ a, (k0_off226 d0 v9 k0_t1) a + S1x1x32x16x128.size a ≤ S4x8x32x16x128.size a := fun d0 v9 k0_hw28 k0_t1 => k0_hw28.2.1.2.2.2.2.2.2.2.2.2.2.2.2.2.2.2.2.2.2.2.2.1 k0_t1
theorem k0_off228_inb : ∀ (d0 : Dev nD) (v9 : BitVec 32) (k0_hw28 : k0_chk28 d0 v9) (k0_t1 : Fin (k0_t1_loop d0 v9).trips), ∀ a, (k0_off228 d0 v9 k0_t1) a + S1x1x1.size a ≤ S4x8x2.size a := fun d0 v9 k0_hw28 k0_t1 => k0_hw28.2.1.2.2.2.2.2.2.2.2.2.2.2.2.2.2.2.2.2.2.2.2.2.1 k0_t1
theorem k0_off229_inb : ∀ (d0 : Dev nD) (v9 : BitVec 32) (k0_hw28 : k0_chk28 d0 v9) (k0_t1 : Fin (k0_t1_loop d0 v9).trips), ∀ a, (k0_off229 d0 v9 k0_t1) a + S1x1x32x16x128.size a ≤ S4x8x32x16x128.size a := fun d0 v9 k0_hw28 k0_t1 => k0_hw28.2.1.2.2.2.2.2.2.2.2.2.2.2.2.2.2.2.2.2.2.2.2.2.2.1 k0_t1
theorem k0_off231_inb : ∀ (d0 : Dev nD) (v9 : BitVec 32) (k0_hw28 : k0_chk28 d0 v9) (k0_t1 : Fin (k0_t1_loop d0 v9).trips), ∀ a, (k0_off231 d0 v9 k0_t1) a + S1x1x1.size a ≤ S4x8x2.size a := fun d0 v9 k0_hw28 k0_t1 => k0_hw28.2.1.2.2.2.2.2.2.2.2.2.2.2.2.2.2.2.2.2.2.2.2.2.2.2.1 k0_t1
theorem k0_off232_inb : ∀ (d0 : Dev nD) (v9 : BitVec 32) (k0_hw28 : k0_chk28 d0 v9) (k0_t1 : Fin (k0_t1_loop d0 v9).trips), ∀ a, (k0_off232 d0 v9 k0_t1) a + S1x1x32x16x128.size a ≤ S4x8x32x16x128.size a := fun d0 v9 k0_hw28 k0_t1 => k0_hw28.2.1.2.2.2.2.2.2.2.2.2.2.2.2.2.2.2.2.2.2.2.2.2.2.2.2.1 k0_t1
theorem k0_off234_inb : ∀ (d0 : Dev nD) (v9 : BitVec 32) (k0_hw28 : k0_chk28 d0 v9) (k0_t1 : Fin (k0_t1_loop d0 v9).trips), ∀ a, (k0_off234 d0 v9 k0_t1) a + S1x1x1.size a ≤ S4x8x2.size a := fun d0 v9 k0_hw28 k0_t1 => k0_hw28.2.1.2.2.2.2.2.2.2.2.2.2.2.2.2.2.2.2.2.2.2.2.2.2.2.2.2.1 k0_t1
theorem k0_off235_inb : ∀ (d0 : Dev nD) (v9 : BitVec 32) (k0_hw28 : k0_chk28 d0 v9) (k0_t1 : Fin (k0_t1_loop d0 v9).trips), ∀ a, (k0_off235 d0 v9 k0_t1) a + S1x1x32x16x128.size a ≤ S4x8x32x16x128.size a := fun d0 v9 k0_hw28 k0_t1 => k0_hw28.2.1.2.2.2.2.2.2.2.2.2.2.2.2.2.2.2.2.2.2.2.2.2.2.2.2.2.2.1 k0_t1
theorem k0_off237_inb : ∀ (d0 : Dev nD) (v9 : BitVec 32) (k0_hw28 : k0_chk28 d0 v9) (k0_t1 : Fin (k0_t1_loop d0 v9).trips), ∀ a, (k0_off237 d0 v9 k0_t1) a + S1x1x1.size a ≤ S4x8x2.size a := fun d0 v9 k0_hw28 k0_t1 => k0_hw28.2.1.2.2.2.2.2.2.2.2.2.2.2.2.2.2.2.2.2.2.2.2.2.2.2.2.2.2.2.1 k0_t1
theorem k0_off238_inb : ∀ (d0 : Dev nD) (v9 : BitVec 32) (k0_hw28 : k0_chk28 d0 v9) (k0_t1 : Fin (k0_t1_loop d0 v9).trips), ∀ a, (k0_off238 d0 v9 k0_t1) a + S1x1x32x16x128.size a ≤ S4x8x32x16x128.size a := fun d0 v9 k0_hw28 k0_t1 => k0_hw28.2.1.2.2.2.2.2.2.2.2.2.2.2.2.2.2.2.2.2.2.2.2.2.2.2.2.2.2.2.2.1 k0_t1
theorem k0_off240_inb : ∀ (d0 : Dev nD) (v9 : BitVec 32) (k0_hw28 : k0_chk28 d0 v9) (k0_t1 : Fin (k0_t1_loop d0 v9).trips), ∀ a, (k0_off240 d0 v9 k0_t1) a + S1x1x1.size a ≤ S4x8x2.size a := fun d0 v9 k0_hw28 k0_t1 => k0_hw28.2.1.2.2.2.2.2.2.2.2.2.2.2.2.2.2.2.2.2.2.2.2.2.2.2.2.2.2.2.2.2.1 k0_t1
theorem k0_off241_inb : ∀ (d0 : Dev nD) (v9 : BitVec 32) (k0_hw28 : k0_chk28 d0 v9) (k0_t1 : Fin (k0_t1_loop d0 v9).trips), ∀ a, (k0_off241 d0 v9 k0_t1) a + S1x1x32x16x128.size a ≤ S4x8x32x16x128.size a := fun d0 v9 k0_hw28 k0_t1 => k0_hw28.2.1.2.2.2.2.2.2.2.2.2.2.2.2.2.2.2.2.2.2.2.2.2.2.2.2.2.2.2.2.2.2.1 k0_t1
theorem k0_off243_inb : ∀ (d0 : Dev nD) (v9 : BitVec 32) (k0_hw28 : k0_chk28 d0 v9) (k0_t1 : Fin (k0_t1_loop d0 v9).trips), ∀ a, (k0_off243 d0 v9 k0_t1) a + S1x1x1.size a ≤ S4x8x2.size a := fun d0 v9 k0_hw28 k0_t1 => k0_hw28.2.1.2.2.2.2.2.2.2.2.2.2.2.2.2.2.2.2.2.2.2.2.2.2.2.2.2.2.2.2.2.2.2 k0_t1
theorem k0_off244_inb : ∀ (d0 : Dev nD) (v9 : BitVec 32) (k0_hw28 : k0_chk28 d0 v9) (k0_t1 : Fin (k0_t1_loop d0 v9).trips), ∀ a, (k0_off244 d0 v9 k0_t1) a + S1x1x32x16x128.size a ≤ S4x8x32x16x128.size a := fun d0 v9 k0_hw28 k0_t1 => k0_hw28.2.2.1.1 k0_t1
theorem k0_off246_inb : ∀ (d0 : Dev nD) (v9 : BitVec 32) (k0_hw28 : k0_chk28 d0 v9) (k0_t1 : Fin (k0_t1_loop d0 v9).trips), ∀ a, (k0_off246 d0 v9 k0_t1) a + S1x1x1.size a ≤ S4x8x2.size a := fun d0 v9 k0_hw28 k0_t1 => k0_hw28.2.2.1.2.1 k0_t1
theorem k0_off247_inb : ∀ (d0 : Dev nD) (v9 : BitVec 32) (k0_hw28 : k0_chk28 d0 v9) (k0_t1 : Fin (k0_t1_loop d0 v9).trips), ∀ a, (k0_off247 d0 v9 k0_t1) a + S1x1x32x16x128.size a ≤ S4x8x32x16x128.size a := fun d0 v9 k0_hw28 k0_t1 => k0_hw28.2.2.1.2.2.1 k0_t1
theorem k0_off249_inb : ∀ (d0 : Dev nD) (v9 : BitVec 32) (k0_hw28 : k0_chk28 d0 v9) (k0_t1 : Fin (k0_t1_loop d0 v9).trips), ∀ a, (k0_off249 d0 v9 k0_t1) a + S1x1x1.size a ≤ S4x8x2.size a := fun d0 v9 k0_hw28 k0_t1 => k0_hw28.2.2.1.2.2.2.1 k0_t1
theorem k0_off250_inb : ∀ (d0 : Dev nD) (v9 : BitVec 32) (k0_hw28 : k0_chk28 d0 v9) (k0_t1 : Fin (k0_t1_loop d0 v9).trips), ∀ a, (k0_off250 d0 v9 k0_t1) a + S1x1x32x16x128.size a ≤ S4x8x32x16x128.size a := fun d0 v9 k0_hw28 k0_t1 => k0_hw28.2.2.1.2.2.2.2.1 k0_t1
theorem k0_off251_inb : ∀ (d0 : Dev nD) (v9 : BitVec 32) (k0_hw28 : k0_chk28 d0 v9) (k0_t1 : Fin (k0_t1_loop d0 v9).trips), ∀ a, (k0_off251 d0 v9 k0_t1) a + S1x1.size a ≤ S2x1024.size a := fun d0 v9 k0_hw28 k0_t1 => k0_hw28.2.2.1.2.2.2.2.2.1 k0_t1
theorem k0_off252_inb : ∀ (d0 : Dev nD) (v9 : BitVec 32) (k0_hw28 : k0_chk28 d0 v9) (k0_t1 : Fin (k0_t1_loop d0 v9).trips), ∀ a, (k0_off252 d0 v9 k0_t1) a + S1x1.size a ≤ S2x1024.size a := fun d0 v9 k0_hw28 k0_t1 => k0_hw28.2.2.1.2.2.2.2.2.2.1 k0_t1
theorem k0_off254_inb : ∀ (d0 : Dev nD) (v9 : BitVec 32) (k0_hw28 : k0_chk28 d0 v9) (k0_t1 : Fin (k0_t1_loop d0 v9).trips), ∀ a, (k0_off254 d0 v9 k0_t1) a + S1x8x32x16x128.size a ≤ S4x8x32x16x128.size a := fun d0 v9 k0_hw28 k0_t1 => k0_hw28.2.2.1.2.2.2.2.2.2.2.1 k0_t1
theorem k0_t2_ok : ∀ (d0 : Dev nD) (v9 : BitVec 32) (k0_hw28 : k0_chk28 d0 v9), (k0_t2_loop d0 v9).OK := fun d0 v9 k0_hw28 => k0_hw28.2.2.1.2.2.2.2.2.2.2.2.1
theorem k0_off257_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off257 d0 v9 k0_t2) a + S1x1.size a ≤ S2x1024.size a := fun d0 v9 k0_hw28 k0_t2 k0_h5 => k0_hw28.2.2.1.2.2.2.2.2.2.2.2.2.1 k0_t2 k0_h5
theorem k0_off258_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off258 d0 v9 k0_t2) a + S1x1.size a ≤ S2x1024.size a := fun d0 v9 k0_hw28 k0_t2 k0_h5 => k0_hw28.2.2.1.2.2.2.2.2.2.2.2.2.2.1 k0_t2 k0_h5
theorem k0_off260_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off260 d0 v9 k0_t2) a + S1x1x1.size a ≤ S4x8x2.size a := fun d0 v9 k0_hw28 k0_t2 k0_h5 => k0_hw28.2.2.1.2.2.2.2.2.2.2.2.2.2.2.1 k0_t2 k0_h5
theorem k0_off261_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off261 d0 v9 k0_t2) a + S1x1x32x16x128.size a ≤ S4x8x32x16x128.size a := fun d0 v9 k0_hw28 k0_t2 k0_h5 => k0_hw28.2.2.1.2.2.2.2.2.2.2.2.2.2.2.2.1 k0_t2 k0_h5
theorem k0_off263_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off263 d0 v9 k0_t2) a + S1x1x1.size a ≤ S4x8x2.size a := fun d0 v9 k0_hw28 k0_t2 k0_h5 => k0_hw28.2.2.1.2.2.2.2.2.2.2.2.2.2.2.2.2.1 k0_t2 k0_h5
theorem k0_off264_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off264 d0 v9 k0_t2) a + S1x1x32x16x128.size a ≤ S4x8x32x16x128.size a := fun d0 v9 k0_hw28 k0_t2 k0_h5 => k0_hw28.2.2.1.2.2.2.2.2.2.2.2.2.2.2.2.2.2.1 k0_t2 k0_h5
theorem k0_off266_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off266 d0 v9 k0_t2) a + S1x1x1.size a ≤ S4x8x2.size a := fun d0 v9 k0_hw28 k0_t2 k0_h5 => k0_hw28.2.2.1.2.2.2.2.2.2.2.2.2.2.2.2.2.2.2.1 k0_t2 k0_h5
theorem k0_off267_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off267 d0 v9 k0_t2) a + S1x1x32x16x128.size a ≤ S4x8x32x16x128.size a := fun d0 v9 k0_hw28 k0_t2 k0_h5 => k0_hw28.2.2.1.2.2.2.2.2.2.2.2.2.2.2.2.2.2.2.2.1 k0_t2 k0_h5
theorem k0_off269_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off269 d0 v9 k0_t2) a + S1x1x1.size a ≤ S4x8x2.size a := fun d0 v9 k0_hw28 k0_t2 k0_h5 => k0_hw28.2.2.1.2.2.2.2.2.2.2.2.2.2.2.2.2.2.2.2.2.1 k0_t2 k0_h5
theorem k0_off270_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off270 d0 v9 k0_t2) a + S1x1x32x16x128.size a ≤ S4x8x32x16x128.size a := fun d0 v9 k0_hw28 k0_t2 k0_h5 => k0_hw28.2.2.1.2.2.2.2.2.2.2.2.2.2.2.2.2.2.2.2.2.2.1 k0_t2 k0_h5
theorem k0_off272_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off272 d0 v9 k0_t2) a + S1x1x1.size a ≤ S4x8x2.size a := fun d0 v9 k0_hw28 k0_t2 k0_h5 => k0_hw28.2.2.1.2.2.2.2.2.2.2.2.2.2.2.2.2.2.2.2.2.2.2.1 k0_t2 k0_h5
theorem k0_off273_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off273 d0 v9 k0_t2) a + S1x1x32x16x128.size a ≤ S4x8x32x16x128.size a := fun d0 v9 k0_hw28 k0_t2 k0_h5 => k0_hw28.2.2.1.2.2.2.2.2.2.2.2.2.2.2.2.2.2.2.2.2.2.2.2.1 k0_t2 k0_h5
theorem k0_off275_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off275 d0 v9 k0_t2) a + S1x1x1.size a ≤ S4x8x2.size a := fun d0 v9 k0_hw28 k0_t2 k0_h5 => k0_hw28.2.2.1.2.2.2.2.2.2.2.2.2.2.2.2.2.2.2.2.2.2.2.2.2.1 k0_t2 k0_h5
theorem k0_off276_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off276 d0 v9 k0_t2) a + S1x1x32x16x128.size a ≤ S4x8x32x16x128.size a := fun d0 v9 k0_hw28 k0_t2 k0_h5 => k0_hw28.2.2.1.2.2.2.2.2.2.2.2.2.2.2.2.2.2.2.2.2.2.2.2.2.2.1 k0_t2 k0_h5
theorem k0_off278_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off278 d0 v9 k0_t2) a + S1x1x1.size a ≤ S4x8x2.size a := fun d0 v9 k0_hw28 k0_t2 k0_h5 => k0_hw28.2.2.1.2.2.2.2.2.2.2.2.2.2.2.2.2.2.2.2.2.2.2.2.2.2.2.1 k0_t2 k0_h5
theorem k0_off279_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off279 d0 v9 k0_t2) a + S1x1x32x16x128.size a ≤ S4x8x32x16x128.size a := fun d0 v9 k0_hw28 k0_t2 k0_h5 => k0_hw28.2.2.1.2.2.2.2.2.2.2.2.2.2.2.2.2.2.2.2.2.2.2.2.2.2.2.2.1 k0_t2 k0_h5
theorem k0_off281_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off281 d0 v9 k0_t2) a + S1x1x1.size a ≤ S4x8x2.size a := fun d0 v9 k0_hw28 k0_t2 k0_h5 => k0_hw28.2.2.1.2.2.2.2.2.2.2.2.2.2.2.2.2.2.2.2.2.2.2.2.2.2.2.2.2.1 k0_t2 k0_h5
theorem k0_off282_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off282 d0 v9 k0_t2) a + S1x1x32x16x128.size a ≤ S4x8x32x16x128.size a := fun d0 v9 k0_hw28 k0_t2 k0_h5 => k0_hw28.2.2.1.2.2.2.2.2.2.2.2.2.2.2.2.2.2.2.2.2.2.2.2.2.2.2.2.2.2.1 k0_t2 k0_h5
theorem k0_off284_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off284 d0 v9 k0_t2) a + S1x1x1.size a ≤ S4x8x2.size a := fun d0 v9 k0_hw28 k0_t2 k0_h5 => k0_hw28.2.2.1.2.2.2.2.2.2.2.2.2.2.2.2.2.2.2.2.2.2.2.2.2.2.2.2.2.2.2.1 k0_t2 k0_h5
theorem k0_off285_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off285 d0 v9 k0_t2) a + S1x1x32x16x128.size a ≤ S4x8x32x16x128.size a := fun d0 v9 k0_hw28 k0_t2 k0_h5 => k0_hw28.2.2.1.2.2.2.2.2.2.2.2.2.2.2.2.2.2.2.2.2.2.2.2.2.2.2.2.2.2.2.2.1 k0_t2 k0_h5
theorem k0_off287_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off287 d0 v9 k0_t2) a + S1x1x1.size a ≤ S4x8x2.size a := fun d0 v9 k0_hw28 k0_t2 k0_h5 => k0_hw28.2.2.1.2.2.2.2.2.2.2.2.2.2.2.2.2.2.2.2.2.2.2.2.2.2.2.2.2.2.2.2.2.1 k0_t2 k0_h5
theorem k0_off288_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off288 d0 v9 k0_t2) a + S1x1x32x16x128.size a ≤ S4x8x32x16x128.size a := fun d0 v9 k0_hw28 k0_t2 k0_h5 => k0_hw28.2.2.1.2.2.2.2.2.2.2.2.2.2.2.2.2.2.2.2.2.2.2.2.2.2.2.2.2.2.2.2.2.2.1 k0_t2 k0_h5
theorem k0_off290_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off290 d0 v9 k0_t2) a + S1x1x1.size a ≤ S4x8x2.size a := fun d0 v9 k0_hw28 k0_t2 k0_h5 => k0_hw28.2.2.1.2.2.2.2.2.2.2.2.2.2.2.2.2.2.2.2.2.2.2.2.2.2.2.2.2.2.2.2.2.2.2 k0_t2 k0_h5
theorem k0_off291_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off291 d0 v9 k0_t2) a + S1x1x32x16x128.size a ≤ S4x8x32x16x128.size a := fun d0 v9 k0_hw28 k0_t2 k0_h5 => k0_hw28.2.2.2.1.1 k0_t2 k0_h5
theorem k0_off293_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off293 d0 v9 k0_t2) a + S1x1x1.size a ≤ S4x8x2.size a := fun d0 v9 k0_hw28 k0_t2 k0_h5 => k0_hw28.2.2.2.1.2.1 k0_t2 k0_h5
theorem k0_off294_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off294 d0 v9 k0_t2) a + S1x1x32x16x128.size a ≤ S4x8x32x16x128.size a := fun d0 v9 k0_hw28 k0_t2 k0_h5 => k0_hw28.2.2.2.1.2.2.1 k0_t2 k0_h5
theorem k0_off296_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off296 d0 v9 k0_t2) a + S1x1x1.size a ≤ S4x8x2.size a := fun d0 v9 k0_hw28 k0_t2 k0_h5 => k0_hw28.2.2.2.1.2.2.2.1 k0_t2 k0_h5
theorem k0_off297_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off297 d0 v9 k0_t2) a + S1x1x32x16x128.size a ≤ S4x8x32x16x128.size a := fun d0 v9 k0_hw28 k0_t2 k0_h5 => k0_hw28.2.2.2.1.2.2.2.2.1 k0_t2 k0_h5
theorem k0_off299_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off299 d0 v9 k0_t2) a + S1x1x1.size a ≤ S4x8x2.size a := fun d0 v9 k0_hw28 k0_t2 k0_h5 => k0_hw28.2.2.2.1.2.2.2.2.2.1 k0_t2 k0_h5
theorem k0_off300_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off300 d0 v9 k0_t2) a + S1x1x32x16x128.size a ≤ S4x8x32x16x128.size a := fun d0 v9 k0_hw28 k0_t2 k0_h5 => k0_hw28.2.2.2.1.2.2.2.2.2.2.1 k0_t2 k0_h5
theorem k0_off302_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off302 d0 v9 k0_t2) a + S1x1x1.size a ≤ S4x8x2.size a := fun d0 v9 k0_hw28 k0_t2 k0_h5 => k0_hw28.2.2.2.1.2.2.2.2.2.2.2.1 k0_t2 k0_h5
theorem k0_off303_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off303 d0 v9 k0_t2) a + S1x1x32x16x128.size a ≤ S4x8x32x16x128.size a := fun d0 v9 k0_hw28 k0_t2 k0_h5 => k0_hw28.2.2.2.1.2.2.2.2.2.2.2.2.1 k0_t2 k0_h5
theorem k0_off305_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off305 d0 v9 k0_t2) a + S1x1x1.size a ≤ S4x8x2.size a := fun d0 v9 k0_hw28 k0_t2 k0_h5 => k0_hw28.2.2.2.1.2.2.2.2.2.2.2.2.2.1 k0_t2 k0_h5
theorem k0_off306_inb : ∀ (d0 : Dev nD) (v9 : BitVec 32) (k0_hw28 : k0_chk28 d0 v9) (k0_t2 : Fin (k0_t2_loop d0 v9).trips), ∀ (k0_h5 : k0_cond5 d0 v9 k0_t2 = 1#1), ∀ a, (k0_off306 d0 v9 k0_t2) a + S1x1x32x16x128.size a ≤ S4x8x32x16x128.size a := fun d0 v9 k0_hw28 k0_t2 k0_h5 => k0_hw28.2.2.2.1.2.2.2.2.2.2.2.2.2.2.1 k0_t2 k0_h5
theorem k0_off307_inb : ∀ (d0 : Dev nD) (v9 : BitVec 32) (k0_hw28 : k0_chk28 d0 v9) (k0_t2 : Fin (k0_t2_loop d0 v9).trips), ∀ a, (k0_off307 d0 v9 k0_t2) a + S1x1.size a ≤ S2x1024.size a := fun d0 v9 k0_hw28 k0_t2 => k0_hw28.2.2.2.1.2.2.2.2.2.2.2.2.2.2.2.1 k0_t2
theorem k0_off308_inb : ∀ (d0 : Dev nD) (v9 : BitVec 32) (k0_hw28 : k0_chk28 d0 v9) (k0_t2 : Fin (k0_t2_loop d0 v9).trips), ∀ a, (k0_off308 d0 v9 k0_t2) a + S1x1.size a ≤ S2x1024.size a := fun d0 v9 k0_hw28 k0_t2 => k0_hw28.2.2.2.1.2.2.2.2.2.2.2.2.2.2.2.2.1 k0_t2
theorem k0_off310_inb : ∀ (d0 : Dev nD) (v9 : BitVec 32) (k0_hw28 : k0_chk28 d0 v9) (k0_t2 : Fin (k0_t2_loop d0 v9).trips), ∀ a, (k0_off310 d0 v9 k0_t2) a + S1x1x1.size a ≤ S4x8x2.size a := fun d0 v9 k0_hw28 k0_t2 => k0_hw28.2.2.2.1.2.2.2.2.2.2.2.2.2.2.2.2.2.1 k0_t2
theorem k0_off311_inb : ∀ (d0 : Dev nD) (v9 : BitVec 32) (k0_hw28 : k0_chk28 d0 v9) (k0_t2 : Fin (k0_t2_loop d0 v9).trips), ∀ a, (k0_off311 d0 v9 k0_t2) a + S1x1x32x16x128.size a ≤ S4x8x32x16x128.size a := fun d0 v9 k0_hw28 k0_t2 => k0_hw28.2.2.2.1.2.2.2.2.2.2.2.2.2.2.2.2.2.2.1 k0_t2
theorem k0_off313_inb : ∀ (d0 : Dev nD) (v9 : BitVec 32) (k0_hw28 : k0_chk28 d0 v9) (k0_t2 : Fin (k0_t2_loop d0 v9).trips), ∀ a, (k0_off313 d0 v9 k0_t2) a + S1x1x1.size a ≤ S4x8x2.size a := fun d0 v9 k0_hw28 k0_t2 => k0_hw28.2.2.2.1.2.2.2.2.2.2.2.2.2.2.2.2.2.2.2.1 k0_t2
theorem k0_off314_inb : ∀ (d0 : Dev nD) (v9 : BitVec 32) (k0_hw28 : k0_chk28 d0 v9) (k0_t2 : Fin (k0_t2_loop d0 v9).trips), ∀ a, (k0_off314 d0 v9 k0_t2) a + S1x1x32x16x128.size a ≤ S4x8x32x16x128.size a := fun d0 v9 k0_hw28 k0_t2 => k0_hw28.2.2.2.1.2.2.2.2.2.2.2.2.2.2.2.2.2.2.2.2.1 k0_t2
theorem k0_off316_inb : ∀ (d0 : Dev nD) (v9 : BitVec 32) (k0_hw28 : k0_chk28 d0 v9) (k0_t2 : Fin (k0_t2_loop d0 v9).trips), ∀ a, (k0_off316 d0 v9 k0_t2) a + S1x1x1.size a ≤ S4x8x2.size a := fun d0 v9 k0_hw28 k0_t2 => k0_hw28.2.2.2.1.2.2.2.2.2.2.2.2.2.2.2.2.2.2.2.2.2.1 k0_t2
theorem k0_off317_inb : ∀ (d0 : Dev nD) (v9 : BitVec 32) (k0_hw28 : k0_chk28 d0 v9) (k0_t2 : Fin (k0_t2_loop d0 v9).trips), ∀ a, (k0_off317 d0 v9 k0_t2) a + S1x1x32x16x128.size a ≤ S4x8x32x16x128.size a := fun d0 v9 k0_hw28 k0_t2 => k0_hw28.2.2.2.1.2.2.2.2.2.2.2.2.2.2.2.2.2.2.2.2.2.2.1 k0_t2
theorem k0_off319_inb : ∀ (d0 : Dev nD) (v9 : BitVec 32) (k0_hw28 : k0_chk28 d0 v9) (k0_t2 : Fin (k0_t2_loop d0 v9).trips), ∀ a, (k0_off319 d0 v9 k0_t2) a + S1x1x1.size a ≤ S4x8x2.size a := fun d0 v9 k0_hw28 k0_t2 => k0_hw28.2.2.2.1.2.2.2.2.2.2.2.2.2.2.2.2.2.2.2.2.2.2.2.1 k0_t2
theorem k0_off320_inb : ∀ (d0 : Dev nD) (v9 : BitVec 32) (k0_hw28 : k0_chk28 d0 v9) (k0_t2 : Fin (k0_t2_loop d0 v9).trips), ∀ a, (k0_off320 d0 v9 k0_t2) a + S1x1x32x16x128.size a ≤ S4x8x32x16x128.size a := fun d0 v9 k0_hw28 k0_t2 => k0_hw28.2.2.2.1.2.2.2.2.2.2.2.2.2.2.2.2.2.2.2.2.2.2.2.2.1 k0_t2
theorem k0_off322_inb : ∀ (d0 : Dev nD) (v9 : BitVec 32) (k0_hw28 : k0_chk28 d0 v9) (k0_t2 : Fin (k0_t2_loop d0 v9).trips), ∀ a, (k0_off322 d0 v9 k0_t2) a + S1x1x1.size a ≤ S4x8x2.size a := fun d0 v9 k0_hw28 k0_t2 => k0_hw28.2.2.2.1.2.2.2.2.2.2.2.2.2.2.2.2.2.2.2.2.2.2.2.2.2.1 k0_t2
theorem k0_off323_inb : ∀ (d0 : Dev nD) (v9 : BitVec 32) (k0_hw28 : k0_chk28 d0 v9) (k0_t2 : Fin (k0_t2_loop d0 v9).trips), ∀ a, (k0_off323 d0 v9 k0_t2) a + S1x1x32x16x128.size a ≤ S4x8x32x16x128.size a := fun d0 v9 k0_hw28 k0_t2 => k0_hw28.2.2.2.1.2.2.2.2.2.2.2.2.2.2.2.2.2.2.2.2.2.2.2.2.2.2.1 k0_t2
theorem k0_off325_inb : ∀ (d0 : Dev nD) (v9 : BitVec 32) (k0_hw28 : k0_chk28 d0 v9) (k0_t2 : Fin (k0_t2_loop d0 v9).trips), ∀ a, (k0_off325 d0 v9 k0_t2) a + S1x1x1.size a ≤ S4x8x2.size a := fun d0 v9 k0_hw28 k0_t2 => k0_hw28.2.2.2.1.2.2.2.2.2.2.2.2.2.2.2.2.2.2.2.2.2.2.2.2.2.2.2.1 k0_t2
theorem k0_off326_inb : ∀ (d0 : Dev nD) (v9 : BitVec 32) (k0_hw28 : k0_chk28 d0 v9) (k0_t2 : Fin (k0_t2_loop d0 v9).trips), ∀ a, (k0_off326 d0 v9 k0_t2) a + S1x1x32x16x128.size a ≤ S4x8x32x16x128.size a := fun d0 v9 k0_hw28 k0_t2 => k0_hw28.2.2.2.1.2.2.2.2.2.2.2.2.2.2.2.2.2.2.2.2.2.2.2.2.2.2.2.2.1 k0_t2
theorem k0_off328_inb : ∀ (d0 : Dev nD) (v9 : BitVec 32) (k0_hw28 : k0_chk28 d0 v9) (k0_t2 : Fin (k0_t2_loop d0 v9).trips), ∀ a, (k0_off328 d0 v9 k0_t2) a + S1x1x1.size a ≤ S4x8x2.size a := fun d0 v9 k0_hw28 k0_t2 => k0_hw28.2.2.2.1.2.2.2.2.2.2.2.2.2.2.2.2.2.2.2.2.2.2.2.2.2.2.2.2.2.1 k0_t2
theorem k0_off329_inb : ∀ (d0 : Dev nD) (v9 : BitVec 32) (k0_hw28 : k0_chk28 d0 v9) (k0_t2 : Fin (k0_t2_loop d0 v9).trips), ∀ a, (k0_off329 d0 v9 k0_t2) a + S1x1x32x16x128.size a ≤ S4x8x32x16x128.size a := fun d0 v9 k0_hw28 k0_t2 => k0_hw28.2.2.2.1.2.2.2.2.2.2.2.2.2.2.2.2.2.2.2.2.2.2.2.2.2.2.2.2.2.2.1 k0_t2
theorem k0_off331_inb : ∀ (d0 : Dev nD) (v9 : BitVec 32) (k0_hw28 : k0_chk28 d0 v9) (k0_t2 : Fin (k0_t2_loop d0 v9).trips), ∀ a, (k0_off331 d0 v9 k0_t2) a + S1x1x1.size a ≤ S4x8x2.size a := fun d0 v9 k0_hw28 k0_t2 => k0_hw28.2.2.2.1.2.2.2.2.2.2.2.2.2.2.2.2.2.2.2.2.2.2.2.2.2.2.2.2.2.2.2.1 k0_t2
theorem k0_off332_inb : ∀ (d0 : Dev nD) (v9 : BitVec 32) (k0_hw28 : k0_chk28 d0 v9) (k0_t2 : Fin (k0_t2_loop d0 v9).trips), ∀ a, (k0_off332 d0 v9 k0_t2) a + S1x1x32x16x128.size a ≤ S4x8x32x16x128.size a := fun d0 v9 k0_hw28 k0_t2 => k0_hw28.2.2.2.1.2.2.2.2.2.2.2.2.2.2.2.2.2.2.2.2.2.2.2.2.2.2.2.2.2.2.2.2.1 k0_t2
theorem k0_off334_inb : ∀ (d0 : Dev nD) (v9 : BitVec 32) (k0_hw28 : k0_chk28 d0 v9) (k0_t2 : Fin (k0_t2_loop d0 v9).trips), ∀ a, (k0_off334 d0 v9 k0_t2) a + S1x1x1.size a ≤ S4x8x2.size a := fun d0 v9 k0_hw28 k0_t2 => k0_hw28.2.2.2.1.2.2.2.2.2.2.2.2.2.2.2.2.2.2.2.2.2.2.2.2.2.2.2.2.2.2.2.2.2.1 k0_t2
theorem k0_off335_inb : ∀ (d0 : Dev nD) (v9 : BitVec 32) (k0_hw28 : k0_chk28 d0 v9) (k0_t2 : Fin (k0_t2_loop d0 v9).trips), ∀ a, (k0_off335 d0 v9 k0_t2) a + S1x1x32x16x128.size a ≤ S4x8x32x16x128.size a := fun d0 v9 k0_hw28 k0_t2 => k0_hw28.2.2.2.1.2.2.2.2.2.2.2.2.2.2.2.2.2.2.2.2.2.2.2.2.2.2.2.2.2.2.2.2.2.2.1 k0_t2
theorem k0_off337_inb : ∀ (d0 : Dev nD) (v9 : BitVec 32) (k0_hw28 : k0_chk28 d0 v9) (k0_t2 : Fin (k0_t2_loop d0 v9).trips), ∀ a, (k0_off337 d0 v9 k0_t2) a + S1x1x1.size a ≤ S4x8x2.size a := fun d0 v9 k0_hw28 k0_t2 => k0_hw28.2.2.2.1.2.2.2.2.2.2.2.2.2.2.2.2.2.2.2.2.2.2.2.2.2.2.2.2.2.2.2.2.2.2.2 k0_t2
theorem k0_off338_inb : ∀ (d0 : Dev nD) (v9 : BitVec 32) (k0_hw28 : k0_chk28 d0 v9) (k0_t2 : Fin (k0_t2_loop d0 v9).trips), ∀ a, (k0_off338 d0 v9 k0_t2) a + S1x1x32x16x128.size a ≤ S4x8x32x16x128.size a := fun d0 v9 k0_hw28 k0_t2 => k0_hw28.2.2.2.2.1 k0_t2
theorem k0_off340_inb : ∀ (d0 : Dev nD) (v9 : BitVec 32) (k0_hw28 : k0_chk28 d0 v9) (k0_t2 : Fin (k0_t2_loop d0 v9).trips), ∀ a, (k0_off340 d0 v9 k0_t2) a + S1x1x1.size a ≤ S4x8x2.size a := fun d0 v9 k0_hw28 k0_t2 => k0_hw28.2.2.2.2.2.1 k0_t2
theorem k0_off341_inb : ∀ (d0 : Dev nD) (v9 : BitVec 32) (k0_hw28 : k0_chk28 d0 v9) (k0_t2 : Fin (k0_t2_loop d0 v9).trips), ∀ a, (k0_off341 d0 v9 k0_t2) a + S1x1x32x16x128.size a ≤ S4x8x32x16x128.size a := fun d0 v9 k0_hw28 k0_t2 => k0_hw28.2.2.2.2.2.2.1 k0_t2
theorem k0_off343_inb : ∀ (d0 : Dev nD) (v9 : BitVec 32) (k0_hw28 : k0_chk28 d0 v9) (k0_t2 : Fin (k0_t2_loop d0 v9).trips), ∀ a, (k0_off343 d0 v9 k0_t2) a + S1x1x1.size a ≤ S4x8x2.size a := fun d0 v9 k0_hw28 k0_t2 => k0_hw28.2.2.2.2.2.2.2.1 k0_t2
theorem k0_off344_inb : ∀ (d0 : Dev nD) (v9 : BitVec 32) (k0_hw28 : k0_chk28 d0 v9) (k0_t2 : Fin (k0_t2_loop d0 v9).trips), ∀ a, (k0_off344 d0 v9 k0_t2) a + S1x1x32x16x128.size a ≤ S4x8x32x16x128.size a := fun d0 v9 k0_hw28 k0_t2 => k0_hw28.2.2.2.2.2.2.2.2.1 k0_t2
theorem k0_off346_inb : ∀ (d0 : Dev nD) (v9 : BitVec 32) (k0_hw28 : k0_chk28 d0 v9) (k0_t2 : Fin (k0_t2_loop d0 v9).trips), ∀ a, (k0_off346 d0 v9 k0_t2) a + S1x1x1.size a ≤ S4x8x2.size a := fun d0 v9 k0_hw28 k0_t2 => k0_hw28.2.2.2.2.2.2.2.2.2.1 k0_t2
theorem k0_off347_inb : ∀ (d0 : Dev nD) (v9 : BitVec 32) (k0_hw28 : k0_chk28 d0 v9) (k0_t2 : Fin (k0_t2_loop d0 v9).trips), ∀ a, (k0_off347 d0 v9 k0_t2) a + S1x1x32x16x128.size a ≤ S4x8x32x16x128.size a := fun d0 v9 k0_hw28 k0_t2 => k0_hw28.2.2.2.2.2.2.2.2.2.2.1 k0_t2
theorem k0_off349_inb : ∀ (d0 : Dev nD) (v9 : BitVec 32) (k0_hw28 : k0_chk28 d0 v9) (k0_t2 : Fin (k0_t2_loop d0 v9).trips), ∀ a, (k0_off349 d0 v9 k0_t2) a + S1x1x1.size a ≤ S4x8x2.size a := fun d0 v9 k0_hw28 k0_t2 => k0_hw28.2.2.2.2.2.2.2.2.2.2.2.1 k0_t2
theorem k0_off350_inb : ∀ (d0 : Dev nD) (v9 : BitVec 32) (k0_hw28 : k0_chk28 d0 v9) (k0_t2 : Fin (k0_t2_loop d0 v9).trips), ∀ a, (k0_off350 d0 v9 k0_t2) a + S1x1x32x16x128.size a ≤ S4x8x32x16x128.size a := fun d0 v9 k0_hw28 k0_t2 => k0_hw28.2.2.2.2.2.2.2.2.2.2.2.2.1 k0_t2
theorem k0_off352_inb : ∀ (d0 : Dev nD) (v9 : BitVec 32) (k0_hw28 : k0_chk28 d0 v9) (k0_t2 : Fin (k0_t2_loop d0 v9).trips), ∀ a, (k0_off352 d0 v9 k0_t2) a + S1x1x1.size a ≤ S4x8x2.size a := fun d0 v9 k0_hw28 k0_t2 => k0_hw28.2.2.2.2.2.2.2.2.2.2.2.2.2.1 k0_t2
theorem k0_off353_inb : ∀ (d0 : Dev nD) (v9 : BitVec 32) (k0_hw28 : k0_chk28 d0 v9) (k0_t2 : Fin (k0_t2_loop d0 v9).trips), ∀ a, (k0_off353 d0 v9 k0_t2) a + S1x1x32x16x128.size a ≤ S4x8x32x16x128.size a := fun d0 v9 k0_hw28 k0_t2 => k0_hw28.2.2.2.2.2.2.2.2.2.2.2.2.2.2.1 k0_t2
theorem k0_off355_inb : ∀ (d0 : Dev nD) (v9 : BitVec 32) (k0_hw28 : k0_chk28 d0 v9) (k0_t2 : Fin (k0_t2_loop d0 v9).trips), ∀ a, (k0_off355 d0 v9 k0_t2) a + S1x1x1.size a ≤ S4x8x2.size a := fun d0 v9 k0_hw28 k0_t2 => k0_hw28.2.2.2.2.2.2.2.2.2.2.2.2.2.2.2.1 k0_t2
theorem k0_off356_inb : ∀ (d0 : Dev nD) (v9 : BitVec 32) (k0_hw28 : k0_chk28 d0 v9) (k0_t2 : Fin (k0_t2_loop d0 v9).trips), ∀ a, (k0_off356 d0 v9 k0_t2) a + S1x1x32x16x128.size a ≤ S4x8x32x16x128.size a := fun d0 v9 k0_hw28 k0_t2 => k0_hw28.2.2.2.2.2.2.2.2.2.2.2.2.2.2.2.2.1 k0_t2
theorem k0_off357_inb : ∀ (d0 : Dev nD) (v9 : BitVec 32) (k0_hw28 : k0_chk28 d0 v9) (k0_t2 : Fin (k0_t2_loop d0 v9).trips), ∀ a, (k0_off357 d0 v9 k0_t2) a + S1x1.size a ≤ S2x1024.size a := fun d0 v9 k0_hw28 k0_t2 => k0_hw28.2.2.2.2.2.2.2.2.2.2.2.2.2.2.2.2.2.1 k0_t2
theorem k0_off358_inb : ∀ (d0 : Dev nD) (v9 : BitVec 32) (k0_hw28 : k0_chk28 d0 v9) (k0_t2 : Fin (k0_t2_loop d0 v9).trips), ∀ a, (k0_off358 d0 v9 k0_t2) a + S1x1.size a ≤ S2x1024.size a := fun d0 v9 k0_hw28 k0_t2 => k0_hw28.2.2.2.2.2.2.2.2.2.2.2.2.2.2.2.2.2.2.1 k0_t2
theorem k0_off360_inb : ∀ (d0 : Dev nD) (v9 : BitVec 32) (k0_hw28 : k0_chk28 d0 v9) (k0_t2 : Fin (k0_t2_loop d0 v9).trips), ∀ a, (k0_off360 d0 v9 k0_t2) a + S1x8x32x16x128.size a ≤ S4x8x32x16x128.size a := fun d0 v9 k0_hw28 k0_t2 => k0_hw28.2.2.2.2.2.2.2.2.2.2.2.2.2.2.2.2.2.2.2 k0_t2

def k0_off361 (v504 : BitVec 32) : Fin 1 → Nat :=
  let v549 : Index := Scalar.indexCast v504
  ![v549.toNat]
def k0_off362 (v504 : BitVec 32) : Fin 2 → Nat :=
  let v556 : Index := Scalar.indexCast v504
  let c0_562 : Index := 0#32
  ![v556.toNat, 0]

def k0_chk66 (v504 : BitVec 32) : Prop :=
  (∀ a, (k0_off359 v504) a + S1x16x128.size a ≤ S32x16x128.size a) ∧
  (∀ a, (k0_off361 v504) a + S1.size a ≤ S32.size a) ∧
  (∀ a, (k0_off362 v504) a + S1x16.size a ≤ S32x16.size a)
theorem k0_off359_inb : ∀ (v504 : BitVec 32) (k0_hw66 : k0_chk66 v504), ∀ a, (k0_off359 v504) a + S1x16x128.size a ≤ S32x16x128.size a := fun v504 k0_hw66 => k0_hw66.1
theorem k0_off361_inb : ∀ (v504 : BitVec 32) (k0_hw66 : k0_chk66 v504), ∀ a, (k0_off361 v504) a + S1.size a ≤ S32.size a := fun v504 k0_hw66 => k0_hw66.2.1
theorem k0_off362_inb : ∀ (v504 : BitVec 32) (k0_hw66 : k0_chk66 v504), ∀ a, (k0_off362 v504) a + S1x16.size a ≤ S32x16.size a := fun v504 k0_hw66 => k0_hw66.2.2

def k0_dev5 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v86 : BitVec 32 := Scalar.muli v2 c8_i32_59
  let v87 : BitVec 32 := Scalar.addi c0_i32_60 v86
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_3 v5
  let c4_i32_61 : BitVec 32 := 4#32
  let v88 : BitVec 32 := Scalar.muli v12 c4_i32_61
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v90 : BitVec 32 := Scalar.muli v8 c1_i32_62
  let v91 : BitVec 32 := Scalar.addi v89 v90
  v91.toNat
def k0_dev6 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v98 : BitVec 32 := Scalar.muli v2 c8_i32_71
  let v99 : BitVec 32 := Scalar.addi c0_i32_72 v98
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_3 v5
  let c4_i32_73 : BitVec 32 := 4#32
  let v100 : BitVec 32 := Scalar.muli v12 c4_i32_73
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v102 : BitVec 32 := Scalar.muli v8 c1_i32_74
  let v103 : BitVec 32 := Scalar.addi v101 v102
  v103.toNat
def k0_dev7 (d0 : Dev nD) : Nat :=
  let c0_i32_140 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_139 : BitVec 32 := 8#32
  let v152 : BitVec 32 := Scalar.muli v13 c8_i32_139
  let v153 : BitVec 32 := Scalar.addi c0_i32_140 v152
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v154 : BitVec 32 := Scalar.muli v5 c4_i32_141
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v156 : BitVec 32 := Scalar.muli v8 c1_i32_142
  let v157 : BitVec 32 := Scalar.addi v155 v156
  v157.toNat
def k0_dev8 (d0 : Dev nD) : Nat :=
  let c0_i32_152 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_151 : BitVec 32 := 8#32
  let v164 : BitVec 32 := Scalar.muli v13 c8_i32_151
  let v165 : BitVec 32 := Scalar.addi c0_i32_152 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_153 : BitVec 32 := 4#32
  let v166 : BitVec 32 := Scalar.muli v5 c4_i32_153
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v168 : BitVec 32 := Scalar.muli v8 c1_i32_154
  let v169 : BitVec 32 := Scalar.addi v167 v168
  v169.toNat
def k0_dev9 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v218 : BitVec 32 := Scalar.muli v2 c8_i32_218
  let v219 : BitVec 32 := Scalar.addi c0_i32_219 v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_220 : BitVec 32 := 4#32
  let v220 : BitVec 32 := Scalar.muli v5 c4_i32_220
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.xori v8 c1_i32_5
  let c1_i32_221 : BitVec 32 := 1#32
  let v222 : BitVec 32 := Scalar.muli v14 c1_i32_221
  let v223 : BitVec 32 := Scalar.addi v221 v222
  v223.toNat
def k0_dev10 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v230 : BitVec 32 := Scalar.muli v2 c8_i32_230
  let v231 : BitVec 32 := Scalar.addi c0_i32_231 v230
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_232 : BitVec 32 := 4#32
  let v232 : BitVec 32 := Scalar.muli v5 c4_i32_232
  let v233 : BitVec 32 := Scalar.addi v231 v232
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.xori v8 c1_i32_5
  let c1_i32_233 : BitVec 32 := 1#32
  let v234 : BitVec 32 := Scalar.muli v14 c1_i32_233
  let v235 : BitVec 32 := Scalar.addi v233 v234
  v235.toNat
def k0_dev11 (d0 : Dev nD) : Nat :=
  let c0_i32_297 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_296 : BitVec 32 := 8#32
  let v284 : BitVec 32 := Scalar.muli v2 c8_i32_296
  let v285 : BitVec 32 := Scalar.addi c0_i32_297 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_298 : BitVec 32 := 4#32
  let v286 : BitVec 32 := Scalar.muli v5 c4_i32_298
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_299 : BitVec 32 := 1#32
  let v288 : BitVec 32 := Scalar.muli v15 c1_i32_299
  let v289 : BitVec 32 := Scalar.addi v287 v288
  v289.toNat
def k0_dev12 (d0 : Dev nD) : Nat :=
  let c0_i32_309 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_308 : BitVec 32 := 8#32
  let v296 : BitVec 32 := Scalar.muli v2 c8_i32_308
  let v297 : BitVec 32 := Scalar.addi c0_i32_309 v296
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_310 : BitVec 32 := 4#32
  let v298 : BitVec 32 := Scalar.muli v5 c4_i32_310
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_311 : BitVec 32 := 1#32
  let v300 : BitVec 32 := Scalar.muli v15 c1_i32_311
  let v301 : BitVec 32 := Scalar.addi v299 v300
  v301.toNat
def k0_dev13 (d0 : Dev nD) : Nat :=
  let c0_i32_380_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_379_r0 : BitVec 32 := 8#32
  let v357_r0 : BitVec 32 := Scalar.muli v2 c8_i32_379_r0
  let v358_r0 : BitVec 32 := Scalar.addi c0_i32_380_r0 v357_r0
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_3 v5
  let c4_i32_381_r0 : BitVec 32 := 4#32
  let v359_r0 : BitVec 32 := Scalar.muli v12 c4_i32_381_r0
  let v360_r0 : BitVec 32 := Scalar.addi v358_r0 v359_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382_r0 : BitVec 32 := 1#32
  let v361_r0 : BitVec 32 := Scalar.muli v8 c1_i32_382_r0
  let v362_r0 : BitVec 32 := Scalar.addi v360_r0 v361_r0
  v362_r0.toNat
def k0_dev14 (d0 : Dev nD) : Nat :=
  let c0_i32_385_r0 : BitVec 32 := 0#32
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.subi c1_i32_4 v2
  let c8_i32_384_r0 : BitVec 32 := 8#32
  let v363_r0 : BitVec 32 := Scalar.muli v13 c8_i32_384_r0
  let v364_r0 : BitVec 32 := Scalar.addi c0_i32_385_r0 v363_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_386_r0 : BitVec 32 := 4#32
  let v365_r0 : BitVec 32 := Scalar.muli v5 c4_i32_386_r0
  let v366_r0 : BitVec 32 := Scalar.addi v364_r0 v365_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_387_r0 : BitVec 32 := 1#32
  let v367_r0 : BitVec 32 := Scalar.muli v8 c1_i32_387_r0
  let v368_r0 : BitVec 32 := Scalar.addi v366_r0 v367_r0
  v368_r0.toNat
def k0_dev15 (d0 : Dev nD) : Nat :=
  let c0_i32_390_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_389_r0 : BitVec 32 := 8#32
  let v369_r0 : BitVec 32 := Scalar.muli v2 c8_i32_389_r0
  let v370_r0 : BitVec 32 := Scalar.addi c0_i32_390_r0 v369_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391_r0 : BitVec 32 := 4#32
  let v371_r0 : BitVec 32 := Scalar.muli v5 c4_i32_391_r0
  let v372_r0 : BitVec 32 := Scalar.addi v370_r0 v371_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v14 : BitVec 32 := Scalar.xori v8 c1_i32_5
  let c1_i32_392_r0 : BitVec 32 := 1#32
  let v373_r0 : BitVec 32 := Scalar.muli v14 c1_i32_392_r0
  let v374_r0 : BitVec 32 := Scalar.addi v372_r0 v373_r0
  v374_r0.toNat
def k0_dev16 (d0 : Dev nD) : Nat :=
  let c0_i32_395_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_394_r0 : BitVec 32 := 8#32
  let v375_r0 : BitVec 32 := Scalar.muli v2 c8_i32_394_r0
  let v376_r0 : BitVec 32 := Scalar.addi c0_i32_395_r0 v375_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_396_r0 : BitVec 32 := 4#32
  let v377_r0 : BitVec 32 := Scalar.muli v5 c4_i32_396_r0
  let v378_r0 : BitVec 32 := Scalar.addi v376_r0 v377_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v15 : BitVec 32 := Scalar.xori v8 c2_i32_6
  let c1_i32_397_r0 : BitVec 32 := 1#32
  let v379_r0 : BitVec 32 := Scalar.muli v15 c1_i32_397_r0
  let v380_r0 : BitVec 32 := Scalar.addi v378_r0 v379_r0
  v380_r0.toNat
abbrev stage0_0 : Fin 1 → Memref sig .tc .smem S32x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2x1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S_ : Shape := ⟨0, ![]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S32x16x1x8192 : Shape := ⟨4, ![32, 16, 1, 8192]⟩
abbrev S32x1x1x8192 : Shape := ⟨4, ![32, 1, 1, 8192]⟩
abbrev S32x1x1x1 : Shape := ⟨4, ![32, 1, 1, 1]⟩
abbrev S32x16x1 : Shape := ⟨3, ![32, 16, 1]⟩
abbrev S32x16x1x1 : Shape := ⟨4, ![32, 16, 1, 1]⟩
abbrev S32x16x128x1 : Shape := ⟨4, ![32, 16, 128, 1]⟩

abbrev nBuf : Space → Nat
  | .hbm => 69
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S32x256, .i32⟩
  | .hbm, ⟨7, _⟩ => ⟨S32x256, .i1⟩
  | .hbm, ⟨8, _⟩ => ⟨S_, .i32⟩
  | .hbm, ⟨9, _⟩ => ⟨S32x256, .i32⟩
  | .hbm, ⟨10, _⟩ => ⟨S32x256, .i32⟩
  | .hbm, ⟨11, _⟩ => ⟨S32x256, .i32⟩
  | .hbm, ⟨12, _⟩ => ⟨S32x256x1, .i32⟩
  | .hbm, ⟨13, _⟩ => ⟨S32x256x32x16x128, .f32⟩
  | .hbm, ⟨14, _⟩ => ⟨S32x8192x16x128, .f32⟩
  | .hbm, ⟨15, _⟩ => ⟨S_, .i32⟩
  | .hbm, ⟨16, _⟩ => ⟨S32x256, .i32⟩
  | .hbm, ⟨17, _⟩ => ⟨S32x256, .i1⟩
  | .hbm, ⟨18, _⟩ => ⟨S_, .i32⟩
  | .hbm, ⟨19, _⟩ => ⟨S32x256, .i32⟩
  | .hbm, ⟨20, _⟩ => ⟨S32x256, .i32⟩
  | .hbm, ⟨21, _⟩ => ⟨S32x256, .i32⟩
  | .hbm, ⟨22, _⟩ => ⟨S32x256x1, .i32⟩
  | .hbm, ⟨23, _⟩ => ⟨S32x256x32x16x128, .f32⟩
  | .hbm, ⟨24, _⟩ => ⟨S32x8192x16x128, .f32⟩
  | .hbm, ⟨25, _⟩ => ⟨S32x16x1x8192, .f32⟩
  | .hbm, ⟨26, _⟩ => ⟨S_, .f32⟩
  | .hbm, ⟨27, _⟩ => ⟨S32x16x1x8192, .f32⟩
  | .hbm, ⟨28, _⟩ => ⟨S32x16x1x8192, .f32⟩
  | .hbm, ⟨29, _⟩ => ⟨S32x1x1x8192, .i32⟩
  | .hbm, ⟨30, _⟩ => ⟨S_, .i32⟩
  | .hbm, ⟨31, _⟩ => ⟨S_, .i32⟩
  | .hbm, ⟨32, _⟩ => ⟨S32x1x1x8192, .i32⟩
  | .hbm, ⟨33, _⟩ => ⟨S32x1x1x8192, .i32⟩
  | .hbm, ⟨34, _⟩ => ⟨S32x1x1x8192, .i32⟩
  | .hbm, ⟨35, _⟩ => ⟨S_, .i32⟩
  | .hbm, ⟨36, _⟩ => ⟨S32x1x1x8192, .i32⟩
  | .hbm, ⟨37, _⟩ => ⟨S32x1x1x8192, .i1⟩
  | .hbm, ⟨38, _⟩ => ⟨S32x1x1x8192, .i32⟩
  | .hbm, ⟨39, _⟩ => ⟨S32x1x1x8192, .i32⟩
  | .hbm, ⟨40, _⟩ => ⟨S_, .i32⟩
  | .hbm, ⟨41, _⟩ => ⟨S32x1x1x8192, .i32⟩
  | .hbm, ⟨42, _⟩ => ⟨S32x1x1x8192, .i1⟩
  | .hbm, ⟨43, _⟩ => ⟨S32x1x1x8192, .i1⟩
  | .hbm, ⟨44, _⟩ => ⟨S_, .i32⟩
  | .hbm, ⟨45, _⟩ => ⟨S32x1x1x8192, .i32⟩
  | .hbm, ⟨46, _⟩ => ⟨S32x1x1x8192, .i32⟩
  | .hbm, ⟨47, _⟩ => ⟨S32x1x1x8192, .i32⟩
  | .hbm, ⟨48, _⟩ => ⟨S32x1x1x1, .i32⟩
  | .hbm, ⟨49, _⟩ => ⟨S32x1x1x8192, .i32⟩
  | .hbm, ⟨50, _⟩ => ⟨S32x1x1x8192, .i1⟩
  | .hbm, ⟨51, _⟩ => ⟨S_, .f32⟩
  | .hbm, ⟨52, _⟩ => ⟨S_, .f32⟩
  | .hbm, ⟨53, _⟩ => ⟨S32x16x1x8192, .i1⟩
  | .hbm, ⟨54, _⟩ => ⟨S32x16x1x8192, .f32⟩
  | .hbm, ⟨55, _⟩ => ⟨S32x16x1x8192, .f32⟩
  | .hbm, ⟨56, _⟩ => ⟨S_, .f32⟩
  | .hbm, ⟨57, _⟩ => ⟨S32x16x1, .f32⟩
  | .hbm, ⟨58, _⟩ => ⟨S32x16x1x1, .f32⟩
  | .hbm, ⟨59, _⟩ => ⟨S32x16x1x8192, .f32⟩
  | .hbm, ⟨60, _⟩ => ⟨S32x16x1x8192, .f32⟩
  | .hbm, ⟨61, _⟩ => ⟨S32x16x1x8192, .f32⟩
  | .hbm, ⟨62, _⟩ => ⟨S_, .f32⟩
  | .hbm, ⟨63, _⟩ => ⟨S32x16x1, .f32⟩
  | .hbm, ⟨64, _⟩ => ⟨S32x16x1x1, .f32⟩
  | .hbm, ⟨65, _⟩ => ⟨S32x16x1x8192, .f32⟩
  | .hbm, ⟨66, _⟩ => ⟨S32x16x1x8192, .f32⟩
  | .hbm, ⟨67, _⟩ => ⟨S32x16x128x1, .f32⟩
  | .hbm, ⟨68, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v24 : Ref sig .tc := ⟨.hbm, 55, rfl⟩
abbrev main_cst_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩

abbrev nD : Nat := 1
abbrev τ : Topo := Topo.v7x

variable {F : FTy → Type} [FloatOps F]
-- ==== Proof.Cells.lean ====
/-
  The four-slot ring of local copies: one cell of it, free or in flight, and the two steps a body takes on a cell —
  starting the copy of one page of K (or V) into a piece of a slot, and waiting for it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Tactic
public import Idealize.ShloMosaic.Lib.ValueLayout

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The schedule's rounds: up to four parties contribute to a cell. -/
abbrev UQ : Type := URounds (GSem nD τ sig) (Fin 4)

/-- The pipeline library's copy, the schedule's, and the counters of the local copies. -/
abbrev UU : Type := UR sig nD τ × (UQ × Counters)

local notation "𝕄" => MT nD τ sig Unit (Elt F) ℕ UU ℕ

abbrev EP : Emb (UR sig nD τ) (MT nD τ sig Unit (Elt F) ℕ UU ℕ) := embL
abbrev ER : Emb UQ (MT nD τ sig Unit (Elt F) ℕ UU ℕ) :=
  (Emb.inl : Emb UQ (UQ × Counters)).trans embR
abbrev EC : UEmb Counters (MT nD τ sig Unit (Elt F) ℕ UU ℕ) := countersEmb

/-- No recursive call is made by a body. -/
abbrev 𝒱₀ : Variants := Variants.none

/-! ## The memrefs of one cell -/

abbrev Ring5 : Type := Memref sig .tc .vmem S4x8x32x16x128 .f32
abbrev Pool4 : Type := Memref sig .tc .hbm S256x32x16x128 .f32

/-- One piece of a ring buffer: slot and page, at the offsets the body computes. -/
abbrev dstM (bm : Ring5) (o : Fin 5 → ℕ) (h : ∀ a, o a + S1x1x32x16x128.size a ≤ S4x8x32x16x128.size a) :
    Memref sig .tc .vmem S32x16x128 .f32 :=
  (bm.slice (Rect.unit (s := S4x8x32x16x128) o S1x1x32x16x128.size h) (fun _ => rfl)).squeeze S32x16x128
    squeezes_S1x1x32x16x128_S32x16x128

/-- One page of a pool. -/
abbrev srcM (km : Pool4) (o : Fin 4 → ℕ) (h : ∀ a, o a + S1x32x16x128.size a ≤ S256x32x16x128.size a) :
    Memref sig .tc .hbm S32x16x128 .f32 :=
  (km.slice (Rect.unit (s := S256x32x16x128) o S1x32x16x128.size h) (fun _ => rfl)).squeeze S32x16x128
    squeezes_S1x32x16x128_S32x16x128

/-- The semaphore of one copy. -/
abbrev cellM (A : DmaSems sig S4x8x2) (o : Fin 3 → ℕ) (h : ∀ a, o a + S1x1x1.size a ≤ S4x8x2.size a) : DmaSem sig :=
  ((A.slice (Rect.unit (s := S4x8x2) o S1x1x1.size h)).squeeze S_ squeezes_S1x1x1_S_).sem

theorem o5_inb (s : Fin 4) (p : Fin 8) : ∀ a, (![s.val, p.val, 0, 0, 0] : Fin 5 → ℕ) a + S1x1x32x16x128.size a ≤ S4x8x32x16x128.size a := by
  revert s p; decide
theorem o4_inb (g : Fin 256) : ∀ a, (![g.val, 0, 0, 0] : Fin 4 → ℕ) a + S1x32x16x128.size a ≤ S256x32x16x128.size a := by
  have := g.isLt
  intro a; fin_cases a
  · show g.val + 1 ≤ 256; omega
  · exact Nat.le_refl _
  · exact Nat.le_refl _
  · exact Nat.le_refl _
theorem o3_inb (s : Fin 4) (p : Fin 8) (k : Fin 2) : ∀ a, (![s.val, p.val, k.val] : Fin 3 → ℕ) a + S1x1x1.size a ≤ S4x8x2.size a := by
  revert s p k; decide

abbrev dst (bm : Ring5) (s : Fin 4) (p : Fin 8) := dstM bm ![s.val, p.val, 0, 0, 0] (o5_inb s p)
abbrev src (km : Pool4) (g : Fin 256) := srcM km ![g.val, 0, 0, 0] (o4_inb g)
abbrev cell (A : DmaSems sig S4x8x2) (s : Fin 4) (p : Fin 8) (k : Fin 2) := cellM A ![s.val, p.val, k.val] (o3_inb s p k)

/-- A view's elements, held at some contents the view reads as `w`. -/
def Held (c : Dev nD) (m : Memref sig .tc .vmem S32x16x128 .f32) (w : S32x16x128.Idx → Elt F .f32) : sProp 𝕄 :=
  iprop(∃ f, (m.view.loc (c : Thread nD τ) ↦[m.view.set]{fullShare} f) ∗ ⌜m.view.read (Elt F) f = w⌝)

/-- The bytes one copy is counted at. -/
abbrev NC (m : Memref sig .tc .vmem S32x16x128 .f32) : ℕ := m.view.dmaCredit

variable (A : DmaSems sig S4x8x2)

/-- A cell between two copies: its piece at any contents, its share of the pool, its semaphore at zero. -/
def Free (c : Dev nD) (bm : Ring5) (km : Pool4) (k : Fin 2) (q : PosShare TreeShare) (fs : Buf (Elt F) (km.view.loc (c : Thread nD τ)))
    (s : Fin 4) (p : Fin 8) : sProp 𝕄 :=
  iprop((∃ f, ((dst bm s p).view.loc (c : Thread nD τ) ↦[(dst bm s p).view.set]{fullShare} f))
    ∗ (km.view.loc (c : Thread nD τ) ↦[Finset.univ]{q} fs) ∗ semVal ((c : Thread nD τ), .dma (cell A s p k)) 0)

/-- A cell whose copy of page `g` is in flight. -/
def Infl (c : Dev nD) (bm : Ring5) (km : Pool4) (k : Fin 2) (q : PosShare TreeShare) (fs : Buf (Elt F) (km.view.loc (c : Thread nD τ)))
    (s : Fin 4) (p : Fin 8) (g : Fin 256) : sProp 𝕄 :=
  iprop(Flight EC (c : Thread nD τ) (.dma (cell A s p k)) () (NC (dst bm s p))
      iprop(Held c (dst bm s p) ((src km g).view.read (Elt F) fs) ∗ ((src km g).view.loc (c : Thread nD τ) ↦[(src km g).view.set]{q} fs))
    ∗ (km.view.loc (c : Thread nD τ) ↦[Finset.univ \ (src km g).view.set]{q} fs))

/-- A cell whose copy of page `g` has landed. -/
def Done (c : Dev nD) (bm : Ring5) (km : Pool4) (k : Fin 2) (q : PosShare TreeShare) (fs : Buf (Elt F) (km.view.loc (c : Thread nD τ)))
    (s : Fin 4) (p : Fin 8) (g : Fin 256) : sProp 𝕄 :=
  iprop(Held c (dst bm s p) ((src km g).view.read (Elt F) fs)
    ∗ (km.view.loc (c : Thread nD τ) ↦[Finset.univ]{q} fs) ∗ semVal ((c : Thread nD τ), .dma (cell A s p k)) 0)

theorem NC_pos (m : Memref sig .tc .vmem S32x16x128 .f32) : 0 < NC m := View.dmaCredit_pos _ (by decide)

variable {Λ : Labels} {defs : Defs nD τ sig (Elt F) Λ} {α : Type} {Q : α → sProp (MT nD τ sig Unit (Elt F) ℕ UU ℕ)}

/-- Starting a copy on a free cell. -/
theorem wp_issue (c : Dev nD) {bm : Ring5} {km : Pool4} {k : Fin 2} {q : PosShare TreeShare} {fs : Buf (Elt F) (km.view.loc (c : Thread nD τ))}
    {s : Fin 4} {p : Fin 8} (g : Fin 256)
    {o5 : Fin 5 → ℕ} {h5} (e5 : o5 = ![s.val, p.val, 0, 0, 0]) {o4 : Fin 4 → ℕ} {h4} (e4 : o4 = ![g.val, 0, 0, 0])
    {o3 : Fin 3 → ℕ} {h3} (e3 : o3 = ![s.val, p.val, k.val])
    {hsrc : (srcM km o4 h4).view.WordExact} {hdst : (dstM bm o5 h5).view.WordExact}
    {hsem}
    {K : PUnit → Prog (TpuEff nD τ sig (Elt F) Λ .tc) α} :
    Free A c bm km k q fs s p
      ⊢ iprop((Infl A c bm km k q fs s p g -∗ wp frame (wpE defs 𝒱₀ (c : Thread nD τ) none) Set.univ (K ⟨⟩) Q)
        -∗ wp frame (wpE defs 𝒱₀ (c : Thread nD τ) none) Set.univ
            (.op (.enqueueDma (srcM km o4 h4) (.here (dstM bm o5 h5)) (.dma (cellM A o3 h3)) hsrc hdst hsem) K) Q) := by
  subst e5 e4 e3
  unfold Free Infl
  iintro ⟨⟨%f, Hd⟩, Hk, Hs⟩ Hc
  ihave Hk := (pointsTo_split_subset (Finset.subset_univ (src km g).view.set)).1 $$ Hk
  icases Hk with ⟨Hk, Hr⟩
  iapply (wp_dmaLocal (EC (F := F)) 𝒱₀ (c : Thread nD τ) none () (NC (dst bm s p)) rfl (NC_pos _) (Finset.Subset.refl _)) $$ [Hk Hd Hs]
  · isplitl [Hk]; · iexact Hk
    isplitl [Hd]; · iexact Hd
    iexact Hs
  iintro Hf
  iapply Hc
  isplitl [Hf]
  · iapply (Flight_mono (EC (F := F)) (c : Thread nD τ) ?_) $$ Hf
    iintro ⟨Hd, Hk⟩
    isplitl [Hd]
    · unfold Held
      iexists _
      isplitl [Hd]; · iexact Hd
      ipureintro
      rw [View.read_write_univ]
    iexact Hk
  iexact Hr

/-- A wait on any cell of the ring is allowed under what is owed. -/
def MayLocal (A : DmaSems sig S4x8x2) (c : Dev nD) (O : CellTallies nD τ sig Unit) : sProp (MT nD τ sig Unit (Elt F) ℕ UU ℕ) :=
  iprop(∀ x : Fin 4 × Fin 8 × Fin 2, MayWait (c : Thread nD τ) (.dma (cell A x.1 x.2.1 x.2.2)) () O)

instance MayLocal_persistent (A : DmaSems sig S4x8x2) (c : Dev nD) (O : CellTallies nD τ sig Unit) : BI.Persistent (MayLocal (F := F) A c O) := by
  unfold MayLocal; infer_instance

theorem MayLocal_at (A : DmaSems sig S4x8x2) (c : Dev nD) (O : CellTallies nD τ sig Unit) (x : Fin 4 × Fin 8 × Fin 2) :
    (MayLocal A c O : sProp (MT nD τ sig Unit (Elt F) ℕ UU ℕ)) ⊢ MayWait (c : Thread nD τ) (.dma (cell A x.1 x.2.1 x.2.2)) () O := by
  unfold MayLocal; exact BI.BIClass.forall_elim x

theorem MayLocal_of (A : DmaSems sig S4x8x2) (c : Dev nD) (O : CellTallies nD τ sig Unit) {P : sProp (MT nD τ sig Unit (Elt F) ℕ UU ℕ)}
    (h : ∀ x : Fin 4 × Fin 8 × Fin 2, P ⊢ MayWait (c : Thread nD τ) (.dma (cell A x.1 x.2.1 x.2.2)) () O) : P ⊢ MayLocal A c O := by
  unfold MayLocal; exact BI.BIClass.forall_intro h

/-- Waiting for the copy of a cell in flight. -/
theorem wp_await (c : Dev nD) {bm : Ring5} {km : Pool4} {k : Fin 2} {q : PosShare TreeShare} {fs : Buf (Elt F) (km.view.loc (c : Thread nD τ))}
    {s : Fin 4} {p : Fin 8} {g : Fin 256}
    {o5 : Fin 5 → ℕ} {h5} (e5 : o5 = ![s.val, p.val, 0, 0, 0]) {o3 : Fin 3 → ℕ} {h3} (e3 : o3 = ![s.val, p.val, k.val])
    {srcw : Memref sig .tc .hbm S32x16x128 .f32}
    {hsrc : srcw.view.WordExact} {hdst : (dstM bm o5 h5).view.WordExact}
    {O : CellTallies nD τ sig Unit} {W : Waits sig Unit}
    {K : PUnit → Prog (TpuEff nD τ sig (Elt F) Λ .tc) α} :
    iprop(Infl A c bm km k q fs s p g ∗ owes (c : Thread nD τ) O W ∗ MayLocal A c O)
      ⊢ iprop((iprop(Done A c bm km k q fs s p g ∗ owes (c : Thread nD τ) O (insert (SemLoc.dma (cell A s p k), ()) W))
          -∗ wp frame (wpE defs 𝒱₀ (c : Thread nD τ) none) Set.univ (K ⟨⟩) Q)
        -∗ wp frame (wpE defs 𝒱₀ (c : Thread nD τ) none) Set.univ
            (.op (.waitDma2 (cellM A o3 h3) srcw (dstM bm o5 h5) hsrc hdst) K) Q) := by
  subst e5 e3
  unfold Infl Done
  iintro ⟨⟨Hf, Hr⟩, Ho, Hm⟩ Hc
  ihave Hm := (MayLocal_at A c O (s, p, k)) $$ Hm
  iapply (wp_waitLocalO (EC (F := F)) 𝒱₀ (c : Thread nD τ) none () rfl) $$ [Hf Ho Hm]
  · isplitl [Hf]; · iexact Hf
    isplitl [Ho]; · iexact Ho
    iexact Hm
  iintro ⟨⟨Hd, Hk⟩, Hs, Ho⟩
  iapply Hc
  isplitr [Ho]
  · isplitl [Hd]; · iexact Hd
    isplitr [Hs]
    · iapply (pointsTo_split_subset (Finset.subset_univ (src km g).view.set)).2
      isplitl [Hk]; · iexact Hk
      iexact Hr
    iexact Hs
  iexact Ho

end Cert.KProof

end
-- ==== Proof.Rules.lean ====
/-
  The single steps a body takes on its tables, its query block, its sums and its ring slots, each by the values the
  memref reads: `owns c m q X` is a memref held at share `q` that reads `X`.
-/
module

public import proofs.«01_k».proof.Proof.Cells
public import Idealize.ShloMosaic.Lib.VecWindow
public import Idealize.ShloMosaic.Lib.Pointwise.Index
public import Idealize.ShloMosaic.Lib.ValueLayout

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable {Λ : Labels} {defs : Defs nD τ sig (Elt F) Λ} {α : Type} {Q : α → sProp (MT nD τ sig Unit (Elt F) ℕ UU ℕ)}

/-- One word of a table. -/
theorem wp_word (c : Dev nD) {s : Shape} {m : Memref sig .tc .smem s .i32} {q : PosShare TreeShare} {X : s.Idx → Elt F .i32}
    {o size : Fin s.rank → ℕ} {h : ∀ a, o a + size a ≤ s.size a} {hn : (Rect.unit (s := s) o size h).shape.numel = 1} {hp}
    (x : s.Idx) (hx : ∀ a, o a = (x a).val) (h1 : ∀ a, size a = 1)
    {K : Elt F .i32 → Prog (TpuEff nD τ sig (Elt F) Λ .tc) α} :
    (owns (c : Thread nD τ) m q X : sProp (MT nD τ sig Unit (Elt F) ℕ UU ℕ))
      ⊢ iprop((owns (c : Thread nD τ) m q X -∗ wp frame (wpE defs 𝒱₀ (c : Thread nD τ) none) Set.univ (K (X x)) Q)
        -∗ wp frame (wpE defs 𝒱₀ (c : Thread nD τ) none) Set.univ (smemLoad m (Rect.unit (s := s) o size h) hn hp >>= K) Q) := by
  unfold owns smemLoad smemLoadElt
  iintro ⟨%f, %hf, H⟩ Hc
  simp only [Prog.bind_op, Prog.bind_ret]
  have hS : (m.access (Rect.unit (s := s) o size h)).set ⊆ m.view.set := View.set_slice_subset _ _
  iapply (wp_load_rect (Γ := .empty) (Q := Q) (defs := defs) (k := fun f => K (f (Shape.Idx.first (hn.symm ▸ Nat.one_pos))))
    (f := f) (q := q) 𝒱₀ (c : Thread nD τ) none Set.univ hS) $$ H
  iintro H
  have e : (m.access (Rect.unit (s := s) o size h)).read (Elt F) f (Shape.Idx.first (hn.symm ▸ Nat.one_pos)) = X x := by
    rw [← hf]
    show m.view.read (Elt F) f ((Rect.unit (s := s) o size h).emb _) = _
    congr 1
    funext a
    apply Fin.ext
    have e1 : ((Rect.unit (s := s) o size h).emb (Shape.Idx.first (hn.symm ▸ Nat.one_pos)) a).val
      = o a + 1 * ((Shape.Idx.first (s := (Rect.unit (s := s) o size h).shape) (hn.symm ▸ Nat.one_pos)) a).val := rfl
    have e2 := ((Shape.Idx.first (s := (Rect.unit (s := s) o size h).shape) (hn.symm ▸ Nat.one_pos)) a).isLt
    have e3 : (Rect.unit (s := s) o size h).shape.size a = 1 := h1 a
    have e4 := lt_of_lt_of_eq e2 e3
    rw [e1, hx a]; omega
  rw [e]
  iapply Hc
  iexists f
  isplitr; · ipureintro; exact hf
  iexact H

/-- A window of a memref, loaded. -/
theorem wp_window (c : Dev nD) {cs : CoreSpace} {s : Shape} {m : Memref sig .tc cs s .f32} {q : PosShare TreeShare} {X : s.Idx → Elt F .f32}
    {o size : Fin s.rank → ℕ} {h : ∀ a, o a + size a ≤ s.size a} {hl}
    {K : ((Rect.unit (s := s) o size h).shape.Idx → Elt F .f32) → Prog (TpuEff nD τ sig (Elt F) Λ .tc) α} :
    (owns (c : Thread nD τ) m q X : sProp (MT nD τ sig Unit (Elt F) ℕ UU ℕ))
      ⊢ iprop((owns (c : Thread nD τ) m q X -∗ wp frame (wpE defs 𝒱₀ (c : Thread nD τ) none) Set.univ (K (VecWindow.window X o size h)) Q)
        -∗ wp frame (wpE defs 𝒱₀ (c : Thread nD τ) none) Set.univ (.op (.load m (Rect.unit (s := s) o size h).toLoadRect hl) K) Q) := by
  unfold owns
  iintro ⟨%f, %hf, H⟩ Hc
  have hS : (m.access (Rect.unit (s := s) o size h)).set ⊆ m.view.set := View.set_slice_subset _ _
  iapply (wp_load_rect (Γ := .empty) (Q := Q) (defs := defs) (k := K) (hl := hl) (f := f) (q := q) 𝒱₀ (c : Thread nD τ) none Set.univ hS) $$ H
  iintro H
  have e : (m.access (Rect.unit (s := s) o size h)).read (Elt F) f = VecWindow.window X o size h := by
    rw [← hf]; rfl
  rw [e]
  iapply Hc
  iexists f
  isplitr; · ipureintro; exact hf
  iexact H

/-- A window of a memref, stored. -/
theorem wp_put (c : Dev nD) {cs : CoreSpace} {s : Shape} {m : Memref sig .tc cs s .f32} {X : s.Idx → Elt F .f32}
    {o size : Fin s.rank → ℕ} {h : ∀ a, o a + size a ≤ s.size a} {w : (Rect.unit (s := s) o size h).shape.Idx → Elt F .f32} {hx hm}
    {K : PUnit → Prog (TpuEff nD τ sig (Elt F) Λ .tc) α} :
    (owns (c : Thread nD τ) m fullShare X : sProp (MT nD τ sig Unit (Elt F) ℕ UU ℕ))
      ⊢ iprop((owns (c : Thread nD τ) m fullShare (VecWindow.put X o size w) -∗ wp frame (wpE defs 𝒱₀ (c : Thread nD τ) none) Set.univ (K ⟨⟩) Q)
        -∗ wp frame (wpE defs 𝒱₀ (c : Thread nD τ) none) Set.univ (.op (.store m (Rect.unit (s := s) o size h) w Finset.univ hx hm) K) Q) := by
  unfold owns
  iintro ⟨%f, %hf, H⟩ Hc
  have hS : (m.access (Rect.unit (s := s) o size h)).setOn Finset.univ ⊆ m.view.set := View.set_slice_subset _ _
  iapply (wp_store (Γ := .empty) (Q := Q) (defs := defs) (k := K) (hx := hx) (hm := hm) (f := f) 𝒱₀ (c : Thread nD τ) none Set.univ hS) $$ H
  iintro H
  iapply Hc
  iexists _
  isplitr
  rotate_left
  · iexact H
  ipureintro
  have e := View.read_writes_cons_put (Val := Elt F) m.view f (off' := o) h w [] rfl
  rw [View.writes_cons, View.writes_nil, hf] at e
  exact e

/-! ## A slot of the ring -/

theorem fin8 (Φ : Fin 8 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem slot_inb (s : Fin 4) : ∀ a, (![s.val, 0, 0, 0, 0] : Fin 5 → ℕ) a + S1x8x32x16x128.size a ≤ S4x8x32x16x128.size a := by
  revert s; decide

/-- The entry of a page with the given coordinates. -/
abbrev Pt3 (a : Fin 32) (b : Fin 16) (e : Fin 128) : S32x16x128.Idx := ix3 a b e

/-- What a slot holds: page by page. -/
def slotVal (w : Fin 8 → S32x16x128.Idx → Elt F .f32) : S1x8x32x16x128.Idx → Elt F .f32 :=
  fun x => w (x 1) (Pt3 (x 2) (x 3) (x 4))

/-- The part of the buffer under one page of a slot. -/
abbrev pieceR (s : Fin 4) (p : Fin 8) : Rect S4x8x32x16x128 :=
  Rect.unit (s := S4x8x32x16x128) ![s.val, p.val, 0, 0, 0] S1x1x32x16x128.size (o5_inb s p)

abbrev slotR (s : Fin 4) : Rect S4x8x32x16x128 :=
  Rect.unit (s := S4x8x32x16x128) ![s.val, 0, 0, 0, 0] S1x8x32x16x128.size (slot_inb s)

theorem dst_set (bm : Ring5) (s : Fin 4) (p : Fin 8) : (dst bm s p).view.set = bm.view.setOn (pieceR s p).set := by
  show ((bm.view.slice (pieceR s p)).reshape S32x16x128 _).set = _
  rw [View.set_reshape, View.set_slice]; rfl

theorem piece_disj (s : Fin 4) {p p' : Fin 8} (h : p ≠ p') : Disjoint (pieceR s p).set (pieceR s p').set := by
  rw [Finset.disjoint_left]
  intro i h1 h2
  rw [Rect.mem_set_unit] at h1 h2
  have a1 := h1 1
  have a2 := h2 1
  simp [S1x1x32x16x128] at a1 a2
  exact h (Fin.ext (by omega))

theorem slot_union (s : Fin 4) : (slotR s).set = Finset.univ.biUnion fun p => (pieceR s p).set := by
  ext i
  simp only [Finset.mem_biUnion, Finset.mem_univ, true_and, Rect.mem_set_unit]
  constructor
  · intro h
    refine ⟨i 1, fun a => ?_⟩
    have := h a
    fin_cases a <;> simp [S1x1x32x16x128, S1x8x32x16x128] at this ⊢ <;> omega
  · rintro ⟨p, h⟩ a
    have := h a
    have hp := p.isLt
    fin_cases a <;> simp [S1x1x32x16x128, S1x8x32x16x128] at this ⊢ <;> omega

/-- A whole slot of eight landed pages, loaded. -/
theorem wp_slot (c : Dev nD) {bm : Ring5} {s : Fin 4} {w : Fin 8 → S32x16x128.Idx → Elt F .f32}
    {o : Fin 5 → ℕ} {h} (e : o = ![s.val, 0, 0, 0, 0]) {hl}
    {K : ((Rect.unit (s := S4x8x32x16x128) o S1x8x32x16x128.size h).shape.Idx → Elt F .f32) → Prog (TpuEff nD τ sig (Elt F) Λ .tc) α} :
    (bigSep Finset.univ (fun p : Fin 8 => Held (F := F) c (dst bm s p) (w p)) : sProp (MT nD τ sig Unit (Elt F) ℕ UU ℕ))
      ⊢ iprop((bigSep Finset.univ (fun p : Fin 8 => Held (F := F) c (dst bm s p) (w p))
          -∗ wp frame (wpE defs 𝒱₀ (c : Thread nD τ) none) Set.univ (K (slotVal w)) Q)
        -∗ wp frame (wpE defs 𝒱₀ (c : Thread nD τ) none) Set.univ
          (.op (.load bm (Rect.unit (s := S4x8x32x16x128) o S1x8x32x16x128.size h).toLoadRect hl) K) Q) := by
  subst e
  iintro H Hc
  haveI : ∀ p : Fin 8, Nonempty {f : Buf (Elt F) (bm.view.loc (c : Thread nD τ)) // (dst bm s p).view.read (Elt F) f = w p} :=
    fun p => ⟨⟨(dst bm s p).view.rep (w p), View.read_rep _ _⟩⟩
  have hm : (bigSep Finset.univ (fun p : Fin 8 => Held (F := F) c (dst bm s p) (w p)) : sProp (MT nD τ sig Unit (Elt F) ℕ UU ℕ))
      ⊢ bigSep Finset.univ fun p : Fin 8 => iprop(∃ f : {f : Buf (Elt F) (bm.view.loc (c : Thread nD τ)) // (dst bm s p).view.read (Elt F) f = w p},
          (bm.view.loc (c : Thread nD τ) ↦[(dst bm s p).view.set]{fullShare} f.1)) := by
    refine bigSep_mono fun p _ => ?_
    show (iprop(∃ f, ((dst bm s p).view.loc (c : Thread nD τ) ↦[(dst bm s p).view.set]{fullShare} f) ∗ ⌜(dst bm s p).view.read (Elt F) f = w p⌝) : sProp (MT nD τ sig Unit (Elt F) ℕ UU ℕ)) ⊢ _
    iintro ⟨%f, H, %hf⟩
    iexists ⟨f, hf⟩
    iexact H
  ihave H := hm $$ H
  ihave H := (bigSep_exists_pi Finset.univ (fun (p : Fin 8) (f : {f : Buf (Elt F) (bm.view.loc (c : Thread nD τ)) // (dst bm s p).view.read (Elt F) f = w p}) =>
    (bm.view.loc (c : Thread nD τ) ↦[(dst bm s p).view.set]{fullShare} f.1 : sProp (MT nD τ sig Unit (Elt F) ℕ UU ℕ)))) $$ H
  icases H with ⟨%fs, H⟩
  have hdis : ∀ p ∈ (Finset.univ : Finset (Fin 8)), ∀ p' ∈ (Finset.univ : Finset (Fin 8)), p ≠ p' →
      Disjoint (dst bm s p).view.set (dst bm s p').view.set := by
    intro p _ p' _ hpp
    rw [dst_set, dst_set]
    exact (Finset.disjoint_map _).2 (piece_disj s hpp)
  have hset : (Finset.univ : Finset (Fin 8)).biUnion (fun p => (dst bm s p).view.set) = (bm.access (slotR s)).set := by
    show _ = (bm.view.slice (slotR s)).set
    rw [View.set_slice, slot_union]
    rw [show (fun p => (dst bm s p).view.set) = fun p => bm.view.setOn (pieceR s p).set from funext (dst_set bm s)]
    ext i
    constructor
    · intro h
      obtain ⟨p, _, h⟩ := Finset.mem_biUnion.1 h
      obtain ⟨x, hx, e⟩ := Finset.mem_map.1 h
      exact Finset.mem_map.2 ⟨x, Finset.mem_biUnion.2 ⟨p, Finset.mem_univ p, hx⟩, e⟩
    · intro h
      obtain ⟨x, hx, e⟩ := Finset.mem_map.1 h
      obtain ⟨p, _, hx⟩ := Finset.mem_biUnion.1 hx
      exact Finset.mem_biUnion.2 ⟨p, Finset.mem_univ p, Finset.mem_map.2 ⟨x, hx, e⟩⟩
  ihave H := (pointsTo_biUnion_join Finset.univ (fun p => (dst bm s p).view.set) (fun p => (fs p).1) (fs 0).1 hdis) $$ H
  icases H with ⟨%g, %hg, H⟩
  have hread : ∀ p, (dst bm s p).view.read (Elt F) g = w p := fun p => by
    rw [← (fs p).2]
    refine View.read_congr ?_
    intro i hi
    exact hg p (Finset.mem_univ p) i hi
  iapply (wp_load_rect (Γ := .empty) (Q := Q) (defs := defs) (k := K) (hl := hl) (f := g) (q := fullShare) 𝒱₀ (c : Thread nD τ) none Set.univ hset.ge) $$ H
  iintro H
  have e : (bm.access (slotR s)).read (Elt F) g = slotVal w := by
    funext x
    show _ = w (x 1) (Pt3 (x 2) (x 3) (x 4))
    rw [← hread (x 1)]
    show bm.view.read (Elt F) g ((slotR s).emb x)
      = bm.view.read (Elt F) g ((pieceR s (x 1)).emb (Shape.reshapeEquiv (s := S1x1x32x16x128) (s' := S32x16x128) (by decide) (ix3 (x 2) (x 3) (x 4))))
    refine congrArg _ (funext fun a => Fin.ext ?_)
    rw [show (Shape.reshapeEquiv (s := S1x1x32x16x128) (s' := S32x16x128) (by decide) (ix3 (x 2) (x 3) (x 4)) : S1x1x32x16x128.Idx)
      = ix5 (⟨0, Nat.one_pos⟩ : Fin 1) (⟨0, Nat.one_pos⟩ : Fin 1) (x 2) (x 3) (x 4) from ValueIdx.reshapeEquiv_ix3_11abc _ _ _ _]
    have h0 : (x 0).val < 1 := (x 0).isLt
    fin_cases a
    · show s.val + 1 * (x 0).val = s.val + 1 * 0; omega
    · show 0 + 1 * (x 1).val = (x 1).val + 1 * 0; omega
    · rfl
    · rfl
    · rfl
  rw [e]
  iapply Hc
  have hm : (bigSep Finset.univ (fun p : Fin 8 => (bm.view.loc (c : Thread nD τ) ↦[(dst bm s p).view.set]{fullShare} g)) : sProp (MT nD τ sig Unit (Elt F) ℕ UU ℕ))
      ⊢ bigSep Finset.univ fun p : Fin 8 => Held (F := F) c (dst bm s p) (w p) := by
    refine bigSep_mono fun p _ => ?_
    show _ ⊢ (iprop(∃ f, ((dst bm s p).view.loc (c : Thread nD τ) ↦[(dst bm s p).view.set]{fullShare} f) ∗ ⌜(dst bm s p).view.read (Elt F) f = w p⌝) : sProp (MT nD τ sig Unit (Elt F) ℕ UU ℕ))
    iintro H
    iexists g
    isplitl [H]; · iexact H
    ipureintro; exact hread p
  iapply hm
  rw [← pointsTo_biUnion _ _ hdis]
  iexact H

end Cert.KProof

end
-- ==== Proof.Sched.lean ====
/-
  What the devices owe one another: each device's semaphores of the exchange, who pays into them, and what comes with
  each payment.
-/
module

public import proofs.«01_k».proof.Proof.Rules

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The partners -/

/-- The partner of device `c` in round `i`: one bit of its number changed. -/
def pr (i : Fin 4) (c : Dev nD) : Dev nD := ⟨c.val ^^^ (![4, 8, 1, 2] : Fin 4 → ℕ) i, by revert c i; decide⟩

theorem pr_pr (i : Fin 4) (c : Dev nD) : pr i (pr i c) = c := by revert c i; decide +kernel

def prE (i : Fin 4) : Dev nD ≃ Dev nD := ⟨pr i, pr i, pr_pr i, pr_pr i⟩

/-! ## The memrefs of the exchange -/

abbrev mA : Memref sig .tc .vmem S32x16x128 .f32 := Memref.whole cc0_scratch0
abbrev mL : Memref sig .tc .vmem S32x16 .f32 := Memref.whole cc0_scratch1
abbrev rA : Memref sig .tc .vmem S4x32x16x128 .f32 := Memref.whole cc0_scratch2
abbrev rL : Memref sig .tc .vmem S4x32x16 .f32 := Memref.whole cc0_scratch3

theorem inA (i : Fin 4) : ∀ a, (![i.val, 0, 0, 0] : Fin 4 → ℕ) a + S1x32x16x128.size a ≤ S4x32x16x128.size a := by revert i; decide
theorem inL (i : Fin 4) : ∀ a, (![i.val, 0, 0] : Fin 3 → ℕ) a + S1x32x16.size a ≤ S4x32x16.size a := by revert i; decide
theorem inS (i : Fin 4) (k : Fin 2) : ∀ a, (![i.val, k.val] : Fin 2 → ℕ) a + S1x1.size a ≤ S4x2.size a := by revert i k; decide

/-- The place where round `i`'s sums arrive. -/
abbrev lA (i : Fin 4) : Memref sig .tc .vmem S32x16x128 .f32 :=
  (rA.slice (Rect.unit (s := S4x32x16x128) ![i.val, 0, 0, 0] S1x32x16x128.size (inA i)) (fun _ => rfl)).squeeze S32x16x128
    squeezes_S1x32x16x128_S32x16x128
/-- The place where round `i`'s weights arrive. -/
abbrev lL (i : Fin 4) : Memref sig .tc .vmem S32x16 .f32 :=
  (rL.slice (Rect.unit (s := S4x32x16) ![i.val, 0, 0] S1x32x16.size (inL i)) (fun _ => rfl)).squeeze S32x16
    squeezes_S1x32x16_S32x16

abbrev cellS (A : DmaSems sig S4x2) (i : Fin 4) (k : Fin 2) : DmaSem sig :=
  ((A.slice (Rect.unit (s := S4x2) ![i.val, k.val] S1x1.size (inS i k))).squeeze S_ squeezes_S1x1_S_).sem

/-! ## The cells -/

/-- The entry (`false`) and exit (`true`) barrier; the cell told when a copy has left (`false`) or arrived (`true`). -/
abbrev Knd : Type := Bool ⊕ (Bool × Fin 4 × Fin 2)

abbrev barS : Sem sig := (SemArray.scalar (sig.barrier 0 rfl) : Sems sig S_).sem
abbrev extS : Sem sig := (cc0_scoped0 : Sems sig S_).sem

def semOf : Knd → SemLoc sig
  | .inl false => .reg barS
  | .inl true => .reg extS
  | .inr (false, i, k) => .dma (cellS cc0_scratch7 i k)
  | .inr (true, i, k) => .dma (cellS cc0_scratch8 i k)

theorem semOf_inj : Function.Injective semOf := by
  have h : ∀ a b : Knd, semOf a = semOf b → a = b := by decide +kernel
  exact fun a b => h a b

def kindOf (sm : SemLoc sig) : Option Knd := by
  classical exact if h : ∃ a, semOf a = sm then some h.choose else none

theorem kindOf_sem (a : Knd) : kindOf (semOf a) = some a := by
  unfold kindOf
  rw [dif_pos ⟨a, rfl⟩]
  exact congrArg some (semOf_inj (Exists.choose_spec (⟨a, rfl⟩ : ∃ b, semOf b = semOf a)))

abbrev cellK (c : Dev nD) (a : Knd) : GSem nD τ sig := ((c : Thread nD τ), semOf a)

/-! ## The running sums -/

section Sums
variable (A0 : Dev nD → S32x16x128.Idx → Elt F .f32) (L0 : Dev nD → S32x16.Idx → Elt F .f32)

def upA (X : S32x16x128.Idx → Elt F .f32) : S1x32x16x128.Idx → Elt F .f32 := fun x => X (ix3 (x 1) (x 2) (x 3))
def upL (X : S32x16.Idx → Elt F .f32) : S1x32x16.Idx → Elt F .f32 := fun x => X (ix2 (x 1) (x 2))

/-- A device's weighted sums before round `i`. -/
def accN : ℕ → Dev nD → S32x16x128.Idx → Elt F .f32
  | 0 => A0
  | i + 1 => fun c => k0_pay15 (accN i c) (upA (accN i (pr (Fin.ofNat 4 i) c)))
/-- A device's sums of weights before round `i`. -/
def lseN : ℕ → Dev nD → S32x16.Idx → Elt F .f32
  | 0 => L0
  | i + 1 => fun c => k0_pay16 (lseN i c) (upL (lseN i (pr (Fin.ofNat 4 i) c)))

/-! ## The schedule -/

/-- The credit of one copy. -/
def NN (k : Fin 2) : ℕ := if k = 0 then mA.view.dmaCredit else mL.view.dmaCredit

def barPay (c : Dev nD) (d : Fin 4) : sProp 𝕄 :=
  iprop((∃ X : S32x16x128.Idx → Elt F .f32, owns (pr d c : Thread nD τ) (lA d) fullShare X)
    ∗ (∃ X : S32x16.Idx → Elt F .f32, owns (pr d c : Thread nD τ) (lL d) fullShare X)
    ∗ reached ER (cellK (pr d c) (.inr (true, d, 0))) 0 ∗ reached ER (cellK (pr d c) (.inr (true, d, 1))) 0
    ∗ reached ER (cellK (pr d c) (.inl true)) 0)

def sndPay (c : Dev nD) (i : Fin 4) (k : Fin 2) : sProp 𝕄 :=
  if k = 0 then owns (c : Thread nD τ) mA fullShare (accN A0 i.val c) else owns (c : Thread nD τ) mL fullShare (lseN L0 i.val c)

def rcvPay (c : Dev nD) (i : Fin 4) (k : Fin 2) : sProp 𝕄 :=
  if k = 0 then owns (c : Thread nD τ) (lA i) fullShare (accN A0 i.val (pr i c))
  else owns (c : Thread nD τ) (lL i) fullShare (lseN L0 i.val (pr i c))

def payOf (c : Dev nD) (d : Fin 4) : Option Knd → sProp 𝕄
  | some (.inl false) => barPay c d
  | some (.inr (false, i, k)) => sndPay A0 L0 c i k
  | some (.inr (true, i, k)) => rcvPay A0 L0 c i k
  | _ => iprop(emp)

def dutyOf : Option Knd → Finset (Fin 4)
  | some (.inl _) => Finset.univ
  | some (.inr _) => {0}
  | none => ∅

def amtOf : Option Knd → ℕ
  | some (.inr (_, _, k)) => NN k
  | _ => 1

theorem NN_pos (k : Fin 2) : 0 < NN k := by
  unfold NN; split
  · show 0 < (mA.view).dmaCredit
    decide +kernel
  · show 0 < (mL.view).dmaCredit
    decide +kernel

theorem amtOf_pos (a : Option Knd) : 0 < amtOf a := by
  unfold amtOf; split
  · exact NN_pos _
  · exact Nat.one_pos

instance owns_storable {sp : Space} {s : Shape} {e : EltTy} (c : Thread nD τ) (m : Memref sig c.2.kind sp s e) (q : PosShare TreeShare) (X : s.Idx → Elt F e) :
    BI.Storable (upEmb : UEmb _ 𝕄) (owns c m q X : sProp 𝕄) := by
  unfold owns; infer_instance

instance barPay_storable (c : Dev nD) (d : Fin 4) : BI.Storable (upEmb : UEmb _ 𝕄) (barPay c d : sProp 𝕄) := by
  unfold barPay
  haveI : ∀ X : S32x16x128.Idx → Elt F .f32, BI.Storable (upEmb : UEmb _ 𝕄) (owns (pr d c : Thread nD τ) (lA d) fullShare X : sProp 𝕄) := fun X => owns_storable _ _ _ _
  haveI : ∀ X : S32x16.Idx → Elt F .f32, BI.Storable (upEmb : UEmb _ 𝕄) (owns (pr d c : Thread nD τ) (lL d) fullShare X : sProp 𝕄) := fun X => owns_storable _ _ _ _
  infer_instance

/-- One round on each cell. -/
def sched : Rounds.Schedule (GSem nD τ sig) (Fin 4) 𝕄 where
  duties g r := if r = 0 ∧ g.1.2 = .tc then dutyOf (kindOf g.2) else ∅
  amount g _ _ := amtOf (kindOf g.2)
  payload g _ d := payOf A0 L0 g.1.1 d (kindOf g.2)
  amount_pos g r d _ := amtOf_pos _

instance (g : GSem nD τ sig) (r : ℕ) (d : Fin 4) : BI.Storable (upEmb : UEmb _ 𝕄) ((sched A0 L0).payload g r d) := by
  show BI.Storable _ (payOf A0 L0 g.1.1 d (kindOf g.2))
  unfold payOf sndPay rcvPay
  (repeat' split) <;> first | exact barPay_storable _ _ | exact owns_storable _ _ _ _ | infer_instance

theorem duties_at (c : Dev nD) (a : Knd) : (sched A0 L0).duties (cellK c a) 0 = dutyOf (some a) := by
  show (if 0 = 0 ∧ (cellK c a).1.2 = .tc then dutyOf (kindOf (cellK c a).2) else ∅) = _
  rw [if_pos ⟨rfl, rfl⟩]
  exact congrArg dutyOf (kindOf_sem a)
theorem amount_at (c : Dev nD) (a : Knd) (r : ℕ) (d : Fin 4) : (sched A0 L0).amount (cellK c a) r d = amtOf (some a) :=
  congrArg amtOf (kindOf_sem a)
theorem payload_at (c : Dev nD) (a : Knd) (r : ℕ) (d : Fin 4) : (sched A0 L0).payload (cellK c a) r d = payOf A0 L0 c d (some a) :=
  congrArg (payOf A0 L0 c d) (kindOf_sem a)
theorem duties_later (g : GSem nD τ sig) (r : ℕ) (h : 1 ≤ r) : (sched A0 L0).duties g r = ∅ := by
  show (if r = 0 ∧ g.1.2 = .tc then dutyOf (kindOf g.2) else ∅) = _
  rw [if_neg (fun e => absurd e.1 (by omega))]

theorem expect_two (c : Dev nD) (a : Bool) : (sched A0 L0).expect (cellK c (.inl a)) 0 = 4 := by
  unfold Rounds.Schedule.expect Rounds.Schedule.amountOf
  rw [duties_at, Finset.sum_congr rfl (fun d _ => amount_at A0 L0 c (.inl a) 0 d)]
  rfl
theorem expect_copy (c : Dev nD) (b : Bool) (i : Fin 4) (k : Fin 2) : (sched A0 L0).expect (cellK c (.inr (b, i, k))) 0 = NN k := by
  unfold Rounds.Schedule.expect Rounds.Schedule.amountOf
  rw [duties_at]
  show Finset.sum {(0 : Fin 4)} _ = _
  rw [Finset.sum_singleton, amount_at]
  rfl

theorem rest_copy (c : Dev nD) (b : Bool) (i : Fin 4) (k : Fin 2) :
    (bigSep ((sched A0 L0).duties (cellK c (.inr (b, i, k))) 0 \ ∅) fun d => (sched A0 L0).payload (cellK c (.inr (b, i, k))) 0 d : sProp 𝕄)
      = payOf A0 L0 c 0 (some (.inr (b, i, k))) := by
  rw [Finset.sdiff_empty, duties_at]
  show bigSep {(0 : Fin 4)} _ = _
  rw [bigSep_singleton, payload_at]
theorem rest_bar (c : Dev nD) :
    (bigSep ((sched A0 L0).duties (cellK c (.inl false)) 0 \ ∅) fun d => (sched A0 L0).payload (cellK c (.inl false)) 0 d : sProp 𝕄)
      = bigSep Finset.univ fun d => barPay c d := by
  rw [Finset.sdiff_empty, duties_at]
  show bigSep (Finset.univ : Finset (Fin 4)) _ = _
  exact congrArg _ (funext fun d => payload_at A0 L0 c (.inl false) 0 d)

end Sums

/-! ## What is owed, in the order it is paid -/

/-- The target of payment `n`: the round whose partner it goes to, and the cell. -/
def payK (n : ℕ) : Fin 4 × Knd :=
  if n < 4 then (Fin.ofNat 4 n, .inl false)
  else if n < 12 then (Fin.ofNat 4 ((n - 4) / 2), .inr (true, Fin.ofNat 4 ((n - 4) / 2), Fin.ofNat 2 n))
  else (Fin.ofNat 4 n, .inl true)

def due (c : Dev nD) (n : ℕ) : CellTallies nD τ sig Unit :=
  tallyAt (cellK (pr (payK n).1 c) (payK n).2) () (amtOf (some (payK n).2))

/-- The last `m` of the sixteen payments. -/
def left (c : Dev nD) : ℕ → CellTallies nD τ sig Unit
  | 0 => 0
  | m + 1 => left c m + due c (15 - m)

def L (g : GSem nD τ sig) : Finset Unit := if g.1.2 = .tc then {()} else ∅

def lvK : Option Knd → ℕ
  | some (.inl false) => 1
  | some (.inl true) => 10
  | some (.inr (true, i, _)) => 2 + i.val
  | _ => 0

def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- A cell still owed is a later payment's. -/
theorem left_pos (c : Dev nD) (m : ℕ) (g : GSem nD τ sig) (u : Unit) (h : 0 < left c m g u) :
    ∃ n, n < m ∧ g = cellK (pr (payK (15 - n)).1 c) (payK (15 - n)).2 := by
  induction m with
  | zero => exact absurd h (Nat.lt_irrefl 0)
  | succ m ih =>
    have e : left c (m + 1) g u = left c m g u + due c (15 - m) g u := rfl
    rw [e] at h
    by_cases h1 : 0 < left c m g u
    · obtain ⟨n, hn, hg⟩ := ih h1
      exact ⟨n, by omega, hg⟩
    · have h2 : 0 < due c (15 - m) g u := by omega
      unfold due at h2
      rw [tallyAt_apply] at h2
      by_cases h3 : g = cellK (pr (payK (15 - m)).1 c) (payK (15 - m)).2 ∧ u = ()
      · exact ⟨m, by omega, h3.1⟩
      · rw [if_neg h3] at h2; exact absurd h2 (Nat.lt_irrefl 0)

/-- The level of a wait with `m` payments outstanding is below what is owed. -/
theorem mayWait_left (c : Dev nD) (sm : SemLoc sig) (m b : ℕ) (hb : lvK (kindOf sm) ≤ b)
    (hm : ∀ n, n < m → b < lvK (some (payK (15 - n)).2)) :
    (levAts L lv : sProp 𝕄) ⊢ MayWait (c : Thread nD τ) sm () (left c m) :=
  MayOwe.of_cut (L := L) (lev := lv) b (fun p hp => by rw [Finset.mem_singleton.mp hp, L_tc]; exact Finset.mem_singleton_self _)
    (fun g u hg => by
      obtain ⟨n, hn, e⟩ := left_pos c m g u hg
      rw [e, L_tc]; exact Finset.mem_singleton_self _)
    (fun p hp => by rw [Finset.mem_singleton.mp hp]; exact hb)
    (fun g u hg => by
      obtain ⟨n, hn, e⟩ := left_pos c m g u hg
      rw [e]
      show b < lvK (kindOf (semOf _))
      rw [kindOf_sem]; exact hm n hn)

end Cert.KProof
-- ==== Proof.Steps.lean ====
/-
  The steps of the exchange: a signal to a partner, the two barriers' waits, a copy sent, its departure and its arrival
  awaited, and one whole round made of them.
-/
module

public import proofs.«01_k».proof.Proof.Sched

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {α : Type} {Λ : Labels} {defs : Defs nD τ sig (Elt F) Λ}
variable (A0 : Dev nD → S32x16x128.Idx → Elt F .f32) (L0 : Dev nD → S32x16.Idx → Elt F .f32) (K : GSem nD τ sig → ℕ)

/-- Every cell runs the schedule. -/
def Invs : sProp 𝕄 :=
  bigSep Finset.univ fun p : Dev nD × Knd => cellInv ER (sched A0 L0) (K (cellK p.1 p.2)) (cellK p.1 p.2)

instance Invs_persistent : BI.Persistent (Invs A0 L0 K : sProp 𝕄) := by unfold Invs; infer_instance

theorem inv_at (c : Dev nD) (a : Knd) : (Invs A0 L0 K : sProp 𝕄) ⊢ cellInv ER (sched A0 L0) (K (cellK c a)) (cellK c a) := by
  unfold Invs
  exact bigSep_elim (i := (c, a)) (Finset.mem_univ _)

variable {Q : α → sProp (MT nD τ sig Unit (Elt F) ℕ UU ℕ)}

/-- A signal to the partner of round `i`, on either barrier. -/
theorem wp_hail (c : Dev nD) (i : Fin 4) (a : Bool) (sm : Sem sig) (hs : semOf (.inl a) = .reg sm)
    (O : CellTallies nD τ sig Unit) {W : Waits sig Unit}
    {k : PUnit → Prog (TpuEff nD τ sig (Elt F) Λ .tc) α} :
    iprop(Invs A0 L0 K ∗ owes (c : Thread nD τ) (O + tallyAt (cellK (pr i c) (.inl a)) () 1) W
        ∗ dutyTok ER (cellK (pr i c) (.inl a)) 0 i ∗ payOf A0 L0 (pr i c) i (some (.inl a)) ∗ reached ER (cellK (pr i c) (.inl a)) 0)
      ⊢ iprop((owes (c : Thread nD τ) O W -∗ wp frame (wpE defs 𝒱₀ (c : Thread nD τ) none) Set.univ (k ⟨⟩) Q)
        -∗ wp frame (wpE defs 𝒱₀ (c : Thread nD τ) none) Set.univ (.op (.semSignal (pr i c, .tc) sm (1#32).toInt) k) Q) := by
  have hd := duties_at A0 L0 (pr i c) (.inl a)
  have hk := amount_at A0 L0 (pr i c) (.inl a) 0 i
  have hp := payload_at A0 L0 (pr i c) (.inl a) 0 i
  rw [← hp]
  unfold cellK at hd hk ⊢
  rw [hs] at hd hk ⊢
  iintro ⟨#Hi, HO, Ht, Hp, #Hr⟩ Hk
  ihave #Hc := (inv_at A0 L0 K (pr i c) (.inl a)) $$ Hi
  unfold cellK
  rw [hs]
  iapply (Rounds.wp_signal (Γ := .empty) (Q := Q) (defs := defs) 𝒱₀ ER (sched A0 L0) (c : Thread nD τ) none (dst := (pr i c : Thread nD τ)) (sem := sm) (r := 0) (d := i)
    (κ := K ((pr i c : Thread nD τ), .reg sm)) (k := k) (by rw [hd]; exact Finset.mem_univ _) hk () O rfl) $$ [HO Ht Hp]
  · isplitr; · iexact Hc
    isplitl [HO]; · iexact HO
    isplitl [Ht]; · iexact Ht
    isplitl [Hp]; · iexact Hp
    iexact Hr
  iexact Hk

/-- The wait for four on a barrier. -/
theorem wp_gather (c : Dev nD) (a : Bool) (sm : Sem sig) (hs : semOf (.inl a) = .reg sm)
    (O : CellTallies nD τ sig Unit) {W : Waits sig Unit}
    {k : PUnit → Prog (TpuEff nD τ sig (Elt F) Λ .tc) α} :
    iprop(Invs A0 L0 K ∗ cred (tallyAt (cellK c (.inl a)) () 4) ∗ owes (c : Thread nD τ) O W ∗ MayWait (c : Thread nD τ) (.reg sm) () O
        ∗ atPos ER (cellK c (.inl a)) 0 ∅ 0)
      ⊢ iprop(((owes (c : Thread nD τ) O (insert (.reg sm, ()) W) ∗ atPos ER (cellK c (.inl a)) 1 ∅ 0
            ∗ bigSep Finset.univ (fun d => payOf A0 L0 c d (some (.inl a))))
          -∗ wp frame (wpE defs 𝒱₀ (c : Thread nD τ) none) Set.univ (k ⟨⟩) Q)
        -∗ wp frame (wpE defs 𝒱₀ (c : Thread nD τ) none) Set.univ (.op (.semWait sm (4#32).toInt) k) Q) := by
  have he := expect_two A0 L0 c a
  have hd := duties_at A0 L0 c (.inl a)
  have hp : (bigSep ((sched A0 L0).duties (cellK c (.inl a)) 0 \ ∅) fun d => (sched A0 L0).payload (cellK c (.inl a)) 0 d : sProp 𝕄)
      = bigSep Finset.univ fun d => payOf A0 L0 c d (some (.inl a)) := by
    rw [Finset.sdiff_empty, hd]
    show bigSep (Finset.univ : Finset (Fin 4)) _ = _
    exact congrArg _ (funext fun d => payload_at A0 L0 c (.inl a) 0 d)
  unfold cellK at he hp ⊢
  rw [hs] at he hp ⊢
  iintro ⟨#Hi, Hcr, HO, Hm, Hat⟩ Hk
  ihave #Hc := (inv_at A0 L0 K c (.inl a)) $$ Hi
  unfold cellK
  rw [hs]
  iapply (Rounds.wp_wait_rest_token (Γ := .empty) (Q := Q) (defs := defs) 𝒱₀ ER (sched A0 L0) (c : Thread nD τ) none (κ := K ((c : Thread nD τ), .reg sm)) (k := k)
    (wpE_semWait_eq 𝒱₀ (c : Thread nD τ) none Set.univ) (Set.mem_univ _) () (O := O) (W := W) (R := 0) (m := 0) (T := ∅)
    ((Nat.zero_add _).trans he.symm)) $$ [Hcr HO Hm Hat]
  · isplitr; · iexact Hc
    isplitl [Hcr]; · iexact Hcr
    isplitl [HO]; · iexact HO
    isplitl [Hm]; · iexact Hm
    iexact Hat
  iintro ⟨HO, Hat, -, Hp⟩
  ihave Hp := (Entails.of_eq hp) $$ Hp
  iapply Hk
  isplitl [HO]; · iexact HO
  isplitl [Hat]; · iexact Hat
  iexact Hp

/-- A copy of `src` into the place `dst` of the partner: it departs, and the partner's due is paid. -/
theorem wp_part (c : Dev nD) (i : Fin 4) (k : Fin 2) (sS sR : DmaSem sig) (hS : semOf (.inr (false, i, k)) = .dma sS)
    (hR : semOf (.inr (true, i, k)) = .dma sR) {sh : Shape} {src dst : Memref sig .tc .vmem sh .f32} {hsc hsrc hdst hsem}
    {X : sh.Idx → Elt F .f32}
    (hN : dst.view.amount (.dma sR) = NN k)
    (ps : payOf A0 L0 c 0 (some (.inr (false, i, k))) = owns (c : Thread nD τ) src fullShare X)
    (pd : payOf A0 L0 (pr i c) 0 (some (.inr (true, i, k))) = owns (pr i c : Thread nD τ) dst fullShare X)
    (O : CellTallies nD τ sig Unit) {W : Waits sig Unit}
    {kk : PUnit → Prog (TpuEff nD τ sig (Elt F) Λ .tc) α} :
    iprop(Invs A0 L0 K ∗ owns (c : Thread nD τ) src fullShare X ∗ (∃ Y : sh.Idx → Elt F .f32, owns (pr i c : Thread nD τ) dst fullShare Y)
        ∗ owes (c : Thread nD τ) (O + tallyAt (cellK (pr i c) (.inr (true, i, k))) () (NN k)) W
        ∗ dutyTok ER (cellK c (.inr (false, i, k))) 0 0 ∗ reached ER (cellK c (.inr (false, i, k))) 0
        ∗ dutyTok ER (cellK (pr i c) (.inr (true, i, k))) 0 0 ∗ reached ER (cellK (pr i c) (.inr (true, i, k))) 0)
      ⊢ iprop(((cred (tallyAt (cellK c (.inr (false, i, k))) () (NN k)) ∗ owes (c : Thread nD τ) O W)
          -∗ wp frame (wpE defs 𝒱₀ (c : Thread nD τ) none) Set.univ (kk ⟨⟩) Q)
        -∗ wp frame (wpE defs 𝒱₀ (c : Thread nD τ) none) Set.univ
          (.op (.enqueueDma src (.remote (Dev.tc (pr i c)) dst (.dma sS) hsc) (.dma sR) hsrc hdst hsem) kk) Q) := by
  have d1 := duties_at A0 L0 c (.inr (false, i, k))
  have d2 := duties_at A0 L0 (pr i c) (.inr (true, i, k))
  have a1 := amount_at A0 L0 c (.inr (false, i, k)) 0 0
  have a2 := amount_at A0 L0 (pr i c) (.inr (true, i, k)) 0 0
  have p1 := payload_at A0 L0 c (.inr (false, i, k)) 0 0
  have p2 := payload_at A0 L0 (pr i c) (.inr (true, i, k)) 0 0
  rw [ps] at p1
  rw [pd] at p2
  unfold cellK at d1 d2 a1 a2 p1 p2 ⊢
  rw [hS] at d1 a1 p1 ⊢
  rw [hR] at d2 a2 p2 ⊢
  iintro ⟨#Hi, Hs, ⟨%Y, Hd⟩, HO, T1, #R1, T2, #R2⟩ Hk
  ihave #I1 := (inv_at A0 L0 K c (.inr (false, i, k))) $$ Hi
  ihave #I2 := (inv_at A0 L0 K (pr i c) (.inr (true, i, k))) $$ Hi
  unfold cellK
  rw [hS, hR]
  unfold owns
  icases Hs with ⟨%fs, %hfs, Hs⟩
  icases Hd with ⟨%fd, %hfd, Hd⟩
  iapply (Rounds.wp_send_pointsTo (Γ := .empty) (Q := Q) (defs := defs) 𝒱₀ ER (sched A0 L0) (c : Thread nD τ) none (c' := (pr i c : Thread nD τ)) (src := src) (dst := dst)
    (sS := .dma sS) (sem := .dma sR) (q := fullShare) (fs := fs) (fd := fd)
    (κ₁ := K ((c : Thread nD τ), .dma sS)) (κ₂ := K ((pr i c : Thread nD τ), .dma sR)) (r₁ := 0) (r₂ := 0) (d₁ := 0) (d₂ := 0) (k := kk)
    (by rw [d1]; exact Finset.mem_singleton_self _) (by rw [d2]; exact Finset.mem_singleton_self _) () () (NN k) hN a1 a2 O rfl (W := W)
    (by rw [p1]; unfold owns; iintro H; iexists fs; isplitr; · ipureintro; exact hfs
        iexact H)
    (by rw [p2]; unfold owns; iintro H; iexists _; isplitr
        rotate_left
        · iexact H
        ipureintro
        exact (View.read_write_univ _ _).trans hfs)) $$ [Hs Hd HO T1 T2]
  · isplitr; · iexact I1
    isplitr; · iexact I2
    isplitl [Hs]; · iexact Hs
    isplitl [Hd]; · iexact Hd
    isplitl [HO]; · iexact HO
    isplitl [T1]; · iexact T1
    isplitr; · iexact R1
    isplitl [T2]; · iexact T2
    iexact R2
  iexact Hk

/-- The departure or the arrival of a copy, awaited. -/
theorem wp_meet (c : Dev nD) (b : Bool) (i : Fin 4) (k : Fin 2) (sm : DmaSem sig) (hS : semOf (.inr (b, i, k)) = .dma sm)
    {sh sh' : Shape} {m₁ : Memref sig .tc .vmem sh' .f32} {m₂ : Memref sig .tc .vmem sh .f32} {h1 h2} (hN : m₂.view.dmaCredit = NN k)
    (O : CellTallies nD τ sig Unit) {W : Waits sig Unit}
    {kk : PUnit → Prog (TpuEff nD τ sig (Elt F) Λ .tc) α} :
    iprop(Invs A0 L0 K ∗ cred (tallyAt (cellK c (.inr (b, i, k))) () (NN k)) ∗ owes (c : Thread nD τ) O W ∗ MayWait (c : Thread nD τ) (.dma sm) () O
        ∗ atPos ER (cellK c (.inr (b, i, k))) 0 ∅ 0)
      ⊢ iprop(((owes (c : Thread nD τ) O (insert (.dma sm, ()) W) ∗ atPos ER (cellK c (.inr (b, i, k))) 1 ∅ 0
            ∗ payOf A0 L0 c 0 (some (.inr (b, i, k))))
          -∗ wp frame (wpE defs 𝒱₀ (c : Thread nD τ) none) Set.univ (kk ⟨⟩) Q)
        -∗ wp frame (wpE defs 𝒱₀ (c : Thread nD τ) none) Set.univ (.op (.waitDma2 sm m₁ m₂ h1 h2) kk) Q) := by
  have he := expect_copy A0 L0 c b i k
  have hp := rest_copy A0 L0 c b i k
  unfold cellK at he hp ⊢
  rw [hS] at he hp ⊢
  iintro ⟨#Hi, Hcr, HO, Hm, Hat⟩ Hk
  ihave #Hc := (inv_at A0 L0 K c (.inr (b, i, k))) $$ Hi
  unfold cellK
  rw [hS]
  rw [← hN] at he ⊢
  iapply (Rounds.wp_wait_rest_token (Γ := .empty) (Q := Q) (defs := defs) 𝒱₀ ER (sched A0 L0) (c : Thread nD τ) none (κ := K ((c : Thread nD τ), .dma sm)) (k := kk)
    (wpE_waitDma2_eq 𝒱₀ (c : Thread nD τ) none Set.univ) (Set.mem_univ _) () (O := O) (W := W) (R := 0) (m := 0) (T := ∅)
    ((Nat.zero_add _).trans he.symm)) $$ [Hcr HO Hm Hat]
  · isplitr; · iexact Hc
    isplitl [Hcr]; · iexact Hcr
    isplitl [HO]; · iexact HO
    isplitl [Hm]; · iexact Hm
    iexact Hat
  iintro ⟨HO, Hat, -, Hp⟩
  ihave Hp := (Entails.of_eq hp) $$ Hp
  iapply Hk
  isplitl [HO]; · iexact HO
  isplitl [Hat]; · iexact Hat
  iexact Hp

/-! ## What has arrived, read through the whole landing buffer -/

theorem wp_landedA (c : Dev nD) (i : Fin 4) {X : S32x16x128.Idx → Elt F .f32} {h hl}
    {kk : (S1x32x16x128.Idx → Elt F .f32) → Prog (TpuEff nD τ sig (Elt F) Λ .tc) α} :
    (owns (c : Thread nD τ) (lA i) fullShare X : sProp 𝕄)
      ⊢ iprop((owns (c : Thread nD τ) (lA i) fullShare X -∗ wp frame (wpE defs 𝒱₀ (c : Thread nD τ) none) Set.univ (kk (upA X)) Q)
        -∗ wp frame (wpE defs 𝒱₀ (c : Thread nD τ) none) Set.univ
          (.op (.load rA (Rect.unit (s := S4x32x16x128) ![i.val, 0, 0, 0] S1x32x16x128.size h).toLoadRect hl) kk) Q) := by
  unfold owns
  iintro ⟨%f, %hf, H⟩ Hc
  have hS : (rA.access (Rect.unit (s := S4x32x16x128) ![i.val, 0, 0, 0] S1x32x16x128.size h)).set ⊆ (lA i).view.set := by
    rw [View.set_reshape]
  iapply (wp_load_rect (Γ := .empty) (Q := Q) (defs := defs) (k := kk) (hl := hl) (f := f) (q := fullShare) 𝒱₀ (c : Thread nD τ) none Set.univ hS) $$ H
  iintro H
  have e : (rA.access (Rect.unit (s := S4x32x16x128) ![i.val, 0, 0, 0] S1x32x16x128.size h)).read (Elt F) f = upA X := by
    rw [← hf]
    funext x
    unfold upA
    show (rA.access (Rect.unit (s := S4x32x16x128) ![i.val, 0, 0, 0] S1x32x16x128.size h)).read (Elt F) f x
      = (rA.access (Rect.unit (s := S4x32x16x128) ![i.val, 0, 0, 0] S1x32x16x128.size h)).read (Elt F) f (Shape.reshapeEquiv (s := S1x32x16x128) (s' := S32x16x128) (by decide) (ix3 (x 1) (x 2) (x 3)))
    rw [show (Shape.reshapeEquiv (s := S1x32x16x128) (s' := S32x16x128) (by decide) (ix3 (x 1) (x 2) (x 3)) : S1x32x16x128.Idx)
      = ix4 (⟨0, Nat.one_pos⟩ : Fin 1) (x 1) (x 2) (x 3) from ValueIdx.reshapeEquiv_ix3_1abc _ _ _ _]
    congr 1
    funext a; fin_cases a
    · exact Fin.ext (by have := (x 0).isLt; show (x 0).val = 0; change (x 0).val < 1 at this; omega)
    all_goals rfl
  rw [e]
  iapply Hc
  iexists f
  isplitr; · ipureintro; exact hf
  iexact H

theorem wp_landedL (c : Dev nD) (i : Fin 4) {X : S32x16.Idx → Elt F .f32} {h hl}
    {kk : (S1x32x16.Idx → Elt F .f32) → Prog (TpuEff nD τ sig (Elt F) Λ .tc) α} :
    (owns (c : Thread nD τ) (lL i) fullShare X : sProp 𝕄)
      ⊢ iprop((owns (c : Thread nD τ) (lL i) fullShare X -∗ wp frame (wpE defs 𝒱₀ (c : Thread nD τ) none) Set.univ (kk (upL X)) Q)
        -∗ wp frame (wpE defs 𝒱₀ (c : Thread nD τ) none) Set.univ
          (.op (.load rL (Rect.unit (s := S4x32x16) ![i.val, 0, 0] S1x32x16.size h).toLoadRect hl) kk) Q) := by
  unfold owns
  iintro ⟨%f, %hf, H⟩ Hc
  have hS : (rL.access (Rect.unit (s := S4x32x16) ![i.val, 0, 0] S1x32x16.size h)).set ⊆ (lL i).view.set := by
    rw [View.set_reshape]
  iapply (wp_load_rect (Γ := .empty) (Q := Q) (defs := defs) (k := kk) (hl := hl) (f := f) (q := fullShare) 𝒱₀ (c : Thread nD τ) none Set.univ hS) $$ H
  iintro H
  have e : (rL.access (Rect.unit (s := S4x32x16) ![i.val, 0, 0] S1x32x16.size h)).read (Elt F) f = upL X := by
    rw [← hf]
    funext x
    unfold upL
    show (rL.access (Rect.unit (s := S4x32x16) ![i.val, 0, 0] S1x32x16.size h)).read (Elt F) f x
      = (rL.access (Rect.unit (s := S4x32x16) ![i.val, 0, 0] S1x32x16.size h)).read (Elt F) f (Shape.reshapeEquiv (s := S1x32x16) (s' := S32x16) (by decide) (ix2 (x 1) (x 2)))
    rw [show (Shape.reshapeEquiv (s := S1x32x16) (s' := S32x16) (by decide) (ix2 (x 1) (x 2)) : S1x32x16.Idx)
      = ix3 (⟨0, Nat.one_pos⟩ : Fin 1) (x 1) (x 2) from ValueIdx.reshapeEquiv_ix2_1ab _ _ _]
    congr 1
    funext a; fin_cases a
    · exact Fin.ext (by have := (x 0).isLt; show (x 0).val = 0; change (x 0).val < 1 at this; omega)
    all_goals rfl
  rw [e]
  iapply Hc
  iexists f
  isplitr; · ipureintro; exact hf
  iexact H

end Cert.KProof
-- ==== Proof.Talk.lean ====
/-
  The exchange as the program writes it: four rounds one after another, then the quotient, the signals of the exit and
  the wait for them.
-/
module

public import proofs.«01_k».proof.Proof.Steps

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {defs : Defs nD τ sig (Elt F) Λ₀}

/-! ## Whole buffers -/

theorem window_all {s : Shape} {β : Type} (X : s.Idx → β) (o : Fin s.rank → ℕ) (ho : ∀ a, o a = 0) (h) : VecWindow.window X o s.size h = X := by
  funext y
  show X _ = X y
  congr 1
  funext a
  apply Fin.ext
  show o a + 1 * (y a).val = (y a).val
  rw [ho a]; omega

theorem put_all {s : Shape} {β : Type} (X : s.Idx → β) (o : Fin s.rank → ℕ) (ho : ∀ a, o a = 0) (w : s.Idx → β) : VecWindow.put X o s.size w = w := by
  have h : ∀ a, o a + s.size a ≤ s.size a := fun a => by rw [ho a]; omega
  have e := VecWindow.window_put_same X o s.size h w
  rw [window_all _ o ho h] at e
  exact e

theorem o3_zero : ∀ a, (![0, 0, 0] : Fin 3 → ℕ) a = 0 := by decide
theorem o2_zero : ∀ a, (![0, 0] : Fin 2 → ℕ) a = 0 := by decide

section Whole
variable {α : Type} {Λ : Labels} {defs : Defs nD τ sig (Elt F) Λ} {Q : α → sProp (MT nD τ sig Unit (Elt F) ℕ UU ℕ)}

theorem wp_readAll (c : Dev nD) {cs : CoreSpace} {s : Shape} {m : Memref sig .tc cs s .f32} {q : PosShare TreeShare} {X : s.Idx → Elt F .f32}
    {o : Fin s.rank → ℕ} (ho : ∀ a, o a = 0) {h : ∀ a, o a + s.size a ≤ s.size a} {hl}
    {kk : (s.Idx → Elt F .f32) → Prog (TpuEff nD τ sig (Elt F) Λ .tc) α} :
    (owns (c : Thread nD τ) m q X : sProp (MT nD τ sig Unit (Elt F) ℕ UU ℕ))
      ⊢ iprop((owns (c : Thread nD τ) m q X -∗ wp frame (wpE defs 𝒱₀ (c : Thread nD τ) none) Set.univ (kk X) Q)
        -∗ wp frame (wpE defs 𝒱₀ (c : Thread nD τ) none) Set.univ (.op (.load m (Rect.unit (s := s) o s.size h).toLoadRect hl) kk) Q) := by
  have e := wp_window (Q := Q) (defs := defs) c (m := m) (q := q) (X := X) (o := o) (size := s.size) (h := h) (hl := hl) (K := kk)
  rw [window_all X o ho h] at e
  exact e

theorem wp_writeAll (c : Dev nD) {cs : CoreSpace} {s : Shape} {m : Memref sig .tc cs s .f32} {X : s.Idx → Elt F .f32}
    {o : Fin s.rank → ℕ} (ho : ∀ a, o a = 0) {h : ∀ a, o a + s.size a ≤ s.size a} {w : s.Idx → Elt F .f32} {hx hm}
    {kk : PUnit → Prog (TpuEff nD τ sig (Elt F) Λ .tc) α} :
    (owns (c : Thread nD τ) m fullShare X : sProp (MT nD τ sig Unit (Elt F) ℕ UU ℕ))
      ⊢ iprop((owns (c : Thread nD τ) m fullShare w -∗ wp frame (wpE defs 𝒱₀ (c : Thread nD τ) none) Set.univ (kk ⟨⟩) Q)
        -∗ wp frame (wpE defs 𝒱₀ (c : Thread nD τ) none) Set.univ (.op (.store m (Rect.unit (s := s) o s.size h) w Finset.univ hx hm) kk) Q) := by
  have e := wp_put (Q := Q) (defs := defs) c (m := m) (X := X) (o := o) (size := s.size) (h := h) (w := w) (hx := hx) (hm := hm) (K := kk)
  rw [put_all X o ho w] at e
  exact e

end Whole

/-! ## The programs -/

/-- One round with the partner, named twice. -/
def talkRound (i : Fin 4) (p p' : Dev nD) (k : Prog (TpuEff nD τ sig (Elt F) Λ₀ .tc) PUnit) : Prog (TpuEff nD τ sig (Elt F) Λ₀ .tc) PUnit :=
  .op (.enqueueDma mA (.remote (Dev.tc p) (lA i) (.dma (cellS cc0_scratch7 i 0))) (.dma (cellS cc0_scratch8 i 0)) (Memref.isWhole_whole _).wordExact ((View.wordExact_bits rfl).reshape _ _) ⟨⟨rfl, Or.inl rfl⟩, trivial⟩) fun _ =>
  .op (.enqueueDma mL (.remote (Dev.tc p') (lL i) (.dma (cellS cc0_scratch7 i 1))) (.dma (cellS cc0_scratch8 i 1)) (Memref.isWhole_whole _).wordExact ((View.wordExact_bits rfl).reshape _ _) ⟨⟨rfl, Or.inl rfl⟩, trivial⟩) fun _ =>
  .op (.waitDma2 (cellS cc0_scratch7 i 0) (lA i) mA ((View.wordExact_bits rfl).reshape _ _) (Memref.isWhole_whole _).wordExact) fun _ =>
  .op (.waitDma2 (cellS cc0_scratch8 i 0) mA (lA i) (Memref.isWhole_whole _).wordExact ((View.wordExact_bits rfl).reshape _ _)) fun _ =>
  .op (.waitDma2 (cellS cc0_scratch7 i 1) (lL i) mL ((View.wordExact_bits rfl).reshape _ _) (Memref.isWhole_whole _).wordExact) fun _ =>
  .op (.waitDma2 (cellS cc0_scratch8 i 1) mL (lL i) (Memref.isWhole_whole _).wordExact ((View.wordExact_bits rfl).reshape _ _)) fun _ =>
  .op (.load mA (Rect.unit (s := S32x16x128) ![0, 0, 0] S32x16x128.size inb_S32x16x128_S32x16x128_0_0_0).toLoadRect (View.loadsAt_vmem h_S32x16x128)) fun a =>
  .op (.load rA (Rect.unit (s := S4x32x16x128) ![i.val, 0, 0, 0] S1x32x16x128.size (inA i)).toLoadRect (View.loadsAt_vmem h_S1x32x16x128)) fun b =>
  .op (.load mA (Rect.unit (s := S32x16x128) ![0, 0, 0] S32x16x128.size inb_S32x16x128_S32x16x128_0_0_0).toLoadRect (View.loadsAt_vmem h_S32x16x128)) fun _ =>
  .op (.store mA (Rect.unit (s := S32x16x128) ![0, 0, 0] S32x16x128.size inb_S32x16x128_S32x16x128_0_0_0) (k0_pay15 a b) Finset.univ (View.stores_vmem_bits_univ h_S32x16x128 rfl) (.inl rfl)) fun _ =>
  .op (.load mL (Rect.unit (s := S32x16) ![0, 0] S32x16.size inb_S32x16_S32x16_0_0).toLoadRect (View.loadsAt_vmem h_S32x16)) fun a =>
  .op (.load rL (Rect.unit (s := S4x32x16) ![i.val, 0, 0] S1x32x16.size (inL i)).toLoadRect (View.loadsAt_vmem h_S1x32x16)) fun b =>
  .op (.load mL (Rect.unit (s := S32x16) ![0, 0] S32x16.size inb_S32x16_S32x16_0_0).toLoadRect (View.loadsAt_vmem h_S32x16)) fun _ =>
  .op (.store mL (Rect.unit (s := S32x16) ![0, 0] S32x16.size inb_S32x16_S32x16_0_0) (k0_pay16 a b) Finset.univ (View.stores_vmem_bits_univ h_S32x16 rfl) (.inl rfl)) fun _ => k

/-- The quotient, and the exit. -/
def leave (c : Dev nD) (o : Memref sig .tc .vmem S32x16x128 .f32) : Prog (TpuEff nD τ sig (Elt F) Λ₀ .tc) PUnit :=
  .op (.load mA (Rect.unit (s := S32x16x128) ![0, 0, 0] S32x16x128.size inb_S32x16x128_S32x16x128_0_0_0).toLoadRect (View.loadsAt_vmem h_S32x16x128)) fun a =>
  .op (.load mL (Rect.unit (s := S32x16) ![0, 0] S32x16.size inb_S32x16_S32x16_0_0).toLoadRect (View.loadsAt_vmem h_S32x16)) fun b =>
  .op (.load o (Rect.unit (s := S32x16x128) ![0, 0, 0] S32x16x128.size inb_S32x16x128_S32x16x128_0_0_0).toLoadRect (View.loadsAt_vmem h_S32x16x128)) fun _ =>
  .op (.store o (Rect.unit (s := S32x16x128) ![0, 0, 0] S32x16x128.size inb_S32x16x128_S32x16x128_0_0_0) (k0_pay24 a b) Finset.univ (View.stores_vmem_bits_univ h_S32x16x128 rfl) (.inl rfl)) fun _ =>
  .op (.semSignal (pr 0 c, .tc) extS (1#32).toInt) fun _ =>
  .op (.semSignal (pr 1 c, .tc) extS (1#32).toInt) fun _ =>
  .op (.semSignal (pr 2 c, .tc) extS (1#32).toInt) fun _ =>
  .op (.semSignal (pr 3 c, .tc) extS (1#32).toInt) fun _ =>
  .op (.semWait extS (4#32).toInt) fun _ => .ret ⟨⟩

section Eqs
variable (arg0 : Memref sig .tc .smem S32x256 .i32) (harg0 : arg0.IsWhole) (arg1 : Memref sig .tc .smem S32 .i32) (harg1 : arg1.IsWhole) (arg2 : Memref sig .tc .smem S2x1024 .i32) (harg2 : arg2.IsWhole) (arg3 : Memref sig .tc .smem S1 .i32) (harg3 : arg3.IsWhole) (arg4 : Memref sig .tc .vmem S32x16x128 .f32) (harg4 : arg4.IsWhole) (arg5 : Memref sig .tc .hbm S256x32x16x128 .f32) (harg5 : arg5.IsWhole) (arg6 : Memref sig .tc .hbm S256x32x16x128 .f32) (harg6 : arg6.IsWhole) (arg7 : Memref sig .tc .vmem S32x16x128 .f32) (harg7 : arg7.IsWhole) (arg12 : Memref sig .tc .vmem S4x8x32x16x128 .f32) (harg12 : arg12.IsWhole) (arg13 : Memref sig .tc .vmem S4x8x32x16x128 .f32) (harg13 : arg13.IsWhole) (arg14 : DmaSems sig S4x8x2)

/-- All after the local sums, as the program cuts it. -/
def afterLocal (d0 : Dev nD) (v2 v5 v8 v12 v13 v14 v15 : BitVec 32) : Prog (TpuEff nD τ sig (Elt F) Λ₀ .tc) PUnit := do
  k0_part43 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v8 v12
  k0_part44 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 v2 v8 v12
  k0_part45 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v5 v8 v13
  let v194 ← k0_part46 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v5 v8 v13
  let v221 ← k0_part47 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 v2 v5 v8 v194
  let v247 ← k0_part48 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v5 v14 v221
  let v273 ← k0_part49 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 v2 v5 v14 v247
  let ⟨v299, c1_i32_311⟩ ← k0_part50 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v5 v15 v273
  k0_part51 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v5 v15 v299 c1_i32_311
  let v350 ← k0_part52 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 v2 v5 v15
  k0_part53 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v5 v8 v12 v13 v14 v15 v350
  semWaitWord (SemArray.sem (cc0_scoped0 : Sems sig S_)) 4#32
  pure ⟨⟩

theorem dev1_eq (c : Dev nD) : (⟨k0_dev1 c, k0_dev1_lt c⟩ : Dev nD) = pr 0 c := by revert c; decide +kernel
theorem dev2_eq (c : Dev nD) : (⟨k0_dev2 c, k0_dev2_lt c⟩ : Dev nD) = pr 1 c := by revert c; decide +kernel
theorem dev3_eq (c : Dev nD) : (⟨k0_dev3 c, k0_dev3_lt c⟩ : Dev nD) = pr 2 c := by revert c; decide +kernel
theorem dev4_eq (c : Dev nD) : (⟨k0_dev4 c, k0_dev4_lt c⟩ : Dev nD) = pr 3 c := by revert c; decide +kernel
theorem dev5_eq (c : Dev nD) : (⟨k0_dev5 c, k0_dev5_lt c⟩ : Dev nD) = pr 0 c := by revert c; decide +kernel
theorem dev6_eq (c : Dev nD) : (⟨k0_dev6 c, k0_dev6_lt c⟩ : Dev nD) = pr 0 c := by revert c; decide +kernel
theorem dev7_eq (c : Dev nD) : (⟨k0_dev7 c, k0_dev7_lt c⟩ : Dev nD) = pr 1 c := by revert c; decide +kernel
theorem dev8_eq (c : Dev nD) : (⟨k0_dev8 c, k0_dev8_lt c⟩ : Dev nD) = pr 1 c := by revert c; decide +kernel
theorem dev9_eq (c : Dev nD) : (⟨k0_dev9 c, k0_dev9_lt c⟩ : Dev nD) = pr 2 c := by revert c; decide +kernel
theorem dev10_eq (c : Dev nD) : (⟨k0_dev10 c, k0_dev10_lt c⟩ : Dev nD) = pr 2 c := by revert c; decide +kernel
theorem dev11_eq (c : Dev nD) : (⟨k0_dev11 c, k0_dev11_lt c⟩ : Dev nD) = pr 3 c := by revert c; decide +kernel
theorem dev12_eq (c : Dev nD) : (⟨k0_dev12 c, k0_dev12_lt c⟩ : Dev nD) = pr 3 c := by revert c; decide +kernel
theorem dev13_eq (c : Dev nD) : (⟨k0_dev13 c, k0_dev13_lt c⟩ : Dev nD) = pr 0 c := by revert c; decide +kernel
theorem dev14_eq (c : Dev nD) : (⟨k0_dev14 c, k0_dev14_lt c⟩ : Dev nD) = pr 1 c := by revert c; decide +kernel
theorem dev15_eq (c : Dev nD) : (⟨k0_dev15 c, k0_dev15_lt c⟩ : Dev nD) = pr 2 c := by revert c; decide +kernel
theorem dev16_eq (c : Dev nD) : (⟨k0_dev16 c, k0_dev16_lt c⟩ : Dev nD) = pr 3 c := by revert c; decide +kernel

set_option pp.maxSteps 400 in
theorem afterLocal_eq (d0 : Dev nD) (v2 v5 v8 v12 v13 v14 v15 : BitVec 32) :
    afterLocal arg0 harg0 arg1 harg1 arg2 harg2 arg3 harg3 arg4 harg4 arg5 harg5 arg6 harg6 arg7 harg7 arg12 harg12 arg13 harg13 arg14 d0 v2 v5 v8 v12 v13 v14 v15
      = (talkRound 0 (pr 0 d0) (pr 0 d0) (talkRound 1 (pr 1 d0) (pr 1 d0) (talkRound 2 (pr 2 d0) (pr 2 d0) (talkRound 3 (pr 3 d0) (pr 3 d0) (leave d0 arg7)))) : Prog (TpuEff nD τ sig (Elt F) Λ₀ .tc) PUnit) := by
  rw [← dev5_eq, ← dev7_eq, ← dev9_eq, ← dev11_eq]
  have e6 : (⟨k0_dev5 d0, k0_dev5_lt d0⟩ : Dev nD) = ⟨k0_dev6 d0, k0_dev6_lt d0⟩ := (dev5_eq d0).trans (dev6_eq d0).symm
  have e8 : (⟨k0_dev7 d0, k0_dev7_lt d0⟩ : Dev nD) = ⟨k0_dev8 d0, k0_dev8_lt d0⟩ := (dev7_eq d0).trans (dev8_eq d0).symm
  have e10 : (⟨k0_dev9 d0, k0_dev9_lt d0⟩ : Dev nD) = ⟨k0_dev10 d0, k0_dev10_lt d0⟩ := (dev9_eq d0).trans (dev10_eq d0).symm
  have e12 : (⟨k0_dev11 d0, k0_dev11_lt d0⟩ : Dev nD) = ⟨k0_dev12 d0, k0_dev12_lt d0⟩ := (dev11_eq d0).trans (dev12_eq d0).symm
  conv_rhs =>
    rw [show talkRound (F := F) 0 ⟨k0_dev5 d0, k0_dev5_lt d0⟩ ⟨k0_dev5 d0, k0_dev5_lt d0⟩ = talkRound 0 ⟨k0_dev5 d0, k0_dev5_lt d0⟩ ⟨k0_dev6 d0, k0_dev6_lt d0⟩ from congrArg _ e6,
      show talkRound (F := F) 1 ⟨k0_dev7 d0, k0_dev7_lt d0⟩ ⟨k0_dev7 d0, k0_dev7_lt d0⟩ = talkRound 1 ⟨k0_dev7 d0, k0_dev7_lt d0⟩ ⟨k0_dev8 d0, k0_dev8_lt d0⟩ from congrArg _ e8,
      show talkRound (F := F) 2 ⟨k0_dev9 d0, k0_dev9_lt d0⟩ ⟨k0_dev9 d0, k0_dev9_lt d0⟩ = talkRound 2 ⟨k0_dev9 d0, k0_dev9_lt d0⟩ ⟨k0_dev10 d0, k0_dev10_lt d0⟩ from congrArg _ e10,
      show talkRound (F := F) 3 ⟨k0_dev11 d0, k0_dev11_lt d0⟩ ⟨k0_dev11 d0, k0_dev11_lt d0⟩ = talkRound 3 ⟨k0_dev11 d0, k0_dev11_lt d0⟩ ⟨k0_dev12 d0, k0_dev12_lt d0⟩ from congrArg _ e12]
  unfold afterLocal
  simp only [k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton,
    k0_part43_skel, k0_part44_skel, k0_part45_skel, k0_part46_skel, k0_part47_skel, k0_part48_skel, k0_part49_skel, k0_part50_skel, k0_part51_skel,
    k0_part52_skel, k0_part53_skel, semSignalWord, semWaitWord, Prog.lift, Prog.bind_assoc, Prog.bind_op, Prog.bind_ret, Prog.pure_eq_ret,
    dev13_eq, dev14_eq, dev15_eq, dev16_eq]
  rfl

end Eqs

end Cert.KProof
-- ==== Proof.Round.lean ====
/-
  One round of the exchange, and the exit, run.
-/
module

public import proofs.«01_k».proof.Proof.Talk

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {defs : Defs nD τ sig (Elt F) Λ₀}
variable (A0 : Dev nD → S32x16x128.Idx → Elt F .f32) (L0 : Dev nD → S32x16.Idx → Elt F .f32) (K : GSem nD τ sig → ℕ)

/-! ## Small facts -/

theorem amtA (i : Fin 4) : (lA i).view.amount (.dma (cellS cc0_scratch8 i 0)) = NN 0 := rfl
theorem amtL (i : Fin 4) : (lL i).view.amount (.dma (cellS cc0_scratch8 i 1)) = NN 1 := rfl
theorem crdA : (mA).view.dmaCredit = NN 0 := rfl
theorem crdL : (mL).view.dmaCredit = NN 1 := rfl
theorem crdAl (i : Fin 4) : (lA i).view.dmaCredit = NN 0 := rfl
theorem crdLl (i : Fin 4) : (lL i).view.dmaCredit = NN 1 := rfl

theorem backA (c : Dev nD) (i : Fin 4) : (payOf A0 L0 (pr i c) 0 (some (.inr (true, i, 0))) : sProp 𝕄)
    = owns (pr i c : Thread nD τ) (lA i) fullShare (accN A0 i.val c) := by
  show rcvPay A0 L0 (pr i c) i 0 = _
  unfold rcvPay
  rw [if_pos rfl, pr_pr]
theorem backL (c : Dev nD) (i : Fin 4) : (payOf A0 L0 (pr i c) 0 (some (.inr (true, i, 1))) : sProp 𝕄)
    = owns (pr i c : Thread nD τ) (lL i) fullShare (lseN L0 i.val c) := by
  show rcvPay A0 L0 (pr i c) i 1 = _
  unfold rcvPay
  rw [if_neg (by decide), pr_pr]

theorem left_round (c : Dev nD) (i : Fin 4) :
    left c (12 - 2 * i.val) = left c (10 - 2 * i.val) + tallyAt (cellK (pr i c) (.inr (true, i, 1))) () (NN 1)
      + tallyAt (cellK (pr i c) (.inr (true, i, 0))) () (NN 0) := by
  match i with
  | 0 => rfl
  | 1 => rfl
  | 2 => rfl
  | 3 => rfl

theorem maySnd (c : Dev nD) (i : Fin 4) (k : Fin 2) :
    (levAts L lv : sProp 𝕄) ⊢ MayWait (c : Thread nD τ) (.dma (cellS cc0_scratch7 i k)) () (left c (10 - 2 * i.val)) :=
  mayWait_left c _ _ 0 (by
      have e := kindOf_sem (.inr (false, i, k))
      rw [show SemLoc.dma (cellS cc0_scratch7 i k) = semOf (.inr (false, i, k)) from rfl, e]
      exact le_refl 0)
    (by
      have h : ∀ n, n < 10 → 0 < lvK (some (payK (15 - n)).2) := by decide +kernel
      exact fun n hn => h n (by omega))

theorem mayRcv (c : Dev nD) (i : Fin 4) (k : Fin 2) :
    (levAts L lv : sProp 𝕄) ⊢ MayWait (c : Thread nD τ) (.dma (cellS cc0_scratch8 i k)) () (left c (10 - 2 * i.val)) :=
  mayWait_left c _ _ (2 + i.val) (by
      have e := kindOf_sem (.inr (true, i, k))
      rw [show SemLoc.dma (cellS cc0_scratch8 i k) = semOf (.inr (true, i, k)) from rfl, e]
      exact le_refl _)
    (by
      have h : ∀ i : Fin 4, ∀ n, n < 10 - 2 * i.val → 2 + i.val < lvK (some (payK (15 - n)).2) := by decide +kernel
      exact h i)

theorem mayBar (c : Dev nD) : (levAts L lv : sProp 𝕄) ⊢ MayWait (c : Thread nD τ) (.reg barS) () (left c 12) :=
  mayWait_left c _ _ 1 (by
      have e := kindOf_sem (.inl false)
      rw [show SemLoc.reg barS = semOf (.inl false) from rfl, e]
      exact le_refl 1)
    (by decide +kernel)

theorem accN_succ (i : Fin 4) (c : Dev nD) : accN A0 (i.val + 1) c = k0_pay15 (accN A0 i.val c) (upA (accN A0 i.val (pr i c))) := by
  have h : Fin.ofNat 4 i.val = i := by revert i; decide
  show k0_pay15 (accN A0 i.val c) (upA (accN A0 i.val (pr (Fin.ofNat 4 i.val) c))) = _
  rw [h]
theorem lseN_succ (i : Fin 4) (c : Dev nD) : lseN L0 (i.val + 1) c = k0_pay16 (lseN L0 i.val c) (upL (lseN L0 i.val (pr i c))) := by
  have h : Fin.ofNat 4 i.val = i := by revert i; decide
  show k0_pay16 (lseN L0 i.val c) (upL (lseN L0 i.val (pr (Fin.ofNat 4 i.val) c))) = _
  rw [h]

/-! ## A round -/

/-- What a device holds for round `i` from the start, -/
def Ready (c : Dev nD) (i : Fin 4) : sProp 𝕄 :=
  iprop((dutyTok ER (cellK c (.inr (false, i, 0))) 0 0 ∗ dutyTok ER (cellK c (.inr (false, i, 1))) 0 0)
    ∗ (dutyTok ER (cellK (pr i c) (.inr (true, i, 0))) 0 0 ∗ dutyTok ER (cellK (pr i c) (.inr (true, i, 1))) 0 0)
    ∗ (atPos ER (cellK c (.inr (false, i, 0))) 0 ∅ 0 ∗ atPos ER (cellK c (.inr (false, i, 1))) 0 ∅ 0)
    ∗ (atPos ER (cellK c (.inr (true, i, 0))) 0 ∅ 0 ∗ atPos ER (cellK c (.inr (true, i, 1))) 0 ∅ 0)
    ∗ (cred (tallyAt (cellK c (.inr (true, i, 0))) () (NN 0)) ∗ cred (tallyAt (cellK c (.inr (true, i, 1))) () (NN 1)))
    ∗ (reached ER (cellK c (.inr (false, i, 0))) 0 ∗ reached ER (cellK c (.inr (false, i, 1))) 0))

/-- and what it has once the round is over. -/
def Back (c : Dev nD) (i : Fin 4) : sProp 𝕄 :=
  iprop((atPos ER (cellK c (.inr (false, i, 0))) 1 ∅ 0 ∗ atPos ER (cellK c (.inr (false, i, 1))) 1 ∅ 0)
    ∗ (atPos ER (cellK c (.inr (true, i, 0))) 1 ∅ 0 ∗ atPos ER (cellK c (.inr (true, i, 1))) 1 ∅ 0)
    ∗ (∃ X : S32x16x128.Idx → Elt F .f32, owns (c : Thread nD τ) (lA i) fullShare X)
    ∗ (∃ X : S32x16.Idx → Elt F .f32, owns (c : Thread nD τ) (lL i) fullShare X))

/-- One round: the sums go to the partner, the partner's come, and they are added. -/
theorem run_round (c : Dev nD) (i : Fin 4) (k : Prog (TpuEff nD τ sig (Elt F) Λ₀ .tc) PUnit) {Q : PUnit → sProp 𝕄} :
    iprop(Invs A0 L0 K ∗ levAts L lv ∗ owns (c : Thread nD τ) mA fullShare (accN A0 i.val c) ∗ owns (c : Thread nD τ) mL fullShare (lseN L0 i.val c)
        ∗ Ready c i ∗ barPay c i ∗ (∃ W, owes (c : Thread nD τ) (left c (12 - 2 * i.val)) W))
      ⊢ iprop((owns (c : Thread nD τ) mA fullShare (accN A0 (i.val + 1) c) ∗ owns (c : Thread nD τ) mL fullShare (lseN L0 (i.val + 1) c)
          ∗ Back c i ∗ (∃ W, owes (c : Thread nD τ) (left c (10 - 2 * i.val)) W)
          -∗ wp frame (wpE defs 𝒱₀ (c : Thread nD τ) none) Set.univ k Q)
        -∗ wp frame (wpE defs 𝒱₀ (c : Thread nD τ) none) Set.univ (talkRound i (pr i c) (pr i c) k) Q) := by
  rw [left_round, accN_succ, lseN_succ]
  unfold Ready barPay talkRound
  iintro ⟨#Hi, #Hlev, HA, HL, ⟨⟨TS0, TS1⟩, ⟨TR0, TR1⟩, ⟨PS0, PS1⟩, ⟨PR0, PR1⟩, ⟨CR0, CR1⟩, #RS0, #RS1⟩, ⟨DA, DL, #RR0, #RR1, -⟩, ⟨%W, HO⟩⟩ Hk
  iapply (wp_part (Q := Q) (defs := defs) A0 L0 K c i 0 (cellS cc0_scratch7 i 0) (cellS cc0_scratch8 i 0) rfl rfl (src := mA) (dst := lA i) (X := accN A0 i.val c)
    (amtA i) rfl (backA A0 L0 c i) (left c (10 - 2 * i.val) + tallyAt (cellK (pr i c) (.inr (true, i, 1))) () (NN 1))) $$ [HA DA HO TS0 TR0]
  · isplitr; · iexact Hi
    isplitl [HA]; · iexact HA
    isplitl [DA]; · iexact DA
    isplitl [HO]; · iexact HO
    isplitl [TS0]; · iexact TS0
    isplitr; · iexact RS0
    isplitl [TR0]; · iexact TR0
    iexact RR0
  iintro ⟨CS0, HO⟩
  iapply (wp_part (Q := Q) (defs := defs) A0 L0 K c i 1 (cellS cc0_scratch7 i 1) (cellS cc0_scratch8 i 1) rfl rfl (src := mL) (dst := lL i) (X := lseN L0 i.val c)
    (amtL i) rfl (backL A0 L0 c i) (left c (10 - 2 * i.val))) $$ [HL DL HO TS1 TR1]
  · isplitr; · iexact Hi
    isplitl [HL]; · iexact HL
    isplitl [DL]; · iexact DL
    isplitl [HO]; · iexact HO
    isplitl [TS1]; · iexact TS1
    isplitr; · iexact RS1
    isplitl [TR1]; · iexact TR1
    iexact RR1
  iintro ⟨CS1, HO⟩
  iapply (wp_meet (Q := Q) (defs := defs) A0 L0 K c false i 0 (cellS cc0_scratch7 i 0) rfl (m₁ := lA i) (m₂ := mA) (crdA) (left c (10 - 2 * i.val))) $$ [CS0 HO PS0]
  · isplitr; · iexact Hi
    isplitl [CS0]; · iexact CS0
    isplitl [HO]; · iexact HO
    isplitr; · iapply (maySnd c i 0); iexact Hlev
    iexact PS0
  iintro ⟨HO, PS0, HA⟩
  iapply (wp_meet (Q := Q) (defs := defs) A0 L0 K c true i 0 (cellS cc0_scratch8 i 0) rfl (m₁ := mA) (m₂ := lA i) (crdAl i) (left c (10 - 2 * i.val))) $$ [CR0 HO PR0]
  · isplitr; · iexact Hi
    isplitl [CR0]; · iexact CR0
    isplitl [HO]; · iexact HO
    isplitr; · iapply (mayRcv c i 0); iexact Hlev
    iexact PR0
  iintro ⟨HO, PR0, VA⟩
  iapply (wp_meet (Q := Q) (defs := defs) A0 L0 K c false i 1 (cellS cc0_scratch7 i 1) rfl (m₁ := lL i) (m₂ := mL) (crdL) (left c (10 - 2 * i.val))) $$ [CS1 HO PS1]
  · isplitr; · iexact Hi
    isplitl [CS1]; · iexact CS1
    isplitl [HO]; · iexact HO
    isplitr; · iapply (maySnd c i 1); iexact Hlev
    iexact PS1
  iintro ⟨HO, PS1, HL⟩
  iapply (wp_meet (Q := Q) (defs := defs) A0 L0 K c true i 1 (cellS cc0_scratch8 i 1) rfl (m₁ := mL) (m₂ := lL i) (crdLl i) (left c (10 - 2 * i.val))) $$ [CR1 HO PR1]
  · isplitr; · iexact Hi
    isplitl [CR1]; · iexact CR1
    isplitl [HO]; · iexact HO
    isplitr; · iapply (mayRcv c i 1); iexact Hlev
    iexact PR1
  iintro ⟨HO, PR1, VL⟩
  ihave HA := (Entails.of_eq (show (payOf A0 L0 c 0 (some (.inr (false, i, 0))) : sProp 𝕄) = owns (c : Thread nD τ) mA fullShare (accN A0 i.val c) from rfl)) $$ HA
  ihave HL := (Entails.of_eq (show (payOf A0 L0 c 0 (some (.inr (false, i, 1))) : sProp 𝕄) = owns (c : Thread nD τ) mL fullShare (lseN L0 i.val c) from rfl)) $$ HL
  ihave VA := (Entails.of_eq (show (payOf A0 L0 c 0 (some (.inr (true, i, 0))) : sProp 𝕄) = owns (c : Thread nD τ) (lA i) fullShare (accN A0 i.val (pr i c)) from rfl)) $$ VA
  ihave VL := (Entails.of_eq (show (payOf A0 L0 c 0 (some (.inr (true, i, 1))) : sProp 𝕄) = owns (c : Thread nD τ) (lL i) fullShare (lseN L0 i.val (pr i c)) from rfl)) $$ VL
  iapply (wp_readAll (Q := Q) (defs := defs) c (m := mA) (q := fullShare) (X := accN A0 i.val c) o3_zero) $$ HA
  iintro HA
  iapply (wp_landedA (Q := Q) (defs := defs) c i) $$ VA
  iintro VA
  iapply (wp_readAll (Q := Q) (defs := defs) c (m := mA) (q := fullShare) (X := accN A0 i.val c) o3_zero) $$ HA
  iintro HA
  iapply (wp_writeAll (Q := Q) (defs := defs) c (m := mA) (X := accN A0 i.val c) o3_zero) $$ HA
  iintro HA
  iapply (wp_readAll (Q := Q) (defs := defs) c (m := mL) (q := fullShare) (X := lseN L0 i.val c) o2_zero) $$ HL
  iintro HL
  iapply (wp_landedL (Q := Q) (defs := defs) c i) $$ VL
  iintro VL
  iapply (wp_readAll (Q := Q) (defs := defs) c (m := mL) (q := fullShare) (X := lseN L0 i.val c) o2_zero) $$ HL
  iintro HL
  iapply (wp_writeAll (Q := Q) (defs := defs) c (m := mL) (X := lseN L0 i.val c) o2_zero) $$ HL
  iintro HL
  iapply Hk
  isplitl [HA]; · iexact HA
  isplitl [HL]; · iexact HL
  isplitr [HO]
  · unfold Back
    isplitl [PS0 PS1]
    · isplitl [PS0] <;> iassumption
    isplitl [PR0 PR1]
    · isplitl [PR0] <;> iassumption
    isplitl [VA]
    · iexists _; iexact VA
    · iexists _; iexact VL
  · iexists _; iexact HO

/-! ## The exit -/

theorem left_exit (c : Dev nD) : left c 4 = 0 + tallyAt (cellK (pr 3 c) (.inl true)) () 1 + tallyAt (cellK (pr 2 c) (.inl true)) () 1
    + tallyAt (cellK (pr 1 c) (.inl true)) () 1 + tallyAt (cellK (pr 0 c) (.inl true)) () 1 := rfl

/-- What the exit needs. -/
def Exit (c : Dev nD) : sProp 𝕄 :=
  iprop((dutyTok ER (cellK (pr 0 c) (.inl true)) 0 0 ∗ dutyTok ER (cellK (pr 1 c) (.inl true)) 0 1
      ∗ dutyTok ER (cellK (pr 2 c) (.inl true)) 0 2 ∗ dutyTok ER (cellK (pr 3 c) (.inl true)) 0 3)
    ∗ atPos ER (cellK c (.inl true)) 0 ∅ 0 ∗ cred (tallyAt (cellK c (.inl true)) () 4))

def ExitReached (c : Dev nD) : sProp 𝕄 :=
  iprop(reached ER (cellK (pr 0 c) (.inl true)) 0 ∗ reached ER (cellK (pr 1 c) (.inl true)) 0
      ∗ reached ER (cellK (pr 2 c) (.inl true)) 0 ∗ reached ER (cellK (pr 3 c) (.inl true)) 0)

theorem run_leave (c : Dev nD) (o : Memref sig .tc .vmem S32x16x128 .f32) (A : S32x16x128.Idx → Elt F .f32) (B : S32x16.Idx → Elt F .f32)
    {X : S32x16x128.Idx → Elt F .f32} {Q : PUnit → sProp 𝕄} :
    iprop(Invs A0 L0 K ∗ levAts L lv ∗ owns (c : Thread nD τ) mA fullShare A ∗ owns (c : Thread nD τ) mL fullShare B
        ∗ owns (c : Thread nD τ) o fullShare X ∗ Exit c ∗ ExitReached c ∗ (∃ W, owes (c : Thread nD τ) (left c 4) W))
      ⊢ iprop((owns (c : Thread nD τ) mA fullShare A ∗ owns (c : Thread nD τ) mL fullShare B ∗ owns (c : Thread nD τ) o fullShare (k0_pay24 A B)
          ∗ atPos ER (cellK c (.inl true)) 1 ∅ 0 ∗ (∃ W, owes (c : Thread nD τ) 0 W) -∗ Q ⟨⟩)
        -∗ wp frame (wpE defs 𝒱₀ (c : Thread nD τ) none) Set.univ (leave c o) Q) := by
  rw [left_exit]
  unfold Exit ExitReached leave
  iintro ⟨#Hi, #Hlev, HA, HL, Ho, ⟨⟨T0, T1, T2, T3⟩, Hat, Hcr⟩, ⟨#R0, #R1, #R2, #R3⟩, ⟨%W, HO⟩⟩ Hk
  iapply (wp_readAll (Q := Q) (defs := defs) c (m := mA) (q := fullShare) (X := A) o3_zero) $$ HA
  iintro HA
  iapply (wp_readAll (Q := Q) (defs := defs) c (m := mL) (q := fullShare) (X := B) o2_zero) $$ HL
  iintro HL
  iapply (wp_readAll (Q := Q) (defs := defs) c (m := o) (q := fullShare) (X := X) o3_zero) $$ Ho
  iintro Ho
  iapply (wp_writeAll (Q := Q) (defs := defs) c (m := o) (X := X) o3_zero) $$ Ho
  iintro Ho
  iapply (wp_hail (Q := Q) (defs := defs) A0 L0 K c 0 true extS rfl (0 + tallyAt (cellK (pr 3 c) (.inl true)) () 1 + tallyAt (cellK (pr 2 c) (.inl true)) () 1 + tallyAt (cellK (pr 1 c) (.inl true)) () 1)) $$ [HO T0]
  · isplitr; · iexact Hi
    isplitl [HO]; · iexact HO
    isplitl [T0]; · iexact T0
    isplitr; · show _ ⊢ (iprop(emp) : sProp 𝕄); iintro _; iempintro
    iexact R0
  iintro HO
  iapply (wp_hail (Q := Q) (defs := defs) A0 L0 K c 1 true extS rfl (0 + tallyAt (cellK (pr 3 c) (.inl true)) () 1 + tallyAt (cellK (pr 2 c) (.inl true)) () 1)) $$ [HO T1]
  · isplitr; · iexact Hi
    isplitl [HO]; · iexact HO
    isplitl [T1]; · iexact T1
    isplitr; · show _ ⊢ (iprop(emp) : sProp 𝕄); iintro _; iempintro
    iexact R1
  iintro HO
  iapply (wp_hail (Q := Q) (defs := defs) A0 L0 K c 2 true extS rfl (0 + tallyAt (cellK (pr 3 c) (.inl true)) () 1)) $$ [HO T2]
  · isplitr; · iexact Hi
    isplitl [HO]; · iexact HO
    isplitl [T2]; · iexact T2
    isplitr; · show _ ⊢ (iprop(emp) : sProp 𝕄); iintro _; iempintro
    iexact R2
  iintro HO
  iapply (wp_hail (Q := Q) (defs := defs) A0 L0 K c 3 true extS rfl (0)) $$ [HO T3]
  · isplitr; · iexact Hi
    isplitl [HO]; · iexact HO
    isplitl [T3]; · iexact T3
    isplitr; · show _ ⊢ (iprop(emp) : sProp 𝕄); iintro _; iempintro
    iexact R3
  iintro HO
  iapply (wp_gather (Q := Q) (defs := defs) A0 L0 K c true extS rfl 0) $$ [Hcr HO Hat]
  · isplitr; · iexact Hi
    isplitl [Hcr]; · iexact Hcr
    isplitl [HO]; · iexact HO
    isplitr; · rw [MayWait_zero]; iempintro
    iexact Hat
  iintro ⟨HO, Hat, -⟩
  rw [wp_ret]
  imodintro
  iapply Hk
  isplitl [HA]; · iexact HA
  isplitl [HL]; · iexact HL
  isplitl [Ho]; · iexact Ho
  isplitl [Hat]; · iexact Hat
  iexists _; iexact HO

end Cert.KProof
-- ==== Proof.Words.lean ====
module
public import proofs.«01_k».proof.Proof.Cells

/-! The integers the kernel computes from the device's number and from the number of live chunks:
how many chunks a device takes, which slot and which table entry each chunk uses. Every word is a
small natural number, and this module says which. -/

@[expose] public section

open Idealize.ShloMosaic

namespace Cert.KProof

open Cert.KernelIdeal Cert.KernelIdeal.Gen

/-- A device's place among the eight that share its half of the pages. -/
def rep (d : Dev nD) : ℕ := d.val / 8 * 4 + d.val % 4

theorem rep_le (d : Dev nD) : rep d ≤ 7 := by
  revert d; decide

/-- The word of that place, as the body computes it. -/
def repW (d : Dev nD) : BitVec 32 :=
  Scalar.addi (Scalar.muli (Scalar.remsi (Scalar.divsi (Dev.word d) 8#32) 2#32) 4#32)
    (Scalar.remsi (Scalar.divsi (Dev.word d) 1#32) 4#32)

theorem repW_eq (d : Dev nD) : repW d = BitVec.ofNat 32 (rep d) := by
  revert d; decide

/-- The body's floor division by eight, with its corrections for signs. -/
def eighth (v51 : BitVec 32) : BitVec 32 :=
  Scalar.maxsi 0#32
    (Scalar.select
      (Scalar.andi
        (Scalar.cmpi .ne
          (Scalar.subi (Scalar.extui (Scalar.cmpi .sgt v51 0#32) : BitVec 32)
            (Scalar.extui (Scalar.cmpi .slt v51 0#32)))
          (Scalar.subi (Scalar.extui (Scalar.cmpi .sgt 8#32 0#32) : BitVec 32)
            (Scalar.extui (Scalar.cmpi .slt 8#32 0#32))))
        (Scalar.cmpi .ne (Scalar.remsi v51 8#32) 0#32))
      (Scalar.subi (Scalar.divsi v51 8#32) 1#32)
      (Scalar.divsi v51 8#32))

set_option maxRecDepth 20000 in
theorem eighth_eq : ∀ x < 1032, eighth (BitVec.ofNat 32 x) = BitVec.ofNat 32 (x / 8) := by
  decide +kernel

/-- The number of chunks device `d` takes out of `n`. -/
def nmine (d : Dev nD) (n : ℕ) : ℕ := (n + 7 - rep d) / 8

theorem nmine_le (d : Dev nD) {n : ℕ} (h : n ≤ 1024) : nmine d n ≤ 128 := by
  unfold nmine; omega

/-- The word of that number. -/
def nW (d : Dev nD) (v9 : BitVec 32) : BitVec 32 :=
  eighth (Scalar.subi (Scalar.addi (Scalar.subi v9 (repW d)) 8#32) 1#32)

theorem nW_eq (d : Dev nD) {n : ℕ} (h : n ≤ 1024) :
    nW d (BitVec.ofNat 32 n) = BitVec.ofNat 32 (nmine d n) := by
  have hr := rep_le d
  have : Scalar.subi (Scalar.addi (Scalar.subi (BitVec.ofNat 32 n) (repW d)) 8#32) 1#32
      = BitVec.ofNat 32 (n + 7 - rep d) := by
    rw [repW_eq]
    apply BitVec.eq_of_toNat_eq
    simp only [Scalar.subi, Scalar.addi, IntOp.subi, IntOp.addi, BitVec.toNat_sub, BitVec.toNat_add, BitVec.toNat_ofNat]
    omega
  rw [nW, this, eighth_eq _ (by omega)]
  rfl

set_option maxRecDepth 20000 in
theorem trips_small : ∀ y < 129, Scf.trips 0#32
    (Scalar.addi 0#32 (Scalar.muli (Scalar.divsi (Scalar.subi (BitVec.ofNat 32 y) 0#32) 1#32) 1#32)) 1#32
      = y := by
  decide +kernel

set_option maxRecDepth 20000 in
theorem ok_small : ∀ y < 129, Scf.OK 0#32
    (Scalar.addi 0#32 (Scalar.muli (Scalar.divsi (Scalar.subi (BitVec.ofNat 32 y) 0#32) 1#32) 1#32)) 1#32 := by
  decide +kernel

/-- The chunk loop makes one trip for each chunk the device takes, -/
theorem trips1 (d : Dev nD) {n : ℕ} (h : n ≤ 1024) :
    (k0_t1_loop d (BitVec.ofNat 32 n)).trips = nmine d n := by
  have hn := nmine_le d h
  refine Eq.trans ?_ (trips_small (nmine d n) (by omega))
  rw [← nW_eq d h]; rfl

theorem ok1 (d : Dev nD) {n : ℕ} (h : n ≤ 1024) : (k0_t1_loop d (BitVec.ofNat 32 n)).OK := by
  have hn := nmine_le d h
  have := ok_small (nmine d n) (by omega)
  rw [← nW_eq d h] at this
  exact this

set_option maxRecDepth 20000 in
theorem trips_rest_small : ∀ y < 129, Scf.trips
    (Scalar.addi 0#32 (Scalar.muli (Scalar.divsi (Scalar.subi (BitVec.ofNat 32 y) 0#32) 1#32) 1#32))
    (Scalar.addi 0#32 (Scalar.subi (BitVec.ofNat 32 y) 0#32)) 1#32 = 0 := by
  decide +kernel

set_option maxRecDepth 20000 in
theorem ok_rest_small : ∀ y < 129, Scf.OK
    (Scalar.addi 0#32 (Scalar.muli (Scalar.divsi (Scalar.subi (BitVec.ofNat 32 y) 0#32) 1#32) 1#32))
    (Scalar.addi 0#32 (Scalar.subi (BitVec.ofNat 32 y) 0#32)) 1#32 := by
  decide +kernel

/-- and the loop after it makes none. -/
theorem trips2 (d : Dev nD) {n : ℕ} (h : n ≤ 1024) :
    (k0_t2_loop d (BitVec.ofNat 32 n)).trips = 0 := by
  have hn := nmine_le d h
  refine Eq.trans ?_ (trips_rest_small (nmine d n) (by omega))
  rw [← nW_eq d h]; rfl

theorem ok2 (d : Dev nD) {n : ℕ} (h : n ≤ 1024) : (k0_t2_loop d (BitVec.ofNat 32 n)).OK := by
  have hn := nmine_le d h
  have := ok_rest_small (nmine d n) (by omega)
  rw [← nW_eq d h] at this
  exact this

set_option maxRecDepth 20000 in
theorem below_small : ∀ x < 132, ∀ y < 129,
    (Scalar.cmpi .ne (Scalar.extui (Scalar.cmpi .slt (BitVec.ofNat 32 x) (BitVec.ofNat 32 y)) : BitVec 32) 0#32
      = 1#1) ↔ x < y := by
  decide +kernel

set_option maxRecDepth 20000 in
theorem above_small : ∀ x < 3, ∀ y < 129,
    (Scalar.cmpi .ne (Scalar.extui (Scalar.cmpi .sgt (BitVec.ofNat 32 y) (BitVec.ofNat 32 x)) : BitVec 32) 0#32
      = 1#1) ↔ x < y := by
  decide +kernel

theorem iv_eq (t : ℕ) : Scf.iv 0#32 1#32 t = BitVec.ofNat 32 t := by
  simp [Scf.iv]

theorem iv3_eq (t : ℕ) : Scalar.addi (Scf.iv 0#32 1#32 t) 3#32 = BitVec.ofNat 32 (t + 3) := by
  rw [iv_eq]
  show BitVec.ofNat 32 t + BitVec.ofNat 32 3 = _
  rw [← BitVec.ofNat_add]

/-- The three chunks issued before the loop are issued when they exist, -/
theorem cond1_iff (d : Dev nD) {n : ℕ} (h : n ≤ 1024) :
    k0_cond1 d (BitVec.ofNat 32 n) = 1#1 ↔ 0 < nmine d n := by
  have hn := nmine_le d h
  refine Iff.trans ?_ (above_small 0 (by omega) (nmine d n) (by omega))
  rw [← nW_eq d h]; exact Iff.rfl

theorem cond2_iff (d : Dev nD) {n : ℕ} (h : n ≤ 1024) :
    k0_cond2 d (BitVec.ofNat 32 n) = 1#1 ↔ 1 < nmine d n := by
  have hn := nmine_le d h
  refine Iff.trans ?_ (above_small 1 (by omega) (nmine d n) (by omega))
  rw [← nW_eq d h]; exact Iff.rfl

theorem cond3_iff (d : Dev nD) {n : ℕ} (h : n ≤ 1024) :
    k0_cond3 d (BitVec.ofNat 32 n) = 1#1 ↔ 2 < nmine d n := by
  have hn := nmine_le d h
  refine Iff.trans ?_ (above_small 2 (by omega) (nmine d n) (by omega))
  rw [← nW_eq d h]; exact Iff.rfl

/-- and trip `t` issues chunk `t + 3` when it exists. -/
theorem cond4_iff (d : Dev nD) {n : ℕ} (h : n ≤ 1024)
    (t : Fin (k0_t1_loop d (BitVec.ofNat 32 n)).trips) :
    k0_cond4 d (BitVec.ofNat 32 n) t = 1#1 ↔ t.val + 3 < nmine d n := by
  have hn := nmine_le d h
  have ht : t.val < nmine d n := (trips1 d h) ▸ t.isLt
  refine Iff.trans ?_ (below_small (t.val + 3) (by omega) (nmine d n) (by omega))
  rw [← nW_eq d h, ← iv3_eq]; exact Iff.rfl

set_option maxRecDepth 20000 in
theorem rem4_small : ∀ x < 132, (Scalar.indexCast (Scalar.remsi (BitVec.ofNat 32 x) 4#32) : Index).toNat = x % 4 := by
  decide +kernel

set_option maxRecDepth 20000 in
theorem rem4_small' : ∀ x < 132, (Scalar.remsi (BitVec.ofNat 32 x) 4#32 : BitVec 32).toNat = x % 4 := by
  decide +kernel

/-- The slot a trip frees and the slot it fills. -/
theorem slotW (t : ℕ) (h : t < 129) : (Scalar.remsi (Scf.iv 0#32 1#32 t) 4#32 : BitVec 32).toNat = t % 4 := by
  rw [iv_eq]; exact rem4_small' t (by omega)

theorem slotW3 (t : ℕ) (h : t < 129) :
    (Scalar.remsi (Scalar.addi (Scf.iv 0#32 1#32 t) 3#32) 4#32 : BitVec 32).toNat = (t + 3) % 4 := by
  rw [iv3_eq]; exact rem4_small' (t + 3) (by omega)

theorem slotI (t : ℕ) (h : t < 129) :
    (Scalar.indexCast (Scalar.remsi (Scf.iv 0#32 1#32 t) 4#32) : Index).toNat = t % 4 := by
  rw [iv_eq]; exact rem4_small t (by omega)

theorem chunkW (d : Dev nD) (t : ℕ) (h : t < 129) :
    (Scalar.indexCast (Scalar.addi (repW d) (Scalar.muli 8#32 (Scf.iv 0#32 1#32 t))) : Index).toNat
      = rep d + 8 * t := by
  have hr := rep_le d
  have : Scalar.addi (repW d) (Scalar.muli 8#32 (Scf.iv 0#32 1#32 t)) = BitVec.ofNat 32 (rep d + 8 * t) := by
    rw [repW_eq, iv_eq]
    apply BitVec.eq_of_toNat_eq
    simp only [Scalar.muli, Scalar.addi, IntOp.muli, IntOp.addi, BitVec.toNat_mul, BitVec.toNat_add, BitVec.toNat_ofNat]
    omega
  rw [this, Scalar.indexCast]
  simp [BitVec.toNat_ofNat]
  omega

theorem chunkW3 (d : Dev nD) (t : ℕ) (h : t < 129) :
    (Scalar.indexCast (Scalar.addi (repW d) (Scalar.muli 8#32 (Scalar.addi (Scf.iv 0#32 1#32 t) 3#32))) : Index).toNat
      = rep d + 8 * (t + 3) := by
  have hr := rep_le d
  have : Scalar.addi (repW d) (Scalar.muli 8#32 (Scalar.addi (Scf.iv 0#32 1#32 t) 3#32))
      = BitVec.ofNat 32 (rep d + 8 * (t + 3)) := by
    rw [repW_eq, iv3_eq]
    apply BitVec.eq_of_toNat_eq
    simp only [Scalar.muli, Scalar.addi, IntOp.muli, IntOp.addi, BitVec.toNat_mul, BitVec.toNat_add, BitVec.toNat_ofNat]
    omega
  rw [this, Scalar.indexCast]
  simp [BitVec.toNat_ofNat]
  omega

/-- Chunk `j` of a device is one of the `n`. -/
theorem chunk_lt (d : Dev nD) {n j : ℕ} (h : j < nmine d n) : rep d + 8 * j < n := by
  unfold nmine at h; omega

/-! A piece of the ring, of its semaphores, or of the tables, read at such a place lies inside. -/

theorem sem_in {w p k : ℕ} (hw : w < 4) (hp : p < 8) (hk : k < 2) :
    ∀ a : Fin 3, (![w, p, k] : Fin 3 → ℕ) a + S1x1x1.size a ≤ S4x8x2.size a := by
  intro a; fin_cases a <;> simp [S1x1x1, S4x8x2] <;> omega

theorem buf_in {w p : ℕ} (hw : w < 4) (hp : p < 8) :
    ∀ a : Fin 5, (![w, p, 0, 0, 0] : Fin 5 → ℕ) a + S1x1x32x16x128.size a ≤ S4x8x32x16x128.size a := by
  intro a; fin_cases a <;> simp [S1x1x32x16x128, S4x8x32x16x128] <;> omega

theorem slot_in {w : ℕ} (hw : w < 4) :
    ∀ a : Fin 5, (![w, 0, 0, 0, 0] : Fin 5 → ℕ) a + S1x8x32x16x128.size a ≤ S4x8x32x16x128.size a := by
  intro a; fin_cases a <;> simp [S1x8x32x16x128, S4x8x32x16x128] <;> omega

theorem tab_in {i j : ℕ} (hi : i < 2) (hj : j < 1024) :
    ∀ a : Fin 2, (![i, j] : Fin 2 → ℕ) a + S1x1.size a ≤ S2x1024.size a := by
  intro a; fin_cases a <;> simp [S1x1, S2x1024] <;> omega

section
variable (d : Dev nD) {n : ℕ} (h : n ≤ 1024)
include h

theorem lt1 (t : Fin (k0_t1_loop d (BitVec.ofNat 32 n)).trips) : t.val < nmine d n :=
  lt_of_lt_of_eq t.isLt (trips1 d h)

theorem no2 (t : Fin (k0_t2_loop d (BitVec.ofNat 32 n)).trips) : False :=
  absurd (lt_of_lt_of_eq t.isLt (trips2 d h)) (by omega)

theorem lt1' (t : Fin (k0_t1_loop d (BitVec.ofNat 32 n)).trips) : t.val < 129 := by
  have := lt1 d h t; have := nmine_le d h; omega

theorem a3 (t : Fin (k0_t1_loop d (BitVec.ofNat 32 n)).trips) :
    (Scalar.remsi (Scalar.addi (Scf.iv 0#32 1#32 t.val) 3#32) 4#32 : BitVec 32).toNat < 4 := by
  rw [slotW3 _ (lt1' d h t)]; omega

theorem a0 (t : Fin (k0_t1_loop d (BitVec.ofNat 32 n)).trips) :
    (Scalar.remsi (Scf.iv 0#32 1#32 t.val) 4#32 : BitVec 32).toNat < 4 := by
  rw [slotW _ (lt1' d h t)]; omega

theorem aI (t : Fin (k0_t1_loop d (BitVec.ofNat 32 n)).trips) :
    (Scalar.indexCast (Scalar.remsi (Scf.iv 0#32 1#32 t.val) 4#32) : Index).toNat < 4 := by
  rw [slotI _ (lt1' d h t)]; omega

theorem c0 (t : Fin (k0_t1_loop d (BitVec.ofNat 32 n)).trips) :
    (Scalar.indexCast (Scalar.addi (repW d) (Scalar.muli 8#32 (Scf.iv 0#32 1#32 t.val))) : Index).toNat < 1024 := by
  rw [chunkW _ _ (lt1' d h t)]; have := chunk_lt d (lt1 d h t); omega

theorem c3 (t : Fin (k0_t1_loop d (BitVec.ofNat 32 n)).trips) (h4 : k0_cond4 d (BitVec.ofNat 32 n) t = 1#1) :
    (Scalar.indexCast (Scalar.addi (repW d) (Scalar.muli 8#32 (Scalar.addi (Scf.iv 0#32 1#32 t.val) 3#32))) : Index).toNat
      < 1024 := by
  have := (cond4_iff d h t).1 h4
  rw [chunkW3 _ _ (lt1' d h t)]; have := chunk_lt d this; omega

end

/-! With at most 1024 live chunks every place the body names lies inside. -/

theorem chk28_0 (d : Dev nD) {n : ℕ} (h : n ≤ 1024) : k0_chk28_0 d (BitVec.ofNat 32 n) :=
  ⟨ok1 d h,
   fun t h4 => tab_in (i := 0) (by decide) (c3 d h t h4),
   fun t h4 => tab_in (i := 1) (by decide) (c3 d h t h4),
   fun t h4 => sem_in (p := 0) (k := 0) (a3 d h t) (by decide) (by decide),
   fun t h4 => buf_in (p := 0) (a3 d h t) (by decide),
   fun t h4 => sem_in (p := 0) (k := 1) (a3 d h t) (by decide) (by decide),
   fun t h4 => buf_in (p := 0) (a3 d h t) (by decide),
   fun t h4 => sem_in (p := 1) (k := 0) (a3 d h t) (by decide) (by decide),
   fun t h4 => buf_in (p := 1) (a3 d h t) (by decide),
   fun t h4 => sem_in (p := 1) (k := 1) (a3 d h t) (by decide) (by decide),
   fun t h4 => buf_in (p := 1) (a3 d h t) (by decide),
   fun t h4 => sem_in (p := 2) (k := 0) (a3 d h t) (by decide) (by decide),
   fun t h4 => buf_in (p := 2) (a3 d h t) (by decide),
   fun t h4 => sem_in (p := 2) (k := 1) (a3 d h t) (by decide) (by decide),
   fun t h4 => buf_in (p := 2) (a3 d h t) (by decide),
   fun t h4 => sem_in (p := 3) (k := 0) (a3 d h t) (by decide) (by decide),
   fun t h4 => buf_in (p := 3) (a3 d h t) (by decide),
   fun t h4 => sem_in (p := 3) (k := 1) (a3 d h t) (by decide) (by decide),
   fun t h4 => buf_in (p := 3) (a3 d h t) (by decide),
   fun t h4 => sem_in (p := 4) (k := 0) (a3 d h t) (by decide) (by decide),
   fun t h4 => buf_in (p := 4) (a3 d h t) (by decide),
   fun t h4 => sem_in (p := 4) (k := 1) (a3 d h t) (by decide) (by decide),
   fun t h4 => buf_in (p := 4) (a3 d h t) (by decide),
   fun t h4 => sem_in (p := 5) (k := 0) (a3 d h t) (by decide) (by decide),
   fun t h4 => buf_in (p := 5) (a3 d h t) (by decide),
   fun t h4 => sem_in (p := 5) (k := 1) (a3 d h t) (by decide) (by decide),
   fun t h4 => buf_in (p := 5) (a3 d h t) (by decide),
   fun t h4 => sem_in (p := 6) (k := 0) (a3 d h t) (by decide) (by decide),
   fun t h4 => buf_in (p := 6) (a3 d h t) (by decide),
   fun t h4 => sem_in (p := 6) (k := 1) (a3 d h t) (by decide) (by decide),
   fun t h4 => buf_in (p := 6) (a3 d h t) (by decide),
   fun t h4 => sem_in (p := 7) (k := 0) (a3 d h t) (by decide) (by decide)⟩

theorem chk28_1 (d : Dev nD) {n : ℕ} (h : n ≤ 1024) : k0_chk28_1 d (BitVec.ofNat 32 n) :=
  ⟨fun t h4 => buf_in (p := 7) (a3 d h t) (by decide),
   fun t h4 => sem_in (p := 7) (k := 1) (a3 d h t) (by decide) (by decide),
   fun t h4 => buf_in (p := 7) (a3 d h t) (by decide),
   fun t => tab_in (i := 0) (by decide) (c0 d h t),
   fun t => tab_in (i := 1) (by decide) (c0 d h t),
   fun t => sem_in (p := 0) (k := 0) (a0 d h t) (by decide) (by decide),
   fun t => buf_in (p := 0) (a0 d h t) (by decide),
   fun t => sem_in (p := 0) (k := 1) (a0 d h t) (by decide) (by decide),
   fun t => buf_in (p := 0) (a0 d h t) (by decide),
   fun t => sem_in (p := 1) (k := 0) (a0 d h t) (by decide) (by decide),
   fun t => buf_in (p := 1) (a0 d h t) (by decide),
   fun t => sem_in (p := 1) (k := 1) (a0 d h t) (by decide) (by decide),
   fun t => buf_in (p := 1) (a0 d h t) (by decide),
   fun t => sem_in (p := 2) (k := 0) (a0 d h t) (by decide) (by decide),
   fun t => buf_in (p := 2) (a0 d h t) (by decide),
   fun t => sem_in (p := 2) (k := 1) (a0 d h t) (by decide) (by decide),
   fun t => buf_in (p := 2) (a0 d h t) (by decide),
   fun t => sem_in (p := 3) (k := 0) (a0 d h t) (by decide) (by decide),
   fun t => buf_in (p := 3) (a0 d h t) (by decide),
   fun t => sem_in (p := 3) (k := 1) (a0 d h t) (by decide) (by decide),
   fun t => buf_in (p := 3) (a0 d h t) (by decide),
   fun t => sem_in (p := 4) (k := 0) (a0 d h t) (by decide) (by decide),
   fun t => buf_in (p := 4) (a0 d h t) (by decide),
   fun t => sem_in (p := 4) (k := 1) (a0 d h t) (by decide) (by decide),
   fun t => buf_in (p := 4) (a0 d h t) (by decide),
   fun t => sem_in (p := 5) (k := 0) (a0 d h t) (by decide) (by decide),
   fun t => buf_in (p := 5) (a0 d h t) (by decide),
   fun t => sem_in (p := 5) (k := 1) (a0 d h t) (by decide) (by decide),
   fun t => buf_in (p := 5) (a0 d h t) (by decide),
   fun t => sem_in (p := 6) (k := 0) (a0 d h t) (by decide) (by decide),
   fun t => buf_in (p := 6) (a0 d h t) (by decide),
   fun t => sem_in (p := 6) (k := 1) (a0 d h t) (by decide) (by decide)⟩

theorem chk28_2 (d : Dev nD) {n : ℕ} (h : n ≤ 1024) : k0_chk28_2 d (BitVec.ofNat 32 n) :=
  ⟨fun t => buf_in (p := 6) (a0 d h t) (by decide),
   fun t => sem_in (p := 7) (k := 0) (a0 d h t) (by decide) (by decide),
   fun t => buf_in (p := 7) (a0 d h t) (by decide),
   fun t => sem_in (p := 7) (k := 1) (a0 d h t) (by decide) (by decide),
   fun t => buf_in (p := 7) (a0 d h t) (by decide),
   fun t => tab_in (i := 0) (by decide) (c0 d h t),
   fun t => tab_in (i := 1) (by decide) (c0 d h t),
   fun t => slot_in (aI d h t),
   ok2 d h,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim⟩

theorem chk28_3 (d : Dev nD) {n : ℕ} (h : n ≤ 1024) : k0_chk28_3 d (BitVec.ofNat 32 n) :=
  ⟨fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim⟩

theorem chk28_4 (d : Dev nD) {n : ℕ} (h : n ≤ 1024) : k0_chk28_4 d (BitVec.ofNat 32 n) :=
  ⟨fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim,
   fun t => (no2 d h t).elim⟩

theorem chk28 (d : Dev nD) {n : ℕ} (h : n ≤ 1024) : k0_chk28 d (BitVec.ofNat 32 n) :=
  ⟨chk28_0 d h, chk28_1 d h, chk28_2 d h, chk28_3 d h, chk28_4 d h⟩

end Cert.KProof
-- ==== Proof.Pages.lean ====
/-
  The copies of one chunk: sixteen cells of one slot, page by page, and the steps that start and await the two copies
  of a page.
-/
module

public import proofs.«01_k».proof.Proof.Rules

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The memrefs of the two rings and the two pools, the ring's semaphores, and the pools' contents. -/
structure Rings (F : FTy → Type) [FloatOps F] (c : Dev nD) where
  A : DmaSems sig S4x8x2
  bk : Ring5
  bv : Ring5
  km : Pool4
  vm : Pool4
  fk : Buf (Elt F) (km.view.loc (c : Thread nD τ))
  fv : Buf (Elt F) (vm.view.loc (c : Thread nD τ))

/-- The share of a pool that one page of one slot holds. -/
def shr (s : Fin 4) (p : Fin 8) : PosShare TreeShare := shareTok fullShare 32 (finProdFinEquiv (s, p))

variable {c : Dev nD} (G : Rings F c)

def FreeP (s : Fin 4) (p : Fin 8) : sProp (MT nD τ sig Unit (Elt F) ℕ UU ℕ) :=
  iprop(Free G.A c G.bk G.km 0 (shr s p) G.fk s p ∗ Free G.A c G.bv G.vm 1 (shr s p) G.fv s p)

def InflP (s : Fin 4) (p : Fin 8) (g : Fin 256) : sProp (MT nD τ sig Unit (Elt F) ℕ UU ℕ) :=
  iprop(Infl G.A c G.bk G.km 0 (shr s p) G.fk s p g ∗ Infl G.A c G.bv G.vm 1 (shr s p) G.fv s p g)

def DoneP (s : Fin 4) (p : Fin 8) (g : Fin 256) : sProp (MT nD τ sig Unit (Elt F) ℕ UU ℕ) :=
  iprop(Done G.A c G.bk G.km 0 (shr s p) G.fk s p g ∗ Done G.A c G.bv G.vm 1 (shr s p) G.fv s p g)

/-- The slot with nothing in flight. -/
def FreeS (s : Fin 4) : sProp (MT nD τ sig Unit (Elt F) ℕ UU ℕ) := bigSep Finset.univ fun p : Fin 8 => FreeP G s p

/-- The slot with the given pages in flight. -/
def InflS (s : Fin 4) (g : Fin 8 → Fin 256) : sProp (MT nD τ sig Unit (Elt F) ℕ UU ℕ) :=
  bigSep Finset.univ fun p : Fin 8 => InflP G s p (g p)

variable {Λ : Labels} {defs : Defs nD τ sig (Elt F) Λ} {α : Type} {Q : α → sProp (MT nD τ sig Unit (Elt F) ℕ UU ℕ)}

/-- A page's number is read and its two copies are started. -/
theorem wp_pageIssue {s : Fin 4} {p : Fin 8} (g : Fin 256)
    {m : Memref sig .tc .smem S32x256 .i32} {q : PosShare TreeShare} {X : S32x256.Idx → Elt F .i32}
    (x : S32x256.Idx) {o2 : Fin 2 → ℕ} {h2} {hn} {hp} (e2 : ∀ a, o2 a = (x a).val)
    {P : Elt F .i32 → Prop} {dec : ∀ v, Decidable (P v)} (hP : P (X x))
    {o5 : Fin 5 → ℕ} {h5} (e5 : o5 = ![s.val, p.val, 0, 0, 0]) {o3 : Fin 3 → ℕ} {h3} (e3 : o3 = ![s.val, p.val, 0])
    {o5' : Fin 5 → ℕ} {h5'} (e5' : o5' = ![s.val, p.val, 0, 0, 0]) {o3' : Fin 3 → ℕ} {h3'} (e3' : o3' = ![s.val, p.val, 1])
    {o4 : Elt F .i32 → Fin 4 → ℕ} (h4 : ∀ v, P v → ∀ a, o4 v a + S1x32x16x128.size a ≤ S256x32x16x128.size a)
    (e4 : o4 (X x) = ![g.val, 0, 0, 0])
    {K : (v : Elt F .i32) → PLift (P v) → Prog (TpuEff nD τ sig (Elt F) Λ .tc) α} :
    iprop(owns (c : Thread nD τ) m q X ∗ FreeP G s p)
      ⊢ iprop((iprop(owns (c : Thread nD τ) m q X ∗ InflP G s p g)
          -∗ wp frame (wpE defs 𝒱₀ (c : Thread nD τ) none) Set.univ (K (X x) ⟨hP⟩) Q)
        -∗ wp frame (wpE defs 𝒱₀ (c : Thread nD τ) none) Set.univ
          (smemLoad m (Rect.unit (s := S32x256) o2 S1x1.size h2) hn hp >>= fun v => .op (.assume (P v) (dec v)) fun w =>
            .op (.enqueueDma (srcM G.km (o4 v) (h4 v w.down)) (.here (dstM G.bk o5 h5)) (.dma (cellM G.A o3 h3))
              ((View.wordExact_bits rfl).reshape _ _) ((View.wordExact_bits rfl).reshape _ _) ⟨Or.inl rfl, trivial⟩) fun _ =>
            .op (.enqueueDma (srcM G.vm (o4 v) (h4 v w.down)) (.here (dstM G.bv o5' h5')) (.dma (cellM G.A o3' h3'))
              ((View.wordExact_bits rfl).reshape _ _) ((View.wordExact_bits rfl).reshape _ _) ⟨Or.inl rfl, trivial⟩) fun _ => K v w) Q) := by
  unfold FreeP InflP
  iintro ⟨H0, HK, HV⟩ Hc
  iapply (wp_word (Q := Q) (defs := defs) (q := q) c x e2 (by decide)) $$ H0
  iintro H0
  iapply (wp_assume 𝒱₀ (c : Thread nD τ) none Set.univ hP)
  iapply (wp_issue (Q := Q) (k := 0) G.A c g e5 e4 e3) $$ HK
  iintro HK
  iapply (wp_issue (Q := Q) (k := 1) G.A c g e5' e4 e3') $$ HV
  iintro HV
  iapply Hc
  isplitl [H0]; · iexact H0
  isplitl [HK]; · iexact HK
  iexact HV

/-- A page's number is read and its two copies are awaited. -/
theorem wp_pageAwait {s : Fin 4} {p : Fin 8} {g : Fin 256}
    {m : Memref sig .tc .smem S32x256 .i32} {q : PosShare TreeShare} {X : S32x256.Idx → Elt F .i32}
    (x : S32x256.Idx) {o2 : Fin 2 → ℕ} {h2} {hn} {hp} (e2 : ∀ a, o2 a = (x a).val)
    {P : Elt F .i32 → Prop} {dec : ∀ v, Decidable (P v)} (hP : P (X x))
    {o5 : Fin 5 → ℕ} {h5} (e5 : o5 = ![s.val, p.val, 0, 0, 0]) {o3 : Fin 3 → ℕ} {h3} (e3 : o3 = ![s.val, p.val, 0])
    {o5' : Fin 5 → ℕ} {h5'} (e5' : o5' = ![s.val, p.val, 0, 0, 0]) {o3' : Fin 3 → ℕ} {h3'} (e3' : o3' = ![s.val, p.val, 1])
    {o4 : Elt F .i32 → Fin 4 → ℕ} (h4 : ∀ v, P v → ∀ a, o4 v a + S1x32x16x128.size a ≤ S256x32x16x128.size a)
    {O : CellTallies nD τ sig Unit}
    {K : (v : Elt F .i32) → PLift (P v) → Prog (TpuEff nD τ sig (Elt F) Λ .tc) α} :
    iprop(owns (c : Thread nD τ) m q X ∗ InflP G s p g ∗ (∃ W, owes (c : Thread nD τ) O W) ∗ MayLocal G.A c O)
      ⊢ iprop((iprop(owns (c : Thread nD τ) m q X ∗ DoneP G s p g ∗ ∃ W, owes (c : Thread nD τ) O W)
          -∗ wp frame (wpE defs 𝒱₀ (c : Thread nD τ) none) Set.univ (K (X x) ⟨hP⟩) Q)
        -∗ wp frame (wpE defs 𝒱₀ (c : Thread nD τ) none) Set.univ
          (smemLoad m (Rect.unit (s := S32x256) o2 S1x1.size h2) hn hp >>= fun v => .op (.assume (P v) (dec v)) fun w =>
            .op (.waitDma2 (cellM G.A o3 h3) (srcM G.km (o4 v) (h4 v w.down)) (dstM G.bk o5 h5)
              ((View.wordExact_bits rfl).reshape _ _) ((View.wordExact_bits rfl).reshape _ _)) fun _ =>
            .op (.waitDma2 (cellM G.A o3' h3') (srcM G.vm (o4 v) (h4 v w.down)) (dstM G.bv o5' h5')
              ((View.wordExact_bits rfl).reshape _ _) ((View.wordExact_bits rfl).reshape _ _)) fun _ => K v w) Q) := by
  unfold DoneP InflP
  iintro ⟨H0, ⟨HK, HV⟩, ⟨%W, Ho⟩, #Hm⟩ Hc
  iapply (wp_word (Q := Q) (defs := defs) (q := q) c x e2 (by decide)) $$ H0
  iintro H0
  iapply (wp_assume 𝒱₀ (c : Thread nD τ) none Set.univ hP)
  iapply (wp_await (Q := Q) (k := 0) G.A c e5 e3) $$ [HK Ho]
  · isplitl [HK]; · iexact HK
    isplitl [Ho]; · iexact Ho
    iexact Hm
  iintro ⟨HK, Ho⟩
  iapply (wp_await (Q := Q) (k := 1) G.A c e5' e3') $$ [HV Ho]
  · isplitl [HV]; · iexact HV
    isplitl [Ho]; · iexact Ho
    iexact Hm
  iintro ⟨HV, Ho⟩
  iapply Hc
  isplitl [H0]; · iexact H0
  isplitl [HK HV]
  · isplitl [HK]; · iexact HK
    iexact HV
  iexists _
  iexact Ho

end Cert.KProof

end
-- ==== Proof.Tables.lean ====
/-
  The tables of a device: chunk `g` is a pair (row of the block table, eighth of the row), and its pages are eight
  consecutive entries of that row.
-/
module

public import proofs.«01_k».proof.Proof.Words
public import proofs.«01_k».proof.Proof.Pages

@[expose] public section

set_option maxRecDepth 8192

noncomputable section

namespace Cert.KProof

open Cert.KernelIdeal Cert.KernelIdeal.Gen
open Idealize.ShloMosaic

/-- The entry of the block table that holds page `p` of the chunk `(b, l)`. -/
def pgX (b l : BitVec 32) (p : Fin 8) : S32x256.Idx :=
  ix2 (⟨b.toNat % 32, Nat.mod_lt _ (by decide)⟩ : Fin 32) (⟨(8 * l.toNat + p.val) % 256, Nat.mod_lt _ (by decide)⟩ : Fin 256)

/-- The page there. -/
def pgN (X0 : S32x256.Idx → BitVec 32) (b l : BitVec 32) (p : Fin 8) : Fin 256 :=
  ⟨(X0 (pgX b l p)).toNat % 256, Nat.mod_lt _ (by decide)⟩

/-- The words of chunk `g`. -/
def cX (r : Fin 2) (g : ℕ) : S2x1024.Idx := ix2 r (⟨g % 1024, Nat.mod_lt _ (by decide)⟩ : Fin 1024)

/-- The tables name rows, eighths and pages that exist. -/
structure Good (X0 : S32x256.Idx → BitVec 32) (X2 : S2x1024.Idx → BitVec 32) (n : ℕ) : Prop where
  n_le : n ≤ 1024
  page : ∀ x, (X0 x).toNat < 256
  chunk : ∀ r g, g < n → (X2 (cX r g)).toNat < 32

theorem row_small : ∀ x < 32, (Scalar.indexCast (BitVec.ofNat 32 x) : Index).toNat = x := by decide +kernel

theorem loc_small : ∀ x < 32, ∀ p < 8,
    (Scalar.indexCast (Scalar.addi (Scalar.muli (BitVec.ofNat 32 x) 8#32) (BitVec.ofNat 32 p)) : Index).toNat = 8 * x + p := by
  decide +kernel

theorem row_word (b : BitVec 32) (h : b.toNat < 32) : (Scalar.indexCast b : Index).toNat = b.toNat := by
  have := row_small b.toNat h
  rwa [BitVec.ofNat_toNat, BitVec.setWidth_eq] at this

theorem loc_word (l : BitVec 32) (h : l.toNat < 32) (p : ℕ) (hp : p < 8) :
    (Scalar.indexCast (Scalar.addi (Scalar.muli l 8#32) (BitVec.ofNat 32 p)) : Index).toNat = 8 * l.toNat + p := by
  have := loc_small l.toNat h p hp
  rwa [BitVec.ofNat_toNat, BitVec.setWidth_eq] at this

/-- The offsets a page's number is read at, as the body computes them. -/
theorem pgX_off {b l : BitVec 32} (hb : b.toNat < 32) (hl : l.toNat < 32) (p : Fin 8) :
    ∀ a : Fin 2, (![(Scalar.indexCast b : Index).toNat,
      (Scalar.indexCast (Scalar.addi (Scalar.muli l 8#32) (BitVec.ofNat 32 p.val)) : Index).toNat] : Fin 2 → ℕ) a = (pgX b l p a).val := by
  have hp := p.isLt
  intro a
  fin_cases a
  · show (Scalar.indexCast b : Index).toNat = b.toNat % 32
    rw [row_word b hb, Nat.mod_eq_of_lt hb]
  · show (Scalar.indexCast (Scalar.addi (Scalar.muli l 8#32) (BitVec.ofNat 32 p.val)) : Index).toNat = (8 * l.toNat + p.val) % 256
    rw [loc_word l hl _ hp, Nat.mod_eq_of_lt (by omega)]

theorem pgX_in {b l : BitVec 32} (hb : b.toNat < 32) (hl : l.toNat < 32) (p : Fin 8) :
    ∀ a : Fin 2, (![(Scalar.indexCast b : Index).toNat,
      (Scalar.indexCast (Scalar.addi (Scalar.muli l 8#32) (BitVec.ofNat 32 p.val)) : Index).toNat] : Fin 2 → ℕ) a + S1x1.size a ≤ S32x256.size a := by
  intro a
  rw [pgX_off hb hl p a]
  have := (pgX b l p a).isLt
  have h1 : ∀ a, S1x1.size a = 1 := by decide
  have := h1 a
  omega

theorem page_in {v : BitVec 32} (h : v.toNat < 256) :
    ∀ a : Fin 4, (![v.toNat, 0, 0, 0] : Fin 4 → ℕ) a + S1x32x16x128.size a ≤ S256x32x16x128.size a := o4_inb ⟨v.toNat, h⟩

theorem pgN_off {X0 : S32x256.Idx → BitVec 32} (h : ∀ x, (X0 x).toNat < 256) (b l : BitVec 32) (p : Fin 8) :
    (![(X0 (pgX b l p)).toNat, 0, 0, 0] : Fin 4 → ℕ) = ![(pgN X0 b l p).val, 0, 0, 0] := by
  show _ = ![(X0 (pgX b l p)).toNat % 256, 0, 0, 0]
  rw [Nat.mod_eq_of_lt (h _)]

/-- The offsets a chunk's words are read at. -/
theorem cX_off (r : Fin 2) {o g : ℕ} (e : o = g) (h : g < 1024) : ∀ a : Fin 2, (![r.val, o] : Fin 2 → ℕ) a = (cX r g a).val := by
  intro a
  fin_cases a
  · rfl
  · show o = g % 1024
    rw [e, Nat.mod_eq_of_lt h]

end Cert.KProof

end
-- ==== Proof.Issue.lean ====
/-
  The start of a chunk's sixteen copies: its two words are read, then each page's number is read and its two copies are
  started. Once for the chunk that a trip of the loop starts ahead, and once for each of the first three chunks.
-/
module

public import proofs.«01_k».proof.Proof.Tables

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

theorem chunkF0 (d : Dev nD) : (Scalar.indexCast (Scalar.addi (repW d) 0#32) : Index).toNat = rep d + 8 * 0 := by revert d; decide
theorem chunkF1 (d : Dev nD) : (Scalar.indexCast (Scalar.addi (repW d) 8#32) : Index).toNat = rep d + 8 * 1 := by revert d; decide
theorem chunkF2 (d : Dev nD) : (Scalar.indexCast (Scalar.addi (repW d) 16#32) : Index).toNat = rep d + 8 * 2 := by revert d; decide

variable (arg0 : Memref sig .tc .smem S32x256 .i32) (harg0 : arg0.IsWhole) (arg1 : Memref sig .tc .smem S32 .i32) (harg1 : arg1.IsWhole) (arg2 : Memref sig .tc .smem S2x1024 .i32) (harg2 : arg2.IsWhole) (arg3 : Memref sig .tc .smem S1 .i32) (harg3 : arg3.IsWhole) (arg4 : Memref sig .tc .vmem S32x16x128 .f32) (harg4 : arg4.IsWhole) (arg5 : Memref sig .tc .hbm S256x32x16x128 .f32) (harg5 : arg5.IsWhole) (arg6 : Memref sig .tc .hbm S256x32x16x128 .f32) (harg6 : arg6.IsWhole) (arg7 : Memref sig .tc .vmem S32x16x128 .f32) (harg7 : arg7.IsWhole) (arg8 : Memref sig .tc .vmem S32x16x128 .f32) (harg8 : arg8.IsWhole) (arg9 : Memref sig .tc .vmem S32x16 .f32) (harg9 : arg9.IsWhole) (arg10 : Memref sig .tc .vmem S4x32x16x128 .f32) (harg10 : arg10.IsWhole) (arg11 : Memref sig .tc .vmem S4x32x16 .f32) (harg11 : arg11.IsWhole) (arg12 : Memref sig .tc .vmem S4x8x32x16x128 .f32) (harg12 : arg12.IsWhole) (arg13 : Memref sig .tc .vmem S4x8x32x16x128 .f32) (harg13 : arg13.IsWhole) (arg14 : DmaSems sig S4x8x2) (arg15 : DmaSems sig S4x2) (arg16 : DmaSems sig S4x2) (v356_r0 : Sems sig S_)
variable {defs : Defs nD τ sig (Elt F) Λ₀} {α : Type} {Q : α → sProp (MT nD τ sig Unit (Elt F) ℕ UU ℕ)}

/-- The two rings, with the pools' contents. -/
abbrev RR (d : Dev nD) (arg5 arg6 : Pool4) (arg12 arg13 : Ring5) (arg14 : DmaSems sig S4x8x2)
    (fk : Buf (Elt F) (arg5.view.loc (d : Thread nD τ))) (fv : Buf (Elt F) (arg6.view.loc (d : Thread nD τ))) : Rings F d :=
  ⟨arg14, arg12, arg13, arg5, arg6, fk, fv⟩

/-- The copies a trip starts, followed by the rest. -/
def blockAhead (d0 : Dev nD) {n : ℕ} (hw : k0_chk28 d0 (BitVec.ofNat 32 n)) (t : Fin (k0_t1_loop d0 (BitVec.ofNat 32 n)).trips) (h4 : k0_cond4 d0 (BitVec.ofNat 32 n) t = 1#1) (v11 arg17 : BitVec 32) {α : Type}
    (K : Prog (TpuEff nD τ sig (Elt F) Λ₀ .tc) α) : Prog (TpuEff nD τ sig (Elt F) Λ₀ .tc) α := do
      let ⟨v582, v584, k0_hw29⟩ : Σ' (v582 : Elt F .i32) (v584 : Elt F .i32), k0_chk29 d0 (BitVec.ofNat 32 n) t v582 v584 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw v11 t arg17 h4
      let ⟨v623, k0_hw32⟩ : Σ' (v623 : Elt F .i32), k0_chk32 d0 (BitVec.ofNat 32 n) t v623 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t h4 v582 v584 k0_hw29
      k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t h4 v582 v584 k0_hw29 v623 k0_hw32
      let ⟨v674, k0_hw35⟩ : Σ' (v674 : Elt F .i32), k0_chk35 d0 (BitVec.ofNat 32 n) t v674 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t h4 v582 v584 k0_hw29
      k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t h4 v582 v584 k0_hw29 v674 k0_hw35
      let v708 : Elt F .i32 ← smemLoad arg0 (Rect.unit (s := S32x256) (k0_off195 v582 v584) S1x1.size (k0_off195_inb d0 (BitVec.ofNat 32 n) t v582 v584 k0_hw29 h4)) numel1_S1x1 rfl
      have k0_hw37 : k0_chk37 d0 (BitVec.ofNat 32 n) t v708 := (← Prog.lift (TpuEff.assume (k0_chk37 d0 (BitVec.ofNat 32 n) t v708) (k0_chk37.dec d0 (BitVec.ofNat 32 n) t v708))).down
      let v709 : DmaSems sig S1x1x1 := arg14.slice (Rect.unit (s := S4x8x2) (k0_off196 d0 (BitVec.ofNat 32 n) t) S1x1x1.size (k0_off196_inb d0 (BitVec.ofNat 32 n) hw t h4))
      let v710 : DmaSems sig S_ := v709.squeeze S_ squeezes_S1x1x1_S_
      let v711 : Memref sig .tc .vmem S1x1x32x16x128 .f32 := arg12.slice (Rect.unit (s := S4x8x32x16x128) (k0_off197 d0 (BitVec.ofNat 32 n) t) S1x1x32x16x128.size (k0_off197_inb d0 (BitVec.ofNat 32 n) hw t h4)) (fun _ => rfl)
      let v712 : Memref sig .tc .vmem S32x16x128 .f32 := v711.squeeze S32x16x128 squeezes_S1x1x32x16x128_S32x16x128
      let v713 : Memref sig .tc .hbm S1x32x16x128 .f32 := arg5.slice (Rect.unit (s := S256x32x16x128) (k0_off198 v708) S1x32x16x128.size (k0_off198_inb d0 (BitVec.ofNat 32 n) t v708 k0_hw37 h4)) (fun _ => rfl)
      let v714 : Memref sig .tc .hbm S32x16x128 .f32 := v713.squeeze S32x16x128 squeezes_S1x32x16x128_S32x16x128
      Prog.lift (.enqueueDma v714 (.here v712) (.dma v710.sem) ((View.wordExact_bits rfl).reshape _ _) ((View.wordExact_bits rfl).reshape _ _) ⟨Or.inl rfl, trivial⟩)
      let v715 : DmaSems sig S1x1x1 := arg14.slice (Rect.unit (s := S4x8x2) (k0_off199 d0 (BitVec.ofNat 32 n) t) S1x1x1.size (k0_off199_inb d0 (BitVec.ofNat 32 n) hw t h4))
      let v716 : DmaSems sig S_ := v715.squeeze S_ squeezes_S1x1x1_S_
      let v717 : Memref sig .tc .vmem S1x1x32x16x128 .f32 := arg13.slice (Rect.unit (s := S4x8x32x16x128) (k0_off200 d0 (BitVec.ofNat 32 n) t) S1x1x32x16x128.size (k0_off200_inb d0 (BitVec.ofNat 32 n) hw t h4)) (fun _ => rfl)
      let v718 : Memref sig .tc .vmem S32x16x128 .f32 := v717.squeeze S32x16x128 squeezes_S1x1x32x16x128_S32x16x128
      let v719 : Memref sig .tc .hbm S1x32x16x128 .f32 := arg6.slice (Rect.unit (s := S256x32x16x128) (k0_off198 v708) S1x32x16x128.size (k0_off198_inb d0 (BitVec.ofNat 32 n) t v708 k0_hw37 h4)) (fun _ => rfl)
      let v720 : Memref sig .tc .hbm S32x16x128 .f32 := v719.squeeze S32x16x128 squeezes_S1x32x16x128_S32x16x128
      Prog.lift (.enqueueDma v720 (.here v718) (.dma v716.sem) ((View.wordExact_bits rfl).reshape _ _) ((View.wordExact_bits rfl).reshape _ _) ⟨Or.inl rfl, trivial⟩)
      K

set_option maxHeartbeats 4000000 in
/-- In a trip: the chunk three ahead, if there is one. -/
theorem issue_ahead (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (t : Fin (k0_t1_loop d0 (BitVec.ofNat 32 n)).trips) (h4 : k0_cond4 d0 (BitVec.ofNat 32 n) t = 1#1) (v11 arg17 : BitVec 32)
    (K : Prog (TpuEff nD τ sig (Elt F) Λ₀ .tc) α) :
    iprop(owns (d0 : Thread nD τ) arg0 q0 X0 ∗ owns (d0 : Thread nD τ) arg2 q2 X2 ∗ FreeS (RR d0 arg5 arg6 arg12 arg13 arg14 fk fv) ⟨(t.val + 3) % 4, Nat.mod_lt _ (by decide)⟩)
      ⊢ iprop((iprop(owns (d0 : Thread nD τ) arg0 q0 X0 ∗ owns (d0 : Thread nD τ) arg2 q2 X2
            ∗ InflS (RR d0 arg5 arg6 arg12 arg13 arg14 fk fv) ⟨(t.val + 3) % 4, Nat.mod_lt _ (by decide)⟩
              (pgN X0 (X2 (cX 0 (rep d0 + 8 * (t.val + 3)))) (X2 (cX 1 (rep d0 + 8 * (t.val + 3))))))
          -∗ wp frame (wpE defs 𝒱₀ (d0 : Thread nD τ) none) Set.univ K Q)
        -∗ wp frame (wpE defs 𝒱₀ (d0 : Thread nD τ) none) Set.univ (blockAhead arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw t h4 v11 arg17 K) Q) := by
  have hn3 := (cond4_iff d0 hg.n_le t).1 h4
  have ht := lt1' d0 hg.n_le t
  have hlt := chunk_lt d0 hn3
  have hle := hg.n_le
  have hb := hg.chunk 0 _ hlt
  have hl := hg.chunk 1 _ hlt
  have hs3 := slotW3 t.val ht
  unfold blockAhead
  simp only [k0_part16_eq_skeleton, k0_part17_eq_skeleton, k0_part18_eq_skeleton, k0_part19_eq_skeleton, k0_part20_eq_skeleton,
    k0_part16_skel, k0_part17_skel, k0_part18_skel, k0_part19_skel, k0_part20_skel,
    Prog.lift, Prog.bind_assoc, Prog.bind_op, Prog.bind_ret, Prog.pure_eq_ret]
  unfold FreeS InflS
  rw [fin8, fin8]
  iintro ⟨H0, H2, F0, F1, F2, F3, F4, F5, F6, F7⟩ Hc
  iapply (wp_word (Q := Q) (defs := defs) (q := q2) d0 (cX 0 (rep d0 + 8 * (t.val + 3))) (cX_off 0 (chunkW3 d0 t.val ht) (by omega)) (by decide)) $$ H2
  iintro H2
  iapply (wp_word (Q := Q) (defs := defs) (q := q2) d0 (cX 1 (rep d0 + 8 * (t.val + 3))) (cX_off 1 (chunkW3 d0 t.val ht) (by omega)) (by decide)) $$ H2
  iintro H2
  iapply (wp_assume 𝒱₀ (d0 : Thread nD τ) none Set.univ
    (show k0_chk29 d0 (BitVec.ofNat 32 n) t _ _ from
      ⟨fun _ => pgX_in hb hl 0, fun _ => pgX_in hb hl 1, fun _ => pgX_in hb hl 2, fun _ => pgX_in hb hl 3, fun _ => pgX_in hb hl 4, fun _ => pgX_in hb hl 5,
        fun _ => pgX_in hb hl 6, fun _ => pgX_in hb hl 7⟩))
  iapply (wp_pageIssue (Q := Q) (defs := defs) (q := q0) (RR d0 arg5 arg6 arg12 arg13 arg14 fk fv) (s := ⟨(t.val + 3) % 4, Nat.mod_lt _ (by decide)⟩) (p := 0) (pgN X0 _ _ 0) (pgX _ _ 0) (pgX_off hb hl 0)
    (P := fun v => k0_chk30 d0 (BitVec.ofNat 32 n) t v) (fun _ => page_in (hg.page _)) (congrArg (fun w => ![w, 0, 0, 0, 0]) hs3) (congrArg (fun w => ![w, 0, 0]) hs3)
    (congrArg (fun w => ![w, 0, 0, 0, 0]) hs3) (congrArg (fun w => ![w, 0, 1]) hs3)
    (fun v hv => k0_off156_inb d0 (BitVec.ofNat 32 n) t v hv h4) (pgN_off hg.page _ _ 0)) $$ [H0 F0]
  · isplitl [H0]; · iexact H0
    iexact F0
  iintro ⟨H0, F0⟩
  iapply (wp_pageIssue (Q := Q) (defs := defs) (q := q0) (RR d0 arg5 arg6 arg12 arg13 arg14 fk fv) (s := ⟨(t.val + 3) % 4, Nat.mod_lt _ (by decide)⟩) (p := 1) (pgN X0 _ _ 1) (pgX _ _ 1) (pgX_off hb hl 1)
    (P := fun v => k0_chk31 d0 (BitVec.ofNat 32 n) t v) (fun _ => page_in (hg.page _)) (congrArg (fun w => ![w, 1, 0, 0, 0]) hs3) (congrArg (fun w => ![w, 1, 0]) hs3)
    (congrArg (fun w => ![w, 1, 0, 0, 0]) hs3) (congrArg (fun w => ![w, 1, 1]) hs3)
    (fun v hv => k0_off162_inb d0 (BitVec.ofNat 32 n) t v hv h4) (pgN_off hg.page _ _ 1)) $$ [H0 F1]
  · isplitl [H0]; · iexact H0
    iexact F1
  iintro ⟨H0, F1⟩
  iapply (wp_pageIssue (Q := Q) (defs := defs) (q := q0) (RR d0 arg5 arg6 arg12 arg13 arg14 fk fv) (s := ⟨(t.val + 3) % 4, Nat.mod_lt _ (by decide)⟩) (p := 2) (pgN X0 _ _ 2) (pgX _ _ 2) (pgX_off hb hl 2)
    (P := fun v => k0_chk32 d0 (BitVec.ofNat 32 n) t v) (fun _ => page_in (hg.page _)) (congrArg (fun w => ![w, 2, 0, 0, 0]) hs3) (congrArg (fun w => ![w, 2, 0]) hs3)
    (congrArg (fun w => ![w, 2, 0, 0, 0]) hs3) (congrArg (fun w => ![w, 2, 1]) hs3)
    (fun v hv => k0_off168_inb d0 (BitVec.ofNat 32 n) t v hv h4) (pgN_off hg.page _ _ 2)) $$ [H0 F2]
  · isplitl [H0]; · iexact H0
    iexact F2
  iintro ⟨H0, F2⟩
  iapply (wp_pageIssue (Q := Q) (defs := defs) (q := q0) (RR d0 arg5 arg6 arg12 arg13 arg14 fk fv) (s := ⟨(t.val + 3) % 4, Nat.mod_lt _ (by decide)⟩) (p := 3) (pgN X0 _ _ 3) (pgX _ _ 3) (pgX_off hb hl 3)
    (P := fun v => k0_chk33 d0 (BitVec.ofNat 32 n) t v) (fun _ => page_in (hg.page _)) (congrArg (fun w => ![w, 3, 0, 0, 0]) hs3) (congrArg (fun w => ![w, 3, 0]) hs3)
    (congrArg (fun w => ![w, 3, 0, 0, 0]) hs3) (congrArg (fun w => ![w, 3, 1]) hs3)
    (fun v hv => k0_off174_inb d0 (BitVec.ofNat 32 n) t v hv h4) (pgN_off hg.page _ _ 3)) $$ [H0 F3]
  · isplitl [H0]; · iexact H0
    iexact F3
  iintro ⟨H0, F3⟩
  iapply (wp_pageIssue (Q := Q) (defs := defs) (q := q0) (RR d0 arg5 arg6 arg12 arg13 arg14 fk fv) (s := ⟨(t.val + 3) % 4, Nat.mod_lt _ (by decide)⟩) (p := 4) (pgN X0 _ _ 4) (pgX _ _ 4) (pgX_off hb hl 4)
    (P := fun v => k0_chk34 d0 (BitVec.ofNat 32 n) t v) (fun _ => page_in (hg.page _)) (congrArg (fun w => ![w, 4, 0, 0, 0]) hs3) (congrArg (fun w => ![w, 4, 0]) hs3)
    (congrArg (fun w => ![w, 4, 0, 0, 0]) hs3) (congrArg (fun w => ![w, 4, 1]) hs3)
    (fun v hv => k0_off180_inb d0 (BitVec.ofNat 32 n) t v hv h4) (pgN_off hg.page _ _ 4)) $$ [H0 F4]
  · isplitl [H0]; · iexact H0
    iexact F4
  iintro ⟨H0, F4⟩
  iapply (wp_pageIssue (Q := Q) (defs := defs) (q := q0) (RR d0 arg5 arg6 arg12 arg13 arg14 fk fv) (s := ⟨(t.val + 3) % 4, Nat.mod_lt _ (by decide)⟩) (p := 5) (pgN X0 _ _ 5) (pgX _ _ 5) (pgX_off hb hl 5)
    (P := fun v => k0_chk35 d0 (BitVec.ofNat 32 n) t v) (fun _ => page_in (hg.page _)) (congrArg (fun w => ![w, 5, 0, 0, 0]) hs3) (congrArg (fun w => ![w, 5, 0]) hs3)
    (congrArg (fun w => ![w, 5, 0, 0, 0]) hs3) (congrArg (fun w => ![w, 5, 1]) hs3)
    (fun v hv => k0_off186_inb d0 (BitVec.ofNat 32 n) t v hv h4) (pgN_off hg.page _ _ 5)) $$ [H0 F5]
  · isplitl [H0]; · iexact H0
    iexact F5
  iintro ⟨H0, F5⟩
  iapply (wp_pageIssue (Q := Q) (defs := defs) (q := q0) (RR d0 arg5 arg6 arg12 arg13 arg14 fk fv) (s := ⟨(t.val + 3) % 4, Nat.mod_lt _ (by decide)⟩) (p := 6) (pgN X0 _ _ 6) (pgX _ _ 6) (pgX_off hb hl 6)
    (P := fun v => k0_chk36 d0 (BitVec.ofNat 32 n) t v) (fun _ => page_in (hg.page _)) (congrArg (fun w => ![w, 6, 0, 0, 0]) hs3) (congrArg (fun w => ![w, 6, 0]) hs3)
    (congrArg (fun w => ![w, 6, 0, 0, 0]) hs3) (congrArg (fun w => ![w, 6, 1]) hs3)
    (fun v hv => k0_off192_inb d0 (BitVec.ofNat 32 n) t v hv h4) (pgN_off hg.page _ _ 6)) $$ [H0 F6]
  · isplitl [H0]; · iexact H0
    iexact F6
  iintro ⟨H0, F6⟩
  iapply (wp_pageIssue (Q := Q) (defs := defs) (q := q0) (RR d0 arg5 arg6 arg12 arg13 arg14 fk fv) (s := ⟨(t.val + 3) % 4, Nat.mod_lt _ (by decide)⟩) (p := 7) (pgN X0 _ _ 7) (pgX _ _ 7) (pgX_off hb hl 7)
    (P := fun v => k0_chk37 d0 (BitVec.ofNat 32 n) t v) (fun _ => page_in (hg.page _)) (congrArg (fun w => ![w, 7, 0, 0, 0]) hs3) (congrArg (fun w => ![w, 7, 0]) hs3)
    (congrArg (fun w => ![w, 7, 0, 0, 0]) hs3) (congrArg (fun w => ![w, 7, 1]) hs3)
    (fun v hv => k0_off198_inb d0 (BitVec.ofNat 32 n) t v hv h4) (pgN_off hg.page _ _ 7)) $$ [H0 F7]
  · isplitl [H0]; · iexact H0
    iexact F7
  iintro ⟨H0, F7⟩
  iapply Hc
  isplitl [H0]; · iexact H0
  isplitl [H2]; · iexact H2
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

/-- The copies of chunk 0, followed by the rest. -/
def blockFirst (d0 : Dev nD) {n : ℕ} (hw : k0_chk28 d0 (BitVec.ofNat 32 n)) (h4 : k0_cond1 d0 (BitVec.ofNat 32 n) = 1#1) (v11 : BitVec 32) {α : Type}
    (K : Prog (TpuEff nD τ sig (Elt F) Λ₀ .tc) α) : Prog (TpuEff nD τ sig (Elt F) Λ₀ .tc) α := do
      let ⟨v359, v361, k0_hw1, v383, k0_hw3⟩ : Σ' (v359 : Elt F .i32) (v361 : Elt F .i32) (k0_hw1 : k0_chk1 d0 (BitVec.ofNat 32 n) v359 v361) (v383 : Elt F .i32), k0_chk3 d0 (BitVec.ofNat 32 n) v383 ← k0_part1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) v11 h4
      let ⟨v400, k0_hw4⟩ : Σ' (v400 : Elt F .i32), k0_chk4 d0 (BitVec.ofNat 32 n) v400 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw1 v383 k0_hw3
      let ⟨v434, k0_hw6⟩ : Σ' (v434 : Elt F .i32), k0_chk6 d0 (BitVec.ofNat 32 n) v434 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw1 v400 k0_hw4
      let ⟨v451, k0_hw7⟩ : Σ' (v451 : Elt F .i32), k0_chk7 d0 (BitVec.ofNat 32 n) v451 ← k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw1 v434 k0_hw6
      let ⟨v485, k0_hw9⟩ : Σ' (v485 : Elt F .i32), k0_chk9 d0 (BitVec.ofNat 32 n) v485 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw1 v451 k0_hw7
      let v486 : DmaSems sig S1x1x1 := arg14.slice (Rect.unit (s := S4x8x2) k0_off46 S1x1x1.size k0_off46_inb)
      let v487 : DmaSems sig S_ := v486.squeeze S_ squeezes_S1x1x1_S_
      let v488 : Memref sig .tc .vmem S1x1x32x16x128 .f32 := arg12.slice (Rect.unit (s := S4x8x32x16x128) k0_off47 S1x1x32x16x128.size k0_off47_inb) (fun _ => rfl)
      let v489 : Memref sig .tc .vmem S32x16x128 .f32 := v488.squeeze S32x16x128 squeezes_S1x1x32x16x128_S32x16x128
      let v490 : Memref sig .tc .hbm S1x32x16x128 .f32 := arg5.slice (Rect.unit (s := S256x32x16x128) (k0_off48 v485) S1x32x16x128.size (k0_off48_inb d0 (BitVec.ofNat 32 n) v485 k0_hw9 h4)) (fun _ => rfl)
      let v491 : Memref sig .tc .hbm S32x16x128 .f32 := v490.squeeze S32x16x128 squeezes_S1x32x16x128_S32x16x128
      Prog.lift (.enqueueDma v491 (.here v489) (.dma v487.sem) ((View.wordExact_bits rfl).reshape _ _) ((View.wordExact_bits rfl).reshape _ _) ⟨Or.inl rfl, trivial⟩)
      let v492 : DmaSems sig S1x1x1 := arg14.slice (Rect.unit (s := S4x8x2) k0_off49 S1x1x1.size k0_off49_inb)
      let v493 : DmaSems sig S_ := v492.squeeze S_ squeezes_S1x1x1_S_
      let v494 : Memref sig .tc .vmem S1x1x32x16x128 .f32 := arg13.slice (Rect.unit (s := S4x8x32x16x128) k0_off50 S1x1x32x16x128.size k0_off50_inb) (fun _ => rfl)
      let v495 : Memref sig .tc .vmem S32x16x128 .f32 := v494.squeeze S32x16x128 squeezes_S1x1x32x16x128_S32x16x128
      let v496 : Memref sig .tc .hbm S1x32x16x128 .f32 := arg6.slice (Rect.unit (s := S256x32x16x128) (k0_off48 v485) S1x32x16x128.size (k0_off48_inb d0 (BitVec.ofNat 32 n) v485 k0_hw9 h4)) (fun _ => rfl)
      let v497 : Memref sig .tc .hbm S32x16x128 .f32 := v496.squeeze S32x16x128 squeezes_S1x32x16x128_S32x16x128
      Prog.lift (.enqueueDma v497 (.here v495) (.dma v493.sem) ((View.wordExact_bits rfl).reshape _ _) ((View.wordExact_bits rfl).reshape _ _) ⟨Or.inl rfl, trivial⟩)
      K

set_option maxHeartbeats 4000000 in
/-- Before the loop: chunk 0, if there is one. -/
theorem issue_first (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (h4 : k0_cond1 d0 (BitVec.ofNat 32 n) = 1#1) (v11 : BitVec 32)
    (K : Prog (TpuEff nD τ sig (Elt F) Λ₀ .tc) α) :
    iprop(owns (d0 : Thread nD τ) arg0 q0 X0 ∗ owns (d0 : Thread nD τ) arg2 q2 X2 ∗ FreeS (RR d0 arg5 arg6 arg12 arg13 arg14 fk fv) 0)
      ⊢ iprop((iprop(owns (d0 : Thread nD τ) arg0 q0 X0 ∗ owns (d0 : Thread nD τ) arg2 q2 X2
            ∗ InflS (RR d0 arg5 arg6 arg12 arg13 arg14 fk fv) 0
              (pgN X0 (X2 (cX 0 (rep d0 + 8 * 0))) (X2 (cX 1 (rep d0 + 8 * 0)))))
          -∗ wp frame (wpE defs 𝒱₀ (d0 : Thread nD τ) none) Set.univ K Q)
        -∗ wp frame (wpE defs 𝒱₀ (d0 : Thread nD τ) none) Set.univ (blockFirst arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h4 v11 K) Q) := by
  have hn3 := (cond1_iff d0 hg.n_le).1 h4
  have hlt := chunk_lt d0 hn3
  have hle := hg.n_le
  have hb := hg.chunk 0 _ hlt
  have hl := hg.chunk 1 _ hlt
  have hs3 : (Scalar.remsi 0#32 4#32 : BitVec 32).toNat = ((0 : Fin 4) : ℕ) := by decide
  unfold blockFirst
  simp only [k0_part1_eq_skeleton, k0_part2_eq_skeleton, k0_part3_eq_skeleton, k0_part4_eq_skeleton, k0_part5_eq_skeleton,
    k0_part1_skel, k0_part2_skel, k0_part3_skel, k0_part4_skel, k0_part5_skel,
    Prog.lift, Prog.bind_assoc, Prog.bind_op, Prog.bind_ret, Prog.pure_eq_ret]
  unfold FreeS InflS
  rw [fin8, fin8]
  iintro ⟨H0, H2, F0, F1, F2, F3, F4, F5, F6, F7⟩ Hc
  iapply (wp_word (Q := Q) (defs := defs) (q := q2) d0 (cX 0 (rep d0 + 8 * 0)) (cX_off 0 (chunkF0 d0) (by omega)) (by decide)) $$ H2
  iintro H2
  iapply (wp_word (Q := Q) (defs := defs) (q := q2) d0 (cX 1 (rep d0 + 8 * 0)) (cX_off 1 (chunkF0 d0) (by omega)) (by decide)) $$ H2
  iintro H2
  iapply (wp_assume 𝒱₀ (d0 : Thread nD τ) none Set.univ
    (show k0_chk1 d0 (BitVec.ofNat 32 n) _ _ from
      ⟨fun _ => pgX_in hb hl 0, fun _ => pgX_in hb hl 1, fun _ => pgX_in hb hl 2, fun _ => pgX_in hb hl 3, fun _ => pgX_in hb hl 4, fun _ => pgX_in hb hl 5,
        fun _ => pgX_in hb hl 6, fun _ => pgX_in hb hl 7⟩))
  iapply (wp_pageIssue (Q := Q) (defs := defs) (q := q0) (RR d0 arg5 arg6 arg12 arg13 arg14 fk fv) (s := 0) (p := 0) (pgN X0 _ _ 0) (pgX _ _ 0) (pgX_off hb hl 0)
    (P := fun v => k0_chk2 d0 (BitVec.ofNat 32 n) v) (fun _ => page_in (hg.page _)) (congrArg (fun w => ![w, 0, 0, 0, 0]) hs3) (congrArg (fun w => ![w, 0, 0]) hs3)
    (congrArg (fun w => ![w, 0, 0, 0, 0]) hs3) (congrArg (fun w => ![w, 0, 1]) hs3)
    (fun v hv => k0_off6_inb d0 (BitVec.ofNat 32 n) v hv h4) (pgN_off hg.page _ _ 0)) $$ [H0 F0]
  · isplitl [H0]; · iexact H0
    iexact F0
  iintro ⟨H0, F0⟩
  iapply (wp_pageIssue (Q := Q) (defs := defs) (q := q0) (RR d0 arg5 arg6 arg12 arg13 arg14 fk fv) (s := 0) (p := 1) (pgN X0 _ _ 1) (pgX _ _ 1) (pgX_off hb hl 1)
    (P := fun v => k0_chk3 d0 (BitVec.ofNat 32 n) v) (fun _ => page_in (hg.page _)) (congrArg (fun w => ![w, 1, 0, 0, 0]) hs3) (congrArg (fun w => ![w, 1, 0]) hs3)
    (congrArg (fun w => ![w, 1, 0, 0, 0]) hs3) (congrArg (fun w => ![w, 1, 1]) hs3)
    (fun v hv => k0_off12_inb d0 (BitVec.ofNat 32 n) v hv h4) (pgN_off hg.page _ _ 1)) $$ [H0 F1]
  · isplitl [H0]; · iexact H0
    iexact F1
  iintro ⟨H0, F1⟩
  iapply (wp_pageIssue (Q := Q) (defs := defs) (q := q0) (RR d0 arg5 arg6 arg12 arg13 arg14 fk fv) (s := 0) (p := 2) (pgN X0 _ _ 2) (pgX _ _ 2) (pgX_off hb hl 2)
    (P := fun v => k0_chk4 d0 (BitVec.ofNat 32 n) v) (fun _ => page_in (hg.page _)) (congrArg (fun w => ![w, 2, 0, 0, 0]) hs3) (congrArg (fun w => ![w, 2, 0]) hs3)
    (congrArg (fun w => ![w, 2, 0, 0, 0]) hs3) (congrArg (fun w => ![w, 2, 1]) hs3)
    (fun v hv => k0_off18_inb d0 (BitVec.ofNat 32 n) v hv h4) (pgN_off hg.page _ _ 2)) $$ [H0 F2]
  · isplitl [H0]; · iexact H0
    iexact F2
  iintro ⟨H0, F2⟩
  iapply (wp_pageIssue (Q := Q) (defs := defs) (q := q0) (RR d0 arg5 arg6 arg12 arg13 arg14 fk fv) (s := 0) (p := 3) (pgN X0 _ _ 3) (pgX _ _ 3) (pgX_off hb hl 3)
    (P := fun v => k0_chk5 d0 (BitVec.ofNat 32 n) v) (fun _ => page_in (hg.page _)) (congrArg (fun w => ![w, 3, 0, 0, 0]) hs3) (congrArg (fun w => ![w, 3, 0]) hs3)
    (congrArg (fun w => ![w, 3, 0, 0, 0]) hs3) (congrArg (fun w => ![w, 3, 1]) hs3)
    (fun v hv => k0_off24_inb d0 (BitVec.ofNat 32 n) v hv h4) (pgN_off hg.page _ _ 3)) $$ [H0 F3]
  · isplitl [H0]; · iexact H0
    iexact F3
  iintro ⟨H0, F3⟩
  iapply (wp_pageIssue (Q := Q) (defs := defs) (q := q0) (RR d0 arg5 arg6 arg12 arg13 arg14 fk fv) (s := 0) (p := 4) (pgN X0 _ _ 4) (pgX _ _ 4) (pgX_off hb hl 4)
    (P := fun v => k0_chk6 d0 (BitVec.ofNat 32 n) v) (fun _ => page_in (hg.page _)) (congrArg (fun w => ![w, 4, 0, 0, 0]) hs3) (congrArg (fun w => ![w, 4, 0]) hs3)
    (congrArg (fun w => ![w, 4, 0, 0, 0]) hs3) (congrArg (fun w => ![w, 4, 1]) hs3)
    (fun v hv => k0_off30_inb d0 (BitVec.ofNat 32 n) v hv h4) (pgN_off hg.page _ _ 4)) $$ [H0 F4]
  · isplitl [H0]; · iexact H0
    iexact F4
  iintro ⟨H0, F4⟩
  iapply (wp_pageIssue (Q := Q) (defs := defs) (q := q0) (RR d0 arg5 arg6 arg12 arg13 arg14 fk fv) (s := 0) (p := 5) (pgN X0 _ _ 5) (pgX _ _ 5) (pgX_off hb hl 5)
    (P := fun v => k0_chk7 d0 (BitVec.ofNat 32 n) v) (fun _ => page_in (hg.page _)) (congrArg (fun w => ![w, 5, 0, 0, 0]) hs3) (congrArg (fun w => ![w, 5, 0]) hs3)
    (congrArg (fun w => ![w, 5, 0, 0, 0]) hs3) (congrArg (fun w => ![w, 5, 1]) hs3)
    (fun v hv => k0_off36_inb d0 (BitVec.ofNat 32 n) v hv h4) (pgN_off hg.page _ _ 5)) $$ [H0 F5]
  · isplitl [H0]; · iexact H0
    iexact F5
  iintro ⟨H0, F5⟩
  iapply (wp_pageIssue (Q := Q) (defs := defs) (q := q0) (RR d0 arg5 arg6 arg12 arg13 arg14 fk fv) (s := 0) (p := 6) (pgN X0 _ _ 6) (pgX _ _ 6) (pgX_off hb hl 6)
    (P := fun v => k0_chk8 d0 (BitVec.ofNat 32 n) v) (fun _ => page_in (hg.page _)) (congrArg (fun w => ![w, 6, 0, 0, 0]) hs3) (congrArg (fun w => ![w, 6, 0]) hs3)
    (congrArg (fun w => ![w, 6, 0, 0, 0]) hs3) (congrArg (fun w => ![w, 6, 1]) hs3)
    (fun v hv => k0_off42_inb d0 (BitVec.ofNat 32 n) v hv h4) (pgN_off hg.page _ _ 6)) $$ [H0 F6]
  · isplitl [H0]; · iexact H0
    iexact F6
  iintro ⟨H0, F6⟩
  iapply (wp_pageIssue (Q := Q) (defs := defs) (q := q0) (RR d0 arg5 arg6 arg12 arg13 arg14 fk fv) (s := 0) (p := 7) (pgN X0 _ _ 7) (pgX _ _ 7) (pgX_off hb hl 7)
    (P := fun v => k0_chk9 d0 (BitVec.ofNat 32 n) v) (fun _ => page_in (hg.page _)) (congrArg (fun w => ![w, 7, 0, 0, 0]) hs3) (congrArg (fun w => ![w, 7, 0]) hs3)
    (congrArg (fun w => ![w, 7, 0, 0, 0]) hs3) (congrArg (fun w => ![w, 7, 1]) hs3)
    (fun v hv => k0_off48_inb d0 (BitVec.ofNat 32 n) v hv h4) (pgN_off hg.page _ _ 7)) $$ [H0 F7]
  · isplitl [H0]; · iexact H0
    iexact F7
  iintro ⟨H0, F7⟩
  iapply Hc
  isplitl [H0]; · iexact H0
  isplitl [H2]; · iexact H2
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

/-- The copies of chunk 1, followed by the rest. -/
def blockSecond (d0 : Dev nD) {n : ℕ} (hw : k0_chk28 d0 (BitVec.ofNat 32 n)) (h4 : k0_cond2 d0 (BitVec.ofNat 32 n) = 1#1) (v11 : BitVec 32) {α : Type}
    (K : Prog (TpuEff nD τ sig (Elt F) Λ₀ .tc) α) : Prog (TpuEff nD τ sig (Elt F) Λ₀ .tc) α := do
      let ⟨v359, v361, k0_hw10, v383, k0_hw12⟩ : Σ' (v359 : Elt F .i32) (v361 : Elt F .i32) (k0_hw10 : k0_chk10 d0 (BitVec.ofNat 32 n) v359 v361) (v383 : Elt F .i32), k0_chk12 d0 (BitVec.ofNat 32 n) v383 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) v11 h4
      let ⟨v400, k0_hw13⟩ : Σ' (v400 : Elt F .i32), k0_chk13 d0 (BitVec.ofNat 32 n) v400 ← k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw10 v383 k0_hw12
      let ⟨v434, k0_hw15⟩ : Σ' (v434 : Elt F .i32), k0_chk15 d0 (BitVec.ofNat 32 n) v434 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw10 v400 k0_hw13
      let ⟨v451, k0_hw16⟩ : Σ' (v451 : Elt F .i32), k0_chk16 d0 (BitVec.ofNat 32 n) v451 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw10 v434 k0_hw15
      let ⟨v485, k0_hw18⟩ : Σ' (v485 : Elt F .i32), k0_chk18 d0 (BitVec.ofNat 32 n) v485 ← k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw10 v451 k0_hw16
      let v486 : DmaSems sig S1x1x1 := arg14.slice (Rect.unit (s := S4x8x2) k0_off96 S1x1x1.size k0_off96_inb)
      let v487 : DmaSems sig S_ := v486.squeeze S_ squeezes_S1x1x1_S_
      let v488 : Memref sig .tc .vmem S1x1x32x16x128 .f32 := arg12.slice (Rect.unit (s := S4x8x32x16x128) k0_off97 S1x1x32x16x128.size k0_off97_inb) (fun _ => rfl)
      let v489 : Memref sig .tc .vmem S32x16x128 .f32 := v488.squeeze S32x16x128 squeezes_S1x1x32x16x128_S32x16x128
      let v490 : Memref sig .tc .hbm S1x32x16x128 .f32 := arg5.slice (Rect.unit (s := S256x32x16x128) (k0_off98 v485) S1x32x16x128.size (k0_off98_inb d0 (BitVec.ofNat 32 n) v485 k0_hw18 h4)) (fun _ => rfl)
      let v491 : Memref sig .tc .hbm S32x16x128 .f32 := v490.squeeze S32x16x128 squeezes_S1x32x16x128_S32x16x128
      Prog.lift (.enqueueDma v491 (.here v489) (.dma v487.sem) ((View.wordExact_bits rfl).reshape _ _) ((View.wordExact_bits rfl).reshape _ _) ⟨Or.inl rfl, trivial⟩)
      let v492 : DmaSems sig S1x1x1 := arg14.slice (Rect.unit (s := S4x8x2) k0_off99 S1x1x1.size k0_off99_inb)
      let v493 : DmaSems sig S_ := v492.squeeze S_ squeezes_S1x1x1_S_
      let v494 : Memref sig .tc .vmem S1x1x32x16x128 .f32 := arg13.slice (Rect.unit (s := S4x8x32x16x128) k0_off100 S1x1x32x16x128.size k0_off100_inb) (fun _ => rfl)
      let v495 : Memref sig .tc .vmem S32x16x128 .f32 := v494.squeeze S32x16x128 squeezes_S1x1x32x16x128_S32x16x128
      let v496 : Memref sig .tc .hbm S1x32x16x128 .f32 := arg6.slice (Rect.unit (s := S256x32x16x128) (k0_off98 v485) S1x32x16x128.size (k0_off98_inb d0 (BitVec.ofNat 32 n) v485 k0_hw18 h4)) (fun _ => rfl)
      let v497 : Memref sig .tc .hbm S32x16x128 .f32 := v496.squeeze S32x16x128 squeezes_S1x32x16x128_S32x16x128
      Prog.lift (.enqueueDma v497 (.here v495) (.dma v493.sem) ((View.wordExact_bits rfl).reshape _ _) ((View.wordExact_bits rfl).reshape _ _) ⟨Or.inl rfl, trivial⟩)
      K

set_option maxHeartbeats 4000000 in
/-- Before the loop: chunk 1, if there is one. -/
theorem issue_second (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (h4 : k0_cond2 d0 (BitVec.ofNat 32 n) = 1#1) (v11 : BitVec 32)
    (K : Prog (TpuEff nD τ sig (Elt F) Λ₀ .tc) α) :
    iprop(owns (d0 : Thread nD τ) arg0 q0 X0 ∗ owns (d0 : Thread nD τ) arg2 q2 X2 ∗ FreeS (RR d0 arg5 arg6 arg12 arg13 arg14 fk fv) 1)
      ⊢ iprop((iprop(owns (d0 : Thread nD τ) arg0 q0 X0 ∗ owns (d0 : Thread nD τ) arg2 q2 X2
            ∗ InflS (RR d0 arg5 arg6 arg12 arg13 arg14 fk fv) 1
              (pgN X0 (X2 (cX 0 (rep d0 + 8 * 1))) (X2 (cX 1 (rep d0 + 8 * 1)))))
          -∗ wp frame (wpE defs 𝒱₀ (d0 : Thread nD τ) none) Set.univ K Q)
        -∗ wp frame (wpE defs 𝒱₀ (d0 : Thread nD τ) none) Set.univ (blockSecond arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h4 v11 K) Q) := by
  have hn3 := (cond2_iff d0 hg.n_le).1 h4
  have hlt := chunk_lt d0 hn3
  have hle := hg.n_le
  have hb := hg.chunk 0 _ hlt
  have hl := hg.chunk 1 _ hlt
  have hs3 : (Scalar.remsi 1#32 4#32 : BitVec 32).toNat = ((1 : Fin 4) : ℕ) := by decide
  unfold blockSecond
  simp only [k0_part6_eq_skeleton, k0_part7_eq_skeleton, k0_part8_eq_skeleton, k0_part9_eq_skeleton, k0_part10_eq_skeleton,
    k0_part6_skel, k0_part7_skel, k0_part8_skel, k0_part9_skel, k0_part10_skel,
    Prog.lift, Prog.bind_assoc, Prog.bind_op, Prog.bind_ret, Prog.pure_eq_ret]
  unfold FreeS InflS
  rw [fin8, fin8]
  iintro ⟨H0, H2, F0, F1, F2, F3, F4, F5, F6, F7⟩ Hc
  iapply (wp_word (Q := Q) (defs := defs) (q := q2) d0 (cX 0 (rep d0 + 8 * 1)) (cX_off 0 (chunkF1 d0) (by omega)) (by decide)) $$ H2
  iintro H2
  iapply (wp_word (Q := Q) (defs := defs) (q := q2) d0 (cX 1 (rep d0 + 8 * 1)) (cX_off 1 (chunkF1 d0) (by omega)) (by decide)) $$ H2
  iintro H2
  iapply (wp_assume 𝒱₀ (d0 : Thread nD τ) none Set.univ
    (show k0_chk10 d0 (BitVec.ofNat 32 n) _ _ from
      ⟨fun _ => pgX_in hb hl 0, fun _ => pgX_in hb hl 1, fun _ => pgX_in hb hl 2, fun _ => pgX_in hb hl 3, fun _ => pgX_in hb hl 4, fun _ => pgX_in hb hl 5,
        fun _ => pgX_in hb hl 6, fun _ => pgX_in hb hl 7⟩))
  iapply (wp_pageIssue (Q := Q) (defs := defs) (q := q0) (RR d0 arg5 arg6 arg12 arg13 arg14 fk fv) (s := 1) (p := 0) (pgN X0 _ _ 0) (pgX _ _ 0) (pgX_off hb hl 0)
    (P := fun v => k0_chk11 d0 (BitVec.ofNat 32 n) v) (fun _ => page_in (hg.page _)) (congrArg (fun w => ![w, 0, 0, 0, 0]) hs3) (congrArg (fun w => ![w, 0, 0]) hs3)
    (congrArg (fun w => ![w, 0, 0, 0, 0]) hs3) (congrArg (fun w => ![w, 0, 1]) hs3)
    (fun v hv => k0_off56_inb d0 (BitVec.ofNat 32 n) v hv h4) (pgN_off hg.page _ _ 0)) $$ [H0 F0]
  · isplitl [H0]; · iexact H0
    iexact F0
  iintro ⟨H0, F0⟩
  iapply (wp_pageIssue (Q := Q) (defs := defs) (q := q0) (RR d0 arg5 arg6 arg12 arg13 arg14 fk fv) (s := 1) (p := 1) (pgN X0 _ _ 1) (pgX _ _ 1) (pgX_off hb hl 1)
    (P := fun v => k0_chk12 d0 (BitVec.ofNat 32 n) v) (fun _ => page_in (hg.page _)) (congrArg (fun w => ![w, 1, 0, 0, 0]) hs3) (congrArg (fun w => ![w, 1, 0]) hs3)
    (congrArg (fun w => ![w, 1, 0, 0, 0]) hs3) (congrArg (fun w => ![w, 1, 1]) hs3)
    (fun v hv => k0_off62_inb d0 (BitVec.ofNat 32 n) v hv h4) (pgN_off hg.page _ _ 1)) $$ [H0 F1]
  · isplitl [H0]; · iexact H0
    iexact F1
  iintro ⟨H0, F1⟩
  iapply (wp_pageIssue (Q := Q) (defs := defs) (q := q0) (RR d0 arg5 arg6 arg12 arg13 arg14 fk fv) (s := 1) (p := 2) (pgN X0 _ _ 2) (pgX _ _ 2) (pgX_off hb hl 2)
    (P := fun v => k0_chk13 d0 (BitVec.ofNat 32 n) v) (fun _ => page_in (hg.page _)) (congrArg (fun w => ![w, 2, 0, 0, 0]) hs3) (congrArg (fun w => ![w, 2, 0]) hs3)
    (congrArg (fun w => ![w, 2, 0, 0, 0]) hs3) (congrArg (fun w => ![w, 2, 1]) hs3)
    (fun v hv => k0_off68_inb d0 (BitVec.ofNat 32 n) v hv h4) (pgN_off hg.page _ _ 2)) $$ [H0 F2]
  · isplitl [H0]; · iexact H0
    iexact F2
  iintro ⟨H0, F2⟩
  iapply (wp_pageIssue (Q := Q) (defs := defs) (q := q0) (RR d0 arg5 arg6 arg12 arg13 arg14 fk fv) (s := 1) (p := 3) (pgN X0 _ _ 3) (pgX _ _ 3) (pgX_off hb hl 3)
    (P := fun v => k0_chk14 d0 (BitVec.ofNat 32 n) v) (fun _ => page_in (hg.page _)) (congrArg (fun w => ![w, 3, 0, 0, 0]) hs3) (congrArg (fun w => ![w, 3, 0]) hs3)
    (congrArg (fun w => ![w, 3, 0, 0, 0]) hs3) (congrArg (fun w => ![w, 3, 1]) hs3)
    (fun v hv => k0_off74_inb d0 (BitVec.ofNat 32 n) v hv h4) (pgN_off hg.page _ _ 3)) $$ [H0 F3]
  · isplitl [H0]; · iexact H0
    iexact F3
  iintro ⟨H0, F3⟩
  iapply (wp_pageIssue (Q := Q) (defs := defs) (q := q0) (RR d0 arg5 arg6 arg12 arg13 arg14 fk fv) (s := 1) (p := 4) (pgN X0 _ _ 4) (pgX _ _ 4) (pgX_off hb hl 4)
    (P := fun v => k0_chk15 d0 (BitVec.ofNat 32 n) v) (fun _ => page_in (hg.page _)) (congrArg (fun w => ![w, 4, 0, 0, 0]) hs3) (congrArg (fun w => ![w, 4, 0]) hs3)
    (congrArg (fun w => ![w, 4, 0, 0, 0]) hs3) (congrArg (fun w => ![w, 4, 1]) hs3)
    (fun v hv => k0_off80_inb d0 (BitVec.ofNat 32 n) v hv h4) (pgN_off hg.page _ _ 4)) $$ [H0 F4]
  · isplitl [H0]; · iexact H0
    iexact F4
  iintro ⟨H0, F4⟩
  iapply (wp_pageIssue (Q := Q) (defs := defs) (q := q0) (RR d0 arg5 arg6 arg12 arg13 arg14 fk fv) (s := 1) (p := 5) (pgN X0 _ _ 5) (pgX _ _ 5) (pgX_off hb hl 5)
    (P := fun v => k0_chk16 d0 (BitVec.ofNat 32 n) v) (fun _ => page_in (hg.page _)) (congrArg (fun w => ![w, 5, 0, 0, 0]) hs3) (congrArg (fun w => ![w, 5, 0]) hs3)
    (congrArg (fun w => ![w, 5, 0, 0, 0]) hs3) (congrArg (fun w => ![w, 5, 1]) hs3)
    (fun v hv => k0_off86_inb d0 (BitVec.ofNat 32 n) v hv h4) (pgN_off hg.page _ _ 5)) $$ [H0 F5]
  · isplitl [H0]; · iexact H0
    iexact F5
  iintro ⟨H0, F5⟩
  iapply (wp_pageIssue (Q := Q) (defs := defs) (q := q0) (RR d0 arg5 arg6 arg12 arg13 arg14 fk fv) (s := 1) (p := 6) (pgN X0 _ _ 6) (pgX _ _ 6) (pgX_off hb hl 6)
    (P := fun v => k0_chk17 d0 (BitVec.ofNat 32 n) v) (fun _ => page_in (hg.page _)) (congrArg (fun w => ![w, 6, 0, 0, 0]) hs3) (congrArg (fun w => ![w, 6, 0]) hs3)
    (congrArg (fun w => ![w, 6, 0, 0, 0]) hs3) (congrArg (fun w => ![w, 6, 1]) hs3)
    (fun v hv => k0_off92_inb d0 (BitVec.ofNat 32 n) v hv h4) (pgN_off hg.page _ _ 6)) $$ [H0 F6]
  · isplitl [H0]; · iexact H0
    iexact F6
  iintro ⟨H0, F6⟩
  iapply (wp_pageIssue (Q := Q) (defs := defs) (q := q0) (RR d0 arg5 arg6 arg12 arg13 arg14 fk fv) (s := 1) (p := 7) (pgN X0 _ _ 7) (pgX _ _ 7) (pgX_off hb hl 7)
    (P := fun v => k0_chk18 d0 (BitVec.ofNat 32 n) v) (fun _ => page_in (hg.page _)) (congrArg (fun w => ![w, 7, 0, 0, 0]) hs3) (congrArg (fun w => ![w, 7, 0]) hs3)
    (congrArg (fun w => ![w, 7, 0, 0, 0]) hs3) (congrArg (fun w => ![w, 7, 1]) hs3)
    (fun v hv => k0_off98_inb d0 (BitVec.ofNat 32 n) v hv h4) (pgN_off hg.page _ _ 7)) $$ [H0 F7]
  · isplitl [H0]; · iexact H0
    iexact F7
  iintro ⟨H0, F7⟩
  iapply Hc
  isplitl [H0]; · iexact H0
  isplitl [H2]; · iexact H2
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

/-- The copies of chunk 2, followed by the rest. -/
def blockThird (d0 : Dev nD) {n : ℕ} (hw : k0_chk28 d0 (BitVec.ofNat 32 n)) (h4 : k0_cond3 d0 (BitVec.ofNat 32 n) = 1#1) (v11 : BitVec 32) {α : Type}
    (K : Prog (TpuEff nD τ sig (Elt F) Λ₀ .tc) α) : Prog (TpuEff nD τ sig (Elt F) Λ₀ .tc) α := do
      let ⟨v359, v361, k0_hw19, v383, k0_hw21⟩ : Σ' (v359 : Elt F .i32) (v361 : Elt F .i32) (k0_hw19 : k0_chk19 d0 (BitVec.ofNat 32 n) v359 v361) (v383 : Elt F .i32), k0_chk21 d0 (BitVec.ofNat 32 n) v383 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) v11 h4
      let ⟨v400, k0_hw22⟩ : Σ' (v400 : Elt F .i32), k0_chk22 d0 (BitVec.ofNat 32 n) v400 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw19 v383 k0_hw21
      let ⟨v434, k0_hw24⟩ : Σ' (v434 : Elt F .i32), k0_chk24 d0 (BitVec.ofNat 32 n) v434 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw19 v400 k0_hw22
      let ⟨v451, k0_hw25⟩ : Σ' (v451 : Elt F .i32), k0_chk25 d0 (BitVec.ofNat 32 n) v451 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw19 v434 k0_hw24
      let ⟨v485, k0_hw27⟩ : Σ' (v485 : Elt F .i32), k0_chk27 d0 (BitVec.ofNat 32 n) v485 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) h4 v359 v361 k0_hw19 v451 k0_hw25
      let v486 : DmaSems sig S1x1x1 := arg14.slice (Rect.unit (s := S4x8x2) k0_off146 S1x1x1.size k0_off146_inb)
      let v487 : DmaSems sig S_ := v486.squeeze S_ squeezes_S1x1x1_S_
      let v488 : Memref sig .tc .vmem S1x1x32x16x128 .f32 := arg12.slice (Rect.unit (s := S4x8x32x16x128) k0_off147 S1x1x32x16x128.size k0_off147_inb) (fun _ => rfl)
      let v489 : Memref sig .tc .vmem S32x16x128 .f32 := v488.squeeze S32x16x128 squeezes_S1x1x32x16x128_S32x16x128
      let v490 : Memref sig .tc .hbm S1x32x16x128 .f32 := arg5.slice (Rect.unit (s := S256x32x16x128) (k0_off148 v485) S1x32x16x128.size (k0_off148_inb d0 (BitVec.ofNat 32 n) v485 k0_hw27 h4)) (fun _ => rfl)
      let v491 : Memref sig .tc .hbm S32x16x128 .f32 := v490.squeeze S32x16x128 squeezes_S1x32x16x128_S32x16x128
      Prog.lift (.enqueueDma v491 (.here v489) (.dma v487.sem) ((View.wordExact_bits rfl).reshape _ _) ((View.wordExact_bits rfl).reshape _ _) ⟨Or.inl rfl, trivial⟩)
      let v492 : DmaSems sig S1x1x1 := arg14.slice (Rect.unit (s := S4x8x2) k0_off149 S1x1x1.size k0_off149_inb)
      let v493 : DmaSems sig S_ := v492.squeeze S_ squeezes_S1x1x1_S_
      let v494 : Memref sig .tc .vmem S1x1x32x16x128 .f32 := arg13.slice (Rect.unit (s := S4x8x32x16x128) k0_off150 S1x1x32x16x128.size k0_off150_inb) (fun _ => rfl)
      let v495 : Memref sig .tc .vmem S32x16x128 .f32 := v494.squeeze S32x16x128 squeezes_S1x1x32x16x128_S32x16x128
      let v496 : Memref sig .tc .hbm S1x32x16x128 .f32 := arg6.slice (Rect.unit (s := S256x32x16x128) (k0_off148 v485) S1x32x16x128.size (k0_off148_inb d0 (BitVec.ofNat 32 n) v485 k0_hw27 h4)) (fun _ => rfl)
      let v497 : Memref sig .tc .hbm S32x16x128 .f32 := v496.squeeze S32x16x128 squeezes_S1x32x16x128_S32x16x128
      Prog.lift (.enqueueDma v497 (.here v495) (.dma v493.sem) ((View.wordExact_bits rfl).reshape _ _) ((View.wordExact_bits rfl).reshape _ _) ⟨Or.inl rfl, trivial⟩)
      K

set_option maxHeartbeats 4000000 in
/-- Before the loop: chunk 2, if there is one. -/
theorem issue_third (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (h4 : k0_cond3 d0 (BitVec.ofNat 32 n) = 1#1) (v11 : BitVec 32)
    (K : Prog (TpuEff nD τ sig (Elt F) Λ₀ .tc) α) :
    iprop(owns (d0 : Thread nD τ) arg0 q0 X0 ∗ owns (d0 : Thread nD τ) arg2 q2 X2 ∗ FreeS (RR d0 arg5 arg6 arg12 arg13 arg14 fk fv) 2)
      ⊢ iprop((iprop(owns (d0 : Thread nD τ) arg0 q0 X0 ∗ owns (d0 : Thread nD τ) arg2 q2 X2
            ∗ InflS (RR d0 arg5 arg6 arg12 arg13 arg14 fk fv) 2
              (pgN X0 (X2 (cX 0 (rep d0 + 8 * 2))) (X2 (cX 1 (rep d0 + 8 * 2)))))
          -∗ wp frame (wpE defs 𝒱₀ (d0 : Thread nD τ) none) Set.univ K Q)
        -∗ wp frame (wpE defs 𝒱₀ (d0 : Thread nD τ) none) Set.univ (blockThird arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h4 v11 K) Q) := by
  have hn3 := (cond3_iff d0 hg.n_le).1 h4
  have hlt := chunk_lt d0 hn3
  have hle := hg.n_le
  have hb := hg.chunk 0 _ hlt
  have hl := hg.chunk 1 _ hlt
  have hs3 : (Scalar.remsi 2#32 4#32 : BitVec 32).toNat = ((2 : Fin 4) : ℕ) := by decide
  unfold blockThird
  simp only [k0_part11_eq_skeleton, k0_part12_eq_skeleton, k0_part13_eq_skeleton, k0_part14_eq_skeleton, k0_part15_eq_skeleton,
    k0_part11_skel, k0_part12_skel, k0_part13_skel, k0_part14_skel, k0_part15_skel,
    Prog.lift, Prog.bind_assoc, Prog.bind_op, Prog.bind_ret, Prog.pure_eq_ret]
  unfold FreeS InflS
  rw [fin8, fin8]
  iintro ⟨H0, H2, F0, F1, F2, F3, F4, F5, F6, F7⟩ Hc
  iapply (wp_word (Q := Q) (defs := defs) (q := q2) d0 (cX 0 (rep d0 + 8 * 2)) (cX_off 0 (chunkF2 d0) (by omega)) (by decide)) $$ H2
  iintro H2
  iapply (wp_word (Q := Q) (defs := defs) (q := q2) d0 (cX 1 (rep d0 + 8 * 2)) (cX_off 1 (chunkF2 d0) (by omega)) (by decide)) $$ H2
  iintro H2
  iapply (wp_assume 𝒱₀ (d0 : Thread nD τ) none Set.univ
    (show k0_chk19 d0 (BitVec.ofNat 32 n) _ _ from
      ⟨fun _ => pgX_in hb hl 0, fun _ => pgX_in hb hl 1, fun _ => pgX_in hb hl 2, fun _ => pgX_in hb hl 3, fun _ => pgX_in hb hl 4, fun _ => pgX_in hb hl 5,
        fun _ => pgX_in hb hl 6, fun _ => pgX_in hb hl 7⟩))
  iapply (wp_pageIssue (Q := Q) (defs := defs) (q := q0) (RR d0 arg5 arg6 arg12 arg13 arg14 fk fv) (s := 2) (p := 0) (pgN X0 _ _ 0) (pgX _ _ 0) (pgX_off hb hl 0)
    (P := fun v => k0_chk20 d0 (BitVec.ofNat 32 n) v) (fun _ => page_in (hg.page _)) (congrArg (fun w => ![w, 0, 0, 0, 0]) hs3) (congrArg (fun w => ![w, 0, 0]) hs3)
    (congrArg (fun w => ![w, 0, 0, 0, 0]) hs3) (congrArg (fun w => ![w, 0, 1]) hs3)
    (fun v hv => k0_off106_inb d0 (BitVec.ofNat 32 n) v hv h4) (pgN_off hg.page _ _ 0)) $$ [H0 F0]
  · isplitl [H0]; · iexact H0
    iexact F0
  iintro ⟨H0, F0⟩
  iapply (wp_pageIssue (Q := Q) (defs := defs) (q := q0) (RR d0 arg5 arg6 arg12 arg13 arg14 fk fv) (s := 2) (p := 1) (pgN X0 _ _ 1) (pgX _ _ 1) (pgX_off hb hl 1)
    (P := fun v => k0_chk21 d0 (BitVec.ofNat 32 n) v) (fun _ => page_in (hg.page _)) (congrArg (fun w => ![w, 1, 0, 0, 0]) hs3) (congrArg (fun w => ![w, 1, 0]) hs3)
    (congrArg (fun w => ![w, 1, 0, 0, 0]) hs3) (congrArg (fun w => ![w, 1, 1]) hs3)
    (fun v hv => k0_off112_inb d0 (BitVec.ofNat 32 n) v hv h4) (pgN_off hg.page _ _ 1)) $$ [H0 F1]
  · isplitl [H0]; · iexact H0
    iexact F1
  iintro ⟨H0, F1⟩
  iapply (wp_pageIssue (Q := Q) (defs := defs) (q := q0) (RR d0 arg5 arg6 arg12 arg13 arg14 fk fv) (s := 2) (p := 2) (pgN X0 _ _ 2) (pgX _ _ 2) (pgX_off hb hl 2)
    (P := fun v => k0_chk22 d0 (BitVec.ofNat 32 n) v) (fun _ => page_in (hg.page _)) (congrArg (fun w => ![w, 2, 0, 0, 0]) hs3) (congrArg (fun w => ![w, 2, 0]) hs3)
    (congrArg (fun w => ![w, 2, 0, 0, 0]) hs3) (congrArg (fun w => ![w, 2, 1]) hs3)
    (fun v hv => k0_off118_inb d0 (BitVec.ofNat 32 n) v hv h4) (pgN_off hg.page _ _ 2)) $$ [H0 F2]
  · isplitl [H0]; · iexact H0
    iexact F2
  iintro ⟨H0, F2⟩
  iapply (wp_pageIssue (Q := Q) (defs := defs) (q := q0) (RR d0 arg5 arg6 arg12 arg13 arg14 fk fv) (s := 2) (p := 3) (pgN X0 _ _ 3) (pgX _ _ 3) (pgX_off hb hl 3)
    (P := fun v => k0_chk23 d0 (BitVec.ofNat 32 n) v) (fun _ => page_in (hg.page _)) (congrArg (fun w => ![w, 3, 0, 0, 0]) hs3) (congrArg (fun w => ![w, 3, 0]) hs3)
    (congrArg (fun w => ![w, 3, 0, 0, 0]) hs3) (congrArg (fun w => ![w, 3, 1]) hs3)
    (fun v hv => k0_off124_inb d0 (BitVec.ofNat 32 n) v hv h4) (pgN_off hg.page _ _ 3)) $$ [H0 F3]
  · isplitl [H0]; · iexact H0
    iexact F3
  iintro ⟨H0, F3⟩
  iapply (wp_pageIssue (Q := Q) (defs := defs) (q := q0) (RR d0 arg5 arg6 arg12 arg13 arg14 fk fv) (s := 2) (p := 4) (pgN X0 _ _ 4) (pgX _ _ 4) (pgX_off hb hl 4)
    (P := fun v => k0_chk24 d0 (BitVec.ofNat 32 n) v) (fun _ => page_in (hg.page _)) (congrArg (fun w => ![w, 4, 0, 0, 0]) hs3) (congrArg (fun w => ![w, 4, 0]) hs3)
    (congrArg (fun w => ![w, 4, 0, 0, 0]) hs3) (congrArg (fun w => ![w, 4, 1]) hs3)
    (fun v hv => k0_off130_inb d0 (BitVec.ofNat 32 n) v hv h4) (pgN_off hg.page _ _ 4)) $$ [H0 F4]
  · isplitl [H0]; · iexact H0
    iexact F4
  iintro ⟨H0, F4⟩
  iapply (wp_pageIssue (Q := Q) (defs := defs) (q := q0) (RR d0 arg5 arg6 arg12 arg13 arg14 fk fv) (s := 2) (p := 5) (pgN X0 _ _ 5) (pgX _ _ 5) (pgX_off hb hl 5)
    (P := fun v => k0_chk25 d0 (BitVec.ofNat 32 n) v) (fun _ => page_in (hg.page _)) (congrArg (fun w => ![w, 5, 0, 0, 0]) hs3) (congrArg (fun w => ![w, 5, 0]) hs3)
    (congrArg (fun w => ![w, 5, 0, 0, 0]) hs3) (congrArg (fun w => ![w, 5, 1]) hs3)
    (fun v hv => k0_off136_inb d0 (BitVec.ofNat 32 n) v hv h4) (pgN_off hg.page _ _ 5)) $$ [H0 F5]
  · isplitl [H0]; · iexact H0
    iexact F5
  iintro ⟨H0, F5⟩
  iapply (wp_pageIssue (Q := Q) (defs := defs) (q := q0) (RR d0 arg5 arg6 arg12 arg13 arg14 fk fv) (s := 2) (p := 6) (pgN X0 _ _ 6) (pgX _ _ 6) (pgX_off hb hl 6)
    (P := fun v => k0_chk26 d0 (BitVec.ofNat 32 n) v) (fun _ => page_in (hg.page _)) (congrArg (fun w => ![w, 6, 0, 0, 0]) hs3) (congrArg (fun w => ![w, 6, 0]) hs3)
    (congrArg (fun w => ![w, 6, 0, 0, 0]) hs3) (congrArg (fun w => ![w, 6, 1]) hs3)
    (fun v hv => k0_off142_inb d0 (BitVec.ofNat 32 n) v hv h4) (pgN_off hg.page _ _ 6)) $$ [H0 F6]
  · isplitl [H0]; · iexact H0
    iexact F6
  iintro ⟨H0, F6⟩
  iapply (wp_pageIssue (Q := Q) (defs := defs) (q := q0) (RR d0 arg5 arg6 arg12 arg13 arg14 fk fv) (s := 2) (p := 7) (pgN X0 _ _ 7) (pgX _ _ 7) (pgX_off hb hl 7)
    (P := fun v => k0_chk27 d0 (BitVec.ofNat 32 n) v) (fun _ => page_in (hg.page _)) (congrArg (fun w => ![w, 7, 0, 0, 0]) hs3) (congrArg (fun w => ![w, 7, 0]) hs3)
    (congrArg (fun w => ![w, 7, 0, 0, 0]) hs3) (congrArg (fun w => ![w, 7, 1]) hs3)
    (fun v hv => k0_off148_inb d0 (BitVec.ofNat 32 n) v hv h4) (pgN_off hg.page _ _ 7)) $$ [H0 F7]
  · isplitl [H0]; · iexact H0
    iexact F7
  iintro ⟨H0, F7⟩
  iapply Hc
  isplitl [H0]; · iexact H0
  isplitl [H2]; · iexact H2
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

end Cert.KProof

end
-- ==== Proof.Trip.lean ====
/-
  One trip of the loop: the copies of the chunk three ahead are started, the trip's own sixteen copies are awaited, and
  the chunk's sums are added into the row it belongs to.
-/
module

public import proofs.«01_k».proof.Proof.Issue

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The sums -/

theorem in3 (r : Fin 32) : ∀ a, (![r.val, 0, 0] : Fin 3 → ℕ) a + S1x16x128.size a ≤ S32x16x128.size a := by revert r; decide
theorem in2 (r : Fin 32) : ∀ a, (![r.val, 0] : Fin 2 → ℕ) a + S1x16.size a ≤ S32x16.size a := by revert r; decide
theorem in1 (r : Fin 32) : ∀ a, (![r.val] : Fin 1 → ℕ) a + S1.size a ≤ S32.size a := by revert r; decide

/-- What the loop computes with: the tables' words, the scaled queries, and each chunk's keys and values. -/
structure Vals (F : FTy → Type) [FloatOps F] where
  X1 : S32.Idx → BitVec 32
  X2 : S2x1024.Idx → BitVec 32
  XQ : S32x16x128.Idx → Elt F .f32
  kc : ℕ → S1x8x32x16x128.Idx → Elt F .f32
  vc : ℕ → S1x8x32x16x128.Idx → Elt F .f32

/-- The row that chunk `g` belongs to. -/
def Vals.row (V : Vals F) (g : ℕ) : Fin 32 := ⟨(V.X2 (cX 0 g)).toNat % 32, Nat.mod_lt _ (by decide)⟩

/-- The weights of chunk `g`'s entries. -/
def Vals.wts (V : Vals F) (g : ℕ) : FVec F S256x16 .f32 :=
  k0_pay4 (V.X2 (cX 1 g)) (k0_pay1 (VecWindow.window V.XQ ![(V.row g).val, 0, 0] S1x16x128.size (in3 (V.row g))))
    (k0_pay2 (V.kc g)) (V.X1 (ix1 (V.row g)))

/-- The sums of weights after chunk `g`. -/
def Vals.stepL (V : Vals F) (g : ℕ) (L : S32x16.Idx → Elt F .f32) : S32x16.Idx → Elt F .f32 :=
  VecWindow.put L ![(V.row g).val, 0] S1x16.size
    (k0_pay11 (V.wts g) (VecWindow.window L ![(V.row g).val, 0] S1x16.size (in2 (V.row g))))

/-- The weighted sums after chunk `g`. -/
def Vals.stepA (V : Vals F) (g : ℕ) (A : S32x16x128.Idx → Elt F .f32) : S32x16x128.Idx → Elt F .f32 :=
  VecWindow.put A ![(V.row g).val, 0, 0] S1x16x128.size
    (k0_pay12 (k0_pay3 (V.vc g)) (V.wts g) (VecWindow.window A ![(V.row g).val, 0, 0] S1x16x128.size (in3 (V.row g))))

/-- The sums of device `d` after `j` of its chunks. -/
def Vals.locL (V : Vals F) (d : Dev nD) : ℕ → S32x16.Idx → Elt F .f32
  | 0 => k0_pay10
  | j + 1 => V.stepL (rep d + 8 * j) (V.locL d j)

def Vals.locA (V : Vals F) (d : Dev nD) : ℕ → S32x16x128.Idx → Elt F .f32
  | 0 => k0_pay9
  | j + 1 => V.stepA (rep d + 8 * j) (V.locA d j)

/-- The pages of chunk `g`, as the ring holds them. -/
def Rings.kc {c : Dev nD} (G : Rings F c) (X0 : S32x256.Idx → BitVec 32) (X2 : S2x1024.Idx → BitVec 32) (g : ℕ) :
    S1x8x32x16x128.Idx → Elt F .f32 :=
  slotVal fun p => (src G.km (pgN X0 (X2 (cX 0 g)) (X2 (cX 1 g)) p)).view.read (Elt F) G.fk

def Rings.vc {c : Dev nD} (G : Rings F c) (X0 : S32x256.Idx → BitVec 32) (X2 : S2x1024.Idx → BitVec 32) (g : ℕ) :
    S1x8x32x16x128.Idx → Elt F .f32 :=
  slotVal fun p => (src G.vm (pgN X0 (X2 (cX 0 g)) (X2 (cX 1 g)) p)).view.read (Elt F) G.fv

/-! ## A slot between its chunks -/

section Slots

variable {c : Dev nD} (G : Rings F c)

def RestP (s : Fin 4) (p : Fin 8) : sProp (MT nD τ sig Unit (Elt F) ℕ UU ℕ) :=
  iprop(((G.km.view.loc (c : Thread nD τ) ↦[Finset.univ]{shr s p} G.fk) ∗ semVal ((c : Thread nD τ), .dma (cell G.A s p 0)) 0)
    ∗ (G.vm.view.loc (c : Thread nD τ) ↦[Finset.univ]{shr s p} G.fv) ∗ semVal ((c : Thread nD τ), .dma (cell G.A s p 1)) 0)

theorem done_open (s : Fin 4) (g : Fin 8 → Fin 256) :
    (bigSep Finset.univ (fun p : Fin 8 => DoneP G s p (g p)) : sProp (MT nD τ sig Unit (Elt F) ℕ UU ℕ))
      ⊢ iprop(bigSep Finset.univ (fun p : Fin 8 => Held (F := F) c (dst G.bk s p) ((src G.km (g p)).view.read (Elt F) G.fk))
        ∗ bigSep Finset.univ (fun p : Fin 8 => Held (F := F) c (dst G.bv s p) ((src G.vm (g p)).view.read (Elt F) G.fv))
        ∗ bigSep Finset.univ (fun p : Fin 8 => RestP G s p)) := by
  rw [← bigSep_sep', ← bigSep_sep']
  refine bigSep_mono fun p _ => ?_
  show DoneP G s p (g p) ⊢ (iprop(_ ∗ _ ∗ _) : sProp (MT nD τ sig Unit (Elt F) ℕ UU ℕ))
  unfold DoneP Done RestP
  iintro ⟨⟨HK, A, B⟩, HV, C, D⟩
  isplitl [HK]; · iexact HK
  isplitl [HV]; · iexact HV
  isplitl [A B]
  · isplitl [A] <;> iassumption
  isplitl [C] <;> iassumption

theorem free_close (s : Fin 4) (w w' : Fin 8 → S32x16x128.Idx → Elt F .f32) :
    iprop(bigSep Finset.univ (fun p : Fin 8 => Held (F := F) c (dst G.bk s p) (w p))
        ∗ bigSep Finset.univ (fun p : Fin 8 => Held (F := F) c (dst G.bv s p) (w' p))
        ∗ bigSep Finset.univ (fun p : Fin 8 => RestP G s p)) ⊢ FreeS G s := by
  rw [← bigSep_sep', ← bigSep_sep']
  refine bigSep_mono fun p _ => ?_
  show (iprop(_ ∗ _ ∗ _) : sProp (MT nD τ sig Unit (Elt F) ℕ UU ℕ)) ⊢ FreeP G s p
  unfold FreeP Free RestP Held
  iintro ⟨⟨%f, HK, %hf⟩, ⟨%f', HV, %hf'⟩, ⟨A, B⟩, C, D⟩
  isplitl [HK A B]
  · isplitl [HK]; · iexists f; iexact HK
    isplitl [A] <;> iassumption
  isplitl [HV]; · iexists f'; iexact HV
  isplitl [C] <;> iassumption

/-- Slot `s` at the time of chunk `j`: in flight if there is such a chunk, free if not. -/
def Sl (X0 : S32x256.Idx → BitVec 32) (X2 : S2x1024.Idx → BitVec 32) (n : ℕ) (s : Fin 4) (j : ℕ) : sProp (MT nD τ sig Unit (Elt F) ℕ UU ℕ) :=
  if j < nmine c n then InflS G s (pgN X0 (X2 (cX 0 (rep c + 8 * j))) (X2 (cX 1 (rep c + 8 * j)))) else FreeS G s

end Slots

/-- The slot of chunk `j`. -/
abbrev fs4 (j : ℕ) : Fin 4 := ⟨j % 4, Nat.mod_lt _ (by decide)⟩

section Steps

variable {Λ : Labels} {defs : Defs nD τ sig (Elt F) Λ} {α : Type} {Q : α → sProp (MT nD τ sig Unit (Elt F) ℕ UU ℕ)}

/-- A window loaded at offsets equal to the given ones. -/
theorem wp_window' (c : Dev nD) {cs : CoreSpace} {s : Shape} {m : Memref sig .tc cs s .f32} {q : PosShare TreeShare} {X : s.Idx → Elt F .f32}
    {o o' size : Fin s.rank → ℕ} {h : ∀ a, o a + size a ≤ s.size a} (e : o = o') (h' : ∀ a, o' a + size a ≤ s.size a) {hl}
    {K : (((a : Fin s.rank) → Fin (size a)) → Elt F .f32) → Prog (TpuEff nD τ sig (Elt F) Λ .tc) α} :
    (owns (c : Thread nD τ) m q X : sProp (MT nD τ sig Unit (Elt F) ℕ UU ℕ))
      ⊢ iprop((owns (c : Thread nD τ) m q X -∗ wp frame (wpE defs 𝒱₀ (c : Thread nD τ) none) Set.univ (K (VecWindow.window X o' size h')) Q)
        -∗ wp frame (wpE defs 𝒱₀ (c : Thread nD τ) none) Set.univ (.op (.load m (Rect.unit (s := s) o size h).toLoadRect hl) K) Q) := by
  subst e
  exact wp_window (Q := Q) c

/-- A window stored at offsets equal to the given ones. -/
theorem wp_put' (c : Dev nD) {cs : CoreSpace} {s : Shape} {m : Memref sig .tc cs s .f32} {X : s.Idx → Elt F .f32}
    {o o' size : Fin s.rank → ℕ} {h : ∀ a, o a + size a ≤ s.size a} (e : o = o') {w : ((a : Fin s.rank) → Fin (size a)) → Elt F .f32} {hx hm}
    {K : PUnit → Prog (TpuEff nD τ sig (Elt F) Λ .tc) α} :
    (owns (c : Thread nD τ) m fullShare X : sProp (MT nD τ sig Unit (Elt F) ℕ UU ℕ))
      ⊢ iprop((owns (c : Thread nD τ) m fullShare (VecWindow.put X o' size w) -∗ wp frame (wpE defs 𝒱₀ (c : Thread nD τ) none) Set.univ (K ⟨⟩) Q)
        -∗ wp frame (wpE defs 𝒱₀ (c : Thread nD τ) none) Set.univ (.op (.store m (Rect.unit (s := s) o size h) w Finset.univ hx hm) K) Q) := by
  subst e
  exact wp_put (Q := Q) c

end Steps

theorem row3 {b : BitVec 32} (h : b.toNat < 32) : (![(Scalar.indexCast b : Index).toNat, 0, 0] : Fin 3 → ℕ) = ![b.toNat % 32, 0, 0] := by
  rw [row_word b h, Nat.mod_eq_of_lt h]
theorem row2 {b : BitVec 32} (h : b.toNat < 32) : (![(Scalar.indexCast b : Index).toNat, 0] : Fin 2 → ℕ) = ![b.toNat % 32, 0] := by
  rw [row_word b h, Nat.mod_eq_of_lt h]
theorem row1 {b : BitVec 32} (h : b.toNat < 32) : (![(Scalar.indexCast b : Index).toNat] : Fin 1 → ℕ) = ![b.toNat % 32] := by
  rw [row_word b h, Nat.mod_eq_of_lt h]

theorem row1' {b : BitVec 32} (h : b.toNat < 32) (r : Fin 32) (hr : r.val = b.toNat % 32) :
    ∀ a : Fin 1, (![(Scalar.indexCast b : Index).toNat] : Fin 1 → ℕ) a = (ix1 r a).val := by
  rw [row1 h, ← hr]
  intro a
  fin_cases a
  rfl

/-! ## The trip -/

variable (arg0 : Memref sig .tc .smem S32x256 .i32) (harg0 : arg0.IsWhole) (arg1 : Memref sig .tc .smem S32 .i32) (harg1 : arg1.IsWhole) (arg2 : Memref sig .tc .smem S2x1024 .i32) (harg2 : arg2.IsWhole) (arg3 : Memref sig .tc .smem S1 .i32) (harg3 : arg3.IsWhole) (arg4 : Memref sig .tc .vmem S32x16x128 .f32) (harg4 : arg4.IsWhole) (arg5 : Memref sig .tc .hbm S256x32x16x128 .f32) (harg5 : arg5.IsWhole) (arg6 : Memref sig .tc .hbm S256x32x16x128 .f32) (harg6 : arg6.IsWhole) (arg7 : Memref sig .tc .vmem S32x16x128 .f32) (harg7 : arg7.IsWhole) (arg8 : Memref sig .tc .vmem S32x16x128 .f32) (harg8 : arg8.IsWhole) (arg9 : Memref sig .tc .vmem S32x16 .f32) (harg9 : arg9.IsWhole) (arg10 : Memref sig .tc .vmem S4x32x16x128 .f32) (harg10 : arg10.IsWhole) (arg11 : Memref sig .tc .vmem S4x32x16 .f32) (harg11 : arg11.IsWhole) (arg12 : Memref sig .tc .vmem S4x8x32x16x128 .f32) (harg12 : arg12.IsWhole) (arg13 : Memref sig .tc .vmem S4x8x32x16x128 .f32) (harg13 : arg13.IsWhole) (arg14 : DmaSems sig S4x8x2) (arg15 : DmaSems sig S4x2) (arg16 : DmaSems sig S4x2) (v356_r0 : Sems sig S_)
variable {defs : Defs nD τ sig (Elt F) Λ₀}

/-- A trip after its first part. -/
def tripRest (d0 : Dev nD) {n : ℕ} (hw : k0_chk28 d0 (BitVec.ofNat 32 n)) (t : Fin (k0_t1_loop d0 (BitVec.ofNat 32 n)).trips) (v11 : BitVec 32) :
    Prog (TpuEff nD τ sig (Elt F) Λ₀ .tc) (BitVec 32) :=
  ((do
            let arg17 : BitVec 32 := Scf.iv 0#32 1#32 t
            let v356 : BitVec 32 := Scalar.remsi arg17 4#32
            let v361 : BitVec 32 := Scalar.muli 8#32 arg17
            let v362 : BitVec 32 := Scalar.addi v11 v361
            let v364 : Elt F .i32 ← smemLoad arg2 (Rect.unit (s := S2x1024) (k0_off201 d0 (BitVec.ofNat 32 n) t) S1x1.size (k0_off201_inb d0 (BitVec.ofNat 32 n) hw t)) numel1_S1x1 rfl
            let v366 : Elt F .i32 ← smemLoad arg2 (Rect.unit (s := S2x1024) (k0_off202 d0 (BitVec.ofNat 32 n) t) S1x1.size (k0_off202_inb d0 (BitVec.ofNat 32 n) hw t)) numel1_S1x1 rfl
            have k0_hw38 : k0_chk38 v364 v366 := (← Prog.lift (TpuEff.assume (k0_chk38 v364 v366) (k0_chk38.dec v364 v366))).down
            let v371 : Elt F .i32 ← smemLoad arg0 (Rect.unit (s := S32x256) (k0_off203 v364 v366) S1x1.size (k0_off203_inb v364 v366 k0_hw38)) numel1_S1x1 rfl
            have k0_hw39 : k0_chk39 v371 := (← Prog.lift (TpuEff.assume (k0_chk39 v371) (k0_chk39.dec v371))).down
            let v372 : DmaSems sig S1x1x1 := arg14.slice (Rect.unit (s := S4x8x2) (k0_off204 d0 (BitVec.ofNat 32 n) t) S1x1x1.size (k0_off204_inb d0 (BitVec.ofNat 32 n) hw t))
            let v373 : DmaSems sig S_ := v372.squeeze S_ squeezes_S1x1x1_S_
            let v374 : Memref sig .tc .vmem S1x1x32x16x128 .f32 := arg12.slice (Rect.unit (s := S4x8x32x16x128) (k0_off205 d0 (BitVec.ofNat 32 n) t) S1x1x32x16x128.size (k0_off205_inb d0 (BitVec.ofNat 32 n) hw t)) (fun _ => rfl)
            let v375 : Memref sig .tc .vmem S32x16x128 .f32 := v374.squeeze S32x16x128 squeezes_S1x1x32x16x128_S32x16x128
            let v376 : Memref sig .tc .hbm S1x32x16x128 .f32 := arg5.slice (Rect.unit (s := S256x32x16x128) (k0_off206 v371) S1x32x16x128.size (k0_off206_inb v371 k0_hw39)) (fun _ => rfl)
            let v377 : Memref sig .tc .hbm S32x16x128 .f32 := v376.squeeze S32x16x128 squeezes_S1x32x16x128_S32x16x128
            Prog.lift (.waitDma2 v373.sem v377 v375 ((View.wordExact_bits rfl).reshape _ _) ((View.wordExact_bits rfl).reshape _ _))
            let v378 : DmaSems sig S1x1x1 := arg14.slice (Rect.unit (s := S4x8x2) (k0_off207 d0 (BitVec.ofNat 32 n) t) S1x1x1.size (k0_off207_inb d0 (BitVec.ofNat 32 n) hw t))
            let v379 : DmaSems sig S_ := v378.squeeze S_ squeezes_S1x1x1_S_
            let v380 : Memref sig .tc .vmem S1x1x32x16x128 .f32 := arg13.slice (Rect.unit (s := S4x8x32x16x128) (k0_off208 d0 (BitVec.ofNat 32 n) t) S1x1x32x16x128.size (k0_off208_inb d0 (BitVec.ofNat 32 n) hw t)) (fun _ => rfl)
            let v381 : Memref sig .tc .vmem S32x16x128 .f32 := v380.squeeze S32x16x128 squeezes_S1x1x32x16x128_S32x16x128
            let v382 : Memref sig .tc .hbm S1x32x16x128 .f32 := arg6.slice (Rect.unit (s := S256x32x16x128) (k0_off206 v371) S1x32x16x128.size (k0_off206_inb v371 k0_hw39)) (fun _ => rfl)
            let v383 : Memref sig .tc .hbm S32x16x128 .f32 := v382.squeeze S32x16x128 squeezes_S1x32x16x128_S32x16x128
            Prog.lift (.waitDma2 v379.sem v383 v381 ((View.wordExact_bits rfl).reshape _ _) ((View.wordExact_bits rfl).reshape _ _))
            pure ⟨v356, v362, v364, v366, k0_hw38⟩ : Prog (TpuEff nD τ sig (Elt F) Λ₀ .tc) (Σ' (v356 : BitVec 32) (v362 : BitVec 32) (v364 : Elt F .i32) (v366 : Elt F .i32), k0_chk38 v364 v366)) >>= fun ⟨v356, v362, v364, v366, k0_hw38⟩ => do
            let ⟨v405, k0_hw41⟩ : Σ' (v405 : Elt F .i32), k0_chk41 v405 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t v364 v366 k0_hw38
            k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t v364 v366 k0_hw38 v405 k0_hw41
            let ⟨v456, k0_hw44⟩ : Σ' (v456 : Elt F .i32), k0_chk44 v456 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t v364 v366 k0_hw38
            k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t v364 v366 k0_hw38 v456 k0_hw44
            let ⟨v504, k0_hw47, v506, v509, v513⟩ : Σ' (v504 : Elt F .i32) (k0_hw47 : k0_chk47 v504) (v506 : Elt F .i32) (v509 : FVec F S1x16x128 .f32), FVec F S256x16x128 .f32 ← k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t v356 v362 v364 v366 k0_hw38
            let ⟨v517, v555, v557⟩ : Σ' (v517 : FVec F S256x16x128 .f32) (v555 : FVec F S256x16 .f32), Vec F S1x16 .f32 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 (BitVec.ofNat 32 n) hw t v356 v504 k0_hw47 v506 v509 v513
            let v562 : Vec F S1x16 .f32 ← Prog.lift (.load arg9 (Rect.unit (s := S32x16) (k0_off256 v504) S1x16.size (k0_off256_inb v504 k0_hw47)).toLoadRect (View.loadsAt_vmem h_S1x16))
            Prog.lift (.store arg9 (Rect.unit (s := S32x16) (k0_off256 v504) S1x16.size (k0_off256_inb v504 k0_hw47)) (k0_pay11 v555 v557) Finset.univ (View.stores_vmem_bits_univ h_S1x16 rfl) (.inl rfl))
            let v566 : Vec F S1x16x128 .f32 ← Prog.lift (.load arg8 (Rect.unit (s := S32x16x128) (k0_off253 v504) S1x16x128.size (k0_off253_inb v504 k0_hw47)).toLoadRect (View.loadsAt_vmem h_S1x16x128))
            let v574 : Vec F S1x16x128 .f32 ← Prog.lift (.load arg8 (Rect.unit (s := S32x16x128) (k0_off253 v504) S1x16x128.size (k0_off253_inb v504 k0_hw47)).toLoadRect (View.loadsAt_vmem h_S1x16x128))
            Prog.lift (.store arg8 (Rect.unit (s := S32x16x128) (k0_off253 v504) S1x16x128.size (k0_off253_inb v504 k0_hw47)) (k0_pay12 v517 v555 v566) Finset.univ (View.stores_vmem_bits_univ h_S1x16x128 rfl) (.inl rfl))
            pure 0#32)

set_option maxHeartbeats 8000000 in
/-- A trip after its first part: the sixteen copies are awaited and the sums updated. -/
theorem trip_rest (d0 : Dev nD) {n : ℕ} (hw : k0_chk28 d0 (BitVec.ofNat 32 n)) {X0 : S32x256.Idx → BitVec 32} {X1 : S32.Idx → BitVec 32}
    {X2 : S2x1024.Idx → BitVec 32} {XQ : S32x16x128.Idx → Elt F .f32}
    (hg : Good X0 X2 n) {q0 q1 q2 q4 : PosShare TreeShare}
    (fk : Buf (Elt F) (arg5.view.loc (d0 : Thread nD τ))) (fv : Buf (Elt F) (arg6.view.loc (d0 : Thread nD τ)))
    (G : Rings F d0) (hG : G = RR d0 arg5 arg6 arg12 arg13 arg14 fk fv) (V : Vals F) (hV : V = ⟨X1, X2, XQ, G.kc X0 X2, G.vc X0 X2⟩)
    {O : CellTallies nD τ sig Unit} {A : S32x16x128.Idx → Elt F .f32} {L : S32x16.Idx → Elt F .f32}
    (t : Fin (k0_t1_loop d0 (BitVec.ofNat 32 n)).trips) (v11 : BitVec 32)
    {Q : BitVec 32 → sProp (MT nD τ sig Unit (Elt F) ℕ UU ℕ)} :
    iprop((owns (d0 : Thread nD τ) arg0 q0 X0 ∗ owns (d0 : Thread nD τ) arg1 q1 X1 ∗ owns (d0 : Thread nD τ) arg2 q2 X2 ∗ owns (d0 : Thread nD τ) arg4 q4 XQ)
        ∗ owns (d0 : Thread nD τ) arg8 fullShare A ∗ owns (d0 : Thread nD τ) arg9 fullShare L
        ∗ Sl G X0 X2 n (fs4 t.val) t.val ∗ (∃ W, owes (d0 : Thread nD τ) O W) ∗ MayLocal G.A d0 O
        ∗ (iprop((owns (d0 : Thread nD τ) arg0 q0 X0 ∗ owns (d0 : Thread nD τ) arg1 q1 X1 ∗ owns (d0 : Thread nD τ) arg2 q2 X2 ∗ owns (d0 : Thread nD τ) arg4 q4 XQ)
          ∗ owns (d0 : Thread nD τ) arg8 fullShare (V.stepA (rep d0 + 8 * t.val) A) ∗ owns (d0 : Thread nD τ) arg9 fullShare (V.stepL (rep d0 + 8 * t.val) L)
          ∗ FreeS G (fs4 t.val) ∗ ∃ W, owes (d0 : Thread nD τ) O W) -∗ Q 0#32))
      ⊢ wp frame (wpE defs 𝒱₀ (d0 : Thread nD τ) none) Set.univ
        (tripRest (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw t v11) Q := by
  subst hG
  subst hV
  have ht := lt1' d0 hg.n_le t
  have htn := lt1 d0 hg.n_le t
  have hlt := chunk_lt d0 htn
  have hle := hg.n_le
  have hb := hg.chunk 0 _ hlt
  have hl := hg.chunk 1 _ hlt
  have hs := slotW t.val ht
  have hsI := slotI t.val ht
  unfold tripRest
  simp only [k0_part22_eq_skeleton, k0_part23_eq_skeleton, k0_part24_eq_skeleton, k0_part25_eq_skeleton, k0_part26_eq_skeleton, k0_part27_eq_skeleton,
    k0_part22_skel, k0_part23_skel, k0_part24_skel, k0_part25_skel, k0_part26_skel, k0_part27_skel,
    Prog.lift, Prog.bind_assoc, Prog.bind_op, Prog.bind_ret, Prog.pure_eq_ret]
  rw [show Sl (RR d0 arg5 arg6 arg12 arg13 arg14 fk fv) X0 X2 n (fs4 t.val) t.val
    = InflS _ (fs4 t.val) (pgN X0 (X2 (cX 0 (rep d0 + 8 * t.val))) (X2 (cX 1 (rep d0 + 8 * t.val)))) from if_pos htn]
  unfold InflS
  rw [fin8]
  iintro ⟨⟨H0, H1, H2, H4⟩, HA, HL, ⟨F0, F1, F2, F3, F4, F5, F6, F7⟩, Ho, #Hm, Hc⟩
  iapply (wp_word (Q := Q) (defs := defs) (q := q2) d0 (cX 0 (rep d0 + 8 * t.val)) (cX_off 0 (chunkW d0 t.val ht) (by omega)) (by decide)) $$ H2
  iintro H2
  iapply (wp_word (Q := Q) (defs := defs) (q := q2) d0 (cX 1 (rep d0 + 8 * t.val)) (cX_off 1 (chunkW d0 t.val ht) (by omega)) (by decide)) $$ H2
  iintro H2
  iapply (wp_assume 𝒱₀ (d0 : Thread nD τ) none Set.univ
    (show k0_chk38 _ _ from
      ⟨pgX_in hb hl 0, pgX_in hb hl 1, pgX_in hb hl 2, pgX_in hb hl 3, pgX_in hb hl 4, pgX_in hb hl 5, pgX_in hb hl 6, pgX_in hb hl 7⟩))
  iapply (wp_pageAwait (Q := Q) (defs := defs) (q := q0) (O := O) (RR d0 arg5 arg6 arg12 arg13 arg14 fk fv) (s := fs4 t.val) (p := 0) (pgX _ _ 0) (pgX_off hb hl 0)
    (P := fun v => k0_chk39 v) (page_in (hg.page _)) (congrArg (fun w => ![w, 0, 0, 0, 0]) hs) (congrArg (fun w => ![w, 0, 0]) hs)
    (congrArg (fun w => ![w, 0, 0, 0, 0]) hs) (congrArg (fun w => ![w, 0, 1]) hs) (fun v hv => k0_off206_inb v hv)) $$ [H0 F0 Ho]
  · isplitl [H0]; · iexact H0
    isplitl [F0]; · iexact F0
    isplitl [Ho]; · iexact Ho
    iexact Hm
  iintro ⟨H0, F0, Ho⟩
  iapply (wp_pageAwait (Q := Q) (defs := defs) (q := q0) (O := O) (RR d0 arg5 arg6 arg12 arg13 arg14 fk fv) (s := fs4 t.val) (p := 1) (pgX _ _ 1) (pgX_off hb hl 1)
    (P := fun v => k0_chk40 v) (page_in (hg.page _)) (congrArg (fun w => ![w, 1, 0, 0, 0]) hs) (congrArg (fun w => ![w, 1, 0]) hs)
    (congrArg (fun w => ![w, 1, 0, 0, 0]) hs) (congrArg (fun w => ![w, 1, 1]) hs) (fun v hv => k0_off212_inb v hv)) $$ [H0 F1 Ho]
  · isplitl [H0]; · iexact H0
    isplitl [F1]; · iexact F1
    isplitl [Ho]; · iexact Ho
    iexact Hm
  iintro ⟨H0, F1, Ho⟩
  iapply (wp_pageAwait (Q := Q) (defs := defs) (q := q0) (O := O) (RR d0 arg5 arg6 arg12 arg13 arg14 fk fv) (s := fs4 t.val) (p := 2) (pgX _ _ 2) (pgX_off hb hl 2)
    (P := fun v => k0_chk41 v) (page_in (hg.page _)) (congrArg (fun w => ![w, 2, 0, 0, 0]) hs) (congrArg (fun w => ![w, 2, 0]) hs)
    (congrArg (fun w => ![w, 2, 0, 0, 0]) hs) (congrArg (fun w => ![w, 2, 1]) hs) (fun v hv => k0_off218_inb v hv)) $$ [H0 F2 Ho]
  · isplitl [H0]; · iexact H0
    isplitl [F2]; · iexact F2
    isplitl [Ho]; · iexact Ho
    iexact Hm
  iintro ⟨H0, F2, Ho⟩
  iapply (wp_pageAwait (Q := Q) (defs := defs) (q := q0) (O := O) (RR d0 arg5 arg6 arg12 arg13 arg14 fk fv) (s := fs4 t.val) (p := 3) (pgX _ _ 3) (pgX_off hb hl 3)
    (P := fun v => k0_chk42 v) (page_in (hg.page _)) (congrArg (fun w => ![w, 3, 0, 0, 0]) hs) (congrArg (fun w => ![w, 3, 0]) hs)
    (congrArg (fun w => ![w, 3, 0, 0, 0]) hs) (congrArg (fun w => ![w, 3, 1]) hs) (fun v hv => k0_off224_inb v hv)) $$ [H0 F3 Ho]
  · isplitl [H0]; · iexact H0
    isplitl [F3]; · iexact F3
    isplitl [Ho]; · iexact Ho
    iexact Hm
  iintro ⟨H0, F3, Ho⟩
  iapply (wp_pageAwait (Q := Q) (defs := defs) (q := q0) (O := O) (RR d0 arg5 arg6 arg12 arg13 arg14 fk fv) (s := fs4 t.val) (p := 4) (pgX _ _ 4) (pgX_off hb hl 4)
    (P := fun v => k0_chk43 v) (page_in (hg.page _)) (congrArg (fun w => ![w, 4, 0, 0, 0]) hs) (congrArg (fun w => ![w, 4, 0]) hs)
    (congrArg (fun w => ![w, 4, 0, 0, 0]) hs) (congrArg (fun w => ![w, 4, 1]) hs) (fun v hv => k0_off230_inb v hv)) $$ [H0 F4 Ho]
  · isplitl [H0]; · iexact H0
    isplitl [F4]; · iexact F4
    isplitl [Ho]; · iexact Ho
    iexact Hm
  iintro ⟨H0, F4, Ho⟩
  iapply (wp_pageAwait (Q := Q) (defs := defs) (q := q0) (O := O) (RR d0 arg5 arg6 arg12 arg13 arg14 fk fv) (s := fs4 t.val) (p := 5) (pgX _ _ 5) (pgX_off hb hl 5)
    (P := fun v => k0_chk44 v) (page_in (hg.page _)) (congrArg (fun w => ![w, 5, 0, 0, 0]) hs) (congrArg (fun w => ![w, 5, 0]) hs)
    (congrArg (fun w => ![w, 5, 0, 0, 0]) hs) (congrArg (fun w => ![w, 5, 1]) hs) (fun v hv => k0_off236_inb v hv)) $$ [H0 F5 Ho]
  · isplitl [H0]; · iexact H0
    isplitl [F5]; · iexact F5
    isplitl [Ho]; · iexact Ho
    iexact Hm
  iintro ⟨H0, F5, Ho⟩
  iapply (wp_pageAwait (Q := Q) (defs := defs) (q := q0) (O := O) (RR d0 arg5 arg6 arg12 arg13 arg14 fk fv) (s := fs4 t.val) (p := 6) (pgX _ _ 6) (pgX_off hb hl 6)
    (P := fun v => k0_chk45 v) (page_in (hg.page _)) (congrArg (fun w => ![w, 6, 0, 0, 0]) hs) (congrArg (fun w => ![w, 6, 0]) hs)
    (congrArg (fun w => ![w, 6, 0, 0, 0]) hs) (congrArg (fun w => ![w, 6, 1]) hs) (fun v hv => k0_off242_inb v hv)) $$ [H0 F6 Ho]
  · isplitl [H0]; · iexact H0
    isplitl [F6]; · iexact F6
    isplitl [Ho]; · iexact Ho
    iexact Hm
  iintro ⟨H0, F6, Ho⟩
  iapply (wp_pageAwait (Q := Q) (defs := defs) (q := q0) (O := O) (RR d0 arg5 arg6 arg12 arg13 arg14 fk fv) (s := fs4 t.val) (p := 7) (pgX _ _ 7) (pgX_off hb hl 7)
    (P := fun v => k0_chk46 v) (page_in (hg.page _)) (congrArg (fun w => ![w, 7, 0, 0, 0]) hs) (congrArg (fun w => ![w, 7, 0]) hs)
    (congrArg (fun w => ![w, 7, 0, 0, 0]) hs) (congrArg (fun w => ![w, 7, 1]) hs) (fun v hv => k0_off248_inb v hv)) $$ [H0 F7 Ho]
  · isplitl [H0]; · iexact H0
    isplitl [F7]; · iexact F7
    isplitl [Ho]; · iexact Ho
    iexact Hm
  iintro ⟨H0, F7, Ho⟩
  ihave HD := (done_open (RR d0 arg5 arg6 arg12 arg13 arg14 fk fv) (fs4 t.val) (pgN X0 (X2 (cX 0 (rep d0 + 8 * t.val))) (X2 (cX 1 (rep d0 + 8 * t.val))))) $$ [F0 F1 F2 F3 F4 F5 F6 F7]
  · rw [fin8]
    isplitl [F0]; · iexact F0
    isplitl [F1]; · iexact F1
    isplitl [F2]; · iexact F2
    isplitl [F3]; · iexact F3
    isplitl [F4]; · iexact F4
    isplitl [F5]; · iexact F5
    isplitl [F6]; · iexact F6
    iexact F7
  icases HD with ⟨HK, HV, HR⟩
  iapply (wp_word (Q := Q) (defs := defs) (q := q2) d0 (cX 0 (rep d0 + 8 * t.val)) (cX_off 0 (chunkW d0 t.val ht) (by omega)) (by decide)) $$ H2
  iintro H2
  have hrow : (X2 (cX 0 (rep d0 + 8 * t.val))).toNat % 32 = (X2 (cX 0 (rep d0 + 8 * t.val))).toNat := Nat.mod_eq_of_lt hb
  iapply (wp_assume 𝒱₀ (d0 : Thread nD τ) none Set.univ (show k0_chk47 _ from
      ⟨fun a => (congrArg (fun o => o a + S1x16x128.size a) (row3 hb)).trans_le (in3 (Vals.row ⟨X1, X2, XQ, (RR d0 arg5 arg6 arg12 arg13 arg14 fk fv).kc X0 X2, (RR d0 arg5 arg6 arg12 arg13 arg14 fk fv).vc X0 X2⟩ (rep d0 + 8 * t.val)) a),
       fun a => (congrArg (fun o => o a + S1.size a) (row1 hb)).trans_le (in1 (Vals.row ⟨X1, X2, XQ, (RR d0 arg5 arg6 arg12 arg13 arg14 fk fv).kc X0 X2, (RR d0 arg5 arg6 arg12 arg13 arg14 fk fv).vc X0 X2⟩ (rep d0 + 8 * t.val)) a),
       fun a => (congrArg (fun o => o a + S1x16.size a) (row2 hb)).trans_le (in2 (Vals.row ⟨X1, X2, XQ, (RR d0 arg5 arg6 arg12 arg13 arg14 fk fv).kc X0 X2, (RR d0 arg5 arg6 arg12 arg13 arg14 fk fv).vc X0 X2⟩ (rep d0 + 8 * t.val)) a)⟩))
  iapply (wp_word (Q := Q) (defs := defs) (q := q2) d0 (cX 1 (rep d0 + 8 * t.val)) (cX_off 1 (chunkW d0 t.val ht) (by omega)) (by decide)) $$ H2
  iintro H2
  iapply (wp_window' (Q := Q) (defs := defs) (q := q4) d0 (row3 hb) (in3 (Vals.row ⟨X1, X2, XQ, (RR d0 arg5 arg6 arg12 arg13 arg14 fk fv).kc X0 X2, (RR d0 arg5 arg6 arg12 arg13 arg14 fk fv).vc X0 X2⟩ (rep d0 + 8 * t.val)))) $$ H4
  iintro H4
  iapply (wp_slot (Q := Q) (defs := defs) d0 (s := fs4 t.val) (congrArg (fun w => ![w, 0, 0, 0, 0]) hsI)) $$ HK
  iintro HK
  iapply (wp_slot (Q := Q) (defs := defs) d0 (s := fs4 t.val) (congrArg (fun w => ![w, 0, 0, 0, 0]) hsI)) $$ HV
  iintro HV
  iapply (wp_word (Q := Q) (defs := defs) (q := q1) d0 (ix1 (Vals.row ⟨X1, X2, XQ, (RR d0 arg5 arg6 arg12 arg13 arg14 fk fv).kc X0 X2, (RR d0 arg5 arg6 arg12 arg13 arg14 fk fv).vc X0 X2⟩ (rep d0 + 8 * t.val))) (row1' hb _ rfl) (by decide)) $$ H1
  iintro H1
  iapply (wp_window' (Q := Q) (defs := defs) (q := fullShare) d0 (row2 hb) (in2 (Vals.row ⟨X1, X2, XQ, (RR d0 arg5 arg6 arg12 arg13 arg14 fk fv).kc X0 X2, (RR d0 arg5 arg6 arg12 arg13 arg14 fk fv).vc X0 X2⟩ (rep d0 + 8 * t.val)))) $$ HL
  iintro HL
  iapply (wp_window' (Q := Q) (defs := defs) (q := fullShare) d0 (row2 hb) (in2 (Vals.row ⟨X1, X2, XQ, (RR d0 arg5 arg6 arg12 arg13 arg14 fk fv).kc X0 X2, (RR d0 arg5 arg6 arg12 arg13 arg14 fk fv).vc X0 X2⟩ (rep d0 + 8 * t.val)))) $$ HL
  iintro HL
  iapply (wp_put' (Q := Q) (defs := defs) d0 (row2 hb)) $$ HL
  iintro HL
  iapply (wp_window' (Q := Q) (defs := defs) (q := fullShare) d0 (row3 hb) (in3 (Vals.row ⟨X1, X2, XQ, (RR d0 arg5 arg6 arg12 arg13 arg14 fk fv).kc X0 X2, (RR d0 arg5 arg6 arg12 arg13 arg14 fk fv).vc X0 X2⟩ (rep d0 + 8 * t.val)))) $$ HA
  iintro HA
  iapply (wp_window' (Q := Q) (defs := defs) (q := fullShare) d0 (row3 hb) (in3 (Vals.row ⟨X1, X2, XQ, (RR d0 arg5 arg6 arg12 arg13 arg14 fk fv).kc X0 X2, (RR d0 arg5 arg6 arg12 arg13 arg14 fk fv).vc X0 X2⟩ (rep d0 + 8 * t.val)))) $$ HA
  iintro HA
  iapply (wp_put' (Q := Q) (defs := defs) d0 (row3 hb)) $$ HA
  iintro HA
  ihave HF := (free_close (RR d0 arg5 arg6 arg12 arg13 arg14 fk fv) (fs4 t.val) _ _) $$ [HK HV HR]
  · isplitl [HK]; · iexact HK
    isplitl [HV]; · iexact HV
    iexact HR
  rw [wp_ret]
  imodintro
  iapply Hc
  isplitl [H0 H1 H2 H4]
  · isplitl [H0]; · iexact H0
    isplitl [H1]; · iexact H1
    isplitl [H2] <;> iassumption
  isplitl [HA]; · iexact HA
  isplitl [HL]; · iexact HL
  isplitl [HF]; · iexact HF
  iexact Ho

theorem body_no (d0 : Dev nD) {n : ℕ} (hw : k0_chk28 d0 (BitVec.ofNat 32 n)) (t : Fin (k0_t1_loop d0 (BitVec.ofNat 32 n)).trips)
    (v2 v8 v11 v12 v51 c8 v52 v57 v62 v69 x : BitVec 32) (h4 : ¬ k0_cond4 d0 (BitVec.ofNat 32 n) t = 1#1) :
    (k0_t1_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 v69 t x : Prog (TpuEff nD τ sig (Elt F) Λ₀ .tc) (BitVec 32))
      = tripRest arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw t v11 := by
  unfold k0_t1_body tripRest
  rw [k0_part21_eq_skeleton]
  unfold k0_part21_skel
  rw [dif_neg h4]

theorem body_yes (d0 : Dev nD) {n : ℕ} (hw : k0_chk28 d0 (BitVec.ofNat 32 n)) (t : Fin (k0_t1_loop d0 (BitVec.ofNat 32 n)).trips)
    (v2 v8 v11 v12 v51 c8 v52 v57 v62 v69 x : BitVec 32) (h4 : k0_cond4 d0 (BitVec.ofNat 32 n) t = 1#1) :
    (k0_t1_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 v69 t x : Prog (TpuEff nD τ sig (Elt F) Λ₀ .tc) (BitVec 32))
      = blockAhead arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw t h4 v11 (Scf.iv 0#32 1#32 t) (tripRest arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw t v11) := by
  unfold k0_t1_body tripRest blockAhead
  rw [k0_part21_eq_skeleton]
  unfold k0_part21_skel
  rw [dif_pos h4]
  simp only [Prog.bind_assoc]

set_option maxHeartbeats 1000000 in
/-- Trip `t`: the chunk three ahead is started if there is one, and chunk `t` is awaited and summed. -/
theorem trip (d0 : Dev nD) {n : ℕ} (hw : k0_chk28 d0 (BitVec.ofNat 32 n)) {X0 : S32x256.Idx → BitVec 32} {X1 : S32.Idx → BitVec 32}
    {X2 : S2x1024.Idx → BitVec 32} {XQ : S32x16x128.Idx → Elt F .f32}
    (hg : Good X0 X2 n) {q0 q1 q2 q4 : PosShare TreeShare}
    (fk : Buf (Elt F) (arg5.view.loc (d0 : Thread nD τ))) (fv : Buf (Elt F) (arg6.view.loc (d0 : Thread nD τ)))
    (G : Rings F d0) (hG : G = RR d0 arg5 arg6 arg12 arg13 arg14 fk fv) (V : Vals F) (hV : V = ⟨X1, X2, XQ, G.kc X0 X2, G.vc X0 X2⟩)
    {O : CellTallies nD τ sig Unit} {A : S32x16x128.Idx → Elt F .f32} {L : S32x16.Idx → Elt F .f32}
    (t : Fin (k0_t1_loop d0 (BitVec.ofNat 32 n)).trips) (v2 v8 v11 v12 v51 c8 v52 v57 v62 v69 x : BitVec 32) :
    iprop((owns (d0 : Thread nD τ) arg0 q0 X0 ∗ owns (d0 : Thread nD τ) arg1 q1 X1 ∗ owns (d0 : Thread nD τ) arg2 q2 X2 ∗ owns (d0 : Thread nD τ) arg4 q4 XQ)
        ∗ owns (d0 : Thread nD τ) arg8 fullShare A ∗ owns (d0 : Thread nD τ) arg9 fullShare L
        ∗ Sl G X0 X2 n (fs4 t.val) t.val ∗ FreeS G (fs4 (t.val + 3)) ∗ (∃ W, owes (d0 : Thread nD τ) O W) ∗ MayLocal G.A d0 O)
      ⊢ wp frame (wpE defs 𝒱₀ (d0 : Thread nD τ) none) Set.univ
        (k0_t1_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 v69 t x)
        (fun _ => iprop((owns (d0 : Thread nD τ) arg0 q0 X0 ∗ owns (d0 : Thread nD τ) arg1 q1 X1 ∗ owns (d0 : Thread nD τ) arg2 q2 X2 ∗ owns (d0 : Thread nD τ) arg4 q4 XQ)
          ∗ owns (d0 : Thread nD τ) arg8 fullShare (V.stepA (rep d0 + 8 * t.val) A) ∗ owns (d0 : Thread nD τ) arg9 fullShare (V.stepL (rep d0 + 8 * t.val) L)
          ∗ FreeS G (fs4 t.val) ∗ Sl G X0 X2 n (fs4 (t.val + 3)) (t.val + 3) ∗ ∃ W, owes (d0 : Thread nD τ) O W)) := by
  have hrest := fun Q => trip_rest arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q1 := q1) (q2 := q2) (q4 := q4) d0 hw hg fk fv G hG V hV (O := O) (A := A) (L := L) t v11 (Q := Q)
  by_cases h4 : k0_cond4 d0 (BitVec.ofNat 32 n) t = 1#1
  · have hj : t.val + 3 < nmine d0 n := (cond4_iff d0 hg.n_le t).1 h4
    rw [body_yes arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (F := F) d0 hw t v2 v8 v11 v12 v51 c8 v52 v57 v62 v69 x h4]
    subst hG
    iintro ⟨⟨H0, H1, H2, H4⟩, HA, HL, HS, HF, Ho, Hm⟩
    iapply (issue_ahead arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q2 := q2) d0 hw hg fk fv t h4 v11 (Scf.iv 0#32 1#32 t)
      (tripRest arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw t v11)) $$ [H0 H2 HF]
    · isplitl [H0]; · iexact H0
      isplitl [H2]; · iexact H2
      iexact HF
    iintro ⟨H0, H2, HF⟩
    iapply hrest
    isplitl [H0 H1 H2 H4]
    · isplitl [H0]; · iexact H0
      isplitl [H1]; · iexact H1
      isplitl [H2] <;> iassumption
    isplitl [HA]; · iexact HA
    isplitl [HL]; · iexact HL
    isplitl [HS]; · iexact HS
    isplitl [Ho]; · iexact Ho
    isplitl [Hm]; · iexact Hm
    iintro ⟨HT, HA, HL, HS, Ho⟩
    isplitl [HT]; · iexact HT
    isplitl [HA]; · iexact HA
    isplitl [HL]; · iexact HL
    isplitl [HS]; · iexact HS
    isplitl [HF]
    · unfold Sl
      rw [if_pos hj]
      iexact HF
    iexact Ho
  · have hj : ¬ t.val + 3 < nmine d0 n := fun h => h4 ((cond4_iff d0 hg.n_le t).2 h)
    rw [body_no arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (F := F) d0 hw t v2 v8 v11 v12 v51 c8 v52 v57 v62 v69 x h4]
    iintro ⟨HT, HA, HL, HS, HF, Ho, Hm⟩
    iapply hrest
    isplitl [HT]; · iexact HT
    isplitl [HA]; · iexact HA
    isplitl [HL]; · iexact HL
    isplitl [HS]; · iexact HS
    isplitl [Ho]; · iexact Ho
    isplitl [Hm]; · iexact Hm
    iintro ⟨HT, HA, HL, HS, Ho⟩
    isplitl [HT]; · iexact HT
    isplitl [HA]; · iexact HA
    isplitl [HL]; · iexact HL
    isplitl [HS]; · iexact HS
    isplitl [HF]
    · unfold Sl
      rw [if_neg hj]
      iexact HF
    iexact Ho

end Cert.KProof

end
-- ==== Proof.Local.lean ====
/-
  The local part of a body: the first three chunks are started, and the loop adds up every chunk of the device.
-/
module

public import proofs.«01_k».proof.Proof.Trip

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (arg0 : Memref sig .tc .smem S32x256 .i32) (harg0 : arg0.IsWhole) (arg1 : Memref sig .tc .smem S32 .i32) (harg1 : arg1.IsWhole) (arg2 : Memref sig .tc .smem S2x1024 .i32) (harg2 : arg2.IsWhole) (arg3 : Memref sig .tc .smem S1 .i32) (harg3 : arg3.IsWhole) (arg4 : Memref sig .tc .vmem S32x16x128 .f32) (harg4 : arg4.IsWhole) (arg5 : Memref sig .tc .hbm S256x32x16x128 .f32) (harg5 : arg5.IsWhole) (arg6 : Memref sig .tc .hbm S256x32x16x128 .f32) (harg6 : arg6.IsWhole) (arg7 : Memref sig .tc .vmem S32x16x128 .f32) (harg7 : arg7.IsWhole) (arg8 : Memref sig .tc .vmem S32x16x128 .f32) (harg8 : arg8.IsWhole) (arg9 : Memref sig .tc .vmem S32x16 .f32) (harg9 : arg9.IsWhole) (arg10 : Memref sig .tc .vmem S4x32x16x128 .f32) (harg10 : arg10.IsWhole) (arg11 : Memref sig .tc .vmem S4x32x16 .f32) (harg11 : arg11.IsWhole) (arg12 : Memref sig .tc .vmem S4x8x32x16x128 .f32) (harg12 : arg12.IsWhole) (arg13 : Memref sig .tc .vmem S4x8x32x16x128 .f32) (harg13 : arg13.IsWhole) (arg14 : DmaSems sig S4x8x2) (arg15 : DmaSems sig S4x2) (arg16 : DmaSems sig S4x2) (v356_r0 : Sems sig S_)
variable {defs : Defs nD τ sig (Elt F) Λ₀}

/-- Chunk 0 is started if there is one. -/
theorem start_first (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (v11 : BitVec 32) {α : Type} (K : Prog (TpuEff nD τ sig (Elt F) Λ₀ .tc) α) {Q : α → sProp (MT nD τ sig Unit (Elt F) ℕ UU ℕ)} :
    iprop(owns (d0 : Thread nD τ) arg0 q0 X0 ∗ owns (d0 : Thread nD τ) arg2 q2 X2 ∗ FreeS (RR d0 arg5 arg6 arg12 arg13 arg14 fk fv) 0)
      ⊢ iprop((iprop(owns (d0 : Thread nD τ) arg0 q0 X0 ∗ owns (d0 : Thread nD τ) arg2 q2 X2
            ∗ Sl (RR d0 arg5 arg6 arg12 arg13 arg14 fk fv) X0 X2 n 0 0)
          -∗ wp frame (wpE defs 𝒱₀ (d0 : Thread nD τ) none) Set.univ K Q)
        -∗ wp frame (wpE defs 𝒱₀ (d0 : Thread nD τ) none) Set.univ
          (if h : k0_cond1 d0 (BitVec.ofNat 32 n) = 1#1 then blockFirst arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h v11 K else K) Q) := by
  unfold Sl
  by_cases h : k0_cond1 d0 (BitVec.ofNat 32 n) = 1#1
  · rw [dif_pos h, if_pos ((cond1_iff d0 hg.n_le).1 h)]
    exact issue_first arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw hg fk fv h v11 K
  · rw [dif_neg h, if_neg (fun hn => h ((cond1_iff d0 hg.n_le).2 hn))]
    iintro H Hc
    iapply Hc
    iexact H

/-- Chunk 1 is started if there is one. -/
theorem start_second (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (v11 : BitVec 32) {α : Type} (K : Prog (TpuEff nD τ sig (Elt F) Λ₀ .tc) α) {Q : α → sProp (MT nD τ sig Unit (Elt F) ℕ UU ℕ)} :
    iprop(owns (d0 : Thread nD τ) arg0 q0 X0 ∗ owns (d0 : Thread nD τ) arg2 q2 X2 ∗ FreeS (RR d0 arg5 arg6 arg12 arg13 arg14 fk fv) 1)
      ⊢ iprop((iprop(owns (d0 : Thread nD τ) arg0 q0 X0 ∗ owns (d0 : Thread nD τ) arg2 q2 X2
            ∗ Sl (RR d0 arg5 arg6 arg12 arg13 arg14 fk fv) X0 X2 n 1 1)
          -∗ wp frame (wpE defs 𝒱₀ (d0 : Thread nD τ) none) Set.univ K Q)
        -∗ wp frame (wpE defs 𝒱₀ (d0 : Thread nD τ) none) Set.univ
          (if h : k0_cond2 d0 (BitVec.ofNat 32 n) = 1#1 then blockSecond arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h v11 K else K) Q) := by
  unfold Sl
  by_cases h : k0_cond2 d0 (BitVec.ofNat 32 n) = 1#1
  · rw [dif_pos h, if_pos ((cond2_iff d0 hg.n_le).1 h)]
    exact issue_second arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw hg fk fv h v11 K
  · rw [dif_neg h, if_neg (fun hn => h ((cond2_iff d0 hg.n_le).2 hn))]
    iintro H Hc
    iapply Hc
    iexact H

/-- Chunk 2 is started if there is one. -/
theorem start_third (d0 : Dev nD) {n : ℕ} (hw : k0_chk28 d0 (BitVec.ofNat 32 n)) {X0 : S32x256.Idx → BitVec 32} {X2 : S2x1024.Idx → BitVec 32}
    (hg : Good X0 X2 n) {q0 q2 : PosShare TreeShare}
    (fk : Buf (Elt F) (arg5.view.loc (d0 : Thread nD τ))) (fv : Buf (Elt F) (arg6.view.loc (d0 : Thread nD τ)))
    (v11 : BitVec 32) {α : Type} (K : Prog (TpuEff nD τ sig (Elt F) Λ₀ .tc) α) {Q : α → sProp (MT nD τ sig Unit (Elt F) ℕ UU ℕ)} :
    iprop(owns (d0 : Thread nD τ) arg0 q0 X0 ∗ owns (d0 : Thread nD τ) arg2 q2 X2 ∗ FreeS (RR d0 arg5 arg6 arg12 arg13 arg14 fk fv) 2)
      ⊢ iprop((iprop(owns (d0 : Thread nD τ) arg0 q0 X0 ∗ owns (d0 : Thread nD τ) arg2 q2 X2
            ∗ Sl (RR d0 arg5 arg6 arg12 arg13 arg14 fk fv) X0 X2 n 2 2)
          -∗ wp frame (wpE defs 𝒱₀ (d0 : Thread nD τ) none) Set.univ K Q)
        -∗ wp frame (wpE defs 𝒱₀ (d0 : Thread nD τ) none) Set.univ
          (if h : k0_cond3 d0 (BitVec.ofNat 32 n) = 1#1 then blockThird arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h v11 K else K) Q) := by
  unfold Sl
  by_cases h : k0_cond3 d0 (BitVec.ofNat 32 n) = 1#1
  · rw [dif_pos h, if_pos ((cond3_iff d0 hg.n_le).1 h)]
    exact issue_third arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw hg fk fv h v11 K
  · rw [dif_neg h, if_neg (fun hn => h ((cond3_iff d0 hg.n_le).2 hn))]
    iintro H Hc
    iapply Hc
    iexact H

/-- The two loops: the second has no trip. -/
def loops (d0 : Dev nD) {n : ℕ} (hw : k0_chk28 d0 (BitVec.ofNat 32 n)) (v2 v8 v11 v12 v51 c8 v52 v57 v62 v69 v83 : BitVec 32) :
    Prog (TpuEff nD τ sig (Elt F) Λ₀ .tc) PUnit := do
  let v84 : BitVec 32 ← Scf.Loop.for (k0_t1_loop d0 (BitVec.ofNat 32 n)) (k0_t1_ok d0 (BitVec.ofNat 32 n) hw) 0#32 (k0_t1_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 v69)
  let v85 : BitVec 32 ← Scf.Loop.for (k0_t2_loop d0 (BitVec.ofNat 32 n)) (k0_t2_ok d0 (BitVec.ofNat 32 n) hw) v84 (k0_t2_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 v69 v83)
  pure ⟨⟩

/-- What the third chunk's test continues with, and so on back to the first. -/
def pro3 (d0 : Dev nD) {n : ℕ} (hw : k0_chk28 d0 (BitVec.ofNat 32 n)) (v2 v8 v11 v12 v51 c8 v52 v57 v62 : BitVec 32) :
    Prog (TpuEff nD τ sig (Elt F) Λ₀ .tc) PUnit :=
  let v63 : BitVec 1 := Scalar.cmpi .ne v57 v62
  let v64 : BitVec 32 := Scalar.remsi v51 c8
  let v65 : BitVec 1 := Scalar.cmpi .ne v64 0#32
  let v66 : BitVec 1 := Scalar.andi v63 v65
  let v67 : BitVec 32 := Scalar.subi v52 1#32
  let v68 : BitVec 32 := Scalar.select v66 v67 v52
  let v69 : BitVec 32 := Scalar.maxsi 0#32 v68
  loops arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62 v69 (Scalar.addi 0#32 (Scalar.muli (Scalar.divsi (Scalar.subi v69 0#32) 1#32) 1#32))

def pro2 (d0 : Dev nD) {n : ℕ} (hw : k0_chk28 d0 (BitVec.ofNat 32 n)) (v2 v8 v11 v12 v51 c8 v52 v57 v62 : BitVec 32) :
    Prog (TpuEff nD τ sig (Elt F) Λ₀ .tc) PUnit :=
  if h : k0_cond3 d0 (BitVec.ofNat 32 n) = 1#1 then blockThird arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h v11 (pro3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62)
  else pro3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62

def pro1 (d0 : Dev nD) {n : ℕ} (hw : k0_chk28 d0 (BitVec.ofNat 32 n)) (v2 v8 v11 v12 v51 c8 v52 v57 v62 : BitVec 32) :
    Prog (TpuEff nD τ sig (Elt F) Λ₀ .tc) PUnit :=
  if h : k0_cond2 d0 (BitVec.ofNat 32 n) = 1#1 then blockSecond arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h v11 (pro2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62)
  else pro2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62

theorem part42_eq (d0 : Dev nD) {n : ℕ} (hw : k0_chk28 d0 (BitVec.ofNat 32 n)) (v2 v8 v11 v12 v51 c8 v52 v57 v62 : BitVec 32) :
    (k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 : Prog (TpuEff nD τ sig (Elt F) Λ₀ .tc) PUnit)
      = if h : k0_cond1 d0 (BitVec.ofNat 32 n) = 1#1 then blockFirst arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw h v11 (pro1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62)
        else pro1 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62 := by
  rw [k0_part42_eq_skeleton]
  rfl

theorem fs4_4 (j : ℕ) : fs4 (j + 4) = fs4 j := Fin.ext (by show (j + 4) % 4 = j % 4; omega)

/-- Past the last chunk every slot is free. -/
theorem slots_end {c : Dev nD} (G : Rings F c) {X0 : S32x256.Idx → BitVec 32} {X2 : S2x1024.Idx → BitVec 32} {n : ℕ} (N : ℕ) (h : nmine c n ≤ N) :
    iprop(Sl G X0 X2 n (fs4 N) N ∗ Sl G X0 X2 n (fs4 (N + 1)) (N + 1) ∗ Sl G X0 X2 n (fs4 (N + 2)) (N + 2) ∗ FreeS G (fs4 (N + 3)))
      ⊢ iprop(FreeS G 0 ∗ FreeS G 1 ∗ FreeS G 2 ∗ FreeS G 3) := by
  unfold Sl
  rw [if_neg (by omega), if_neg (by omega), if_neg (by omega)]
  have hm := Nat.mod_lt N (show 4 > 0 by decide)
  obtain h | h | h | h : N % 4 = 0 ∨ N % 4 = 1 ∨ N % 4 = 2 ∨ N % 4 = 3 := by omega
  · rw [show fs4 N = 0 from Fin.ext (by show N % 4 = 0; omega), show fs4 (N + 1) = 1 from Fin.ext (by show (N + 1) % 4 = 1; omega), show fs4 (N + 2) = 2 from Fin.ext (by show (N + 2) % 4 = 2; omega), show fs4 (N + 3) = 3 from Fin.ext (by show (N + 3) % 4 = 3; omega)]
  · rw [show fs4 N = 1 from Fin.ext (by show N % 4 = 1; omega), show fs4 (N + 1) = 2 from Fin.ext (by show (N + 1) % 4 = 2; omega), show fs4 (N + 2) = 3 from Fin.ext (by show (N + 2) % 4 = 3; omega), show fs4 (N + 3) = 0 from Fin.ext (by show (N + 3) % 4 = 0; omega)]
    iintro ⟨S0, S1, S2, S3⟩
    isplitl [S3]; · iexact S3
    isplitl [S0]; · iexact S0
    isplitl [S1] <;> iassumption
  · rw [show fs4 N = 2 from Fin.ext (by show N % 4 = 2; omega), show fs4 (N + 1) = 3 from Fin.ext (by show (N + 1) % 4 = 3; omega), show fs4 (N + 2) = 0 from Fin.ext (by show (N + 2) % 4 = 0; omega), show fs4 (N + 3) = 1 from Fin.ext (by show (N + 3) % 4 = 1; omega)]
    iintro ⟨S0, S1, S2, S3⟩
    isplitl [S2]; · iexact S2
    isplitl [S3]; · iexact S3
    isplitl [S0] <;> iassumption
  · rw [show fs4 N = 3 from Fin.ext (by show N % 4 = 3; omega), show fs4 (N + 1) = 0 from Fin.ext (by show (N + 1) % 4 = 0; omega), show fs4 (N + 2) = 1 from Fin.ext (by show (N + 2) % 4 = 1; omega), show fs4 (N + 3) = 2 from Fin.ext (by show (N + 3) % 4 = 2; omega)]
    iintro ⟨S0, S1, S2, S3⟩
    isplitl [S1]; · iexact S1
    isplitl [S2]; · iexact S2
    isplitl [S3] <;> iassumption

set_option maxHeartbeats 1000000 in
/-- The loop, from the first three chunks started to every chunk summed. -/
theorem run_loops (d0 : Dev nD) {n : ℕ} (hw : k0_chk28 d0 (BitVec.ofNat 32 n)) {X0 : S32x256.Idx → BitVec 32} {X1 : S32.Idx → BitVec 32}
    {X2 : S2x1024.Idx → BitVec 32} {XQ : S32x16x128.Idx → Elt F .f32}
    (hg : Good X0 X2 n) {q0 q1 q2 q4 : PosShare TreeShare}
    (fk : Buf (Elt F) (arg5.view.loc (d0 : Thread nD τ))) (fv : Buf (Elt F) (arg6.view.loc (d0 : Thread nD τ)))
    (G : Rings F d0) (hG : G = RR d0 arg5 arg6 arg12 arg13 arg14 fk fv) (V : Vals F) (hV : V = ⟨X1, X2, XQ, G.kc X0 X2, G.vc X0 X2⟩)
    {O : CellTallies nD τ sig Unit} (v2 v8 v11 v12 v51 c8 v52 v57 v62 v69 v83 : BitVec 32) :
    iprop((owns (d0 : Thread nD τ) arg0 q0 X0 ∗ owns (d0 : Thread nD τ) arg1 q1 X1 ∗ owns (d0 : Thread nD τ) arg2 q2 X2 ∗ owns (d0 : Thread nD τ) arg4 q4 XQ)
        ∗ owns (d0 : Thread nD τ) arg8 fullShare (V.locA d0 0) ∗ owns (d0 : Thread nD τ) arg9 fullShare (V.locL d0 0)
        ∗ (Sl G X0 X2 n 0 0 ∗ Sl G X0 X2 n 1 1 ∗ Sl G X0 X2 n 2 2 ∗ FreeS G 3) ∗ (∃ W, owes (d0 : Thread nD τ) O W) ∗ MayLocal G.A d0 O)
      ⊢ wp frame (wpE defs 𝒱₀ (d0 : Thread nD τ) none) Set.univ (loops arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 hw v2 v8 v11 v12 v51 c8 v52 v57 v62 v69 v83)
        (fun _ => iprop((owns (d0 : Thread nD τ) arg0 q0 X0 ∗ owns (d0 : Thread nD τ) arg1 q1 X1 ∗ owns (d0 : Thread nD τ) arg2 q2 X2 ∗ owns (d0 : Thread nD τ) arg4 q4 XQ)
          ∗ owns (d0 : Thread nD τ) arg8 fullShare (V.locA d0 (nmine d0 n)) ∗ owns (d0 : Thread nD τ) arg9 fullShare (V.locL d0 (nmine d0 n))
          ∗ (FreeS G 0 ∗ FreeS G 1 ∗ FreeS G 2 ∗ FreeS G 3) ∗ ∃ W, owes (d0 : Thread nD τ) O W)) := by
  have htr := trips1 d0 hg.n_le
  let I : ℕ → BitVec 32 → sProp (MT nD τ sig Unit (Elt F) ℕ UU ℕ) := fun t _ => iprop((owns (d0 : Thread nD τ) arg0 q0 X0 ∗ owns (d0 : Thread nD τ) arg1 q1 X1 ∗ owns (d0 : Thread nD τ) arg2 q2 X2 ∗ owns (d0 : Thread nD τ) arg4 q4 XQ)
        ∗ owns (d0 : Thread nD τ) arg8 fullShare (V.locA d0 t) ∗ owns (d0 : Thread nD τ) arg9 fullShare (V.locL d0 t)
        ∗ (Sl G X0 X2 n (fs4 t) t ∗ Sl G X0 X2 n (fs4 (t + 1)) (t + 1) ∗ Sl G X0 X2 n (fs4 (t + 2)) (t + 2) ∗ FreeS G (fs4 (t + 3)))
        ∗ (∃ W, owes (d0 : Thread nD τ) O W) ∗ MayLocal G.A d0 O)
  have hbody : ∀ (t : Fin (k0_t1_loop d0 (BitVec.ofNat 32 n)).trips) (x : BitVec 32),
      I t x ⊢ wp frame (wpE defs 𝒱₀ (d0 : Thread nD τ) none) Set.univ
        (k0_t1_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62 v69 t x) (I (t.val + 1)) := by
    intro t x
    show iprop((owns (d0 : Thread nD τ) arg0 q0 X0 ∗ owns (d0 : Thread nD τ) arg1 q1 X1 ∗ owns (d0 : Thread nD τ) arg2 q2 X2 ∗ owns (d0 : Thread nD τ) arg4 q4 XQ)
        ∗ owns (d0 : Thread nD τ) arg8 fullShare (V.locA d0 t) ∗ owns (d0 : Thread nD τ) arg9 fullShare (V.locL d0 t)
        ∗ (Sl G X0 X2 n (fs4 t) t ∗ Sl G X0 X2 n (fs4 (t + 1)) (t + 1) ∗ Sl G X0 X2 n (fs4 (t + 2)) (t + 2) ∗ FreeS G (fs4 (t + 3)))
        ∗ (∃ W, owes (d0 : Thread nD τ) O W) ∗ MayLocal G.A d0 O) ⊢ _
    iintro ⟨HT, HA, HL, ⟨S0, S1, S2, S3⟩, Ho, #Hm⟩
    iapply wp_wand_r
    isplitl [HT HA HL S0 S3 Ho]
    · iapply (trip arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q1 := q1) (q2 := q2) (q4 := q4) d0 hw hg fk fv G hG V hV (O := O) t v2 v8 v11 v12 v51 c8 v52 v57 v62 v69 x)
      isplitl [HT]; · iexact HT
      isplitl [HA]; · iexact HA
      isplitl [HL]; · iexact HL
      isplitl [S0]; · iexact S0
      isplitl [S3]; · iexact S3
      isplitl [Ho]; · iexact Ho
      iexact Hm
    iintro %y ⟨HT, HA, HL, S0, S3, Ho⟩
    isplitl [HT]; · iexact HT
    isplitl [HA]; · iexact HA
    isplitl [HL]; · iexact HL
    isplitl [S0 S1 S2 S3]
    · rw [show t.val + 1 + 3 = t.val + 4 from by omega, fs4_4]
      isplitl [S1]; · iexact S1
      isplitl [S2]; · iexact S2
      isplitl [S3]; · iexact S3
      iexact S0
    isplitl [Ho]; · iexact Ho
    iexact Hm
  unfold loops
  iintro ⟨HT, HA, HL, HS, Ho, #Hm⟩
  iapply (Scf.wp_for_bind frame (wpE defs 𝒱₀ (d0 : Thread nD τ) none) Set.univ _ _ _ (k0_t1_ok d0 (BitVec.ofNat 32 n) hw) 0#32 _ I hbody) $$ [HT HA HL HS Ho]
  · isplitl [HT]; · iexact HT
    isplitl [HA]; · iexact HA
    isplitl [HL]; · iexact HL
    isplitl [HS]; · iexact HS
    isplitl [Ho]; · iexact Ho
    iexact Hm
  iintro %x HI
  iapply (Scf.wp_for_bind frame (wpE defs 𝒱₀ (d0 : Thread nD τ) none) Set.univ _ _ _ (k0_t2_ok d0 (BitVec.ofNat 32 n) hw) x _
    (fun _ _ => I (nmine d0 n) x) (fun t => (no2 d0 hg.n_le t).elim)) $$ [HI]
  · rw [← htr]; iexact HI
  iintro %y ⟨HT, HA, HL, ⟨S0, S1, S2, S3⟩, Ho, _⟩
  rw [Prog.pure_eq_ret, wp_ret]
  imodintro
  isplitl [HT]; · iexact HT
  isplitl [HA]; · iexact HA
  isplitl [HL]; · iexact HL
  isplitl [S0 S1 S2 S3]
  · iapply (slots_end G (X0 := X0) (X2 := X2) (nmine d0 n) le_rfl)
    isplitl [S0]; · iexact S0
    isplitl [S1]; · iexact S1
    isplitl [S2] <;> iassumption
  iexact Ho

set_option maxHeartbeats 1000000 in
/-- The whole local part: from zeros to the device's sums. -/
theorem run_local (d0 : Dev nD) {n : ℕ} (hw : k0_chk28 d0 (BitVec.ofNat 32 n)) {X0 : S32x256.Idx → BitVec 32} {X1 : S32.Idx → BitVec 32}
    {X2 : S2x1024.Idx → BitVec 32} {XQ : S32x16x128.Idx → Elt F .f32}
    (hg : Good X0 X2 n) {q0 q1 q2 q4 : PosShare TreeShare}
    (fk : Buf (Elt F) (arg5.view.loc (d0 : Thread nD τ))) (fv : Buf (Elt F) (arg6.view.loc (d0 : Thread nD τ)))
    (G : Rings F d0) (hG : G = RR d0 arg5 arg6 arg12 arg13 arg14 fk fv) (V : Vals F) (hV : V = ⟨X1, X2, XQ, G.kc X0 X2, G.vc X0 X2⟩)
    {O : CellTallies nD τ sig Unit} (v2 v8 v11 v12 v51 c8 v52 v57 v62 : BitVec 32) :
    iprop((owns (d0 : Thread nD τ) arg0 q0 X0 ∗ owns (d0 : Thread nD τ) arg1 q1 X1 ∗ owns (d0 : Thread nD τ) arg2 q2 X2 ∗ owns (d0 : Thread nD τ) arg4 q4 XQ)
        ∗ owns (d0 : Thread nD τ) arg8 fullShare (k0_pay9 (F := F)) ∗ owns (d0 : Thread nD τ) arg9 fullShare (k0_pay10 (F := F))
        ∗ (FreeS G 0 ∗ FreeS G 1 ∗ FreeS G 2 ∗ FreeS G 3) ∗ (∃ W, owes (d0 : Thread nD τ) O W) ∗ MayLocal G.A d0 O)
      ⊢ wp frame (wpE defs 𝒱₀ (d0 : Thread nD τ) none) Set.univ (k0_part42 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 d0 v2 v8 (BitVec.ofNat 32 n) hw v11 v12 v51 c8 v52 v57 v62)
        (fun _ => iprop((owns (d0 : Thread nD τ) arg0 q0 X0 ∗ owns (d0 : Thread nD τ) arg1 q1 X1 ∗ owns (d0 : Thread nD τ) arg2 q2 X2 ∗ owns (d0 : Thread nD τ) arg4 q4 XQ)
          ∗ owns (d0 : Thread nD τ) arg8 fullShare (V.locA d0 (nmine d0 n)) ∗ owns (d0 : Thread nD τ) arg9 fullShare (V.locL d0 (nmine d0 n))
          ∗ (FreeS G 0 ∗ FreeS G 1 ∗ FreeS G 2 ∗ FreeS G 3) ∗ ∃ W, owes (d0 : Thread nD τ) O W)) := by
  rw [part42_eq arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (F := F) d0 hw v2 v8 v11 v12 v51 c8 v52 v57 v62]
  have hrun := fun v69 v83 => run_loops arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q1 := q1) (q2 := q2) (q4 := q4) d0 hw hg fk fv G hG V hV (O := O) v2 v8 v11 v12 v51 c8 v52 v57 v62 v69 v83
  subst hG
  iintro ⟨⟨H0, H1, H2, H4⟩, HA, HL, ⟨S0, S1, S2, S3⟩, Ho, #Hm⟩
  iapply (start_first arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q2 := q2) d0 hw hg fk fv v11 _) $$ [H0 H2 S0]
  · isplitl [H0]; · iexact H0
    isplitl [H2]; · iexact H2
    iexact S0
  iintro ⟨H0, H2, S0⟩
  unfold pro1
  iapply (start_second arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q2 := q2) d0 hw hg fk fv v11 _) $$ [H0 H2 S1]
  · isplitl [H0]; · iexact H0
    isplitl [H2]; · iexact H2
    iexact S1
  iintro ⟨H0, H2, S1⟩
  unfold pro2
  iapply (start_third arg0 harg0 arg1 harg1 arg2 harg2 arg3 harg3 arg4 harg4 arg5 harg5 arg6 harg6 arg7 harg7 arg8 harg8 arg9 harg9 arg10 harg10 arg11 harg11 arg12 harg12 arg13 harg13 arg14 arg15 arg16 v356_r0 (defs := defs) (q0 := q0) (q2 := q2) d0 hw hg fk fv v11 _) $$ [H0 H2 S2]
  · isplitl [H0]; · iexact H0
    isplitl [H2]; · iexact H2
    iexact S2
  iintro ⟨H0, H2, S2⟩
  unfold pro3
  iapply hrun
  isplitl [H0 H1 H2 H4]
  · isplitl [H0]; · iexact H0
    isplitl [H1]; · iexact H1
    isplitl [H2] <;> iassumption
  isplitl [HA]; · iexact HA
  isplitl [HL]; · iexact HL
  isplitl [S0 S1 S2 S3]
  · isplitl [S0]; · iexact S0
    isplitl [S1]; · iexact S1
    isplitl [S2] <;> iassumption
  isplitl [Ho]; · iexact Ho
  iexact Hm

end Cert.KProof

end
-- ==== Proof.Enter.lean ====
/-
  The body on one device: the greeting, the device's own sums, four rounds, the quotient, and the exit.
-/
module

public import proofs.«01_k».proof.Proof.Round
public import proofs.«01_k».proof.Proof.Local

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {defs : Defs nD τ sig (Elt F) Λ₀}

/-! ## The program -/

/-- The greeting of the four partners, and the sums set to zero. -/
def greet (c : Dev nD) (k : Prog (TpuEff nD τ sig (Elt F) Λ₀ .tc) PUnit) : Prog (TpuEff nD τ sig (Elt F) Λ₀ .tc) PUnit :=
  .op (.semSignal (pr 0 c, .tc) barS (1#32).toInt) fun _ =>
  .op (.semSignal (pr 1 c, .tc) barS (1#32).toInt) fun _ =>
  .op (.semSignal (pr 2 c, .tc) barS (1#32).toInt) fun _ =>
  .op (.semSignal (pr 3 c, .tc) barS (1#32).toInt) fun _ =>
  .op (.semWait barS (4#32).toInt) fun _ =>
  .op (.load mA (Rect.unit (s := S32x16x128) ![0, 0, 0] S32x16x128.size inb_S32x16x128_S32x16x128_0_0_0).toLoadRect (View.loadsAt_vmem h_S32x16x128)) fun _ =>
  .op (.store mA (Rect.unit (s := S32x16x128) ![0, 0, 0] S32x16x128.size inb_S32x16x128_S32x16x128_0_0_0) k0_pay9 Finset.univ (View.stores_vmem_bits_univ h_S32x16x128 rfl) (.inl rfl)) fun _ =>
  .op (.load mL (Rect.unit (s := S32x16) ![0, 0] S32x16.size inb_S32x16_S32x16_0_0).toLoadRect (View.loadsAt_vmem h_S32x16)) fun _ =>
  .op (.store mL (Rect.unit (s := S32x16) ![0, 0] S32x16.size inb_S32x16_S32x16_0_0) k0_pay10 Finset.univ (View.stores_vmem_bits_univ h_S32x16 rfl) (.inl rfl)) fun _ => k

section Eqs
variable (arg0 : Memref sig .tc .smem S32x256 .i32) (harg0 : arg0.IsWhole) (arg1 : Memref sig .tc .smem S32 .i32) (harg1 : arg1.IsWhole) (arg2 : Memref sig .tc .smem S2x1024 .i32) (harg2 : arg2.IsWhole) (arg3 : Memref sig .tc .smem S1 .i32) (harg3 : arg3.IsWhole) (arg4 : Memref sig .tc .vmem S32x16x128 .f32) (harg4 : arg4.IsWhole) (arg5 : Memref sig .tc .hbm S256x32x16x128 .f32) (harg5 : arg5.IsWhole) (arg6 : Memref sig .tc .hbm S256x32x16x128 .f32) (harg6 : arg6.IsWhole) (arg7 : Memref sig .tc .vmem S32x16x128 .f32) (harg7 : arg7.IsWhole) (arg12 : Memref sig .tc .vmem S4x8x32x16x128 .f32) (harg12 : arg12.IsWhole) (arg13 : Memref sig .tc .vmem S4x8x32x16x128 .f32) (harg13 : arg13.IsWhole) (arg14 : DmaSems sig S4x8x2)

/-- All after the greeting. -/
def afterGreet (d0 : Dev nD) (v9 : BitVec 32) (hw : k0_chk28 d0 v9) : Prog (TpuEff nD τ sig (Elt F) Λ₀ .tc) PUnit := do
  let v2 : BitVec 32 := Scalar.remsi (Scalar.divsi (Dev.word d0) 8#32) 2#32
  let v5 : BitVec 32 := Scalar.remsi (Scalar.divsi (Dev.word d0) 4#32) 2#32
  let v8 : BitVec 32 := Scalar.remsi (Scalar.divsi (Dev.word d0) 1#32) 4#32
  let v11 : BitVec 32 := Scalar.addi (Scalar.muli v2 4#32) v8
  let v12 : BitVec 32 := Scalar.subi 1#32 v5
  let v51 : BitVec 32 := Scalar.subi (Scalar.addi (Scalar.subi v9 v11) 8#32) 1#32
  let v57 : BitVec 32 := Scalar.subi (Scalar.extui (Scalar.cmpi .sgt v51 0#32)) (Scalar.extui (Scalar.cmpi .slt v51 0#32))
  let v62 : BitVec 32 := Scalar.subi (Scalar.extui (Scalar.cmpi .sgt 8#32 0#32)) (Scalar.extui (Scalar.cmpi .slt 8#32 0#32))
  k0_part42 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v8 v9 hw v11 v12 v51 8#32 (Scalar.divsi v51 8#32) v57 v62
  afterLocal arg0 harg0 arg1 harg1 arg2 harg2 arg3 harg3 arg4 harg4 arg5 harg5 arg6 harg6 arg7 harg7 arg12 harg12 arg13 harg13 arg14 d0 v2 v5 v8 v12 (Scalar.subi 1#32 v2) (Scalar.xori v8 1#32) (Scalar.xori v8 2#32)

set_option pp.maxSteps 400 in
theorem body_eq : (cc0_body arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 : Prog (TpuEff nD τ sig (Elt F) Λ₀ .tc) PUnit)
    = .op .deviceId fun d0 => smemLoad arg3 (Rect.unit (s := S1) ![0] S1.size inb_S1_S1_0) numel1_S1 rfl >>= fun v9 =>
        .op (TpuEff.assume (k0_chk28 d0 v9) (k0_chk28.dec d0 v9)) fun h => greet d0 (afterGreet arg0 harg0 arg1 harg1 arg2 harg2 arg3 harg3 arg4 harg4 arg5 harg5 arg6 harg6 arg7 harg7 arg12 harg12 arg13 harg13 arg14 d0 v9 h.down) := by
  have e : (cc0_body arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 : Prog (TpuEff nD τ sig (Elt F) Λ₀ .tc) PUnit) = (do
      let ⟨d0, v2, v5, v8, v9, hw, v11, v12, v13, v14, v15, v16, v30⟩ ← k0_part40 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0
      let ⟨v51, c8, v52, v57, v62⟩ ← k0_part41 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v5 v9 v11 v14 v15 v16 v30
      k0_part42 arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 arg14 cc0_scratch7 cc0_scratch8 cc0_scoped0 d0 v2 v8 v9 hw v11 v12 v51 c8 v52 v57 v62
      afterLocal arg0 harg0 arg1 harg1 arg2 harg2 arg3 harg3 arg4 harg4 arg5 harg5 arg6 harg6 arg7 harg7 arg12 harg12 arg13 harg13 arg14 d0 v2 v5 v8 v12 v13 v14 v15) := rfl
  rw [e]
  simp only [k0_part40_eq_skeleton, k0_part41_eq_skeleton, k0_part40_skel, k0_part41_skel, semSignalWord, semWaitWord, Prog.lift, Prog.bind_assoc, Prog.bind_op, Prog.bind_ret, Prog.pure_eq_ret,
    dev1_eq, dev2_eq, dev3_eq, dev4_eq]
  rfl

end Eqs

/-! ## Running it -/

theorem bigSep_univ_four (P : Fin 4 → sProp 𝕄) : bigSep Finset.univ P = iprop(P 0 ∗ P 1 ∗ P 2 ∗ P 3) := by
  rw [show (Finset.univ : Finset (Fin 4)) = {0, 1, 2, 3} from by decide]
  rw [bigSep_insert (by decide), bigSep_insert (by decide), bigSep_insert (by decide), bigSep_singleton]
  rfl

theorem mayLocal (c : Dev nD) : (levAts L lv : sProp 𝕄) ⊢ MayLocal cc0_scratch6 c (left c 12) :=
  MayLocal_of cc0_scratch6 c (left c 12) fun x => mayWait_left c _ 12 0
    (by
      have hn : ∀ x : Fin 4 × Fin 8 × Fin 2, ∀ a : Knd, semOf a ≠ .dma (cell cc0_scratch6 x.1 x.2.1 x.2.2) := by decide +kernel
      have e : kindOf (.dma (cell cc0_scratch6 x.1 x.2.1 x.2.2)) = none := by
        unfold kindOf
        exact dif_neg fun ⟨a, ha⟩ => hn x a ha
      rw [e]; exact le_refl 0)
    (by decide +kernel)

theorem left_enter (c : Dev nD) : left c 16 = left c 12 + tallyAt (cellK (pr 3 c) (.inl false)) () 1 + tallyAt (cellK (pr 2 c) (.inl false)) () 1
    + tallyAt (cellK (pr 1 c) (.inl false)) () 1 + tallyAt (cellK (pr 0 c) (.inl false)) () 1 := rfl

/-- The device's own landing place for one round, and that it may be written and its exit counted. -/
def Own (c : Dev nD) (i : Fin 4) : sProp 𝕄 :=
  iprop((∃ X : S32x16x128.Idx → Elt F .f32, owns (c : Thread nD τ) (lA i) fullShare X)
    ∗ (∃ X : S32x16.Idx → Elt F .f32, owns (c : Thread nD τ) (lL i) fullShare X)
    ∗ reached ER (cellK c (.inr (true, i, 0))) 0 ∗ reached ER (cellK c (.inr (true, i, 1))) 0
    ∗ reached ER (cellK c (.inl true)) 0)

theorem own_pay (c : Dev nD) (i : Fin 4) : (Own c i : sProp 𝕄) = barPay (pr i c) i := by
  unfold Own barPay
  rw [pr_pr]

theorem barPay_reached (c : Dev nD) (d : Fin 4) : (barPay c d : sProp 𝕄) ⊢ iprop(barPay c d ∗ reached ER (cellK (pr d c) (.inl true)) 0) := by
  unfold barPay
  iintro ⟨A, B, #R0, #R1, #R2⟩
  isplitl
  · isplitl [A]; · iexact A
    isplitl [B]; · iexact B
    isplitr; · iexact R0
    isplitr <;> iassumption
  iexact R2

/-- What the greeting of one partner needs. -/
def Hail (c : Dev nD) (i : Fin 4) : sProp 𝕄 :=
  iprop(dutyTok ER (cellK (pr i c) (.inl false)) 0 i ∗ Own c i ∗ reached ER (cellK (pr i c) (.inl false)) 0)

section Run
variable (A0 : Dev nD → S32x16x128.Idx → Elt F .f32) (L0 : Dev nD → S32x16.Idx → Elt F .f32) (K : GSem nD τ sig → ℕ)

/-- The four greetings, the wait for the partners', and the sums set to zero. -/
theorem run_greet (c : Dev nD) (k : Prog (TpuEff nD τ sig (Elt F) Λ₀ .tc) PUnit) {Q : PUnit → sProp 𝕄} :
    iprop(Invs A0 L0 K ∗ levAts L lv ∗ (∃ X : S32x16x128.Idx → Elt F .f32, owns (c : Thread nD τ) mA fullShare X)
        ∗ (∃ X : S32x16.Idx → Elt F .f32, owns (c : Thread nD τ) mL fullShare X)
        ∗ (Hail c 0 ∗ Hail c 1 ∗ Hail c 2 ∗ Hail c 3)
        ∗ atPos ER (cellK c (.inl false)) 0 ∅ 0 ∗ cred (tallyAt (cellK c (.inl false)) () 4) ∗ (∃ W, owes (c : Thread nD τ) (left c 16) W))
      ⊢ iprop((owns (c : Thread nD τ) mA fullShare (k0_pay9 (F := F)) ∗ owns (c : Thread nD τ) mL fullShare (k0_pay10 (F := F))
          ∗ atPos ER (cellK c (.inl false)) 1 ∅ 0 ∗ (barPay c 0 ∗ barPay c 1 ∗ barPay c 2 ∗ barPay c 3) ∗ ExitReached c
          ∗ (∃ W, owes (c : Thread nD τ) (left c 12) W)
          -∗ wp frame (wpE defs 𝒱₀ (c : Thread nD τ) none) Set.univ k Q)
        -∗ wp frame (wpE defs 𝒱₀ (c : Thread nD τ) none) Set.univ (greet c k) Q) := by
  rw [left_enter]
  unfold Hail greet
  have hpay : ∀ i : Fin 4, (Own c i : sProp 𝕄) = payOf A0 L0 (pr i c) i (some (.inl false)) := fun i => own_pay c i
  rw [hpay 0, hpay 1, hpay 2, hpay 3]
  iintro ⟨#Hi, #Hlev, ⟨%XA, HA⟩, ⟨%XL, HL⟩, ⟨⟨T0, P0, #R0⟩, ⟨T1, P1, #R1⟩, ⟨T2, P2, #R2⟩, ⟨T3, P3, #R3⟩⟩, Hat, Hcr, ⟨%W, HO⟩⟩ Hk
  iapply (wp_hail (Q := Q) (defs := defs) A0 L0 K c 0 false barS rfl (left c 12 + tallyAt (cellK (pr 3 c) (.inl false)) () 1 + tallyAt (cellK (pr 2 c) (.inl false)) () 1 + tallyAt (cellK (pr 1 c) (.inl false)) () 1)) $$ [HO T0 P0]
  · isplitr; · iexact Hi
    isplitl [HO]; · iexact HO
    isplitl [T0]; · iexact T0
    isplitl [P0]; · iexact P0
    iexact R0
  iintro HO
  iapply (wp_hail (Q := Q) (defs := defs) A0 L0 K c 1 false barS rfl (left c 12 + tallyAt (cellK (pr 3 c) (.inl false)) () 1 + tallyAt (cellK (pr 2 c) (.inl false)) () 1)) $$ [HO T1 P1]
  · isplitr; · iexact Hi
    isplitl [HO]; · iexact HO
    isplitl [T1]; · iexact T1
    isplitl [P1]; · iexact P1
    iexact R1
  iintro HO
  iapply (wp_hail (Q := Q) (defs := defs) A0 L0 K c 2 false barS rfl (left c 12 + tallyAt (cellK (pr 3 c) (.inl false)) () 1)) $$ [HO T2 P2]
  · isplitr; · iexact Hi
    isplitl [HO]; · iexact HO
    isplitl [T2]; · iexact T2
    isplitl [P2]; · iexact P2
    iexact R2
  iintro HO
  iapply (wp_hail (Q := Q) (defs := defs) A0 L0 K c 3 false barS rfl (left c 12)) $$ [HO T3 P3]
  · isplitr; · iexact Hi
    isplitl [HO]; · iexact HO
    isplitl [T3]; · iexact T3
    isplitl [P3]; · iexact P3
    iexact R3
  iintro HO
  iapply (wp_gather (Q := Q) (defs := defs) A0 L0 K c false barS rfl (left c 12)) $$ [Hcr HO Hat]
  · isplitr; · iexact Hi
    isplitl [Hcr]; · iexact Hcr
    isplitl [HO]; · iexact HO
    isplitr; · iapply (mayBar c); iexact Hlev
    iexact Hat
  iintro ⟨HO, Hat, Hp⟩
  ihave Hp := (Entails.of_eq (show (bigSep Finset.univ (fun d => payOf A0 L0 c d (some (.inl false))) : sProp 𝕄) = bigSep Finset.univ (fun d => barPay c d) from rfl)) $$ Hp
  ihave Hp := (Entails.of_eq (bigSep_univ_four (fun d => barPay c d))) $$ Hp
  icases Hp with ⟨P0, P1, P2, P3⟩
  ihave ⟨P0, #E0⟩ := (barPay_reached c 0) $$ P0
  ihave ⟨P1, #E1⟩ := (barPay_reached c 1) $$ P1
  ihave ⟨P2, #E2⟩ := (barPay_reached c 2) $$ P2
  ihave ⟨P3, #E3⟩ := (barPay_reached c 3) $$ P3
  iapply (wp_readAll (Q := Q) (defs := defs) c (m := mA) (q := fullShare) (X := XA) o3_zero) $$ HA
  iintro HA
  iapply (wp_writeAll (Q := Q) (defs := defs) c (m := mA) (X := XA) o3_zero) $$ HA
  iintro HA
  iapply (wp_readAll (Q := Q) (defs := defs) c (m := mL) (q := fullShare) (X := XL) o2_zero) $$ HL
  iintro HL
  iapply (wp_writeAll (Q := Q) (defs := defs) c (m := mL) (X := XL) o2_zero) $$ HL
  iintro HL
  iapply Hk
  isplitl [HA]; · iexact HA
  isplitl [HL]; · iexact HL
  isplitl [Hat]; · iexact Hat
  isplitl [P0 P1 P2 P3]
  · isplitl [P0]; · iexact P0
    isplitl [P1]; · iexact P1
    isplitl [P2] <;> iassumption
  isplitr
  · unfold ExitReached
    isplitr; · iexact E0
    isplitr; · iexact E1
    isplitr <;> iassumption
  iexists _; iexact HO

/-- The four rounds and the exit. -/
theorem run_rounds (c : Dev nD) (o : Memref sig .tc .vmem S32x16x128 .f32) {X : S32x16x128.Idx → Elt F .f32} {Q : PUnit → sProp 𝕄} :
    iprop(Invs A0 L0 K ∗ levAts L lv ∗ owns (c : Thread nD τ) mA fullShare (A0 c) ∗ owns (c : Thread nD τ) mL fullShare (L0 c)
        ∗ owns (c : Thread nD τ) o fullShare X ∗ (Ready c 0 ∗ Ready c 1 ∗ Ready c 2 ∗ Ready c 3)
        ∗ (barPay c 0 ∗ barPay c 1 ∗ barPay c 2 ∗ barPay c 3) ∗ Exit c ∗ ExitReached c ∗ (∃ W, owes (c : Thread nD τ) (left c 12) W))
      ⊢ iprop((owns (c : Thread nD τ) mA fullShare (accN A0 4 c) ∗ owns (c : Thread nD τ) mL fullShare (lseN L0 4 c)
          ∗ owns (c : Thread nD τ) o fullShare (k0_pay24 (accN A0 4 c) (lseN L0 4 c))
          ∗ (Back c 0 ∗ Back c 1 ∗ Back c 2 ∗ Back c 3) ∗ atPos ER (cellK c (.inl true)) 1 ∅ 0 ∗ (∃ W, owes (c : Thread nD τ) 0 W) -∗ Q ⟨⟩)
        -∗ wp frame (wpE defs 𝒱₀ (c : Thread nD τ) none) Set.univ
          (talkRound 0 (pr 0 c) (pr 0 c) (talkRound 1 (pr 1 c) (pr 1 c) (talkRound 2 (pr 2 c) (pr 2 c) (talkRound 3 (pr 3 c) (pr 3 c) (leave c o))))) Q) := by
  iintro ⟨#Hi, #Hlev, HA, HL, Ho, ⟨Y0, Y1, Y2, Y3⟩, ⟨P0, P1, P2, P3⟩, Hx, Hxr, HO⟩ Hk
  iapply (run_round (Q := Q) (defs := defs) A0 L0 K c 0 _) $$ [HA HL Y0 P0 HO]
  · isplitr; · iexact Hi
    isplitr; · iexact Hlev
    isplitl [HA]; · iexact HA
    isplitl [HL]; · iexact HL
    isplitl [Y0]; · iexact Y0
    isplitl [P0]; · iexact P0
    iexact HO
  iintro ⟨HA, HL, Y0, HO⟩
  iapply (run_round (Q := Q) (defs := defs) A0 L0 K c 1 _) $$ [HA HL Y1 P1 HO]
  · isplitr; · iexact Hi
    isplitr; · iexact Hlev
    isplitl [HA]; · iexact HA
    isplitl [HL]; · iexact HL
    isplitl [Y1]; · iexact Y1
    isplitl [P1]; · iexact P1
    iexact HO
  iintro ⟨HA, HL, Y1, HO⟩
  iapply (run_round (Q := Q) (defs := defs) A0 L0 K c 2 _) $$ [HA HL Y2 P2 HO]
  · isplitr; · iexact Hi
    isplitr; · iexact Hlev
    isplitl [HA]; · iexact HA
    isplitl [HL]; · iexact HL
    isplitl [Y2]; · iexact Y2
    isplitl [P2]; · iexact P2
    iexact HO
  iintro ⟨HA, HL, Y2, HO⟩
  iapply (run_round (Q := Q) (defs := defs) A0 L0 K c 3 _) $$ [HA HL Y3 P3 HO]
  · isplitr; · iexact Hi
    isplitr; · iexact Hlev
    isplitl [HA]; · iexact HA
    isplitl [HL]; · iexact HL
    isplitl [Y3]; · iexact Y3
    isplitl [P3]; · iexact P3
    iexact HO
  iintro ⟨HA, HL, Y3, HO⟩
  iapply (run_leave (Q := Q) (defs := defs) A0 L0 K c o (accN A0 4 c) (lseN L0 4 c) (X := X)) $$ [HA HL Ho Hx Hxr HO]
  · isplitr; · iexact Hi
    isplitr; · iexact Hlev
    isplitl [HA]; · iexact HA
    isplitl [HL]; · iexact HL
    isplitl [Ho]; · iexact Ho
    isplitl [Hx]; · iexact Hx
    isplitl [Hxr]; · iexact Hxr
    iexact HO
  iintro ⟨HA, HL, Ho, Hat, HO⟩
  iapply Hk
  isplitl [HA]; · iexact HA
  isplitl [HL]; · iexact HL
  isplitl [Ho]; · iexact Ho
  isplitl [Y0 Y1 Y2 Y3]
  · isplitl [Y0]; · iexact Y0
    isplitl [Y1]; · iexact Y1
    isplitl [Y2] <;> iassumption
  isplitl [Hat]; · iexact Hat
  iexact HO

end Run

end Cert.KProof
-- ==== Proof.Body.lean ====
/-
  The body on one device, run from its tables and tokens to the quotient.
-/
module

public import proofs.«01_k».proof.Proof.Enter
public import proofs.«01_k».proof.Proof.Local

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {defs : Defs nD τ sig (Elt F) Λ₀}

section All
variable (arg0 : Memref sig .tc .smem S32x256 .i32) (harg0 : arg0.IsWhole) (arg1 : Memref sig .tc .smem S32 .i32) (harg1 : arg1.IsWhole) (arg2 : Memref sig .tc .smem S2x1024 .i32) (harg2 : arg2.IsWhole) (arg3 : Memref sig .tc .smem S1 .i32) (harg3 : arg3.IsWhole) (arg4 : Memref sig .tc .vmem S32x16x128 .f32) (harg4 : arg4.IsWhole) (arg5 : Memref sig .tc .hbm S256x32x16x128 .f32) (harg5 : arg5.IsWhole) (arg6 : Memref sig .tc .hbm S256x32x16x128 .f32) (harg6 : arg6.IsWhole) (arg7 : Memref sig .tc .vmem S32x16x128 .f32) (harg7 : arg7.IsWhole) (arg12 : Memref sig .tc .vmem S4x8x32x16x128 .f32) (harg12 : arg12.IsWhole) (arg13 : Memref sig .tc .vmem S4x8x32x16x128 .f32) (harg13 : arg13.IsWhole) (arg14 : DmaSems sig S4x8x2)

set_option pp.maxSteps 200 in
/-- The device's own sums, the four rounds and the exit. -/
theorem run_rest (c : Dev nD) {n : ℕ} (hw : k0_chk28 c (BitVec.ofNat 32 n)) {X0 : S32x256.Idx → BitVec 32} {X1 : S32.Idx → BitVec 32}
    {X2 : S2x1024.Idx → BitVec 32} {XQ : S32x16x128.Idx → Elt F .f32} (hg : Good X0 X2 n) {q0 q1 q2 q4 : PosShare TreeShare}
    (fk : Buf (Elt F) (arg5.view.loc (c : Thread nD τ))) (fv : Buf (Elt F) (arg6.view.loc (c : Thread nD τ)))
    (G : Rings F c) (hG : G = RR c arg5 arg6 arg12 arg13 cc0_scratch6 fk fv) (V : Vals F) (hV : V = ⟨X1, X2, XQ, G.kc X0 X2, G.vc X0 X2⟩)
    (A0 : Dev nD → S32x16x128.Idx → Elt F .f32) (L0 : Dev nD → S32x16.Idx → Elt F .f32) (K : GSem nD τ sig → ℕ)
    (hA : A0 c = V.locA c (nmine c n)) (hL : L0 c = V.locL c (nmine c n)) {X7 : S32x16x128.Idx → Elt F .f32} {Q : PUnit → sProp 𝕄} :
    iprop(Invs A0 L0 K ∗ levAts L lv
        ∗ (owns (c : Thread nD τ) arg0 q0 X0 ∗ owns (c : Thread nD τ) arg1 q1 X1 ∗ owns (c : Thread nD τ) arg2 q2 X2 ∗ owns (c : Thread nD τ) arg4 q4 XQ)
        ∗ owns (c : Thread nD τ) arg7 fullShare X7
        ∗ owns (c : Thread nD τ) mA fullShare (k0_pay9 (F := F)) ∗ owns (c : Thread nD τ) mL fullShare (k0_pay10 (F := F))
        ∗ (FreeS G 0 ∗ FreeS G 1 ∗ FreeS G 2 ∗ FreeS G 3) ∗ (Ready c 0 ∗ Ready c 1 ∗ Ready c 2 ∗ Ready c 3)
        ∗ (barPay c 0 ∗ barPay c 1 ∗ barPay c 2 ∗ barPay c 3) ∗ Exit c ∗ ExitReached c ∗ (∃ W, owes (c : Thread nD τ) (left c 12) W))
      ⊢ iprop(((owns (c : Thread nD τ) arg0 q0 X0 ∗ owns (c : Thread nD τ) arg1 q1 X1 ∗ owns (c : Thread nD τ) arg2 q2 X2 ∗ owns (c : Thread nD τ) arg4 q4 XQ)
          ∗ owns (c : Thread nD τ) arg7 fullShare (k0_pay24 (accN A0 4 c) (lseN L0 4 c))
          ∗ owns (c : Thread nD τ) mA fullShare (accN A0 4 c) ∗ owns (c : Thread nD τ) mL fullShare (lseN L0 4 c)
          ∗ (FreeS G 0 ∗ FreeS G 1 ∗ FreeS G 2 ∗ FreeS G 3) ∗ (Back c 0 ∗ Back c 1 ∗ Back c 2 ∗ Back c 3)
          ∗ atPos ER (cellK c (.inl true)) 1 ∅ 0 ∗ (∃ W, owes (c : Thread nD τ) 0 W) -∗ Q ⟨⟩)
        -∗ wp frame (wpE defs 𝒱₀ (c : Thread nD τ) none) Set.univ (afterGreet arg0 harg0 arg1 harg1 arg2 harg2 arg3 harg3 arg4 harg4 arg5 harg5 arg6 harg6 arg7 harg7 arg12 harg12 arg13 harg13 cc0_scratch6 c (BitVec.ofNat 32 n) hw) Q) := by
  have hrun := fun v2 v8 v11 v12 v51 c8 v52 v57 v62 => run_local arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 cc0_scratch6 cc0_scratch7 cc0_scratch8 cc0_scoped0 (defs := defs) (q0 := q0) (q1 := q1) (q2 := q2) (q4 := q4) c hw hg fk fv G hG V hV (O := left c 12) v2 v8 v11 v12 v51 c8 v52 v57 v62
  rw [← hA, ← hL] at hrun
  have hm : (levAts L lv : sProp 𝕄) ⊢ MayLocal G.A c (left c 12) := by rw [hG]; exact mayLocal c
  unfold afterGreet
  dsimp only
  rw [wp_bind]
  iintro ⟨#Hi, #Hlev, HT, H7, HA, HL, HF, HR, HP, HX, HXr, HO⟩ Hk
  iapply wp_wand_r
  isplitl [HT HA HL HF HO]
  · iapply hrun
    isplitl [HT]; · iexact HT
    isplitl [HA]; · iexact HA
    isplitl [HL]; · iexact HL
    isplitl [HF]; · iexact HF
    isplitl [HO]; · iexact HO
    iapply hm; iexact Hlev
  iintro %_ ⟨HT, HA, HL, HF, HO⟩
  rw [afterLocal_eq]
  iapply (run_rounds (Q := Q) (defs := defs) A0 L0 K c arg7 (X := X7)) $$ [HA HL H7 HR HP HX HXr HO]
  · isplitr; · iexact Hi
    isplitr; · iexact Hlev
    isplitl [HA]; · iexact HA
    isplitl [HL]; · iexact HL
    isplitl [H7]; · iexact H7
    isplitl [HR]; · iexact HR
    isplitl [HP]; · iexact HP
    isplitl [HX]; · iexact HX
    isplitl [HXr]; · iexact HXr
    iexact HO
  iintro ⟨HA, HL, H7, HB, Hxat, HO⟩
  iapply Hk
  isplitl [HT]; · iexact HT
  isplitl [H7]; · iexact H7
  isplitl [HA]; · iexact HA
  isplitl [HL]; · iexact HL
  isplitl [HF]; · iexact HF
  isplitl [HB]; · iexact HB
  isplitl [Hxat]; · iexact Hxat
  iexact HO

set_option pp.maxSteps 200 in
set_option maxHeartbeats 1000000 in
/-- The body, from its tables and its tokens to the quotient of the sums. -/
theorem run_body (c : Dev nD) {n : ℕ} {X0 : S32x256.Idx → BitVec 32} {X1 : S32.Idx → BitVec 32}
    {X2 : S2x1024.Idx → BitVec 32} {XQ : S32x16x128.Idx → Elt F .f32} (hg : Good X0 X2 n) {q0 q1 q2 q3 q4 : PosShare TreeShare}
    (fk : Buf (Elt F) (arg5.view.loc (c : Thread nD τ))) (fv : Buf (Elt F) (arg6.view.loc (c : Thread nD τ)))
    (G : Rings F c) (hG : G = RR c arg5 arg6 arg12 arg13 cc0_scratch6 fk fv) (V : Vals F) (hV : V = ⟨X1, X2, XQ, G.kc X0 X2, G.vc X0 X2⟩)
    (A0 : Dev nD → S32x16x128.Idx → Elt F .f32) (L0 : Dev nD → S32x16.Idx → Elt F .f32) (K : GSem nD τ sig → ℕ)
    (hA : A0 c = V.locA c (nmine c n)) (hL : L0 c = V.locL c (nmine c n)) {Q : PUnit → sProp 𝕄} :
    iprop(Invs A0 L0 K ∗ levAts L lv
        ∗ (owns (c : Thread nD τ) arg0 q0 X0 ∗ owns (c : Thread nD τ) arg1 q1 X1 ∗ owns (c : Thread nD τ) arg2 q2 X2 ∗ owns (c : Thread nD τ) arg4 q4 XQ)
        ∗ owns (c : Thread nD τ) arg3 q3 (fun _ => BitVec.ofNat 32 n)
        ∗ (∃ X : S32x16x128.Idx → Elt F .f32, owns (c : Thread nD τ) arg7 fullShare X)
        ∗ (∃ X : S32x16x128.Idx → Elt F .f32, owns (c : Thread nD τ) mA fullShare X) ∗ (∃ X : S32x16.Idx → Elt F .f32, owns (c : Thread nD τ) mL fullShare X)
        ∗ (FreeS G 0 ∗ FreeS G 1 ∗ FreeS G 2 ∗ FreeS G 3)
        ∗ (Hail c 0 ∗ Hail c 1 ∗ Hail c 2 ∗ Hail c 3) ∗ (Ready c 0 ∗ Ready c 1 ∗ Ready c 2 ∗ Ready c 3)
        ∗ (atPos ER (cellK c (.inl false)) 0 ∅ 0 ∗ cred (tallyAt (cellK c (.inl false)) () 4)) ∗ Exit c ∗ (∃ W, owes (c : Thread nD τ) (left c 16) W))
      ⊢ iprop(((owns (c : Thread nD τ) arg0 q0 X0 ∗ owns (c : Thread nD τ) arg1 q1 X1 ∗ owns (c : Thread nD τ) arg2 q2 X2 ∗ owns (c : Thread nD τ) arg4 q4 XQ)
          ∗ owns (c : Thread nD τ) arg3 q3 (fun _ => BitVec.ofNat 32 n)
          ∗ owns (c : Thread nD τ) arg7 fullShare (k0_pay24 (accN A0 4 c) (lseN L0 4 c))
          ∗ owns (c : Thread nD τ) mA fullShare (accN A0 4 c) ∗ owns (c : Thread nD τ) mL fullShare (lseN L0 4 c)
          ∗ (FreeS G 0 ∗ FreeS G 1 ∗ FreeS G 2 ∗ FreeS G 3) ∗ (Back c 0 ∗ Back c 1 ∗ Back c 2 ∗ Back c 3)
          ∗ (atPos ER (cellK c (.inl false)) 1 ∅ 0 ∗ atPos ER (cellK c (.inl true)) 1 ∅ 0) ∗ (∃ W, owes (c : Thread nD τ) 0 W) -∗ Q ⟨⟩)
        -∗ wp frame (wpE defs 𝒱₀ (c : Thread nD τ) none) Set.univ (cc0_body arg0 harg0 arg1 harg1 arg2 harg2 arg3 harg3 arg4 harg4 arg5 harg5 arg6 harg6 arg7 harg7 mA (Memref.isWhole_whole _) mL (Memref.isWhole_whole _) rA (Memref.isWhole_whole _) rL (Memref.isWhole_whole _) arg12 harg12 arg13 harg13 cc0_scratch6 cc0_scratch7 cc0_scratch8 cc0_scoped0) Q) := by
  rw [body_eq arg0 harg0 arg1 harg1 arg2 harg2 arg3 harg3 arg4 harg4 arg5 harg5 arg6 harg6 arg7 harg7 arg12 harg12 arg13 harg13 cc0_scratch6]
  have hw : k0_chk28 c (BitVec.ofNat 32 n) := chk28 c hg.n_le
  iintro ⟨#Hi, #Hlev, HT, H3, ⟨%X7, H7⟩, HA, HL, HF, HH, HR, ⟨Hat, Hcr⟩, HX, HO⟩ Hk
  rw [wp_deviceId]
  iapply (wp_word (Q := Q) (defs := defs) c (m := arg3) (q := q3) (X := fun _ => BitVec.ofNat 32 n) (ix1 (0 : Fin 1)) (by decide) (by decide)) $$ H3
  iintro H3
  iapply (wp_assume 𝒱₀ (c : Thread nD τ) none Set.univ (show k0_chk28 c (BitVec.ofNat 32 n) from hw))
  iapply (run_greet (Q := Q) (defs := defs) A0 L0 K c _) $$ [HA HL HH Hat Hcr HO]
  · isplitr; · iexact Hi
    isplitr; · iexact Hlev
    isplitl [HA]; · iexact HA
    isplitl [HL]; · iexact HL
    isplitl [HH]; · iexact HH
    isplitl [Hat]; · iexact Hat
    isplitl [Hcr]; · iexact Hcr
    iexact HO
  iintro ⟨HA, HL, Hat, HP, HXr, HO⟩
  iapply (run_rest arg0 harg0 arg1 harg1 arg2 harg2 arg3 harg3 arg4 harg4 arg5 harg5 arg6 harg6 arg7 harg7 arg12 harg12 arg13 harg13 (Q := Q) (defs := defs) (q0 := q0) (q1 := q1) (q2 := q2) (q4 := q4) c (n := n) hw (X0 := X0) (X1 := X1) (X2 := X2) (XQ := XQ) hg fk fv G hG V hV A0 L0 K hA hL (X7 := X7)) $$ [HT HA HL HF H7 HR HP HX HXr HO]
  · isplitr; · iexact Hi
    isplitr; · iexact Hlev
    isplitl [HT]; · iexact HT
    isplitl [H7]; · iexact H7
    isplitl [HA]; · iexact HA
    isplitl [HL]; · iexact HL
    isplitl [HF]; · iexact HF
    isplitl [HR]; · iexact HR
    isplitl [HP]; · iexact HP
    isplitl [HX]; · iexact HX
    isplitl [HXr]; · iexact HXr
    iexact HO
  iintro ⟨HT, H7, HA, HL, HF, HB, Hxat, HO⟩
  iapply Hk
  isplitl [HT]; · iexact HT
  isplitl [H3]; · iexact H3
  isplitl [H7]; · iexact H7
  isplitl [HA]; · iexact HA
  isplitl [HL]; · iexact HL
  isplitl [HF]; · iexact HF
  isplitl [HB]; · iexact HB
  isplitl [Hat Hxat]
  · isplitl [Hat] <;> iassumption
  iexact HO

end All

end Cert.KProof
-- ==== Proof.Funds.lean ====
/-
  What each device holds of the exchange before the call: the records of every cell, its rights to open its own, the
  tokens of the payments it makes, and the credit it may await.
-/
module

public import proofs.«01_k».proof.Proof.Body

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The cells that exist only while the call runs -/

abbrev Sc : Type := Unit ⊕ (Bool × Fin 4 × Fin 2)
def scK : Sc → Knd := Sum.map (fun _ => true) id

theorem scK_inj : Function.Injective scK := by
  have h : ∀ a b : Sc, scK a = scK b → a = b := by decide +kernel
  exact fun a b => h a b

theorem scK_ne (x : Sc) : scK x ≠ .inl false := by revert x; decide +kernel

/-! ## The cells and tokens as families -/

def barEmb : Dev nD ↪ GSem nD τ sig := ⟨fun c => cellK c (.inl false), fun _ _ h => congrArg (fun g : GSem nD τ sig => g.1.1) h⟩
def scEmb : Dev nD × Sc ↪ GSem nD τ sig :=
  ⟨fun x => cellK x.1 (scK x.2), fun _ _ h =>
    Prod.ext (congrArg (fun g : GSem nD τ sig => g.1.1) h) (scK_inj (semOf_inj (congrArg Prod.snd h)))⟩

abbrev barCells : Finset (GSem nD τ sig) := Finset.univ.map barEmb
abbrev scCells : Finset (GSem nD τ sig) := Finset.univ.map scEmb

/-- The tokens of a device's cells: four for each barrier, one for each copy. -/
abbrev Tk0 : Type := (Bool × Fin 4) ⊕ (Bool × Fin 4 × Fin 2)
def tkCell : Tk0 → Knd × Fin 4
  | .inl (b, d) => (.inl b, d)
  | .inr x => (.inr x, 0)
theorem tkCell_inj : Function.Injective tkCell := by
  have h : ∀ a b : Tk0, tkCell a = tkCell b → a = b := by decide +kernel
  exact fun a b => h a b

def tokEmb : Dev nD × Tk0 ↪ GSem nD τ sig × ℕ × Fin 4 :=
  ⟨fun x => (cellK x.1 (tkCell x.2).1, 0, (tkCell x.2).2), fun _ _ h =>
    Prod.ext (congrArg (fun t : GSem nD τ sig × ℕ × Fin 4 => t.1.1.1) h)
      (tkCell_inj (Prod.ext (semOf_inj (congrArg (fun t : GSem nD τ sig × ℕ × Fin 4 => t.1.2) h))
        (congrArg (fun t : GSem nD τ sig × ℕ × Fin 4 => t.2.2) h)))⟩

def allToks : Finset (GSem nD τ sig × ℕ × Fin 4) := Finset.univ.map tokEmb

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact scK_ne x.2 (semOf_inj (congrArg Prod.snd h))

theorem cell_mem (c : Dev nD) (a : Knd) : cellK c a ∈ (barCells ∪ scCells : Finset (GSem nD τ sig)) := by
  match a with
  | .inl false => exact Finset.mem_union_left _ (Finset.mem_map_of_mem barEmb (Finset.mem_univ c))
  | .inl true => exact Finset.mem_union_right _ (Finset.mem_map_of_mem scEmb (Finset.mem_univ (c, (.inl () : Sc))))
  | .inr x => exact Finset.mem_union_right _ (Finset.mem_map_of_mem scEmb (Finset.mem_univ (c, (.inr x : Sc))))

theorem pair_up {I : Type} {S : Finset I} {Φ Ψ : I → sProp 𝕄} : iprop(bigSep S Φ ∗ bigSep S Ψ) ⊢ bigSep S fun i => iprop(Φ i ∗ Ψ i) := by
  classical rw [bigSep_sep']
theorem pair_off {I : Type} {S : Finset I} {Φ Ψ : I → sProp 𝕄} : (bigSep S fun i => iprop(Φ i ∗ Ψ i)) ⊢ iprop(bigSep S Φ ∗ bigSep S Ψ) := by
  classical rw [bigSep_sep']

/-! ## What a device holds -/

/-- The tokens of the payments device `c` makes. -/
def Toks (c : Dev nD) : sProp 𝕄 :=
  iprop((bigSep Finset.univ fun x : Bool × Fin 4 => dutyTok ER (cellK (pr x.2 c) (.inl x.1)) 0 x.2)
    ∗ (bigSep Finset.univ fun x : Fin 4 × Fin 2 => dutyTok ER (cellK c (.inr (false, x.1, x.2))) 0 0)
    ∗ (bigSep Finset.univ fun x : Fin 4 × Fin 2 => dutyTok ER (cellK (pr x.1 c) (.inr (true, x.1, x.2))) 0 0))

/-- The credit device `c` may await. -/
def Creds (c : Dev nD) : sProp 𝕄 :=
  iprop((bigSep Finset.univ fun b : Bool => cred (tallyAt (cellK c (.inl b)) () 4))
    ∗ (bigSep Finset.univ fun x : Fin 4 × Fin 2 => cred (tallyAt (cellK c (.inr (true, x.1, x.2))) () (NN x.2))))

section Start
variable (A0 : Dev nD → S32x16x128.Idx → Elt F .f32) (L0 : Dev nD → S32x16.Idx → Elt F .f32)

/-- What device `c` holds of the exchange before the call. -/
def Start (c : Dev nD) : sProp 𝕄 :=
  iprop(∃ K, Invs A0 L0 K ∗ (bigSep Finset.univ fun i : Fin 4 => reached ER (cellK (pr i c) (.inl false)) 0)
    ∗ atPos ER (cellK c (.inl false)) 0 ∅ 0 ∗ (bigSep Finset.univ fun x : Sc => openTok ER (cellK c (scK x))) ∗ Toks c ∗ Creds c)

/-- The same once its own cells are open. -/
def Ready0 (c : Dev nD) : sProp 𝕄 :=
  iprop(∃ K, Invs A0 L0 K ∗ (bigSep Finset.univ fun i : Fin 4 => reached ER (cellK (pr i c) (.inl false)) 0)
    ∗ atPos ER (cellK c (.inl false)) 0 ∅ 0
    ∗ (bigSep Finset.univ fun x : Sc => iprop(atPos ER (cellK c (scK x)) 0 ∅ 0 ∗ reached ER (cellK c (scK x)) 0)) ∗ Toks c ∗ Creds c)

theorem open_one (K : GSem nD τ sig → ℕ) (c : Dev nD) (x : Sc) :
    iprop(Invs A0 L0 K ∗ (openTok ER (cellK c (scK x)) ∗ semVal (cellK c (scK x)) 0))
      ⊢ (|={Set.univ}=> iprop(atPos ER (cellK c (scK x)) 0 ∅ 0 ∗ reached ER (cellK c (scK x)) 0) : sProp 𝕄) := by
  iintro ⟨#Hi, Ho, Hv⟩
  iapply (Rounds.cell_open ER (sched A0 L0) (Set.mem_univ (K (cellK c (scK x)))))
  isplitr; · iapply (inv_at A0 L0 K c (scK x)); iexact Hi
  isplitl [Ho] <;> iassumption

theorem open_all (c : Dev nD) :
    iprop(Start A0 L0 c ∗ bigSep Finset.univ fun x : Sc => semVal (cellK c (scK x)) 0) ⊢ (|={Set.univ}=> Ready0 A0 L0 c : sProp 𝕄) := by
  unfold Start Ready0
  iintro ⟨⟨%K, #Hi, Hr, Ha, Ho, Ht, Hc⟩, Hv⟩
  ihave H := (pair_up (S := Finset.univ) (Φ := fun x : Sc => openTok ER (cellK c (scK x))) (Ψ := fun x : Sc => semVal (cellK c (scK x)) 0)) $$ [Ho Hv]
  · isplitl [Ho] <;> iassumption
  ihave H := (bigSep_with_persistent (R := Invs A0 L0 K)
    (Φ := fun x : Sc => iprop(openTok ER (cellK c (scK x)) ∗ semVal (cellK c (scK x)) 0)) fun x _ => open_one A0 L0 K c x) $$ [H]
  · isplitr; · iexact Hi
    iexact H
  imod (bigSep_fupd Finset.univ (fun x : Sc => (iprop(atPos ER (cellK c (scK x)) 0 ∅ 0 ∗ reached ER (cellK c (scK x)) 0) : sProp 𝕄))) $$ H with H
  imodintro
  iexists K
  isplitr; · iexact Hi
  isplitl [Hr]; · iexact Hr
  isplitl [Ha]; · iexact Ha
  isplitl [H]; · iexact H
  isplitl [Ht] <;> iassumption

theorem close_one (K : GSem nD τ sig → ℕ) (c : Dev nD) (a : Knd) :
    iprop(Invs A0 L0 K ∗ atPos ER (cellK c a) 1 ∅ 0) ⊢ (|={Set.univ}=> semVal (cellK c a) 0 : sProp 𝕄) := by
  iintro ⟨#Hi, Ha⟩
  iapply (Rounds.cell_close ER (sched A0 L0) (Set.mem_univ (K (cellK c a))) id (duties_later A0 L0 (cellK c a)))
  isplitr; · iapply (inv_at A0 L0 K c a); iexact Hi
  iexact Ha

theorem close_all (K : GSem nD τ sig → ℕ) (c : Dev nD) :
    iprop(Invs A0 L0 K ∗ bigSep Finset.univ fun a : Knd => atPos ER (cellK c a) 1 ∅ 0)
      ⊢ (|={Set.univ}=> bigSep Finset.univ fun a : Knd => semVal (cellK c a) 0 : sProp 𝕄) := by
  iintro ⟨#Hi, H⟩
  ihave H := (bigSep_with_persistent (R := Invs A0 L0 K)
    (Φ := fun a : Knd => iprop(atPos ER (cellK c a) 1 ∅ 0)) fun a _ => close_one A0 L0 K c a) $$ [H]
  · isplitr; · iexact Hi
    iexact H
  iapply (bigSep_fupd Finset.univ (fun a : Knd => (semVal (cellK c a) 0 : sProp 𝕄)))
  iexact H

end Start

/-! ## The credit of the launch -/

theorem payK_facts : ∀ a : Knd, (∑ n ∈ Finset.range 16, if (payK (15 - n)).2 = a then 1 else 0)
    = (match a with | .inl _ => 4 | .inr (true, _) => 1 | .inr (false, _) => 0) := by decide +kernel

theorem left_sum (c : Dev nD) (m : ℕ) (g : GSem nD τ sig) : left c m g () = ∑ n ∈ Finset.range m, due c (15 - n) g () := by
  induction m with
  | zero => rfl
  | succ m ih => rw [Finset.sum_range_succ, ← ih]; rfl

theorem due_sum (c : Dev nD) (n : ℕ) (a : Knd) :
    ∑ d : Dev nD, due d n (cellK c a) () = (if (payK n).2 = a then 1 else 0) * amtOf (some a) := by
  have h : ∀ d : Dev nD, due d n (cellK c a) () = if d = pr (payK n).1 c then (if (payK n).2 = a then 1 else 0) * amtOf (some a) else 0 := by
    intro d
    unfold due
    rw [tallyAt_apply]
    by_cases h1 : d = pr (payK n).1 c
    · rw [if_pos h1]
      by_cases h2 : (payK n).2 = a
      · rw [if_pos h2, if_pos ⟨by rw [h1, pr_pr, h2], rfl⟩, h2, Nat.one_mul]
      · rw [if_neg h2, if_neg (fun e => h2 (semOf_inj (congrArg Prod.snd e.1)).symm), Nat.zero_mul]
    · rw [if_neg h1, if_neg (fun e => h1 (by
        have := congrArg (fun g : GSem nD τ sig => g.1.1) e.1
        rw [show c = pr (payK n).1 d from this, pr_pr]))]
  rw [Finset.sum_congr rfl fun d _ => h d, Finset.sum_ite_eq' Finset.univ (pr (payK n).1 c) fun _ => _, if_pos (Finset.mem_univ _)]

theorem launch_at (c : Dev nD) (a : Knd) :
    tallyOn (cellK c a) (launchCredit (Pipeline.owing fun d => left d 16) 0 (cellK c a))
      = (tallyAt (cellK c a) () ((match a with | .inl _ => 4 | .inr (true, _) => 1 | .inr (false, _) => 0) * amtOf (some a)) : CellTallies nD τ sig Unit) := by
  unfold tallyAt; refine congrArg _ (Finsupp.ext fun u => ?_); cases u
  rw [Pipeline.launchCredit_owing, Finsupp.single_eq_same, Finset.sum_congr rfl fun d _ => left_sum d 16 (cellK c a), Finset.sum_comm,
    Finset.sum_congr rfl fun n _ => due_sum c (15 - n) a, ← Finset.sum_mul, payK_facts]

/-- The cells a device may await, each with a kind. -/
def awaited : Bool ⊕ (Fin 4 × Fin 2) → Knd := Sum.map id fun x => (true, x.1, x.2)
theorem awaited_inj : Function.Injective awaited := by
  have h : ∀ a b, awaited a = awaited b → a = b := by decide +kernel
  exact fun a b => h a b

theorem creds (c : Dev nD) : (Pipeline.launchCred (fun d => left d 16) c : sProp 𝕄) ⊢ Creds c := by
  have e : (Creds c : sProp 𝕄) = bigSep (Finset.univ.map ⟨fun x => semOf (awaited x), fun _ _ h => awaited_inj (semOf_inj h)⟩)
      fun sm : SemLoc sig => cred (tallyOn ((c : Thread nD τ), sm) (launchCredit (Pipeline.owing fun d => left d 16) 0 ((c : Thread nD τ), sm))) := by
    rw [bigSep_map, bigSep_univ_sum]
    unfold Creds
    refine congrArg₂ _ (bigSep_congr fun b _ => ?_) (bigSep_congr fun x _ => ?_)
    · exact congrArg cred (launch_at c (.inl b)).symm
    · refine congrArg cred (((launch_at c (.inr (true, x.1, x.2))).trans ?_).symm)
      exact congrArg _ (Nat.one_mul _)
  rw [e]
  unfold Pipeline.launchCred
  exact bigSep_subset (Finset.subset_univ _)

/-! ## Dealing everything out -/

/-- The records every device may consult. -/
def records (A0 : Dev nD → S32x16x128.Idx → Elt F .f32) (L0 : Dev nD → S32x16.Idx → Elt F .f32) (κ : GSem nD τ sig → ℕ) : sProp 𝕄 :=
  iprop((bigSep (barCells ∪ scCells) fun g => cellInv ER (sched A0 L0) (κ g) g) ∗ bigSep barCells fun g => reached ER g 0)

instance records_persistent (A0 : Dev nD → S32x16x128.Idx → Elt F .f32) (L0 : Dev nD → S32x16.Idx → Elt F .f32) (κ : GSem nD τ sig → ℕ) :
    BI.Persistent (records A0 L0 κ) := by unfold records; infer_instance

/-- What stays with one device. -/
def Linear (c : Dev nD) : sProp 𝕄 :=
  iprop(atPos ER (cellK c (.inl false)) 0 ∅ 0 ∗ (bigSep Finset.univ fun x : Sc => openTok ER (cellK c (scK x))) ∗ Toks c)

def cellEmb : Dev nD × Knd ↪ GSem nD τ sig :=
  ⟨fun x => cellK x.1 x.2, fun _ _ h =>
    Prod.ext (congrArg (fun g : GSem nD τ sig => g.1.1) h) (semOf_inj (congrArg Prod.snd h))⟩

theorem start_intro (A0 : Dev nD → S32x16x128.Idx → Elt F .f32) (L0 : Dev nD → S32x16.Idx → Elt F .f32) (κ : GSem nD τ sig → ℕ) (c : Dev nD) :
    iprop(records A0 L0 κ ∗ (Linear c ∗ Creds c)) ⊢ Start A0 L0 c := by
  have hI : (bigSep (barCells ∪ scCells) fun g => (cellInv ER (sched A0 L0) (κ g) g : sProp 𝕄)) ⊢ Invs A0 L0 κ := by
    unfold Invs
    refine (bigSep_subset (t := Finset.univ.map cellEmb) (fun g hg => ?_)).trans (Entails.of_eq (bigSep_map cellEmb))
    obtain ⟨x, -, rfl⟩ := Finset.mem_map.mp hg
    exact cell_mem x.1 x.2
  have hR : (bigSep barCells fun g => (reached ER g 0 : sProp 𝕄)) ⊢ bigSep Finset.univ fun i : Fin 4 => reached ER (cellK (pr i c) (.inl false)) 0 := by
    refine bigSep_intro_persistent fun i _ => ?_
    exact bigSep_elim (i := cellK (pr i c) (.inl false)) (Finset.mem_map_of_mem barEmb (Finset.mem_univ (pr i c)))
  unfold records Linear Start
  iintro ⟨⟨#HI, #HR⟩, ⟨Ha, Ho, Ht⟩, Hc⟩
  iexists κ
  isplitr; · iapply hI; iexact HI
  isplitr; · iapply hR; iexact HR
  isplitl [Ha]; · iexact Ha
  isplitl [Ho]; · iexact Ho
  isplitl [Ht] <;> iassumption

/-- The partner in the round that an index names, on pairs. -/
def payer {X : Type} (g : X → Fin 4) : Dev nD × X ≃ Dev nD × X where
  toFun y := (pr (g y.2) y.1, y.2)
  invFun y := (pr (g y.2) y.1, y.2)
  left_inv y := Prod.ext (pr_pr (g y.2) y.1) rfl
  right_inv y := Prod.ext (pr_pr (g y.2) y.1) rfl

/-- What every device has for each index, dealt to the partner that the index names. -/
theorem deal {X : Type} [Fintype X] (g : X → Fin 4) (Φ : Dev nD → X → sProp 𝕄) :
    (bigSep Finset.univ fun c : Dev nD => bigSep Finset.univ fun x : X => Φ c x)
      = bigSep Finset.univ fun c : Dev nD => bigSep Finset.univ fun x : X => Φ (pr (g x) c) x := by
  rw [← bigSep_univ_prod (fun y : Dev nD × X => Φ y.1 y.2), ← bigSep_univ_prod (fun y : Dev nD × X => Φ (pr (g y.2) y.1) y.2)]
  exact bigSep_univ_equiv (payer g) _

theorem two_kinds (Φ : Bool → sProp 𝕄) : bigSep Finset.univ Φ = iprop(Φ false ∗ Φ true) := by
  rw [show (Finset.univ : Finset Bool) = {false, true} from by decide, bigSep_insert (by decide), bigSep_singleton]
  rfl

/-- The tokens of one device's cells, by kind. -/
theorem toks_kinds (c : Dev nD) :
    (bigSep Finset.univ fun b : Tk0 => (dutyTok ER (cellK c (tkCell b).1) 0 (tkCell b).2 : sProp 𝕄))
      = iprop((bigSep Finset.univ fun x : Bool × Fin 4 => dutyTok ER (cellK c (.inl x.1)) 0 x.2)
        ∗ (bigSep Finset.univ fun x : Fin 4 × Fin 2 => dutyTok ER (cellK c (.inr (false, x.1, x.2))) 0 0)
        ∗ (bigSep Finset.univ fun x : Fin 4 × Fin 2 => dutyTok ER (cellK c (.inr (true, x.1, x.2))) 0 0)) := by
  rw [bigSep_univ_sum]
  refine congrArg₂ _ rfl ?_
  rw [bigSep_univ_prod, two_kinds]
  rfl

/-- Every payment's token goes to the device that pays. -/
theorem toks_deal : bigSep allToks (fun x => (dutyTok ER x.1 x.2.1 x.2.2 : sProp 𝕄)) = bigSep Finset.univ fun c : Dev nD => (Toks c : sProp 𝕄) := by
  unfold allToks Toks
  rw [bigSep_map, bigSep_univ_prod]
  rw [show (fun a : Dev nD => bigSep Finset.univ fun b : Tk0 => (dutyTok ER (tokEmb (a, b)).1 (tokEmb (a, b)).2.1 (tokEmb (a, b)).2.2 : sProp 𝕄))
    = fun c : Dev nD => _ from funext fun c => toks_kinds c]
  rw [bigSep_sep', bigSep_sep', bigSep_sep', bigSep_sep']
  rw [deal (fun x : Bool × Fin 4 => x.2) (fun c x => (dutyTok ER (cellK c (.inl x.1)) 0 x.2 : sProp 𝕄)),
    deal (fun x : Fin 4 × Fin 2 => x.1) (fun c x => (dutyTok ER (cellK c (.inr (true, x.1, x.2))) 0 0 : sProp 𝕄))]

end Cert.KProof

end
-- ==== Proof.Space.lean ====
/-
  The scratch buffers cut into the places the body uses: the pieces of the rings, the places where a round's sums
  arrive, and the shares of the pools.
-/
module

public import proofs.«01_k».proof.Proof.Body

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## A memref held whole, and its parts -/

section Parts
variable {sp : Space} {sh : Shape} {e : EltTy} (m : Memref sig .tc sp sh e) {B : Type} [Fintype B] [DecidableEq B] (R : B → Finset sh.Idx)
  (hd : ∀ b b', b ≠ b' → Disjoint (R b) (R b')) (hc : Finset.univ.biUnion R = Finset.univ) (c : Dev nD)
include hd hc

omit [FloatOps F] in
theorem parts_disj (b b' : B) (h : b ≠ b') : Disjoint (m.view.setOn (R b)) (m.view.setOn (R b')) := (Finset.disjoint_map _).2 (hd b b' h)

omit [FloatOps F] in
theorem parts_set : Finset.univ.biUnion (fun b => m.view.setOn (R b)) = m.view.set := by
  ext i
  constructor
  · intro h
    obtain ⟨b, _, h⟩ := Finset.mem_biUnion.1 h
    obtain ⟨x, _, e⟩ := Finset.mem_map.1 h
    exact Finset.mem_map.2 ⟨x, Finset.mem_univ x, e⟩
  · intro h
    obtain ⟨x, _, e⟩ := Finset.mem_map.1 h
    have hx : x ∈ Finset.univ.biUnion R := by rw [hc]; exact Finset.mem_univ x
    obtain ⟨b, _, hb⟩ := Finset.mem_biUnion.1 hx
    exact Finset.mem_biUnion.2 ⟨b, Finset.mem_univ b, Finset.mem_map.2 ⟨x, hb, e⟩⟩

theorem parts_out :
    (iprop(∃ f, (m.view.loc (c : Thread nD τ) ↦[m.view.set]{fullShare} f)) : sProp 𝕄)
      ⊢ bigSep Finset.univ fun b => iprop(∃ f, (m.view.loc (c : Thread nD τ) ↦[m.view.setOn (R b)]{fullShare} f)) := by
  have e (f : Buf (Elt F) (m.view.loc (c : Thread nD τ))) : (m.view.loc (c : Thread nD τ) ↦[m.view.set]{fullShare} f : sProp 𝕄)
      = bigSep Finset.univ fun b => (m.view.loc (c : Thread nD τ) ↦[m.view.setOn (R b)]{fullShare} f) := by
    have h1 := pointsTo_biUnion (nD := nD) (τ := τ) (sig := sig) (Ix := Unit) (Val := Elt F) (Name := ℕ) (U := UU) (Lvl := ℕ) (ℓ := m.view.loc (c : Thread nD τ)) (q := fullShare) (f := f) Finset.univ (fun b => m.view.setOn (R b)) (fun b _ b' _ h => parts_disj m R hd hc b b' h)
    rw [parts_set m R hd hc] at h1
    exact h1
  have w (f : Buf (Elt F) (m.view.loc (c : Thread nD τ))) :
      (bigSep Finset.univ fun b => (m.view.loc (c : Thread nD τ) ↦[m.view.setOn (R b)]{fullShare} f : sProp 𝕄))
        ⊢ bigSep Finset.univ fun b => iprop(∃ f, (m.view.loc (c : Thread nD τ) ↦[m.view.setOn (R b)]{fullShare} f)) := by
    refine bigSep_mono fun b _ => ?_
    show (m.view.loc (c : Thread nD τ) ↦[m.view.setOn (R b)]{fullShare} f : sProp 𝕄) ⊢ iprop(∃ f, (m.view.loc (c : Thread nD τ) ↦[m.view.setOn (R b)]{fullShare} f))
    iintro H; iexists f; iexact H
  iintro ⟨%f, H⟩
  ihave H := (Entails.of_eq (e f)) $$ H
  iapply (w f)
  iexact H

theorem parts_in (f₀ : Buf (Elt F) (m.view.loc (c : Thread nD τ))) :
    (bigSep Finset.univ fun b => iprop(∃ f, (m.view.loc (c : Thread nD τ) ↦[m.view.setOn (R b)]{fullShare} f)))
      ⊢ (iprop(∃ f, (m.view.loc (c : Thread nD τ) ↦[m.view.set]{fullShare} f)) : sProp 𝕄) := by
  haveI : Nonempty (Buf (Elt F) (m.view.loc (c : Thread nD τ))) := ⟨f₀⟩
  iintro H
  ihave H := (bigSep_exists_pi Finset.univ (fun (b : B) (f : Buf (Elt F) (m.view.loc (c : Thread nD τ))) =>
    (m.view.loc (c : Thread nD τ) ↦[m.view.setOn (R b)]{fullShare} f : sProp 𝕄))) $$ H
  icases H with ⟨%fs, H⟩
  ihave H := (pointsTo_biUnion_join Finset.univ (fun b => m.view.setOn (R b)) fs f₀ (fun b _ b' _ h => parts_disj m R hd hc b b' h)) $$ H
  rw [parts_set m R hd hc]
  icases H with ⟨%g, -, H⟩
  iexists g; iexact H
end Parts

/-! ## The rings -/

/-- A piece of a ring buffer at some contents. -/
def PieceOf (bm : Ring5) (c : Dev nD) (x : Fin 4 × Fin 8) : sProp 𝕄 :=
  iprop(∃ f, ((dst bm x.1 x.2).view.loc (c : Thread nD τ) ↦[(dst bm x.1 x.2).view.set]{fullShare} f))

theorem piece_disj' {x y : Fin 4 × Fin 8} (h : x ≠ y) : Disjoint (pieceR x.1 x.2).set (pieceR y.1 y.2).set := by
  by_cases h1 : x.1 = y.1
  · have h2 : x.2 ≠ y.2 := fun e => h (Prod.ext h1 e)
    rw [h1]; exact piece_disj y.1 h2
  rw [Finset.disjoint_left]
  intro i h3 h4
  rw [Rect.mem_set_unit] at h3 h4
  have a1 := h3 0
  have a2 := h4 0
  simp [S1x1x32x16x128] at a1 a2
  exact h1 (Fin.ext (by omega))

theorem piece_union : (Finset.univ : Finset (Fin 4 × Fin 8)).biUnion (fun x => (pieceR x.1 x.2).set) = Finset.univ := by
  ext i
  simp only [Finset.mem_biUnion, Finset.mem_univ, true_and, iff_true, Rect.mem_set_unit]
  refine ⟨(i 0, i 1), fun a => ?_⟩
  have h2 := (i 2).isLt
  have h3 := (i 3).isLt
  have h4 := (i 4).isLt
  fin_cases a
  · exact ⟨Nat.le_refl _, Nat.lt_succ_self _⟩
  · exact ⟨Nat.le_refl _, Nat.lt_succ_self _⟩
  · exact ⟨Nat.zero_le _, by simpa using h2⟩
  · exact ⟨Nat.zero_le _, by simpa using h3⟩
  · exact ⟨Nat.zero_le _, by simpa using h4⟩

theorem ring_out (bm : Ring5) (c : Dev nD) :
    (iprop(∃ f, (bm.view.loc (c : Thread nD τ) ↦[bm.view.set]{fullShare} f)) : sProp 𝕄) ⊢ bigSep Finset.univ (PieceOf bm c) := by
  refine (parts_out bm (fun x : Fin 4 × Fin 8 => (pieceR x.1 x.2).set) (fun _ _ h => piece_disj' h) piece_union c).trans ?_
  refine bigSep_mono fun x _ => ?_
  unfold PieceOf
  rw [dst_set]; exact BI.Entails.refl _

theorem ring_in (bm : Ring5) (c : Dev nD) (f₀ : Buf (Elt F) (bm.view.loc (c : Thread nD τ))) :
    bigSep Finset.univ (PieceOf (F := F) bm c) ⊢ (iprop(∃ f, (bm.view.loc (c : Thread nD τ) ↦[bm.view.set]{fullShare} f)) : sProp 𝕄) := by
  refine .trans ?_ (parts_in bm (fun x : Fin 4 × Fin 8 => (pieceR x.1 x.2).set) (fun _ _ h => piece_disj' h) piece_union c f₀)
  refine bigSep_mono fun x _ => ?_
  unfold PieceOf
  rw [dst_set]; exact BI.Entails.refl _

/-! ## The places where the partners' sums arrive -/

abbrev rectA (i : Fin 4) : Rect S4x32x16x128 := Rect.unit (s := S4x32x16x128) ![i.val, 0, 0, 0] S1x32x16x128.size (inA i)
abbrev rectL (i : Fin 4) : Rect S4x32x16 := Rect.unit (s := S4x32x16) ![i.val, 0, 0] S1x32x16.size (inL i)

theorem lA_set (i : Fin 4) : (lA i).view.set = rA.view.setOn (rectA i).set := by
  show ((rA.view.slice (rectA i)).reshape S32x16x128 _).set = _
  rw [View.set_reshape, View.set_slice]; rfl
theorem lL_set (i : Fin 4) : (lL i).view.set = rL.view.setOn (rectL i).set := by
  show ((rL.view.slice (rectL i)).reshape S32x16 _).set = _
  rw [View.set_reshape, View.set_slice]; rfl

theorem rectA_disj {i j : Fin 4} (h : i ≠ j) : Disjoint (rectA i).set (rectA j).set := by
  rw [Finset.disjoint_left]
  intro x h1 h2
  rw [Rect.mem_set_unit] at h1 h2
  have a1 := h1 0
  have a2 := h2 0
  simp [S1x32x16x128] at a1 a2
  exact h (Fin.ext (by omega))
theorem rectL_disj {i j : Fin 4} (h : i ≠ j) : Disjoint (rectL i).set (rectL j).set := by
  rw [Finset.disjoint_left]
  intro x h1 h2
  rw [Rect.mem_set_unit] at h1 h2
  have a1 := h1 0
  have a2 := h2 0
  simp [S1x32x16] at a1 a2
  exact h (Fin.ext (by omega))
theorem rectA_union : (Finset.univ : Finset (Fin 4)).biUnion (fun i => (rectA i).set) = Finset.univ := by
  ext i
  simp only [Finset.mem_biUnion, Finset.mem_univ, true_and, iff_true, Rect.mem_set_unit]
  refine ⟨i 0, fun a => ?_⟩
  have h2 := (i 1).isLt
  have h3 := (i 2).isLt
  have h4 := (i 3).isLt
  fin_cases a
  · exact ⟨Nat.le_refl _, Nat.lt_succ_self _⟩
  · exact ⟨Nat.zero_le _, by simpa using h2⟩
  · exact ⟨Nat.zero_le _, by simpa using h3⟩
  · exact ⟨Nat.zero_le _, by simpa using h4⟩
theorem rectL_union : (Finset.univ : Finset (Fin 4)).biUnion (fun i => (rectL i).set) = Finset.univ := by
  ext i
  simp only [Finset.mem_biUnion, Finset.mem_univ, true_and, iff_true, Rect.mem_set_unit]
  refine ⟨i 0, fun a => ?_⟩
  have h2 := (i 1).isLt
  have h3 := (i 2).isLt
  fin_cases a
  · exact ⟨Nat.le_refl _, Nat.lt_succ_self _⟩
  · exact ⟨Nat.zero_le _, by simpa using h2⟩
  · exact ⟨Nat.zero_le _, by simpa using h3⟩

/-- A memref at some contents is owned at some value, and back. -/
theorem some_owns {sp : Space} {sh : Shape} {e : EltTy} (m : Memref sig .tc sp sh e) (c : Dev nD) :
    (iprop(∃ f, (m.view.loc (c : Thread nD τ) ↦[m.view.set]{fullShare} f)) : sProp 𝕄)
      ⊢ iprop(∃ X : sh.Idx → Elt F e, owns (c : Thread nD τ) m fullShare X) := by
  iintro ⟨%f, H⟩
  iexists m.view.read (Elt F) f
  unfold owns
  iexists f
  isplitr; · ipureintro; rfl
  iexact H
theorem owns_some {sp : Space} {sh : Shape} {e : EltTy} (m : Memref sig .tc sp sh e) (c : Dev nD) :
    (iprop(∃ X : sh.Idx → Elt F e, owns (c : Thread nD τ) m fullShare X) : sProp 𝕄)
      ⊢ iprop(∃ f, (m.view.loc (c : Thread nD τ) ↦[m.view.set]{fullShare} f)) := by
  unfold owns
  iintro ⟨%X, %f, -, H⟩
  iexists f; iexact H

theorem landA_out (c : Dev nD) : (iprop(∃ f, (rA.view.loc (c : Thread nD τ) ↦[rA.view.set]{fullShare} f)) : sProp 𝕄)
    ⊢ bigSep Finset.univ fun i => iprop(∃ X : S32x16x128.Idx → Elt F .f32, owns (c : Thread nD τ) (lA i) fullShare X) := by
  refine (parts_out rA (fun i => (rectA i).set) (fun _ _ h => rectA_disj h) rectA_union c).trans (bigSep_mono fun i _ => ?_)
  refine .trans ?_ (some_owns (lA i) c)
  rw [lA_set]; exact BI.Entails.refl _
theorem landL_out (c : Dev nD) : (iprop(∃ f, (rL.view.loc (c : Thread nD τ) ↦[rL.view.set]{fullShare} f)) : sProp 𝕄)
    ⊢ bigSep Finset.univ fun i => iprop(∃ X : S32x16.Idx → Elt F .f32, owns (c : Thread nD τ) (lL i) fullShare X) := by
  refine (parts_out rL (fun i => (rectL i).set) (fun _ _ h => rectL_disj h) rectL_union c).trans (bigSep_mono fun i _ => ?_)
  refine .trans ?_ (some_owns (lL i) c)
  rw [lL_set]; exact BI.Entails.refl _
theorem landA_in (c : Dev nD) (f₀ : Buf (Elt F) (rA.view.loc (c : Thread nD τ))) :
    (bigSep Finset.univ fun i => iprop(∃ X : S32x16x128.Idx → Elt F .f32, owns (c : Thread nD τ) (lA i) fullShare X))
      ⊢ (iprop(∃ f, (rA.view.loc (c : Thread nD τ) ↦[rA.view.set]{fullShare} f)) : sProp 𝕄) := by
  refine .trans (bigSep_mono fun i _ => ?_) (parts_in rA (fun i => (rectA i).set) (fun _ _ h => rectA_disj h) rectA_union c f₀)
  refine (owns_some (lA i) c).trans ?_
  rw [lA_set]
theorem landL_in (c : Dev nD) (f₀ : Buf (Elt F) (rL.view.loc (c : Thread nD τ))) :
    (bigSep Finset.univ fun i => iprop(∃ X : S32x16.Idx → Elt F .f32, owns (c : Thread nD τ) (lL i) fullShare X))
      ⊢ (iprop(∃ f, (rL.view.loc (c : Thread nD τ) ↦[rL.view.set]{fullShare} f)) : sProp 𝕄) := by
  refine .trans (bigSep_mono fun i _ => ?_) (parts_in rL (fun i => (rectL i).set) (fun _ _ h => rectL_disj h) rectL_union c f₀)
  refine (owns_some (lL i) c).trans ?_
  rw [lL_set]

/-! ## The pools' shares -/

/-- A pool held whole is what is left of it beside the thirty-two shares the copies read through. -/
theorem pool_shares (km : Pool4) (c : Dev nD) (f : Buf (Elt F) (km.view.loc (c : Thread nD τ))) :
    (km.view.loc (c : Thread nD τ) ↦{fullShare} f : sProp 𝕄) ⊣⊢
      iprop((km.view.loc (c : Thread nD τ) ↦{shareDrop fullShare 32} f)
        ∗ bigSep Finset.univ fun x : Fin 4 × Fin 8 => (km.view.loc (c : Thread nD τ) ↦{shr x.1 x.2} f)) := by
  have h : (km.view.loc (c : Thread nD τ) ↦{fullShare} f : sProp 𝕄) ⊣⊢
      iprop((km.view.loc (c : Thread nD τ) ↦{shareDrop fullShare 32} f)
        ∗ bigSep Finset.univ fun i : Fin 32 => (km.view.loc (c : Thread nD τ) ↦{shareTok fullShare 32 i} f)) := pointsTo_toks fullShare 32
  rw [bigSep_univ_equiv (finProdFinEquiv (m := 4) (n := 8)) (fun i : Fin 32 => (km.view.loc (c : Thread nD τ) ↦{shareTok fullShare 32 i} f : sProp 𝕄))] at h
  exact h

/-! ## All the cells free -/

variable {c : Dev nD} (G : Rings F c)

/-- The counters of the local copies, all at zero. -/
def Quiet (A : DmaSems sig S4x8x2) (c : Dev nD) (k : Fin 2) : sProp 𝕄 :=
  bigSep Finset.univ fun x : Fin 4 × Fin 8 => semVal ((c : Thread nD τ), .dma (cell A x.1 x.2 k)) 0

theorem free_all :
    (iprop((bigSep Finset.univ (PieceOf G.bk c) ∗ (bigSep Finset.univ fun x : Fin 4 × Fin 8 => (G.km.view.loc (c : Thread nD τ) ↦{shr x.1 x.2} G.fk)) ∗ Quiet G.A c 0)
      ∗ (bigSep Finset.univ (PieceOf G.bv c) ∗ (bigSep Finset.univ fun x : Fin 4 × Fin 8 => (G.vm.view.loc (c : Thread nD τ) ↦{shr x.1 x.2} G.fv)) ∗ Quiet G.A c 1)) : sProp 𝕄)
      = iprop(FreeS G 0 ∗ FreeS G 1 ∗ FreeS G 2 ∗ FreeS G 3) := by
  rw [← bigSep_univ_four (fun s => FreeS G s)]
  unfold FreeS Quiet
  rw [← bigSep_univ_prod (fun x : Fin 4 × Fin 8 => FreeP G x.1 x.2)]
  rw [← bigSep_sep', ← bigSep_sep', ← bigSep_sep', ← bigSep_sep', ← bigSep_sep']
  rfl

end Cert.KProof

end
-- ==== Proof.Frames.lean ====
/-
  From what the call finds on a device to what the body starts from, and from what the body leaves to what the call
  hands back.
-/
module

public import proofs.«01_k».proof.Proof.Funds
public import proofs.«01_k».proof.Proof.Space

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Families written out by round -/

theorem by_round (Φ : Fin 4 × Fin 2 → sProp 𝕄) : bigSep Finset.univ Φ = bigSep Finset.univ fun i : Fin 4 => iprop(Φ (i, 0) ∗ Φ (i, 1)) := by
  rw [bigSep_univ_prod]
  exact bigSep_congr fun i _ => BI.bigSep_fin_two (fun k => Φ (i, k))

theorem by_copy (Φ : Bool × Fin 4 × Fin 2 → sProp 𝕄) : bigSep Finset.univ Φ
    = iprop((bigSep Finset.univ fun i : Fin 4 => iprop(Φ (false, i, 0) ∗ Φ (false, i, 1)))
      ∗ (bigSep Finset.univ fun i : Fin 4 => iprop(Φ (true, i, 0) ∗ Φ (true, i, 1)))) := by
  rw [bigSep_univ_prod, two_kinds, by_round, by_round]

theorem by_scoped (Φ : Sc → sProp 𝕄) : bigSep Finset.univ Φ
    = iprop(Φ (.inl ()) ∗ (bigSep Finset.univ fun i : Fin 4 => iprop(Φ (.inr (false, i, 0)) ∗ Φ (.inr (false, i, 1))))
      ∗ (bigSep Finset.univ fun i : Fin 4 => iprop(Φ (.inr (true, i, 0)) ∗ Φ (.inr (true, i, 1))))) := by
  rw [bigSep_univ_sum, by_copy]
  refine congrArg₂ _ ?_ rfl
  rw [show (Finset.univ : Finset Unit) = {()} from rfl, bigSep_singleton]

theorem by_kind (Φ : Knd → sProp 𝕄) : bigSep Finset.univ Φ
    = iprop((Φ (.inl false) ∗ Φ (.inl true)) ∗ (bigSep Finset.univ fun i : Fin 4 => iprop(Φ (.inr (false, i, 0)) ∗ Φ (.inr (false, i, 1))))
      ∗ (bigSep Finset.univ fun i : Fin 4 => iprop(Φ (.inr (true, i, 0)) ∗ Φ (.inr (true, i, 1))))) := by
  rw [bigSep_univ_sum, by_copy, two_kinds]
  rfl

/-! ## The greetings and the rounds made ready -/

abbrev Lands (c : Dev nD) : sProp 𝕄 :=
  iprop((bigSep Finset.univ fun i : Fin 4 => iprop(∃ X : S32x16x128.Idx → Elt F .f32, owns (c : Thread nD τ) (lA i) fullShare X))
    ∗ (bigSep Finset.univ fun i : Fin 4 => iprop(∃ X : S32x16.Idx → Elt F .f32, owns (c : Thread nD τ) (lL i) fullShare X)))

/-- What a device knows of its own cells once they are open, and of its partners' barriers. -/
def Known (c : Dev nD) : sProp 𝕄 :=
  iprop((bigSep Finset.univ fun x : Sc => reached ER (cellK c (scK x)) 0)
    ∗ (bigSep Finset.univ fun i : Fin 4 => reached ER (cellK (pr i c) (.inl false)) 0))

instance Known_persistent (c : Dev nD) : BI.Persistent (Known c : sProp 𝕄) := by unfold Known; infer_instance

theorem known_at (c : Dev nD) (x : Sc) : (Known c : sProp 𝕄) ⊢ reached ER (cellK c (scK x)) 0 := by
  unfold Known
  have h : (bigSep Finset.univ fun x : Sc => (reached ER (cellK c (scK x)) 0 : sProp 𝕄)) ⊢ reached ER (cellK c (scK x)) 0 :=
    bigSep_elim (i := x) (Finset.mem_univ x)
  iintro ⟨H, -⟩
  iapply h; iexact H
theorem known_bar (c : Dev nD) (i : Fin 4) : (Known c : sProp 𝕄) ⊢ reached ER (cellK (pr i c) (.inl false)) 0 := by
  unfold Known
  have h : (bigSep Finset.univ fun i : Fin 4 => (reached ER (cellK (pr i c) (.inl false)) 0 : sProp 𝕄)) ⊢ reached ER (cellK (pr i c) (.inl false)) 0 :=
    bigSep_elim (i := i) (Finset.mem_univ i)
  iintro ⟨-, H⟩
  iapply h; iexact H

theorem hail_one (c : Dev nD) (i : Fin 4) :
    iprop(Known c ∗ (dutyTok ER (cellK (pr i c) (.inl false)) 0 i
        ∗ ((∃ X : S32x16x128.Idx → Elt F .f32, owns (c : Thread nD τ) (lA i) fullShare X) ∗ (∃ X : S32x16.Idx → Elt F .f32, owns (c : Thread nD τ) (lL i) fullShare X))))
      ⊢ (Hail c i : sProp 𝕄) := by
  unfold Hail Own
  iintro ⟨#HK, Ht, HA, HL⟩
  isplitl [Ht]; · iexact Ht
  isplitl [HA HL]
  · isplitl [HA]; · iexact HA
    isplitl [HL]; · iexact HL
    isplitr; · iapply (known_at c (.inr (true, i, 0))); iexact HK
    isplitr; · iapply (known_at c (.inr (true, i, 1))); iexact HK
    iapply (known_at c (.inl ())); iexact HK
  iapply (known_bar c i); iexact HK

theorem hails (c : Dev nD) :
    iprop(Known c ∗ (bigSep Finset.univ fun i : Fin 4 => dutyTok ER (cellK (pr i c) (.inl false)) 0 i) ∗ Lands c)
      ⊢ (iprop(Hail c 0 ∗ Hail c 1 ∗ Hail c 2 ∗ Hail c 3) : sProp 𝕄) := by
  rw [← bigSep_univ_four (fun i => Hail c i)]
  unfold Lands
  rw [← bigSep_sep', ← bigSep_sep']
  exact bigSep_with_persistent (R := Known c) fun i _ => hail_one c i

theorem ready_one (c : Dev nD) (i : Fin 4) :
    iprop(Known c ∗ ((dutyTok ER (cellK c (.inr (false, i, 0))) 0 0 ∗ dutyTok ER (cellK c (.inr (false, i, 1))) 0 0)
        ∗ (dutyTok ER (cellK (pr i c) (.inr (true, i, 0))) 0 0 ∗ dutyTok ER (cellK (pr i c) (.inr (true, i, 1))) 0 0)
        ∗ (atPos ER (cellK c (.inr (false, i, 0))) 0 ∅ 0 ∗ atPos ER (cellK c (.inr (false, i, 1))) 0 ∅ 0)
        ∗ (atPos ER (cellK c (.inr (true, i, 0))) 0 ∅ 0 ∗ atPos ER (cellK c (.inr (true, i, 1))) 0 ∅ 0)
        ∗ (cred (tallyAt (cellK c (.inr (true, i, 0))) () (NN 0)) ∗ cred (tallyAt (cellK c (.inr (true, i, 1))) () (NN 1)))))
      ⊢ (Ready c i : sProp 𝕄) := by
  unfold Ready
  iintro ⟨#HK, H1, H2, H3, H4, H5⟩
  isplitl [H1]; · iexact H1
  isplitl [H2]; · iexact H2
  isplitl [H3]; · iexact H3
  isplitl [H4]; · iexact H4
  isplitl [H5]; · iexact H5
  isplitr; · iapply (known_at c (.inr (false, i, 0))); iexact HK
  iapply (known_at c (.inr (false, i, 1))); iexact HK

theorem readys (c : Dev nD) :
    iprop(Known c
        ∗ (bigSep Finset.univ fun x : Fin 4 × Fin 2 => dutyTok ER (cellK c (.inr (false, x.1, x.2))) 0 0)
        ∗ (bigSep Finset.univ fun x : Fin 4 × Fin 2 => dutyTok ER (cellK (pr x.1 c) (.inr (true, x.1, x.2))) 0 0)
        ∗ (bigSep Finset.univ fun i : Fin 4 => iprop(atPos ER (cellK c (.inr (false, i, 0))) 0 ∅ 0 ∗ atPos ER (cellK c (.inr (false, i, 1))) 0 ∅ 0))
        ∗ (bigSep Finset.univ fun i : Fin 4 => iprop(atPos ER (cellK c (.inr (true, i, 0))) 0 ∅ 0 ∗ atPos ER (cellK c (.inr (true, i, 1))) 0 ∅ 0))
        ∗ (bigSep Finset.univ fun x : Fin 4 × Fin 2 => cred (tallyAt (cellK c (.inr (true, x.1, x.2))) () (NN x.2))))
      ⊢ (iprop(Ready c 0 ∗ Ready c 1 ∗ Ready c 2 ∗ Ready c 3) : sProp 𝕄) := by
  rw [← bigSep_univ_four (fun i => Ready c i), by_round, by_round, by_round, ← bigSep_sep', ← bigSep_sep', ← bigSep_sep', ← bigSep_sep']
  exact bigSep_with_persistent (R := Known c) fun i _ => ready_one c i

section Ex
variable (A0 : Dev nD → S32x16x128.Idx → Elt F .f32) (L0 : Dev nD → S32x16.Idx → Elt F .f32)

/-- The exchange's holdings, arranged as the body takes them. -/
theorem arrange (c : Dev nD) :
    iprop(Ready0 A0 L0 c ∗ Lands c)
      ⊢ (iprop(∃ K, Invs A0 L0 K ∗ (Hail c 0 ∗ Hail c 1 ∗ Hail c 2 ∗ Hail c 3) ∗ (Ready c 0 ∗ Ready c 1 ∗ Ready c 2 ∗ Ready c 3)
        ∗ (atPos ER (cellK c (.inl false)) 0 ∅ 0 ∗ cred (tallyAt (cellK c (.inl false)) () 4)) ∗ Exit c) : sProp 𝕄) := by
  have hT : (bigSep Finset.univ fun x : Bool × Fin 4 => (dutyTok ER (cellK (pr x.2 c) (.inl x.1)) 0 x.2 : sProp 𝕄))
      = iprop((bigSep Finset.univ fun i : Fin 4 => dutyTok ER (cellK (pr i c) (.inl false)) 0 i)
        ∗ (dutyTok ER (cellK (pr 0 c) (.inl true)) 0 0 ∗ dutyTok ER (cellK (pr 1 c) (.inl true)) 0 1
          ∗ dutyTok ER (cellK (pr 2 c) (.inl true)) 0 2 ∗ dutyTok ER (cellK (pr 3 c) (.inl true)) 0 3)) := by
    rw [bigSep_univ_prod, two_kinds, ← bigSep_univ_four (fun i => (dutyTok ER (cellK (pr i c) (.inl true)) 0 i : sProp 𝕄))]
  have hC : (bigSep Finset.univ fun b : Bool => (cred (tallyAt (cellK c (.inl b)) () 4) : sProp 𝕄))
      = iprop(cred (tallyAt (cellK c (.inl false)) () 4) ∗ cred (tallyAt (cellK c (.inl true)) () 4)) := two_kinds _
  have hS : (bigSep Finset.univ fun x : Sc => (atPos ER (cellK c (scK x)) 0 ∅ 0 : sProp 𝕄))
      = iprop(atPos ER (cellK c (.inl true)) 0 ∅ 0
        ∗ (bigSep Finset.univ fun i : Fin 4 => iprop(atPos ER (cellK c (.inr (false, i, 0))) 0 ∅ 0 ∗ atPos ER (cellK c (.inr (false, i, 1))) 0 ∅ 0))
        ∗ (bigSep Finset.univ fun i : Fin 4 => iprop(atPos ER (cellK c (.inr (true, i, 0))) 0 ∅ 0 ∗ atPos ER (cellK c (.inr (true, i, 1))) 0 ∅ 0))) :=
    by_scoped _
  unfold Ready0 Toks Creds Exit
  rw [hT, hC, bigSep_sep', hS]
  iintro ⟨⟨%K, #Hi, #HB, Ha, ⟨⟨Hx, Hs, Hr⟩, #HR⟩, ⟨⟨Hb, He⟩, Ht1, Ht2⟩, ⟨Hc1, Hc2⟩, Hc3⟩, HLd⟩
  iexists K
  isplitr; · iexact Hi
  isplitl [Hb HLd]
  · iapply (hails c)
    isplitr
    · unfold Known
      isplitr; · iexact HR
      iexact HB
    isplitl [Hb] <;> iassumption
  isplitl [Ht1 Ht2 Hs Hr Hc3]
  · iapply (readys c)
    isplitr
    · unfold Known
      isplitr; · iexact HR
      iexact HB
    isplitl [Ht1]; · iexact Ht1
    isplitl [Ht2]; · iexact Ht2
    isplitl [Hs]; · iexact Hs
    isplitl [Hr] <;> iassumption
  isplitl [Ha Hc1]; · isplitl [Ha] <;> iassumption
  isplitl [He]; · iexact He
  isplitl [Hx] <;> iassumption

/-- What the body leaves of the exchange: every cell closed, and the landing places. -/
theorem settle (K : GSem nD τ sig → ℕ) (c : Dev nD) :
    iprop(Invs A0 L0 K ∗ (Back c 0 ∗ Back c 1 ∗ Back c 2 ∗ Back c 3) ∗ (atPos ER (cellK c (.inl false)) 1 ∅ 0 ∗ atPos ER (cellK c (.inl true)) 1 ∅ 0))
      ⊢ (|={Set.univ}=> iprop(semVal (cellK c (.inl false)) 0 ∗ (bigSep Finset.univ fun x : Sc => semVal (cellK c (scK x)) 0) ∗ Lands c) : sProp 𝕄) := by
  have hB : (iprop(Back c 0 ∗ Back c 1 ∗ Back c 2 ∗ Back c 3) : sProp 𝕄)
      = iprop((bigSep Finset.univ fun i : Fin 4 => iprop(atPos ER (cellK c (.inr (false, i, 0))) 1 ∅ 0 ∗ atPos ER (cellK c (.inr (false, i, 1))) 1 ∅ 0))
        ∗ (bigSep Finset.univ fun i : Fin 4 => iprop(atPos ER (cellK c (.inr (true, i, 0))) 1 ∅ 0 ∗ atPos ER (cellK c (.inr (true, i, 1))) 1 ∅ 0))
        ∗ Lands c) := by
    rw [← bigSep_univ_four (fun i => Back c i)]
    unfold Back Lands
    exact (bigSep_sep' _ _ _).trans (congrArg₂ _ rfl ((bigSep_sep' _ _ _).trans (congrArg₂ _ rfl (bigSep_sep' _ _ _))))
  have hK1 := by_kind (fun a : Knd => (atPos ER (cellK c a) 1 ∅ 0 : sProp 𝕄))
  have hK0 := by_kind (fun a : Knd => (semVal (cellK c a) 0 : sProp 𝕄))
  have hS0 : (bigSep Finset.univ fun x : Sc => (semVal (cellK c (scK x)) 0 : sProp 𝕄))
      = iprop(semVal (cellK c (.inl true)) 0
        ∗ (bigSep Finset.univ fun i : Fin 4 => iprop(semVal (cellK c (.inr (false, i, 0))) 0 ∗ semVal (cellK c (.inr (false, i, 1))) 0))
        ∗ (bigSep Finset.univ fun i : Fin 4 => iprop(semVal (cellK c (.inr (true, i, 0))) 0 ∗ semVal (cellK c (.inr (true, i, 1))) 0))) :=
    by_scoped _
  have hcl := close_all A0 L0 K c
  rw [hK1, hK0] at hcl
  rw [hB, hS0]
  iintro ⟨#Hi, ⟨Hs, Hr, HLd⟩, Hb, Hx⟩
  imod hcl $$ [Hs Hr Hb Hx] with ⟨⟨Hb, Hx⟩, Hs, Hr⟩
  · isplitr; · iexact Hi
    isplitl [Hb Hx]; · isplitl [Hb] <;> iassumption
    isplitl [Hs] <;> iassumption
  imodintro
  isplitl [Hb]; · iexact Hb
  isplitr [HLd]
  · isplitl [Hx]; · iexact Hx
    isplitl [Hs] <;> iassumption
  iexact HLd
end Ex

/-! ## The counters of the body's own semaphores -/

abbrev OwnK : Type := ((Fin 4 × Fin 8) × Fin 2) ⊕ Sc
def osem : OwnK → SemLoc sig
  | .inl x => .dma (cell cc0_scratch6 x.1.1 x.1.2 x.2)
  | .inr x => semOf (scK x)

theorem ownSems_eq (c : Dev nD) : (Pipeline.ownSems0 osem c : sProp 𝕄)
    = iprop((Quiet cc0_scratch6 c 0 ∗ Quiet cc0_scratch6 c 1) ∗ (bigSep Finset.univ fun x : Sc => semVal (cellK c (scK x)) 0)) := by
  show bigSep Finset.univ (fun k : OwnK => (semVal ((c : Thread nD τ), osem k) 0 : sProp 𝕄)) = _
  rw [bigSep_univ_sum]
  refine congrArg₂ _ ?_ rfl
  rw [bigSep_univ_prod]
  unfold Quiet
  rw [← bigSep_sep']
  exact bigSep_congr fun x _ => BI.bigSep_fin_two (fun k : Fin 2 => (semVal ((c : Thread nD τ), osem (.inl (x, k))) 0 : sProp 𝕄))

theorem osem_facts : Pipeline.OwnSemFacts spec0 osem := by decide +kernel

end Cert.KProof

end
-- ==== Proof.Region.lean ====
/-
  The call: what it finds, what it hands back, and the segment it makes of a device's run.
-/
module

public import proofs.«01_k».proof.Proof.Frames
public import proofs.«01_k».proof.Proof.Gen.KernelIdeal.Regions
public import Idealize.ShloMosaic.Lib.Pipeline.RegionArrays
public import Idealize.ShloMosaic.Lib.Pipeline.RegionTalk

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat Seg HostSeg RegionSeg BodyObligation)

variable (W : Dev nD → Valuation τ sig (Elt F))

/-! ## The call's arguments and its result -/

def X0 (c : Dev nD) : S32x256.Idx → BitVec 32 := W c main_v35
def X1 (c : Dev nD) : S32.Idx → BitVec 32 := W c main_v37
def X2 (c : Dev nD) : S2x1024.Idx → BitVec 32 := W c main_v72
def nT (c : Dev nD) : ℕ := (show S1.Idx → BitVec 32 from W c main_v74) (ix1 0) |>.toNat
def XQ (c : Dev nD) : S32x16x128.Idx → Elt F .f32 := W c main_v77
def GG (c : Dev nD) : Rings F c :=
  RR c (Memref.whole main_arg1) (Memref.whole main_arg2) (Memref.whole cc0_scratch4) (Memref.whole cc0_scratch5) cc0_scratch6
    (W c main_arg1) (W c main_arg2)
def VV (c : Dev nD) : Vals F := ⟨X1 W c, X2 W c, XQ W c, (GG W c).kc (X0 W c) (X2 W c), (GG W c).vc (X0 W c) (X2 W c)⟩
def A0 (c : Dev nD) : S32x16x128.Idx → Elt F .f32 := (VV W c).locA c (nmine c (nT W c))
def L0 (c : Dev nD) : S32x16.Idx → Elt F .f32 := (VV W c).locL c (nmine c (nT W c))
/-- What the call leaves in its result on device `c`. -/
def res (c : Dev nD) : S32x16x128.Idx → Elt F .f32 := k0_pay24 (accN (A0 W) 4 c) (lseN (L0 W) 4 c)
/-- The buffers after the call. -/
def W' (c : Dev nD) : Valuation τ sig (Elt F) := Function.update (W c) main_v78 (res W c)

theorem W'_of (c : Dev nD) (b : DevRef τ sig) (h : b ≠ Proc.devRef .tc main_v78) : W' W c b = W c b := Function.update_of_ne h _ _
theorem W'_res (c : Dev nD) : W' W c main_v78 = res W c := Function.update_self _ _ _

theorem v74_eq (c : Dev nD) : (show S1.Idx → BitVec 32 from W c main_v74) = fun _ => BitVec.ofNat 32 (nT W c) := by
  funext x
  have hx : x = ix1 0 := by
    funext k
    obtain rfl : k = 0 := Subsingleton.elim _ _
    exact Fin.ext (by have h : (x 0).val < 1 := (x 0).isLt; show (x 0).val = 0; omega)
  subst hx
  unfold nT; rw [BitVec.ofNat_toNat]; simp

abbrev pools : Finset (DevRef τ sig) := {Proc.devRef .tc main_arg1, Proc.devRef .tc main_arg2}
abbrev rest : Finset (DevRef τ sig) := Pipeline.ucRefs τ sig \ Pipeline.arrRefs spec0
theorem pools_sub : pools ⊆ rest := by
  have h : ∀ r ∈ ([main_arg1, main_arg2] : List (Ref sig .tc)), (Proc.devRef .tc r : DevRef τ sig) ∈ rest := fun r hr => by
    refine Finset.mem_sdiff.mpr ⟨Finset.mem_filter.mpr ⟨StableHlo.devRef_mem_tcRefs r, ?_⟩, fun hm => ?_⟩
    · revert r; decide
    · unfold Pipeline.arrRefs at hm
      obtain ⟨b, hb, hw⟩ := Finset.mem_map.mp hm
      obtain ⟨w, -, rfl⟩ := Finset.mem_image.mp hb
      refine absurd hw (StableHlo.devRef_ne_of_ne ?_)
      clear hm hw hb; revert r w; decide
  intro b hb
  rcases Finset.mem_insert.mp hb with rfl | hb
  · exact h _ (by decide)
  · rw [Finset.mem_singleton.mp hb]; exact h _ (by decide)

theorem held_pools (c : Dev nD) (V : Valuation τ sig (Elt F)) :
    (StableHlo.held (c : Thread nD τ) pools V : sProp 𝕄)
      = iprop(((c : Thread nD τ).loc main_arg1 ↦{fullShare} V main_arg1) ∗ ((c : Thread nD τ).loc main_arg2 ↦{fullShare} V main_arg2)) := by
  unfold StableHlo.held
  rw [bigSep_insert (by decide), bigSep_singleton]
  rfl

theorem held_before (c : Dev nD) :
    (StableHlo.held (c : Thread nD τ) pools (W c) : sProp 𝕄)
      = iprop(((GG W c).km.view.loc (c : Thread nD τ) ↦{fullShare} (GG W c).fk) ∗ ((GG W c).vm.view.loc (c : Thread nD τ) ↦{fullShare} (GG W c).fv)) :=
  held_pools c _
theorem held_after (c : Dev nD) :
    (StableHlo.held (c : Thread nD τ) pools (W' W c) : sProp 𝕄)
      = iprop(((GG W c).km.view.loc (c : Thread nD τ) ↦{fullShare} (GG W c).fk) ∗ ((GG W c).vm.view.loc (c : Thread nD τ) ↦{fullShare} (GG W c).fv)) := by
  rw [held_pools, W'_of W c _ (by decide), W'_of W c _ (by decide)]; rfl

/-! ## Before and after the body -/

abbrev Xk (c : Dev nD) : sProp 𝕄 :=
  iprop(Ready0 (A0 W) (L0 W) c ∗ levAts L lv ∗ (Quiet (GG W c).A c 0 ∗ Quiet (GG W c).A c 1))
def Pre (c : Dev nD) : sProp 𝕄 :=
  iprop(Pipeline.scopedRest spec0 c ∗ (∃ r, prngReg c r) ∗ StableHlo.held (c : Thread nD τ) pools (W c) ∗ Xk W c)
def Post (c : Dev nD) : sProp 𝕄 :=
  iprop(Pipeline.scopedRest spec0 c ∗ (∃ r, prngReg c r) ∗ StableHlo.held (c : Thread nD τ) pools (W' W c)
    ∗ Pipeline.ownSems0 osem c ∗ semVal (cellK c (.inl false)) 0)

/-- What the body does not take of the pools. -/
def Aside (c : Dev nD) : sProp 𝕄 :=
  iprop((∃ r, prngReg c r)
    ∗ ((GG W c).km.view.loc (c : Thread nD τ) ↦{shareDrop fullShare 32} (GG W c).fk)
    ∗ ((GG W c).vm.view.loc (c : Thread nD τ) ↦{shareDrop fullShare 32} (GG W c).fv))

theorem setWhole (b : Ref sig .tc) (c : Dev nD) (f : Buf (Elt F) ((c : Thread nD τ).loc b)) :
    (((Memref.whole b).view.loc (c : Thread nD τ)) ↦[(Memref.whole b).view.set]{fullShare} f : sProp 𝕄)
      = (((c : Thread nD τ).loc b) ↦{fullShare} f) := by
  rw [View.set_whole]

theorem setBk (c : Dev nD) (f : Buf (Elt F) ((c : Thread nD τ).loc cc0_scratch4)) :
    (((GG W c).bk.view.loc (c : Thread nD τ)) ↦[(GG W c).bk.view.set]{fullShare} f : sProp 𝕄) = (((c : Thread nD τ).loc cc0_scratch4) ↦{fullShare} f) :=
  setWhole cc0_scratch4 c f
theorem setBv (c : Dev nD) (f : Buf (Elt F) ((c : Thread nD τ).loc cc0_scratch5)) :
    (((GG W c).bv.view.loc (c : Thread nD τ)) ↦[(GG W c).bv.view.set]{fullShare} f : sProp 𝕄) = (((c : Thread nD τ).loc cc0_scratch5) ↦{fullShare} f) :=
  setWhole cc0_scratch5 c f
theorem sems_call (c : Dev nD) : (Pipeline.ownSems0 osem c : sProp 𝕄)
    = iprop((Quiet (GG W c).A c 0 ∗ Quiet (GG W c).A c 1) ∗ (bigSep Finset.univ fun x : Sc => semVal (cellK c (scK x)) 0)) := ownSems_eq c

theorem enter_call (c : Dev nD) : (Pre W c : sProp 𝕄)
    ⊢ iprop(∃ K, Invs (A0 W) (L0 W) K ∗ levAts L lv
        ∗ (∃ X : S32x16x128.Idx → Elt F .f32, owns (c : Thread nD τ) mA fullShare X) ∗ (∃ X : S32x16.Idx → Elt F .f32, owns (c : Thread nD τ) mL fullShare X)
        ∗ (FreeS (GG W c) 0 ∗ FreeS (GG W c) 1 ∗ FreeS (GG W c) 2 ∗ FreeS (GG W c) 3)
        ∗ (Hail c 0 ∗ Hail c 1 ∗ Hail c 2 ∗ Hail c 3) ∗ (Ready c 0 ∗ Ready c 1 ∗ Ready c 2 ∗ Ready c 3)
        ∗ (atPos ER (cellK c (.inl false)) 0 ∅ 0 ∗ cred (tallyAt (cellK c (.inl false)) () 4)) ∗ Exit c ∗ Aside W c) := by
  unfold Pre Aside
  rw [scopedRest0_eq, held_before, ← free_all]
  iintro ⟨⟨⟨%f0, H0⟩, ⟨%f1, H1⟩, ⟨%f2, H2⟩, ⟨%f3, H3⟩, ⟨%f4, H4⟩, ⟨%f5, H5⟩⟩, Hr, ⟨Hk, Hv⟩, HX, #Hlev, HQ0, HQ1⟩
  ihave Hk' := (pool_shares (GG W c).km c (GG W c).fk).1 $$ Hk
  icases Hk' with ⟨Hkd, Hks⟩
  ihave Hv' := (pool_shares (GG W c).vm c (GG W c).fv).1 $$ Hv
  icases Hv' with ⟨Hvd, Hvs⟩
  ihave HLA := (landA_out c) $$ [H2]
  · iexists f2; iapply (Entails.of_eq (setWhole cc0_scratch2 c f2).symm) $$ H2
  ihave HLL := (landL_out c) $$ [H3]
  · iexists f3; iapply (Entails.of_eq (setWhole cc0_scratch3 c f3).symm) $$ H3
  ihave HB4 := (ring_out (GG W c).bk c) $$ [H4]
  · iexists f4; iapply (Entails.of_eq (setBk W c f4).symm) $$ H4
  ihave HB5 := (ring_out (GG W c).bv c) $$ [H5]
  · iexists f5; iapply (Entails.of_eq (setBv W c f5).symm) $$ H5
  ihave HZ := (arrange (A0 W) (L0 W) c) $$ [HX HLA HLL]
  · isplitl [HX]; · iexact HX
    isplitl [HLA] <;> iassumption
  icases HZ with ⟨%K, #Hi, HH, HR, HB, HE⟩
  iexists K
  isplitr; · iexact Hi
  isplitr; · iexact Hlev
  isplitl [H0]; · iexists f0; iapply (Entails.of_eq (owns_whole (c : Thread nD τ) cc0_scratch0 fullShare f0).symm) $$ H0
  isplitl [H1]; · iexists f1; iapply (Entails.of_eq (owns_whole (c : Thread nD τ) cc0_scratch1 fullShare f1).symm) $$ H1
  isplitl [HB4 HB5 Hks Hvs HQ0 HQ1]
  · isplitl [HB4 Hks HQ0]
    · isplitl [HB4]; · iexact HB4
      isplitl [Hks] <;> iassumption
    isplitl [HB5]; · iexact HB5
    isplitl [Hvs] <;> iassumption
  isplitl [HH]; · iexact HH
  isplitl [HR]; · iexact HR
  isplitl [HB]; · iexact HB
  isplitl [HE]; · iexact HE
  isplitl [Hr]; · iexact Hr
  isplitl [Hkd] <;> iassumption

theorem leave_call (K : GSem nD τ sig → ℕ) (c : Dev nD) {XA : S32x16x128.Idx → Elt F .f32} {XL : S32x16.Idx → Elt F .f32} :
    iprop(Invs (A0 W) (L0 W) K
        ∗ owns (c : Thread nD τ) mA fullShare XA ∗ owns (c : Thread nD τ) mL fullShare XL
        ∗ (FreeS (GG W c) 0 ∗ FreeS (GG W c) 1 ∗ FreeS (GG W c) 2 ∗ FreeS (GG W c) 3) ∗ (Back c 0 ∗ Back c 1 ∗ Back c 2 ∗ Back c 3)
        ∗ (atPos ER (cellK c (.inl false)) 1 ∅ 0 ∗ atPos ER (cellK c (.inl true)) 1 ∅ 0) ∗ Aside W c)
      ⊢ (|={Set.univ}=> Post W c : sProp 𝕄) := by
  unfold Post Aside
  rw [scopedRest0_eq, held_after, ← free_all, sems_call W]
  iintro ⟨#Hi, HA, HL, ⟨⟨HB4, Hks, HQ0⟩, ⟨HB5, Hvs, HQ1⟩⟩, HB, Hb, Hr, Hkd, Hvd⟩
  imod (settle (A0 W) (L0 W) K c) $$ [HB Hb] with ⟨Hb0, Hs0, HLA, HLL⟩
  · isplitr; · iexact Hi
    isplitl [HB] <;> iassumption
  imodintro
  ihave H2 := (landA_in c (fun _ => XA (ix3 0 0 0))) $$ HLA
  icases H2 with ⟨%f2, H2⟩
  ihave H3 := (landL_in c (fun _ => XL (ix2 0 0))) $$ HLL
  icases H3 with ⟨%f3, H3⟩
  ihave H4 := (ring_in (GG W c).bk c (fun _ => XA (ix3 0 0 0))) $$ HB4
  icases H4 with ⟨%f4, H4⟩
  ihave H5 := (ring_in (GG W c).bv c (fun _ => XA (ix3 0 0 0))) $$ HB5
  icases H5 with ⟨%f5, H5⟩
  isplitl [HA HL H2 H3 H4 H5]
  · isplitl [HA]; · iexists XA; iapply (Entails.of_eq (owns_whole (c : Thread nD τ) cc0_scratch0 fullShare XA)) $$ HA
    isplitl [HL]; · iexists XL; iapply (Entails.of_eq (owns_whole (c : Thread nD τ) cc0_scratch1 fullShare XL)) $$ HL
    isplitl [H2]; · iexists f2; iapply (Entails.of_eq (setWhole cc0_scratch2 c f2)) $$ H2
    isplitl [H3]; · iexists f3; iapply (Entails.of_eq (setWhole cc0_scratch3 c f3)) $$ H3
    isplitl [H4]; · iexists f4; iapply (Entails.of_eq (setBk W c f4)) $$ H4
    iexists f5; iapply (Entails.of_eq (setBv W c f5)) $$ H5
  isplitl [Hr]; · iexact Hr
  isplitl [Hks Hkd Hvs Hvd]
  · isplitl [Hks Hkd]
    · iapply (pool_shares (GG W c).km c (GG W c).fk).2
      isplitl [Hkd] <;> iassumption
    iapply (pool_shares (GG W c).vm c (GG W c).fv).2
    isplitl [Hvd] <;> iassumption
  isplitl [HQ0 HQ1 Hs0]
  · isplitr [Hs0]
    · isplitl [HQ0] <;> iassumption
    iexact Hs0
  iexact Hb0

/-! ## The body's obligation -/

def dat0 (c : Dev nD) : Pipeline.Dat τ (Elt F) Unit ℕ UU ℕ cfg0 c where
  A w := W c (Proc.devRef .tc (Pipeline.arrRef spec0 w))
  after
    | 0 => fun _ => X0 W c
    | 1 => fun _ => X1 W c
    | 2 => fun _ => X2 W c
    | 3 => fun _ => fun _ => BitVec.ofNat 32 (nT W c)
    | 4 => fun _ => XQ W c
    | 5 => fun _ => res W c
  Φ t := if t.val = 0 then Pre W c else Post W c
  q _ := fullShare
  owed t := if t.val = 0 then left c 16 else 0

def pdats : (p : Fin 1) → (c : Dev nD) → Pipeline.Dat τ (Elt F) Unit ℕ UU ℕ (Pipeline.pin (pcfgs (F := F)) adm p) c
  | 0 => dat0 W

theorem owed_first (c : Dev nD) : (dat0 W c).owed 0 = left c 16 := rfl
theorem owed_last (c : Dev nD) : (dat0 W c).owed (Fin.last _) = 0 := by
  show (if (Fin.last cfg0.N).val = 0 then left c 16 else 0) = 0
  rw [Fin.val_last, if_neg (by rw [show cfg0.N = 1 from N_0]; decide)]
theorem Φ_last (c : Dev nD) : (dat0 W c).Φ (Fin.last _) = Post W c := by
  show (if (Fin.last cfg0.N).val = 0 then Pre W c else Post W c) = Post W c
  rw [Fin.val_last, if_neg (by rw [show cfg0.N = 1 from N_0]; decide)]

theorem owes_in {cfg : Pipeline.Cfg sig Λ₀} {c : Dev nD} (dat : Pipeline.Dat τ (Elt F) Unit ℕ UU ℕ cfg c) (t : Fin (cfg.N + 1))
    (O : CellTallies nD τ sig Unit) (h : dat.owed t = O) (hr : dat.recorded t = Set.univ) :
    (iprop(∃ B, owes (c : Thread nD τ) O B) : sProp 𝕄) ⊢ dat.owesAt () t := by
  unfold Dat.owesAt Pipeline.owesWithin Dat.bound
  rw [h, hr]
  iintro ⟨%B, HO⟩
  iexists B
  isplitr; · ipureintro; exact fun _ _ => .inl trivial
  iexact HO
theorem owes_out {cfg : Pipeline.Cfg sig Λ₀} {c : Dev nD} (dat : Pipeline.Dat τ (Elt F) Unit ℕ UU ℕ cfg c) (t : Fin (cfg.N + 1))
    (O : CellTallies nD τ sig Unit) (h : dat.owed t = O) :
    (dat.owesAt () t : sProp 𝕄) ⊢ iprop(∃ B, owes (c : Thread nD τ) O B) := by
  unfold Dat.owesAt Pipeline.owesWithin
  rw [h]
  iintro ⟨%B, -, HO⟩
  iexists B; iexact HO

set_option backward.isDefEq.respectTransparency.types false in
theorem before_in (c : Dev nD) (w : Fin 6) (hf : (cfg0.win w).fetch t0_0 = true) (d) :
    (dat0 W c).before w t0_0 d = (dat0 W c).fetched w t0_0 d := by
  unfold Dat.before; rw [if_pos hf]

variable (hgood : ∀ c, Good (X0 W c) (X2 W c) (nT W c))

theorem emb_zero {s : Shape} (off : Fin s.rank → ℕ) (h0 : ∀ a, off a = 0) (hin : ∀ a, off a + s.size a ≤ s.size a) (j : s.Idx) :
    (Rect.unit off s.size hin).emb j = j :=
  funext fun a => Fin.ext (by rw [Rect.emb_apply]; show off a + 1 * (j a).val = (j a).val; rw [h0]; omega)

section Win
set_option backward.isDefEq.respectTransparency.types false
theorem before_0 (c : Dev nD) (d) : (dat0 W c).before 0 t0_0 d = X0 W c :=
  (before_in W c 0 (by rfl) d).trans (funext fun j => congrArg (X0 W c) (emb_zero _ (fun _ => Nat.zero_mul _) _ j))
theorem before_1 (c : Dev nD) (d) : (dat0 W c).before 1 t0_0 d = X1 W c :=
  (before_in W c 1 (by rfl) d).trans (funext fun j => congrArg (X1 W c) (emb_zero _ (fun _ => Nat.zero_mul _) _ j))
theorem before_2 (c : Dev nD) (d) : (dat0 W c).before 2 t0_0 d = X2 W c :=
  (before_in W c 2 (by rfl) d).trans (funext fun j => congrArg (X2 W c) (emb_zero _ (fun _ => Nat.zero_mul _) _ j))
theorem before_3 (c : Dev nD) (d) : (dat0 W c).before 3 t0_0 d = fun _ => BitVec.ofNat 32 (nT W c) :=
  (before_in W c 3 (by rfl) d).trans (.trans (funext fun j => congrArg (show S1.Idx → BitVec 32 from W c main_v74) (emb_zero _ (fun _ => Nat.zero_mul _) _ j)) (v74_eq W c))
theorem before_4 (c : Dev nD) (d) : (dat0 W c).before 4 t0_0 d = XQ W c :=
  (before_in W c 4 (by rfl) d).trans (funext fun j => congrArg (XQ W c) (emb_zero _ (fun _ => Nat.zero_mul _) _ j))

theorem arr_out (c : Dev nD) : (dat0 W c).arrAt 5 cfg0.N = W' W c main_v78 := by
  rw [W'_res]
  refine Dat.arrAt_eq_of_cover (dat0 W c) 5 (res W c) (fun t _ => ?_) fun i => ?_
  · obtain rfl := fin_N0 t
    exact funext fun j => (congrArg (res W c) (emb_zero _ (fun _ => Nat.zero_mul _) _ j)).symm
  · refine ⟨t0_0, by rfl, ?_⟩
    have h := ((cfg0.win 5).blk t0_0).view.emb_mem_set i
    have e : ((cfg0.win 5).blk t0_0).view.emb i = i := emb_zero _ (fun _ => Nat.zero_mul _) _ i
    rwa [e] at h

theorem arr_in (c : Dev nD) (w : Fin 6) (hin : (cfg0.win w).isOut = false) (hne : Pipeline.arrRef spec0 w ≠ main_v78) :
    (dat0 W c).arrAt w cfg0.N = W' W c (Proc.devRef .tc (Pipeline.arrRef spec0 w)) :=
  ((dat0 W c).arrAt_in w hin _).trans (W'_of W c _ (StableHlo.devRef_ne_of_ne hne)).symm
theorem arr_all (c : Dev nD) : ∀ w : Fin 6, (dat0 W c).arrAt w cfg0.N = W' W c (Proc.devRef .tc (Pipeline.arrRef spec0 w))
  | 0 => arr_in W c 0 rfl (by decide)
  | 1 => arr_in W c 1 rfl (by decide)
  | 2 => arr_in W c 2 rfl (by decide)
  | 3 => arr_in W c 3 rfl (by decide)
  | 4 => arr_in W c 4 rfl (by decide)
  | 5 => arr_out W c
end Win

set_option pp.maxSteps 300 in
set_option maxHeartbeats 1000000 in
theorem body0 (hgood : ∀ c, Good (X0 W c) (X2 W c) (nT W c)) (c : Dev nD) : BodyObligation (dat0 W c) (defs₀ (F := F)) 𝒱₀ () Set.univ := fun t => by
  obtain rfl := fin_N0 t
  rw [bigSep_W0, bigSep_W0]
  rw [show (dat0 W c).Φ t0_0.castSucc = Pre W c from rfl, show (dat0 W c).Φ t0_0.succ = Post W c from rfl]
  dsimp only
  simp only [before_0, before_1, before_2, before_3, before_4]
  iintro ⟨HP, HO, ⟨%d0, H0⟩, ⟨%d1, H1⟩, ⟨%d2, H2⟩, ⟨%d3, H3⟩, ⟨%d4, H4⟩, ⟨%d5, H5⟩⟩
  ihave HO' := (owes_out (dat0 W c) t0_0.castSucc (left c 16) rfl) $$ HO
  ihave HP' := (enter_call W c) $$ HP
  icases HP' with ⟨%K, #Hi, #Hlev, HA, HL, HF, HH, HR, HB, HE, Has⟩
  iapply (wp_fupd (Fr := frame) (wpE := wpE (defs₀ (F := F)) 𝒱₀ (c : Thread nD τ) none) (E := Set.univ))
  iapply (run_body (Memref.whole cc0_stg0_0) (hstage0_0 0) (Memref.whole cc0_stg1_0) (hstage0_1 0) (Memref.whole cc0_stg2_0) (hstage0_2 0)
    (Memref.whole cc0_stg3_0) (hstage0_3 0) (Memref.whole cc0_stg4_0) (hstage0_4 0)
    (Memref.whole main_arg1) (Memref.isWhole_whole _) (Memref.whole main_arg2) (Memref.isWhole_whole _) (Memref.whole cc0_stg5_0) (hstage0_5 0)
    (Memref.whole cc0_scratch4) (Memref.isWhole_whole _) (Memref.whole cc0_scratch5) (Memref.isWhole_whole _)
    (defs := defs₀ (F := F)) c (n := nT W c) (X0 := X0 W c) (X1 := X1 W c) (X2 := X2 W c) (XQ := XQ W c) (hgood c)
    (q0 := fullShare) (q1 := fullShare) (q2 := fullShare) (q3 := fullShare) (q4 := fullShare)
    (W c main_arg1) (W c main_arg2) (GG W c) rfl (VV W c) rfl (A0 W) (L0 W) K rfl rfl) $$ [HO' HA HL HF HH HR HB HE H0 H1 H2 H3 H4 H5]
  · isplitr; · iexact Hi
    isplitr; · iexact Hlev
    isplitl [H0 H1 H2 H4]
    · isplitl [H0]; · iexact H0
      isplitl [H1]; · iexact H1
      isplitl [H2]; · iexact H2
      iexact H4
    isplitl [H3]; · iexact H3
    isplitl [H5]; · iexists _; iexact H5
    isplitl [HA]; · iexact HA
    isplitl [HL]; · iexact HL
    isplitl [HF]; · iexact HF
    isplitl [HH]; · iexact HH
    isplitl [HR]; · iexact HR
    isplitl [HB]; · iexact HB
    isplitl [HE]; · iexact HE
    iexact HO'
  iintro ⟨⟨H0, H1, H2, H4⟩, H3, H5, HA, HL, HF, HB, Hb, HO⟩
  imod (leave_call W K c) $$ [HA HL HF HB Hb Has] with HP
  · isplitr; · iexact Hi
    isplitl [HA]; · iexact HA
    isplitl [HL]; · iexact HL
    isplitl [HF]; · iexact HF
    isplitl [HB]; · iexact HB
    isplitl [Hb] <;> iassumption
  imodintro
  isplitl [HP]; · iexact HP
  isplitl [HO]; · iapply (owes_in (dat0 W c) t0_0.succ 0 (owed_last W c) rfl); iexact HO
  isplitl [H0]; · iexact H0
  isplitl [H1]; · iexact H1
  isplitl [H2]; · iexact H2
  isplitl [H3]; · iexact H3
  isplitl [H4]; · iexact H4
  iexact H5

/-! ## The segment -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut_owed (c : Dev nD) (t : Fin ((Pipeline.pin (pcfgs (F := F)) adm 0).N + 1)) (g : GSem nD τ sig) (i : Unit)
    (h : 0 < (pdats W 0 c).owed t g i) : i ∈ L g ∧ (0 : ℕ) < lv g i := by
  have e : (pdats W 0 c).owed t = if t.val = 0 then left c 16 else 0 := rfl
  rw [e] at h
  split at h
  · obtain ⟨n, hn, rfl⟩ := left_pos c 16 g i h
    refine ⟨by rw [L_tc]; exact Finset.mem_singleton_self _, ?_⟩
    show 0 < lvK (kindOf (semOf (payK (15 - n)).2))
    rw [kindOf_sem]
    unfold payK
    split
    · exact Nat.one_pos
    · split
      · exact Nat.lt_of_lt_of_le (by decide) (Nat.le_add_right 2 _)
      · exact (by decide : 0 < 10)
  · exact absurd h (Nat.lt_irrefl 0)

theorem stage_L (c : Dev nD) (sm : SemLoc sig) : () ∈ L ((c : Thread nD τ), sm) := by rw [L_tc]; exact Finset.mem_singleton_self _

theorem stage_level (w : Fin 6) (s : Fin (cfg0.win w).nbuf) : lvK (kindOf (.dma ((cfg0.win w).sem s))) ≤ 0 := by
  fin_cases w <;> (have hs : s = (0 : Fin 1) := Subsingleton.elim _ _; subst hs; decide +kernel)

theorem rest_same (c : Dev nD) (b : DevRef τ sig) (hb : b ∈ rest \ pools) : W' W c b = W c b :=
  W'_of W c b fun e => by
    subst e
    have h := (Finset.mem_sdiff.mp (Finset.mem_sdiff.mp hb).1).2
    exact h (Finset.mem_map.mpr ⟨main_v78, Finset.mem_image.mpr ⟨5, Finset.mem_univ _, rfl⟩, rfl⟩)
theorem share_full (c : Dev nD) : ∀ w : Fin 6, (dat0 W c).share w = fullShare
  | 0 => rfl
  | 1 => rfl
  | 2 => rfl
  | 3 => rfl
  | 4 => rfl
  | 5 => rfl

abbrev Last (c : Dev nD) : sProp 𝕄 := semVal (cellK c (.inl false)) 0

theorem open_call (c : Dev nD) : iprop(Start (A0 W) (L0 W) c ∗ Pipeline.ownSems0 osem c ∗ levAts L lv) ⊢ (|={Set.univ}=> Xk W c : sProp 𝕄) := by
  rw [sems_call W]
  iintro ⟨HS, ⟨HQ, Hs⟩, Hl⟩
  imod (open_all (A0 W) (L0 W) c) $$ [HS Hs] with HR
  · isplitl [HS] <;> iassumption
  imodintro
  isplitl [HR]; · iexact HR
  isplitl [Hl]; · iexact Hl
  iexact HQ

set_option backward.isDefEq.respectTransparency.types false in
set_option maxHeartbeats 1000000 in
def call (hgood : ∀ c, Good (X0 W c) (X2 W c) (nT W c)) : Pipeline.RegionSeg (pcfgs (F := F)) adm (pdats W) () defs₀ 𝒱₀ L lv 0 :=
  Pipeline.RegionSeg.ofTalk (pcfgs (F := F)) adm (pdats W) () defs₀ 𝒱₀ L lv 0 osem osem_facts
    pools rest pools_sub kit rfl (fun c => (body0 W hgood c).loose)
    (fun _ => 0) (fun c => left c 16) (fun c => (owed_first W c).trans (zero_add _).symm) (owed_last W) (fun _ => rfl)
    (fun c w => share_full W c w)
    W (W' W) (fun c b hb => rest_same W c b hb)
    (Start (A0 W) (L0 W)) Last (Xk W) Last (open_call W)
    (fun c => BI.Entails.refl _)
    (fun c => (show (dat0 W c).Φ (Fin.last _) ⊢ Post W c by rw [Φ_last]))
    (fun c => by iintro H; imodintro; iexact H) (fun _ => 0)
    ⟨fun c w s => stage_L c _, fun c w s => stage_level w s, fun c t g i h => cut_owed W c t g i h⟩ (fun _ => iprop(emp))
    (fun c w => rfl)
    (fun c w => arr_all W c w)

end Cert.KProof

end
-- ==== Proof.Launch.lean ====
/-
  The launch: the tokens dealt to the devices, the host's stretches around the call, and the run of the whole program.
-/
module

public import proofs.«01_k».proof.Proof.Region

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat Seg HostSeg RegionSeg)

variable (m : (ℓ : Loc nD τ sig) → Buf (Elt F) ℓ) (ρ : Dev nD → PrngReg)

/-- What the call leaves, by device. -/
def outs : Outs (F := F) := fun _ r c => W' (V11 m) c (Proc.devRef .tc r)

theorem after_call (c : Dev nD) : V12 m (outs m) c = W' (V11 m) c := by
  have h : outs m 12 main_v78 c = res (V11 m) c := W'_res (V11 m) c
  unfold V12
  rw [h]
  rfl

/-- What rides beside the buffers: before the call, and after. -/
def E : Fin 2 → Dev nD → sProp 𝕄
  | 0 => fun c => iprop(Start (A0 (V11 m)) (L0 (V11 m)) c ∗ (∃ B, owes (c : Thread nD τ) (left c 16) B) ∗ ∃ r, prngReg c r)
  | 1 => fun c => iprop(semVal (cellK c (.inl false)) 0 ∗ ∃ B, owes (c : Thread nD τ) 0 B)

theorem arrs_sub : Pipeline.arrRefs spec0 ⊆ Pipeline.ucRefs τ sig := by
  intro b hb
  obtain ⟨r, hr, rfl⟩ := Finset.mem_map.mp hb
  obtain ⟨w, -, rfl⟩ := Finset.mem_image.mp hr
  refine Finset.mem_filter.mpr ⟨StableHlo.devRef_mem_tcRefs _, ?_⟩
  clear hb hr; revert w; decide

theorem held_all (c : Dev nD) (V : Valuation τ sig (Elt F)) : (StableHlo.held (c : Thread nD τ) (Pipeline.ucRefs τ sig) V : sProp 𝕄)
    = iprop(StableHlo.held (c : Thread nD τ) (Pipeline.arrRefs spec0) V ∗ StableHlo.held (c : Thread nD τ) rest V) :=
  StableHlo.held_sub_split (c : Thread nD τ) arrs_sub V

section Seg
variable (hgood : ∀ c, Good (X0 (V11 m) c) (X2 (V11 m) c) (nT (V11 m) c))

theorem call_pre (c : Dev nD) :
    iprop(StableHlo.held (c : Thread nD τ) (Pipeline.ucRefs τ sig) (V11 m c) ∗ E m 0 c) ⊢ (call (V11 m) hgood).pre c := by
  show _ ⊢ iprop(StableHlo.held (c : Thread nD τ) (Pipeline.arrRefs spec0) (V11 m c) ∗ (∃ r, prngReg c r)
    ∗ (StableHlo.held (c : Thread nD τ) rest (V11 m c) ∗ emp) ∗ Start (A0 (V11 m)) (L0 (V11 m)) c ∗ ∃ B, owes (c : Thread nD τ) (0 + left c 16) B)
  rw [held_all, zero_add]
  unfold E
  iintro ⟨⟨Ha, Hr⟩, HS, HO, Hp⟩
  isplitl [Ha]; · iexact Ha
  isplitl [Hp]; · iexact Hp
  isplitl [Hr]
  · isplitl [Hr]; · iexact Hr
    iempintro
  isplitl [HS]; · iexact HS
  iexact HO

theorem call_post (c : Dev nD) :
    (call (V11 m) hgood).post c ⊢ iprop(StableHlo.held (c : Thread nD τ) (Pipeline.ucRefs τ sig) (V12 m (outs m) c) ∗ E m 1 c) := by
  show iprop(StableHlo.held (c : Thread nD τ) (Pipeline.arrRefs spec0) (W' (V11 m) c) ∗ (∃ r, prngReg c r)
    ∗ (StableHlo.held (c : Thread nD τ) rest (W' (V11 m) c) ∗ emp) ∗ semVal (cellK c (.inl false)) 0 ∗ ∃ B, owes (c : Thread nD τ) 0 B) ⊢ _
  rw [held_all, after_call]
  unfold E
  iintro ⟨Ha, -, ⟨Hr, -⟩, HS, HO⟩
  isplitl [Ha Hr]; · isplitl [Ha] <;> iassumption
  isplitl [HS]; · iexact HS
  iexact HO
end Seg

/-! ## The ghost state of the launch -/

def u₀ : UU := (initOf (Pipeline.cells cfgs cellOf_inj) (Pipeline.launchToks cfgs cellOf_inj), (launchOf barCells scCells allToks, 1))

/-- The exchange's launch element, in one device's hands. -/
def G (c : Dev nD) : sProp 𝕄 := if c = 0 then BI.own (ER (launchOf barCells scCells allToks)) else BI.emp

theorem ownU_two (a : UR sig nD τ) (b : UQ) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem G_all : (bigSep Finset.univ (G (F := F)) : sProp 𝕄) = BI.own (ER (launchOf barCells scCells allToks)) := by
  rw [bigSep_univ_at _ (0 : Dev nD), bigSep_congr (Φ := G) (Ψ := fun _ => (BI.emp : sProp 𝕄)) fun c hc => if_neg (Finset.ne_of_mem_erase hc), BI.bigSep_emp_const]
  unfold G
  rw [if_pos rfl]
  exact BI.equiv_iff.mp BI.sep_emp

theorem launch_own : (ownU u₀ : sProp 𝕄)
    ⊢ (|={Set.univ}=> iprop(BI.own (EP (initOf (Pipeline.cells cfgs cellOf_inj) (Pipeline.launchToks cfgs cellOf_inj))) ∗ bigSep Finset.univ G) : sProp 𝕄) := by
  unfold u₀
  rw [G_all]
  iintro Hu
  ihave H := (ownU_two _ _) $$ Hu
  imodintro
  iexact H

theorem unscoped_eq : ∀ sm : SemLoc sig, sm.isScoped .tc = false → sm = semOf (.inl false) := by decide +kernel
theorem unscoped_bar (c : Dev nD) : (unscopedSems0 c : sProp 𝕄) = semVal (cellK c (.inl false)) 0 := by
  unfold unscopedSems0
  rw [show (Finset.univ.filter fun sm : SemLoc sig => ¬ sm.isScoped .tc) = {semOf (.inl false)} from by decide +kernel, BI.bigSep_singleton]

/-- What a device is launched with, and of it what is not the exchange's ghost state. -/
def Raw (c : Dev nD) : sProp 𝕄 := iprop(unscopedBufs c (fun b => m ((c : Thread nD τ).loc b)) ∗ unscopedSems0 c
        ∗ owes (c : Thread nD τ) (left c 16) ∅ ∗ Pipeline.launchCred (fun d => left d 16) c ∗ prngReg c (ρ c) ∗ G c)
def Bundle (c : Dev nD) : sProp 𝕄 := iprop(StableHlo.held (c : Thread nD τ) (Pipeline.ucRefs τ sig) (V0 m c) ∗ (∃ B, owes (c : Thread nD τ) (left c 16) B) ∗ (∃ r, prngReg c r) ∗ Creds c)

theorem init_all :
    iprop((bigSep Finset.univ fun c : Dev nD => iprop(unscopedBufs c (fun b => m ((c : Thread nD τ).loc b)) ∗ unscopedSems0 c
          ∗ owes (c : Thread nD τ) (left c 16) ∅ ∗ Pipeline.launchCred (fun d => left d 16) c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hc (c : Dev nD) : Raw m ρ c
      ⊢ (iprop(Bundle m c ∗ (semVal (cellK c (.inl false)) 0 ∗ G c)) : sProp 𝕄) := by
    unfold Raw Bundle
    rw [show unscopedBufs c (fun b => m ((c : Thread nD τ).loc b)) = (StableHlo.held (c : Thread nD τ) (Pipeline.ucRefs τ sig) (V0 m c) : sProp 𝕄)
      from Pipeline.unscopedBufs_held (Ix := Unit) (Name := ℕ) (U := UU) (Lvl := ℕ) c (V0 m c), unscoped_bar]
    iintro ⟨Hh, Hb, HO, Hcr, Hp, HG⟩
    isplitr [Hb HG]
    · isplitl [Hh]; · iexact Hh
      isplitl [HO]; · iexists _; iexact HO
      isplitl [Hp]; · iexists _; iexact Hp
      iapply (creds c); iexact Hcr
    isplitl [Hb] <;> iassumption
  have hv : bigSep Finset.univ (fun c : Dev nD => (semVal (cellK c (.inl false)) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cellK c (.inl false)) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun x : Sc => (openTok ER (cellK c (scK x)) : sProp 𝕄)) :=
    Entails.of_eq (by
      rw [show scCells = Finset.univ.map scEmb from rfl, bigSep_map, bigSep_univ_prod]
      rfl)
  have hall : (bigSep Finset.univ (Raw m ρ) : sProp 𝕄)
      ⊢ iprop((bigSep Finset.univ (Bundle m)) ∗ (bigSep Finset.univ fun c : Dev nD => semVal (cellK c (.inl false)) 0)
        ∗ BI.own (ER (launchOf barCells scCells allToks))) := by
    rw [← G_all, ← bigSep_sep', ← bigSep_sep']
    exact bigSep_mono fun c _ => hc c
  show iprop(bigSep Finset.univ (Raw m ρ) ∗ levAts L lv) ⊢ (|={Set.univ}=> bigSep Finset.univ fun c : Dev nD =>
    iprop(StableHlo.held (c : Thread nD τ) (Pipeline.ucRefs τ sig) (V0 m c) ∗ E m 0 c) : sProp 𝕄)
  iintro ⟨H, -⟩
  ihave H' := hall $$ H
  icases H' with ⟨HB, Hv, Hu⟩
  imod (Rounds.fund_launch ER (sched (A0 (V11 m)) (L0 (V11 m))) disjoint_cells (fun g _ h => h) allToks) $$ [Hv Hu] with ⟨%κ, -, #Hinv, #Hr, Hat, Hopen, Htok⟩
  · isplitl [Hv]
    · iapply hv $$ Hv
    · iexact Hu
  imodintro
  ihave Hat' := hat $$ Hat
  ihave Hop' := hop $$ Hopen
  ihave Htok' := (Entails.of_eq (toks_deal (F := F))) $$ Htok
  have hmk (c : Dev nD) : iprop(records (A0 (V11 m)) (L0 (V11 m)) κ ∗ (Bundle m c ∗ (atPos ER (cellK c (.inl false)) 0 ∅ 0 ∗ (bigSep Finset.univ fun x : Sc => openTok ER (cellK c (scK x))) ∗ Toks c)))
      ⊢ (iprop(StableHlo.held (c : Thread nD τ) (Pipeline.ucRefs τ sig) (V0 m c) ∗ E m 0 c) : sProp 𝕄) := by
    unfold E Bundle
    iintro ⟨#HR, ⟨Hh, HO, Hp, HC⟩, HL⟩
    isplitl [Hh]; · iexact Hh
    isplitl [HL HC]
    · iapply (start_intro _ _ κ c)
      isplitr; · iexact HR
      isplitl [HL]; · unfold Linear; iexact HL
      iexact HC
    isplitl [HO] <;> iassumption
  iapply (bigSep_with_persistent (R := records (A0 (V11 m)) (L0 (V11 m)) κ) fun c _ => hmk c)
  isplitr
  · unfold records
    isplitr; · iexact Hinv
    iexact Hr
  iapply (Entails.of_eq (bigSep_sep' _ _ _).symm)
  isplitl [HB]; · iexact HB
  iapply (Entails.of_eq (bigSep_sep' _ _ _).symm)
  isplitl [Hat']; · iexact Hat'
  iapply (Entails.of_eq (bigSep_sep' _ _ _).symm)
  isplitl [Hop'] <;> iassumption

/-! ## The run -/

set_option backward.isDefEq.respectTransparency.types false in
/-- Every execution ends, every buffer of the host holding what the valuation after the last stretch says, and every counter zero. -/
theorem run_all (hgood : ∀ c, Good (X0 (V11 m) c) (X2 (V11 m) c) (nT (V11 m) c)) :
    θ_run defs (onTc (τ := τ) (main (F := F))) ⟨m, fun _ => 0, ρ⟩ (fun r =>
      (∀ c : Dev nD, ∀ b ∈ Pipeline.ucRefs τ sig, r.2.mem (c, b) = V13 m (outs m) c b) ∧ r.2.sem = fun _ => 0) := by
  refine Pipeline.θ_run_regions_kit_dev_sems (pcfgs (F := F)) adm (pdats (V11 m)) () cellOf_inj EP defs₀ 𝒱₀ L lv m ρ main
    (segs m (outs m) 𝒱₀ L lv (E m) () (pdats (V11 m)) (call (V11 m) hgood))
    (fun c Q => by
      rewrite [main_chain c, Seg.run_eq_chain,
        show (segs m (outs m) 𝒱₀ L lv (E m) () (pdats (V11 m)) (call (V11 m) hgood) c).map Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10,
          Prog.lift (.customCall (Pipeline.entry 0) ()), StableHlo.seq hostOps1 ] from rfl]
      dsimp (config := { failIfUnchanged := false }) only
      exact .rfl)
    (fun c => by simp only [segs, Seg.pipes_host, Seg.pipes_region, Seg.pipes_nil]; decide)
    (fun c => left c 16) L_of_ne G u₀ launch_own
    (T₀ := fun c => iprop(StableHlo.held (c : Thread nD τ) (Pipeline.ucRefs τ sig) (V0 m c) ∗ E m 0 c))
    (Tₙ := fun c => iprop(StableHlo.held (c : Thread nD τ) (Pipeline.ucRefs τ sig) (V13 m (outs m) c) ∗ semVal (cellK c (.inl false)) 0))
    (hch := fun c => ⟨.rfl, .rfl, .rfl, .rfl, .rfl, .rfl, .rfl, .rfl, .rfl, .rfl, .rfl, call_pre m hgood c, call_post m hgood c, ?_⟩)
    (hinit := init_all m ρ)
    (QY := fun c s => (∀ b ∈ Pipeline.ucRefs τ sig, s.mem (c, b) = V13 m (outs m) c b) ∧ s.sem (cellK c (.inl false)) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V13 m (outs m) c) ∗ E m 1 c) ⊢ _
    unfold E
    iintro ⟨Hh, Hb, HO⟩
    isplitr [HO]
    · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h, by simpa using hb⟩
    iexact HSI

end Cert.KProof

end
-- ==== Proof.Reads.lean ====
module

public import proofs.«01_k».proof.Proof.Launch
public import Idealize.ShloMosaic.Lib.Routing.Ops
public import Idealize.ShloMosaic.Lib.Routing.Words
public import Idealize.ShloMosaic.Lib.Claim

@[expose] public section

set_option maxRecDepth 8192

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

open Idealize.ShloMosaic.StableHlo Idealize.ShloMosaic.Routing

variable (W : Valuation τ sig (Elt Ideal)) (c : Dev nD)

/-! # What the host operations before the launch compute, buffer by buffer -/

theorem read_v17 : StableHlo.after (hostOps0 c) W main_v17 =
    uitofp (F := Ideal) .f32 (StableHlo.after (hostOps0 c) W main_v16 : IVec S32x256 1) := by
  after_results
  try rfl

theorem read_v16 : StableHlo.after (hostOps0 c) W main_v16 =
    andi (andi (cmpi .slt (iotaInDim S32x256 32 1) (broadcastInDim S32x256 ![0, 1] bcast_S32x1_S32x256_0_1 (broadcastInDim S32x1 ![0] bcast_S32_S32x1_0 (W main_arg4 : IVec S32 32))))
      (cmpi .sge (W main_arg3 : IVec S32x256 32) (broadcastInDim S32x256 ![] bcast_S_S32x256 (StableHlo.after (hostOps0 c) W main_v5 : IVec S_ 32))))
      (cmpi .slt (W main_arg3 : IVec S32x256 32) (broadcastInDim S32x256 ![] bcast_S_S32x256 (addi (StableHlo.after (hostOps0 c) W main_v5 : IVec S_ 32) (constantI S_ 32 256#32)))) := by
  after_results
  try rfl

theorem read_v5 : StableHlo.after (hostOps0 c) W main_v5 =
    muli (id (Host.remui (Host.divui (constantI S_ 32 (Dev.word c)) (constantI S_ 32 4#32)) (constantI S_ 32 2#32))) (constantI S_ 32 256#32) := by
  after_results
  try rfl

theorem read_v18 : StableHlo.after hostOps0_1 W main_v18 =
    Host.reduceWindowAdd (F := Ideal) (φ := .f32) ![1, 256] ![1, 1] ![0, 255] ![0, 0] (W main_v17 : FVec Ideal S32x256 .f32) (broadcastInDim S_ ![] bcast_S_S_ (constant S_ .f32 0x00000000#32)) reduceWindows_S32x256_S32x256_w1s1p0_0_w256s1p255_0 h_S_ := by
  after_results
  try rfl

theorem read_v28 : StableHlo.after hostOps0_2 W main_v28 =
    andi (cmpf (F := Ideal) .oeq (broadcastInDim S32x256x256 ![0, 1, 2] bcast_S32x256x1_S32x256x256_0_1_2 (broadcastInDim S32x256x1 ![0, 1] bcast_S32x256_S32x256x1_0_1
        (subf (W main_v18 : FVec Ideal S32x256 .f32) (broadcastInDim S32x256 ![] bcast_S_S32x256 (constant S_ .f32 0x3F800000#32)))))
      (broadcastInDim S32x256x256 ![0, 1, 2] bcast_S1x1x256_S32x256x256_0_1_2 (sitofp .f32 (iotaInDim S1x1x256 32 2))))
      (broadcastInDim S32x256x256 ![0, 1, 2] bcast_S32x256x1_S32x256x256_0_1_2 (broadcastInDim S32x256x1 ![0, 1] bcast_S32x256_S32x256x1_0_1 (W main_v16 : IVec S32x256 1))) := by
  after_results
  try rfl

theorem read_one : StableHlo.after hostOps0_2 W main_cst_3 =
    constant (F := Ideal) S_ .f32 0x3F800000#32 := by
  after_results
  try rfl

theorem read_zero : StableHlo.after hostOps0_2 W main_cst_4 =
    constant (F := Ideal) S_ .f32 0x00000000#32 := by
  after_results
  try rfl

theorem read_v29 : StableHlo.after hostOps0_3 W main_v29 =
    select (W main_v28 : IVec S32x256x256 1) (broadcastInDim S32x256x256 ![] bcast_S_S32x256x256 (W main_cst_3 : FVec Ideal S_ .f32))
      (broadcastInDim S32x256x256 ![] bcast_S_S32x256x256 (W main_cst_4 : FVec Ideal S_ .f32)) := by
  after_results
  try rfl

theorem read_v35 : StableHlo.after hostOps0_4 W main_v35 =
    fptosi (F := Ideal) (φ := .f32) 32 (Host.dotGeneral (F := Ideal) (φ₁ := .f32) (φ₂ := .f32) dot_S32x256_S32x256x256_S32x256_1_1_n_2_0_0 none
      (mulf (F := Ideal) (φ := .f32) (sitofp .f32 (subi (W main_arg3 : IVec S32x256 32) (broadcastInDim S32x256 ![] bcast_S_S32x256 (W main_v5 : IVec S_ 32)))) (W main_v17 : FVec Ideal S32x256 .f32))
      (W main_v29 : FVec Ideal S32x256x256 .f32)) := by
  after_results
  try rfl

theorem read_v37 : StableHlo.after hostOps0_4 W main_v37 =
    Host.reduce IntOp.addi (extui 32 (W main_v16 : IVec S32x256 1) natLt_1_32) (constantI S_ 32 0#32) reducesTo_S32x256_S32_d1 h_S_ := by
  after_results
  try rfl

theorem read_v41 : StableHlo.after hostOps0_4 W main_v41 =
    subi (addi (StableHlo.after hostOps0_4 W main_v37 : IVec S32 32) (broadcastInDim S32 ![] bcast_S_S32 (constantI S_ 32 8#32))) (broadcastInDim S32 ![] bcast_S_S32 (constantI S_ 32 1#32)) := by
  after_results
  try rfl

theorem read_c8 : StableHlo.after hostOps0_4 W main_c_8 =
    constantI S_ 32 8#32 := by
  after_results
  try rfl

theorem read_v42 : StableHlo.after hostOps0_5 W main_v42 =
    pyDiv bcast_S_S32 (W main_v41 : IVec S32 32) (W main_c_8 : IVec S_ 32) := by
  after_results
  try rfl

theorem read_v48 : StableHlo.after hostOps0_6 W main_v48 =
    shapeCast S1024 (cmpi .slt (iotaInDim S32x32 32 1) (broadcastInDim S32x32 ![0, 1] bcast_S32x1_S32x32_0_1 (broadcastInDim S32x1 ![0] bcast_S32_S32x1_0 (W main_v42 : IVec S32 32)))) shapeCasts_S32x32_S1024 := by
  after_results
  try rfl

theorem read_v55 : StableHlo.after hostOps0_6 W main_v55 =
    concatenate S2x1024 0 [⟨S1x1024, broadcastInDim S1x1024 ![1] bcast_S1024_S1x1024_1 (sitofp (F := Ideal) .f32 (shapeCast S1024 (iotaInDim S32x32 32 0) shapeCasts_S32x32_S1024))⟩,
      ⟨S1x1024, broadcastInDim S1x1024 ![1] bcast_S1024_S1x1024_1 (sitofp (F := Ideal) .f32 (shapeCast S1024 (iotaInDim S32x32 32 1) shapeCasts_S32x32_S1024))⟩] concatenates_S1x1024_S1x1024_S2x1024_d0 := by
  after_results
  try rfl

theorem read_v56 : StableHlo.after hostOps0_6 W main_v56 =
    uitofp (F := Ideal) .f32 (StableHlo.after hostOps0_6 W main_v48 : IVec S1024 1) := by
  after_results
  try rfl

theorem read_v57 : StableHlo.after hostOps0_7 W main_v57 =
    Host.reduceWindowAdd (F := Ideal) (φ := .f32) ![1024] ![1] ![1023] ![0] (W main_v56 : FVec Ideal S1024 .f32) (broadcastInDim S_ ![] bcast_S_S_ (constant S_ .f32 0x00000000#32)) reduceWindows_S1024_S1024_w1024s1p1023_0 h_S_ := by
  after_results
  try rfl

theorem read_v66 : StableHlo.after hostOps0_8 W main_v66 =
    andi (cmpf (F := Ideal) .oeq (broadcastInDim S1024x1024 ![0, 1] bcast_S1024x1_S1024x1024_0_1 (broadcastInDim S1024x1 ![0] bcast_S1024_S1024x1_0
        (subf (W main_v57 : FVec Ideal S1024 .f32) (broadcastInDim S1024 ![] bcast_S_S1024 (constant S_ .f32 0x3F800000#32)))))
      (sitofp .f32 (iotaInDim S1024x1024 32 1)))
      (broadcastInDim S1024x1024 ![0, 1] bcast_S1024x1_S1024x1024_0_1 (broadcastInDim S1024x1 ![0] bcast_S1024_S1024x1_0 (W main_v48 : IVec S1024 1))) := by
  after_results
  try rfl

theorem read_one' : StableHlo.after hostOps0_8 W main_cst_10 =
    constant (F := Ideal) S_ .f32 0x3F800000#32 := by
  after_results
  try rfl

theorem read_zero' : StableHlo.after hostOps0_8 W main_cst_11 =
    constant (F := Ideal) S_ .f32 0x00000000#32 := by
  after_results
  try rfl

theorem read_v67 : StableHlo.after hostOps0_9 W main_v67 =
    select (W main_v66 : IVec S1024x1024 1) (broadcastInDim S1024x1024 ![] bcast_S_S1024x1024 (W main_cst_10 : FVec Ideal S_ .f32))
      (broadcastInDim S1024x1024 ![] bcast_S_S1024x1024 (W main_cst_11 : FVec Ideal S_ .f32)) := by
  after_results
  try rfl

theorem read_v72 : StableHlo.after hostOps0_10 W main_v72 =
    fptosi (F := Ideal) (φ := .f32) 32 (Host.dotGeneral (F := Ideal) (φ₁ := .f32) (φ₂ := .f32) dot_S2x1024_S1024x1024_S2x1024_1_0_0_1_n_n none
      (mulf (F := Ideal) (φ := .f32) (W main_v55 : FVec Ideal S2x1024 .f32) (broadcastInDim S2x1024 ![0, 1] bcast_S1x1024_S2x1024_0_1 (broadcastInDim S1x1024 ![1] bcast_S1024_S1x1024_1 (W main_v56 : FVec Ideal S1024 .f32))))
      (W main_v67 : FVec Ideal S1024x1024 .f32)) := by
  after_results
  try rfl

theorem read_v74 : StableHlo.after hostOps0_10 W main_v74 =
    shapeCast S1 (Host.reduce IntOp.addi (W main_v42 : IVec S32 32) (constantI S_ 32 0#32) reducesTo_S32_S_d0 h_S_) shapeCasts_S_S1 := by
  after_results
  try rfl
end Cert.KProof
end
-- ==== Proof.Compact.lean ====
module

public import proofs.«01_k».proof.Proof.Launch
public import Idealize.ShloMosaic.Lib.Routing.Ops
public import Idealize.ShloMosaic.Lib.Routing.Words

@[expose] public section

noncomputable section

namespace Cert.KProof

open Idealize.ShloMosaic

/-! # Compacting a masked list

The entries of a list that a mask keeps, moved to its front: entry `j` goes to the place that its rank names,
the number of kept entries up to and including it, less one. -/

section
variable {n : ℕ} (M : Fin n → Prop) [DecidablePred M] (v : Fin n → ℕ)

/-- How many entries up to and including `j` the mask keeps. -/
def rank (j : ℕ) : ℕ := (Finset.univ.filter fun i : Fin n => i.val ≤ j ∧ M i).card

/-- The entry at place `d` of the compacted list, zero past its end. -/
def comp (d : ℕ) : ℕ := ∑ j : Fin n, if M j ∧ rank M j.val = d + 1 then v j else 0

theorem rank_lt {i j : Fin n} (h : i < j) (hj : M j) : rank M i.val < rank M j.val := by
  refine Finset.card_lt_card (Finset.ssubset_iff_of_subset ?_ |>.2 ⟨j, ?_, ?_⟩)
  · intro x hx
    simp only [Finset.mem_filter, Finset.mem_univ, true_and] at hx ⊢
    exact ⟨hx.1.trans (le_of_lt h), hx.2⟩
  · simp [hj]
  · simp only [Finset.mem_filter, Finset.mem_univ, true_and, not_and]
    intro h'
    exact absurd h' (not_le.2 h)

theorem rank_inj {i j : Fin n} (hi : M i) (hj : M j) (h : rank M i.val = rank M j.val) : i = j := by
  rcases lt_trichotomy i j with h' | h' | h'
  · exact absurd h (rank_lt M h' hj).ne
  · exact h'
  · exact absurd h (rank_lt M h' hi).ne'

/-- Where the kept entry `j` went. -/
theorem comp_at {j : Fin n} (hj : M j) {d : ℕ} (h : rank M j.val = d + 1) : comp M v d = v j := by
  unfold comp
  rw [Finset.sum_eq_single j]
  · rw [if_pos ⟨hj, h⟩]
  · intro i _ hi
    rw [if_neg]
    rintro ⟨h1, h2⟩
    exact hi (rank_inj M h1 hj (h2.trans h.symm))
  · intro h'; exact absurd (Finset.mem_univ _) h'

/-- A bound on the kept entries bounds the compacted list. -/
theorem comp_lt {K : ℕ} (hK : 0 < K) (hv : ∀ j, M j → v j < K) (d : ℕ) : comp M v d < K := by
  by_cases h : ∃ j, M j ∧ rank M j.val = d + 1
  · obtain ⟨j, hj, hd⟩ := h
    rw [comp_at M v hj hd]
    exact hv j hj
  · rw [comp, Finset.sum_eq_zero]
    · exact hK
    · intro j _
      exact if_neg fun hj => h ⟨j, hj⟩
end

/-! ## The same over the extended reals -/

theorem coe_sum_nat {ι : Type} (s : Finset ι) (f : ι → ℕ) : ((∑ i ∈ s, f i : ℕ) : EReal) = ∑ i ∈ s, (f i : EReal) := by
  classical
  induction s using Finset.induction_on with
  | empty => simp
  | insert a s ha ih => rw [Finset.sum_insert ha, Finset.sum_insert ha, Nat.cast_add, ih]

/-- A natural below `2 ^ 31`, converted to a word. -/
theorem fptosi_nat {k : ℕ} (h : k < 2 ^ 31) : Ideal.fptosi 32 (k : EReal) = BitVec.ofNat 32 k := by
  have e : ((k : EReal)) = ((k : ℝ) : EReal) := by norm_cast
  rw [e, Ideal.fptosi, Ideal.toIntClamped_coe, if_pos (by positivity)]
  have : ⌊(k : ℝ)⌋ = (k : ℤ) := Int.floor_natCast k
  rw [this]
  have : max (-((2 ^ (32 - 1) : ℕ) : ℤ)) (min (((2 ^ (32 - 1) : ℕ) : ℤ) - 1) (k : ℤ)) = (k : ℤ) := by
    norm_num at h ⊢
    omega
  rw [this]
  rfl

/-- A rank less one is place `d`: the test the program makes on the extended reals. -/
theorem rank_test (r d : ℕ) : (((r : ℕ) : EReal) - 1 = ((d : ℕ) : EReal)) ↔ r = d + 1 := by
  have e1 : (((r : ℕ) : EReal)) = ((r : ℝ) : EReal) := by norm_cast
  have e2 : (((d : ℕ) : EReal)) = ((d : ℝ) : EReal) := by norm_cast
  rw [e1, e2, show (1 : EReal) = ((1 : ℝ) : EReal) from rfl, ← EReal.coe_sub, EReal.coe_eq_coe_iff]
  constructor
  · intro h
    have : (r : ℝ) = (d : ℝ) + 1 := by linarith
    exact_mod_cast this
  · rintro rfl
    push_cast
    ring

/-- The program's masked product and sum, as one compacted entry. -/
theorem sum_comp {n : ℕ} (M : Fin n → Prop) [DecidablePred M] (v : Fin n → ℕ) (x hot : Fin n → EReal) (d : ℕ)
    (hx : ∀ j, M j → x j = (v j : EReal)) (hx0 : ∀ j, ¬ M j → x j = 0)
    (hhot : ∀ j, hot j = if M j ∧ rank M j.val = d + 1 then 1 else 0) :
    ∑ j, x j * hot j = (comp M v d : EReal) := by
  rw [comp, coe_sum_nat]
  refine Finset.sum_congr rfl fun j _ => ?_
  rw [hhot]
  by_cases h : M j ∧ rank M j.val = d + 1
  · rw [if_pos h, if_pos h, mul_one, hx j h.1]
  · rw [if_neg h, if_neg h, mul_zero, Nat.cast_zero]

theorem foldl_add_eq {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

theorem coe_list_sum (l : List ℕ) : ((l.sum : ℕ) : EReal) = (l.map (fun k : ℕ => (k : EReal))).sum := by
  induction l with
  | nil => simp
  | cons a l ih => rw [List.sum_cons, List.map_cons, List.sum_cons, Nat.cast_add, ih]

/-- A rank as a sum over the entries before. -/
theorem rank_eq_sum {n : ℕ} (M : Fin n → Prop) [DecidablePred M] (f : ℕ → ℕ) (hf : ∀ j : Fin n, f j.val = if M j then 1 else 0) (j : Fin n) :
    ((List.range (j.val + 1)).map f).sum = rank M j.val := by
  rw [← List.sum_toFinset f List.nodup_range, rank, Finset.card_filter]
  rw [show (List.range (j.val + 1)).toFinset = (Finset.range (j.val + 1)) by ext; simp]
  have hsub : Finset.range (j.val + 1) ⊆ Finset.range n := Finset.range_subset_range.2 j.isLt
  rw [← Finset.sum_filter_add_sum_filter_not (Finset.univ : Finset (Fin n)) (fun i => i.val ≤ j.val)]
  rw [Finset.sum_eq_zero (s := Finset.univ.filter fun i : Fin n => ¬ i.val ≤ j.val), add_zero]
  · refine Finset.sum_bij' (fun i hi => (⟨i, Finset.mem_range.1 (hsub hi)⟩ : Fin n)) (fun i _ => i.val) ?_ ?_ ?_ ?_ ?_
    · intro i hi; simp only [Finset.mem_filter, Finset.mem_univ, true_and]; have := Finset.mem_range.1 hi; omega
    · intro i hi; simp only [Finset.mem_filter, Finset.mem_univ, true_and] at hi; exact Finset.mem_range.2 (by omega)
    · intro i hi; rfl
    · intro i hi; rfl
    · intro i hi
      have hi' := Finset.mem_range.1 hi
      rw [hf ⟨i, Finset.mem_range.1 (hsub hi)⟩]
      by_cases h : M ⟨i, Finset.mem_range.1 (hsub hi)⟩
      · rw [if_pos h, if_pos ⟨by show i ≤ j.val; omega, h⟩]
      · rw [if_neg h, if_neg (fun h' => h h'.2)]
  · intro i hi
    simp only [Finset.mem_filter, Finset.mem_univ, true_and] at hi
    exact if_neg fun h => hi h.1

end Cert.KProof
end
-- ==== Proof.Prefix.lean ====
module

public import proofs.«01_k».proof.Proof.Reads
public import proofs.«01_k».proof.Proof.Compact
public import Idealize.ShloMosaic.Lib.Pointwise
public import Idealize.ShloMosaic.Lib.IdealHost

@[expose] public section

set_option maxRecDepth 8192

noncomputable section

namespace Cert.KProof

open Cert.KernelIdeal Cert.KernelIdeal.Gen
open Idealize.ShloMosaic Idealize.ShloMosaic.TcCoe Idealize.ShloMosaic.Routing

variable (m : (ℓ : Loc nD τ sig) → Buf (Elt Ideal) ℓ) (c : Dev nD)

/-! # The tables that the host operations hand to the kernel -/

/-- The running sum of a masked row: a window fold whose position `n` reads entry `j + n - k` or padding. -/
theorem window_fold (f : ℕ → ℕ) (k j : ℕ) (hj : j ≤ k) {K : ℕ} (hK : K = k + 1) (g : Fin K → EReal)
    (hg : ∀ n : Fin K, g n = if k ≤ j + n.val then ((f (j + n.val - k) : ℕ) : EReal) else 0) :
    (List.finRange K).foldl (fun r n => r + g n) 0 = ((((List.range (j + 1)).map f).sum : ℕ) : EReal) := by
  subst hK
  rw [foldl_add_eq, zero_add, ← Routing.sum_window f k j hj, coe_list_sum, List.map_map]
  congr 1
  rw [← map_finRange_val (k + 1)]
  refine List.map_congr_left fun n _ => ?_
  rw [hg]
  show _ = (((if k ≤ j + n.val then f (j + n.val - k) else 0 : ℕ)) : EReal)
  split <;> simp

/-- The running sum along the rows of a matrix, as the program writes it: entry `j` of row `b` is the sum of that row's first `j + 1` entries. -/
theorem cumsum_row {R : ℕ} (x : FVec Ideal (shape2 R 256) .f32) (b : Fin R) (f : ℕ → ℕ) (hx : ∀ i : Fin 256, x (ix2 b i) = ((f i.val : ℕ) : EReal))
    (h : (shape2 R 256).ReduceWindows (![1, 256] : Fin 2 → Nat) ![1, 1] ![0, 255] ![0, 0] (shape2 R 256)) (j : Fin 256) :
    Ideal.hostReduceWindowAdd ![1, 256] ![1, 1] ![0, 255] ![0, 0] h x 0 (ix2 b j) = ((((List.range (j.val + 1)).map f).sum : ℕ) : EReal) := by
  unfold Ideal.hostReduceWindowAdd Host.reduceWindow
  refine window_fold f 255 j.val (by omega) (numel2 256) _ fun n => ?_
  have hw0 : ((shape2 1 256).rowMajor.symm n 0).val = 0 := by rw [symm2]; rfl
  have hw : ((shape2 1 256).rowMajor.symm n 1).val = n.val := by rw [symm2]; rfl
  have hb := b.isLt
  have hj := j.isLt
  have hn : n.val < 256 := lt_of_lt_of_eq n.isLt (numel2 256)
  dsimp only
  split
  · next hin =>
    have h1 := hin 1
    change 255 ≤ j.val * 1 + ((shape2 1 256).rowMajor.symm n 1).val ∧ j.val * 1 + ((shape2 1 256).rowMajor.symm n 1).val - 255 < 256 at h1
    rw [hw] at h1
    rw [if_pos (by omega)]
    refine (congrArg x (funext fun a => Fin.ext ?_)).trans (hx ⟨j.val + n.val - 255, by omega⟩)
    match a with
    | ⟨0, _⟩ =>
      show b.val * 1 + ((shape2 1 256).rowMajor.symm n 0).val - 0 = b.val
      rw [hw0]; omega
    | ⟨1, _⟩ =>
      show j.val * 1 + ((shape2 1 256).rowMajor.symm n 1).val - 255 = j.val + n.val - 255
      rw [hw, Nat.mul_one]
  · next hin =>
    rw [if_neg fun hle => hin fun a => by
      match a with
      | ⟨0, _⟩ =>
        show 0 ≤ b.val * 1 + ((shape2 1 256).rowMajor.symm n 0).val ∧ b.val * 1 + ((shape2 1 256).rowMajor.symm n 0).val - 0 < R
        rw [hw0]; omega
      | ⟨1, _⟩ =>
        show 255 ≤ j.val * 1 + ((shape2 1 256).rowMajor.symm n 1).val ∧ j.val * 1 + ((shape2 1 256).rowMajor.symm n 1).val - 255 < 256
        rw [hw]; omega]

/-- The same for a vector. -/
theorem cumsum_vec (x : FVec Ideal (shape1 1024) .f32) (f : ℕ → ℕ) (hx : ∀ i : Fin 1024, x (ix1 i) = ((f i.val : ℕ) : EReal))
    (h : (shape1 1024).ReduceWindows (![1024] : Fin 1 → Nat) ![1] ![1023] ![0] (shape1 1024)) (j : Fin 1024) :
    Ideal.hostReduceWindowAdd ![1024] ![1] ![1023] ![0] h x 0 (ix1 j) = ((((List.range (j.val + 1)).map f).sum : ℕ) : EReal) := by
  unfold Ideal.hostReduceWindowAdd Host.reduceWindow
  refine window_fold f 1023 j.val (by omega) (numel1 1024) _ fun n => ?_
  have hw : ((shape1 1024).rowMajor.symm n 0).val = n.val := by rw [symm1]; rfl
  have hj := j.isLt
  have hn : n.val < 1024 := lt_of_lt_of_eq n.isLt (numel1 1024)
  dsimp only
  split
  · next hin =>
    have h1 := hin 0
    change 1023 ≤ j.val * 1 + ((shape1 1024).rowMajor.symm n 0).val ∧ j.val * 1 + ((shape1 1024).rowMajor.symm n 0).val - 1023 < 1024 at h1
    rw [hw] at h1
    rw [if_pos (by omega)]
    refine (congrArg x (funext fun a => Fin.ext ?_)).trans (hx ⟨j.val + n.val - 1023, by omega⟩)
    match a with
    | ⟨0, _⟩ =>
      show j.val * 1 + ((shape1 1024).rowMajor.symm n 0).val - 1023 = j.val + n.val - 1023
      rw [hw, Nat.mul_one]
  · next hin =>
    rw [if_neg fun hle => hin fun a => by
      match a with
      | ⟨0, _⟩ =>
        show 1023 ≤ j.val * 1 + ((shape1 1024).rowMajor.symm n 0).val ∧ j.val * 1 + ((shape1 1024).rowMajor.symm n 0).val - 1023 < 1024
        rw [hw]; omega]

theorem bit_cases : ∀ x : BitVec 1, x = 0#1 ∨ x = 1#1 := by decide

theorem bit_real (x : BitVec 1) : ((x.toNat : ℝ) : EReal) = (((if x = 1#1 then 1 else 0 : ℕ)) : EReal) := by
  rcases bit_cases x with rfl | rfl <;> norm_num

theorem zero_word : (Scalar.ofBits .f32 0x00000000#32 : Ideal .f32) = (0 : EReal) := Ideal.ofBits_zero_f32
theorem one_word : (Scalar.ofBits .f32 0x3F800000#32 : Ideal .f32) = (1 : EReal) := Ideal.ofBits_one_f32

/-- One for an entry that the mask keeps. -/
def tally {n : ℕ} (M : Fin n → Prop) [DecidablePred M] (i : ℕ) : ℕ := if h : i < n then (if M ⟨i, h⟩ then 1 else 0) else 0

theorem tally_val {n : ℕ} (M : Fin n → Prop) [DecidablePred M] (j : Fin n) : tally M j.val = if M j then 1 else 0 := dif_pos j.isLt

theorem sitofp_small {k : ℕ} (h : k < 2 ^ 31) : (FloatOps.sitofp (F := Ideal) FTy.f32 (BitVec.ofNat 32 k) : EReal) = ((k : ℕ) : EReal) := by
  show (((BitVec.ofNat 32 k).toInt : ℝ) : EReal) = _
  have : (BitVec.ofNat 32 k).toInt = (k : ℤ) := by
    rw [BitVec.toInt_eq_toNat_of_lt] <;> rw [BitVec.toNat_ofNat, Nat.mod_eq_of_lt (by omega)]
    omega
  rw [this]
  norm_cast

/-- The test of a one-hot entry: a kept entry whose rank names place `d`. -/
theorem hot_bit {M : Prop} [Decidable M] {p : BitVec 1} (hp : M ↔ p = 1#1) (r d : ℕ) {x k : EReal} (hx : x = ((r : ℕ) : EReal)) (hk : k = ((d : ℕ) : EReal)) :
    Scalar.select (IntOp.andi (BitVec.ofBool (decide (x - 1 = k))) p) (1 : EReal) 0 = if M ∧ r = d + 1 then 1 else 0 := by
  subst hx hk
  rw [show decide (((r : ℕ) : EReal) - 1 = ((d : ℕ) : EReal)) = decide (r = d + 1) from decide_eq_decide.2 (rank_test r d)]
  by_cases hM : M
  · have := hp.1 hM
    subst this
    by_cases hr : r = d + 1
    · rw [if_pos ⟨hM, hr⟩, decide_eq_true hr]; rfl
    · rw [if_neg fun h => hr h.2, decide_eq_false hr]; rfl
  · have : p = 0#1 := by
      rcases bit_cases p with h | h
      · exact h
      · exact absurd (hp.2 h) hM
    subst this
    rw [if_neg fun h => hM h.1]
    cases decide (r = d + 1) <;> rfl

/-! ## The pages of a sequence -/

/-- Row `b`'s positions on this device. -/
def Mine (b : Fin 32) (j : Fin 256) : Prop := (V1 m c main_v16 : IVec S32x256 1) (ix2 b j) = 1#1

instance (b : Fin 32) : DecidablePred (Mine m c b) := fun j => inferInstanceAs (Decidable (_ = _))

theorem mine_v17 (b : Fin 32) (j : Fin 256) :
    (V1 m c main_v17 : FVec Ideal S32x256 .f32) (ix2 b j) = (((if Mine m c b j then 1 else 0 : ℕ)) : EReal) := by
  rw [show V1 m c main_v17 = _ from read_v17 (V0 m c) c]
  exact bit_real _

theorem mine_v18 (b : Fin 32) (j : Fin 256) :
    (V2 m c main_v18 : FVec Ideal S32x256 .f32) (ix2 b j) = ((rank (Mine m c b) j.val : ℕ) : EReal) := by
  rw [show V2 m c main_v18 = _ from read_v18 (V1 m c)]
  rw [← rank_eq_sum (Mine m c b) (tally (Mine m c b)) (tally_val _) j]
  have := cumsum_row (V1 m c main_v17 : FVec Ideal S32x256 .f32) b (tally (Mine m c b)) (fun i => (mine_v17 m c b i).trans (by rw [tally_val]))
    reduceWindows_S32x256_S32x256_w1s1p0_0_w256s1p255_0 j
  rw [← zero_word] at this
  exact this

/-- The one-hot matrix of the compaction. -/
theorem mine_v29 (b : Fin 32) (j d : Fin 256) :
    (V4 m c main_v29 : FVec Ideal S32x256x256 .f32) (ix3 b j d) = (if Mine m c b j ∧ rank (Mine m c b) j.val = d.val + 1 then 1 else 0 : EReal) := by
  rw [show V4 m c main_v29 = _ from read_v29 (V3 m c), show V3 m c main_v28 = _ from read_v28 (V2 m c), show V3 m c main_cst_3 = _ from read_one (V2 m c),
    show V3 m c main_cst_4 = _ from read_zero (V2 m c), V2_of m c main_v16 (by decide)]
  pointwise
  exact hot_bit Iff.rfl _ _ (mine_v18 m c b j) (sitofp_small (by have := d.isLt; omega))

/-- Which of this device's pages an entry names. -/
def entry (b : Fin 32) (j : Fin 256) : BitVec 32 := IntOp.subi ((m (c, main_arg3) : IVec S32x256 32) (ix2 b j)) ((V1 m c main_v5 : IVec S_ 32) ix0)

/-- Where this device's pages start. -/
theorem start_word : (V1 m c main_v5 : IVec S_ 32) ix0 = BitVec.ofNat 32 (256 * (c.val / 4 % 2)) := by
  rw [show V1 m c main_v5 = _ from read_v5 (V0 m c) c]
  have h : ∀ c : Dev nD, IntOp.muli (IntOp.remui .host (IntOp.divui .host (Dev.word c) 4#32) 2#32) 256#32 = BitVec.ofNat 32 (256 * (c.val / 4 % 2)) := by
    decide +kernel
  exact h c

theorem andi_one : ∀ p q : BitVec 1, IntOp.andi p q = 1#1 ↔ p = 1#1 ∧ q = 1#1 := by decide

theorem ofBool_one (b : Bool) : BitVec.ofBool b = 1#1 ↔ b = true := by cases b <;> decide

/-- Being one of this device's pages, as the program tests it. -/
theorem mine_word (p : BitVec 1) (x S : BitVec 32) (hS : S = 0#32 ∨ S = 256#32) :
    IntOp.andi (IntOp.andi p (IntOp.cmpi .sge x S)) (IntOp.cmpi .slt x (IntOp.addi S 256#32)) = 1#1 ↔ p = 1#1 ∧ (IntOp.subi x S).toNat < 256 := by
  have hx := x.isLt
  rw [andi_one, andi_one]
  have e1 : IntOp.cmpi .sge x S = 1#1 ↔ S.toInt ≤ x.toInt := by
    show BitVec.ofBool (S.sle x) = 1#1 ↔ _
    rw [ofBool_one, BitVec.sle_iff_toInt_le]
  have e2 : ∀ T : BitVec 32, IntOp.cmpi .slt x T = 1#1 ↔ x.toInt < T.toInt := by
    intro T
    show BitVec.ofBool (x.slt T) = 1#1 ↔ _
    rw [ofBool_one, BitVec.slt_iff_toInt_lt]
  rw [e1, e2, and_assoc]
  refine and_congr_right fun _ => ?_
  rw [BitVec.toInt_eq_toNat_cond (x := x)]
  show _ ↔ (x - S).toNat < 256
  rw [BitVec.toNat_sub]
  rcases hS with rfl | rfl
  · rw [show (0#32 : BitVec 32).toInt = 0 by decide, show (IntOp.addi 0#32 256#32).toInt = 256 by decide, show (0#32 : BitVec 32).toNat = 0 by decide]
    split <;> omega
  · rw [show (256#32 : BitVec 32).toInt = 256 by decide, show (IntOp.addi 256#32 256#32).toInt = 512 by decide, show (256#32 : BitVec 32).toNat = 256 by decide]
    split <;> omega

theorem start_cases : (V1 m c main_v5 : IVec S_ 32) ix0 = 0#32 ∨ (V1 m c main_v5 : IVec S_ 32) ix0 = 256#32 := by
  rw [start_word]
  have h : ∀ c : Dev nD, BitVec.ofNat 32 (256 * (c.val / 4 % 2)) = 0#32 ∨ BitVec.ofNat 32 (256 * (c.val / 4 % 2)) = 256#32 := by decide +kernel
  exact h c

theorem mine_iff (b : Fin 32) (j : Fin 256) : Mine m c b j ↔
    ((j.val : ℤ) < ((m (c, main_arg4) : IVec S32 32) (ix1 b)).toInt ∧ (entry m c b j).toNat < 256) := by
  unfold Mine
  rw [show V1 m c main_v16 = _ from read_v16 (V0 m c) c]
  pointwise
  refine (mine_word _ _ _ (start_cases m c)).trans (and_congr_left fun _ => ?_)
  show BitVec.ofBool (BitVec.slt _ _) = 1#1 ↔ _
  rw [ofBool_one, BitVec.slt_iff_toInt_lt]
  have : (BitVec.ofNat 32 j.val).toInt = (j.val : ℤ) := by
    have := j.isLt
    rw [BitVec.toInt_eq_toNat_of_lt] <;> rw [BitVec.toNat_ofNat, Nat.mod_eq_of_lt (by omega)]
    omega
  rw [this]

theorem mine_entry {b : Fin 32} {j : Fin 256} (h : Mine m c b j) : (entry m c b j).toNat < 256 := ((mine_iff m c b j).1 h).2

theorem loc_val (b : Fin 32) (d : Fin 256) :
    (V5 m c main_v35 : IVec S32x256 32) (ix2 b d) = BitVec.ofNat 32 (comp (Mine m c b) (fun j => (entry m c b j).toNat) d.val) := by
  rw [show V5 m c main_v35 = _ from read_v35 (V4 m c), V4_of m c main_arg3 (by decide), V3_of m c main_arg3 (by decide), V2_of m c main_arg3 (by decide),
    V1_of m c main_arg3 (by decide), V4_of m c main_v5 (by decide), V3_of m c main_v5 (by decide), V2_of m c main_v5 (by decide),
    V4_of m c main_v17 (by decide), V3_of m c main_v17 (by decide), V2_of m c main_v17 (by decide)]
  pointwise
  have hlt := comp_lt (Mine m c b) (fun j => (entry m c b j).toNat) (K := 256) (by omega) (fun j h => mine_entry m c h) d.val
  refine Eq.trans ?_ (fptosi_nat (show _ < 2 ^ 31 by omega))
  refine congrArg (Ideal.fptosi 32) ?_
  refine sum_comp (Mine m c b) (fun j => (entry m c b j).toNat)
    (fun x => (FloatOps.sitofp (F := Ideal) FTy.f32 (entry m c b x) : EReal) * (V1 m c main_v17 : FVec Ideal S32x256 .f32) (ix2 b x)) _ d.val
    (fun j h => ?_) (fun j h => ?_) (fun j => mine_v29 m c b j d)
  · rw [mine_v17, if_pos h, Nat.cast_one, mul_one, show entry m c b j = BitVec.ofNat 32 (entry m c b j).toNat by simp,
      sitofp_small (by have := mine_entry m c h; omega)]
    simp
  · rw [mine_v17, if_neg h, Nat.cast_zero, mul_zero]

/-! ## The counts and the chunks -/

/-- How many of row `b`'s positions are on this device. -/
theorem cnt_val (b : Fin 32) : (V5 m c main_v37 : IVec S32 32) (ix1 b) = BitVec.ofNat 32 (rank (Mine m c b) 255) := by
  rw [show V5 m c main_v37 = _ from read_v37 (V4 m c), V4_of m c main_v16 (by decide), V3_of m c main_v16 (by decide), V2_of m c main_v16 (by decide)]
  refine (reduce_count (n := 32) (m := 256) (by decide) (V1 m c main_v16 : IVec S32x256 1) (by decide) reducesTo_S32x256_S32_d1 h_S_ b
    (fun i => ∃ h : i < 256, Mine m c b ⟨i, h⟩) (fun q => ⟨fun h => ⟨q.isLt, h⟩, fun h => h.2⟩)).trans ?_
  congr 1
  rw [rank, Nat.count_eq_card_filter_range]
  refine Finset.card_bij' (fun i _ => if h : i < 256 then (⟨i, h⟩ : Fin 256) else 0) (fun i _ => i.val) ?_ ?_ ?_ ?_
  · intro i hi
    obtain ⟨h1, h2, h3⟩ := Finset.mem_filter.1 hi
    rw [dif_pos h2]
    simp only [Finset.mem_filter, Finset.mem_univ, true_and]
    exact ⟨by omega, h3⟩
  · intro i hi
    simp only [Finset.mem_filter, Finset.mem_univ, true_and] at hi
    simp only [Finset.mem_filter, Finset.mem_range]
    exact ⟨i.isLt, i.isLt, hi.2⟩
  · intro i hi
    obtain ⟨h1, h2, h3⟩ := Finset.mem_filter.1 hi
    rw [dif_pos h2]
  · intro i hi
    rw [dif_pos i.isLt]

theorem rank_le {n : ℕ} (M : Fin n → Prop) [DecidablePred M] (j : ℕ) : rank M j ≤ n :=
  (Finset.card_filter_le _ _).trans (by simp)

/-- How many chunks of eight pages row `b` has. -/
def chunks (b : Fin 32) : ℕ := (rank (Mine m c b) 255 + 7) / 8

theorem chunks_le (b : Fin 32) : chunks m c b ≤ 32 := by
  have := rank_le (Mine m c b) 255
  unfold chunks
  omega

theorem chunks_val (b : Fin 32) : (V6 m c main_v42 : IVec S32 32) (ix1 b) = BitVec.ofNat 32 (chunks m c b) := by
  rw [show V6 m c main_v42 = _ from read_v42 (V5 m c), show V5 m c main_c_8 = _ from read_c8 (V4 m c)]
  have hr := rank_le (Mine m c b) 255
  refine pyDiv_ap bcast_S_S32 _ _ _ ?_ rfl (a := rank (Mine m c b) 255 + 7) (b := 8) (by omega) (by omega) (by omega)
  rw [show V5 m c main_v41 = _ from read_v41 (V4 m c)]
  pointwise
  rw [show StableHlo.after hostOps0_4 (V4 m c) main_v37 = V5 m c main_v37 from rfl, cnt_val]
  show BitVec.ofNat 32 (rank (Mine m c b) 255) + 8#32 - 1#32 = _
  apply BitVec.eq_of_toNat_eq
  simp only [BitVec.toNat_sub, BitVec.toNat_add, BitVec.toNat_ofNat]
  omega

/-- The total number of chunks. -/
theorem total_val : (V11 m c main_v74 : IVec S1 32) (ix1 0) = BitVec.ofNat 32 (∑ b : Fin 32, chunks m c b) := by
  rw [show V11 m c main_v74 = _ from read_v74 (V10 m c), V10_of m c main_v42 (by decide), V9_of m c main_v42 (by decide), V8_of m c main_v42 (by decide),
    V7_of m c main_v42 (by decide)]
  have := reduce_sum (N := 32) (V6 m c main_v42 : IVec S32 32) (fun i => if h : i < 32 then chunks m c ⟨i, h⟩ else 0)
    (fun i => by rw [dif_pos i.isLt]; exact chunks_val m c i) reducesTo_S32_S_d0 h_S_
  refine Eq.trans ?_ (this.trans ?_)
  · show Host.reduce IntOp.addi _ _ _ _ _ = _
    exact congrArg _ (ValueIdx.eq_ix0 _)
  · rw [← List.sum_toFinset _ List.nodup_range, show (List.range 32).toFinset = Finset.range 32 by ext; simp, Finset.sum_range]
    congr 1
    try exact Finset.sum_congr rfl fun i _ => dif_pos i.isLt

theorem total_le : ∑ b : Fin 32, chunks m c b ≤ 1024 :=
  (Finset.sum_le_sum fun b _ => chunks_le m c b).trans (by simp)

/-! ### Compacting a list of 1024 places under a table of bits -/

section
variable (K : IVec S1024 1)

/-- The places whose bit is set. -/
def Bit (p : Fin 1024) : Prop := K (ix1 p) = 1#1

instance : DecidablePred (Bit K) := fun j => inferInstanceAs (Decidable (_ = _))

/-- The bits as numbers. -/
def bitF : FVec Ideal S1024 .f32 := uitofp .f32 K

theorem bitF_val (p : Fin 1024) : bitF K (ix1 p) = (((if Bit K p then 1 else 0 : ℕ)) : EReal) := bit_real (K (ix1 p))

/-- The ideal sum over windows is the exact one, from its starting value. -/
theorem windowAdd_ideal {s t u : Shape} (w st lo hi : Fin s.rank → ℕ) (x : FVec Ideal s .f32) (init : FVec Ideal u .f32)
    (h : s.ReduceWindows w st lo hi t) (hu : 0 < u.numel) (z : EReal) (hz : init (Shape.Idx.first hu) = z) :
    Host.reduceWindowAdd (F := Ideal) (φ := .f32) w st lo hi x init h hu = Ideal.hostReduceWindowAdd w st lo hi h x z := by
  subst hz; rfl

/-- Their running sum. -/
def bitSum : FVec Ideal S1024 .f32 := Host.reduceWindowAdd (F := Ideal) (φ := .f32) ![1024] ![1] ![1023] ![0] (bitF K)
  (broadcastInDim S_ ![] bcast_S_S_ (constant (F := Ideal) S_ .f32 0x00000000#32)) reduceWindows_S1024_S1024_w1024s1p1023_0 h_S_

theorem bitSum_val (p : Fin 1024) : bitSum K (ix1 p) = ((rank (Bit K) p.val : ℕ) : EReal) := by
  have h := cumsum_vec (bitF K) (tally (Bit K)) (fun i => (bitF_val K i).trans (by rw [tally_val])) reduceWindows_S1024_S1024_w1024s1p1023_0 p
  rw [rank_eq_sum (Bit K) (tally (Bit K)) (tally_val _) p] at h
  rw [← h]
  exact congrFun (windowAdd_ideal _ _ _ _ (bitF K) _ _ h_S_ 0 zero_word) (ix1 p)

/-- The one-hot matrix. -/
def bitHot : FVec Ideal S1024x1024 .f32 :=
  select (andi (cmpf (F := Ideal) (φ := .f32) .oeq (broadcastInDim S1024x1024 ![0, 1] bcast_S1024x1_S1024x1024_0_1 (broadcastInDim S1024x1 ![0] bcast_S1024_S1024x1_0
        (subf (F := Ideal) (φ := .f32) (bitSum K) (broadcastInDim S1024 ![] bcast_S_S1024 (constant (F := Ideal) S_ .f32 0x3F800000#32)))))
      (sitofp .f32 (iotaInDim S1024x1024 32 1)))
      (broadcastInDim S1024x1024 ![0, 1] bcast_S1024x1_S1024x1024_0_1 (broadcastInDim S1024x1 ![0] bcast_S1024_S1024x1_0 K)))
    (broadcastInDim S1024x1024 ![] bcast_S_S1024x1024 (constant (F := Ideal) S_ .f32 0x3F800000#32))
    (broadcastInDim S1024x1024 ![] bcast_S_S1024x1024 (constant (F := Ideal) S_ .f32 0x00000000#32))

theorem bitHot_val (p g : Fin 1024) : bitHot K (ix2 p g) = (if Bit K p ∧ rank (Bit K) p.val = g.val + 1 then 1 else 0 : EReal) := by
  have h := hot_bit (M := Bit K p) (p := K (ix1 p)) Iff.rfl _ g.val (bitSum_val K p) (sitofp_small (by have := g.isLt; omega))
  rw [← h]
  unfold bitHot
  pointwise

/-- The compacted list. -/
theorem bit_comp (x : FVec Ideal S2x1024 .f32) (f : Fin 2 → Fin 1024 → ℕ) (hx : ∀ r p, x (ix2 r p) = ((f r p : ℕ) : EReal)) (hf : ∀ r p, f r p < 32) (r : Fin 2) (g : Fin 1024) :
    fptosi (F := Ideal) (φ := .f32) 32 (Host.dotGeneral (F := Ideal) (φ₁ := .f32) (φ₂ := .f32) dot_S2x1024_S1024x1024_S2x1024_1_0_0_1_n_n none
      (mulf (F := Ideal) (φ := .f32) x (broadcastInDim S2x1024 ![0, 1] bcast_S1x1024_S2x1024_0_1 (broadcastInDim S1x1024 ![1] bcast_S1024_S1x1024_1 (bitF K))))
      (bitHot K)) (ix2 r g) = BitVec.ofNat 32 (comp (Bit K) (f r) g.val) := by
  have hlt := comp_lt (Bit K) (f r) (K := 32) (by omega) (fun j h => hf r j) g.val
  refine Eq.trans ?_ (fptosi_nat (show _ < 2 ^ 31 by omega))
  rw [← sum_comp (Bit K) (f r) (fun p => x (ix2 r p) * bitF K (ix1 p)) (fun p => bitHot K (ix2 p g)) g.val
    (fun j h => by rw [bitF_val, if_pos h, Nat.cast_one, mul_one, hx]) (fun j h => by rw [bitF_val, if_neg h, Nat.cast_zero, mul_zero])
    (fun j => bitHot_val K j g)]
  pointwise
  rfl
end

/-- The chunks that there are, among the 32 places of every row. -/
abbrev keep : IVec S1024 1 := V7 m c main_v48

theorem keep_iff (p : Fin 1024) : Bit (keep m c) p ↔ p.val % 32 < chunks m c ⟨p.val / 32, by have := p.isLt; omega⟩ := by
  unfold Bit keep
  rw [show V7 m c main_v48 = _ from read_v48 (V6 m c)]
  have hp := p.isLt
  have hk := chunks_le m c ⟨p.val / 32, by omega⟩
  have := cast21 (n := 1024) (cmpi .slt (iotaInDim S32x32 32 1) (broadcastInDim S32x32 ![0, 1] bcast_S32x1_S32x32_0_1 (broadcastInDim S32x1 ![0] bcast_S32_S32x1_0 (V6 m c main_v42 : IVec S32 32))))
    shapeCasts_S32x32_S1024 ⟨p.val / 32, by omega⟩ ⟨p.val % 32, by omega⟩ p (by show p.val = p.val / 32 * 32 + p.val % 32; omega)
  rw [show ix1 p = ValueIdx.ix1 p from rfl, this]
  pointwise
  show BitVec.ofBool (BitVec.slt (BitVec.ofNat 32 (p.val % 32)) ((V6 m c main_v42 : IVec S32 32) (ix1 ⟨p.val / 32, by omega⟩))) = 1#1 ↔ _
  rw [chunks_val, ofBool_one, slt_ofNat32 (by omega) (by omega), decide_eq_true_iff]

/-- The row and the place of a chunk. -/
def spot (r : Fin 2) (p : Fin 1024) : ℕ := if r = 0 then p.val / 32 else p.val % 32

theorem spot_lt (r : Fin 2) (p : Fin 1024) : spot r p < 32 := by
  have := p.isLt
  unfold spot
  split <;> omega

theorem spot_v55 (r : Fin 2) (p : Fin 1024) : (V7 m c main_v55 : FVec Ideal S2x1024 .f32) (ix2 r p) = ((spot r p : ℕ) : EReal) := by
  rw [show V7 m c main_v55 = _ from read_v55 (V6 m c)]
  have hp := p.isLt
  have hr : r = 0 ∨ r = 1 := by revert r; decide
  rcases hr with rfl | rfl
  · pointwise
    exact sitofp_small (by omega)
  · pointwise
    exact sitofp_small (by omega)

theorem chunk_val (r : Fin 2) (g : Fin 1024) :
    (V11 m c main_v72 : IVec S2x1024 32) (ix2 r g) = BitVec.ofNat 32 (comp (Bit (keep m c)) (spot r) g.val) := by
  have e56 : V10 m c main_v56 = bitF (keep m c) := by
    rw [V10_of m c main_v56 (by decide), V9_of m c main_v56 (by decide), V8_of m c main_v56 (by decide)]
    exact read_v56 (V6 m c)
  have e57 : V8 m c main_v57 = bitSum (keep m c) := by
    rw [show V8 m c main_v57 = _ from read_v57 (V7 m c), show V7 m c main_v56 = _ from read_v56 (V6 m c)]
    rfl
  have e67 : V10 m c main_v67 = bitHot (keep m c) := by
    rw [show V10 m c main_v67 = _ from read_v67 (V9 m c), show V9 m c main_v66 = _ from read_v66 (V8 m c), show V9 m c main_cst_10 = _ from read_one' (V8 m c),
      show V9 m c main_cst_11 = _ from read_zero' (V8 m c), V8_of m c main_v48 (by decide), e57]
    rfl
  rw [show V11 m c main_v72 = _ from read_v72 (V10 m c), V10_of m c main_v55 (by decide), V9_of m c main_v55 (by decide), V8_of m c main_v55 (by decide), e56, e67]
  exact bit_comp (keep m c) _ spot (spot_v55 m c) spot_lt r g

/-! ## What the kernel's side conditions ask -/

theorem good_all : Good (X0 (V11 m) c) (X2 (V11 m) c) (nT (V11 m) c) := by
  refine ⟨?_, ?_, ?_⟩
  · show ((V11 m c main_v74 : IVec S1 32) (ix1 0)).toNat ≤ 1024
    rw [total_val, BitVec.toNat_ofNat]
    exact (Nat.mod_le _ _).trans (total_le m c)
  · intro x
    have e : X0 (V11 m) c = V5 m c main_v35 := by
      show V11 m c main_v35 = _
      rw [V11_of m c main_v35 (by decide), V10_of m c main_v35 (by decide), V9_of m c main_v35 (by decide), V8_of m c main_v35 (by decide),
        V7_of m c main_v35 (by decide), V6_of m c main_v35 (by decide)]
    have ev : X0 (V11 m) c x = _ := (congrFun e x).trans ((congrArg (V5 m c main_v35 : IVec S32x256 32) (ValueIdx.eq_ix2 x)).trans (loc_val m c (x 0) (x 1)))
    rw [ev, BitVec.toNat_ofNat]
    exact lt_of_le_of_lt (Nat.mod_le _ _) (comp_lt _ _ (by omega) (fun j h => mine_entry m c h) _)
  · intro r g hg
    have ev : X2 (V11 m) c (cX r g) = _ := chunk_val m c r ⟨g % 1024, Nat.mod_lt _ (by decide)⟩
    rw [ev, BitVec.toNat_ofNat]
    exact lt_of_le_of_lt (Nat.mod_le _ _) (comp_lt _ _ (by omega) (fun j h => spot_lt r j) _)
end Cert.KProof
end
-- ==== Proof.Ref.lean ====
/-
  The reference's run: it is host operations alone, gone through in five stretches.
-/
module

public import proofs.«01_k».proof.Defs
public import proofs.«01_k».proof.Proof.Gen.ReferenceIdeal
public import Idealize.ShloMosaic.Lib.StableHlo.RunHlo
public import Idealize.ShloMosaic.Lib.Claim

@[expose] public section

set_option maxRecDepth 8192

noncomputable section

namespace Cert.RProof

open Cert.ReferenceIdeal Cert.ReferenceIdeal.Gen
open Idealize.ShloMosaic Idealize.ShloMosaic.TcCoe Idealize.ShloMosaic.StableHlo Idealize.SL.Sem

variable {F : FTy → Type} [FloatOps F]

/-- The two gathers through the block table. -/
abbrev gathers : List (HloOp τ sig (Elt F)) :=
  [ StableHlo.nullary main_c (constantI S_ 32 0#32),
    StableHlo.unary main_c main_v0 (broadcastInDim S32x256 ![] bcast_S_S32x256 : (⟨S_, .i32⟩ : BufTy).Contents (Elt F) → (⟨S32x256, .i32⟩ : BufTy).Contents (Elt F)),
    StableHlo.binary main_arg3 main_v0 main_v1 (cmpi .slt : (⟨S32x256, .i32⟩ : BufTy).Contents (Elt F) → (⟨S32x256, .i32⟩ : BufTy).Contents (Elt F) → (⟨S32x256, .i1⟩ : BufTy).Contents (Elt F)),
    StableHlo.nullary main_c_0 (constantI S_ 32 512#32),
    StableHlo.unary main_c_0 main_v2 (broadcastInDim S32x256 ![] bcast_S_S32x256 : (⟨S_, .i32⟩ : BufTy).Contents (Elt F) → (⟨S32x256, .i32⟩ : BufTy).Contents (Elt F)),
    StableHlo.binary main_arg3 main_v2 main_v3 (addi : (⟨S32x256, .i32⟩ : BufTy).Contents (Elt F) → (⟨S32x256, .i32⟩ : BufTy).Contents (Elt F) → (⟨S32x256, .i32⟩ : BufTy).Contents (Elt F)),
    StableHlo.ternary main_v1 main_v3 main_arg3 main_v4 (select : (⟨S32x256, .i1⟩ : BufTy).Contents (Elt F) → (⟨S32x256, .i32⟩ : BufTy).Contents (Elt F) → (⟨S32x256, .i32⟩ : BufTy).Contents (Elt F) → (⟨S32x256, .i32⟩ : BufTy).Contents (Elt F)),
    StableHlo.unary main_v4 main_v5 (broadcastInDim S32x256x1 ![0, 1] bcast_S32x256_S32x256x1_0_1 : (⟨S32x256, .i32⟩ : BufTy).Contents (Elt F) → (⟨S32x256x1, .i32⟩ : BufTy).Contents (Elt F)),
    StableHlo.binary main_arg1 main_v5 main_v6 ((fun x i => Host.gather gather_S512x32x16x128_S32x256x1_S32x256x32x16x128_234_0_n_n_0_2_13216128 x i) : (⟨S512x32x16x128, .f32⟩ : BufTy).Contents (Elt F) → (⟨S32x256x1, .i32⟩ : BufTy).Contents (Elt F) → (⟨S32x256x32x16x128, .f32⟩ : BufTy).Contents (Elt F)),
    StableHlo.reshape main_v6 main_v7 (rfl : (.f32 : EltTy) = .f32) shapeCasts_S32x256x32x16x128_S32x8192x16x128,
    StableHlo.nullary main_c_1 (constantI S_ 32 0#32),
    StableHlo.unary main_c_1 main_v8 (broadcastInDim S32x256 ![] bcast_S_S32x256 : (⟨S_, .i32⟩ : BufTy).Contents (Elt F) → (⟨S32x256, .i32⟩ : BufTy).Contents (Elt F)),
    StableHlo.binary main_arg3 main_v8 main_v9 (cmpi .slt : (⟨S32x256, .i32⟩ : BufTy).Contents (Elt F) → (⟨S32x256, .i32⟩ : BufTy).Contents (Elt F) → (⟨S32x256, .i1⟩ : BufTy).Contents (Elt F)),
    StableHlo.nullary main_c_2 (constantI S_ 32 512#32),
    StableHlo.unary main_c_2 main_v10 (broadcastInDim S32x256 ![] bcast_S_S32x256 : (⟨S_, .i32⟩ : BufTy).Contents (Elt F) → (⟨S32x256, .i32⟩ : BufTy).Contents (Elt F)),
    StableHlo.binary main_arg3 main_v10 main_v11 (addi : (⟨S32x256, .i32⟩ : BufTy).Contents (Elt F) → (⟨S32x256, .i32⟩ : BufTy).Contents (Elt F) → (⟨S32x256, .i32⟩ : BufTy).Contents (Elt F)),
    StableHlo.ternary main_v9 main_v11 main_arg3 main_v12 (select : (⟨S32x256, .i1⟩ : BufTy).Contents (Elt F) → (⟨S32x256, .i32⟩ : BufTy).Contents (Elt F) → (⟨S32x256, .i32⟩ : BufTy).Contents (Elt F) → (⟨S32x256, .i32⟩ : BufTy).Contents (Elt F)),
    StableHlo.unary main_v12 main_v13 (broadcastInDim S32x256x1 ![0, 1] bcast_S32x256_S32x256x1_0_1 : (⟨S32x256, .i32⟩ : BufTy).Contents (Elt F) → (⟨S32x256x1, .i32⟩ : BufTy).Contents (Elt F)),
    StableHlo.binary main_arg2 main_v13 main_v14 ((fun x i => Host.gather gather_S512x32x16x128_S32x256x1_S32x256x32x16x128_234_0_n_n_0_2_13216128 x i) : (⟨S512x32x16x128, .f32⟩ : BufTy).Contents (Elt F) → (⟨S32x256x1, .i32⟩ : BufTy).Contents (Elt F) → (⟨S32x256x32x16x128, .f32⟩ : BufTy).Contents (Elt F)),
    StableHlo.reshape main_v14 main_v15 (rfl : (.f32 : EltTy) = .f32) shapeCasts_S32x256x32x16x128_S32x8192x16x128 ]

/-- The scaled scores. -/
abbrev scores : List (HloOp τ sig (Elt F)) :=
  [ StableHlo.binary main_arg0 main_v7 main_v16 ((fun l r => Host.dotGeneral dot_S32x1x16x128_S32x8192x16x128_S32x16x1x8192_3_3_1_1_02_02 none l r) : (⟨S32x1x16x128, .f32⟩ : BufTy).Contents (Elt F) → (⟨S32x8192x16x128, .f32⟩ : BufTy).Contents (Elt F) → (⟨S32x16x1x8192, .f32⟩ : BufTy).Contents (Elt F)),
    StableHlo.nullary main_cst (constant S_ .f32 0x3DB504F3#32),
    StableHlo.unary main_cst main_v17 (broadcastInDim S32x16x1x8192 ![] bcast_S_S32x16x1x8192 : (⟨S_, .f32⟩ : BufTy).Contents (Elt F) → (⟨S32x16x1x8192, .f32⟩ : BufTy).Contents (Elt F)),
    StableHlo.binary main_v16 main_v17 main_v18 (mulf : (⟨S32x16x1x8192, .f32⟩ : BufTy).Contents (Elt F) → (⟨S32x16x1x8192, .f32⟩ : BufTy).Contents (Elt F) → (⟨S32x16x1x8192, .f32⟩ : BufTy).Contents (Elt F)),
    StableHlo.nullary main_v19 (iotaInDim S32x1x1x8192 32 3),
    StableHlo.nullary main_c_3 (constantI S_ 32 32#32) ]

/-- The block of each position. -/
abbrev quotients : List (HloOp τ sig (Elt F)) :=
  [ StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S32x1x1x8192, .i32⟩) (broadcastInDim S32x1x1x8192 ![] bcast_S_S32x1x1x8192),
    StableHlo.TRef.binary (.of main_v19 : StableHlo.TRef sig ⟨S32x1x1x8192, .i32⟩) (.of main_call0_v1 : StableHlo.TRef sig ⟨S32x1x1x8192, .i32⟩) (.of main_call0_v2 : StableHlo.TRef sig ⟨S32x1x1x8192, .i32⟩) Host.divsi,
    StableHlo.TRef.unary (.of main_v19 : StableHlo.TRef sig ⟨S32x1x1x8192, .i32⟩) (.of main_call0_v3 : StableHlo.TRef sig ⟨S32x1x1x8192, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S32x1x1x8192, .i32⟩) (broadcastInDim S32x1x1x8192 ![] bcast_S_S32x1x1x8192),
    StableHlo.TRef.binary (.of main_call0_v3 : StableHlo.TRef sig ⟨S32x1x1x8192, .i32⟩) (.of main_call0_v5 : StableHlo.TRef sig ⟨S32x1x1x8192, .i32⟩) (.of main_call0_v6 : StableHlo.TRef sig ⟨S32x1x1x8192, .i1⟩) (cmpi .ne),
    StableHlo.TRef.unary (.of main_call0_v0 : StableHlo.TRef sig ⟨S_, .i32⟩) (.of main_call0_v7 : StableHlo.TRef sig ⟨S32x1x1x8192, .i32⟩) (broadcastInDim S32x1x1x8192 ![] bcast_S_S32x1x1x8192),
    StableHlo.TRef.binary (.of main_v19 : StableHlo.TRef sig ⟨S32x1x1x8192, .i32⟩) (.of main_call0_v7 : StableHlo.TRef sig ⟨S32x1x1x8192, .i32⟩) (.of main_call0_v8 : StableHlo.TRef sig ⟨S32x1x1x8192, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S32x1x1x8192, .i32⟩) (broadcastInDim S32x1x1x8192 ![] bcast_S_S32x1x1x8192),
    StableHlo.TRef.binary (.of main_call0_v8 : StableHlo.TRef sig ⟨S32x1x1x8192, .i32⟩) (.of main_call0_v9 : StableHlo.TRef sig ⟨S32x1x1x8192, .i32⟩) (.of main_call0_v10 : StableHlo.TRef sig ⟨S32x1x1x8192, .i1⟩) (cmpi .ne),
    StableHlo.TRef.binary (.of main_call0_v6 : StableHlo.TRef sig ⟨S32x1x1x8192, .i1⟩) (.of main_call0_v10 : StableHlo.TRef sig ⟨S32x1x1x8192, .i1⟩) (.of main_call0_v11 : StableHlo.TRef sig ⟨S32x1x1x8192, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S32x1x1x8192, .i32⟩) (broadcastInDim S32x1x1x8192 ![] bcast_S_S32x1x1x8192),
    StableHlo.TRef.binary (.of main_call0_v2 : StableHlo.TRef sig ⟨S32x1x1x8192, .i32⟩) (.of main_call0_v12 : StableHlo.TRef sig ⟨S32x1x1x8192, .i32⟩) (.of main_call0_v13 : StableHlo.TRef sig ⟨S32x1x1x8192, .i32⟩) subi,
    StableHlo.TRef.ternary (.of main_call0_v11 : StableHlo.TRef sig ⟨S32x1x1x8192, .i1⟩) (.of main_call0_v13 : StableHlo.TRef sig ⟨S32x1x1x8192, .i32⟩) (.of main_call0_v2 : StableHlo.TRef sig ⟨S32x1x1x8192, .i32⟩) (.of main_v20 : StableHlo.TRef sig ⟨S32x1x1x8192, .i32⟩) select ]

/-- The mask on the scores. -/
abbrev masking : List (HloOp τ sig (Elt F)) :=
  [ StableHlo.unary main_arg4 main_v21 (broadcastInDim S32x1x1x1 ![0] bcast_S32_S32x1x1x1_0 : (⟨S32, .i32⟩ : BufTy).Contents (Elt F) → (⟨S32x1x1x1, .i32⟩ : BufTy).Contents (Elt F)),
    StableHlo.unary main_v21 main_v22 (broadcastInDim S32x1x1x8192 ![0, 1, 2, 3] bcast_S32x1x1x1_S32x1x1x8192_0_1_2_3 : (⟨S32x1x1x1, .i32⟩ : BufTy).Contents (Elt F) → (⟨S32x1x1x8192, .i32⟩ : BufTy).Contents (Elt F)),
    StableHlo.binary main_v20 main_v22 main_v23 (cmpi .slt : (⟨S32x1x1x8192, .i32⟩ : BufTy).Contents (Elt F) → (⟨S32x1x1x8192, .i32⟩ : BufTy).Contents (Elt F) → (⟨S32x1x1x8192, .i1⟩ : BufTy).Contents (Elt F)),
    StableHlo.nullary main_cst_4 (constant S_ .f32 0xFF800000#32),
    StableHlo.TRef.unary (.of main_cst_4 : StableHlo.TRef sig ⟨S_, .f32⟩) (.of main_call1_v0 : StableHlo.TRef sig ⟨S_, .f32⟩) id,
    StableHlo.TRef.unary (.of main_v23 : StableHlo.TRef sig ⟨S32x1x1x8192, .i1⟩) (.of main_call1_v1 : StableHlo.TRef sig ⟨S32x16x1x8192, .i1⟩) (broadcastInDim S32x16x1x8192 ![0, 1, 2, 3] bcast_S32x1x1x8192_S32x16x1x8192_0_1_2_3),
    StableHlo.TRef.unary (.of main_call1_v0 : StableHlo.TRef sig ⟨S_, .f32⟩) (.of main_call1_v2 : StableHlo.TRef sig ⟨S32x16x1x8192, .f32⟩) (broadcastInDim S32x16x1x8192 ![] bcast_S_S32x16x1x8192),
    StableHlo.TRef.ternary (.of main_call1_v1 : StableHlo.TRef sig ⟨S32x16x1x8192, .i1⟩) (.of main_v18 : StableHlo.TRef sig ⟨S32x16x1x8192, .f32⟩) (.of main_call1_v2 : StableHlo.TRef sig ⟨S32x16x1x8192, .f32⟩) (.of main_v24 : StableHlo.TRef sig ⟨S32x16x1x8192, .f32⟩) select ]

/-- The weights, and the weighted sum. -/
abbrev softmax : List (HloOp τ sig (Elt F)) :=
  [ StableHlo.nullary main_cst_5 (constant S_ .f32 0xFF800000#32),
    StableHlo.binary main_v24 main_cst_5 main_v25 ((fun x v => Host.reduce FloatOps.maximumf x v reducesTo_S32x16x1x8192_S32x16x1_d3 h_S_) : (⟨S32x16x1x8192, .f32⟩ : BufTy).Contents (Elt F) → (⟨S_, .f32⟩ : BufTy).Contents (Elt F) → (⟨S32x16x1, .f32⟩ : BufTy).Contents (Elt F)),
    StableHlo.unary main_v25 main_v26 (broadcastInDim S32x16x1x1 ![0, 1, 2] bcast_S32x16x1_S32x16x1x1_0_1_2 : (⟨S32x16x1, .f32⟩ : BufTy).Contents (Elt F) → (⟨S32x16x1x1, .f32⟩ : BufTy).Contents (Elt F)),
    StableHlo.unary main_v26 main_v27 (broadcastInDim S32x16x1x8192 ![0, 1, 2, 3] bcast_S32x16x1x1_S32x16x1x8192_0_1_2_3 : (⟨S32x16x1x1, .f32⟩ : BufTy).Contents (Elt F) → (⟨S32x16x1x8192, .f32⟩ : BufTy).Contents (Elt F)),
    StableHlo.binary main_v24 main_v27 main_v28 (subf : (⟨S32x16x1x8192, .f32⟩ : BufTy).Contents (Elt F) → (⟨S32x16x1x8192, .f32⟩ : BufTy).Contents (Elt F) → (⟨S32x16x1x8192, .f32⟩ : BufTy).Contents (Elt F)),
    StableHlo.unary main_v28 main_v29 (Host.exp : (⟨S32x16x1x8192, .f32⟩ : BufTy).Contents (Elt F) → (⟨S32x16x1x8192, .f32⟩ : BufTy).Contents (Elt F)),
    StableHlo.nullary main_cst_6 (constant S_ .f32 0x00000000#32),
    StableHlo.binary main_v29 main_cst_6 main_v30 ((fun x v => Host.reduceAdd x v reducesTo_S32x16x1x8192_S32x16x1_d3 h_S_) : (⟨S32x16x1x8192, .f32⟩ : BufTy).Contents (Elt F) → (⟨S_, .f32⟩ : BufTy).Contents (Elt F) → (⟨S32x16x1, .f32⟩ : BufTy).Contents (Elt F)),
    StableHlo.unary main_v30 main_v31 (broadcastInDim S32x16x1x1 ![0, 1, 2] bcast_S32x16x1_S32x16x1x1_0_1_2 : (⟨S32x16x1, .f32⟩ : BufTy).Contents (Elt F) → (⟨S32x16x1x1, .f32⟩ : BufTy).Contents (Elt F)),
    StableHlo.unary main_v31 main_v32 (broadcastInDim S32x16x1x8192 ![0, 1, 2, 3] bcast_S32x16x1x1_S32x16x1x8192_0_1_2_3 : (⟨S32x16x1x1, .f32⟩ : BufTy).Contents (Elt F) → (⟨S32x16x1x8192, .f32⟩ : BufTy).Contents (Elt F)),
    StableHlo.binary main_v29 main_v32 main_v33 (Host.divf : (⟨S32x16x1x8192, .f32⟩ : BufTy).Contents (Elt F) → (⟨S32x16x1x8192, .f32⟩ : BufTy).Contents (Elt F) → (⟨S32x16x1x8192, .f32⟩ : BufTy).Contents (Elt F)),
    StableHlo.binary main_v15 main_v33 main_v34 ((fun l r => Host.dotGeneral dot_S32x8192x16x128_S32x16x1x8192_S32x16x128x1_1_3_3_2_02_01 none l r) : (⟨S32x8192x16x128, .f32⟩ : BufTy).Contents (Elt F) → (⟨S32x16x1x8192, .f32⟩ : BufTy).Contents (Elt F) → (⟨S32x16x128x1, .f32⟩ : BufTy).Contents (Elt F)),
    StableHlo.unary main_v34 main_v35 ((transpose S32x1x16x128 [0, 3, 1, 2] · transposes_S32x16x128x1_S32x1x16x128_0_3_1_2) : (⟨S32x16x128x1, .f32⟩ : BufTy).Contents (Elt F) → (⟨S32x1x16x128, .f32⟩ : BufTy).Contents (Elt F)) ]

/-- All of it. -/
abbrev ops : List (HloOp τ sig (Elt F)) := gathers ++ (scores ++ (quotients ++ (masking ++ softmax)))

theorem main_eq (c : Dev nD) : main (F := F) c = seq ops := rfl

theorem gathers_sub : (gathers : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., reshape_bufs_sub ..⟩

theorem scores_sub : (scores : List (HloOp τ sig (Elt F))).Forall fun op => op.bufs ⊆ tcRefs τ sig :=
  ⟨binary_bufs_sub .., nullary_bufs_sub .., unary_bufs_sub .., binary_bufs_sub .., nullary_bufs_sub .., nullary_bufs_sub ..⟩

theorem quotients_sub : (quotients : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem masking_sub : (masking : List (HloOp τ sig (Elt F))).Forall fun op => op.bufs ⊆ tcRefs τ sig :=
  ⟨unary_bufs_sub .., unary_bufs_sub .., binary_bufs_sub .., nullary_bufs_sub .., unary_bufs_sub .., unary_bufs_sub .., unary_bufs_sub .., ternary_bufs_sub ..⟩

theorem softmax_sub : (softmax : List (HloOp τ sig (Elt F))).Forall fun op => op.bufs ⊆ tcRefs τ sig :=
  ⟨nullary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub ..⟩

theorem ops_sub : (ops : List (HloOp τ sig (Elt F))).Forall fun op => op.bufs ⊆ tcRefs τ sig := by
  simp only [ops, List.forall_append]
  exact ⟨gathers_sub, scores_sub, quotients_sub, masking_sub, softmax_sub⟩

theorem scopedRefs_eq : (Finset.univ.filter fun b : Ref sig .tc => b.isScoped) = ∅ := by decide
theorem scopedSems_eq : (Finset.univ.filter fun sm : SemLoc sig => sm.isScoped .tc) = ∅ := by decide

theorem ops_fresh : ∀ op ∈ (ops : List (HloOp τ sig (Elt F))), op.fresh = ∅ := by
  have h : (ops : List (HloOp τ sig (Elt F))).Forall fun op => op.fresh = ∅ := forall_fresh_of_map rfl
  exact List.forall_iff_forall_mem.mp h

/-- Every execution ends with every buffer at the fold of the operations. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

theorem after_append (l₁ l₂ : List (HloOp τ sig (Elt F))) (V : Valuation τ sig (Elt F)) : after (l₁ ++ l₂) V = after l₂ (after l₁ V) := by
  induction l₁ generalizing V with
  | nil => rfl
  | cons op l ih => exact ih _

/-- One stretch after another. -/
theorem stages (V : Valuation τ sig (Elt F)) :
    after ops V = after softmax (after masking (after quotients (after scores (after gathers V)))) := by
  rw [after_append, after_append, after_append, after_append]

end Cert.RProof

end
-- ==== Proof.Sums.lean ====
/-
  Sums used for the value: a sum over a compacted list, sums over the devices' shares, and the softmax with and
  without its maximum.
-/
module

public import proofs.«01_k».proof.Proof.Compact

@[expose] public section

noncomputable section

namespace Cert.KProof

open Idealize.ShloMosaic

/-- A sum over the places of a compacted list is the sum over the kept entries. -/
theorem sum_rank {n : ℕ} (M : Fin n → Prop) [DecidablePred M] (N : ℕ) (hN : (Finset.univ.filter M).card = N) (F : ℕ → EReal) :
    ∑ d ∈ Finset.range N, F d = ∑ j, if M j then F (rank M j.val - 1) else 0 := by
  rw [← Finset.sum_filter]
  symm
  have hpos : ∀ j, M j → 0 < rank M j.val := fun j hj =>
    Finset.card_pos.2 ⟨j, by simp [hj]⟩
  have hle : ∀ j, M j → rank M j.val ≤ N := fun j _ => by
    rw [← hN]
    exact Finset.card_le_card fun x hx => by
      simp only [Finset.mem_filter, Finset.mem_univ, true_and] at hx ⊢
      exact hx.2
  have hmap : ∀ j ∈ Finset.univ.filter M, rank M j.val - 1 ∈ Finset.range N := fun j hj => by
    have hj' := (Finset.mem_filter.1 hj).2
    have := hpos j hj'
    have := hle j hj'
    exact Finset.mem_range.2 (by omega)
  have hinj : Set.InjOn (fun j : Fin n => rank M j.val - 1) (Finset.univ.filter M : Finset (Fin n)) := by
    intro a ha b hb h
    have ha' := (Finset.mem_filter.1 (Finset.mem_coe.1 ha)).2
    have hb' := (Finset.mem_filter.1 (Finset.mem_coe.1 hb)).2
    have h1 := hpos a ha'
    have h2 := hpos b hb'
    have h3 : rank M a.val - 1 = rank M b.val - 1 := h
    exact rank_inj M ha' hb' (by omega)
  have himg : (Finset.univ.filter M).image (fun j : Fin n => rank M j.val - 1) = Finset.range N := by
    refine Finset.eq_of_subset_of_card_le (fun x hx => ?_) ?_
    · obtain ⟨j, hj, rfl⟩ := Finset.mem_image.1 hx
      exact hmap j hj
    · rw [Finset.card_image_of_injOn hinj, hN, Finset.card_range]
  rw [← himg, Finset.sum_image hinj]

/-- A sum over `a * b` places, by quotient and remainder. -/
theorem sum_parts {α : Type} [AddCommMonoid α] (a b n : ℕ) (hn : n = a * b) (F : Fin a → Fin b → α) (G : Fin n → α)
    (hG : ∀ (p : Fin n) (i : Fin a) (j : Fin b), p.val = b * i.val + j.val → G p = F i j) : ∑ p : Fin n, G p = ∑ i : Fin a, ∑ j : Fin b, F i j := by
  subst hn
  rw [← finProdFinEquiv.sum_comp, Fintype.sum_prod_type]
  refine Finset.sum_congr rfl fun i _ => Finset.sum_congr rfl fun j _ => hG _ i j ?_
  exact Nat.add_comm _ _

/-- Eight devices that take every eighth piece take all of them. -/
theorem sum_shares (n : ℕ) (F : ℕ → EReal) :
    ∑ x : Fin 8, ∑ j ∈ Finset.range ((n + 7 - x.val) / 8), F (x.val + 8 * j) = ∑ g ∈ Finset.range n, F g := by
  induction n with
  | zero =>
    refine (Finset.sum_eq_zero fun x _ => ?_).trans (Finset.sum_range_zero F).symm
    rw [show (0 + 7 - x.val) / 8 = 0 by omega]
    rfl
  | succ n ih =>
    rw [Finset.sum_range_succ, ← ih]
    have h : ∀ x : Fin 8, ∑ j ∈ Finset.range ((n + 1 + 7 - x.val) / 8), F (x.val + 8 * j)
        = (∑ j ∈ Finset.range ((n + 7 - x.val) / 8), F (x.val + 8 * j)) + if x = ⟨n % 8, by omega⟩ then F n else 0 := by
      intro x
      by_cases hx : x = ⟨n % 8, by omega⟩
      · have hv : x.val = n % 8 := congrArg Fin.val hx
        have := x.isLt
        rw [if_pos hx, show (n + 1 + 7 - x.val) / 8 = (n + 7 - x.val) / 8 + 1 by omega, Finset.sum_range_succ,
          show x.val + 8 * ((n + 7 - x.val) / 8) = n by omega]
      · have hv : x.val ≠ n % 8 := fun h => hx (Fin.ext h)
        have := x.isLt
        rw [if_neg hx, add_zero, show (n + 1 + 7 - x.val) / 8 = (n + 7 - x.val) / 8 by omega]
    rw [Finset.sum_congr rfl fun x _ => h x, Finset.sum_add_distrib, Finset.sum_ite_eq' Finset.univ, if_pos (Finset.mem_univ _)]

theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr) (EReal.coe_ne_top r), mul_comm, mul_comm (r : EReal)]

/-- The weight of a place: the exponential of its score, zero where the mask drops it. -/
def wt (p : Prop) [Decidable p] (s : ℝ) : ℝ := if p then Real.exp s else 0

theorem wt_nonneg (p : Prop) [Decidable p] (s : ℝ) : 0 ≤ wt p s := by
  unfold wt
  split
  · exact (Real.exp_pos s).le
  · exact le_rfl

/-- The softmax with its maximum taken off and its weights divided first is the plain one, divided last. -/
theorem softmax_eq {ι : Type} [Fintype ι] (valid : ι → Prop) [DecidablePred valid] (s : ι → ℝ) (v : ι → EReal) (i₀ : ι) (h₀ : valid i₀)
    (μ : ℝ) (P : ι → EReal) (hP : ∀ i, P i = Ideal.exp ((if valid i then (s i : EReal) else ⊥) - (μ : EReal))) :
    ∑ i, v i * Ideal.div (P i) (∑ j, P j)
      = Ideal.div (∑ i, ((wt (valid i) (s i) : ℝ) : EReal) * v i) (∑ i, ((wt (valid i) (s i) : ℝ) : EReal)) := by
  have hP' : ∀ i, P i = ((wt (valid i) (s i) * Real.exp (-μ) : ℝ) : EReal) := by
    intro i
    rw [hP i]
    unfold wt
    by_cases h : valid i
    · rw [if_pos h, if_pos h, ← EReal.coe_sub, Ideal.exp_coe, ← Real.exp_add, sub_eq_add_neg]
    · rw [if_neg h, if_neg h, zero_mul, EReal.bot_sub, Ideal.exp_bot]; rfl
  have hW : 0 < ∑ i, wt (valid i) (s i) := by
    refine Finset.sum_pos' (fun i _ => wt_nonneg _ _) ⟨i₀, Finset.mem_univ _, ?_⟩
    unfold wt
    rw [if_pos h₀]
    exact Real.exp_pos _
  have he := Real.exp_pos (-μ)
  have hZ : ∑ j, P j = (((∑ i, wt (valid i) (s i)) * Real.exp (-μ) : ℝ) : EReal) := by
    rw [Finset.sum_mul, coe_sum_real]
    exact Finset.sum_congr rfl fun i _ => hP' i
  have hdiv : ∀ (x : EReal) (y : ℝ), 0 < y → Ideal.div x (y : EReal) = x * ((y⁻¹ : ℝ) : EReal) := by
    intro x y hy
    unfold Ideal.div
    rw [if_neg (by exact_mod_cast hy.ne'), EReal.coe_inv]
  rw [hZ, ← coe_sum_real, hdiv _ _ hW, sum_mul_coe _ _ _ (inv_pos.2 hW).le]
  refine Finset.sum_congr rfl fun i _ => ?_
  have e : wt (valid i) (s i) * Real.exp (-μ) * ((∑ i, wt (valid i) (s i)) * Real.exp (-μ))⁻¹
      = wt (valid i) (s i) * (∑ i, wt (valid i) (s i))⁻¹ := by
    field_simp
  rw [hdiv _ _ (mul_pos hW he), hP' i, ← EReal.coe_mul, e, EReal.coe_mul, ← mul_assoc, mul_comm (v i)]

end Cert.KProof

end
-- ==== Proof.RVal.lean ====
/-
  The reference's operations read at an index.
-/
module

public import proofs.«01_k».proof.Proof.Ref
public import proofs.«01_k».proof.Proof.Sums
public import Idealize.ShloMosaic.Lib.Pointwise
public import Idealize.ShloMosaic.Lib.IdealHost
public import Idealize.ShloMosaic.Lib.Routing.Ops

@[expose] public section

set_option maxRecDepth 8192

noncomputable section

namespace Cert.RProof

open Cert.ReferenceIdeal Cert.ReferenceIdeal.Gen
open Idealize.ShloMosaic Idealize.ShloMosaic.TcCoe Idealize.ShloMosaic.StableHlo

/-! ## A gather of pages -/

section Gather
variable {α : Type}

abbrev pageDims (N B C R H D : ℕ)
    (wf : GatherDims.WF ⟨4, ![N, R, H, D]⟩ ⟨3, ![B, C, 1]⟩ ⟨5, ![B, C, R, H, D]⟩ [2, 3, 4] [0] [] [0] [] 2 ![1, R, H, D]) :
    GatherDims ⟨4, ![N, R, H, D]⟩ ⟨3, ![B, C, 1]⟩ ⟨5, ![B, C, R, H, D]⟩ where
  offsetDims := [2, 3, 4]
  collapsedSliceDims := [0]
  operandBatchingDims := []
  startIndicesBatchingDims := []
  startIndexMap := [0]
  indexVectorDim := 2
  sliceSizes := ![1, R, H, D]
  wf := wf

/-- The gather read at a place: the page that the table names, its number clamped. -/
theorem gather_pages {N B C R H D w : ℕ} (hN : 0 < N)
    (wf : GatherDims.WF ⟨4, ![N, R, H, D]⟩ ⟨3, ![B, C, 1]⟩ ⟨5, ![B, C, R, H, D]⟩ [2, 3, 4] [0] [] [0] [] 2 ![1, R, H, D])
    (x : (⟨4, ![N, R, H, D]⟩ : Shape).Idx → α) (idx : IVec ⟨3, ![B, C, 1]⟩ w) (b : Fin B) (j : Fin C) (r : Fin R) (h : Fin H) (d : Fin D) :
    Host.gather (pageDims N B C R H D wf) x idx (ix5 b j r h d)
      = x (ix4 ⟨min (idx (ix3 b j 0)).toInt.toNat (N - 1), by omega⟩ r h d) := by
  unfold Host.gather
  congr 1
  funext a
  refine Fin.ext ?_
  show (pageDims N B C R H D wf).start (ix5 b j r h d) idx a + (pageDims N B C R H D wf).batchCoord (ix5 b j r h d) a
    + (pageDims N B C R H D wf).offCoord (ix5 b j r h d) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    have hm : ⟨0, h0⟩ ∈ (pageDims N B C R H D wf).startIndexMap := List.mem_singleton.mpr rfl
    rw [dif_pos hm]
    have hsi : (pageDims N B C R H D wf).siIdx (ix5 b j r h d) ⟨List.idxOf ⟨0, h0⟩ (pageDims N B C R H D wf).startIndexMap,
        List.idxOf_lt_length_iff.2 hm⟩ = ix3 b j 0 := by
      funext b; refine Fin.ext ?_
      match b with
      | ⟨0, _⟩ => rfl
      | ⟨1, _⟩ => rfl
      | ⟨2, _⟩ => rfl
    exact congrArg (fun z => min (idx z).toInt.toNat (N - 1)) hsi
  | ⟨1, hk⟩ =>
    unfold GatherDims.start
    rw [dif_neg (show ⟨1, hk⟩ ∉ (pageDims N B C R H D wf).startIndexMap from
      fun h => absurd (congrArg Fin.val (List.mem_singleton.mp h)) (by simp))]
    exact (Nat.zero_add _).trans rfl
  | ⟨2, hk⟩ =>
    unfold GatherDims.start
    rw [dif_neg (show ⟨2, hk⟩ ∉ (pageDims N B C R H D wf).startIndexMap from
      fun h => absurd (congrArg Fin.val (List.mem_singleton.mp h)) (by simp))]
    exact (Nat.zero_add _).trans rfl
  | ⟨3, hk⟩ =>
    unfold GatherDims.start
    rw [dif_neg (show ⟨3, hk⟩ ∉ (pageDims N B C R H D wf).startIndexMap from
      fun h => absurd (congrArg Fin.val (List.mem_singleton.mp h)) (by simp))]
    exact (Nat.zero_add _).trans rfl

end Gather

/-! ## What each stretch leaves -/

section Reads
variable (W : Valuation τ sig (Elt Ideal))

/-- The page number, wrapped if negative. -/
def wrap (bt : IVec S32x256 32) : IVec S32x256 32 :=
  select (cmpi .slt bt (broadcastInDim S32x256 ![] bcast_S_S32x256 (constantI S_ 32 0#32)))
    (addi bt (broadcastInDim S32x256 ![] bcast_S_S32x256 (constantI S_ 32 512#32))) bt

def pages (K : FVec Ideal S512x32x16x128 .f32) (bt : IVec S32x256 32) : FVec Ideal S32x8192x16x128 .f32 :=
  shapeCast S32x8192x16x128 (Host.gather gather_S512x32x16x128_S32x256x1_S32x256x32x16x128_234_0_n_n_0_2_13216128 K
    (broadcastInDim S32x256x1 ![0, 1] bcast_S32x256_S32x256x1_0_1 (wrap bt))) shapeCasts_S32x256x32x16x128_S32x8192x16x128

theorem read_v7 : after gathers W main_v7 = pages (W main_arg1) (W main_arg3) := by
  after_results
  try rfl

theorem read_v15 : after gathers W main_v15 = pages (W main_arg2) (W main_arg3) := by
  after_results
  try rfl

theorem read_v18 : after scores W main_v18 =
    mulf (F := Ideal) (φ := .f32) (Host.dotGeneral (F := Ideal) (φ₁ := .f32) (φ₂ := .f32) dot_S32x1x16x128_S32x8192x16x128_S32x16x1x8192_3_3_1_1_02_02 none
      (W main_arg0 : FVec Ideal S32x1x16x128 .f32) (W main_v7 : FVec Ideal S32x8192x16x128 .f32))
      (broadcastInDim S32x16x1x8192 ![] bcast_S_S32x16x1x8192 (constant (F := Ideal) S_ .f32 0x3DB504F3#32)) := by
  after_results
  try rfl

theorem read_v19 : after scores W main_v19 = iotaInDim S32x1x1x8192 32 3 := by
  after_results
  try rfl

theorem read_c3 : after scores W main_c_3 = constantI S_ 32 32#32 := by
  after_results
  try rfl

def quot (x : IVec S32x1x1x8192 32) (k : IVec S_ 32) : IVec S32x1x1x8192 32 :=
  select (andi (cmpi .ne (signi x) (broadcastInDim S32x1x1x8192 ![] bcast_S_S32x1x1x8192 (signi k)))
      (cmpi .ne (Host.remsi x (broadcastInDim S32x1x1x8192 ![] bcast_S_S32x1x1x8192 k)) (broadcastInDim S32x1x1x8192 ![] bcast_S_S32x1x1x8192 (constantI S_ 32 0#32))))
    (subi (Host.divsi x (broadcastInDim S32x1x1x8192 ![] bcast_S_S32x1x1x8192 k)) (broadcastInDim S32x1x1x8192 ![] bcast_S_S32x1x1x8192 (constantI S_ 32 1#32)))
    (Host.divsi x (broadcastInDim S32x1x1x8192 ![] bcast_S_S32x1x1x8192 k))

theorem read_v20 : after quotients W main_v20 = quot (W main_v19) (W main_c_3) := by
  after_results
  try rfl

theorem read_v24 : after masking W main_v24 =
    select (broadcastInDim S32x16x1x8192 ![0, 1, 2, 3] bcast_S32x1x1x8192_S32x16x1x8192_0_1_2_3
      (cmpi .slt (W main_v20 : IVec S32x1x1x8192 32) (broadcastInDim S32x1x1x8192 ![0, 1, 2, 3] bcast_S32x1x1x1_S32x1x1x8192_0_1_2_3
        (broadcastInDim S32x1x1x1 ![0] bcast_S32_S32x1x1x1_0 (W main_arg4 : IVec S32 32)))))
      (W main_v18 : FVec Ideal S32x16x1x8192 .f32) (broadcastInDim S32x16x1x8192 ![] bcast_S_S32x16x1x8192 (constant (F := Ideal) S_ .f32 0xFF800000#32)) := by
  after_results
  try rfl

def top (S : FVec Ideal S32x16x1x8192 .f32) : FVec Ideal S32x16x1 .f32 :=
  Host.reduce (FloatOps.maximumf (F := Ideal) (φ := .f32)) S (constant (F := Ideal) S_ .f32 0xFF800000#32) reducesTo_S32x16x1x8192_S32x16x1_d3 h_S_

def exps (S : FVec Ideal S32x16x1x8192 .f32) : FVec Ideal S32x16x1x8192 .f32 :=
  Host.exp (F := Ideal) (φ := .f32) (subf (F := Ideal) (φ := .f32) S
    (broadcastInDim S32x16x1x8192 ![0, 1, 2, 3] bcast_S32x16x1x1_S32x16x1x8192_0_1_2_3 (broadcastInDim S32x16x1x1 ![0, 1, 2] bcast_S32x16x1_S32x16x1x1_0_1_2 (top S))))

def outR (P : FVec Ideal S32x16x1x8192 .f32) (V : FVec Ideal S32x8192x16x128 .f32) : FVec Ideal S32x1x16x128 .f32 :=
  transpose S32x1x16x128 [0, 3, 1, 2]
    (Host.dotGeneral (F := Ideal) (φ₁ := .f32) (φ₂ := .f32) dot_S32x8192x16x128_S32x16x1x8192_S32x16x128x1_1_3_3_2_02_01 none V
      (Host.divf (F := Ideal) (φ := .f32) P
        (broadcastInDim S32x16x1x8192 ![0, 1, 2, 3] bcast_S32x16x1x1_S32x16x1x8192_0_1_2_3 (broadcastInDim S32x16x1x1 ![0, 1, 2] bcast_S32x16x1_S32x16x1x1_0_1_2
          (Host.reduceAdd (F := Ideal) (φ := .f32) P (constant (F := Ideal) S_ .f32 0x00000000#32) reducesTo_S32x16x1x8192_S32x16x1_d3 h_S_)))))
    transposes_S32x16x128x1_S32x1x16x128_0_3_1_2

theorem read_v35 : after softmax W main_v35 = outR (exps (W main_v24)) (W main_v15) := by
  after_results
  try rfl
end Reads

/-! ## At an index -/

theorem wrap_at (bt : IVec S32x256 32) (b : Fin 32) (j : Fin 256) (hb : 0 ≤ (bt (ix2 b j)).toInt) :
    broadcastInDim S32x256x1 ![0, 1] bcast_S32x256_S32x256x1_0_1 (wrap bt) (ix3 b j 0) = bt (ix2 b j) := by
  unfold wrap
  pointwise
  have e : IntOp.cmpi CmpIPredicate.slt (bt (ix2 b j)) 0#32 = 0#1 := by
    show BitVec.ofBool ((bt (ix2 b j)).slt 0#32) = 0#1
    rw [BitVec.slt, decide_eq_false (by simpa using hb)]
    rfl
  rw [e]
  rfl

theorem pages_at (K : FVec Ideal S512x32x16x128 .f32) (bt : IVec S32x256 32) (b : Fin 32) (p : Fin 8192) (h : Fin 16) (d : Fin 128)
    (hb : 0 ≤ (bt (ix2 b ⟨p.val / 32, by omega⟩)).toInt) :
    pages K bt (ix4 b p h d) = K (ix4 ⟨min (bt (ix2 b ⟨p.val / 32, by omega⟩)).toInt.toNat 511, by omega⟩ ⟨p.val % 32, by omega⟩ h d) := by
  unfold pages
  pointwise
  refine (gather_pages (by omega) _ K _ b ⟨p.val / 32, by omega⟩ ⟨p.val % 32, by omega⟩ h d).trans ?_
  have e := wrap_at bt b ⟨p.val / 32, by omega⟩ hb
  refine congrArg (fun z => K (ix4 z ⟨p.val % 32, by omega⟩ h d)) (Fin.ext ?_)
  show min (BitVec.toInt _).toNat (512 - 1) = _
  rw [e]

theorem quot_val (x : S32x1x1x8192.Idx) : quot (iotaInDim S32x1x1x8192 32 3) (constantI S_ 32 32#32) x = BitVec.ofNat 32 ((x 3).val / 32) := by
  have h3 : (x 3).val < 8192 := (x 3).isLt
  exact Routing.pyDiv_ap bcast_S_S32x1x1x8192 _ _ x (a := (x 3).val) (b := 32) rfl rfl (by omega) (by omega) (by omega)

theorem low_word : Ideal.ofBits .f32 0xFF800000#32 = ⊥ := by
  simp [Ideal.ofBits, Ideal.ieee]

theorem top_real (S : FVec Ideal S32x16x1x8192 .f32) (b : Fin 32) (h : Fin 16) (hS : ∀ p : Fin 8192, (S (ix4 b h 0 p) : EReal) ≠ ⊤)
    (p₀ : Fin 8192) (h₀ : (S (ix4 b h 0 p₀) : EReal) ≠ ⊥) : ∃ μ : ℝ, (top S (ix3 b h 0) : EReal) = (μ : EReal) := by
  have e : (top S (ix3 b h 0) : EReal) = (Finset.univ : Finset (Fin 8192)).sup fun a => (S (ix4 b h 0 a) : EReal) := by
    unfold top
    pointwise
    rw [low_word]
    rfl
  have h1 : (top S (ix3 b h 0) : EReal) ≠ ⊤ := by
    rw [e]
    exact ((Finset.sup_lt_iff bot_lt_top).2 fun p _ => lt_top_iff_ne_top.2 (hS p)).ne
  have h2 : (top S (ix3 b h 0) : EReal) ≠ ⊥ := by
    rw [e]
    intro hh
    have := Finset.le_sup (f := fun a : Fin 8192 => (S (ix4 b h 0 a) : EReal)) (Finset.mem_univ p₀)
    rw [hh, le_bot_iff] at this
    exact h₀ this
  exact ⟨_, (EReal.coe_toReal h1 h2).symm⟩

theorem exps_at (S : FVec Ideal S32x16x1x8192 .f32) (b : Fin 32) (h : Fin 16) (p : Fin 8192) :
    (exps S (ix4 b h 0 p) : EReal) = Ideal.exp ((S (ix4 b h 0 p) : EReal) - (top S (ix3 b h 0) : EReal)) := by
  unfold exps
  pointwise

theorem outR_at (P : FVec Ideal S32x16x1x8192 .f32) (V : FVec Ideal S32x8192x16x128 .f32) (b : Fin 32) (h : Fin 16) (d : Fin 128) :
    (outR P V (ix4 b 0 h d) : EReal) = ∑ p : Fin 8192, (V (ix4 b p h d) : EReal) * Ideal.div (P (ix4 b h 0 p)) (∑ p : Fin 8192, (P (ix4 b h 0 p) : EReal)) := by
  unfold outR
  pointwise

end Cert.RProof

end
-- ==== Proof.Goal.lean ====
/-
  What both programs compute: attention over a paged cache, written once over the whole arrays.
-/
module

public import proofs.«01_k».proof.Proof.Sums
public import Idealize.ShloMosaic.Lib.Layout
public import Idealize.ShloMosaic.Lib.ValueIdx

@[expose] public section

noncomputable section

namespace Cert.Goal

open Idealize.ShloMosaic Cert.KProof

abbrev SQ : Shape := ⟨4, ![32, 1, 16, 128]⟩
abbrev SK : Shape := ⟨4, ![512, 32, 16, 128]⟩
abbrev ST : Shape := ⟨2, ![32, 256]⟩
abbrev SL : Shape := ⟨1, ![32]⟩

variable (Q : SQ.Idx → EReal) (K V : SK.Idx → EReal) (bt : ST.Idx → BitVec 32) (lens : SL.Idx → BitVec 32)

/-- Entry `j` of row `b` of the page table is in use. -/
def Used (b : Fin 32) (j : Fin 256) : Prop := (j.val : ℤ) < (lens (ix1 b)).toInt

instance (b : Fin 32) (j : Fin 256) : Decidable (Used lens b j) := inferInstanceAs (Decidable (_ < _))

/-- The page that entry names. -/
def page (b : Fin 32) (j : Fin 256) : Fin 512 := ⟨min (bt (ix2 b j)).toInt.toNat 511, by omega⟩

/-- The scale of the scores, as a real number. -/
def cc : ℝ := (Ideal.ofBits .f32 0x3DB504F3#32).toReal

/-- A score. -/
def sc (b : Fin 32) (h : Fin 16) (j : Fin 256) (r : Fin 32) : ℝ :=
  ∑ d : Fin 128, (K (ix4 (page bt b j) r h d)).toReal * ((Q (ix4 b 0 h d)).toReal * cc)

/-- A weight: the exponential of the score, or zero where the page is not in use. -/
def wj (b : Fin 32) (h : Fin 16) (j : Fin 256) (r : Fin 32) : EReal := ((wt (Used lens b j) (sc Q K bt b h j r) : ℝ) : EReal)

def num (b : Fin 32) (h : Fin 16) (d : Fin 128) : EReal :=
  ∑ j : Fin 256, ∑ r : Fin 32, wj Q K bt lens b h j r * V (ix4 (page bt b j) r h d)

def den (b : Fin 32) (h : Fin 16) : EReal := ∑ j : Fin 256, ∑ r : Fin 32, wj Q K bt lens b h j r

/-- The result. -/
def answer (b : Fin 32) (h : Fin 16) (d : Fin 128) : EReal := Ideal.div (num Q K V bt lens b h d) (den Q K bt lens b h)

/-- What is taken of the arguments. -/
structure Usable : Prop where
  q : ∀ b h d, ∃ x : ℝ, Q (ix4 b 0 h d) = (x : EReal)
  k : ∀ g r h d, ∃ x : ℝ, K (ix4 g r h d) = (x : EReal)
  page : ∀ b j, Used lens b j → 0 ≤ (bt (ix2 b j)).toInt ∧ (bt (ix2 b j)).toInt < 512
  len : ∀ b, 1 ≤ (lens (ix1 b)).toInt

theorem cc_word : Ideal.ofBits .f32 0x3DB504F3#32 = ((cc : ℝ) : EReal) := by
  unfold cc
  rw [EReal.coe_toReal]
  · simp only [Ideal.ofBits, Ideal.ieee]
    exact EReal.coe_ne_top _
  · simp only [Ideal.ofBits, Ideal.ieee]
    exact EReal.coe_ne_bot _

end Cert.Goal

end
-- ==== Proof.RGoal.lean ====
/-
  The reference's result is the attention over the whole arrays.
-/
module

public import proofs.«01_k».proof.Proof.RVal
public import proofs.«01_k».proof.Proof.Goal

@[expose] public section

set_option maxRecDepth 8192

noncomputable section

namespace Cert.RProof

open Cert.ReferenceIdeal Cert.ReferenceIdeal.Gen
open Idealize.ShloMosaic Idealize.ShloMosaic.TcCoe StableHlo
open Cert.Goal (Usable Used page sc wj num den answer cc)

section Pass
variable (W : Valuation τ sig (Elt Ideal))
theorem pass_gathers0 : after gathers W main_arg0 = W main_arg0 := by after_results
theorem pass_gathers4 : after gathers W main_arg4 = W main_arg4 := by after_results
theorem pass_scores4 : after scores W main_arg4 = W main_arg4 := by after_results
theorem pass_scores15 : after scores W main_v15 = W main_v15 := by after_results
theorem pass_quotients4 : after quotients W main_arg4 = W main_arg4 := by after_results
theorem pass_quotients15 : after quotients W main_v15 = W main_v15 := by after_results
theorem pass_quotients18 : after quotients W main_v18 = W main_v18 := by after_results
theorem pass_masking15 : after masking W main_v15 = W main_v15 := by after_results
end Pass

/-- The scores, masked. -/
def masked (Q : FVec Ideal S32x1x16x128 .f32) (P : FVec Ideal S32x8192x16x128 .f32) (q : IVec S32x1x1x8192 32) (lens : IVec S32 32) : FVec Ideal S32x16x1x8192 .f32 :=
  select (broadcastInDim S32x16x1x8192 ![0, 1, 2, 3] bcast_S32x1x1x8192_S32x16x1x8192_0_1_2_3
      (cmpi .slt q (broadcastInDim S32x1x1x8192 ![0, 1, 2, 3] bcast_S32x1x1x1_S32x1x1x8192_0_1_2_3
        (broadcastInDim S32x1x1x1 ![0] bcast_S32_S32x1x1x1_0 lens))))
    (mulf (F := Ideal) (φ := .f32) (Host.dotGeneral (F := Ideal) (φ₁ := .f32) (φ₂ := .f32) dot_S32x1x16x128_S32x8192x16x128_S32x16x1x8192_3_3_1_1_02_02 none Q P)
      (broadcastInDim S32x16x1x8192 ![] bcast_S_S32x16x1x8192 (constant (F := Ideal) S_ .f32 0x3DB504F3#32)))
    (broadcastInDim S32x16x1x8192 ![] bcast_S_S32x16x1x8192 (constant (F := Ideal) S_ .f32 0xFF800000#32))

theorem result_eq (W : Valuation τ sig (Elt Ideal)) : after ops W main_v35
    = outR (exps (masked (W main_arg0) (pages (W main_arg1) (W main_arg3)) (quot (iotaInDim S32x1x1x8192 32 3) (constantI S_ 32 32#32)) (W main_arg4)))
        (pages (W main_arg2) (W main_arg3)) := by
  rw [stages, read_v35, read_v24, pass_masking15, pass_quotients15, pass_scores15, read_v15, read_v20, read_v19, read_c3, pass_quotients18, read_v18,
    read_v7, pass_gathers0, pass_quotients4, pass_scores4, pass_gathers4]
  rfl

theorem masked_at (Q : FVec Ideal S32x1x16x128 .f32) (P : FVec Ideal S32x8192x16x128 .f32) (q : IVec S32x1x1x8192 32) (lens : IVec S32 32)
    (b : Fin 32) (h : Fin 16) (p : Fin 8192) : (masked Q P q lens (ix4 b h 0 p) : EReal)
      = Scalar.select (IntOp.cmpi .slt (q (ix4 b 0 0 p)) (lens (ix1 b)))
          ((∑ d : Fin 128, (Q (ix4 b 0 h d) : EReal) * (P (ix4 b p h d) : EReal)) * Ideal.ofBits .f32 0x3DB504F3#32) (Ideal.ofBits .f32 0xFF800000#32) := by
  unfold masked
  pointwise

section
variable {Q : Cert.Goal.SQ.Idx → EReal} {K V : Cert.Goal.SK.Idx → EReal} {bt : Cert.Goal.ST.Idx → BitVec 32} {lens : Cert.Goal.SL.Idx → BitVec 32}
variable (hu : Usable Q K bt lens)
include hu

theorem pages_page (X : Cert.Goal.SK.Idx → EReal) (b : Fin 32) (p : Fin 8192) (h : Fin 16) (d : Fin 128) (i : Fin 256) (r : Fin 32) (hp : p.val = 32 * i.val + r.val)
    (hb : Used lens b i) : (pages X bt (ix4 b p h d) : EReal) = X (ix4 (page bt b i) r h d) := by
  have hr := r.isLt
  have hi : (⟨p.val / 32, by omega⟩ : Fin 256) = i := Fin.ext (by show p.val / 32 = i.val; omega)
  have hr' : (⟨p.val % 32, by omega⟩ : Fin 32) = r := Fin.ext (by show p.val % 32 = r.val; omega)
  exact (pages_at X bt b p h d (by rw [hi]; exact (hu.page b i hb).1)).trans (congrArg₂ (fun i r => X (ix4 (page bt b i) r h d)) hi hr')

theorem masked_val (b : Fin 32) (h : Fin 16) (p : Fin 8192) (i : Fin 256) (r : Fin 32) (hp : p.val = 32 * i.val + r.val) :
    (masked Q (pages K bt) (quot (iotaInDim S32x1x1x8192 32 3) (constantI S_ 32 32#32)) lens (ix4 b h 0 p) : EReal)
      = if Used lens b i then ((sc Q K bt b h i r : ℝ) : EReal) else ⊥ := by
  have hr := r.isLt
  have hi := i.isLt
  rw [masked_at, quot_val, low_word, Cert.Goal.cc_word]
  have hq : (ix4 b 0 0 p : S32x1x1x8192.Idx) 3 = p := rfl
  have hs : (BitVec.ofNat 32 (p.val / 32)).slt (lens (ix1 b)) = decide (Used lens b i) := by
    unfold BitVec.slt Used
    congr 1
    have : (BitVec.ofNat 32 (p.val / 32)).toInt = i.val := by
      rw [BitVec.toInt_eq_toNat_cond, BitVec.toNat_ofNat]
      split <;> omega
    rw [this]
  show (if BitVec.ofBool ((BitVec.ofNat 32 (p.val / 32)).slt (lens (ix1 b))) = 1#1 then _ else _) = _
  rw [hs]
  by_cases hus : Used lens b i
  · rw [if_pos hus, if_pos (by rw [decide_eq_true hus]; rfl)]
    have e : ∀ d : Fin 128, (Q (ix4 b 0 h d) : EReal) * (pages K bt (ix4 b p h d) : EReal)
        = (((Q (ix4 b 0 h d)).toReal * (K (ix4 (page bt b i) r h d)).toReal : ℝ) : EReal) := by
      intro d
      rw [pages_page hu K b p h d i r hp hus]
      obtain ⟨x, hx⟩ := hu.k (page bt b i) r h d
      obtain ⟨q, hq⟩ := hu.q b h d
      rw [hx, hq, EReal.toReal_coe, EReal.toReal_coe, EReal.coe_mul]
    rw [Finset.sum_congr rfl fun d _ => e d, ← Cert.KProof.coe_sum_real, ← EReal.coe_mul]
    unfold sc
    rw [Finset.sum_mul]
    refine congrArg _ (Finset.sum_congr rfl fun d _ => ?_)
    ring
  · rw [if_neg hus, if_neg (by rw [decide_eq_false hus]; decide)]

/-- The reference's result. -/
theorem out_answer (b : Fin 32) (h : Fin 16) (d : Fin 128) :
    (outR (exps (masked Q (pages K bt) (quot (iotaInDim S32x1x1x8192 32 3) (constantI S_ 32 32#32)) lens)) (pages V bt) (ix4 b 0 h d) : EReal)
      = answer Q K V bt lens b h d := by
  have hmask (p : Fin 8192) := masked_val hu b h p ⟨p.val / 32, by omega⟩ ⟨p.val % 32, by omega⟩ (by show p.val = 32 * (p.val / 32) + p.val % 32; omega)
  have h0 : Used lens b ⟨(0 : Fin 8192).val / 32, by decide⟩ := by
    have := hu.len b
    show ((0 / 32 : ℕ) : ℤ) < _
    omega
  obtain ⟨μ, hμ⟩ := top_real (masked Q (pages K bt) (quot (iotaInDim S32x1x1x8192 32 3) (constantI S_ 32 32#32)) lens) b h
    (fun p => by
      rw [hmask p]
      split
      · exact EReal.coe_ne_top _
      · exact bot_ne_top) 0 (by
      rw [hmask 0, if_pos h0]
      exact EReal.coe_ne_bot _)
  rw [outR_at]
  refine (Cert.KProof.softmax_eq (fun p : Fin 8192 => Used lens b ⟨p.val / 32, by omega⟩)
    (fun p => sc Q K bt b h ⟨p.val / 32, by omega⟩ ⟨p.val % 32, by omega⟩) (fun p => pages V bt (ix4 b p h d)) 0 h0 μ _ (fun p => by
      rw [exps_at, hμ, hmask p])).trans ?_
  unfold answer
  refine congrArg₂ Ideal.div ?_ ?_
  · unfold num wj
    refine Cert.KProof.sum_parts 256 32 8192 (by decide) (fun j r => ((Cert.KProof.wt (Used lens b j) (sc Q K bt b h j r) : ℝ) : EReal) * V (ix4 (page bt b j) r h d)) _ ?_
    intro p i r hp
    have hr := r.isLt
    have hi : (⟨p.val / 32, by omega⟩ : Fin 256) = i := Fin.ext (by show p.val / 32 = i.val; omega)
    have hr' : (⟨p.val % 32, by omega⟩ : Fin 32) = r := Fin.ext (by show p.val % 32 = r.val; omega)
    rw [hr']
    simp only [hi]
    by_cases hus : Used lens b i
    · rw [pages_page hu V b p h d i r hp hus]
    · unfold Cert.KProof.wt
      rw [if_neg hus, EReal.coe_zero, zero_mul, zero_mul]
  · unfold den wj
    refine Cert.KProof.sum_parts 256 32 8192 (by decide) (fun j r => ((Cert.KProof.wt (Used lens b j) (sc Q K bt b h j r) : ℝ) : EReal)) _ ?_
    intro p i r hp
    have hr := r.isLt
    have hi : (⟨p.val / 32, by omega⟩ : Fin 256) = i := Fin.ext (by show p.val / 32 = i.val; omega)
    have hr' : (⟨p.val % 32, by omega⟩ : Fin 32) = r := Fin.ext (by show p.val % 32 = r.val; omega)
    rw [hr']
    simp only [hi]

end

/-- The reference's result over its arguments. -/
theorem ref_answer (W : Valuation τ sig (Elt Ideal)) (hu : Usable (W main_arg0) (W main_arg1) (W main_arg3) (W main_arg4)) (x : S32x1x16x128.Idx) :
    (after ops W main_v35 : S32x1x16x128.Idx → EReal) x
      = answer (W main_arg0) (W main_arg1) (W main_arg2) (W main_arg3) (W main_arg4) (x 0) (x 2) (x 3) := by
  have hx : x = ix4 (x 0) 0 (x 2) (x 3) := by
    refine (ValueIdx.eq_ix4 x).trans ?_
    have : (x 1).val < 1 := (x 1).isLt
    exact congrArg (fun z => ix4 (x 0) z (x 2) (x 3)) (Fin.ext (by show (x 1).val = 0; omega))
  refine (congrFun (show (after ops W main_v35 : S32x1x16x128.Idx → EReal) = _ from result_eq W) x).trans ?_
  refine (congrArg _ hx).trans ?_
  exact out_answer hu (x 0) (x 2) (x 3)

end Cert.RProof

end
-- ==== Proof.Pay.lean ====
/-
  The kernel's arithmetic read at an index.
-/
module

public import proofs.«01_k».proof.Proof.Region
public import proofs.«01_k».proof.Proof.Sums
public import Idealize.ShloMosaic.Lib.Pointwise
public import Idealize.ShloMosaic.Lib.IdealHost

@[expose] public section

set_option maxRecDepth 8192

noncomputable section

namespace Cert.KProof

open Cert.KernelIdeal Cert.KernelIdeal.Gen
open Idealize.ShloMosaic Idealize.ShloMosaic.TcCoe

theorem pay9_at (x : S32x16x128.Idx) : (k0_pay9 (F := Ideal) x : EReal) = 0 := by
  unfold k0_pay9
  pointwise

theorem pay10_at (x : S32x16.Idx) : (k0_pay10 (F := Ideal) x : EReal) = 0 := by
  unfold k0_pay10
  pointwise

theorem pay11_at (w : FVec Ideal S256x16 .f32) (L : Vec Ideal S1x16 .f32) (h : Fin 16) :
    (k0_pay11 w L (ix2 0 h) : EReal) = (L (ix2 0 h) : EReal) + ∑ r : Fin 256, (w (ix2 r h) : EReal) := by
  unfold k0_pay11
  pointwise

theorem pay12_at (v : FVec Ideal S256x16x128 .f32) (w : FVec Ideal S256x16 .f32) (A : Vec Ideal S1x16x128 .f32) (h : Fin 16) (d : Fin 128) :
    (k0_pay12 v w A (ix3 0 h d) : EReal) = (A (ix3 0 h d) : EReal) + ∑ r : Fin 256, (w (ix2 r h) : EReal) * (v (ix3 r h d) : EReal) := by
  unfold k0_pay12
  pointwise

theorem pay24_at (A : Vec Ideal S32x16x128 .f32) (L : Vec Ideal S32x16 .f32) (b : Fin 32) (h : Fin 16) (d : Fin 128) :
    (k0_pay24 A L (ix3 b h d) : EReal) = Ideal.div (A (ix3 b h d)) (L (ix2 b h)) := by
  unfold k0_pay24
  pointwise

theorem pay15_at (A B : Vec Ideal S32x16x128 .f32) (b : Fin 32) (h : Fin 16) (d : Fin 128) :
    (k0_pay15 A (upA B) (ix3 b h d) : EReal) = (A (ix3 b h d) : EReal) + (B (ix3 b h d) : EReal) := by
  unfold k0_pay15
  pointwise
  rfl

theorem pay16_at (A B : Vec Ideal S32x16 .f32) (b : Fin 32) (h : Fin 16) :
    (k0_pay16 A (upL B) (ix2 b h) : EReal) = (A (ix2 b h) : EReal) + (B (ix2 b h) : EReal) := by
  unfold k0_pay16
  pointwise
  rfl

theorem pay2_at (k : Vec Ideal S1x8x32x16x128 .f32) (r : Fin 256) (h : Fin 16) (d : Fin 128) :
    (k0_pay2 k (ix3 r h d) : EReal) = k (ix5 0 ⟨r.val / 32, by omega⟩ ⟨r.val % 32, by omega⟩ h d) := by
  unfold k0_pay2
  pointwise

theorem pay3_at (k : Vec Ideal S1x8x32x16x128 .f32) (r : Fin 256) (h : Fin 16) (d : Fin 128) :
    (k0_pay3 k (ix3 r h d) : EReal) = k (ix5 0 ⟨r.val / 32, by omega⟩ ⟨r.val % 32, by omega⟩ h d) := by
  unfold k0_pay3
  pointwise

theorem pay1_eq (k : Vec Ideal S1x16x128 .f32) (h : Fin 16) (d : Fin 128) : (k0_pay1 k (ix3 0 h d) : EReal) = k (ix3 0 h d) := by
  unfold k0_pay1
  pointwise

/-- The block of a row of a chunk, as the kernel divides. -/
theorem quot_at (r : Fin 256) :
    (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 r.val) 32#32) 0#32))
            (IntOp.subi (IntOp.divsi ArithUnit.vector (BitVec.ofNat 32 r.val) 32#32) 1#32)
            (IntOp.divsi ArithUnit.vector (BitVec.ofNat 32 r.val) 32#32)) = BitVec.ofNat 32 (r.val / 32) := by
  revert r
  decide +kernel

theorem select_slt (a b : BitVec 32) (x y : EReal) : Scalar.select (IntOp.cmpi CmpIPredicate.slt a b) x y = if a.slt b then x else y := by
  show (if BitVec.ofBool (a.slt b) = 1#1 then x else y) = _
  cases a.slt b <;> rfl

theorem pay4_at (t : BitVec 32) (q : FVec Ideal S1x16x128 .f32) (k : FVec Ideal S256x16x128 .f32) (n : BitVec 32) (r : Fin 256) (h : Fin 16) :
    (k0_pay4 (F := Ideal) t q k n (ix2 r h) : EReal)
      = if (IntOp.addi (BitVec.ofNat 32 (r.val / 32)) (Scalar.muli t 8#32)).slt n then
          Ideal.exp (∑ d : Fin 128, (k (ix3 r h d) : EReal) * (q (ix3 0 h d) : EReal)) else 0 := by
  unfold k0_pay4
  pointwise
  rw [quot_at, select_slt]

section Windows
variable {α : Type}

theorem put2_at (x : S32x16.Idx → α) (r : Fin 32) (w : ((a : Fin 2) → Fin (S1x16.size a)) → α) (b : Fin 32) (h : Fin 16) :
    VecWindow.put x ![r.val, 0] S1x16.size w (ix2 b h) = if r = b then w (ix2 0 h) else x (ix2 b h) := by
  unfold VecWindow.put
  by_cases e : r = b
  · subst e
    rw [if_pos rfl, dif_pos]
    · congr 1
      funext a
      match a with
      | ⟨0, _⟩ => exact Fin.ext (Nat.sub_self _)
      | ⟨1, _⟩ => rfl
    · intro a
      match a with
      | ⟨0, _⟩ => exact ⟨le_rfl, Nat.lt_succ_self _⟩
      | ⟨1, _⟩ => exact ⟨Nat.zero_le _, by show h.val < 0 + 16; omega⟩
  · rw [if_neg e, dif_neg]
    intro hh
    have h0 := hh 0
    change r.val ≤ b.val ∧ b.val < r.val + 1 at h0
    exact e (Fin.ext (by omega))

theorem put3_at (x : S32x16x128.Idx → α) (r : Fin 32) (w : ((a : Fin 3) → Fin (S1x16x128.size a)) → α) (b : Fin 32) (h : Fin 16) (d : Fin 128) :
    VecWindow.put x ![r.val, 0, 0] S1x16x128.size w (ix3 b h d) = if r = b then w (ix3 0 h d) else x (ix3 b h d) := by
  unfold VecWindow.put
  by_cases e : r = b
  · subst e
    rw [if_pos rfl, dif_pos]
    · congr 1
      funext a
      match a with
      | ⟨0, _⟩ => exact Fin.ext (Nat.sub_self _)
      | ⟨1, _⟩ => rfl
      | ⟨2, _⟩ => rfl
    · intro a
      match a with
      | ⟨0, _⟩ => exact ⟨le_rfl, Nat.lt_succ_self _⟩
      | ⟨1, _⟩ => exact ⟨Nat.zero_le _, by show h.val < 0 + 16; omega⟩
      | ⟨2, _⟩ => exact ⟨Nat.zero_le _, by show d.val < 0 + 128; omega⟩
  · rw [if_neg e, dif_neg]
    intro hh
    have h0 := hh 0
    change r.val ≤ b.val ∧ b.val < r.val + 1 at h0
    exact e (Fin.ext (by omega))

theorem window2_at (x : S32x16.Idx → α) (r : Fin 32) (h : Fin 16) :
    VecWindow.window x ![r.val, 0] S1x16.size (in2 r) (ix2 0 h) = x (ix2 r h) := by
  refine congrArg x (funext fun a => ?_)
  match a with
  | ⟨0, _⟩ => exact Fin.ext (by show r.val + 1 * 0 = r.val; omega)
  | ⟨1, _⟩ => exact Fin.ext (by show 0 + 1 * h.val = h.val; omega)

theorem window3_at (x : S32x16x128.Idx → α) (r : Fin 32) (h : Fin 16) (d : Fin 128) :
    VecWindow.window x ![r.val, 0, 0] S1x16x128.size (in3 r) (ix3 0 h d) = x (ix3 r h d) := by
  refine congrArg x (funext fun a => ?_)
  match a with
  | ⟨0, _⟩ => exact Fin.ext (by show r.val + 1 * 0 = r.val; omega)
  | ⟨1, _⟩ => exact Fin.ext (by show 0 + 1 * h.val = h.val; omega)
  | ⟨2, _⟩ => exact Fin.ext (by show 0 + 1 * d.val = d.val; omega)

end Windows

/-! ## One device's sums -/

section Local
variable (V : Vals Ideal)

theorem wts_at (g : ℕ) (r : Fin 256) (h : Fin 16) :
    (V.wts g (ix2 r h) : EReal)
      = if (IntOp.addi (BitVec.ofNat 32 (r.val / 32)) (Scalar.muli (V.X2 (cX 1 g)) 8#32)).slt (V.X1 (ix1 (V.row g))) then
          Ideal.exp (∑ d : Fin 128, (V.kc g (ix5 0 ⟨r.val / 32, by omega⟩ ⟨r.val % 32, by omega⟩ h d) : EReal) * (V.XQ (ix3 (V.row g) h d) : EReal)) else 0 := by
  unfold Vals.wts
  rw [pay4_at]
  have e : ∀ d : Fin 128, (k0_pay2 (V.kc g) (ix3 r h d) : EReal) * (k0_pay1 (VecWindow.window V.XQ ![(V.row g).val, 0, 0] S1x16x128.size (in3 (V.row g))) (ix3 0 h d) : EReal)
      = (V.kc g (ix5 0 ⟨r.val / 32, by omega⟩ ⟨r.val % 32, by omega⟩ h d) : EReal) * (V.XQ (ix3 (V.row g) h d) : EReal) := fun d => by
    rw [pay2_at, pay1_eq, window3_at]
  rw [Finset.sum_congr rfl fun d _ => e d]

/-- What a chunk adds to the weights' sums, and to the weighted sums. -/
def addL (g : ℕ) (b : Fin 32) (h : Fin 16) : EReal := if V.row g = b then ∑ r : Fin 256, (V.wts g (ix2 r h) : EReal) else 0
def addA (g : ℕ) (b : Fin 32) (h : Fin 16) (d : Fin 128) : EReal :=
  if V.row g = b then ∑ r : Fin 256, (V.wts g (ix2 r h) : EReal) * (V.vc g (ix5 0 ⟨r.val / 32, by omega⟩ ⟨r.val % 32, by omega⟩ h d) : EReal) else 0

theorem stepL_at (g : ℕ) (L : S32x16.Idx → Elt Ideal .f32) (b : Fin 32) (h : Fin 16) :
    (V.stepL g L (ix2 b h) : EReal) = (L (ix2 b h) : EReal) + addL V g b h := by
  unfold Vals.stepL addL
  rw [put2_at]
  by_cases e : V.row g = b
  · rw [if_pos e, if_pos e, pay11_at, window2_at, e]
  · rw [if_neg e, if_neg e, add_zero]

theorem stepA_at (g : ℕ) (A : S32x16x128.Idx → Elt Ideal .f32) (b : Fin 32) (h : Fin 16) (d : Fin 128) :
    (V.stepA g A (ix3 b h d) : EReal) = (A (ix3 b h d) : EReal) + addA V g b h d := by
  unfold Vals.stepA addA
  rw [put3_at]
  by_cases e : V.row g = b
  · rw [if_pos e, if_pos e, pay12_at, window3_at, e]
    refine congrArg _ (Finset.sum_congr rfl fun r _ => ?_)
    rw [pay3_at]
  · rw [if_neg e, if_neg e, add_zero]

theorem locL_at (d : Dev nD) (n : ℕ) (b : Fin 32) (h : Fin 16) :
    (V.locL d n (ix2 b h) : EReal) = ∑ j ∈ Finset.range n, addL V (rep d + 8 * j) b h := by
  induction n with
  | zero => exact (pay10_at _).trans (Finset.sum_range_zero _).symm
  | succ n ih => rw [Finset.sum_range_succ, ← ih]; exact stepL_at V _ _ b h

theorem locA_at (d : Dev nD) (n : ℕ) (b : Fin 32) (h : Fin 16) (e : Fin 128) :
    (V.locA d n (ix3 b h e) : EReal) = ∑ j ∈ Finset.range n, addA V (rep d + 8 * j) b h e := by
  induction n with
  | zero => exact (pay9_at _).trans (Finset.sum_range_zero _).symm
  | succ n ih => rw [Finset.sum_range_succ, ← ih]; exact stepA_at V _ _ b h e

end Local

/-! ## The four exchanges add up all devices -/

/-- Four exchanges of sums. -/
def exch (f : Dev nD → EReal) : ℕ → Dev nD → EReal
  | 0, c => f c
  | i + 1, c => exch f i c + exch f i (pr (Fin.ofNat 4 i) c)

/-- The devices that the sum holds after `i` exchanges. -/
def reach : ℕ → Dev nD → List (Dev nD)
  | 0, c => [c]
  | i + 1, c => reach i c ++ reach i (pr (Fin.ofNat 4 i) c)

theorem exch_eq (f : Dev nD → EReal) (i : ℕ) (c : Dev nD) : exch f i c = ((reach i c).map f).sum := by
  induction i generalizing c with
  | zero => simp [exch, reach]
  | succ i ih => rw [exch, reach, ih, ih, List.map_append, List.sum_append]

theorem reach_all (c : Dev nD) : (reach 4 c).Perm (List.finRange nD) := by
  revert c
  decide +kernel

theorem exch_all (f : Dev nD → EReal) (c : Dev nD) : exch f 4 c = ∑ c', f c' := by
  rw [exch_eq, ((reach_all c).map f).sum_eq, ← List.ofFn_eq_map, List.sum_ofFn]

theorem accN_at (A : Dev nD → S32x16x128.Idx → Elt Ideal .f32) (i : ℕ) (c : Dev nD) (b : Fin 32) (h : Fin 16) (d : Fin 128) :
    (accN A i c (ix3 b h d) : EReal) = exch (fun c => (A c (ix3 b h d) : EReal)) i c := by
  induction i generalizing c with
  | zero => rfl
  | succ i ih => rw [exch, ← ih, ← ih]; exact pay15_at _ _ b h d

theorem lseN_at (A : Dev nD → S32x16.Idx → Elt Ideal .f32) (i : ℕ) (c : Dev nD) (b : Fin 32) (h : Fin 16) :
    (lseN A i c (ix2 b h) : EReal) = exch (fun c => (A c (ix2 b h) : EReal)) i c := by
  induction i generalizing c with
  | zero => rfl
  | succ i ih => rw [exch, ← ih, ← ih]; exact pay16_at _ _ b h

/-! ## A page of a pool -/

section Pool
variable (W : Dev nD → Valuation τ sig (Elt Ideal)) (c : Dev nD)

theorem page_emb (g : Fin 256) (r : Fin 32) (h : Fin 16) (d : Fin 128) (o : ∀ a, (![g.val, 0, 0, 0] : Fin 4 → ℕ) a + S1x32x16x128.size a ≤ S256x32x16x128.size a) :
    (Rect.unit (s := S256x32x16x128) ![g.val, 0, 0, 0] S1x32x16x128.size o).emb
      (Shape.reshapeEquiv (s := S1x32x16x128) (s' := S32x16x128) (by decide) (ix3 r h d)) = ix4 g r h d := by
  rw [show (Shape.reshapeEquiv (s := S1x32x16x128) (s' := S32x16x128) (by decide) (ix3 r h d) : S1x32x16x128.Idx)
      = ix4 (⟨0, Nat.one_pos⟩ : Fin 1) r h d from ValueIdx.reshapeEquiv_ix3_1abc _ _ _ _]
  refine funext fun a => Fin.ext ?_
  fin_cases a
  · show g.val + 1 * 0 = g.val; omega
  · show 0 + 1 * r.val = r.val; omega
  · show 0 + 1 * h.val = h.val; omega
  · show 0 + 1 * d.val = d.val; omega

theorem kc_at (g : ℕ) (p : Fin 8) (r : Fin 32) (h : Fin 16) (d : Fin 128) :
    (VV W c).kc g (ix5 0 p r h d)
      = (W c main_arg1 : S256x32x16x128.Idx → Elt Ideal .f32) (ix4 (pgN (X0 W c) (X2 W c (cX 0 g)) (X2 W c (cX 1 g)) p) r h d) := by
  refine congrArg (W c main_arg1 : S256x32x16x128.Idx → Elt Ideal .f32) (page_emb _ r h d (o4_inb _))

theorem vc_at (g : ℕ) (p : Fin 8) (r : Fin 32) (h : Fin 16) (d : Fin 128) :
    (VV W c).vc g (ix5 0 p r h d)
      = (W c main_arg2 : S256x32x16x128.Idx → Elt Ideal .f32) (ix4 (pgN (X0 W c) (X2 W c (cX 0 g)) (X2 W c (cX 1 g)) p) r h d) :=
  congrArg (W c main_arg2 : S256x32x16x128.Idx → Elt Ideal .f32) (page_emb _ r h d (o4_inb _))

end Pool

end Cert.KProof

end
-- ==== Proof.KVal.lean ====
/-
  What one device's chunks add up to: a sum over the pages of its half.
-/
module

public import proofs.«01_k».proof.Proof.Pay
public import proofs.«01_k».proof.Proof.Prefix

@[expose] public section

set_option maxRecDepth 8192

noncomputable section

namespace Cert.KProof

open Cert.KernelIdeal Cert.KernelIdeal.Gen
open Idealize.ShloMosaic Idealize.ShloMosaic.TcCoe Idealize.ShloMosaic.Routing

variable (m : (ℓ : Loc nD τ sig) → Buf (Elt Ideal) ℓ) (c : Dev nD)

/-! ## The tables once more -/

/-- How many pages of row `b` lie in the device's half. -/
def cnt (b : Fin 32) : ℕ := rank (Mine m c b) 255

theorem cnt_le (b : Fin 32) : cnt m c b ≤ 256 := rank_le _ _

theorem rank_cnt (b : Fin 32) (j : Fin 256) : rank (Mine m c b) j.val ≤ cnt m c b := by
  unfold cnt rank
  refine Finset.card_le_card fun x hx => ?_
  simp only [Finset.mem_filter, Finset.mem_univ, true_and] at hx ⊢
  exact ⟨hx.1.trans (by have := j.isLt; omega), hx.2⟩

theorem cnt_card (b : Fin 32) : (Finset.univ.filter (Mine m c b)).card = cnt m c b := by
  unfold cnt rank
  congr 1
  ext i
  have := i.isLt
  simp only [Finset.mem_filter, Finset.mem_univ, true_and]
  exact ⟨fun h => ⟨by omega, h⟩, fun h => h.2⟩

theorem keep_card : (Finset.univ.filter (Bit (keep m c))).card = ∑ b : Fin 32, chunks m c b := by
  rw [Finset.card_filter]
  rw [sum_parts 32 32 1024 (by decide) (fun b l => if l.val < chunks m c b then 1 else 0)]
  · refine Finset.sum_congr rfl fun b _ => ?_
    have hb := chunks_le m c b
    rw [← Finset.card_filter]
    have : (Finset.univ.filter fun l : Fin 32 => l.val < chunks m c b) = (Finset.univ.filter fun l : Fin 32 => l.val < chunks m c b) := rfl
    rw [Fin.card_filter_val_lt]
    omega
  · intro p i j h
    have hi := i.isLt
    have hj := j.isLt
    refine if_congr ?_ rfl rfl
    rw [keep_iff, show (⟨p.val / 32, by have := p.isLt; omega⟩ : Fin 32) = i from Fin.ext (by show p.val / 32 = i.val; omega),
      show p.val % 32 = j.val by omega]

theorem rank_pos {n : ℕ} (M : Fin n → Prop) [DecidablePred M] {j : Fin n} (h : M j) : 0 < rank M j.val :=
  Finset.card_pos.2 ⟨j, by simp [h]⟩

theorem word_at (r : Fin 2) {p : Fin 1024} (h : Bit (keep m c) p) :
    X2 (V11 m) c (cX r (rank (Bit (keep m c)) p.val - 1)) = BitVec.ofNat 32 (spot r p) := by
  have h1 := rank_pos _ h
  have h2 := rank_le (Bit (keep m c)) p.val
  refine (chunk_val m c r _).trans ?_
  rw [comp_at (Bit (keep m c)) (spot r) h (d := (rank (Bit (keep m c)) p.val - 1) % 1024) (by omega)]

theorem X1_at (b : Fin 32) : X1 (V11 m) c (ix1 b) = BitVec.ofNat 32 (cnt m c b) := by
  have e : X1 (V11 m) c = V5 m c main_v37 := by
    show V11 m c main_v37 = _
    rw [V11_of m c main_v37 (by decide), V10_of m c main_v37 (by decide), V9_of m c main_v37 (by decide), V8_of m c main_v37 (by decide),
      V7_of m c main_v37 (by decide), V6_of m c main_v37 (by decide)]
  exact (congrFun e _).trans (cnt_val m c b)

/-- The page at place `i` of row `b`'s compacted list. -/
def pgc (b : Fin 32) (i : ℕ) : Fin 256 :=
  ⟨comp (Mine m c b) (fun j => (entry m c b j).toNat) i, comp_lt _ _ (by omega) (fun _ h => mine_entry m c h) _⟩

theorem pgc_rank (b : Fin 32) {j : Fin 256} (h : Mine m c b j) : (pgc m c b (rank (Mine m c b) j.val - 1)).val = (entry m c b j).toNat := by
  have h1 := rank_pos _ h
  exact comp_at (Mine m c b) (fun j => (entry m c b j).toNat) h (by omega)

theorem X0_at (b : Fin 32) (i : Fin 256) : X0 (V11 m) c (ix2 b i) = BitVec.ofNat 32 (pgc m c b i.val).val := by
  have e : X0 (V11 m) c = V5 m c main_v35 := by
    show V11 m c main_v35 = _
    rw [V11_of m c main_v35 (by decide), V10_of m c main_v35 (by decide), V9_of m c main_v35 (by decide), V8_of m c main_v35 (by decide),
      V7_of m c main_v35 (by decide), V6_of m c main_v35 (by decide)]
  exact (congrFun e _).trans (loc_val m c b i)

theorem pgN_at (b : Fin 32) (l : ℕ) (hl : l < 32) (p : Fin 8) :
    pgN (X0 (V11 m) c) (BitVec.ofNat 32 b.val) (BitVec.ofNat 32 l) p = pgc m c b (8 * l + p.val) := by
  have hb := b.isLt
  have hp := p.isLt
  have e : pgX (BitVec.ofNat 32 b.val) (BitVec.ofNat 32 l) p = ix2 b ⟨8 * l + p.val, by omega⟩ := by
    unfold pgX
    congr 1
    · refine Fin.ext ?_
      show (BitVec.ofNat 32 b.val).toNat % 32 = b.val
      rw [BitVec.toNat_ofNat]
      omega
    · refine Fin.ext ?_
      show (8 * (BitVec.ofNat 32 l).toNat + p.val) % 256 = 8 * l + p.val
      rw [BitVec.toNat_ofNat]
      omega
  refine Fin.ext ?_
  show (X0 (V11 m) c (pgX _ _ p)).toNat % 256 = _
  rw [e, X0_at, BitVec.toNat_ofNat]
  have := (pgc m c b (8 * l + p.val)).isLt
  show (pgc m c b (8 * l + p.val)).val % 2 ^ 32 % 256 = _
  omega

/-! ## A chunk's weights -/

abbrev argK : S256x32x16x128.Idx → EReal := V11 m c main_arg1
abbrev argV : S256x32x16x128.Idx → EReal := V11 m c main_arg2
abbrev argQ : S32x16x128.Idx → EReal := XQ (V11 m) c

/-- The exponential of the score of row `r` of a page. -/
def ex (b : Fin 32) (h : Fin 16) (g : Fin 256) (r : Fin 32) : EReal := Ideal.exp (∑ d : Fin 128, argK m c (ix4 g r h d) * argQ m c (ix3 b h d))

/-- The weight of row `r` of the page at place `i`. -/
def we (b : Fin 32) (h : Fin 16) (i : ℕ) (r : Fin 32) : EReal := if i < cnt m c b then ex m c b h (pgc m c b i) r else 0

theorem in_count (l t n : ℕ) (hl : l < 32) (ht : t < 8) (hn : n ≤ 256) :
    (IntOp.addi (BitVec.ofNat 32 t) (Scalar.muli (BitVec.ofNat 32 l) 8#32)).slt (BitVec.ofNat 32 n) = decide (8 * l + t < n) := by
  have e : IntOp.addi (BitVec.ofNat 32 t) (Scalar.muli (BitVec.ofNat 32 l) 8#32) = BitVec.ofNat 32 (8 * l + t) := by
    show BitVec.ofNat 32 t + BitVec.ofNat 32 l * 8#32 = _
    apply BitVec.eq_of_toNat_eq
    simp only [BitVec.toNat_add, BitVec.toNat_mul, BitVec.toNat_ofNat]
    omega
  rw [e, slt_ofNat32 (by omega) (by omega)]

theorem row_at {p : Fin 1024} (h : Bit (keep m c) p) (b : Fin 32) (hb : p.val / 32 = b.val) :
    (VV (V11 m) c).row (rank (Bit (keep m c)) p.val - 1) = b := by
  refine Fin.ext ?_
  show (X2 (V11 m) c (cX 0 _)).toNat % 32 = b.val
  rw [word_at m c 0 h, BitVec.toNat_ofNat]
  have := b.isLt
  show (p.val / 32) % 2 ^ 32 % 32 = _
  omega

theorem row_ne {p : Fin 1024} (h : Bit (keep m c) p) (b : Fin 32) (hb : p.val / 32 ≠ b.val) :
    (VV (V11 m) c).row (rank (Bit (keep m c)) p.val - 1) ≠ b := by
  have hp := p.isLt
  rw [row_at m c h ⟨p.val / 32, by omega⟩ rfl]
  exact fun e => hb (congrArg Fin.val e)

theorem page_at {p : Fin 1024} (h : Bit (keep m c) p) (b : Fin 32) (hb : p.val / 32 = b.val) (t : Fin 8) :
    pgN (X0 (V11 m) c) (X2 (V11 m) c (cX 0 (rank (Bit (keep m c)) p.val - 1))) (X2 (V11 m) c (cX 1 (rank (Bit (keep m c)) p.val - 1))) t
      = pgc m c b (8 * (p.val % 32) + t.val) := by
  rw [word_at m c 0 h, word_at m c 1 h, show spot 0 p = b.val from hb]
  exact pgN_at m c b (p.val % 32) (by omega) t

theorem VV_X1 (W : Dev nD → Valuation τ sig (Elt Ideal)) : (VV W c).X1 = X1 W c := rfl

theorem wts_kept {p : Fin 1024} (h : Bit (keep m c) p) (b : Fin 32) (hb : p.val / 32 = b.val) (r : Fin 256) (e : Fin 16) :
    ((VV (V11 m) c).wts (rank (Bit (keep m c)) p.val - 1) (ix2 r e) : EReal)
      = we m c b e (8 * (p.val % 32) + r.val / 32) ⟨r.val % 32, by omega⟩ := by
  have hr := r.isLt
  have hc := cnt_le m c b
  rw [wts_at, row_at m c h b hb]
  have h1 : (VV (V11 m) c).X2 (cX 1 (rank (Bit (keep m c)) p.val - 1)) = BitVec.ofNat 32 (p.val % 32) :=
    (word_at m c 1 h).trans (congrArg (BitVec.ofNat 32) (show spot 1 p = p.val % 32 from rfl))
  have h2 : (VV (V11 m) c).X1 (ix1 b) = BitVec.ofNat 32 (cnt m c b) :=
    (congrFun (VV_X1 c (V11 m)) (ix1 b)).trans (X1_at m c b)
  rw [h1, h2, in_count _ _ _ (by omega) (by omega) hc]
  unfold we ex
  have hs (d : Fin 128) : ((VV (V11 m) c).kc (rank (Bit (keep m c)) p.val - 1) (ix5 0 ⟨r.val / 32, by omega⟩ ⟨r.val % 32, by omega⟩ e d) : EReal)
      = argK m c (ix4 (pgc m c b (8 * (p.val % 32) + r.val / 32)) ⟨r.val % 32, by omega⟩ e d) := by
    rw [kc_at, page_at m c h b hb]
  have hs' := Finset.sum_congr (s₁ := Finset.univ) rfl fun d _ => congrArg (fun z => z * argQ m c (ix3 b e d)) (hs d)
  by_cases hi : 8 * (p.val % 32) + r.val / 32 < cnt m c b
  · rw [if_pos hi, if_pos (decide_eq_true hi)]
    exact congrArg Ideal.exp hs'
  · rw [if_neg hi, if_neg (by simp [hi])]

theorem vc_kept {p : Fin 1024} (h : Bit (keep m c) p) (b : Fin 32) (hb : p.val / 32 = b.val) (r : Fin 256) (e : Fin 16) (d : Fin 128) :
    ((VV (V11 m) c).vc (rank (Bit (keep m c)) p.val - 1) (ix5 0 ⟨r.val / 32, by omega⟩ ⟨r.val % 32, by omega⟩ e d) : EReal)
      = argV m c (ix4 (pgc m c b (8 * (p.val % 32) + r.val / 32)) ⟨r.val % 32, by omega⟩ e d) := by
  rw [vc_at, page_at m c h b hb]

/-! ## From chunks to pages -/

theorem chunk_sum (b : Fin 32) (T : ℕ → Fin 32 → EReal) (hT : ∀ i, cnt m c b ≤ i → ∀ r, T i r = 0) (F : ℕ → EReal)
    (hF : ∀ p, Bit (keep m c) p → F (rank (Bit (keep m c)) p.val - 1)
      = if p.val / 32 = b.val then ∑ r : Fin 256, T (8 * (p.val % 32) + r.val / 32) ⟨r.val % 32, by omega⟩ else 0) :
    ∑ g ∈ Finset.range (∑ b : Fin 32, chunks m c b), F g = ∑ j, if Mine m c b j then ∑ r, T (rank (Mine m c b) j.val - 1) r else 0 := by
  have hcnt := cnt_le m c b
  rw [sum_rank (Bit (keep m c)) _ (keep_card m c) F]
  rw [sum_parts 32 32 1024 (by decide) (fun b' l => if b' = b then ∑ t : Fin 8, ∑ r, T (8 * l.val + t.val) r else 0)]
  · rw [Finset.sum_eq_single b (fun b' _ hb' => Finset.sum_eq_zero fun l _ => if_neg hb') (fun h => absurd (Finset.mem_univ b) h)]
    rw [Finset.sum_congr rfl fun l _ => if_pos rfl]
    rw [← sum_parts 32 8 256 (by decide) (fun l t => ∑ r, T (8 * l.val + t.val) r) (fun i => ∑ r, T i.val r)
      (fun p i j h => by rw [h])]
    rw [← sum_rank (Mine m c b) _ (cnt_card m c b) (fun i => ∑ r, T i r), Finset.sum_range (n := cnt m c b), ← Finset.sum_range (n := cnt m c b) (fun i => ∑ r, T i r),
      ← Finset.sum_range (n := 256) (fun i => ∑ r, T i r)]
    symm
    refine Finset.sum_subset (Finset.range_subset_range.2 hcnt) fun i _ hi => Finset.sum_eq_zero fun r _ => hT i ?_ r
    exact Nat.le_of_not_lt fun h => hi (Finset.mem_range.2 h)
  · intro p b' l h
    have hb' := b'.isLt
    have hl := l.isLt
    have e1 : p.val / 32 = b'.val := by omega
    have e2 : p.val % 32 = l.val := by omega
    have e3 : ∑ r : Fin 256, T (8 * l.val + r.val / 32) ⟨r.val % 32, by omega⟩ = ∑ t : Fin 8, ∑ r, T (8 * l.val + t.val) r :=
      sum_parts 8 32 256 (by decide) (fun t r => T (8 * l.val + t.val) r) _ fun q i j hq => by
        have hi := i.isLt
        have hj := j.isLt
        rw [show q.val / 32 = i.val by omega, show (⟨q.val % 32, by omega⟩ : Fin 32) = j from Fin.ext (by show q.val % 32 = j.val; omega)]
    by_cases hk : Bit (keep m c) p
    · rw [if_pos hk, hF p hk, e1, e2, e3]
      refine if_congr ?_ rfl rfl
      exact ⟨fun h => Fin.ext h, fun h => congrArg Fin.val h⟩
    · rw [if_neg hk]
      by_cases hb : b' = b
      · subst hb
        rw [if_pos rfl]
        symm
        refine Finset.sum_eq_zero fun t _ => Finset.sum_eq_zero fun r _ => hT _ ?_ r
        rw [keep_iff, show (⟨p.val / 32, by have := p.isLt; omega⟩ : Fin 32) = b' from Fin.ext e1, e2] at hk
        have hh : chunks m c b' = (cnt m c b' + 7) / 8 := rfl
        omega
      · rw [if_neg hb]

/-- All chunks' part of the weighted sums. -/
theorem sumA (b : Fin 32) (e : Fin 16) (d : Fin 128) :
    ∑ g ∈ Finset.range (∑ b : Fin 32, chunks m c b), addA (VV (V11 m) c) g b e d
      = ∑ j, if Mine m c b j then ∑ r, ex m c b e (pgc m c b (rank (Mine m c b) j.val - 1)) r
          * argV m c (ix4 (pgc m c b (rank (Mine m c b) j.val - 1)) r e d) else 0 := by
  rw [chunk_sum m c b (fun i r => we m c b e i r * argV m c (ix4 (pgc m c b i) r e d))]
  · refine Finset.sum_congr rfl fun j _ => ?_
    by_cases hj : Mine m c b j
    · rw [if_pos hj, if_pos hj]
      refine Finset.sum_congr rfl fun r _ => ?_
      have h1 := rank_pos _ hj
      have h2 := rank_cnt m c b j
      unfold we
      rw [if_pos (by omega)]
    · rw [if_neg hj, if_neg hj]
  · intro i hi r
    unfold we
    rw [if_neg (by omega), zero_mul]
  · intro p hp
    unfold addA
    by_cases hb : p.val / 32 = b.val
    · rw [if_pos (row_at m c hp b hb), if_pos hb]
      exact Finset.sum_congr rfl fun r _ => by rw [wts_kept m c hp b hb, vc_kept m c hp b hb]
    · rw [if_neg (row_ne m c hp b hb), if_neg hb]

/-- All chunks' part of the sums of weights. -/
theorem sumL (b : Fin 32) (e : Fin 16) :
    ∑ g ∈ Finset.range (∑ b : Fin 32, chunks m c b), addL (VV (V11 m) c) g b e
      = ∑ j, if Mine m c b j then ∑ r, ex m c b e (pgc m c b (rank (Mine m c b) j.val - 1)) r else 0 := by
  rw [chunk_sum m c b (fun i r => we m c b e i r)]
  · refine Finset.sum_congr rfl fun j _ => ?_
    by_cases hj : Mine m c b j
    · rw [if_pos hj, if_pos hj]
      refine Finset.sum_congr rfl fun r _ => ?_
      have h1 := rank_pos _ hj
      have h2 := rank_cnt m c b j
      unfold we
      rw [if_pos (by omega)]
    · rw [if_neg hj, if_neg hj]
  · intro i hi r
    unfold we
    rw [if_neg (by omega)]
  · intro p hp
    unfold addL
    by_cases hb : p.val / 32 = b.val
    · rw [if_pos (row_at m c hp b hb), if_pos hb]
      exact Finset.sum_congr rfl fun r _ => by rw [wts_kept m c hp b hb]
    · rw [if_neg (row_ne m c hp b hb), if_neg hb]

end Cert.KProof

end
-- ==== Proof.KRes.lean ====
/-
  What the kernel's call leaves in its result.
-/
module

public import proofs.«01_k».proof.Proof.KVal
public import proofs.«01_k».proof.Proof.Goal
public import proofs.«01_k».proof.Proof.Launch

@[expose] public section

set_option maxRecDepth 8192

noncomputable section

namespace Cert.KProof

open Cert.KernelIdeal Cert.KernelIdeal.Gen
open Idealize.ShloMosaic Idealize.ShloMosaic.TcCoe Idealize.ShloMosaic.Routing

/-! ## Devices that hold the same half -/

theorem rank_congr {n : ℕ} {M M' : Fin n → Prop} [DecidablePred M] [DecidablePred M'] (h : ∀ j, M j ↔ M' j) (d : ℕ) : rank M d = rank M' d := by
  obtain rfl : M = M' := funext fun j => propext (h j)
  congr!

theorem comp_congr {n : ℕ} {M M' : Fin n → Prop} [DecidablePred M] [DecidablePred M'] (h : ∀ j, M j ↔ M' j) (v v' : Fin n → ℕ) (hv : v = v') (d : ℕ) :
    comp M v d = comp M' v' d := by
  obtain rfl : M = M' := funext fun j => propext (h j)
  subst hv
  congr!

theorem addA_congr (V V' : Vals Ideal) (h1 : V.X1 = V'.X1) (h2 : V.X2 = V'.X2) (hq : V.XQ = V'.XQ)
    (hk : ∀ g p r h d, V.kc g (ix5 0 p r h d) = V'.kc g (ix5 0 p r h d)) (hv : ∀ g p r h d, V.vc g (ix5 0 p r h d) = V'.vc g (ix5 0 p r h d))
    (g : ℕ) (b : Fin 32) (h : Fin 16) (d : Fin 128) : addA V g b h d = addA V' g b h d := by
  have hr : V.row g = V'.row g := Fin.ext (congrArg (fun X => (X (cX 0 g)).toNat % 32) h2)
  unfold addA
  rw [hr]
  refine if_congr Iff.rfl (Finset.sum_congr rfl fun r _ => ?_) rfl
  rw [wts_at, wts_at, hv, h1, h2, hq, hr]
  simp only [hk]

theorem addL_congr (V V' : Vals Ideal) (h1 : V.X1 = V'.X1) (h2 : V.X2 = V'.X2) (hq : V.XQ = V'.XQ)
    (hk : ∀ g p r h d, V.kc g (ix5 0 p r h d) = V'.kc g (ix5 0 p r h d))
    (g : ℕ) (b : Fin 32) (h : Fin 16) : addL V g b h = addL V' g b h := by
  have hr : V.row g = V'.row g := Fin.ext (congrArg (fun X => (X (cX 0 g)).toNat % 32) h2)
  unfold addL
  rw [hr]
  refine if_congr Iff.rfl (Finset.sum_congr rfl fun r _ => ?_) rfl
  rw [wts_at, wts_at, h1, h2, hq, hr]
  simp only [hk]

section Read
variable (W : Valuation τ sig (Elt Ideal))
theorem read_v77 : StableHlo.after hostOps0_10 W main_v77 =
    mulf (F := Ideal) (φ := .f32) (shapeCast S32x16x128 (W main_arg0 : FVec Ideal S32x1x16x128 .f32) shapeCasts_S32x1x16x128_S32x16x128)
      (broadcastInDim S32x16x128 ![] bcast_S_S32x16x128 (constant (F := Ideal) S_ .f32 0x3DB504F3#32)) := by
  after_results
  try rfl
theorem read_v79 : StableHlo.after hostOps1 W main_v79 =
    broadcastInDim S32x1x16x128 ![0, 2, 3] bcast_S32x16x128_S32x1x16x128_0_2_3 (W main_v78 : FVec Ideal S32x16x128 .f32) := by
  after_results
  try rfl
end Read

variable (m : (ℓ : Loc nD τ sig) → Buf (Elt Ideal) ℓ) (c : Dev nD)

/-- The queries as given. -/
abbrev arr0 : S32x1x16x128.Idx → EReal := m (c, main_arg0)

theorem V10_arg0 : V10 m c main_arg0 = m (c, main_arg0) := by
  rw [V10_of m c main_arg0 (by decide), V9_of m c main_arg0 (by decide), V8_of m c main_arg0 (by decide), V7_of m c main_arg0 (by decide),
    V6_of m c main_arg0 (by decide), V5_of m c main_arg0 (by decide), V4_of m c main_arg0 (by decide), V3_of m c main_arg0 (by decide),
    V2_of m c main_arg0 (by decide), V1_of m c main_arg0 (by decide)]
theorem V11_arg1 : V11 m c main_arg1 = m (c, main_arg1) := by
  rw [V11_of m c main_arg1 (by decide), V10_of m c main_arg1 (by decide), V9_of m c main_arg1 (by decide), V8_of m c main_arg1 (by decide), V7_of m c main_arg1 (by decide),
    V6_of m c main_arg1 (by decide), V5_of m c main_arg1 (by decide), V4_of m c main_arg1 (by decide), V3_of m c main_arg1 (by decide),
    V2_of m c main_arg1 (by decide), V1_of m c main_arg1 (by decide)]
theorem V11_arg2 : V11 m c main_arg2 = m (c, main_arg2) := by
  rw [V11_of m c main_arg2 (by decide), V10_of m c main_arg2 (by decide), V9_of m c main_arg2 (by decide), V8_of m c main_arg2 (by decide), V7_of m c main_arg2 (by decide),
    V6_of m c main_arg2 (by decide), V5_of m c main_arg2 (by decide), V4_of m c main_arg2 (by decide), V3_of m c main_arg2 (by decide),
    V2_of m c main_arg2 (by decide), V1_of m c main_arg2 (by decide)]

theorem argQ_at (b : Fin 32) (h : Fin 16) (d : Fin 128) :
    argQ m c (ix3 b h d) = arr0 m c (ix4 b 0 h d) * Ideal.ofBits .f32 0x3DB504F3#32 := by
  have e : (V11 m c main_v77 : S32x16x128.Idx → EReal) = _ := read_v77 (V10 m c)
  refine (congrFun e (ix3 b h d)).trans ?_
  rw [V10_arg0]
  pointwise

/-- The half of the pages that device `c` holds. -/
def half (c : Dev nD) : ℕ := c.val / 4 % 2

variable (Q : Cert.Goal.SQ.Idx → EReal) (K V : Cert.Goal.SK.Idx → EReal) (bt : Cert.Goal.ST.Idx → BitVec 32) (lens : Cert.Goal.SL.Idx → BitVec 32)

/-- The devices' arguments are their parts of the whole arrays. -/
def Parts : Prop := ∀ c : Dev nD,
  (m (c, main_arg0) : S32x1x16x128.Idx → EReal) = Q
  ∧ (m (c, main_arg1) : S256x32x16x128.Idx → EReal) = Layout.blockN ⟨4, ![256, 32, 16, 128]⟩ ⟨4, ![512, 32, 16, 128]⟩ (Layout.meshBlock [2, 2, 4] ![[1], [], [], []] c) K
  ∧ (m (c, main_arg2) : S256x32x16x128.Idx → EReal) = Layout.blockN ⟨4, ![256, 32, 16, 128]⟩ ⟨4, ![512, 32, 16, 128]⟩ (Layout.meshBlock [2, 2, 4] ![[1], [], [], []] c) V
  ∧ (m (c, main_arg3) : S32x256.Idx → BitVec 32) = bt
  ∧ (m (c, main_arg4) : S32.Idx → BitVec 32) = lens

theorem half_lt : half c < 2 := Nat.mod_lt _ (by decide)

theorem block_at (K : Cert.Goal.SK.Idx → EReal) (g : Fin 256) (r : Fin 32) (h : Fin 16) (d : Fin 128) :
    (Layout.blockN ⟨4, ![256, 32, 16, 128]⟩ ⟨4, ![512, 32, 16, 128]⟩ (Layout.meshBlock [2, 2, 4] ![[1], [], [], []] c) K : S256x32x16x128.Idx → EReal) (ix4 g r h d)
      = K (ix4 ⟨256 * half c + g.val, by have := half_lt c; omega⟩ r h d) := by
  rw [Layout.blockN_apply]
  refine congrArg K (funext fun a => Fin.ext ?_)
  rw [Layout.TilesN.idx_val]
  have e : ∀ c : Dev nD, ∀ b : Fin 4, ((Layout.meshBlock [2, 2, 4] ![[1], [], [], []] c) b).val = if b = 0 then half c else 0 := by decide
  match a with
  | ⟨0, _⟩ =>
    have := e c 0
    show ((Layout.meshBlock [2, 2, 4] ![[1], [], [], []] c) 0).val * 256 + g.val = 256 * half c + g.val
    rw [this, if_pos rfl, mul_comm]
  | ⟨1, _⟩ =>
    have := e c 1
    show ((Layout.meshBlock [2, 2, 4] ![[1], [], [], []] c) 1).val * 32 + r.val = r.val
    rw [this, if_neg (by decide), zero_mul, zero_add]
  | ⟨2, _⟩ =>
    have := e c 2
    show ((Layout.meshBlock [2, 2, 4] ![[1], [], [], []] c) 2).val * 16 + h.val = h.val
    rw [this, if_neg (by decide), zero_mul, zero_add]
  | ⟨3, _⟩ =>
    have := e c 3
    show ((Layout.meshBlock [2, 2, 4] ![[1], [], [], []] c) 3).val * 128 + d.val = d.val
    rw [this, if_neg (by decide), zero_mul, zero_add]

section Halves
variable {m Q K V bt lens} (hm : Parts m Q K V bt lens)
include hm

theorem arr0_eq : arr0 m c = Q := (hm c).1

theorem argK_at (g : Fin 256) (r : Fin 32) (h : Fin 16) (d : Fin 128) :
    argK m c (ix4 g r h d) = K (ix4 ⟨256 * half c + g.val, by have := half_lt c; omega⟩ r h d) :=
  (congrFun ((V11_arg1 m c).trans (hm c).2.1) _).trans (block_at c K g r h d)

theorem argV_at (g : Fin 256) (r : Fin 32) (h : Fin 16) (d : Fin 128) :
    argV m c (ix4 g r h d) = V (ix4 ⟨256 * half c + g.val, by have := half_lt c; omega⟩ r h d) :=
  (congrFun ((V11_arg2 m c).trans (hm c).2.2.1) _).trans (block_at c V g r h d)

theorem entry_at (b : Fin 32) (j : Fin 256) : entry m c b j = bt (ix2 b j) - BitVec.ofNat 32 (256 * half c) := by
  unfold entry
  rw [start_word, (hm c).2.2.2.1]
  rfl

theorem mine_at (b : Fin 32) (j : Fin 256) : Mine m c b j ↔ Cert.Goal.Used lens b j ∧ (bt (ix2 b j) - BitVec.ofNat 32 (256 * half c)).toNat < 256 := by
  rw [mine_iff, entry_at c hm, (hm c).2.2.2.2]
  exact Iff.rfl

variable {c} {c' : Dev nD} (hc : half c = half c')
include hc

theorem mine_same (b : Fin 32) (j : Fin 256) : Mine m c b j ↔ Mine m c' b j := by
  rw [mine_at c hm, mine_at c' hm, hc]

theorem entry_same (b : Fin 32) (j : Fin 256) : entry m c b j = entry m c' b j := by
  rw [entry_at c hm, entry_at c' hm, hc]

theorem chunks_same (b : Fin 32) : chunks m c b = chunks m c' b := by
  unfold chunks
  rw [rank_congr (mine_same hm hc b)]

theorem pgc_same (b : Fin 32) (i : ℕ) : (pgc m c b i).val = (pgc m c' b i).val :=
  comp_congr (mine_same hm hc b) (fun j => (entry m c b j).toNat) (fun j => (entry m c' b j).toNat)
    (funext fun j => congrArg BitVec.toNat (entry_same hm hc b j)) i

theorem X0_same : X0 (V11 m) c = X0 (V11 m) c' := by
  funext x
  have h : X0 (V11 m) c (ix2 (x 0) (x 1)) = X0 (V11 m) c' (ix2 (x 0) (x 1)) := by
    refine (X0_at m c (x 0) (x 1)).trans (Eq.trans ?_ (X0_at m c' (x 0) (x 1)).symm)
    exact congrArg (BitVec.ofNat 32) (pgc_same hm hc (x 0) _)
  exact (congrArg (X0 (V11 m) c) (ValueIdx.eq_ix2 x)).trans (h.trans (congrArg (X0 (V11 m) c') (ValueIdx.eq_ix2 x)).symm)

theorem argK_same (g : Fin 256) (r : Fin 32) (h : Fin 16) (d : Fin 128) : argK m c (ix4 g r h d) = argK m c' (ix4 g r h d) := by
  rw [argK_at c hm, argK_at c' hm]
  exact congrArg (fun z => K (ix4 z r h d)) (Fin.ext (congrArg (fun n => 256 * n + g.val) hc))

theorem argV_same (g : Fin 256) (r : Fin 32) (h : Fin 16) (d : Fin 128) : argV m c (ix4 g r h d) = argV m c' (ix4 g r h d) := by
  rw [argV_at c hm, argV_at c' hm]
  exact congrArg (fun z => V (ix4 z r h d)) (Fin.ext (congrArg (fun n => 256 * n + g.val) hc))

theorem X1_same : X1 (V11 m) c = X1 (V11 m) c' := by
  funext x
  rw [ValueIdx.eq_ix1 x]
  refine (X1_at m c _).trans (Eq.trans ?_ (X1_at m c' _).symm)
  exact congrArg (BitVec.ofNat 32) (rank_congr (mine_same hm hc _) _)

theorem X2_same : X2 (V11 m) c = X2 (V11 m) c' := by
  funext x
  rw [ValueIdx.eq_ix2 x]
  refine (chunk_val m c _ _).trans (Eq.trans ?_ (chunk_val m c' _ _).symm)
  refine congrArg (BitVec.ofNat 32) (comp_congr (fun p => ?_) _ _ rfl _)
  rw [keep_iff, keep_iff, chunks_same hm hc]

theorem XQ_same : XQ (V11 m) c = XQ (V11 m) c' := by
  funext x
  rw [ValueIdx.eq_ix3 x]
  refine (argQ_at m c _ _ _).trans (Eq.trans ?_ (argQ_at m c' _ _ _).symm)
  rw [arr0_eq c hm, arr0_eq c' hm]

theorem nT_same : nT (V11 m) c = nT (V11 m) c' := by
  unfold nT
  refine congrArg BitVec.toNat ((total_val m c).trans (Eq.trans ?_ (total_val m c').symm))
  exact congrArg (BitVec.ofNat 32) (Finset.sum_congr rfl fun b _ => chunks_same hm hc b)

theorem kc_same (g : ℕ) (p : Fin 8) (r : Fin 32) (h : Fin 16) (d : Fin 128) :
    (VV (V11 m) c).kc g (ix5 0 p r h d) = (VV (V11 m) c').kc g (ix5 0 p r h d) := by
  rw [kc_at, kc_at, X0_same hm hc, X2_same hm hc]
  exact argK_same hm hc _ r h d

theorem vc_same (g : ℕ) (p : Fin 8) (r : Fin 32) (h : Fin 16) (d : Fin 128) :
    (VV (V11 m) c).vc g (ix5 0 p r h d) = (VV (V11 m) c').vc g (ix5 0 p r h d) := by
  rw [vc_at, vc_at, X0_same hm hc, X2_same hm hc]
  exact argV_same hm hc _ r h d

theorem addA_same (g : ℕ) (b : Fin 32) (h : Fin 16) (d : Fin 128) : addA (VV (V11 m) c) g b h d = addA (VV (V11 m) c') g b h d :=
  addA_congr _ _ ((VV_X1 c (V11 m)).trans ((X1_same hm hc).trans (VV_X1 c' (V11 m)).symm)) (X2_same hm hc) (XQ_same hm hc) (kc_same hm hc) (vc_same hm hc) g b h d

theorem addL_same (g : ℕ) (b : Fin 32) (h : Fin 16) : addL (VV (V11 m) c) g b h = addL (VV (V11 m) c') g b h :=
  addL_congr _ _ ((VV_X1 c (V11 m)).trans ((X1_same hm hc).trans (VV_X1 c' (V11 m)).symm)) (X2_same hm hc) (XQ_same hm hc) (kc_same hm hc) g b h

end Halves

end Cert.KProof

end
-- ==== Proof.KSum.lean ====
/-
  The kernel's result is the attention over the whole arrays.
-/
module

public import proofs.«01_k».proof.Proof.KRes

@[expose] public section

set_option maxRecDepth 8192

noncomputable section

namespace Cert.KProof

open Cert.KernelIdeal Cert.KernelIdeal.Gen
open Idealize.ShloMosaic Idealize.ShloMosaic.TcCoe Idealize.ShloMosaic.Routing

/-- The device that takes every eighth chunk of half `y` from chunk `x` on. -/
def dev (y : Fin 2) (x : Fin 8) : Dev nD := ⟨x.val / 4 * 8 + y.val * 4 + x.val % 4, by show _ < 16; omega⟩

theorem rep_dev (y : Fin 2) (x : Fin 8) : rep (dev y x) = x.val := by
  show (x.val / 4 * 8 + y.val * 4 + x.val % 4) / 8 * 4 + (x.val / 4 * 8 + y.val * 4 + x.val % 4) % 4 = x.val
  omega

theorem half_dev (y : Fin 2) (x : Fin 8) : half (dev y x) = y.val := by
  show (x.val / 4 * 8 + y.val * 4 + x.val % 4) / 4 % 2 = y.val
  omega

theorem sum_devs (G : Dev nD → EReal) : ∑ c, G c = ∑ y : Fin 2, ∑ x : Fin 8, G (dev y x) := by
  have hb : Function.Bijective (fun p : Fin 2 × Fin 8 => dev p.1 p.2) := by
    refine (Fintype.bijective_iff_injective_and_card _).2 ⟨fun p q h => ?_, rfl⟩
    have h1 := congrArg rep h
    have h2 := congrArg half h
    simp only [rep_dev, half_dev] at h1 h2
    exact Prod.ext (Fin.ext h2) (Fin.ext h1)
  rw [← (Equiv.ofBijective _ hb).sum_comp, Fintype.sum_prod_type]
  rfl

variable {m : (ℓ : Loc nD τ sig) → Buf (Elt Ideal) ℓ}
variable {Q : Cert.Goal.SQ.Idx → EReal} {K V : Cert.Goal.SK.Idx → EReal} {bt : Cert.Goal.ST.Idx → BitVec 32} {lens : Cert.Goal.SL.Idx → BitVec 32}

theorem nT_val (c : Dev nD) : nT (V11 m) c = ∑ b : Fin 32, chunks m c b := by
  have h := total_le m c
  unfold nT
  refine (congrArg BitVec.toNat (total_val m c)).trans ?_
  rw [BitVec.toNat_ofNat]
  exact Nat.mod_eq_of_lt (by omega)

section
variable (hm : Parts m Q K V bt lens)
include hm

theorem total_of (F : Dev nD → ℕ → EReal) (hF : ∀ c c', half c = half c' → ∀ g, F c g = F c' g) :
    ∑ c, ∑ j ∈ Finset.range (nmine c (nT (V11 m) c)), F c (rep c + 8 * j)
      = ∑ y : Fin 2, ∑ g ∈ Finset.range (∑ b, chunks m (dev y 0) b), F (dev y 0) g := by
  rw [sum_devs]
  refine Finset.sum_congr rfl fun y _ => ?_
  rw [← sum_shares]
  refine Finset.sum_congr rfl fun x _ => ?_
  have hy : half (dev y x) = half (dev y 0) := (half_dev y x).trans (half_dev y 0).symm
  unfold nmine
  rw [rep_dev, nT_same hm hy, nT_val]
  exact Finset.sum_congr rfl fun j _ => hF _ _ hy _

/-- One half's part of the weighted sums at page-table entry `j`. -/
def partA (m : (ℓ : Loc nD τ sig) → Buf (Elt Ideal) ℓ) (c : Dev nD) (b : Fin 32) (h : Fin 16) (d : Fin 128) (j : Fin 256) : EReal :=
  ∑ r, ex m c b h (pgc m c b (rank (Mine m c b) j.val - 1)) r * argV m c (ix4 (pgc m c b (rank (Mine m c b) j.val - 1)) r h d)

/-- One half's part of the sums of weights at page-table entry `j`. -/
def partL (m : (ℓ : Loc nD τ sig) → Buf (Elt Ideal) ℓ) (c : Dev nD) (b : Fin 32) (h : Fin 16) (j : Fin 256) : EReal :=
  ∑ r, ex m c b h (pgc m c b (rank (Mine m c b) j.val - 1)) r

theorem res_parts (c : Dev nD) (b : Fin 32) (h : Fin 16) (d : Fin 128) : (res (V11 m) c (ix3 b h d) : EReal)
    = Ideal.div (∑ y : Fin 2, ∑ j, if Mine m (dev y 0) b j then partA m (dev y 0) b h d j else 0)
        (∑ y : Fin 2, ∑ j, if Mine m (dev y 0) b j then partL m (dev y 0) b h j else 0) := by
  have eA : (accN (A0 (V11 m)) 4 c (ix3 b h d) : EReal) = ∑ y : Fin 2, ∑ j, if Mine m (dev y 0) b j then partA m (dev y 0) b h d j else 0 := by
    rw [accN_at, exch_all]
    refine Eq.trans (Finset.sum_congr rfl fun c' _ => locA_at _ _ _ b h d)
      ((total_of hm (fun c g => addA (VV (V11 m) c) g b h d) fun c c' hc g => addA_same hm hc g b h d).trans ?_)
    exact Finset.sum_congr rfl fun y _ => sumA m (dev y 0) b h d
  have eL : (lseN (L0 (V11 m)) 4 c (ix2 b h) : EReal) = ∑ y : Fin 2, ∑ j, if Mine m (dev y 0) b j then partL m (dev y 0) b h j else 0 := by
    rw [lseN_at, exch_all]
    refine Eq.trans (Finset.sum_congr rfl fun c' _ => locL_at _ _ _ b h)
      ((total_of hm (fun c g => addL (VV (V11 m) c) g b h) fun c c' hc g => addL_same hm hc g b h).trans ?_)
    exact Finset.sum_congr rfl fun y _ => sumL m (dev y 0) b h
  unfold res
  rw [pay24_at, eA, eL]

variable (hu : Cert.Goal.Usable Q K bt lens)
include hu

theorem ex_at (c : Dev nD) (b : Fin 32) (h : Fin 16) (g : Fin 256) (r : Fin 32) (p : Fin 512) (hp : 256 * half c + g.val = p.val) :
    ex m c b h g r = ((Real.exp (∑ d : Fin 128, (K (ix4 p r h d)).toReal * ((Q (ix4 b 0 h d)).toReal * Cert.Goal.cc)) : ℝ) : EReal) := by
  unfold ex
  rw [← Ideal.exp_coe, coe_sum_real]
  refine congrArg Ideal.exp (Finset.sum_congr rfl fun d _ => ?_)
  obtain ⟨x, hx⟩ := hu.k p r h d
  obtain ⟨q, hq⟩ := hu.q b h d
  rw [argQ_at, arr0_eq c hm, hq, Cert.Goal.cc_word]
  have e : argK m c (ix4 g r h d) = (x : EReal) := (argK_at c hm g r h d).trans ((congrArg (fun z => K (ix4 z r h d)) (Fin.ext hp)).trans hx)
  rw [e, hx, EReal.toReal_coe, EReal.toReal_coe, EReal.coe_mul, EReal.coe_mul]

theorem mine_page (c : Dev nD) (b : Fin 32) (j : Fin 256) (hj : Mine m c b j) :
    256 * half c + (pgc m c b (rank (Mine m c b) j.val - 1)).val = (Cert.Goal.page bt b j).val := by
  rw [pgc_rank m c b hj, entry_at c hm]
  have h1 := (mine_at c hm b j).1 hj
  obtain ⟨h2, h3⟩ := hu.page b j h1.1
  have h4 := h1.2
  have hc := half_lt c
  show _ = min (bt (ix2 b j)).toInt.toNat 511
  generalize bt (ix2 b j) = w at *
  rw [BitVec.toInt_eq_toNat_cond] at *
  rw [BitVec.toNat_sub, BitVec.toNat_ofNat] at *
  have := w.isLt
  split at h2 <;> omega

theorem used_split (b : Fin 32) (j : Fin 256) (A : Fin 2 → EReal) (B : EReal) (hA : ∀ y, Mine m (dev y 0) b j → A y = B) :
    (∑ y : Fin 2, if Mine m (dev y 0) b j then A y else 0) = if Cert.Goal.Used lens b j then B else 0 := by
  rw [Fin.sum_univ_two]
  by_cases hus : Cert.Goal.Used lens b j
  · rw [if_pos hus]
    obtain ⟨h2, h3⟩ := hu.page b j hus
    have e0 := mine_at (dev 0 0) hm b j
    have e1 := mine_at (dev 1 0) hm b j
    rw [half_dev] at e0 e1
    have ht : (bt (ix2 b j)).toNat < 512 := by
      rw [BitVec.toInt_eq_toNat_cond] at h2 h3
      have := (bt (ix2 b j)).isLt
      split at h2 <;> omega
    by_cases hl : (bt (ix2 b j)).toNat < 256
    · have m0 : Mine m (dev 0 0) b j := e0.2 ⟨hus, by
        rw [BitVec.toNat_sub, BitVec.toNat_ofNat]
        show (2 ^ 32 - 256 * 0 % 2 ^ 32 + _) % 2 ^ 32 < 256
        omega⟩
      have m1 : ¬ Mine m (dev 1 0) b j := fun hh => by
        have := (e1.1 hh).2
        rw [BitVec.toNat_sub, BitVec.toNat_ofNat] at this
        change (2 ^ 32 - 256 * 1 % 2 ^ 32 + _) % 2 ^ 32 < 256 at this
        omega
      rw [if_pos m0, if_neg m1, hA 0 m0, add_zero]
    · have m1 : Mine m (dev 1 0) b j := e1.2 ⟨hus, by
        rw [BitVec.toNat_sub, BitVec.toNat_ofNat]
        show (2 ^ 32 - 256 * 1 % 2 ^ 32 + _) % 2 ^ 32 < 256
        omega⟩
      have m0 : ¬ Mine m (dev 0 0) b j := fun hh => by
        have := (e0.1 hh).2
        rw [BitVec.toNat_sub, BitVec.toNat_ofNat] at this
        change (2 ^ 32 - 256 * 0 % 2 ^ 32 + _) % 2 ^ 32 < 256 at this
        omega
      rw [if_neg m0, if_pos m1, hA 1 m1, zero_add]
  · rw [if_neg hus, if_neg fun hh => hus ((mine_at _ hm b j).1 hh).1, if_neg fun hh => hus ((mine_at _ hm b j).1 hh).1, add_zero]

theorem num_halves (b : Fin 32) (h : Fin 16) (d : Fin 128) :
    (∑ y : Fin 2, ∑ j, if Mine m (dev y 0) b j then partA m (dev y 0) b h d j else 0) = Cert.Goal.num Q K V bt lens b h d := by
  refine Finset.sum_comm.trans ?_
  unfold Cert.Goal.num Cert.Goal.wj
  refine Finset.sum_congr rfl fun j _ => ?_
  rw [used_split hm hu b j _ (∑ r, ((Real.exp (Cert.Goal.sc Q K bt b h j r) : ℝ) : EReal) * V (ix4 (Cert.Goal.page bt b j) r h d)) fun y hy => by
    have hp := mine_page hm hu (dev y 0) b j hy
    unfold partA
    refine Finset.sum_congr rfl fun r _ => ?_
    rw [ex_at hm hu (dev y 0) b h _ r _ hp, argV_at (dev y 0) hm]
    exact congrArg (fun z => _ * V (ix4 z r h d)) (Fin.ext hp)]
  by_cases hus : Cert.Goal.Used lens b j
  · rw [if_pos hus]
    refine Finset.sum_congr rfl fun r _ => ?_
    unfold wt
    rw [if_pos hus]
  · rw [if_neg hus]
    symm
    refine Finset.sum_eq_zero fun r _ => ?_
    unfold wt
    rw [if_neg hus, EReal.coe_zero, zero_mul]

theorem den_halves (b : Fin 32) (h : Fin 16) :
    (∑ y : Fin 2, ∑ j, if Mine m (dev y 0) b j then partL m (dev y 0) b h j else 0) = Cert.Goal.den Q K bt lens b h := by
  refine Finset.sum_comm.trans ?_
  unfold Cert.Goal.den Cert.Goal.wj
  refine Finset.sum_congr rfl fun j _ => ?_
  rw [used_split hm hu b j _ (∑ r, ((Real.exp (Cert.Goal.sc Q K bt b h j r) : ℝ) : EReal)) fun y hy => by
    have hp := mine_page hm hu (dev y 0) b j hy
    unfold partL
    refine Finset.sum_congr rfl fun r _ => ?_
    rw [ex_at hm hu (dev y 0) b h _ r _ hp]
    rfl]
  by_cases hus : Cert.Goal.Used lens b j
  · rw [if_pos hus]
    refine Finset.sum_congr rfl fun r _ => ?_
    unfold wt
    rw [if_pos hus]
  · rw [if_neg hus]
    symm
    refine Finset.sum_eq_zero fun r _ => ?_
    unfold wt
    rw [if_neg hus, EReal.coe_zero]

theorem res_answer (c : Dev nD) (b : Fin 32) (h : Fin 16) (d : Fin 128) :
    (res (V11 m) c (ix3 b h d) : EReal) = Cert.Goal.answer Q K V bt lens b h d := by
  rw [res_parts hm, num_halves hm hu, den_halves hm hu]
  rfl

/-- The kernel's result on every device. -/
theorem kernel_answer (c : Dev nD) (x : S32x1x16x128.Idx) :
    (V13 m (outs m) c main_v79 : S32x1x16x128.Idx → EReal) x = Cert.Goal.answer Q K V bt lens (x 0) (x 2) (x 3) := by
  have e : (V13 m (outs m) c main_v79 : S32x1x16x128.Idx → EReal) = _ := read_v79 (V12 m (outs m) c)
  rw [e, after_call, W'_res]
  have hx : x = ix4 (x 0) 0 (x 2) (x 3) := by
    refine (ValueIdx.eq_ix4 x).trans ?_
    have : (x 1).val < 1 := (x 1).isLt
    exact congrArg (fun z => ix4 (x 0) z (x 2) (x 3)) (Fin.ext (by show (x 1).val = 0; omega))
  rw [hx]
  refine Eq.trans ?_ (res_answer hm hu c (x 0) (x 2) (x 3))
  pointwise

end

end Cert.KProof

end
-- ==== Proof.PreUse.lean ====
/-
  The precondition read: the queries and keys are real numbers, the pages in use exist, and no row is empty.
-/
module

public import proofs.«01_k».proof.Defs
public import proofs.«01_k».proof.Proof.KSum
public import Idealize.ShloMosaic.Lib.ReduceAll
public import Idealize.ShloMosaic.Lib.Affine

@[expose] public section

noncomputable section

namespace Cert.PreUse

open Idealize.ShloMosaic Idealize.ShloMosaic.TcCoe

theorem factsK : Cert.Pre_usable_KernelIdeal.Facts where
  bcast_S32_S32x1_0 := by decide
  bcast_S32x1_S32x256_0_1 := by decide
  bcast_S_S32x1x16x128 := by decide
  reducesTo_S32x1x16x128_S_d0_1_2_3 := by decide
  h_S_ := by decide
  bcast_S_S256x32x16x128 := by decide
  reducesTo_S256x32x16x128_S_d0_1_2_3 := by decide
  bcast_S_S32x256 := by decide
  reducesTo_S32x256_S_d0_1 := by decide
  bcast_S_S32 := by decide
  reducesTo_S32_S_d0 := by decide

theorem factsR : Cert.Pre_usable_ReferenceIdeal.Facts where
  bcast_S32_S32x1_0 := by decide
  bcast_S32x1_S32x256_0_1 := by decide
  bcast_S_S32x1x16x128 := by decide
  reducesTo_S32x1x16x128_S_d0_1_2_3 := by decide
  h_S_ := by decide
  bcast_S_S512x32x16x128 := by decide
  reducesTo_S512x32x16x128_S_d0_1_2_3 := by decide
  bcast_S_S32x256 := by decide
  reducesTo_S32x256_S_d0_1 := by decide
  bcast_S_S32 := by decide
  reducesTo_S32_S_d0 := by decide

theorem one_of_ofBool {p : Prop} [Decidable p] (h : BitVec.ofBool (decide p) = 1#1) : p := by
  by_contra hp
  rw [decide_eq_false hp] at h
  exact absurd h (by decide)

theorem inf_word : Ideal.ofBits .f32 0x7F800000#32 = ⊤ := by
  simp [Ideal.ofBits, Ideal.ieee]

/-- A number of absolute value below infinity is real. -/
theorem real_of_lt (x : EReal) (h : max x (-x) < ⊤) : ∃ y : ℝ, x = (y : EReal) := by
  induction x using EReal.rec with
  | bot => simp at h
  | coe y => exact ⟨y, rfl⟩
  | top => simp at h

section
open Cert.Pre_usable_KernelIdeal
variable [Facts]

instance : Subsingleton S_.Idx := ⟨fun _ _ => funext fun a => a.elim0⟩

theorem fn_read (Q : FVec Ideal S32x1x16x128 .f32) (K V : FVec Ideal S256x32x16x128 .f32) (bt : IVec S32x256 32) (lens : IVec S32 32)
    (h : fn (F := Ideal) Q K V bt lens = fun _ => 1#1) :
    (∀ i, ∃ x : ℝ, (Q i : EReal) = (x : EReal)) ∧ (∀ i, ∃ x : ℝ, (K i : EReal) = (x : EReal))
      ∧ (∀ (b : Fin 32) (j : Fin 256), Cert.Goal.Used lens b j → 0 ≤ (bt (ix2 b j)).toInt ∧ (bt (ix2 b j)).toInt < 512)
      ∧ ∀ b : Fin 32, 1 ≤ (lens (ix1 b)).toInt := by
  have h0 := congrFun h ix0
  dsimp only [fn, fn_part1] at h0
  obtain ⟨h1, hl⟩ := IntOp.andi_eq_one.1 h0
  obtain ⟨h2, hp⟩ := IntOp.andi_eq_one.1 h1
  obtain ⟨hq, hk⟩ := IntOp.andi_eq_one.1 h2
  refine ⟨fun i => ?_, fun i => ?_, fun b j hu => ?_, fun b => ?_⟩
  · have := Host.reduce_andi_all _ _ _ _ _ hq i
    have e : BitVec.ofBool (decide (max (Q i : EReal) (-(Q i : EReal)) < Ideal.ofBits .f32 0x7F800000#32)) = 1#1 := this
    have := one_of_ofBool e
    rw [inf_word] at this
    exact real_of_lt _ this
  · have := Host.reduce_andi_all _ _ _ _ _ hk i
    have e : BitVec.ofBool (decide (max (K i : EReal) (-(K i : EReal)) < Ideal.ofBits .f32 0x7F800000#32)) = 1#1 := this
    have := one_of_ofBool e
    rw [inf_word] at this
    exact real_of_lt _ this
  · have h3 := Host.reduce_andi_all _ _ _ _ _ hp (ix2 b j)
    have h4 := IntOp.ori_eq_one.1 h3
    rcases h4 with h4 | h4
    · exfalso
      refine IntOp.not_eq_one.1 h4 ?_
      refine IntOp.cmpi_slt.2 ?_
      have e : (broadcastInDim S32x256 ![0, 1] Facts.bcast_S32x1_S32x256_0_1 (broadcastInDim S32x1 ![0] Facts.bcast_S32_S32x1_0 lens)) (ix2 b j) = lens (ix1 b) := by
        pointwise
      rw [e]
      show (BitVec.ofNat 32 j.val).toInt < _
      have hj := j.isLt
      have e2 : (BitVec.ofNat 32 j.val).toInt = j.val := by
        rw [BitVec.toInt_eq_toNat_cond, BitVec.toNat_ofNat]
        split <;> omega
      rw [e2]
      exact hu
    · obtain ⟨h5, h6⟩ := IntOp.andi_eq_one.1 h4
      have h7 := IntOp.cmpi_sge.1 h5
      have h8 := IntOp.cmpi_slt.1 h6
      exact ⟨h7, h8⟩
  · have h3 := Host.reduce_andi_all _ _ _ _ _ hl (ix1 b)
    exact IntOp.cmpi_sge.1 h3

end

open Cert.KernelIdeal Cert.KernelIdeal.Gen in
/-- The whole arrays are usable when every device's parts are. -/
theorem usable_of [Cert.Pre_usable_KernelIdeal.Facts] (m : (ℓ : Loc nD τ sig) → Buf (Elt Ideal) ℓ) (hpre : Cert.Pre_KernelIdeal_usable_KernelIdeal m)
    {Q : Cert.Goal.SQ.Idx → EReal} {K V : Cert.Goal.SK.Idx → EReal} {bt : Cert.Goal.ST.Idx → BitVec 32} {lens : Cert.Goal.SL.Idx → BitVec 32}
    (hm : Cert.KProof.Parts m Q K V bt lens) : Cert.Goal.Usable Q K bt lens := by
  have hr (c : Dev nD) := fn_read _ _ _ _ _ (hpre c)
  have h0 := hm 0
  refine ⟨fun b h d => ?_, fun g r h d => ?_, fun b j hu => ?_, fun b => ?_⟩
  · obtain ⟨x, hx⟩ := (hr 0).1 (ix4 b 0 h d)
    exact ⟨x, (congrFun h0.1 (ix4 b 0 h d)).symm.trans hx⟩
  · have hg := g.isLt
    obtain ⟨x, hx⟩ := (hr (Cert.KProof.dev ⟨g.val / 256, by omega⟩ 0)).2.1 (ix4 ⟨g.val % 256, by omega⟩ r h d)
    refine ⟨x, Eq.trans ?_ hx⟩
    refine Eq.trans ?_ (congrFun (hm (Cert.KProof.dev ⟨g.val / 256, by omega⟩ 0)).2.1 (ix4 ⟨g.val % 256, by omega⟩ r h d)).symm
    rw [Cert.KProof.block_at]
    refine congrArg (fun z => K (ix4 z r h d)) (Fin.ext ?_)
    show g.val = 256 * Cert.KProof.half _ + g.val % 256
    rw [Cert.KProof.half_dev]
    show g.val = 256 * (g.val / 256) + g.val % 256
    omega
  · have h3 : (m (0, main_arg3) : S32x256.Idx → BitVec 32) = bt := h0.2.2.2.1
    have h4 : (m (0, main_arg4) : S32.Idx → BitVec 32) = lens := h0.2.2.2.2
    subst h3 h4
    exact (hr 0).2.2.1 b j hu
  · have h4 : (m (0, main_arg4) : S32.Idx → BitVec 32) = lens := h0.2.2.2.2
    subst h4
    exact (hr 0).2.2.2 b

end Cert.PreUse

end
-- ==== Proof.lean ====
/-
  The claims. The kernel's run is Proof/Launch.lean, with the page tables' ranges from Proof/Prefix.lean; the reference's is
  Proof/Ref.lean. What both compute is Proof/Goal.lean; the kernel's result is Proof/KSum.lean, the reference's Proof/RGoal.lean.
-/
module

public import proofs.«01_k».proof.Defs
public import proofs.«01_k».proof.Proof.Prefix
public import proofs.«01_k».proof.Proof.Ref
public import proofs.«01_k».proof.Proof.RGoal
public import proofs.«01_k».proof.Proof.PreUse
public import Idealize.ShloMosaic.Adequacy
public import Idealize.ShloMosaic.Init

@[expose] public section

noncomputable section

namespace Cert.Proof

open Idealize.ShloMosaic Idealize.ShloMosaic.TcCoe Idealize.SL.Sem

/-- The kernel ends on every device with its arguments as they were and every counter at zero. -/
theorem quiescent_kernel : Cert.quiescent_KernelIdeal (hKernelIdeal := Cert.KernelIdeal.Gen.facts) := by
  open Cert.KernelIdeal Cert.KernelIdeal.Gen in
  intro m g _
  refine θ_run_mono (Cert.KProof.run_all m g fun c => Cert.KProof.good_all m c) fun r h => ⟨fun c => ⟨?_, ?_, ?_, ?_, ?_⟩, h.2⟩
  · exact (h.1 c _ (Finset.mem_filter.mpr ⟨StableHlo.devRef_mem_tcRefs main_arg0, by decide⟩)).trans (V13_main_arg0 m (Cert.KProof.outs m) c)
  · exact (h.1 c _ (Finset.mem_filter.mpr ⟨StableHlo.devRef_mem_tcRefs main_arg1, by decide⟩)).trans (V13_main_arg1 m (Cert.KProof.outs m) c)
  · exact (h.1 c _ (Finset.mem_filter.mpr ⟨StableHlo.devRef_mem_tcRefs main_arg2, by decide⟩)).trans (V13_main_arg2 m (Cert.KProof.outs m) c)
  · exact (h.1 c _ (Finset.mem_filter.mpr ⟨StableHlo.devRef_mem_tcRefs main_arg3, by decide⟩)).trans (V13_main_arg3 m (Cert.KProof.outs m) c)
  · exact (h.1 c _ (Finset.mem_filter.mpr ⟨StableHlo.devRef_mem_tcRefs main_arg4, by decide⟩)).trans (V13_main_arg4 m (Cert.KProof.outs m) c)

section
open Cert.ReferenceIdeal Cert.ReferenceIdeal.Gen StableHlo

theorem ref_arg0 (V : Valuation τ sig (Elt Ideal)) : after Cert.RProof.ops V main_arg0 = V main_arg0 := by
  rw [Cert.RProof.stages]; after_results
theorem ref_arg1 (V : Valuation τ sig (Elt Ideal)) : after Cert.RProof.ops V main_arg1 = V main_arg1 := by
  rw [Cert.RProof.stages]; after_results
theorem ref_arg2 (V : Valuation τ sig (Elt Ideal)) : after Cert.RProof.ops V main_arg2 = V main_arg2 := by
  rw [Cert.RProof.stages]; after_results
theorem ref_arg3 (V : Valuation τ sig (Elt Ideal)) : after Cert.RProof.ops V main_arg3 = V main_arg3 := by
  rw [Cert.RProof.stages]; after_results
theorem ref_arg4 (V : Valuation τ sig (Elt Ideal)) : after Cert.RProof.ops V main_arg4 = V main_arg4 := by
  rw [Cert.RProof.stages]; after_results

/-- The reference ends with its arguments as they were; it has no counter. -/
theorem quiescent_reference : Cert.quiescent_ReferenceIdeal (hReferenceIdeal := Cert.ReferenceIdeal.Gen.facts) := by
  intro m g _
  exact θ_run_mono (Cert.RProof.run m g) fun r h => ⟨fun c => ⟨(h c main_arg0).trans (ref_arg0 _), (h c main_arg1).trans (ref_arg1 _),
    (h c main_arg2).trans (ref_arg2 _), (h c main_arg3).trans (ref_arg3 _), (h c main_arg4).trans (ref_arg4 _)⟩,
    sem_eq_zero_of_no_sems (by decide) r.2⟩

end

/-- Kernel and reference end with equal results. -/
theorem value : Cert.algebraic_KernelIdeal_ReferenceIdeal_pre_usable_KernelIdeal (hKernelIdeal := Cert.KernelIdeal.Gen.facts)
    (hReferenceIdeal := Cert.ReferenceIdeal.Gen.facts) (hPre_usable_KernelIdeal := Cert.PreUse.factsK) := by
  intro m g m' g' hpre hm
  haveI := Cert.PreUse.factsK
  have hparts : Cert.KProof.Parts m _ _ _ _ _ := hm
  have hu := Cert.PreUse.usable_of m hpre hparts
  refine ⟨StableHlo.after Cert.RProof.ops (StableHlo.launchContents m' 0) Cert.ReferenceIdeal.main_v35, ?_, ?_⟩
  · open Cert.KernelIdeal Cert.KernelIdeal.Gen in
    refine θ_run_mono (Cert.KProof.run_all m g fun c => Cert.KProof.good_all m c) fun r h c => ⟨?_, ?_, ?_, ?_, ?_, ?_⟩
    · refine (h.1 c _ (Finset.mem_filter.mpr ⟨StableHlo.devRef_mem_tcRefs main_v79, by decide⟩)).trans ?_
      funext x
      exact (Cert.KProof.kernel_answer hparts hu c x).trans (Cert.RProof.ref_answer (StableHlo.launchContents m' 0) hu x).symm
    · exact (h.1 c _ (Finset.mem_filter.mpr ⟨StableHlo.devRef_mem_tcRefs main_arg0, by decide⟩)).trans (V13_main_arg0 m (Cert.KProof.outs m) c)
    · exact (h.1 c _ (Finset.mem_filter.mpr ⟨StableHlo.devRef_mem_tcRefs main_arg1, by decide⟩)).trans (V13_main_arg1 m (Cert.KProof.outs m) c)
    · exact (h.1 c _ (Finset.mem_filter.mpr ⟨StableHlo.devRef_mem_tcRefs main_arg2, by decide⟩)).trans (V13_main_arg2 m (Cert.KProof.outs m) c)
    · exact (h.1 c _ (Finset.mem_filter.mpr ⟨StableHlo.devRef_mem_tcRefs main_arg3, by decide⟩)).trans (V13_main_arg3 m (Cert.KProof.outs m) c)
    · exact (h.1 c _ (Finset.mem_filter.mpr ⟨StableHlo.devRef_mem_tcRefs main_arg4, by decide⟩)).trans (V13_main_arg4 m (Cert.KProof.outs m) c)
  · open Cert.ReferenceIdeal in
    exact θ_run_mono (Cert.RProof.run m' g') fun r h => ⟨h 0 main_v35, (h 0 main_arg0).trans (ref_arg0 _), (h 0 main_arg1).trans (ref_arg1 _),
      (h 0 main_arg2).trans (ref_arg2 _), (h 0 main_arg3).trans (ref_arg3 _), (h 0 main_arg4).trans (ref_arg4 _)⟩

theorem claim : Cert.Claim :=
  ⟨Cert.KernelIdeal.Gen.facts, Cert.ReferenceIdeal.Gen.facts, Cert.PreUse.factsK, Cert.PreUse.factsR, quiescent_kernel,
    fun m g _ => quiescent_kernel m g trivial, quiescent_reference, fun m g _ => quiescent_reference m g trivial, value⟩

end Cert.Proof

end
